-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwup (m : (ℓ : Loc Cert.KernelDwup.nD Cert.KernelDwup.τ Cert.KernelDwup.sig) → Buf (Elt Bits) ℓ) : Prop :=
  True

def Pre_KernelDwupIdeal (m : (ℓ : Loc Cert.KernelDwupIdeal.nD Cert.KernelDwupIdeal.τ Cert.KernelDwupIdeal.sig) → Buf (Elt Ideal) ℓ) : Prop :=
  True

def Pre_ReferenceDwupIdeal (m : (ℓ : Loc Cert.ReferenceDwupIdeal.nD Cert.ReferenceDwupIdeal.τ Cert.ReferenceDwupIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDmix (m : (ℓ : Loc Cert.KernelDmix.nD Cert.KernelDmix.τ Cert.KernelDmix.sig) → Buf (Elt Bits) ℓ) : Prop :=
  True

def Pre_KernelDmixIdeal (m : (ℓ : Loc Cert.KernelDmixIdeal.nD Cert.KernelDmixIdeal.τ Cert.KernelDmixIdeal.sig) → Buf (Elt Ideal) ℓ) : Prop :=
  True

def Pre_ReferenceDmixIdeal (m : (ℓ : Loc Cert.ReferenceDmixIdeal.nD Cert.ReferenceDmixIdeal.τ Cert.ReferenceDmixIdeal.sig) → Buf (Elt Ideal) ℓ) : Prop :=
  True

def Pre_KernelDwqkv (m : (ℓ : Loc Cert.KernelDwqkv.nD Cert.KernelDwqkv.τ Cert.KernelDwqkv.sig) → Buf (Elt Bits) ℓ) : Prop :=
  True

def Pre_KernelDwqkvIdeal (m : (ℓ : Loc Cert.KernelDwqkvIdeal.nD Cert.KernelDwqkvIdeal.τ Cert.KernelDwqkvIdeal.sig) → Buf (Elt Ideal) ℓ) : Prop :=
  True

def Pre_ReferenceDwqkvIdeal (m : (ℓ : Loc Cert.ReferenceDwqkvIdeal.nD Cert.ReferenceDwqkvIdeal.τ Cert.ReferenceDwqkvIdeal.sig) → Buf (Elt Ideal) ℓ) : Prop :=
  True

def Pre_KernelFlash (m : (ℓ : Loc Cert.KernelFlash.nD Cert.KernelFlash.τ Cert.KernelFlash.sig) → Buf (Elt Bits) ℓ) : Prop :=
  True

def Pre_KernelFlashIdeal (m : (ℓ : Loc Cert.KernelFlashIdeal.nD Cert.KernelFlashIdeal.τ Cert.KernelFlashIdeal.sig) → Buf (Elt Ideal) ℓ) : Prop :=
  True

def Pre_KernelFlashIdeal_finite_qkv [hPre_finite_qkv : Cert.Pre_finite_qkv.Facts] (m : (ℓ : Loc Cert.KernelFlashIdeal.nD Cert.KernelFlashIdeal.τ Cert.KernelFlashIdeal.sig) → Buf (Elt Ideal) ℓ) : Prop :=
  ∀ c : Dev Cert.KernelFlashIdeal.nD,
    (Cert.Pre_finite_qkv.fn (F := Ideal) (m ((c.tc : Thread Cert.KernelFlashIdeal.nD Cert.KernelFlashIdeal.τ).loc Cert.KernelFlashIdeal.main_arg0)) (m ((c.tc : Thread Cert.KernelFlashIdeal.nD Cert.KernelFlashIdeal.τ).loc Cert.KernelFlashIdeal.main_arg1)) (m ((c.tc : Thread Cert.KernelFlashIdeal.nD Cert.KernelFlashIdeal.τ).loc Cert.KernelFlashIdeal.main_arg2))) = (fun _ => 1#1)

def Pre_ReferenceFlashIdeal (m : (ℓ : Loc Cert.ReferenceFlashIdeal.nD Cert.ReferenceFlashIdeal.τ Cert.ReferenceFlashIdeal.sig) → Buf (Elt Ideal) ℓ) : Prop :=
  True

def Pre_ReferenceFlashIdeal_finite_qkv [hPre_finite_qkv : Cert.Pre_finite_qkv.Facts] (m : (ℓ : Loc Cert.ReferenceFlashIdeal.nD Cert.ReferenceFlashIdeal.τ Cert.ReferenceFlashIdeal.sig) → Buf (Elt Ideal) ℓ) : Prop :=
  ∀ c : Dev Cert.ReferenceFlashIdeal.nD,
    (Cert.Pre_finite_qkv.fn (F := Ideal) (m ((c.tc : Thread Cert.ReferenceFlashIdeal.nD Cert.ReferenceFlashIdeal.τ).loc Cert.ReferenceFlashIdeal.main_arg0)) (m ((c.tc : Thread Cert.ReferenceFlashIdeal.nD Cert.ReferenceFlashIdeal.τ).loc Cert.ReferenceFlashIdeal.main_arg1)) (m ((c.tc : Thread Cert.ReferenceFlashIdeal.nD Cert.ReferenceFlashIdeal.τ).loc Cert.ReferenceFlashIdeal.main_arg2))) = (fun _ => 1#1)

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelDwglu (m : (ℓ : Loc Cert.KernelDwglu.nD Cert.KernelDwglu.τ Cert.KernelDwglu.sig) → Buf (Elt Bits) ℓ) : Prop :=
  True

def Pre_KernelDwgluIdeal (m : (ℓ : Loc Cert.KernelDwgluIdeal.nD Cert.KernelDwgluIdeal.τ Cert.KernelDwgluIdeal.sig) → Buf (Elt Ideal) ℓ) : Prop :=
  True

def Pre_ReferenceDwgluIdeal (m : (ℓ : Loc Cert.ReferenceDwgluIdeal.nD Cert.ReferenceDwgluIdeal.τ Cert.ReferenceDwgluIdeal.sig) → Buf (Elt Ideal) ℓ) : Prop :=
  True

def Pre_KernelDz (m : (ℓ : Loc Cert.KernelDz.nD Cert.KernelDz.τ Cert.KernelDz.sig) → Buf (Elt Bits) ℓ) : Prop :=
  True

def Pre_KernelDzIdeal (m : (ℓ : Loc Cert.KernelDzIdeal.nD Cert.KernelDzIdeal.τ Cert.KernelDzIdeal.sig) → Buf (Elt Ideal) ℓ) : Prop :=
  True

def Pre_ReferenceDzIdeal (m : (ℓ : Loc Cert.ReferenceDzIdeal.nD Cert.ReferenceDzIdeal.τ Cert.ReferenceDzIdeal.sig) → Buf (Elt Ideal) ℓ) : Prop :=
  True

def Pre_KernelLow (m : (ℓ : Loc Cert.KernelLow.nD Cert.KernelLow.τ Cert.KernelLow.sig) → Buf (Elt Bits) ℓ) : Prop :=
  True

def Pre_KernelLowIdeal (m : (ℓ : Loc Cert.KernelLowIdeal.nD Cert.KernelLowIdeal.τ Cert.KernelLowIdeal.sig) → Buf (Elt Ideal) ℓ) : Prop :=
  True

def Pre_ReferenceLowIdeal (m : (ℓ : Loc Cert.ReferenceLowIdeal.nD Cert.ReferenceLowIdeal.τ Cert.ReferenceLowIdeal.sig) → Buf (Elt Ideal) ℓ) : Prop :=
  True

def Pre_KernelDwlow (m : (ℓ : Loc Cert.KernelDwlow.nD Cert.KernelDwlow.τ Cert.KernelDwlow.sig) → Buf (Elt Bits) ℓ) : Prop :=
  True

def Pre_KernelDwlowIdeal (m : (ℓ : Loc Cert.KernelDwlowIdeal.nD Cert.KernelDwlowIdeal.τ Cert.KernelDwlowIdeal.sig) → Buf (Elt Ideal) ℓ) : Prop :=
  True

def Pre_ReferenceDwlowIdeal (m : (ℓ : Loc Cert.ReferenceDwlowIdeal.nD Cert.ReferenceDwlowIdeal.τ Cert.ReferenceDwlowIdeal.sig) → Buf (Elt Ideal) ℓ) : Prop :=
  True

def Pre_KernelDlow (m : (ℓ : Loc Cert.KernelDlow.nD Cert.KernelDlow.τ Cert.KernelDlow.sig) → Buf (Elt Bits) ℓ) : Prop :=
  True

def Pre_KernelDlowIdeal (m : (ℓ : Loc Cert.KernelDlowIdeal.nD Cert.KernelDlowIdeal.τ Cert.KernelDlowIdeal.sig) → Buf (Elt Ideal) ℓ) : Prop :=
  True

def Pre_ReferenceDlowIdeal (m : (ℓ : Loc Cert.ReferenceDlowIdeal.nD Cert.ReferenceDlowIdeal.τ Cert.ReferenceDlowIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def Pre_KernelDwuq (m : (ℓ : Loc Cert.KernelDwuq.nD Cert.KernelDwuq.τ Cert.KernelDwuq.sig) → Buf (Elt Bits) ℓ) : Prop :=
  True

def Pre_KernelDwuqIdeal (m : (ℓ : Loc Cert.KernelDwuqIdeal.nD Cert.KernelDwuqIdeal.τ Cert.KernelDwuqIdeal.sig) → Buf (Elt Ideal) ℓ) : Prop :=
  True

def Pre_ReferenceDwuqIdeal (m : (ℓ : Loc Cert.ReferenceDwuqIdeal.nD Cert.ReferenceDwuqIdeal.τ Cert.ReferenceDwuqIdeal.sig) → Buf (Elt Ideal) ℓ) : Prop :=
  True

def Pre_KernelDcq (m : (ℓ : Loc Cert.KernelDcq.nD Cert.KernelDcq.τ Cert.KernelDcq.sig) → Buf (Elt Bits) ℓ) : Prop :=
  True

def Pre_KernelDcqIdeal (m : (ℓ : Loc Cert.KernelDcqIdeal.nD Cert.KernelDcqIdeal.τ Cert.KernelDcqIdeal.sig) → Buf (Elt Ideal) ℓ) : Prop :=
  True

def Pre_ReferenceDcqIdeal (m : (ℓ : Loc Cert.ReferenceDcqIdeal.nD Cert.ReferenceDcqIdeal.τ Cert.ReferenceDcqIdeal.sig) → Buf (Elt Ideal) ℓ) : Prop :=
  True

def Pre_KernelUkv (m : (ℓ : Loc Cert.KernelUkv.nD Cert.KernelUkv.τ Cert.KernelUkv.sig) → Buf (Elt Bits) ℓ) : Prop :=
  True

def Pre_KernelUkvIdeal (m : (ℓ : Loc Cert.KernelUkvIdeal.nD Cert.KernelUkvIdeal.τ Cert.KernelUkvIdeal.sig) → Buf (Elt Ideal) ℓ) : Prop :=
  True

def Pre_ReferenceUkvIdeal (m : (ℓ : Loc Cert.ReferenceUkvIdeal.nD Cert.ReferenceUkvIdeal.τ Cert.ReferenceUkvIdeal.sig) → Buf (Elt Ideal) ℓ) : Prop :=
  True

def Pre_KernelDwukv (m : (ℓ : Loc Cert.KernelDwukv.nD Cert.KernelDwukv.τ Cert.KernelDwukv.sig) → Buf (Elt Bits) ℓ) : Prop :=
  True

def Pre_KernelDwukvIdeal (m : (ℓ : Loc Cert.KernelDwukvIdeal.nD Cert.KernelDwukvIdeal.τ Cert.KernelDwukvIdeal.sig) → Buf (Elt Ideal) ℓ) : Prop :=
  True

def Pre_ReferenceDwukvIdeal (m : (ℓ : Loc Cert.ReferenceDwukvIdeal.nD Cert.ReferenceDwukvIdeal.τ Cert.ReferenceDwukvIdeal.sig) → Buf (Elt Ideal) ℓ) : Prop :=
  True

def Pre_KernelDckv (m : (ℓ : Loc Cert.KernelDckv.nD Cert.KernelDckv.τ Cert.KernelDckv.sig) → Buf (Elt Bits) ℓ) : Prop :=
  True

def Pre_KernelDckvIdeal (m : (ℓ : Loc Cert.KernelDckvIdeal.nD Cert.KernelDckvIdeal.τ Cert.KernelDckvIdeal.sig) → Buf (Elt Ideal) ℓ) : Prop :=
  True

def Pre_ReferenceDckvIdeal (m : (ℓ : Loc Cert.ReferenceDckvIdeal.nD Cert.ReferenceDckvIdeal.τ Cert.ReferenceDckvIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_gate [hPre_finite_gate : Cert.Pre_finite_gate.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2)) (m ((c.tc : Thread Cert.KernelGateIdeal.nD Cert.KernelGateIdeal.τ).loc Cert.KernelGateIdeal.main_arg3))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_gate [hPre_finite_gate : Cert.Pre_finite_gate.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2)) (m ((c.tc : Thread Cert.ReferenceGateIdeal.nD Cert.ReferenceGateIdeal.τ).loc Cert.ReferenceGateIdeal.main_arg3))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1)
      ∧ r.2.mem ((c.tc : Thread Cert.KernelDwdown.nD Cert.KernelDwdown.τ).loc Cert.KernelDwdown.main_arg2) = m ((c.tc : Thread Cert.KernelDwdown.nD Cert.KernelDwdown.τ).loc Cert.KernelDwdown.main_arg2))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1)
      ∧ r.2.mem ((c.tc : Thread Cert.KernelDwdownIdeal.nD Cert.KernelDwdownIdeal.τ).loc Cert.KernelDwdownIdeal.main_arg2) = m ((c.tc : Thread Cert.KernelDwdownIdeal.nD Cert.KernelDwdownIdeal.τ).loc Cert.KernelDwdownIdeal.main_arg2))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1)
      ∧ r.2.mem ((c.tc : Thread Cert.ReferenceDwdownIdeal.nD Cert.ReferenceDwdownIdeal.τ).loc Cert.ReferenceDwdownIdeal.main_arg2) = m ((c.tc : Thread Cert.ReferenceDwdownIdeal.nD Cert.ReferenceDwdownIdeal.τ).loc Cert.ReferenceDwdownIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_KernelDwup [hKernelDwup : Cert.KernelDwup.Facts] : Prop :=
  ∀ (m : (ℓ : Loc Cert.KernelDwup.nD Cert.KernelDwup.τ Cert.KernelDwup.sig) → Buf (Elt Bits) ℓ) (g : Dev Cert.KernelDwup.nD → PrngReg), Pre_KernelDwup m →
    θ_run (Cert.KernelDwup.defs (F := Bits)) (onTc (τ := Cert.KernelDwup.τ) (Cert.KernelDwup.main (F := Bits))) ⟨m, fun _ => 0, g⟩ (fun r => (∀ c : Dev Cert.KernelDwup.nD,
      r.2.mem ((c.tc : Thread Cert.KernelDwup.nD Cert.KernelDwup.τ).loc Cert.KernelDwup.main_arg0) = m ((c.tc : Thread Cert.KernelDwup.nD Cert.KernelDwup.τ).loc Cert.KernelDwup.main_arg0)
      ∧ r.2.mem ((c.tc : Thread Cert.KernelDwup.nD Cert.KernelDwup.τ).loc Cert.KernelDwup.main_arg1) = m ((c.tc : Thread Cert.KernelDwup.nD Cert.KernelDwup.τ).loc Cert.KernelDwup.main_arg1)
      ∧ r.2.mem ((c.tc : Thread Cert.KernelDwup.nD Cert.KernelDwup.τ).loc Cert.KernelDwup.main_arg2) = m ((c.tc : Thread Cert.KernelDwup.nD Cert.KernelDwup.τ).loc Cert.KernelDwup.main_arg2))
      ∧ r.2.sem = fun _ => 0)

def quiescent_KernelDwupIdeal [hKernelDwupIdeal : Cert.KernelDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg), Pre_KernelDwupIdeal m →
    θ_run (Cert.KernelDwupIdeal.defs (F := Ideal)) (onTc (τ := Cert.KernelDwupIdeal.τ) (Cert.KernelDwupIdeal.main (F := Ideal))) ⟨m, fun _ => 0, g⟩ (fun r => (∀ c : Dev Cert.KernelDwupIdeal.nD,
      r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
      ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
      ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2))
      ∧ r.2.sem = fun _ => 0)

def quiescent_ReferenceDwupIdeal [hReferenceDwupIdeal : Cert.ReferenceDwupIdeal.Facts] : Prop :=
  ∀ (m : (ℓ : Loc Cert.ReferenceDwupIdeal.nD Cert.ReferenceDwupIdeal.τ Cert.ReferenceDwupIdeal.sig) → Buf (Elt Ideal) ℓ) (g : Dev Cert.ReferenceDwupIdeal.nD → PrngReg), Pre_ReferenceDwupIdeal m →
    θ_run (Cert.ReferenceDwupIdeal.defs (F := Ideal)) (onTc (τ := Cert.ReferenceDwupIdeal.τ) (Cert.ReferenceDwupIdeal.main (F := Ideal))) ⟨m, fun _ => 0, g⟩ (fun r => (∀ c : Dev Cert.ReferenceDwupIdeal.nD,
      r.2.mem ((c.tc : Thread Cert.ReferenceDwupIdeal.nD Cert.ReferenceDwupIdeal.τ).loc Cert.ReferenceDwupIdeal.main_arg0) = m ((c.tc : Thread Cert.ReferenceDwupIdeal.nD Cert.ReferenceDwupIdeal.τ).loc Cert.ReferenceDwupIdeal.main_arg0)
      ∧ r.2.mem ((c.tc : Thread Cert.ReferenceDwupIdeal.nD Cert.ReferenceDwupIdeal.τ).loc Cert.ReferenceDwupIdeal.main_arg1) = m ((c.tc : Thread Cert.ReferenceDwupIdeal.nD Cert.ReferenceDwupIdeal.τ).loc Cert.ReferenceDwupIdeal.main_arg1)
      ∧ r.2.mem ((c.tc : Thread Cert.ReferenceDwupIdeal.nD Cert.ReferenceDwupIdeal.τ).loc Cert.ReferenceDwupIdeal.main_arg2) = m ((c.tc : Thread Cert.ReferenceDwupIdeal.nD Cert.ReferenceDwupIdeal.τ).loc Cert.ReferenceDwupIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1)
      ∧ r.2.mem ((c.tc : Thread Cert.KernelDo.nD Cert.KernelDo.τ).loc Cert.KernelDo.main_arg2) = m ((c.tc : Thread Cert.KernelDo.nD Cert.KernelDo.τ).loc Cert.KernelDo.main_arg2))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1)
      ∧ r.2.mem ((c.tc : Thread Cert.KernelDoIdeal.nD Cert.KernelDoIdeal.τ).loc Cert.KernelDoIdeal.main_arg2) = m ((c.tc : Thread Cert.KernelDoIdeal.nD Cert.KernelDoIdeal.τ).loc Cert.KernelDoIdeal.main_arg2))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1)
      ∧ r.2.mem ((c.tc : Thread Cert.ReferenceDoIdeal.nD Cert.ReferenceDoIdeal.τ).loc Cert.ReferenceDoIdeal.main_arg2) = m ((c.tc : Thread Cert.ReferenceDoIdeal.nD Cert.ReferenceDoIdeal.τ).loc Cert.ReferenceDoIdeal.main_arg2))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1)
      ∧ r.2.mem ((c.tc : Thread Cert.KernelDwo.nD Cert.KernelDwo.τ).loc Cert.KernelDwo.main_arg2) = m ((c.tc : Thread Cert.KernelDwo.nD Cert.KernelDwo.τ).loc Cert.KernelDwo.main_arg2))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1)
      ∧ r.2.mem ((c.tc : Thread Cert.KernelDwoIdeal.nD Cert.KernelDwoIdeal.τ).loc Cert.KernelDwoIdeal.main_arg2) = m ((c.tc : Thread Cert.KernelDwoIdeal.nD Cert.KernelDwoIdeal.τ).loc Cert.KernelDwoIdeal.main_arg2))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1)
      ∧ r.2.mem ((c.tc : Thread Cert.ReferenceDwoIdeal.nD Cert.ReferenceDwoIdeal.τ).loc Cert.ReferenceDwoIdeal.main_arg2) = m ((c.tc : Thread Cert.ReferenceDwoIdeal.nD Cert.ReferenceDwoIdeal.τ).loc Cert.ReferenceDwoIdeal.main_arg2))
      ∧ r.2.sem = fun _ => 0)

def quiescent_KernelDmix [hKernelDmix : Cert.KernelDmix.Facts] : Prop :=
  ∀ (m : (ℓ : Loc Cert.KernelDmix.nD Cert.KernelDmix.τ Cert.KernelDmix.sig) → Buf (Elt Bits) ℓ) (g : Dev Cert.KernelDmix.nD → PrngReg), Pre_KernelDmix m →
    θ_run (Cert.KernelDmix.defs (F := Bits)) (onTc (τ := Cert.KernelDmix.τ) (Cert.KernelDmix.main (F := Bits))) ⟨m, fun _ => 0, g⟩ (fun r => (∀ c : Dev Cert.KernelDmix.nD,
      r.2.mem ((c.tc : Thread Cert.KernelDmix.nD Cert.KernelDmix.τ).loc Cert.KernelDmix.main_arg0) = m ((c.tc : Thread Cert.KernelDmix.nD Cert.KernelDmix.τ).loc Cert.KernelDmix.main_arg0)
      ∧ r.2.mem ((c.tc : Thread Cert.KernelDmix.nD Cert.KernelDmix.τ).loc Cert.KernelDmix.main_arg1) = m ((c.tc : Thread Cert.KernelDmix.nD Cert.KernelDmix.τ).loc Cert.KernelDmix.main_arg1)
      ∧ r.2.mem ((c.tc : Thread Cert.KernelDmix.nD Cert.KernelDmix.τ).loc Cert.KernelDmix.main_arg2) = m ((c.tc : Thread Cert.KernelDmix.nD Cert.KernelDmix.τ).loc Cert.KernelDmix.main_arg2))
      ∧ r.2.sem = fun _ => 0)

def quiescent_KernelDmixIdeal [hKernelDmixIdeal : Cert.KernelDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg), Pre_KernelDmixIdeal m →
    θ_run (Cert.KernelDmixIdeal.defs (F := Ideal)) (onTc (τ := Cert.KernelDmixIdeal.τ) (Cert.KernelDmixIdeal.main (F := Ideal))) ⟨m, fun _ => 0, g⟩ (fun r => (∀ c : Dev Cert.KernelDmixIdeal.nD,
      r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
      ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1)
      ∧ r.2.mem ((c.tc : Thread Cert.KernelDmixIdeal.nD Cert.KernelDmixIdeal.τ).loc Cert.KernelDmixIdeal.main_arg2) = m ((c.tc : Thread Cert.KernelDmixIdeal.nD Cert.KernelDmixIdeal.τ).loc Cert.KernelDmixIdeal.main_arg2))
      ∧ r.2.sem = fun _ => 0)

def quiescent_ReferenceDmixIdeal [hReferenceDmixIdeal : Cert.ReferenceDmixIdeal.Facts] : Prop :=
  ∀ (m : (ℓ : Loc Cert.ReferenceDmixIdeal.nD Cert.ReferenceDmixIdeal.τ Cert.ReferenceDmixIdeal.sig) → Buf (Elt Ideal) ℓ) (g : Dev Cert.ReferenceDmixIdeal.nD → PrngReg), Pre_ReferenceDmixIdeal m →
    θ_run (Cert.ReferenceDmixIdeal.defs (F := Ideal)) (onTc (τ := Cert.ReferenceDmixIdeal.τ) (Cert.ReferenceDmixIdeal.main (F := Ideal))) ⟨m, fun _ => 0, g⟩ (fun r => (∀ c : Dev Cert.ReferenceDmixIdeal.nD,
      r.2.mem ((c.tc : Thread Cert.ReferenceDmixIdeal.nD Cert.ReferenceDmixIdeal.τ).loc Cert.ReferenceDmixIdeal.main_arg0) = m ((c.tc : Thread Cert.ReferenceDmixIdeal.nD Cert.ReferenceDmixIdeal.τ).loc Cert.ReferenceDmixIdeal.main_arg0)
      ∧ r.2.mem ((c.tc : Thread Cert.ReferenceDmixIdeal.nD Cert.ReferenceDmixIdeal.τ).loc Cert.ReferenceDmixIdeal.main_arg1) = m ((c.tc : Thread Cert.ReferenceDmixIdeal.nD Cert.ReferenceDmixIdeal.τ).loc Cert.ReferenceDmixIdeal.main_arg1)
      ∧ r.2.mem ((c.tc : Thread Cert.ReferenceDmixIdeal.nD Cert.ReferenceDmixIdeal.τ).loc Cert.ReferenceDmixIdeal.main_arg2) = m ((c.tc : Thread Cert.ReferenceDmixIdeal.nD Cert.ReferenceDmixIdeal.τ).loc Cert.ReferenceDmixIdeal.main_arg2))
      ∧ r.2.sem = fun _ => 0)

def quiescent_KernelDwqkv [hKernelDwqkv : Cert.KernelDwqkv.Facts] : Prop :=
  ∀ (m : (ℓ : Loc Cert.KernelDwqkv.nD Cert.KernelDwqkv.τ Cert.KernelDwqkv.sig) → Buf (Elt Bits) ℓ) (g : Dev Cert.KernelDwqkv.nD → PrngReg), Pre_KernelDwqkv m →
    θ_run (Cert.KernelDwqkv.defs (F := Bits)) (onTc (τ := Cert.KernelDwqkv.τ) (Cert.KernelDwqkv.main (F := Bits))) ⟨m, fun _ => 0, g⟩ (fun r => (∀ c : Dev Cert.KernelDwqkv.nD,
      r.2.mem ((c.tc : Thread Cert.KernelDwqkv.nD Cert.KernelDwqkv.τ).loc Cert.KernelDwqkv.main_arg0) = m ((c.tc : Thread Cert.KernelDwqkv.nD Cert.KernelDwqkv.τ).loc Cert.KernelDwqkv.main_arg0)
      ∧ r.2.mem ((c.tc : Thread Cert.KernelDwqkv.nD Cert.KernelDwqkv.τ).loc Cert.KernelDwqkv.main_arg1) = m ((c.tc : Thread Cert.KernelDwqkv.nD Cert.KernelDwqkv.τ).loc Cert.KernelDwqkv.main_arg1)
      ∧ r.2.mem ((c.tc : Thread Cert.KernelDwqkv.nD Cert.KernelDwqkv.τ).loc Cert.KernelDwqkv.main_arg2) = m ((c.tc : Thread Cert.KernelDwqkv.nD Cert.KernelDwqkv.τ).loc Cert.KernelDwqkv.main_arg2))
      ∧ r.2.sem = fun _ => 0)

def quiescent_KernelDwqkvIdeal [hKernelDwqkvIdeal : Cert.KernelDwqkvIdeal.Facts] : Prop :=
  ∀ (m : (ℓ : Loc Cert.KernelDwqkvIdeal.nD Cert.KernelDwqkvIdeal.τ Cert.KernelDwqkvIdeal.sig) → Buf (Elt Ideal) ℓ) (g : Dev Cert.KernelDwqkvIdeal.nD → PrngReg), Pre_KernelDwqkvIdeal m →
    θ_run (Cert.KernelDwqkvIdeal.defs (F := Ideal)) (onTc (τ := Cert.KernelDwqkvIdeal.τ) (Cert.KernelDwqkvIdeal.main (F := Ideal))) ⟨m, fun _ => 0, g⟩ (fun r => (∀ c : Dev Cert.KernelDwqkvIdeal.nD,
      r.2.mem ((c.tc : Thread Cert.KernelDwqkvIdeal.nD Cert.KernelDwqkvIdeal.τ).loc Cert.KernelDwqkvIdeal.main_arg0) = m ((c.tc : Thread Cert.KernelDwqkvIdeal.nD Cert.KernelDwqkvIdeal.τ).loc Cert.KernelDwqkvIdeal.main_arg0)
      ∧ r.2.mem ((c.tc : Thread Cert.KernelDwqkvIdeal.nD Cert.KernelDwqkvIdeal.τ).loc Cert.KernelDwqkvIdeal.main_arg1) = m ((c.tc : Thread Cert.KernelDwqkvIdeal.nD Cert.KernelDwqkvIdeal.τ).loc Cert.KernelDwqkvIdeal.main_arg1)
      ∧ r.2.mem ((c.tc : Thread Cert.KernelDwqkvIdeal.nD Cert.KernelDwqkvIdeal.τ).loc Cert.KernelDwqkvIdeal.main_arg2) = m ((c.tc : Thread Cert.KernelDwqkvIdeal.nD Cert.KernelDwqkvIdeal.τ).loc Cert.KernelDwqkvIdeal.main_arg2))
      ∧ r.2.sem = fun _ => 0)

def quiescent_ReferenceDwqkvIdeal [hReferenceDwqkvIdeal : Cert.ReferenceDwqkvIdeal.Facts] : Prop :=
  ∀ (m : (ℓ : Loc Cert.ReferenceDwqkvIdeal.nD Cert.ReferenceDwqkvIdeal.τ Cert.ReferenceDwqkvIdeal.sig) → Buf (Elt Ideal) ℓ) (g : Dev Cert.ReferenceDwqkvIdeal.nD → PrngReg), Pre_ReferenceDwqkvIdeal m →
    θ_run (Cert.ReferenceDwqkvIdeal.defs (F := Ideal)) (onTc (τ := Cert.ReferenceDwqkvIdeal.τ) (Cert.ReferenceDwqkvIdeal.main (F := Ideal))) ⟨m, fun _ => 0, g⟩ (fun r => (∀ c : Dev Cert.ReferenceDwqkvIdeal.nD,
      r.2.mem ((c.tc : Thread Cert.ReferenceDwqkvIdeal.nD Cert.ReferenceDwqkvIdeal.τ).loc Cert.ReferenceDwqkvIdeal.main_arg0) = m ((c.tc : Thread Cert.ReferenceDwqkvIdeal.nD Cert.ReferenceDwqkvIdeal.τ).loc Cert.ReferenceDwqkvIdeal.main_arg0)
      ∧ r.2.mem ((c.tc : Thread Cert.ReferenceDwqkvIdeal.nD Cert.ReferenceDwqkvIdeal.τ).loc Cert.ReferenceDwqkvIdeal.main_arg1) = m ((c.tc : Thread Cert.ReferenceDwqkvIdeal.nD Cert.ReferenceDwqkvIdeal.τ).loc Cert.ReferenceDwqkvIdeal.main_arg1)
      ∧ r.2.mem ((c.tc : Thread Cert.ReferenceDwqkvIdeal.nD Cert.ReferenceDwqkvIdeal.τ).loc Cert.ReferenceDwqkvIdeal.main_arg2) = m ((c.tc : Thread Cert.ReferenceDwqkvIdeal.nD Cert.ReferenceDwqkvIdeal.τ).loc Cert.ReferenceDwqkvIdeal.main_arg2))
      ∧ r.2.sem = fun _ => 0)

def quiescent_KernelFlash [hKernelFlash : Cert.KernelFlash.Facts] : Prop :=
  ∀ (m : (ℓ : Loc Cert.KernelFlash.nD Cert.KernelFlash.τ Cert.KernelFlash.sig) → Buf (Elt Bits) ℓ) (g : Dev Cert.KernelFlash.nD → PrngReg), Pre_KernelFlash m →
    θ_run (Cert.KernelFlash.defs (F := Bits)) (onTc (τ := Cert.KernelFlash.τ) (Cert.KernelFlash.main (F := Bits))) ⟨m, fun _ => 0, g⟩ (fun r => (∀ c : Dev Cert.KernelFlash.nD,
      r.2.mem ((c.tc : Thread Cert.KernelFlash.nD Cert.KernelFlash.τ).loc Cert.KernelFlash.main_arg0) = m ((c.tc : Thread Cert.KernelFlash.nD Cert.KernelFlash.τ).loc Cert.KernelFlash.main_arg0)
      ∧ r.2.mem ((c.tc : Thread Cert.KernelFlash.nD Cert.KernelFlash.τ).loc Cert.KernelFlash.main_arg1) = m ((c.tc : Thread Cert.KernelFlash.nD Cert.KernelFlash.τ).loc Cert.KernelFlash.main_arg1)
      ∧ r.2.mem ((c.tc : Thread Cert.KernelFlash.nD Cert.KernelFlash.τ).loc Cert.KernelFlash.main_arg2) = m ((c.tc : Thread Cert.KernelFlash.nD Cert.KernelFlash.τ).loc Cert.KernelFlash.main_arg2))
      ∧ r.2.sem = fun _ => 0)

def quiescent_KernelFlashIdeal [hKernelFlashIdeal : Cert.KernelFlashIdeal.Facts] : Prop :=
  ∀ (m : (ℓ : Loc Cert.KernelFlashIdeal.nD Cert.KernelFlashIdeal.τ Cert.KernelFlashIdeal.sig) → Buf (Elt Ideal) ℓ) (g : Dev Cert.KernelFlashIdeal.nD → PrngReg), Pre_KernelFlashIdeal m →
    θ_run (Cert.KernelFlashIdeal.defs (F := Ideal)) (onTc (τ := Cert.KernelFlashIdeal.τ) (Cert.KernelFlashIdeal.main (F := Ideal))) ⟨m, fun _ => 0, g⟩ (fun r => (∀ c : Dev Cert.KernelFlashIdeal.nD,
      r.2.mem ((c.tc : Thread Cert.KernelFlashIdeal.nD Cert.KernelFlashIdeal.τ).loc Cert.KernelFlashIdeal.main_arg0) = m ((c.tc : Thread Cert.KernelFlashIdeal.nD Cert.KernelFlashIdeal.τ).loc Cert.KernelFlashIdeal.main_arg0)
      ∧ r.2.mem ((c.tc : Thread Cert.KernelFlashIdeal.nD Cert.KernelFlashIdeal.τ).loc Cert.KernelFlashIdeal.main_arg1) = m ((c.tc : Thread Cert.KernelFlashIdeal.nD Cert.KernelFlashIdeal.τ).loc Cert.KernelFlashIdeal.main_arg1)
      ∧ r.2.mem ((c.tc : Thread Cert.KernelFlashIdeal.nD Cert.KernelFlashIdeal.τ).loc Cert.KernelFlashIdeal.main_arg2) = m ((c.tc : Thread Cert.KernelFlashIdeal.nD Cert.KernelFlashIdeal.τ).loc Cert.KernelFlashIdeal.main_arg2))
      ∧ r.2.sem = fun _ => 0)

def quiescent_KernelFlashIdeal_pre_finite_qkv [hKernelFlashIdeal : Cert.KernelFlashIdeal.Facts] [hPre_finite_qkv : Cert.Pre_finite_qkv.Facts] : Prop :=
  ∀ (m : (ℓ : Loc Cert.KernelFlashIdeal.nD Cert.KernelFlashIdeal.τ Cert.KernelFlashIdeal.sig) → Buf (Elt Ideal) ℓ) (g : Dev Cert.KernelFlashIdeal.nD → PrngReg), Pre_KernelFlashIdeal_finite_qkv m →
    θ_run (Cert.KernelFlashIdeal.defs (F := Ideal)) (onTc (τ := Cert.KernelFlashIdeal.τ) (Cert.KernelFlashIdeal.main (F := Ideal))) ⟨m, fun _ => 0, g⟩ (fun r => (∀ c : Dev Cert.KernelFlashIdeal.nD,
      r.2.mem ((c.tc : Thread Cert.KernelFlashIdeal.nD Cert.KernelFlashIdeal.τ).loc Cert.KernelFlashIdeal.main_arg0) = m ((c.tc : Thread Cert.KernelFlashIdeal.nD Cert.KernelFlashIdeal.τ).loc Cert.KernelFlashIdeal.main_arg0)
      ∧ r.2.mem ((c.tc : Thread Cert.KernelFlashIdeal.nD Cert.KernelFlashIdeal.τ).loc Cert.KernelFlashIdeal.main_arg1) = m ((c.tc : Thread Cert.KernelFlashIdeal.nD Cert.KernelFlashIdeal.τ).loc Cert.KernelFlashIdeal.main_arg1)
      ∧ r.2.mem ((c.tc : Thread Cert.KernelFlashIdeal.nD Cert.KernelFlashIdeal.τ).loc Cert.KernelFlashIdeal.main_arg2) = m ((c.tc : Thread Cert.KernelFlashIdeal.nD Cert.KernelFlashIdeal.τ).loc Cert.KernelFlashIdeal.main_arg2))
      ∧ r.2.sem = fun _ => 0)

def quiescent_ReferenceFlashIdeal [hReferenceFlashIdeal : Cert.ReferenceFlashIdeal.Facts] : Prop :=
  ∀ (m : (ℓ : Loc Cert.ReferenceFlashIdeal.nD Cert.ReferenceFlashIdeal.τ Cert.ReferenceFlashIdeal.sig) → Buf (Elt Ideal) ℓ) (g : Dev Cert.ReferenceFlashIdeal.nD → PrngReg), Pre_ReferenceFlashIdeal m →
    θ_run (Cert.ReferenceFlashIdeal.defs (F := Ideal)) (onTc (τ := Cert.ReferenceFlashIdeal.τ) (Cert.ReferenceFlashIdeal.main (F := Ideal))) ⟨m, fun _ => 0, g⟩ (fun r => (∀ c : Dev Cert.ReferenceFlashIdeal.nD,
      r.2.mem ((c.tc : Thread Cert.ReferenceFlashIdeal.nD Cert.ReferenceFlashIdeal.τ).loc Cert.ReferenceFlashIdeal.main_arg0) = m ((c.tc : Thread Cert.ReferenceFlashIdeal.nD Cert.ReferenceFlashIdeal.τ).loc Cert.ReferenceFlashIdeal.main_arg0)
      ∧ r.2.mem ((c.tc : Thread Cert.ReferenceFlashIdeal.nD Cert.ReferenceFlashIdeal.τ).loc Cert.ReferenceFlashIdeal.main_arg1) = m ((c.tc : Thread Cert.ReferenceFlashIdeal.nD Cert.ReferenceFlashIdeal.τ).loc Cert.ReferenceFlashIdeal.main_arg1)
      ∧ r.2.mem ((c.tc : Thread Cert.ReferenceFlashIdeal.nD Cert.ReferenceFlashIdeal.τ).loc Cert.ReferenceFlashIdeal.main_arg2) = m ((c.tc : Thread Cert.ReferenceFlashIdeal.nD Cert.ReferenceFlashIdeal.τ).loc Cert.ReferenceFlashIdeal.main_arg2))
      ∧ r.2.sem = fun _ => 0)

def quiescent_ReferenceFlashIdeal_pre_finite_qkv [hReferenceFlashIdeal : Cert.ReferenceFlashIdeal.Facts] [hPre_finite_qkv : Cert.Pre_finite_qkv.Facts] : Prop :=
  ∀ (m : (ℓ : Loc Cert.ReferenceFlashIdeal.nD Cert.ReferenceFlashIdeal.τ Cert.ReferenceFlashIdeal.sig) → Buf (Elt Ideal) ℓ) (g : Dev Cert.ReferenceFlashIdeal.nD → PrngReg), Pre_ReferenceFlashIdeal_finite_qkv m →
    θ_run (Cert.ReferenceFlashIdeal.defs (F := Ideal)) (onTc (τ := Cert.ReferenceFlashIdeal.τ) (Cert.ReferenceFlashIdeal.main (F := Ideal))) ⟨m, fun _ => 0, g⟩ (fun r => (∀ c : Dev Cert.ReferenceFlashIdeal.nD,
      r.2.mem ((c.tc : Thread Cert.ReferenceFlashIdeal.nD Cert.ReferenceFlashIdeal.τ).loc Cert.ReferenceFlashIdeal.main_arg0) = m ((c.tc : Thread Cert.ReferenceFlashIdeal.nD Cert.ReferenceFlashIdeal.τ).loc Cert.ReferenceFlashIdeal.main_arg0)
      ∧ r.2.mem ((c.tc : Thread Cert.ReferenceFlashIdeal.nD Cert.ReferenceFlashIdeal.τ).loc Cert.ReferenceFlashIdeal.main_arg1) = m ((c.tc : Thread Cert.ReferenceFlashIdeal.nD Cert.ReferenceFlashIdeal.τ).loc Cert.ReferenceFlashIdeal.main_arg1)
      ∧ r.2.mem ((c.tc : Thread Cert.ReferenceFlashIdeal.nD Cert.ReferenceFlashIdeal.τ).loc Cert.ReferenceFlashIdeal.main_arg2) = m ((c.tc : Thread Cert.ReferenceFlashIdeal.nD Cert.ReferenceFlashIdeal.τ).loc Cert.ReferenceFlashIdeal.main_arg2))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelDwglu [hKernelDwglu : Cert.KernelDwglu.Facts] : Prop :=
  ∀ (m : (ℓ : Loc Cert.KernelDwglu.nD Cert.KernelDwglu.τ Cert.KernelDwglu.sig) → Buf (Elt Bits) ℓ) (g : Dev Cert.KernelDwglu.nD → PrngReg), Pre_KernelDwglu m →
    θ_run (Cert.KernelDwglu.defs (F := Bits)) (onTc (τ := Cert.KernelDwglu.τ) (Cert.KernelDwglu.main (F := Bits))) ⟨m, fun _ => 0, g⟩ (fun r => (∀ c : Dev Cert.KernelDwglu.nD,
      r.2.mem ((c.tc : Thread Cert.KernelDwglu.nD Cert.KernelDwglu.τ).loc Cert.KernelDwglu.main_arg0) = m ((c.tc : Thread Cert.KernelDwglu.nD Cert.KernelDwglu.τ).loc Cert.KernelDwglu.main_arg0)
      ∧ r.2.mem ((c.tc : Thread Cert.KernelDwglu.nD Cert.KernelDwglu.τ).loc Cert.KernelDwglu.main_arg1) = m ((c.tc : Thread Cert.KernelDwglu.nD Cert.KernelDwglu.τ).loc Cert.KernelDwglu.main_arg1)
      ∧ r.2.mem ((c.tc : Thread Cert.KernelDwglu.nD Cert.KernelDwglu.τ).loc Cert.KernelDwglu.main_arg2) = m ((c.tc : Thread Cert.KernelDwglu.nD Cert.KernelDwglu.τ).loc Cert.KernelDwglu.main_arg2))
      ∧ r.2.sem = fun _ => 0)

def quiescent_KernelDwgluIdeal [hKernelDwgluIdeal : Cert.KernelDwgluIdeal.Facts] : Prop :=
  ∀ (m : (ℓ : Loc Cert.KernelDwgluIdeal.nD Cert.KernelDwgluIdeal.τ Cert.KernelDwgluIdeal.sig) → Buf (Elt Ideal) ℓ) (g : Dev Cert.KernelDwgluIdeal.nD → PrngReg), Pre_KernelDwgluIdeal m →
    θ_run (Cert.KernelDwgluIdeal.defs (F := Ideal)) (onTc (τ := Cert.KernelDwgluIdeal.τ) (Cert.KernelDwgluIdeal.main (F := Ideal))) ⟨m, fun _ => 0, g⟩ (fun r => (∀ c : Dev Cert.KernelDwgluIdeal.nD,
      r.2.mem ((c.tc : Thread Cert.KernelDwgluIdeal.nD Cert.KernelDwgluIdeal.τ).loc Cert.KernelDwgluIdeal.main_arg0) = m ((c.tc : Thread Cert.KernelDwgluIdeal.nD Cert.KernelDwgluIdeal.τ).loc Cert.KernelDwgluIdeal.main_arg0)
      ∧ r.2.mem ((c.tc : Thread Cert.KernelDwgluIdeal.nD Cert.KernelDwgluIdeal.τ).loc Cert.KernelDwgluIdeal.main_arg1) = m ((c.tc : Thread Cert.KernelDwgluIdeal.nD Cert.KernelDwgluIdeal.τ).loc Cert.KernelDwgluIdeal.main_arg1)
      ∧ r.2.mem ((c.tc : Thread Cert.KernelDwgluIdeal.nD Cert.KernelDwgluIdeal.τ).loc Cert.KernelDwgluIdeal.main_arg2) = m ((c.tc : Thread Cert.KernelDwgluIdeal.nD Cert.KernelDwgluIdeal.τ).loc Cert.KernelDwgluIdeal.main_arg2))
      ∧ r.2.sem = fun _ => 0)

def quiescent_ReferenceDwgluIdeal [hReferenceDwgluIdeal : Cert.ReferenceDwgluIdeal.Facts] : Prop :=
  ∀ (m : (ℓ : Loc Cert.ReferenceDwgluIdeal.nD Cert.ReferenceDwgluIdeal.τ Cert.ReferenceDwgluIdeal.sig) → Buf (Elt Ideal) ℓ) (g : Dev Cert.ReferenceDwgluIdeal.nD → PrngReg), Pre_ReferenceDwgluIdeal m →
    θ_run (Cert.ReferenceDwgluIdeal.defs (F := Ideal)) (onTc (τ := Cert.ReferenceDwgluIdeal.τ) (Cert.ReferenceDwgluIdeal.main (F := Ideal))) ⟨m, fun _ => 0, g⟩ (fun r => (∀ c : Dev Cert.ReferenceDwgluIdeal.nD,
      r.2.mem ((c.tc : Thread Cert.ReferenceDwgluIdeal.nD Cert.ReferenceDwgluIdeal.τ).loc Cert.ReferenceDwgluIdeal.main_arg0) = m ((c.tc : Thread Cert.ReferenceDwgluIdeal.nD Cert.ReferenceDwgluIdeal.τ).loc Cert.ReferenceDwgluIdeal.main_arg0)
      ∧ r.2.mem ((c.tc : Thread Cert.ReferenceDwgluIdeal.nD Cert.ReferenceDwgluIdeal.τ).loc Cert.ReferenceDwgluIdeal.main_arg1) = m ((c.tc : Thread Cert.ReferenceDwgluIdeal.nD Cert.ReferenceDwgluIdeal.τ).loc Cert.ReferenceDwgluIdeal.main_arg1)
      ∧ r.2.mem ((c.tc : Thread Cert.ReferenceDwgluIdeal.nD Cert.ReferenceDwgluIdeal.τ).loc Cert.ReferenceDwgluIdeal.main_arg2) = m ((c.tc : Thread Cert.ReferenceDwgluIdeal.nD Cert.ReferenceDwgluIdeal.τ).loc Cert.ReferenceDwgluIdeal.main_arg2))
      ∧ r.2.sem = fun _ => 0)

def quiescent_KernelDz [hKernelDz : Cert.KernelDz.Facts] : Prop :=
  ∀ (m : (ℓ : Loc Cert.KernelDz.nD Cert.KernelDz.τ Cert.KernelDz.sig) → Buf (Elt Bits) ℓ) (g : Dev Cert.KernelDz.nD → PrngReg), Pre_KernelDz m →
    θ_run (Cert.KernelDz.defs (F := Bits)) (onTc (τ := Cert.KernelDz.τ) (Cert.KernelDz.main (F := Bits))) ⟨m, fun _ => 0, g⟩ (fun r => (∀ c : Dev Cert.KernelDz.nD,
      r.2.mem ((c.tc : Thread Cert.KernelDz.nD Cert.KernelDz.τ).loc Cert.KernelDz.main_arg0) = m ((c.tc : Thread Cert.KernelDz.nD Cert.KernelDz.τ).loc Cert.KernelDz.main_arg0)
      ∧ r.2.mem ((c.tc : Thread Cert.KernelDz.nD Cert.KernelDz.τ).loc Cert.KernelDz.main_arg1) = m ((c.tc : Thread Cert.KernelDz.nD Cert.KernelDz.τ).loc Cert.KernelDz.main_arg1)
      ∧ r.2.mem ((c.tc : Thread Cert.KernelDz.nD Cert.KernelDz.τ).loc Cert.KernelDz.main_arg2) = m ((c.tc : Thread Cert.KernelDz.nD Cert.KernelDz.τ).loc Cert.KernelDz.main_arg2))
      ∧ r.2.sem = fun _ => 0)

def quiescent_KernelDzIdeal [hKernelDzIdeal : Cert.KernelDzIdeal.Facts] : Prop :=
  ∀ (m : (ℓ : Loc Cert.KernelDzIdeal.nD Cert.KernelDzIdeal.τ Cert.KernelDzIdeal.sig) → Buf (Elt Ideal) ℓ) (g : Dev Cert.KernelDzIdeal.nD → PrngReg), Pre_KernelDzIdeal m →
    θ_run (Cert.KernelDzIdeal.defs (F := Ideal)) (onTc (τ := Cert.KernelDzIdeal.τ) (Cert.KernelDzIdeal.main (F := Ideal))) ⟨m, fun _ => 0, g⟩ (fun r => (∀ c : Dev Cert.KernelDzIdeal.nD,
      r.2.mem ((c.tc : Thread Cert.KernelDzIdeal.nD Cert.KernelDzIdeal.τ).loc Cert.KernelDzIdeal.main_arg0) = m ((c.tc : Thread Cert.KernelDzIdeal.nD Cert.KernelDzIdeal.τ).loc Cert.KernelDzIdeal.main_arg0)
      ∧ r.2.mem ((c.tc : Thread Cert.KernelDzIdeal.nD Cert.KernelDzIdeal.τ).loc Cert.KernelDzIdeal.main_arg1) = m ((c.tc : Thread Cert.KernelDzIdeal.nD Cert.KernelDzIdeal.τ).loc Cert.KernelDzIdeal.main_arg1)
      ∧ r.2.mem ((c.tc : Thread Cert.KernelDzIdeal.nD Cert.KernelDzIdeal.τ).loc Cert.KernelDzIdeal.main_arg2) = m ((c.tc : Thread Cert.KernelDzIdeal.nD Cert.KernelDzIdeal.τ).loc Cert.KernelDzIdeal.main_arg2))
      ∧ r.2.sem = fun _ => 0)

def quiescent_ReferenceDzIdeal [hReferenceDzIdeal : Cert.ReferenceDzIdeal.Facts] : Prop :=
  ∀ (m : (ℓ : Loc Cert.ReferenceDzIdeal.nD Cert.ReferenceDzIdeal.τ Cert.ReferenceDzIdeal.sig) → Buf (Elt Ideal) ℓ) (g : Dev Cert.ReferenceDzIdeal.nD → PrngReg), Pre_ReferenceDzIdeal m →
    θ_run (Cert.ReferenceDzIdeal.defs (F := Ideal)) (onTc (τ := Cert.ReferenceDzIdeal.τ) (Cert.ReferenceDzIdeal.main (F := Ideal))) ⟨m, fun _ => 0, g⟩ (fun r => (∀ c : Dev Cert.ReferenceDzIdeal.nD,
      r.2.mem ((c.tc : Thread Cert.ReferenceDzIdeal.nD Cert.ReferenceDzIdeal.τ).loc Cert.ReferenceDzIdeal.main_arg0) = m ((c.tc : Thread Cert.ReferenceDzIdeal.nD Cert.ReferenceDzIdeal.τ).loc Cert.ReferenceDzIdeal.main_arg0)
      ∧ r.2.mem ((c.tc : Thread Cert.ReferenceDzIdeal.nD Cert.ReferenceDzIdeal.τ).loc Cert.ReferenceDzIdeal.main_arg1) = m ((c.tc : Thread Cert.ReferenceDzIdeal.nD Cert.ReferenceDzIdeal.τ).loc Cert.ReferenceDzIdeal.main_arg1)
      ∧ r.2.mem ((c.tc : Thread Cert.ReferenceDzIdeal.nD Cert.ReferenceDzIdeal.τ).loc Cert.ReferenceDzIdeal.main_arg2) = m ((c.tc : Thread Cert.ReferenceDzIdeal.nD Cert.ReferenceDzIdeal.τ).loc Cert.ReferenceDzIdeal.main_arg2))
      ∧ r.2.sem = fun _ => 0)

def quiescent_KernelLow [hKernelLow : Cert.KernelLow.Facts] : Prop :=
  ∀ (m : (ℓ : Loc Cert.KernelLow.nD Cert.KernelLow.τ Cert.KernelLow.sig) → Buf (Elt Bits) ℓ) (g : Dev Cert.KernelLow.nD → PrngReg), Pre_KernelLow m →
    θ_run (Cert.KernelLow.defs (F := Bits)) (onTc (τ := Cert.KernelLow.τ) (Cert.KernelLow.main (F := Bits))) ⟨m, fun _ => 0, g⟩ (fun r => (∀ c : Dev Cert.KernelLow.nD,
      r.2.mem ((c.tc : Thread Cert.KernelLow.nD Cert.KernelLow.τ).loc Cert.KernelLow.main_arg0) = m ((c.tc : Thread Cert.KernelLow.nD Cert.KernelLow.τ).loc Cert.KernelLow.main_arg0)
      ∧ r.2.mem ((c.tc : Thread Cert.KernelLow.nD Cert.KernelLow.τ).loc Cert.KernelLow.main_arg1) = m ((c.tc : Thread Cert.KernelLow.nD Cert.KernelLow.τ).loc Cert.KernelLow.main_arg1))
      ∧ r.2.sem = fun _ => 0)

def quiescent_KernelLowIdeal [hKernelLowIdeal : Cert.KernelLowIdeal.Facts] : Prop :=
  ∀ (m : (ℓ : Loc Cert.KernelLowIdeal.nD Cert.KernelLowIdeal.τ Cert.KernelLowIdeal.sig) → Buf (Elt Ideal) ℓ) (g : Dev Cert.KernelLowIdeal.nD → PrngReg), Pre_KernelLowIdeal m →
    θ_run (Cert.KernelLowIdeal.defs (F := Ideal)) (onTc (τ := Cert.KernelLowIdeal.τ) (Cert.KernelLowIdeal.main (F := Ideal))) ⟨m, fun _ => 0, g⟩ (fun r => (∀ c : Dev Cert.KernelLowIdeal.nD,
      r.2.mem ((c.tc : Thread Cert.KernelLowIdeal.nD Cert.KernelLowIdeal.τ).loc Cert.KernelLowIdeal.main_arg0) = m ((c.tc : Thread Cert.KernelLowIdeal.nD Cert.KernelLowIdeal.τ).loc Cert.KernelLowIdeal.main_arg0)
      ∧ r.2.mem ((c.tc : Thread Cert.KernelLowIdeal.nD Cert.KernelLowIdeal.τ).loc Cert.KernelLowIdeal.main_arg1) = m ((c.tc : Thread Cert.KernelLowIdeal.nD Cert.KernelLowIdeal.τ).loc Cert.KernelLowIdeal.main_arg1))
      ∧ r.2.sem = fun _ => 0)

def quiescent_ReferenceLowIdeal [hReferenceLowIdeal : Cert.ReferenceLowIdeal.Facts] : Prop :=
  ∀ (m : (ℓ : Loc Cert.ReferenceLowIdeal.nD Cert.ReferenceLowIdeal.τ Cert.ReferenceLowIdeal.sig) → Buf (Elt Ideal) ℓ) (g : Dev Cert.ReferenceLowIdeal.nD → PrngReg), Pre_ReferenceLowIdeal m →
    θ_run (Cert.ReferenceLowIdeal.defs (F := Ideal)) (onTc (τ := Cert.ReferenceLowIdeal.τ) (Cert.ReferenceLowIdeal.main (F := Ideal))) ⟨m, fun _ => 0, g⟩ (fun r => (∀ c : Dev Cert.ReferenceLowIdeal.nD,
      r.2.mem ((c.tc : Thread Cert.ReferenceLowIdeal.nD Cert.ReferenceLowIdeal.τ).loc Cert.ReferenceLowIdeal.main_arg0) = m ((c.tc : Thread Cert.ReferenceLowIdeal.nD Cert.ReferenceLowIdeal.τ).loc Cert.ReferenceLowIdeal.main_arg0)
      ∧ r.2.mem ((c.tc : Thread Cert.ReferenceLowIdeal.nD Cert.ReferenceLowIdeal.τ).loc Cert.ReferenceLowIdeal.main_arg1) = m ((c.tc : Thread Cert.ReferenceLowIdeal.nD Cert.ReferenceLowIdeal.τ).loc Cert.ReferenceLowIdeal.main_arg1))
      ∧ r.2.sem = fun _ => 0)

def quiescent_KernelDwlow [hKernelDwlow : Cert.KernelDwlow.Facts] : Prop :=
  ∀ (m : (ℓ : Loc Cert.KernelDwlow.nD Cert.KernelDwlow.τ Cert.KernelDwlow.sig) → Buf (Elt Bits) ℓ) (g : Dev Cert.KernelDwlow.nD → PrngReg), Pre_KernelDwlow m →
    θ_run (Cert.KernelDwlow.defs (F := Bits)) (onTc (τ := Cert.KernelDwlow.τ) (Cert.KernelDwlow.main (F := Bits))) ⟨m, fun _ => 0, g⟩ (fun r => (∀ c : Dev Cert.KernelDwlow.nD,
      r.2.mem ((c.tc : Thread Cert.KernelDwlow.nD Cert.KernelDwlow.τ).loc Cert.KernelDwlow.main_arg0) = m ((c.tc : Thread Cert.KernelDwlow.nD Cert.KernelDwlow.τ).loc Cert.KernelDwlow.main_arg0)
      ∧ r.2.mem ((c.tc : Thread Cert.KernelDwlow.nD Cert.KernelDwlow.τ).loc Cert.KernelDwlow.main_arg1) = m ((c.tc : Thread Cert.KernelDwlow.nD Cert.KernelDwlow.τ).loc Cert.KernelDwlow.main_arg1)
      ∧ r.2.mem ((c.tc : Thread Cert.KernelDwlow.nD Cert.KernelDwlow.τ).loc Cert.KernelDwlow.main_arg2) = m ((c.tc : Thread Cert.KernelDwlow.nD Cert.KernelDwlow.τ).loc Cert.KernelDwlow.main_arg2))
      ∧ r.2.sem = fun _ => 0)

def quiescent_KernelDwlowIdeal [hKernelDwlowIdeal : Cert.KernelDwlowIdeal.Facts] : Prop :=
  ∀ (m : (ℓ : Loc Cert.KernelDwlowIdeal.nD Cert.KernelDwlowIdeal.τ Cert.KernelDwlowIdeal.sig) → Buf (Elt Ideal) ℓ) (g : Dev Cert.KernelDwlowIdeal.nD → PrngReg), Pre_KernelDwlowIdeal m →
    θ_run (Cert.KernelDwlowIdeal.defs (F := Ideal)) (onTc (τ := Cert.KernelDwlowIdeal.τ) (Cert.KernelDwlowIdeal.main (F := Ideal))) ⟨m, fun _ => 0, g⟩ (fun r => (∀ c : Dev Cert.KernelDwlowIdeal.nD,
      r.2.mem ((c.tc : Thread Cert.KernelDwlowIdeal.nD Cert.KernelDwlowIdeal.τ).loc Cert.KernelDwlowIdeal.main_arg0) = m ((c.tc : Thread Cert.KernelDwlowIdeal.nD Cert.KernelDwlowIdeal.τ).loc Cert.KernelDwlowIdeal.main_arg0)
      ∧ r.2.mem ((c.tc : Thread Cert.KernelDwlowIdeal.nD Cert.KernelDwlowIdeal.τ).loc Cert.KernelDwlowIdeal.main_arg1) = m ((c.tc : Thread Cert.KernelDwlowIdeal.nD Cert.KernelDwlowIdeal.τ).loc Cert.KernelDwlowIdeal.main_arg1)
      ∧ r.2.mem ((c.tc : Thread Cert.KernelDwlowIdeal.nD Cert.KernelDwlowIdeal.τ).loc Cert.KernelDwlowIdeal.main_arg2) = m ((c.tc : Thread Cert.KernelDwlowIdeal.nD Cert.KernelDwlowIdeal.τ).loc Cert.KernelDwlowIdeal.main_arg2))
      ∧ r.2.sem = fun _ => 0)

def quiescent_ReferenceDwlowIdeal [hReferenceDwlowIdeal : Cert.ReferenceDwlowIdeal.Facts] : Prop :=
  ∀ (m : (ℓ : Loc Cert.ReferenceDwlowIdeal.nD Cert.ReferenceDwlowIdeal.τ Cert.ReferenceDwlowIdeal.sig) → Buf (Elt Ideal) ℓ) (g : Dev Cert.ReferenceDwlowIdeal.nD → PrngReg), Pre_ReferenceDwlowIdeal m →
    θ_run (Cert.ReferenceDwlowIdeal.defs (F := Ideal)) (onTc (τ := Cert.ReferenceDwlowIdeal.τ) (Cert.ReferenceDwlowIdeal.main (F := Ideal))) ⟨m, fun _ => 0, g⟩ (fun r => (∀ c : Dev Cert.ReferenceDwlowIdeal.nD,
      r.2.mem ((c.tc : Thread Cert.ReferenceDwlowIdeal.nD Cert.ReferenceDwlowIdeal.τ).loc Cert.ReferenceDwlowIdeal.main_arg0) = m ((c.tc : Thread Cert.ReferenceDwlowIdeal.nD Cert.ReferenceDwlowIdeal.τ).loc Cert.ReferenceDwlowIdeal.main_arg0)
      ∧ r.2.mem ((c.tc : Thread Cert.ReferenceDwlowIdeal.nD Cert.ReferenceDwlowIdeal.τ).loc Cert.ReferenceDwlowIdeal.main_arg1) = m ((c.tc : Thread Cert.ReferenceDwlowIdeal.nD Cert.ReferenceDwlowIdeal.τ).loc Cert.ReferenceDwlowIdeal.main_arg1)
      ∧ r.2.mem ((c.tc : Thread Cert.ReferenceDwlowIdeal.nD Cert.ReferenceDwlowIdeal.τ).loc Cert.ReferenceDwlowIdeal.main_arg2) = m ((c.tc : Thread Cert.ReferenceDwlowIdeal.nD Cert.ReferenceDwlowIdeal.τ).loc Cert.ReferenceDwlowIdeal.main_arg2))
      ∧ r.2.sem = fun _ => 0)

def quiescent_KernelDlow [hKernelDlow : Cert.KernelDlow.Facts] : Prop :=
  ∀ (m : (ℓ : Loc Cert.KernelDlow.nD Cert.KernelDlow.τ Cert.KernelDlow.sig) → Buf (Elt Bits) ℓ) (g : Dev Cert.KernelDlow.nD → PrngReg), Pre_KernelDlow m →
    θ_run (Cert.KernelDlow.defs (F := Bits)) (onTc (τ := Cert.KernelDlow.τ) (Cert.KernelDlow.main (F := Bits))) ⟨m, fun _ => 0, g⟩ (fun r => (∀ c : Dev Cert.KernelDlow.nD,
      r.2.mem ((c.tc : Thread Cert.KernelDlow.nD Cert.KernelDlow.τ).loc Cert.KernelDlow.main_arg0) = m ((c.tc : Thread Cert.KernelDlow.nD Cert.KernelDlow.τ).loc Cert.KernelDlow.main_arg0)
      ∧ r.2.mem ((c.tc : Thread Cert.KernelDlow.nD Cert.KernelDlow.τ).loc Cert.KernelDlow.main_arg1) = m ((c.tc : Thread Cert.KernelDlow.nD Cert.KernelDlow.τ).loc Cert.KernelDlow.main_arg1)
      ∧ r.2.mem ((c.tc : Thread Cert.KernelDlow.nD Cert.KernelDlow.τ).loc Cert.KernelDlow.main_arg2) = m ((c.tc : Thread Cert.KernelDlow.nD Cert.KernelDlow.τ).loc Cert.KernelDlow.main_arg2))
      ∧ r.2.sem = fun _ => 0)

def quiescent_KernelDlowIdeal [hKernelDlowIdeal : Cert.KernelDlowIdeal.Facts] : Prop :=
  ∀ (m : (ℓ : Loc Cert.KernelDlowIdeal.nD Cert.KernelDlowIdeal.τ Cert.KernelDlowIdeal.sig) → Buf (Elt Ideal) ℓ) (g : Dev Cert.KernelDlowIdeal.nD → PrngReg), Pre_KernelDlowIdeal m →
    θ_run (Cert.KernelDlowIdeal.defs (F := Ideal)) (onTc (τ := Cert.KernelDlowIdeal.τ) (Cert.KernelDlowIdeal.main (F := Ideal))) ⟨m, fun _ => 0, g⟩ (fun r => (∀ c : Dev Cert.KernelDlowIdeal.nD,
      r.2.mem ((c.tc : Thread Cert.KernelDlowIdeal.nD Cert.KernelDlowIdeal.τ).loc Cert.KernelDlowIdeal.main_arg0) = m ((c.tc : Thread Cert.KernelDlowIdeal.nD Cert.KernelDlowIdeal.τ).loc Cert.KernelDlowIdeal.main_arg0)
      ∧ r.2.mem ((c.tc : Thread Cert.KernelDlowIdeal.nD Cert.KernelDlowIdeal.τ).loc Cert.KernelDlowIdeal.main_arg1) = m ((c.tc : Thread Cert.KernelDlowIdeal.nD Cert.KernelDlowIdeal.τ).loc Cert.KernelDlowIdeal.main_arg1)
      ∧ r.2.mem ((c.tc : Thread Cert.KernelDlowIdeal.nD Cert.KernelDlowIdeal.τ).loc Cert.KernelDlowIdeal.main_arg2) = m ((c.tc : Thread Cert.KernelDlowIdeal.nD Cert.KernelDlowIdeal.τ).loc Cert.KernelDlowIdeal.main_arg2))
      ∧ r.2.sem = fun _ => 0)

def quiescent_ReferenceDlowIdeal [hReferenceDlowIdeal : Cert.ReferenceDlowIdeal.Facts] : Prop :=
  ∀ (m : (ℓ : Loc Cert.ReferenceDlowIdeal.nD Cert.ReferenceDlowIdeal.τ Cert.ReferenceDlowIdeal.sig) → Buf (Elt Ideal) ℓ) (g : Dev Cert.ReferenceDlowIdeal.nD → PrngReg), Pre_ReferenceDlowIdeal m →
    θ_run (Cert.ReferenceDlowIdeal.defs (F := Ideal)) (onTc (τ := Cert.ReferenceDlowIdeal.τ) (Cert.ReferenceDlowIdeal.main (F := Ideal))) ⟨m, fun _ => 0, g⟩ (fun r => (∀ c : Dev Cert.ReferenceDlowIdeal.nD,
      r.2.mem ((c.tc : Thread Cert.ReferenceDlowIdeal.nD Cert.ReferenceDlowIdeal.τ).loc Cert.ReferenceDlowIdeal.main_arg0) = m ((c.tc : Thread Cert.ReferenceDlowIdeal.nD Cert.ReferenceDlowIdeal.τ).loc Cert.ReferenceDlowIdeal.main_arg0)
      ∧ r.2.mem ((c.tc : Thread Cert.ReferenceDlowIdeal.nD Cert.ReferenceDlowIdeal.τ).loc Cert.ReferenceDlowIdeal.main_arg1) = m ((c.tc : Thread Cert.ReferenceDlowIdeal.nD Cert.ReferenceDlowIdeal.τ).loc Cert.ReferenceDlowIdeal.main_arg1)
      ∧ r.2.mem ((c.tc : Thread Cert.ReferenceDlowIdeal.nD Cert.ReferenceDlowIdeal.τ).loc Cert.ReferenceDlowIdeal.main_arg2) = m ((c.tc : Thread Cert.ReferenceDlowIdeal.nD Cert.ReferenceDlowIdeal.τ).loc Cert.ReferenceDlowIdeal.main_arg2))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1))
      ∧ r.2.sem = fun _ => 0)

def quiescent_KernelDwuq [hKernelDwuq : Cert.KernelDwuq.Facts] : Prop :=
  ∀ (m : (ℓ : Loc Cert.KernelDwuq.nD Cert.KernelDwuq.τ Cert.KernelDwuq.sig) → Buf (Elt Bits) ℓ) (g : Dev Cert.KernelDwuq.nD → PrngReg), Pre_KernelDwuq m →
    θ_run (Cert.KernelDwuq.defs (F := Bits)) (onTc (τ := Cert.KernelDwuq.τ) (Cert.KernelDwuq.main (F := Bits))) ⟨m, fun _ => 0, g⟩ (fun r => (∀ c : Dev Cert.KernelDwuq.nD,
      r.2.mem ((c.tc : Thread Cert.KernelDwuq.nD Cert.KernelDwuq.τ).loc Cert.KernelDwuq.main_arg0) = m ((c.tc : Thread Cert.KernelDwuq.nD Cert.KernelDwuq.τ).loc Cert.KernelDwuq.main_arg0)
      ∧ r.2.mem ((c.tc : Thread Cert.KernelDwuq.nD Cert.KernelDwuq.τ).loc Cert.KernelDwuq.main_arg1) = m ((c.tc : Thread Cert.KernelDwuq.nD Cert.KernelDwuq.τ).loc Cert.KernelDwuq.main_arg1)
      ∧ r.2.mem ((c.tc : Thread Cert.KernelDwuq.nD Cert.KernelDwuq.τ).loc Cert.KernelDwuq.main_arg2) = m ((c.tc : Thread Cert.KernelDwuq.nD Cert.KernelDwuq.τ).loc Cert.KernelDwuq.main_arg2))
      ∧ r.2.sem = fun _ => 0)

def quiescent_KernelDwuqIdeal [hKernelDwuqIdeal : Cert.KernelDwuqIdeal.Facts] : Prop :=
  ∀ (m : (ℓ : Loc Cert.KernelDwuqIdeal.nD Cert.KernelDwuqIdeal.τ Cert.KernelDwuqIdeal.sig) → Buf (Elt Ideal) ℓ) (g : Dev Cert.KernelDwuqIdeal.nD → PrngReg), Pre_KernelDwuqIdeal m →
    θ_run (Cert.KernelDwuqIdeal.defs (F := Ideal)) (onTc (τ := Cert.KernelDwuqIdeal.τ) (Cert.KernelDwuqIdeal.main (F := Ideal))) ⟨m, fun _ => 0, g⟩ (fun r => (∀ c : Dev Cert.KernelDwuqIdeal.nD,
      r.2.mem ((c.tc : Thread Cert.KernelDwuqIdeal.nD Cert.KernelDwuqIdeal.τ).loc Cert.KernelDwuqIdeal.main_arg0) = m ((c.tc : Thread Cert.KernelDwuqIdeal.nD Cert.KernelDwuqIdeal.τ).loc Cert.KernelDwuqIdeal.main_arg0)
      ∧ r.2.mem ((c.tc : Thread Cert.KernelDwuqIdeal.nD Cert.KernelDwuqIdeal.τ).loc Cert.KernelDwuqIdeal.main_arg1) = m ((c.tc : Thread Cert.KernelDwuqIdeal.nD Cert.KernelDwuqIdeal.τ).loc Cert.KernelDwuqIdeal.main_arg1)
      ∧ r.2.mem ((c.tc : Thread Cert.KernelDwuqIdeal.nD Cert.KernelDwuqIdeal.τ).loc Cert.KernelDwuqIdeal.main_arg2) = m ((c.tc : Thread Cert.KernelDwuqIdeal.nD Cert.KernelDwuqIdeal.τ).loc Cert.KernelDwuqIdeal.main_arg2))
      ∧ r.2.sem = fun _ => 0)

def quiescent_ReferenceDwuqIdeal [hReferenceDwuqIdeal : Cert.ReferenceDwuqIdeal.Facts] : Prop :=
  ∀ (m : (ℓ : Loc Cert.ReferenceDwuqIdeal.nD Cert.ReferenceDwuqIdeal.τ Cert.ReferenceDwuqIdeal.sig) → Buf (Elt Ideal) ℓ) (g : Dev Cert.ReferenceDwuqIdeal.nD → PrngReg), Pre_ReferenceDwuqIdeal m →
    θ_run (Cert.ReferenceDwuqIdeal.defs (F := Ideal)) (onTc (τ := Cert.ReferenceDwuqIdeal.τ) (Cert.ReferenceDwuqIdeal.main (F := Ideal))) ⟨m, fun _ => 0, g⟩ (fun r => (∀ c : Dev Cert.ReferenceDwuqIdeal.nD,
      r.2.mem ((c.tc : Thread Cert.ReferenceDwuqIdeal.nD Cert.ReferenceDwuqIdeal.τ).loc Cert.ReferenceDwuqIdeal.main_arg0) = m ((c.tc : Thread Cert.ReferenceDwuqIdeal.nD Cert.ReferenceDwuqIdeal.τ).loc Cert.ReferenceDwuqIdeal.main_arg0)
      ∧ r.2.mem ((c.tc : Thread Cert.ReferenceDwuqIdeal.nD Cert.ReferenceDwuqIdeal.τ).loc Cert.ReferenceDwuqIdeal.main_arg1) = m ((c.tc : Thread Cert.ReferenceDwuqIdeal.nD Cert.ReferenceDwuqIdeal.τ).loc Cert.ReferenceDwuqIdeal.main_arg1)
      ∧ r.2.mem ((c.tc : Thread Cert.ReferenceDwuqIdeal.nD Cert.ReferenceDwuqIdeal.τ).loc Cert.ReferenceDwuqIdeal.main_arg2) = m ((c.tc : Thread Cert.ReferenceDwuqIdeal.nD Cert.ReferenceDwuqIdeal.τ).loc Cert.ReferenceDwuqIdeal.main_arg2))
      ∧ r.2.sem = fun _ => 0)

def quiescent_KernelDcq [hKernelDcq : Cert.KernelDcq.Facts] : Prop :=
  ∀ (m : (ℓ : Loc Cert.KernelDcq.nD Cert.KernelDcq.τ Cert.KernelDcq.sig) → Buf (Elt Bits) ℓ) (g : Dev Cert.KernelDcq.nD → PrngReg), Pre_KernelDcq m →
    θ_run (Cert.KernelDcq.defs (F := Bits)) (onTc (τ := Cert.KernelDcq.τ) (Cert.KernelDcq.main (F := Bits))) ⟨m, fun _ => 0, g⟩ (fun r => (∀ c : Dev Cert.KernelDcq.nD,
      r.2.mem ((c.tc : Thread Cert.KernelDcq.nD Cert.KernelDcq.τ).loc Cert.KernelDcq.main_arg0) = m ((c.tc : Thread Cert.KernelDcq.nD Cert.KernelDcq.τ).loc Cert.KernelDcq.main_arg0)
      ∧ r.2.mem ((c.tc : Thread Cert.KernelDcq.nD Cert.KernelDcq.τ).loc Cert.KernelDcq.main_arg1) = m ((c.tc : Thread Cert.KernelDcq.nD Cert.KernelDcq.τ).loc Cert.KernelDcq.main_arg1)
      ∧ r.2.mem ((c.tc : Thread Cert.KernelDcq.nD Cert.KernelDcq.τ).loc Cert.KernelDcq.main_arg2) = m ((c.tc : Thread Cert.KernelDcq.nD Cert.KernelDcq.τ).loc Cert.KernelDcq.main_arg2))
      ∧ r.2.sem = fun _ => 0)

def quiescent_KernelDcqIdeal [hKernelDcqIdeal : Cert.KernelDcqIdeal.Facts] : Prop :=
  ∀ (m : (ℓ : Loc Cert.KernelDcqIdeal.nD Cert.KernelDcqIdeal.τ Cert.KernelDcqIdeal.sig) → Buf (Elt Ideal) ℓ) (g : Dev Cert.KernelDcqIdeal.nD → PrngReg), Pre_KernelDcqIdeal m →
    θ_run (Cert.KernelDcqIdeal.defs (F := Ideal)) (onTc (τ := Cert.KernelDcqIdeal.τ) (Cert.KernelDcqIdeal.main (F := Ideal))) ⟨m, fun _ => 0, g⟩ (fun r => (∀ c : Dev Cert.KernelDcqIdeal.nD,
      r.2.mem ((c.tc : Thread Cert.KernelDcqIdeal.nD Cert.KernelDcqIdeal.τ).loc Cert.KernelDcqIdeal.main_arg0) = m ((c.tc : Thread Cert.KernelDcqIdeal.nD Cert.KernelDcqIdeal.τ).loc Cert.KernelDcqIdeal.main_arg0)
      ∧ r.2.mem ((c.tc : Thread Cert.KernelDcqIdeal.nD Cert.KernelDcqIdeal.τ).loc Cert.KernelDcqIdeal.main_arg1) = m ((c.tc : Thread Cert.KernelDcqIdeal.nD Cert.KernelDcqIdeal.τ).loc Cert.KernelDcqIdeal.main_arg1)
      ∧ r.2.mem ((c.tc : Thread Cert.KernelDcqIdeal.nD Cert.KernelDcqIdeal.τ).loc Cert.KernelDcqIdeal.main_arg2) = m ((c.tc : Thread Cert.KernelDcqIdeal.nD Cert.KernelDcqIdeal.τ).loc Cert.KernelDcqIdeal.main_arg2))
      ∧ r.2.sem = fun _ => 0)

def quiescent_ReferenceDcqIdeal [hReferenceDcqIdeal : Cert.ReferenceDcqIdeal.Facts] : Prop :=
  ∀ (m : (ℓ : Loc Cert.ReferenceDcqIdeal.nD Cert.ReferenceDcqIdeal.τ Cert.ReferenceDcqIdeal.sig) → Buf (Elt Ideal) ℓ) (g : Dev Cert.ReferenceDcqIdeal.nD → PrngReg), Pre_ReferenceDcqIdeal m →
    θ_run (Cert.ReferenceDcqIdeal.defs (F := Ideal)) (onTc (τ := Cert.ReferenceDcqIdeal.τ) (Cert.ReferenceDcqIdeal.main (F := Ideal))) ⟨m, fun _ => 0, g⟩ (fun r => (∀ c : Dev Cert.ReferenceDcqIdeal.nD,
      r.2.mem ((c.tc : Thread Cert.ReferenceDcqIdeal.nD Cert.ReferenceDcqIdeal.τ).loc Cert.ReferenceDcqIdeal.main_arg0) = m ((c.tc : Thread Cert.ReferenceDcqIdeal.nD Cert.ReferenceDcqIdeal.τ).loc Cert.ReferenceDcqIdeal.main_arg0)
      ∧ r.2.mem ((c.tc : Thread Cert.ReferenceDcqIdeal.nD Cert.ReferenceDcqIdeal.τ).loc Cert.ReferenceDcqIdeal.main_arg1) = m ((c.tc : Thread Cert.ReferenceDcqIdeal.nD Cert.ReferenceDcqIdeal.τ).loc Cert.ReferenceDcqIdeal.main_arg1)
      ∧ r.2.mem ((c.tc : Thread Cert.ReferenceDcqIdeal.nD Cert.ReferenceDcqIdeal.τ).loc Cert.ReferenceDcqIdeal.main_arg2) = m ((c.tc : Thread Cert.ReferenceDcqIdeal.nD Cert.ReferenceDcqIdeal.τ).loc Cert.ReferenceDcqIdeal.main_arg2))
      ∧ r.2.sem = fun _ => 0)

def quiescent_KernelUkv [hKernelUkv : Cert.KernelUkv.Facts] : Prop :=
  ∀ (m : (ℓ : Loc Cert.KernelUkv.nD Cert.KernelUkv.τ Cert.KernelUkv.sig) → Buf (Elt Bits) ℓ) (g : Dev Cert.KernelUkv.nD → PrngReg), Pre_KernelUkv m →
    θ_run (Cert.KernelUkv.defs (F := Bits)) (onTc (τ := Cert.KernelUkv.τ) (Cert.KernelUkv.main (F := Bits))) ⟨m, fun _ => 0, g⟩ (fun r => (∀ c : Dev Cert.KernelUkv.nD,
      r.2.mem ((c.tc : Thread Cert.KernelUkv.nD Cert.KernelUkv.τ).loc Cert.KernelUkv.main_arg0) = m ((c.tc : Thread Cert.KernelUkv.nD Cert.KernelUkv.τ).loc Cert.KernelUkv.main_arg0)
      ∧ r.2.mem ((c.tc : Thread Cert.KernelUkv.nD Cert.KernelUkv.τ).loc Cert.KernelUkv.main_arg1) = m ((c.tc : Thread Cert.KernelUkv.nD Cert.KernelUkv.τ).loc Cert.KernelUkv.main_arg1))
      ∧ r.2.sem = fun _ => 0)

def quiescent_KernelUkvIdeal [hKernelUkvIdeal : Cert.KernelUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg), Pre_KernelUkvIdeal m →
    θ_run (Cert.KernelUkvIdeal.defs (F := Ideal)) (onTc (τ := Cert.KernelUkvIdeal.τ) (Cert.KernelUkvIdeal.main (F := Ideal))) ⟨m, fun _ => 0, g⟩ (fun r => (∀ c : Dev Cert.KernelUkvIdeal.nD,
      r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
      ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ r.2.sem = fun _ => 0)

def quiescent_ReferenceUkvIdeal [hReferenceUkvIdeal : Cert.ReferenceUkvIdeal.Facts] : Prop :=
  ∀ (m : (ℓ : Loc Cert.ReferenceUkvIdeal.nD Cert.ReferenceUkvIdeal.τ Cert.ReferenceUkvIdeal.sig) → Buf (Elt Ideal) ℓ) (g : Dev Cert.ReferenceUkvIdeal.nD → PrngReg), Pre_ReferenceUkvIdeal m →
    θ_run (Cert.ReferenceUkvIdeal.defs (F := Ideal)) (onTc (τ := Cert.ReferenceUkvIdeal.τ) (Cert.ReferenceUkvIdeal.main (F := Ideal))) ⟨m, fun _ => 0, g⟩ (fun r => (∀ c : Dev Cert.ReferenceUkvIdeal.nD,
      r.2.mem ((c.tc : Thread Cert.ReferenceUkvIdeal.nD Cert.ReferenceUkvIdeal.τ).loc Cert.ReferenceUkvIdeal.main_arg0) = m ((c.tc : Thread Cert.ReferenceUkvIdeal.nD Cert.ReferenceUkvIdeal.τ).loc Cert.ReferenceUkvIdeal.main_arg0)
      ∧ r.2.mem ((c.tc : Thread Cert.ReferenceUkvIdeal.nD Cert.ReferenceUkvIdeal.τ).loc Cert.ReferenceUkvIdeal.main_arg1) = m ((c.tc : Thread Cert.ReferenceUkvIdeal.nD Cert.ReferenceUkvIdeal.τ).loc Cert.ReferenceUkvIdeal.main_arg1))
      ∧ r.2.sem = fun _ => 0)

def quiescent_KernelDwukv [hKernelDwukv : Cert.KernelDwukv.Facts] : Prop :=
  ∀ (m : (ℓ : Loc Cert.KernelDwukv.nD Cert.KernelDwukv.τ Cert.KernelDwukv.sig) → Buf (Elt Bits) ℓ) (g : Dev Cert.KernelDwukv.nD → PrngReg), Pre_KernelDwukv m →
    θ_run (Cert.KernelDwukv.defs (F := Bits)) (onTc (τ := Cert.KernelDwukv.τ) (Cert.KernelDwukv.main (F := Bits))) ⟨m, fun _ => 0, g⟩ (fun r => (∀ c : Dev Cert.KernelDwukv.nD,
      r.2.mem ((c.tc : Thread Cert.KernelDwukv.nD Cert.KernelDwukv.τ).loc Cert.KernelDwukv.main_arg0) = m ((c.tc : Thread Cert.KernelDwukv.nD Cert.KernelDwukv.τ).loc Cert.KernelDwukv.main_arg0)
      ∧ r.2.mem ((c.tc : Thread Cert.KernelDwukv.nD Cert.KernelDwukv.τ).loc Cert.KernelDwukv.main_arg1) = m ((c.tc : Thread Cert.KernelDwukv.nD Cert.KernelDwukv.τ).loc Cert.KernelDwukv.main_arg1)
      ∧ r.2.mem ((c.tc : Thread Cert.KernelDwukv.nD Cert.KernelDwukv.τ).loc Cert.KernelDwukv.main_arg2) = m ((c.tc : Thread Cert.KernelDwukv.nD Cert.KernelDwukv.τ).loc Cert.KernelDwukv.main_arg2))
      ∧ r.2.sem = fun _ => 0)

def quiescent_KernelDwukvIdeal [hKernelDwukvIdeal : Cert.KernelDwukvIdeal.Facts] : Prop :=
  ∀ (m : (ℓ : Loc Cert.KernelDwukvIdeal.nD Cert.KernelDwukvIdeal.τ Cert.KernelDwukvIdeal.sig) → Buf (Elt Ideal) ℓ) (g : Dev Cert.KernelDwukvIdeal.nD → PrngReg), Pre_KernelDwukvIdeal m →
    θ_run (Cert.KernelDwukvIdeal.defs (F := Ideal)) (onTc (τ := Cert.KernelDwukvIdeal.τ) (Cert.KernelDwukvIdeal.main (F := Ideal))) ⟨m, fun _ => 0, g⟩ (fun r => (∀ c : Dev Cert.KernelDwukvIdeal.nD,
      r.2.mem ((c.tc : Thread Cert.KernelDwukvIdeal.nD Cert.KernelDwukvIdeal.τ).loc Cert.KernelDwukvIdeal.main_arg0) = m ((c.tc : Thread Cert.KernelDwukvIdeal.nD Cert.KernelDwukvIdeal.τ).loc Cert.KernelDwukvIdeal.main_arg0)
      ∧ r.2.mem ((c.tc : Thread Cert.KernelDwukvIdeal.nD Cert.KernelDwukvIdeal.τ).loc Cert.KernelDwukvIdeal.main_arg1) = m ((c.tc : Thread Cert.KernelDwukvIdeal.nD Cert.KernelDwukvIdeal.τ).loc Cert.KernelDwukvIdeal.main_arg1)
      ∧ r.2.mem ((c.tc : Thread Cert.KernelDwukvIdeal.nD Cert.KernelDwukvIdeal.τ).loc Cert.KernelDwukvIdeal.main_arg2) = m ((c.tc : Thread Cert.KernelDwukvIdeal.nD Cert.KernelDwukvIdeal.τ).loc Cert.KernelDwukvIdeal.main_arg2))
      ∧ r.2.sem = fun _ => 0)

def quiescent_ReferenceDwukvIdeal [hReferenceDwukvIdeal : Cert.ReferenceDwukvIdeal.Facts] : Prop :=
  ∀ (m : (ℓ : Loc Cert.ReferenceDwukvIdeal.nD Cert.ReferenceDwukvIdeal.τ Cert.ReferenceDwukvIdeal.sig) → Buf (Elt Ideal) ℓ) (g : Dev Cert.ReferenceDwukvIdeal.nD → PrngReg), Pre_ReferenceDwukvIdeal m →
    θ_run (Cert.ReferenceDwukvIdeal.defs (F := Ideal)) (onTc (τ := Cert.ReferenceDwukvIdeal.τ) (Cert.ReferenceDwukvIdeal.main (F := Ideal))) ⟨m, fun _ => 0, g⟩ (fun r => (∀ c : Dev Cert.ReferenceDwukvIdeal.nD,
      r.2.mem ((c.tc : Thread Cert.ReferenceDwukvIdeal.nD Cert.ReferenceDwukvIdeal.τ).loc Cert.ReferenceDwukvIdeal.main_arg0) = m ((c.tc : Thread Cert.ReferenceDwukvIdeal.nD Cert.ReferenceDwukvIdeal.τ).loc Cert.ReferenceDwukvIdeal.main_arg0)
      ∧ r.2.mem ((c.tc : Thread Cert.ReferenceDwukvIdeal.nD Cert.ReferenceDwukvIdeal.τ).loc Cert.ReferenceDwukvIdeal.main_arg1) = m ((c.tc : Thread Cert.ReferenceDwukvIdeal.nD Cert.ReferenceDwukvIdeal.τ).loc Cert.ReferenceDwukvIdeal.main_arg1)
      ∧ r.2.mem ((c.tc : Thread Cert.ReferenceDwukvIdeal.nD Cert.ReferenceDwukvIdeal.τ).loc Cert.ReferenceDwukvIdeal.main_arg2) = m ((c.tc : Thread Cert.ReferenceDwukvIdeal.nD Cert.ReferenceDwukvIdeal.τ).loc Cert.ReferenceDwukvIdeal.main_arg2))
      ∧ r.2.sem = fun _ => 0)

def quiescent_KernelDckv [hKernelDckv : Cert.KernelDckv.Facts] : Prop :=
  ∀ (m : (ℓ : Loc Cert.KernelDckv.nD Cert.KernelDckv.τ Cert.KernelDckv.sig) → Buf (Elt Bits) ℓ) (g : Dev Cert.KernelDckv.nD → PrngReg), Pre_KernelDckv m →
    θ_run (Cert.KernelDckv.defs (F := Bits)) (onTc (τ := Cert.KernelDckv.τ) (Cert.KernelDckv.main (F := Bits))) ⟨m, fun _ => 0, g⟩ (fun r => (∀ c : Dev Cert.KernelDckv.nD,
      r.2.mem ((c.tc : Thread Cert.KernelDckv.nD Cert.KernelDckv.τ).loc Cert.KernelDckv.main_arg0) = m ((c.tc : Thread Cert.KernelDckv.nD Cert.KernelDckv.τ).loc Cert.KernelDckv.main_arg0)
      ∧ r.2.mem ((c.tc : Thread Cert.KernelDckv.nD Cert.KernelDckv.τ).loc Cert.KernelDckv.main_arg1) = m ((c.tc : Thread Cert.KernelDckv.nD Cert.KernelDckv.τ).loc Cert.KernelDckv.main_arg1)
      ∧ r.2.mem ((c.tc : Thread Cert.KernelDckv.nD Cert.KernelDckv.τ).loc Cert.KernelDckv.main_arg2) = m ((c.tc : Thread Cert.KernelDckv.nD Cert.KernelDckv.τ).loc Cert.KernelDckv.main_arg2))
      ∧ r.2.sem = fun _ => 0)

def quiescent_KernelDckvIdeal [hKernelDckvIdeal : Cert.KernelDckvIdeal.Facts] : Prop :=
  ∀ (m : (ℓ : Loc Cert.KernelDckvIdeal.nD Cert.KernelDckvIdeal.τ Cert.KernelDckvIdeal.sig) → Buf (Elt Ideal) ℓ) (g : Dev Cert.KernelDckvIdeal.nD → PrngReg), Pre_KernelDckvIdeal m →
    θ_run (Cert.KernelDckvIdeal.defs (F := Ideal)) (onTc (τ := Cert.KernelDckvIdeal.τ) (Cert.KernelDckvIdeal.main (F := Ideal))) ⟨m, fun _ => 0, g⟩ (fun r => (∀ c : Dev Cert.KernelDckvIdeal.nD,
      r.2.mem ((c.tc : Thread Cert.KernelDckvIdeal.nD Cert.KernelDckvIdeal.τ).loc Cert.KernelDckvIdeal.main_arg0) = m ((c.tc : Thread Cert.KernelDckvIdeal.nD Cert.KernelDckvIdeal.τ).loc Cert.KernelDckvIdeal.main_arg0)
      ∧ r.2.mem ((c.tc : Thread Cert.KernelDckvIdeal.nD Cert.KernelDckvIdeal.τ).loc Cert.KernelDckvIdeal.main_arg1) = m ((c.tc : Thread Cert.KernelDckvIdeal.nD Cert.KernelDckvIdeal.τ).loc Cert.KernelDckvIdeal.main_arg1)
      ∧ r.2.mem ((c.tc : Thread Cert.KernelDckvIdeal.nD Cert.KernelDckvIdeal.τ).loc Cert.KernelDckvIdeal.main_arg2) = m ((c.tc : Thread Cert.KernelDckvIdeal.nD Cert.KernelDckvIdeal.τ).loc Cert.KernelDckvIdeal.main_arg2))
      ∧ r.2.sem = fun _ => 0)

def quiescent_ReferenceDckvIdeal [hReferenceDckvIdeal : Cert.ReferenceDckvIdeal.Facts] : Prop :=
  ∀ (m : (ℓ : Loc Cert.ReferenceDckvIdeal.nD Cert.ReferenceDckvIdeal.τ Cert.ReferenceDckvIdeal.sig) → Buf (Elt Ideal) ℓ) (g : Dev Cert.ReferenceDckvIdeal.nD → PrngReg), Pre_ReferenceDckvIdeal m →
    θ_run (Cert.ReferenceDckvIdeal.defs (F := Ideal)) (onTc (τ := Cert.ReferenceDckvIdeal.τ) (Cert.ReferenceDckvIdeal.main (F := Ideal))) ⟨m, fun _ => 0, g⟩ (fun r => (∀ c : Dev Cert.ReferenceDckvIdeal.nD,
      r.2.mem ((c.tc : Thread Cert.ReferenceDckvIdeal.nD Cert.ReferenceDckvIdeal.τ).loc Cert.ReferenceDckvIdeal.main_arg0) = m ((c.tc : Thread Cert.ReferenceDckvIdeal.nD Cert.ReferenceDckvIdeal.τ).loc Cert.ReferenceDckvIdeal.main_arg0)
      ∧ r.2.mem ((c.tc : Thread Cert.ReferenceDckvIdeal.nD Cert.ReferenceDckvIdeal.τ).loc Cert.ReferenceDckvIdeal.main_arg1) = m ((c.tc : Thread Cert.ReferenceDckvIdeal.nD Cert.ReferenceDckvIdeal.τ).loc Cert.ReferenceDckvIdeal.main_arg1)
      ∧ r.2.mem ((c.tc : Thread Cert.ReferenceDckvIdeal.nD Cert.ReferenceDckvIdeal.τ).loc Cert.ReferenceDckvIdeal.main_arg2) = m ((c.tc : Thread Cert.ReferenceDckvIdeal.nD Cert.ReferenceDckvIdeal.τ).loc Cert.ReferenceDckvIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_KernelGateIdeal_pre_finite_gate [hKernelGateIdeal : Cert.KernelGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_gate m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_ReferenceGateIdeal_pre_finite_gate [hReferenceGateIdeal : Cert.ReferenceGateIdeal.Facts] [hPre_finite_gate : Cert.Pre_finite_gate.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_gate m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)) →
    ∃ (v0 : (c : Dev Cert.KernelDaIdeal.nD) → Buf (Elt Ideal) ((c.tc : Thread Cert.KernelDaIdeal.nD Cert.KernelDaIdeal.τ).loc Cert.KernelDaIdeal.main_v1)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v1) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v5) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)
      ∧ m' ((c.tc : Thread Cert.ReferenceDwdownIdeal.nD Cert.ReferenceDwdownIdeal.τ).loc Cert.ReferenceDwdownIdeal.main_arg2) = m ((c.tc : Thread Cert.KernelDwdownIdeal.nD Cert.KernelDwdownIdeal.τ).loc Cert.KernelDwdownIdeal.main_arg2)) →
    ∃ (v0 : (c : Dev Cert.KernelDwdownIdeal.nD) → Buf (Elt Ideal) ((c.tc : Thread Cert.KernelDwdownIdeal.nD Cert.KernelDwdownIdeal.τ).loc Cert.KernelDwdownIdeal.main_v0)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v0) = v0 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1)
          ∧ r.2.mem ((c.tc : Thread Cert.KernelDwdownIdeal.nD Cert.KernelDwdownIdeal.τ).loc Cert.KernelDwdownIdeal.main_arg2) = m ((c.tc : Thread Cert.KernelDwdownIdeal.nD Cert.KernelDwdownIdeal.τ).loc Cert.KernelDwdownIdeal.main_arg2))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v7) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1)
          ∧ r.2.mem ((c.tc : Thread Cert.ReferenceDwdownIdeal.nD Cert.ReferenceDwdownIdeal.τ).loc Cert.ReferenceDwdownIdeal.main_arg2) = m' ((c.tc : Thread Cert.ReferenceDwdownIdeal.nD Cert.ReferenceDwdownIdeal.τ).loc Cert.ReferenceDwdownIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v5)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v5) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v6) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_KernelDwup_KernelDwupIdeal : Prop :=
  True

def algebraic_KernelDwupIdeal_ReferenceDwupIdeal [hKernelDwupIdeal : Cert.KernelDwupIdeal.Facts] [hReferenceDwupIdeal : Cert.ReferenceDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg)
    (m' : (ℓ : Loc Cert.ReferenceDwupIdeal.nD Cert.ReferenceDwupIdeal.τ Cert.ReferenceDwupIdeal.sig) → Buf (Elt Ideal) ℓ) (g' : Dev Cert.ReferenceDwupIdeal.nD → PrngReg), Pre_KernelDwupIdeal m →
    (∀ c : Dev Cert.KernelDwupIdeal.nD,
      m' ((c.tc : Thread Cert.ReferenceDwupIdeal.nD Cert.ReferenceDwupIdeal.τ).loc Cert.ReferenceDwupIdeal.main_arg0) = m ((c.tc : Thread Cert.KernelDwupIdeal.nD Cert.KernelDwupIdeal.τ).loc Cert.KernelDwupIdeal.main_arg0)
      ∧ m' ((c.tc : Thread Cert.ReferenceDwupIdeal.nD Cert.ReferenceDwupIdeal.τ).loc Cert.ReferenceDwupIdeal.main_arg1) = m ((c.tc : Thread Cert.KernelDwupIdeal.nD Cert.KernelDwupIdeal.τ).loc Cert.KernelDwupIdeal.main_arg1)
      ∧ m' ((c.tc : Thread Cert.ReferenceDwupIdeal.nD Cert.ReferenceDwupIdeal.τ).loc Cert.ReferenceDwupIdeal.main_arg2) = m ((c.tc : Thread Cert.KernelDwupIdeal.nD Cert.KernelDwupIdeal.τ).loc Cert.KernelDwupIdeal.main_arg2)) →
    ∃ (v0 : (c : Dev Cert.KernelDwupIdeal.nD) → Buf (Elt Ideal) ((c.tc : Thread Cert.KernelDwupIdeal.nD Cert.KernelDwupIdeal.τ).loc Cert.KernelDwupIdeal.main_v2)),
      θ_run (Cert.KernelDwupIdeal.defs (F := Ideal)) (onTc (τ := Cert.KernelDwupIdeal.τ) (Cert.KernelDwupIdeal.main (F := Ideal))) ⟨m, fun _ => 0, g⟩ (fun r => ∀ c : Dev Cert.KernelDwupIdeal.nD,
          r.2.mem ((c.tc : Thread Cert.KernelDwupIdeal.nD Cert.KernelDwupIdeal.τ).loc Cert.KernelDwupIdeal.main_v2) = v0 c
          ∧ r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
          ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
          ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2))
      ∧ θ_run (Cert.ReferenceDwupIdeal.defs (F := Ideal)) (onTc (τ := Cert.ReferenceDwupIdeal.τ) (Cert.ReferenceDwupIdeal.main (F := Ideal))) ⟨m', fun _ => 0, g'⟩ (fun r => ∀ c : Dev Cert.ReferenceDwupIdeal.nD,
          r.2.mem ((c.tc : Thread Cert.ReferenceDwupIdeal.nD Cert.ReferenceDwupIdeal.τ).loc Cert.ReferenceDwupIdeal.main_v9) = v0 c
          ∧ r.2.mem ((c.tc : Thread Cert.ReferenceDwupIdeal.nD Cert.ReferenceDwupIdeal.τ).loc Cert.ReferenceDwupIdeal.main_arg0) = m' ((c.tc : Thread Cert.ReferenceDwupIdeal.nD Cert.ReferenceDwupIdeal.τ).loc Cert.ReferenceDwupIdeal.main_arg0)
          ∧ r.2.mem ((c.tc : Thread Cert.ReferenceDwupIdeal.nD Cert.ReferenceDwupIdeal.τ).loc Cert.ReferenceDwupIdeal.main_arg1) = m' ((c.tc : Thread Cert.ReferenceDwupIdeal.nD Cert.ReferenceDwupIdeal.τ).loc Cert.ReferenceDwupIdeal.main_arg1)
          ∧ r.2.mem ((c.tc : Thread Cert.ReferenceDwupIdeal.nD Cert.ReferenceDwupIdeal.τ).loc Cert.ReferenceDwupIdeal.main_arg2) = m' ((c.tc : Thread Cert.ReferenceDwupIdeal.nD Cert.ReferenceDwupIdeal.τ).loc Cert.ReferenceDwupIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v9_0)) (v1 : (c : Dev Cert.KernelNormIdeal.nD) → Buf (Elt Ideal) ((c.tc : Thread Cert.KernelNormIdeal.nD Cert.KernelNormIdeal.τ).loc Cert.KernelNormIdeal.main_v9_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v9_0) = v0 c
          ∧ r.2.mem ((c.tc : Thread Cert.KernelNormIdeal.nD Cert.KernelNormIdeal.τ).loc Cert.KernelNormIdeal.main_v9_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v36) = v0 c
          ∧ r.2.mem ((c.tc : Thread Cert.ReferenceNormIdeal.nD Cert.ReferenceNormIdeal.τ).loc Cert.ReferenceNormIdeal.main_v37) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v1)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v1) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v3) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)
      ∧ m' ((c.tc : Thread Cert.ReferenceDoIdeal.nD Cert.ReferenceDoIdeal.τ).loc Cert.ReferenceDoIdeal.main_arg2) = m ((c.tc : Thread Cert.KernelDoIdeal.nD Cert.KernelDoIdeal.τ).loc Cert.KernelDoIdeal.main_arg2)) →
    ∃ (v0 : (c : Dev Cert.KernelDoIdeal.nD) → Buf (Elt Ideal) ((c.tc : Thread Cert.KernelDoIdeal.nD Cert.KernelDoIdeal.τ).loc Cert.KernelDoIdeal.main_v1)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v1) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1)
          ∧ r.2.mem ((c.tc : Thread Cert.KernelDoIdeal.nD Cert.KernelDoIdeal.τ).loc Cert.KernelDoIdeal.main_arg2) = m ((c.tc : Thread Cert.KernelDoIdeal.nD Cert.KernelDoIdeal.τ).loc Cert.KernelDoIdeal.main_arg2))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v6) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1)
          ∧ r.2.mem ((c.tc : Thread Cert.ReferenceDoIdeal.nD Cert.ReferenceDoIdeal.τ).loc Cert.ReferenceDoIdeal.main_arg2) = m' ((c.tc : Thread Cert.ReferenceDoIdeal.nD Cert.ReferenceDoIdeal.τ).loc Cert.ReferenceDoIdeal.main_arg2))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)
      ∧ m' ((c.tc : Thread Cert.ReferenceDwoIdeal.nD Cert.ReferenceDwoIdeal.τ).loc Cert.ReferenceDwoIdeal.main_arg2) = m ((c.tc : Thread Cert.KernelDwoIdeal.nD Cert.KernelDwoIdeal.τ).loc Cert.KernelDwoIdeal.main_arg2)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1)
          ∧ r.2.mem ((c.tc : Thread Cert.KernelDwoIdeal.nD Cert.KernelDwoIdeal.τ).loc Cert.KernelDwoIdeal.main_arg2) = m ((c.tc : Thread Cert.KernelDwoIdeal.nD Cert.KernelDwoIdeal.τ).loc Cert.KernelDwoIdeal.main_arg2))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v7) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1)
          ∧ r.2.mem ((c.tc : Thread Cert.ReferenceDwoIdeal.nD Cert.ReferenceDwoIdeal.τ).loc Cert.ReferenceDwoIdeal.main_arg2) = m' ((c.tc : Thread Cert.ReferenceDwoIdeal.nD Cert.ReferenceDwoIdeal.τ).loc Cert.ReferenceDwoIdeal.main_arg2))

def preserves_KernelDmix_KernelDmixIdeal : Prop :=
  True

def algebraic_KernelDmixIdeal_ReferenceDmixIdeal [hKernelDmixIdeal : Cert.KernelDmixIdeal.Facts] [hReferenceDmixIdeal : Cert.ReferenceDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg)
    (m' : (ℓ : Loc Cert.ReferenceDmixIdeal.nD Cert.ReferenceDmixIdeal.τ Cert.ReferenceDmixIdeal.sig) → Buf (Elt Ideal) ℓ) (g' : Dev Cert.ReferenceDmixIdeal.nD → PrngReg), Pre_KernelDmixIdeal m →
    (∀ c : Dev Cert.KernelDmixIdeal.nD,
      m' ((c.tc : Thread Cert.ReferenceDmixIdeal.nD Cert.ReferenceDmixIdeal.τ).loc Cert.ReferenceDmixIdeal.main_arg0) = m ((c.tc : Thread Cert.KernelDmixIdeal.nD Cert.KernelDmixIdeal.τ).loc Cert.KernelDmixIdeal.main_arg0)
      ∧ m' ((c.tc : Thread Cert.ReferenceDmixIdeal.nD Cert.ReferenceDmixIdeal.τ).loc Cert.ReferenceDmixIdeal.main_arg1) = m ((c.tc : Thread Cert.KernelDmixIdeal.nD Cert.KernelDmixIdeal.τ).loc Cert.KernelDmixIdeal.main_arg1)
      ∧ m' ((c.tc : Thread Cert.ReferenceDmixIdeal.nD Cert.ReferenceDmixIdeal.τ).loc Cert.ReferenceDmixIdeal.main_arg2) = m ((c.tc : Thread Cert.KernelDmixIdeal.nD Cert.KernelDmixIdeal.τ).loc Cert.KernelDmixIdeal.main_arg2)) →
    ∃ (v0 : (c : Dev Cert.KernelDmixIdeal.nD) → Buf (Elt Ideal) ((c.tc : Thread Cert.KernelDmixIdeal.nD Cert.KernelDmixIdeal.τ).loc Cert.KernelDmixIdeal.main_v1)),
      θ_run (Cert.KernelDmixIdeal.defs (F := Ideal)) (onTc (τ := Cert.KernelDmixIdeal.τ) (Cert.KernelDmixIdeal.main (F := Ideal))) ⟨m, fun _ => 0, g⟩ (fun r => ∀ c : Dev Cert.KernelDmixIdeal.nD,
          r.2.mem ((c.tc : Thread Cert.KernelDmixIdeal.nD Cert.KernelDmixIdeal.τ).loc Cert.KernelDmixIdeal.main_v1) = v0 c
          ∧ r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
          ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1)
          ∧ r.2.mem ((c.tc : Thread Cert.KernelDmixIdeal.nD Cert.KernelDmixIdeal.τ).loc Cert.KernelDmixIdeal.main_arg2) = m ((c.tc : Thread Cert.KernelDmixIdeal.nD Cert.KernelDmixIdeal.τ).loc Cert.KernelDmixIdeal.main_arg2))
      ∧ θ_run (Cert.ReferenceDmixIdeal.defs (F := Ideal)) (onTc (τ := Cert.ReferenceDmixIdeal.τ) (Cert.ReferenceDmixIdeal.main (F := Ideal))) ⟨m', fun _ => 0, g'⟩ (fun r => ∀ c : Dev Cert.ReferenceDmixIdeal.nD,
          r.2.mem ((c.tc : Thread Cert.ReferenceDmixIdeal.nD Cert.ReferenceDmixIdeal.τ).loc Cert.ReferenceDmixIdeal.main_v6) = v0 c
          ∧ r.2.mem ((c.tc : Thread Cert.ReferenceDmixIdeal.nD Cert.ReferenceDmixIdeal.τ).loc Cert.ReferenceDmixIdeal.main_arg0) = m' ((c.tc : Thread Cert.ReferenceDmixIdeal.nD Cert.ReferenceDmixIdeal.τ).loc Cert.ReferenceDmixIdeal.main_arg0)
          ∧ r.2.mem ((c.tc : Thread Cert.ReferenceDmixIdeal.nD Cert.ReferenceDmixIdeal.τ).loc Cert.ReferenceDmixIdeal.main_arg1) = m' ((c.tc : Thread Cert.ReferenceDmixIdeal.nD Cert.ReferenceDmixIdeal.τ).loc Cert.ReferenceDmixIdeal.main_arg1)
          ∧ r.2.mem ((c.tc : Thread Cert.ReferenceDmixIdeal.nD Cert.ReferenceDmixIdeal.τ).loc Cert.ReferenceDmixIdeal.main_arg2) = m' ((c.tc : Thread Cert.ReferenceDmixIdeal.nD Cert.ReferenceDmixIdeal.τ).loc Cert.ReferenceDmixIdeal.main_arg2))

def preserves_KernelDwqkv_KernelDwqkvIdeal : Prop :=
  True

def algebraic_KernelDwqkvIdeal_ReferenceDwqkvIdeal [hKernelDwqkvIdeal : Cert.KernelDwqkvIdeal.Facts] [hReferenceDwqkvIdeal : Cert.ReferenceDwqkvIdeal.Facts] : Prop :=
  ∀ (m : (ℓ : Loc Cert.KernelDwqkvIdeal.nD Cert.KernelDwqkvIdeal.τ Cert.KernelDwqkvIdeal.sig) → Buf (Elt Ideal) ℓ) (g : Dev Cert.KernelDwqkvIdeal.nD → PrngReg)
    (m' : (ℓ : Loc Cert.ReferenceDwqkvIdeal.nD Cert.ReferenceDwqkvIdeal.τ Cert.ReferenceDwqkvIdeal.sig) → Buf (Elt Ideal) ℓ) (g' : Dev Cert.ReferenceDwqkvIdeal.nD → PrngReg), Pre_KernelDwqkvIdeal m →
    (∀ c : Dev Cert.KernelDwqkvIdeal.nD,
      m' ((c.tc : Thread Cert.ReferenceDwqkvIdeal.nD Cert.ReferenceDwqkvIdeal.τ).loc Cert.ReferenceDwqkvIdeal.main_arg0) = m ((c.tc : Thread Cert.KernelDwqkvIdeal.nD Cert.KernelDwqkvIdeal.τ).loc Cert.KernelDwqkvIdeal.main_arg0)
      ∧ m' ((c.tc : Thread Cert.ReferenceDwqkvIdeal.nD Cert.ReferenceDwqkvIdeal.τ).loc Cert.ReferenceDwqkvIdeal.main_arg1) = m ((c.tc : Thread Cert.KernelDwqkvIdeal.nD Cert.KernelDwqkvIdeal.τ).loc Cert.KernelDwqkvIdeal.main_arg1)
      ∧ m' ((c.tc : Thread Cert.ReferenceDwqkvIdeal.nD Cert.ReferenceDwqkvIdeal.τ).loc Cert.ReferenceDwqkvIdeal.main_arg2) = m ((c.tc : Thread Cert.KernelDwqkvIdeal.nD Cert.KernelDwqkvIdeal.τ).loc Cert.KernelDwqkvIdeal.main_arg2)) →
    ∃ (v0 : (c : Dev Cert.KernelDwqkvIdeal.nD) → Buf (Elt Ideal) ((c.tc : Thread Cert.KernelDwqkvIdeal.nD Cert.KernelDwqkvIdeal.τ).loc Cert.KernelDwqkvIdeal.main_v0)),
      θ_run (Cert.KernelDwqkvIdeal.defs (F := Ideal)) (onTc (τ := Cert.KernelDwqkvIdeal.τ) (Cert.KernelDwqkvIdeal.main (F := Ideal))) ⟨m, fun _ => 0, g⟩ (fun r => ∀ c : Dev Cert.KernelDwqkvIdeal.nD,
          r.2.mem ((c.tc : Thread Cert.KernelDwqkvIdeal.nD Cert.KernelDwqkvIdeal.τ).loc Cert.KernelDwqkvIdeal.main_v0) = v0 c
          ∧ r.2.mem ((c.tc : Thread Cert.KernelDwqkvIdeal.nD Cert.KernelDwqkvIdeal.τ).loc Cert.KernelDwqkvIdeal.main_arg0) = m ((c.tc : Thread Cert.KernelDwqkvIdeal.nD Cert.KernelDwqkvIdeal.τ).loc Cert.KernelDwqkvIdeal.main_arg0)
          ∧ r.2.mem ((c.tc : Thread Cert.KernelDwqkvIdeal.nD Cert.KernelDwqkvIdeal.τ).loc Cert.KernelDwqkvIdeal.main_arg1) = m ((c.tc : Thread Cert.KernelDwqkvIdeal.nD Cert.KernelDwqkvIdeal.τ).loc Cert.KernelDwqkvIdeal.main_arg1)
          ∧ r.2.mem ((c.tc : Thread Cert.KernelDwqkvIdeal.nD Cert.KernelDwqkvIdeal.τ).loc Cert.KernelDwqkvIdeal.main_arg2) = m ((c.tc : Thread Cert.KernelDwqkvIdeal.nD Cert.KernelDwqkvIdeal.τ).loc Cert.KernelDwqkvIdeal.main_arg2))
      ∧ θ_run (Cert.ReferenceDwqkvIdeal.defs (F := Ideal)) (onTc (τ := Cert.ReferenceDwqkvIdeal.τ) (Cert.ReferenceDwqkvIdeal.main (F := Ideal))) ⟨m', fun _ => 0, g'⟩ (fun r => ∀ c : Dev Cert.ReferenceDwqkvIdeal.nD,
          r.2.mem ((c.tc : Thread Cert.ReferenceDwqkvIdeal.nD Cert.ReferenceDwqkvIdeal.τ).loc Cert.ReferenceDwqkvIdeal.main_v8) = v0 c
          ∧ r.2.mem ((c.tc : Thread Cert.ReferenceDwqkvIdeal.nD Cert.ReferenceDwqkvIdeal.τ).loc Cert.ReferenceDwqkvIdeal.main_arg0) = m' ((c.tc : Thread Cert.ReferenceDwqkvIdeal.nD Cert.ReferenceDwqkvIdeal.τ).loc Cert.ReferenceDwqkvIdeal.main_arg0)
          ∧ r.2.mem ((c.tc : Thread Cert.ReferenceDwqkvIdeal.nD Cert.ReferenceDwqkvIdeal.τ).loc Cert.ReferenceDwqkvIdeal.main_arg1) = m' ((c.tc : Thread Cert.ReferenceDwqkvIdeal.nD Cert.ReferenceDwqkvIdeal.τ).loc Cert.ReferenceDwqkvIdeal.main_arg1)
          ∧ r.2.mem ((c.tc : Thread Cert.ReferenceDwqkvIdeal.nD Cert.ReferenceDwqkvIdeal.τ).loc Cert.ReferenceDwqkvIdeal.main_arg2) = m' ((c.tc : Thread Cert.ReferenceDwqkvIdeal.nD Cert.ReferenceDwqkvIdeal.τ).loc Cert.ReferenceDwqkvIdeal.main_arg2))

def preserves_KernelFlash_KernelFlashIdeal : Prop :=
  True

def algebraic_KernelFlashIdeal_ReferenceFlashIdeal_pre_finite_qkv [hKernelFlashIdeal : Cert.KernelFlashIdeal.Facts] [hReferenceFlashIdeal : Cert.ReferenceFlashIdeal.Facts] [hPre_finite_qkv : Cert.Pre_finite_qkv.Facts] : Prop :=
  ∀ (m : (ℓ : Loc Cert.KernelFlashIdeal.nD Cert.KernelFlashIdeal.τ Cert.KernelFlashIdeal.sig) → Buf (Elt Ideal) ℓ) (g : Dev Cert.KernelFlashIdeal.nD → PrngReg)
    (m' : (ℓ : Loc Cert.ReferenceFlashIdeal.nD Cert.ReferenceFlashIdeal.τ Cert.ReferenceFlashIdeal.sig) → Buf (Elt Ideal) ℓ) (g' : Dev Cert.ReferenceFlashIdeal.nD → PrngReg), Pre_KernelFlashIdeal_finite_qkv m →
    (∀ c : Dev Cert.KernelFlashIdeal.nD,
      m' ((c.tc : Thread Cert.ReferenceFlashIdeal.nD Cert.ReferenceFlashIdeal.τ).loc Cert.ReferenceFlashIdeal.main_arg0) = m ((c.tc : Thread Cert.KernelFlashIdeal.nD Cert.KernelFlashIdeal.τ).loc Cert.KernelFlashIdeal.main_arg0)
      ∧ m' ((c.tc : Thread Cert.ReferenceFlashIdeal.nD Cert.ReferenceFlashIdeal.τ).loc Cert.ReferenceFlashIdeal.main_arg1) = m ((c.tc : Thread Cert.KernelFlashIdeal.nD Cert.KernelFlashIdeal.τ).loc Cert.KernelFlashIdeal.main_arg1)
      ∧ m' ((c.tc : Thread Cert.ReferenceFlashIdeal.nD Cert.ReferenceFlashIdeal.τ).loc Cert.ReferenceFlashIdeal.main_arg2) = m ((c.tc : Thread Cert.KernelFlashIdeal.nD Cert.KernelFlashIdeal.τ).loc Cert.KernelFlashIdeal.main_arg2)) →
    ∃ (v0 : (c : Dev Cert.KernelFlashIdeal.nD) → Buf (Elt Ideal) ((c.tc : Thread Cert.KernelFlashIdeal.nD Cert.KernelFlashIdeal.τ).loc Cert.KernelFlashIdeal.main_v7_0)) (v1 : (c : Dev Cert.KernelFlashIdeal.nD) → Buf (Elt Ideal) ((c.tc : Thread Cert.KernelFlashIdeal.nD Cert.KernelFlashIdeal.τ).loc Cert.KernelFlashIdeal.main_v7_1)),
      θ_run (Cert.KernelFlashIdeal.defs (F := Ideal)) (onTc (τ := Cert.KernelFlashIdeal.τ) (Cert.KernelFlashIdeal.main (F := Ideal))) ⟨m, fun _ => 0, g⟩ (fun r => ∀ c : Dev Cert.KernelFlashIdeal.nD,
          r.2.mem ((c.tc : Thread Cert.KernelFlashIdeal.nD Cert.KernelFlashIdeal.τ).loc Cert.KernelFlashIdeal.main_v7_0) = v0 c
          ∧ r.2.mem ((c.tc : Thread Cert.KernelFlashIdeal.nD Cert.KernelFlashIdeal.τ).loc Cert.KernelFlashIdeal.main_v7_1) = v1 c
          ∧ r.2.mem ((c.tc : Thread Cert.KernelFlashIdeal.nD Cert.KernelFlashIdeal.τ).loc Cert.KernelFlashIdeal.main_arg0) = m ((c.tc : Thread Cert.KernelFlashIdeal.nD Cert.KernelFlashIdeal.τ).loc Cert.KernelFlashIdeal.main_arg0)
          ∧ r.2.mem ((c.tc : Thread Cert.KernelFlashIdeal.nD Cert.KernelFlashIdeal.τ).loc Cert.KernelFlashIdeal.main_arg1) = m ((c.tc : Thread Cert.KernelFlashIdeal.nD Cert.KernelFlashIdeal.τ).loc Cert.KernelFlashIdeal.main_arg1)
          ∧ r.2.mem ((c.tc : Thread Cert.KernelFlashIdeal.nD Cert.KernelFlashIdeal.τ).loc Cert.KernelFlashIdeal.main_arg2) = m ((c.tc : Thread Cert.KernelFlashIdeal.nD Cert.KernelFlashIdeal.τ).loc Cert.KernelFlashIdeal.main_arg2))
      ∧ θ_run (Cert.ReferenceFlashIdeal.defs (F := Ideal)) (onTc (τ := Cert.ReferenceFlashIdeal.τ) (Cert.ReferenceFlashIdeal.main (F := Ideal))) ⟨m', fun _ => 0, g'⟩ (fun r => ∀ c : Dev Cert.ReferenceFlashIdeal.nD,
          r.2.mem ((c.tc : Thread Cert.ReferenceFlashIdeal.nD Cert.ReferenceFlashIdeal.τ).loc Cert.ReferenceFlashIdeal.main_v29) = v0 c
          ∧ r.2.mem ((c.tc : Thread Cert.ReferenceFlashIdeal.nD Cert.ReferenceFlashIdeal.τ).loc Cert.ReferenceFlashIdeal.main_v33) = v1 c
          ∧ r.2.mem ((c.tc : Thread Cert.ReferenceFlashIdeal.nD Cert.ReferenceFlashIdeal.τ).loc Cert.ReferenceFlashIdeal.main_arg0) = m' ((c.tc : Thread Cert.ReferenceFlashIdeal.nD Cert.ReferenceFlashIdeal.τ).loc Cert.ReferenceFlashIdeal.main_arg0)
          ∧ r.2.mem ((c.tc : Thread Cert.ReferenceFlashIdeal.nD Cert.ReferenceFlashIdeal.τ).loc Cert.ReferenceFlashIdeal.main_arg1) = m' ((c.tc : Thread Cert.ReferenceFlashIdeal.nD Cert.ReferenceFlashIdeal.τ).loc Cert.ReferenceFlashIdeal.main_arg1)
          ∧ r.2.mem ((c.tc : Thread Cert.ReferenceFlashIdeal.nD Cert.ReferenceFlashIdeal.τ).loc Cert.ReferenceFlashIdeal.main_arg2) = m' ((c.tc : Thread Cert.ReferenceFlashIdeal.nD Cert.ReferenceFlashIdeal.τ).loc Cert.ReferenceFlashIdeal.main_arg2))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v1) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v2) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelDwglu_KernelDwgluIdeal : Prop :=
  True

def algebraic_KernelDwgluIdeal_ReferenceDwgluIdeal [hKernelDwgluIdeal : Cert.KernelDwgluIdeal.Facts] [hReferenceDwgluIdeal : Cert.ReferenceDwgluIdeal.Facts] : Prop :=
  ∀ (m : (ℓ : Loc Cert.KernelDwgluIdeal.nD Cert.KernelDwgluIdeal.τ Cert.KernelDwgluIdeal.sig) → Buf (Elt Ideal) ℓ) (g : Dev Cert.KernelDwgluIdeal.nD → PrngReg)
    (m' : (ℓ : Loc Cert.ReferenceDwgluIdeal.nD Cert.ReferenceDwgluIdeal.τ Cert.ReferenceDwgluIdeal.sig) → Buf (Elt Ideal) ℓ) (g' : Dev Cert.ReferenceDwgluIdeal.nD → PrngReg), Pre_KernelDwgluIdeal m →
    (∀ c : Dev Cert.KernelDwgluIdeal.nD,
      m' ((c.tc : Thread Cert.ReferenceDwgluIdeal.nD Cert.ReferenceDwgluIdeal.τ).loc Cert.ReferenceDwgluIdeal.main_arg0) = m ((c.tc : Thread Cert.KernelDwgluIdeal.nD Cert.KernelDwgluIdeal.τ).loc Cert.KernelDwgluIdeal.main_arg0)
      ∧ m' ((c.tc : Thread Cert.ReferenceDwgluIdeal.nD Cert.ReferenceDwgluIdeal.τ).loc Cert.ReferenceDwgluIdeal.main_arg1) = m ((c.tc : Thread Cert.KernelDwgluIdeal.nD Cert.KernelDwgluIdeal.τ).loc Cert.KernelDwgluIdeal.main_arg1)
      ∧ m' ((c.tc : Thread Cert.ReferenceDwgluIdeal.nD Cert.ReferenceDwgluIdeal.τ).loc Cert.ReferenceDwgluIdeal.main_arg2) = m ((c.tc : Thread Cert.KernelDwgluIdeal.nD Cert.KernelDwgluIdeal.τ).loc Cert.KernelDwgluIdeal.main_arg2)) →
    ∃ (v0 : (c : Dev Cert.KernelDwgluIdeal.nD) → Buf (Elt Ideal) ((c.tc : Thread Cert.KernelDwgluIdeal.nD Cert.KernelDwgluIdeal.τ).loc Cert.KernelDwgluIdeal.main_v0)),
      θ_run (Cert.KernelDwgluIdeal.defs (F := Ideal)) (onTc (τ := Cert.KernelDwgluIdeal.τ) (Cert.KernelDwgluIdeal.main (F := Ideal))) ⟨m, fun _ => 0, g⟩ (fun r => ∀ c : Dev Cert.KernelDwgluIdeal.nD,
          r.2.mem ((c.tc : Thread Cert.KernelDwgluIdeal.nD Cert.KernelDwgluIdeal.τ).loc Cert.KernelDwgluIdeal.main_v0) = v0 c
          ∧ r.2.mem ((c.tc : Thread Cert.KernelDwgluIdeal.nD Cert.KernelDwgluIdeal.τ).loc Cert.KernelDwgluIdeal.main_arg0) = m ((c.tc : Thread Cert.KernelDwgluIdeal.nD Cert.KernelDwgluIdeal.τ).loc Cert.KernelDwgluIdeal.main_arg0)
          ∧ r.2.mem ((c.tc : Thread Cert.KernelDwgluIdeal.nD Cert.KernelDwgluIdeal.τ).loc Cert.KernelDwgluIdeal.main_arg1) = m ((c.tc : Thread Cert.KernelDwgluIdeal.nD Cert.KernelDwgluIdeal.τ).loc Cert.KernelDwgluIdeal.main_arg1)
          ∧ r.2.mem ((c.tc : Thread Cert.KernelDwgluIdeal.nD Cert.KernelDwgluIdeal.τ).loc Cert.KernelDwgluIdeal.main_arg2) = m ((c.tc : Thread Cert.KernelDwgluIdeal.nD Cert.KernelDwgluIdeal.τ).loc Cert.KernelDwgluIdeal.main_arg2))
      ∧ θ_run (Cert.ReferenceDwgluIdeal.defs (F := Ideal)) (onTc (τ := Cert.ReferenceDwgluIdeal.τ) (Cert.ReferenceDwgluIdeal.main (F := Ideal))) ⟨m', fun _ => 0, g'⟩ (fun r => ∀ c : Dev Cert.ReferenceDwgluIdeal.nD,
          r.2.mem ((c.tc : Thread Cert.ReferenceDwgluIdeal.nD Cert.ReferenceDwgluIdeal.τ).loc Cert.ReferenceDwgluIdeal.main_v8) = v0 c
          ∧ r.2.mem ((c.tc : Thread Cert.ReferenceDwgluIdeal.nD Cert.ReferenceDwgluIdeal.τ).loc Cert.ReferenceDwgluIdeal.main_arg0) = m' ((c.tc : Thread Cert.ReferenceDwgluIdeal.nD Cert.ReferenceDwgluIdeal.τ).loc Cert.ReferenceDwgluIdeal.main_arg0)
          ∧ r.2.mem ((c.tc : Thread Cert.ReferenceDwgluIdeal.nD Cert.ReferenceDwgluIdeal.τ).loc Cert.ReferenceDwgluIdeal.main_arg1) = m' ((c.tc : Thread Cert.ReferenceDwgluIdeal.nD Cert.ReferenceDwgluIdeal.τ).loc Cert.ReferenceDwgluIdeal.main_arg1)
          ∧ r.2.mem ((c.tc : Thread Cert.ReferenceDwgluIdeal.nD Cert.ReferenceDwgluIdeal.τ).loc Cert.ReferenceDwgluIdeal.main_arg2) = m' ((c.tc : Thread Cert.ReferenceDwgluIdeal.nD Cert.ReferenceDwgluIdeal.τ).loc Cert.ReferenceDwgluIdeal.main_arg2))

def preserves_KernelDz_KernelDzIdeal : Prop :=
  True

def algebraic_KernelDzIdeal_ReferenceDzIdeal [hKernelDzIdeal : Cert.KernelDzIdeal.Facts] [hReferenceDzIdeal : Cert.ReferenceDzIdeal.Facts] : Prop :=
  ∀ (m : (ℓ : Loc Cert.KernelDzIdeal.nD Cert.KernelDzIdeal.τ Cert.KernelDzIdeal.sig) → Buf (Elt Ideal) ℓ) (g : Dev Cert.KernelDzIdeal.nD → PrngReg)
    (m' : (ℓ : Loc Cert.ReferenceDzIdeal.nD Cert.ReferenceDzIdeal.τ Cert.ReferenceDzIdeal.sig) → Buf (Elt Ideal) ℓ) (g' : Dev Cert.ReferenceDzIdeal.nD → PrngReg), Pre_KernelDzIdeal m →
    (∀ c : Dev Cert.KernelDzIdeal.nD,
      m' ((c.tc : Thread Cert.ReferenceDzIdeal.nD Cert.ReferenceDzIdeal.τ).loc Cert.ReferenceDzIdeal.main_arg0) = m ((c.tc : Thread Cert.KernelDzIdeal.nD Cert.KernelDzIdeal.τ).loc Cert.KernelDzIdeal.main_arg0)
      ∧ m' ((c.tc : Thread Cert.ReferenceDzIdeal.nD Cert.ReferenceDzIdeal.τ).loc Cert.ReferenceDzIdeal.main_arg1) = m ((c.tc : Thread Cert.KernelDzIdeal.nD Cert.KernelDzIdeal.τ).loc Cert.KernelDzIdeal.main_arg1)
      ∧ m' ((c.tc : Thread Cert.ReferenceDzIdeal.nD Cert.ReferenceDzIdeal.τ).loc Cert.ReferenceDzIdeal.main_arg2) = m ((c.tc : Thread Cert.KernelDzIdeal.nD Cert.KernelDzIdeal.τ).loc Cert.KernelDzIdeal.main_arg2)) →
    ∃ (v0 : (c : Dev Cert.KernelDzIdeal.nD) → Buf (Elt Ideal) ((c.tc : Thread Cert.KernelDzIdeal.nD Cert.KernelDzIdeal.τ).loc Cert.KernelDzIdeal.main_v1)),
      θ_run (Cert.KernelDzIdeal.defs (F := Ideal)) (onTc (τ := Cert.KernelDzIdeal.τ) (Cert.KernelDzIdeal.main (F := Ideal))) ⟨m, fun _ => 0, g⟩ (fun r => ∀ c : Dev Cert.KernelDzIdeal.nD,
          r.2.mem ((c.tc : Thread Cert.KernelDzIdeal.nD Cert.KernelDzIdeal.τ).loc Cert.KernelDzIdeal.main_v1) = v0 c
          ∧ r.2.mem ((c.tc : Thread Cert.KernelDzIdeal.nD Cert.KernelDzIdeal.τ).loc Cert.KernelDzIdeal.main_arg0) = m ((c.tc : Thread Cert.KernelDzIdeal.nD Cert.KernelDzIdeal.τ).loc Cert.KernelDzIdeal.main_arg0)
          ∧ r.2.mem ((c.tc : Thread Cert.KernelDzIdeal.nD Cert.KernelDzIdeal.τ).loc Cert.KernelDzIdeal.main_arg1) = m ((c.tc : Thread Cert.KernelDzIdeal.nD Cert.KernelDzIdeal.τ).loc Cert.KernelDzIdeal.main_arg1)
          ∧ r.2.mem ((c.tc : Thread Cert.KernelDzIdeal.nD Cert.KernelDzIdeal.τ).loc Cert.KernelDzIdeal.main_arg2) = m ((c.tc : Thread Cert.KernelDzIdeal.nD Cert.KernelDzIdeal.τ).loc Cert.KernelDzIdeal.main_arg2))
      ∧ θ_run (Cert.ReferenceDzIdeal.defs (F := Ideal)) (onTc (τ := Cert.ReferenceDzIdeal.τ) (Cert.ReferenceDzIdeal.main (F := Ideal))) ⟨m', fun _ => 0, g'⟩ (fun r => ∀ c : Dev Cert.ReferenceDzIdeal.nD,
          r.2.mem ((c.tc : Thread Cert.ReferenceDzIdeal.nD Cert.ReferenceDzIdeal.τ).loc Cert.ReferenceDzIdeal.main_v6) = v0 c
          ∧ r.2.mem ((c.tc : Thread Cert.ReferenceDzIdeal.nD Cert.ReferenceDzIdeal.τ).loc Cert.ReferenceDzIdeal.main_arg0) = m' ((c.tc : Thread Cert.ReferenceDzIdeal.nD Cert.ReferenceDzIdeal.τ).loc Cert.ReferenceDzIdeal.main_arg0)
          ∧ r.2.mem ((c.tc : Thread Cert.ReferenceDzIdeal.nD Cert.ReferenceDzIdeal.τ).loc Cert.ReferenceDzIdeal.main_arg1) = m' ((c.tc : Thread Cert.ReferenceDzIdeal.nD Cert.ReferenceDzIdeal.τ).loc Cert.ReferenceDzIdeal.main_arg1)
          ∧ r.2.mem ((c.tc : Thread Cert.ReferenceDzIdeal.nD Cert.ReferenceDzIdeal.τ).loc Cert.ReferenceDzIdeal.main_arg2) = m' ((c.tc : Thread Cert.ReferenceDzIdeal.nD Cert.ReferenceDzIdeal.τ).loc Cert.ReferenceDzIdeal.main_arg2))

def preserves_KernelLow_KernelLowIdeal : Prop :=
  True

def algebraic_KernelLowIdeal_ReferenceLowIdeal [hKernelLowIdeal : Cert.KernelLowIdeal.Facts] [hReferenceLowIdeal : Cert.ReferenceLowIdeal.Facts] : Prop :=
  ∀ (m : (ℓ : Loc Cert.KernelLowIdeal.nD Cert.KernelLowIdeal.τ Cert.KernelLowIdeal.sig) → Buf (Elt Ideal) ℓ) (g : Dev Cert.KernelLowIdeal.nD → PrngReg)
    (m' : (ℓ : Loc Cert.ReferenceLowIdeal.nD Cert.ReferenceLowIdeal.τ Cert.ReferenceLowIdeal.sig) → Buf (Elt Ideal) ℓ) (g' : Dev Cert.ReferenceLowIdeal.nD → PrngReg), Pre_KernelLowIdeal m →
    (∀ c : Dev Cert.KernelLowIdeal.nD,
      m' ((c.tc : Thread Cert.ReferenceLowIdeal.nD Cert.ReferenceLowIdeal.τ).loc Cert.ReferenceLowIdeal.main_arg0) = m ((c.tc : Thread Cert.KernelLowIdeal.nD Cert.KernelLowIdeal.τ).loc Cert.KernelLowIdeal.main_arg0)
      ∧ m' ((c.tc : Thread Cert.ReferenceLowIdeal.nD Cert.ReferenceLowIdeal.τ).loc Cert.ReferenceLowIdeal.main_arg1) = m ((c.tc : Thread Cert.KernelLowIdeal.nD Cert.KernelLowIdeal.τ).loc Cert.KernelLowIdeal.main_arg1)) →
    ∃ (v0 : (c : Dev Cert.KernelLowIdeal.nD) → Buf (Elt Ideal) ((c.tc : Thread Cert.KernelLowIdeal.nD Cert.KernelLowIdeal.τ).loc Cert.KernelLowIdeal.main_v1)),
      θ_run (Cert.KernelLowIdeal.defs (F := Ideal)) (onTc (τ := Cert.KernelLowIdeal.τ) (Cert.KernelLowIdeal.main (F := Ideal))) ⟨m, fun _ => 0, g⟩ (fun r => ∀ c : Dev Cert.KernelLowIdeal.nD,
          r.2.mem ((c.tc : Thread Cert.KernelLowIdeal.nD Cert.KernelLowIdeal.τ).loc Cert.KernelLowIdeal.main_v1) = v0 c
          ∧ r.2.mem ((c.tc : Thread Cert.KernelLowIdeal.nD Cert.KernelLowIdeal.τ).loc Cert.KernelLowIdeal.main_arg0) = m ((c.tc : Thread Cert.KernelLowIdeal.nD Cert.KernelLowIdeal.τ).loc Cert.KernelLowIdeal.main_arg0)
          ∧ r.2.mem ((c.tc : Thread Cert.KernelLowIdeal.nD Cert.KernelLowIdeal.τ).loc Cert.KernelLowIdeal.main_arg1) = m ((c.tc : Thread Cert.KernelLowIdeal.nD Cert.KernelLowIdeal.τ).loc Cert.KernelLowIdeal.main_arg1))
      ∧ θ_run (Cert.ReferenceLowIdeal.defs (F := Ideal)) (onTc (τ := Cert.ReferenceLowIdeal.τ) (Cert.ReferenceLowIdeal.main (F := Ideal))) ⟨m', fun _ => 0, g'⟩ (fun r => ∀ c : Dev Cert.ReferenceLowIdeal.nD,
          r.2.mem ((c.tc : Thread Cert.ReferenceLowIdeal.nD Cert.ReferenceLowIdeal.τ).loc Cert.ReferenceLowIdeal.main_v2) = v0 c
          ∧ r.2.mem ((c.tc : Thread Cert.ReferenceLowIdeal.nD Cert.ReferenceLowIdeal.τ).loc Cert.ReferenceLowIdeal.main_arg0) = m' ((c.tc : Thread Cert.ReferenceLowIdeal.nD Cert.ReferenceLowIdeal.τ).loc Cert.ReferenceLowIdeal.main_arg0)
          ∧ r.2.mem ((c.tc : Thread Cert.ReferenceLowIdeal.nD Cert.ReferenceLowIdeal.τ).loc Cert.ReferenceLowIdeal.main_arg1) = m' ((c.tc : Thread Cert.ReferenceLowIdeal.nD Cert.ReferenceLowIdeal.τ).loc Cert.ReferenceLowIdeal.main_arg1))

def preserves_KernelDwlow_KernelDwlowIdeal : Prop :=
  True

def algebraic_KernelDwlowIdeal_ReferenceDwlowIdeal [hKernelDwlowIdeal : Cert.KernelDwlowIdeal.Facts] [hReferenceDwlowIdeal : Cert.ReferenceDwlowIdeal.Facts] : Prop :=
  ∀ (m : (ℓ : Loc Cert.KernelDwlowIdeal.nD Cert.KernelDwlowIdeal.τ Cert.KernelDwlowIdeal.sig) → Buf (Elt Ideal) ℓ) (g : Dev Cert.KernelDwlowIdeal.nD → PrngReg)
    (m' : (ℓ : Loc Cert.ReferenceDwlowIdeal.nD Cert.ReferenceDwlowIdeal.τ Cert.ReferenceDwlowIdeal.sig) → Buf (Elt Ideal) ℓ) (g' : Dev Cert.ReferenceDwlowIdeal.nD → PrngReg), Pre_KernelDwlowIdeal m →
    (∀ c : Dev Cert.KernelDwlowIdeal.nD,
      m' ((c.tc : Thread Cert.ReferenceDwlowIdeal.nD Cert.ReferenceDwlowIdeal.τ).loc Cert.ReferenceDwlowIdeal.main_arg0) = m ((c.tc : Thread Cert.KernelDwlowIdeal.nD Cert.KernelDwlowIdeal.τ).loc Cert.KernelDwlowIdeal.main_arg0)
      ∧ m' ((c.tc : Thread Cert.ReferenceDwlowIdeal.nD Cert.ReferenceDwlowIdeal.τ).loc Cert.ReferenceDwlowIdeal.main_arg1) = m ((c.tc : Thread Cert.KernelDwlowIdeal.nD Cert.KernelDwlowIdeal.τ).loc Cert.KernelDwlowIdeal.main_arg1)
      ∧ m' ((c.tc : Thread Cert.ReferenceDwlowIdeal.nD Cert.ReferenceDwlowIdeal.τ).loc Cert.ReferenceDwlowIdeal.main_arg2) = m ((c.tc : Thread Cert.KernelDwlowIdeal.nD Cert.KernelDwlowIdeal.τ).loc Cert.KernelDwlowIdeal.main_arg2)) →
    ∃ (v0 : (c : Dev Cert.KernelDwlowIdeal.nD) → Buf (Elt Ideal) ((c.tc : Thread Cert.KernelDwlowIdeal.nD Cert.KernelDwlowIdeal.τ).loc Cert.KernelDwlowIdeal.main_v0)),
      θ_run (Cert.KernelDwlowIdeal.defs (F := Ideal)) (onTc (τ := Cert.KernelDwlowIdeal.τ) (Cert.KernelDwlowIdeal.main (F := Ideal))) ⟨m, fun _ => 0, g⟩ (fun r => ∀ c : Dev Cert.KernelDwlowIdeal.nD,
          r.2.mem ((c.tc : Thread Cert.KernelDwlowIdeal.nD Cert.KernelDwlowIdeal.τ).loc Cert.KernelDwlowIdeal.main_v0) = v0 c
          ∧ r.2.mem ((c.tc : Thread Cert.KernelDwlowIdeal.nD Cert.KernelDwlowIdeal.τ).loc Cert.KernelDwlowIdeal.main_arg0) = m ((c.tc : Thread Cert.KernelDwlowIdeal.nD Cert.KernelDwlowIdeal.τ).loc Cert.KernelDwlowIdeal.main_arg0)
          ∧ r.2.mem ((c.tc : Thread Cert.KernelDwlowIdeal.nD Cert.KernelDwlowIdeal.τ).loc Cert.KernelDwlowIdeal.main_arg1) = m ((c.tc : Thread Cert.KernelDwlowIdeal.nD Cert.KernelDwlowIdeal.τ).loc Cert.KernelDwlowIdeal.main_arg1)
          ∧ r.2.mem ((c.tc : Thread Cert.KernelDwlowIdeal.nD Cert.KernelDwlowIdeal.τ).loc Cert.KernelDwlowIdeal.main_arg2) = m ((c.tc : Thread Cert.KernelDwlowIdeal.nD Cert.KernelDwlowIdeal.τ).loc Cert.KernelDwlowIdeal.main_arg2))
      ∧ θ_run (Cert.ReferenceDwlowIdeal.defs (F := Ideal)) (onTc (τ := Cert.ReferenceDwlowIdeal.τ) (Cert.ReferenceDwlowIdeal.main (F := Ideal))) ⟨m', fun _ => 0, g'⟩ (fun r => ∀ c : Dev Cert.ReferenceDwlowIdeal.nD,
          r.2.mem ((c.tc : Thread Cert.ReferenceDwlowIdeal.nD Cert.ReferenceDwlowIdeal.τ).loc Cert.ReferenceDwlowIdeal.main_v8) = v0 c
          ∧ r.2.mem ((c.tc : Thread Cert.ReferenceDwlowIdeal.nD Cert.ReferenceDwlowIdeal.τ).loc Cert.ReferenceDwlowIdeal.main_arg0) = m' ((c.tc : Thread Cert.ReferenceDwlowIdeal.nD Cert.ReferenceDwlowIdeal.τ).loc Cert.ReferenceDwlowIdeal.main_arg0)
          ∧ r.2.mem ((c.tc : Thread Cert.ReferenceDwlowIdeal.nD Cert.ReferenceDwlowIdeal.τ).loc Cert.ReferenceDwlowIdeal.main_arg1) = m' ((c.tc : Thread Cert.ReferenceDwlowIdeal.nD Cert.ReferenceDwlowIdeal.τ).loc Cert.ReferenceDwlowIdeal.main_arg1)
          ∧ r.2.mem ((c.tc : Thread Cert.ReferenceDwlowIdeal.nD Cert.ReferenceDwlowIdeal.τ).loc Cert.ReferenceDwlowIdeal.main_arg2) = m' ((c.tc : Thread Cert.ReferenceDwlowIdeal.nD Cert.ReferenceDwlowIdeal.τ).loc Cert.ReferenceDwlowIdeal.main_arg2))

def preserves_KernelDlow_KernelDlowIdeal : Prop :=
  True

def algebraic_KernelDlowIdeal_ReferenceDlowIdeal [hKernelDlowIdeal : Cert.KernelDlowIdeal.Facts] [hReferenceDlowIdeal : Cert.ReferenceDlowIdeal.Facts] : Prop :=
  ∀ (m : (ℓ : Loc Cert.KernelDlowIdeal.nD Cert.KernelDlowIdeal.τ Cert.KernelDlowIdeal.sig) → Buf (Elt Ideal) ℓ) (g : Dev Cert.KernelDlowIdeal.nD → PrngReg)
    (m' : (ℓ : Loc Cert.ReferenceDlowIdeal.nD Cert.ReferenceDlowIdeal.τ Cert.ReferenceDlowIdeal.sig) → Buf (Elt Ideal) ℓ) (g' : Dev Cert.ReferenceDlowIdeal.nD → PrngReg), Pre_KernelDlowIdeal m →
    (∀ c : Dev Cert.KernelDlowIdeal.nD,
      m' ((c.tc : Thread Cert.ReferenceDlowIdeal.nD Cert.ReferenceDlowIdeal.τ).loc Cert.ReferenceDlowIdeal.main_arg0) = m ((c.tc : Thread Cert.KernelDlowIdeal.nD Cert.KernelDlowIdeal.τ).loc Cert.KernelDlowIdeal.main_arg0)
      ∧ m' ((c.tc : Thread Cert.ReferenceDlowIdeal.nD Cert.ReferenceDlowIdeal.τ).loc Cert.ReferenceDlowIdeal.main_arg1) = m ((c.tc : Thread Cert.KernelDlowIdeal.nD Cert.KernelDlowIdeal.τ).loc Cert.KernelDlowIdeal.main_arg1)
      ∧ m' ((c.tc : Thread Cert.ReferenceDlowIdeal.nD Cert.ReferenceDlowIdeal.τ).loc Cert.ReferenceDlowIdeal.main_arg2) = m ((c.tc : Thread Cert.KernelDlowIdeal.nD Cert.KernelDlowIdeal.τ).loc Cert.KernelDlowIdeal.main_arg2)) →
    ∃ (v0 : (c : Dev Cert.KernelDlowIdeal.nD) → Buf (Elt Ideal) ((c.tc : Thread Cert.KernelDlowIdeal.nD Cert.KernelDlowIdeal.τ).loc Cert.KernelDlowIdeal.main_v1)),
      θ_run (Cert.KernelDlowIdeal.defs (F := Ideal)) (onTc (τ := Cert.KernelDlowIdeal.τ) (Cert.KernelDlowIdeal.main (F := Ideal))) ⟨m, fun _ => 0, g⟩ (fun r => ∀ c : Dev Cert.KernelDlowIdeal.nD,
          r.2.mem ((c.tc : Thread Cert.KernelDlowIdeal.nD Cert.KernelDlowIdeal.τ).loc Cert.KernelDlowIdeal.main_v1) = v0 c
          ∧ r.2.mem ((c.tc : Thread Cert.KernelDlowIdeal.nD Cert.KernelDlowIdeal.τ).loc Cert.KernelDlowIdeal.main_arg0) = m ((c.tc : Thread Cert.KernelDlowIdeal.nD Cert.KernelDlowIdeal.τ).loc Cert.KernelDlowIdeal.main_arg0)
          ∧ r.2.mem ((c.tc : Thread Cert.KernelDlowIdeal.nD Cert.KernelDlowIdeal.τ).loc Cert.KernelDlowIdeal.main_arg1) = m ((c.tc : Thread Cert.KernelDlowIdeal.nD Cert.KernelDlowIdeal.τ).loc Cert.KernelDlowIdeal.main_arg1)
          ∧ r.2.mem ((c.tc : Thread Cert.KernelDlowIdeal.nD Cert.KernelDlowIdeal.τ).loc Cert.KernelDlowIdeal.main_arg2) = m ((c.tc : Thread Cert.KernelDlowIdeal.nD Cert.KernelDlowIdeal.τ).loc Cert.KernelDlowIdeal.main_arg2))
      ∧ θ_run (Cert.ReferenceDlowIdeal.defs (F := Ideal)) (onTc (τ := Cert.ReferenceDlowIdeal.τ) (Cert.ReferenceDlowIdeal.main (F := Ideal))) ⟨m', fun _ => 0, g'⟩ (fun r => ∀ c : Dev Cert.ReferenceDlowIdeal.nD,
          r.2.mem ((c.tc : Thread Cert.ReferenceDlowIdeal.nD Cert.ReferenceDlowIdeal.τ).loc Cert.ReferenceDlowIdeal.main_v6) = v0 c
          ∧ r.2.mem ((c.tc : Thread Cert.ReferenceDlowIdeal.nD Cert.ReferenceDlowIdeal.τ).loc Cert.ReferenceDlowIdeal.main_arg0) = m' ((c.tc : Thread Cert.ReferenceDlowIdeal.nD Cert.ReferenceDlowIdeal.τ).loc Cert.ReferenceDlowIdeal.main_arg0)
          ∧ r.2.mem ((c.tc : Thread Cert.ReferenceDlowIdeal.nD Cert.ReferenceDlowIdeal.τ).loc Cert.ReferenceDlowIdeal.main_arg1) = m' ((c.tc : Thread Cert.ReferenceDlowIdeal.nD Cert.ReferenceDlowIdeal.τ).loc Cert.ReferenceDlowIdeal.main_arg1)
          ∧ r.2.mem ((c.tc : Thread Cert.ReferenceDlowIdeal.nD Cert.ReferenceDlowIdeal.τ).loc Cert.ReferenceDlowIdeal.main_arg2) = m' ((c.tc : Thread Cert.ReferenceDlowIdeal.nD Cert.ReferenceDlowIdeal.τ).loc Cert.ReferenceDlowIdeal.main_arg2))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)) →
    ∃ (v0 : (c : Dev Cert.KernelUqIdeal.nD) → Buf (Elt Ideal) ((c.tc : Thread Cert.KernelUqIdeal.nD Cert.KernelUqIdeal.τ).loc Cert.KernelUqIdeal.main_v3)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v3) = v0 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v2) = v0 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1))

def preserves_KernelDwuq_KernelDwuqIdeal : Prop :=
  True

def algebraic_KernelDwuqIdeal_ReferenceDwuqIdeal [hKernelDwuqIdeal : Cert.KernelDwuqIdeal.Facts] [hReferenceDwuqIdeal : Cert.ReferenceDwuqIdeal.Facts] : Prop :=
  ∀ (m : (ℓ : Loc Cert.KernelDwuqIdeal.nD Cert.KernelDwuqIdeal.τ Cert.KernelDwuqIdeal.sig) → Buf (Elt Ideal) ℓ) (g : Dev Cert.KernelDwuqIdeal.nD → PrngReg)
    (m' : (ℓ : Loc Cert.ReferenceDwuqIdeal.nD Cert.ReferenceDwuqIdeal.τ Cert.ReferenceDwuqIdeal.sig) → Buf (Elt Ideal) ℓ) (g' : Dev Cert.ReferenceDwuqIdeal.nD → PrngReg), Pre_KernelDwuqIdeal m →
    (∀ c : Dev Cert.KernelDwuqIdeal.nD,
      m' ((c.tc : Thread Cert.ReferenceDwuqIdeal.nD Cert.ReferenceDwuqIdeal.τ).loc Cert.ReferenceDwuqIdeal.main_arg0) = m ((c.tc : Thread Cert.KernelDwuqIdeal.nD Cert.KernelDwuqIdeal.τ).loc Cert.KernelDwuqIdeal.main_arg0)
      ∧ m' ((c.tc : Thread Cert.ReferenceDwuqIdeal.nD Cert.ReferenceDwuqIdeal.τ).loc Cert.ReferenceDwuqIdeal.main_arg1) = m ((c.tc : Thread Cert.KernelDwuqIdeal.nD Cert.KernelDwuqIdeal.τ).loc Cert.KernelDwuqIdeal.main_arg1)
      ∧ m' ((c.tc : Thread Cert.ReferenceDwuqIdeal.nD Cert.ReferenceDwuqIdeal.τ).loc Cert.ReferenceDwuqIdeal.main_arg2) = m ((c.tc : Thread Cert.KernelDwuqIdeal.nD Cert.KernelDwuqIdeal.τ).loc Cert.KernelDwuqIdeal.main_arg2)) →
    ∃ (v0 : (c : Dev Cert.KernelDwuqIdeal.nD) → Buf (Elt Ideal) ((c.tc : Thread Cert.KernelDwuqIdeal.nD Cert.KernelDwuqIdeal.τ).loc Cert.KernelDwuqIdeal.main_v0)),
      θ_run (Cert.KernelDwuqIdeal.defs (F := Ideal)) (onTc (τ := Cert.KernelDwuqIdeal.τ) (Cert.KernelDwuqIdeal.main (F := Ideal))) ⟨m, fun _ => 0, g⟩ (fun r => ∀ c : Dev Cert.KernelDwuqIdeal.nD,
          r.2.mem ((c.tc : Thread Cert.KernelDwuqIdeal.nD Cert.KernelDwuqIdeal.τ).loc Cert.KernelDwuqIdeal.main_v0) = v0 c
          ∧ r.2.mem ((c.tc : Thread Cert.KernelDwuqIdeal.nD Cert.KernelDwuqIdeal.τ).loc Cert.KernelDwuqIdeal.main_arg0) = m ((c.tc : Thread Cert.KernelDwuqIdeal.nD Cert.KernelDwuqIdeal.τ).loc Cert.KernelDwuqIdeal.main_arg0)
          ∧ r.2.mem ((c.tc : Thread Cert.KernelDwuqIdeal.nD Cert.KernelDwuqIdeal.τ).loc Cert.KernelDwuqIdeal.main_arg1) = m ((c.tc : Thread Cert.KernelDwuqIdeal.nD Cert.KernelDwuqIdeal.τ).loc Cert.KernelDwuqIdeal.main_arg1)
          ∧ r.2.mem ((c.tc : Thread Cert.KernelDwuqIdeal.nD Cert.KernelDwuqIdeal.τ).loc Cert.KernelDwuqIdeal.main_arg2) = m ((c.tc : Thread Cert.KernelDwuqIdeal.nD Cert.KernelDwuqIdeal.τ).loc Cert.KernelDwuqIdeal.main_arg2))
      ∧ θ_run (Cert.ReferenceDwuqIdeal.defs (F := Ideal)) (onTc (τ := Cert.ReferenceDwuqIdeal.τ) (Cert.ReferenceDwuqIdeal.main (F := Ideal))) ⟨m', fun _ => 0, g'⟩ (fun r => ∀ c : Dev Cert.ReferenceDwuqIdeal.nD,
          r.2.mem ((c.tc : Thread Cert.ReferenceDwuqIdeal.nD Cert.ReferenceDwuqIdeal.τ).loc Cert.ReferenceDwuqIdeal.main_v9) = v0 c
          ∧ r.2.mem ((c.tc : Thread Cert.ReferenceDwuqIdeal.nD Cert.ReferenceDwuqIdeal.τ).loc Cert.ReferenceDwuqIdeal.main_arg0) = m' ((c.tc : Thread Cert.ReferenceDwuqIdeal.nD Cert.ReferenceDwuqIdeal.τ).loc Cert.ReferenceDwuqIdeal.main_arg0)
          ∧ r.2.mem ((c.tc : Thread Cert.ReferenceDwuqIdeal.nD Cert.ReferenceDwuqIdeal.τ).loc Cert.ReferenceDwuqIdeal.main_arg1) = m' ((c.tc : Thread Cert.ReferenceDwuqIdeal.nD Cert.ReferenceDwuqIdeal.τ).loc Cert.ReferenceDwuqIdeal.main_arg1)
          ∧ r.2.mem ((c.tc : Thread Cert.ReferenceDwuqIdeal.nD Cert.ReferenceDwuqIdeal.τ).loc Cert.ReferenceDwuqIdeal.main_arg2) = m' ((c.tc : Thread Cert.ReferenceDwuqIdeal.nD Cert.ReferenceDwuqIdeal.τ).loc Cert.ReferenceDwuqIdeal.main_arg2))

def preserves_KernelDcq_KernelDcqIdeal : Prop :=
  True

def algebraic_KernelDcqIdeal_ReferenceDcqIdeal [hKernelDcqIdeal : Cert.KernelDcqIdeal.Facts] [hReferenceDcqIdeal : Cert.ReferenceDcqIdeal.Facts] : Prop :=
  ∀ (m : (ℓ : Loc Cert.KernelDcqIdeal.nD Cert.KernelDcqIdeal.τ Cert.KernelDcqIdeal.sig) → Buf (Elt Ideal) ℓ) (g : Dev Cert.KernelDcqIdeal.nD → PrngReg)
    (m' : (ℓ : Loc Cert.ReferenceDcqIdeal.nD Cert.ReferenceDcqIdeal.τ Cert.ReferenceDcqIdeal.sig) → Buf (Elt Ideal) ℓ) (g' : Dev Cert.ReferenceDcqIdeal.nD → PrngReg), Pre_KernelDcqIdeal m →
    (∀ c : Dev Cert.KernelDcqIdeal.nD,
      m' ((c.tc : Thread Cert.ReferenceDcqIdeal.nD Cert.ReferenceDcqIdeal.τ).loc Cert.ReferenceDcqIdeal.main_arg0) = m ((c.tc : Thread Cert.KernelDcqIdeal.nD Cert.KernelDcqIdeal.τ).loc Cert.KernelDcqIdeal.main_arg0)
      ∧ m' ((c.tc : Thread Cert.ReferenceDcqIdeal.nD Cert.ReferenceDcqIdeal.τ).loc Cert.ReferenceDcqIdeal.main_arg1) = m ((c.tc : Thread Cert.KernelDcqIdeal.nD Cert.KernelDcqIdeal.τ).loc Cert.KernelDcqIdeal.main_arg1)
      ∧ m' ((c.tc : Thread Cert.ReferenceDcqIdeal.nD Cert.ReferenceDcqIdeal.τ).loc Cert.ReferenceDcqIdeal.main_arg2) = m ((c.tc : Thread Cert.KernelDcqIdeal.nD Cert.KernelDcqIdeal.τ).loc Cert.KernelDcqIdeal.main_arg2)) →
    ∃ (v0 : (c : Dev Cert.KernelDcqIdeal.nD) → Buf (Elt Ideal) ((c.tc : Thread Cert.KernelDcqIdeal.nD Cert.KernelDcqIdeal.τ).loc Cert.KernelDcqIdeal.main_v3)),
      θ_run (Cert.KernelDcqIdeal.defs (F := Ideal)) (onTc (τ := Cert.KernelDcqIdeal.τ) (Cert.KernelDcqIdeal.main (F := Ideal))) ⟨m, fun _ => 0, g⟩ (fun r => ∀ c : Dev Cert.KernelDcqIdeal.nD,
          r.2.mem ((c.tc : Thread Cert.KernelDcqIdeal.nD Cert.KernelDcqIdeal.τ).loc Cert.KernelDcqIdeal.main_v3) = v0 c
          ∧ r.2.mem ((c.tc : Thread Cert.KernelDcqIdeal.nD Cert.KernelDcqIdeal.τ).loc Cert.KernelDcqIdeal.main_arg0) = m ((c.tc : Thread Cert.KernelDcqIdeal.nD Cert.KernelDcqIdeal.τ).loc Cert.KernelDcqIdeal.main_arg0)
          ∧ r.2.mem ((c.tc : Thread Cert.KernelDcqIdeal.nD Cert.KernelDcqIdeal.τ).loc Cert.KernelDcqIdeal.main_arg1) = m ((c.tc : Thread Cert.KernelDcqIdeal.nD Cert.KernelDcqIdeal.τ).loc Cert.KernelDcqIdeal.main_arg1)
          ∧ r.2.mem ((c.tc : Thread Cert.KernelDcqIdeal.nD Cert.KernelDcqIdeal.τ).loc Cert.KernelDcqIdeal.main_arg2) = m ((c.tc : Thread Cert.KernelDcqIdeal.nD Cert.KernelDcqIdeal.τ).loc Cert.KernelDcqIdeal.main_arg2))
      ∧ θ_run (Cert.ReferenceDcqIdeal.defs (F := Ideal)) (onTc (τ := Cert.ReferenceDcqIdeal.τ) (Cert.ReferenceDcqIdeal.main (F := Ideal))) ⟨m', fun _ => 0, g'⟩ (fun r => ∀ c : Dev Cert.ReferenceDcqIdeal.nD,
          r.2.mem ((c.tc : Thread Cert.ReferenceDcqIdeal.nD Cert.ReferenceDcqIdeal.τ).loc Cert.ReferenceDcqIdeal.main_v6) = v0 c
          ∧ r.2.mem ((c.tc : Thread Cert.ReferenceDcqIdeal.nD Cert.ReferenceDcqIdeal.τ).loc Cert.ReferenceDcqIdeal.main_arg0) = m' ((c.tc : Thread Cert.ReferenceDcqIdeal.nD Cert.ReferenceDcqIdeal.τ).loc Cert.ReferenceDcqIdeal.main_arg0)
          ∧ r.2.mem ((c.tc : Thread Cert.ReferenceDcqIdeal.nD Cert.ReferenceDcqIdeal.τ).loc Cert.ReferenceDcqIdeal.main_arg1) = m' ((c.tc : Thread Cert.ReferenceDcqIdeal.nD Cert.ReferenceDcqIdeal.τ).loc Cert.ReferenceDcqIdeal.main_arg1)
          ∧ r.2.mem ((c.tc : Thread Cert.ReferenceDcqIdeal.nD Cert.ReferenceDcqIdeal.τ).loc Cert.ReferenceDcqIdeal.main_arg2) = m' ((c.tc : Thread Cert.ReferenceDcqIdeal.nD Cert.ReferenceDcqIdeal.τ).loc Cert.ReferenceDcqIdeal.main_arg2))

def preserves_KernelUkv_KernelUkvIdeal : Prop :=
  True

def algebraic_KernelUkvIdeal_ReferenceUkvIdeal [hKernelUkvIdeal : Cert.KernelUkvIdeal.Facts] [hReferenceUkvIdeal : Cert.ReferenceUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg)
    (m' : (ℓ : Loc Cert.ReferenceUkvIdeal.nD Cert.ReferenceUkvIdeal.τ Cert.ReferenceUkvIdeal.sig) → Buf (Elt Ideal) ℓ) (g' : Dev Cert.ReferenceUkvIdeal.nD → PrngReg), Pre_KernelUkvIdeal m →
    (∀ c : Dev Cert.KernelUkvIdeal.nD,
      m' ((c.tc : Thread Cert.ReferenceUkvIdeal.nD Cert.ReferenceUkvIdeal.τ).loc Cert.ReferenceUkvIdeal.main_arg0) = m ((c.tc : Thread Cert.KernelUkvIdeal.nD Cert.KernelUkvIdeal.τ).loc Cert.KernelUkvIdeal.main_arg0)
      ∧ m' ((c.tc : Thread Cert.ReferenceUkvIdeal.nD Cert.ReferenceUkvIdeal.τ).loc Cert.ReferenceUkvIdeal.main_arg1) = m ((c.tc : Thread Cert.KernelUkvIdeal.nD Cert.KernelUkvIdeal.τ).loc Cert.KernelUkvIdeal.main_arg1)) →
    ∃ (v0 : (c : Dev Cert.KernelUkvIdeal.nD) → Buf (Elt Ideal) ((c.tc : Thread Cert.KernelUkvIdeal.nD Cert.KernelUkvIdeal.τ).loc Cert.KernelUkvIdeal.main_v3)),
      θ_run (Cert.KernelUkvIdeal.defs (F := Ideal)) (onTc (τ := Cert.KernelUkvIdeal.τ) (Cert.KernelUkvIdeal.main (F := Ideal))) ⟨m, fun _ => 0, g⟩ (fun r => ∀ c : Dev Cert.KernelUkvIdeal.nD,
          r.2.mem ((c.tc : Thread Cert.KernelUkvIdeal.nD Cert.KernelUkvIdeal.τ).loc Cert.KernelUkvIdeal.main_v3) = v0 c
          ∧ r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
          ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ θ_run (Cert.ReferenceUkvIdeal.defs (F := Ideal)) (onTc (τ := Cert.ReferenceUkvIdeal.τ) (Cert.ReferenceUkvIdeal.main (F := Ideal))) ⟨m', fun _ => 0, g'⟩ (fun r => ∀ c : Dev Cert.ReferenceUkvIdeal.nD,
          r.2.mem ((c.tc : Thread Cert.ReferenceUkvIdeal.nD Cert.ReferenceUkvIdeal.τ).loc Cert.ReferenceUkvIdeal.main_v3) = v0 c
          ∧ r.2.mem ((c.tc : Thread Cert.ReferenceUkvIdeal.nD Cert.ReferenceUkvIdeal.τ).loc Cert.ReferenceUkvIdeal.main_arg0) = m' ((c.tc : Thread Cert.ReferenceUkvIdeal.nD Cert.ReferenceUkvIdeal.τ).loc Cert.ReferenceUkvIdeal.main_arg0)
          ∧ r.2.mem ((c.tc : Thread Cert.ReferenceUkvIdeal.nD Cert.ReferenceUkvIdeal.τ).loc Cert.ReferenceUkvIdeal.main_arg1) = m' ((c.tc : Thread Cert.ReferenceUkvIdeal.nD Cert.ReferenceUkvIdeal.τ).loc Cert.ReferenceUkvIdeal.main_arg1))

def preserves_KernelDwukv_KernelDwukvIdeal : Prop :=
  True

def algebraic_KernelDwukvIdeal_ReferenceDwukvIdeal [hKernelDwukvIdeal : Cert.KernelDwukvIdeal.Facts] [hReferenceDwukvIdeal : Cert.ReferenceDwukvIdeal.Facts] : Prop :=
  ∀ (m : (ℓ : Loc Cert.KernelDwukvIdeal.nD Cert.KernelDwukvIdeal.τ Cert.KernelDwukvIdeal.sig) → Buf (Elt Ideal) ℓ) (g : Dev Cert.KernelDwukvIdeal.nD → PrngReg)
    (m' : (ℓ : Loc Cert.ReferenceDwukvIdeal.nD Cert.ReferenceDwukvIdeal.τ Cert.ReferenceDwukvIdeal.sig) → Buf (Elt Ideal) ℓ) (g' : Dev Cert.ReferenceDwukvIdeal.nD → PrngReg), Pre_KernelDwukvIdeal m →
    (∀ c : Dev Cert.KernelDwukvIdeal.nD,
      m' ((c.tc : Thread Cert.ReferenceDwukvIdeal.nD Cert.ReferenceDwukvIdeal.τ).loc Cert.ReferenceDwukvIdeal.main_arg0) = m ((c.tc : Thread Cert.KernelDwukvIdeal.nD Cert.KernelDwukvIdeal.τ).loc Cert.KernelDwukvIdeal.main_arg0)
      ∧ m' ((c.tc : Thread Cert.ReferenceDwukvIdeal.nD Cert.ReferenceDwukvIdeal.τ).loc Cert.ReferenceDwukvIdeal.main_arg1) = m ((c.tc : Thread Cert.KernelDwukvIdeal.nD Cert.KernelDwukvIdeal.τ).loc Cert.KernelDwukvIdeal.main_arg1)
      ∧ m' ((c.tc : Thread Cert.ReferenceDwukvIdeal.nD Cert.ReferenceDwukvIdeal.τ).loc Cert.ReferenceDwukvIdeal.main_arg2) = m ((c.tc : Thread Cert.KernelDwukvIdeal.nD Cert.KernelDwukvIdeal.τ).loc Cert.KernelDwukvIdeal.main_arg2)) →
    ∃ (v0 : (c : Dev Cert.KernelDwukvIdeal.nD) → Buf (Elt Ideal) ((c.tc : Thread Cert.KernelDwukvIdeal.nD Cert.KernelDwukvIdeal.τ).loc Cert.KernelDwukvIdeal.main_v0)),
      θ_run (Cert.KernelDwukvIdeal.defs (F := Ideal)) (onTc (τ := Cert.KernelDwukvIdeal.τ) (Cert.KernelDwukvIdeal.main (F := Ideal))) ⟨m, fun _ => 0, g⟩ (fun r => ∀ c : Dev Cert.KernelDwukvIdeal.nD,
          r.2.mem ((c.tc : Thread Cert.KernelDwukvIdeal.nD Cert.KernelDwukvIdeal.τ).loc Cert.KernelDwukvIdeal.main_v0) = v0 c
          ∧ r.2.mem ((c.tc : Thread Cert.KernelDwukvIdeal.nD Cert.KernelDwukvIdeal.τ).loc Cert.KernelDwukvIdeal.main_arg0) = m ((c.tc : Thread Cert.KernelDwukvIdeal.nD Cert.KernelDwukvIdeal.τ).loc Cert.KernelDwukvIdeal.main_arg0)
          ∧ r.2.mem ((c.tc : Thread Cert.KernelDwukvIdeal.nD Cert.KernelDwukvIdeal.τ).loc Cert.KernelDwukvIdeal.main_arg1) = m ((c.tc : Thread Cert.KernelDwukvIdeal.nD Cert.KernelDwukvIdeal.τ).loc Cert.KernelDwukvIdeal.main_arg1)
          ∧ r.2.mem ((c.tc : Thread Cert.KernelDwukvIdeal.nD Cert.KernelDwukvIdeal.τ).loc Cert.KernelDwukvIdeal.main_arg2) = m ((c.tc : Thread Cert.KernelDwukvIdeal.nD Cert.KernelDwukvIdeal.τ).loc Cert.KernelDwukvIdeal.main_arg2))
      ∧ θ_run (Cert.ReferenceDwukvIdeal.defs (F := Ideal)) (onTc (τ := Cert.ReferenceDwukvIdeal.τ) (Cert.ReferenceDwukvIdeal.main (F := Ideal))) ⟨m', fun _ => 0, g'⟩ (fun r => ∀ c : Dev Cert.ReferenceDwukvIdeal.nD,
          r.2.mem ((c.tc : Thread Cert.ReferenceDwukvIdeal.nD Cert.ReferenceDwukvIdeal.τ).loc Cert.ReferenceDwukvIdeal.main_v9) = v0 c
          ∧ r.2.mem ((c.tc : Thread Cert.ReferenceDwukvIdeal.nD Cert.ReferenceDwukvIdeal.τ).loc Cert.ReferenceDwukvIdeal.main_arg0) = m' ((c.tc : Thread Cert.ReferenceDwukvIdeal.nD Cert.ReferenceDwukvIdeal.τ).loc Cert.ReferenceDwukvIdeal.main_arg0)
          ∧ r.2.mem ((c.tc : Thread Cert.ReferenceDwukvIdeal.nD Cert.ReferenceDwukvIdeal.τ).loc Cert.ReferenceDwukvIdeal.main_arg1) = m' ((c.tc : Thread Cert.ReferenceDwukvIdeal.nD Cert.ReferenceDwukvIdeal.τ).loc Cert.ReferenceDwukvIdeal.main_arg1)
          ∧ r.2.mem ((c.tc : Thread Cert.ReferenceDwukvIdeal.nD Cert.ReferenceDwukvIdeal.τ).loc Cert.ReferenceDwukvIdeal.main_arg2) = m' ((c.tc : Thread Cert.ReferenceDwukvIdeal.nD Cert.ReferenceDwukvIdeal.τ).loc Cert.ReferenceDwukvIdeal.main_arg2))

def preserves_KernelDckv_KernelDckvIdeal : Prop :=
  True

def algebraic_KernelDckvIdeal_ReferenceDckvIdeal [hKernelDckvIdeal : Cert.KernelDckvIdeal.Facts] [hReferenceDckvIdeal : Cert.ReferenceDckvIdeal.Facts] : Prop :=
  ∀ (m : (ℓ : Loc Cert.KernelDckvIdeal.nD Cert.KernelDckvIdeal.τ Cert.KernelDckvIdeal.sig) → Buf (Elt Ideal) ℓ) (g : Dev Cert.KernelDckvIdeal.nD → PrngReg)
    (m' : (ℓ : Loc Cert.ReferenceDckvIdeal.nD Cert.ReferenceDckvIdeal.τ Cert.ReferenceDckvIdeal.sig) → Buf (Elt Ideal) ℓ) (g' : Dev Cert.ReferenceDckvIdeal.nD → PrngReg), Pre_KernelDckvIdeal m →
    (∀ c : Dev Cert.KernelDckvIdeal.nD,
      m' ((c.tc : Thread Cert.ReferenceDckvIdeal.nD Cert.ReferenceDckvIdeal.τ).loc Cert.ReferenceDckvIdeal.main_arg0) = m ((c.tc : Thread Cert.KernelDckvIdeal.nD Cert.KernelDckvIdeal.τ).loc Cert.KernelDckvIdeal.main_arg0)
      ∧ m' ((c.tc : Thread Cert.ReferenceDckvIdeal.nD Cert.ReferenceDckvIdeal.τ).loc Cert.ReferenceDckvIdeal.main_arg1) = m ((c.tc : Thread Cert.KernelDckvIdeal.nD Cert.KernelDckvIdeal.τ).loc Cert.KernelDckvIdeal.main_arg1)
      ∧ m' ((c.tc : Thread Cert.ReferenceDckvIdeal.nD Cert.ReferenceDckvIdeal.τ).loc Cert.ReferenceDckvIdeal.main_arg2) = m ((c.tc : Thread Cert.KernelDckvIdeal.nD Cert.KernelDckvIdeal.τ).loc Cert.KernelDckvIdeal.main_arg2)) →
    ∃ (v0 : (c : Dev Cert.KernelDckvIdeal.nD) → Buf (Elt Ideal) ((c.tc : Thread Cert.KernelDckvIdeal.nD Cert.KernelDckvIdeal.τ).loc Cert.KernelDckvIdeal.main_v3)),
      θ_run (Cert.KernelDckvIdeal.defs (F := Ideal)) (onTc (τ := Cert.KernelDckvIdeal.τ) (Cert.KernelDckvIdeal.main (F := Ideal))) ⟨m, fun _ => 0, g⟩ (fun r => ∀ c : Dev Cert.KernelDckvIdeal.nD,
          r.2.mem ((c.tc : Thread Cert.KernelDckvIdeal.nD Cert.KernelDckvIdeal.τ).loc Cert.KernelDckvIdeal.main_v3) = v0 c
          ∧ r.2.mem ((c.tc : Thread Cert.KernelDckvIdeal.nD Cert.KernelDckvIdeal.τ).loc Cert.KernelDckvIdeal.main_arg0) = m ((c.tc : Thread Cert.KernelDckvIdeal.nD Cert.KernelDckvIdeal.τ).loc Cert.KernelDckvIdeal.main_arg0)
          ∧ r.2.mem ((c.tc : Thread Cert.KernelDckvIdeal.nD Cert.KernelDckvIdeal.τ).loc Cert.KernelDckvIdeal.main_arg1) = m ((c.tc : Thread Cert.KernelDckvIdeal.nD Cert.KernelDckvIdeal.τ).loc Cert.KernelDckvIdeal.main_arg1)
          ∧ r.2.mem ((c.tc : Thread Cert.KernelDckvIdeal.nD Cert.KernelDckvIdeal.τ).loc Cert.KernelDckvIdeal.main_arg2) = m ((c.tc : Thread Cert.KernelDckvIdeal.nD Cert.KernelDckvIdeal.τ).loc Cert.KernelDckvIdeal.main_arg2))
      ∧ θ_run (Cert.ReferenceDckvIdeal.defs (F := Ideal)) (onTc (τ := Cert.ReferenceDckvIdeal.τ) (Cert.ReferenceDckvIdeal.main (F := Ideal))) ⟨m', fun _ => 0, g'⟩ (fun r => ∀ c : Dev Cert.ReferenceDckvIdeal.nD,
          r.2.mem ((c.tc : Thread Cert.ReferenceDckvIdeal.nD Cert.ReferenceDckvIdeal.τ).loc Cert.ReferenceDckvIdeal.main_v6) = v0 c
          ∧ r.2.mem ((c.tc : Thread Cert.ReferenceDckvIdeal.nD Cert.ReferenceDckvIdeal.τ).loc Cert.ReferenceDckvIdeal.main_arg0) = m' ((c.tc : Thread Cert.ReferenceDckvIdeal.nD Cert.ReferenceDckvIdeal.τ).loc Cert.ReferenceDckvIdeal.main_arg0)
          ∧ r.2.mem ((c.tc : Thread Cert.ReferenceDckvIdeal.nD Cert.ReferenceDckvIdeal.τ).loc Cert.ReferenceDckvIdeal.main_arg1) = m' ((c.tc : Thread Cert.ReferenceDckvIdeal.nD Cert.ReferenceDckvIdeal.τ).loc Cert.ReferenceDckvIdeal.main_arg1)
          ∧ r.2.mem ((c.tc : Thread Cert.ReferenceDckvIdeal.nD Cert.ReferenceDckvIdeal.τ).loc Cert.ReferenceDckvIdeal.main_arg2) = m' ((c.tc : Thread Cert.ReferenceDckvIdeal.nD Cert.ReferenceDckvIdeal.τ).loc Cert.ReferenceDckvIdeal.main_arg2))

def preserves_KernelGate_KernelGateIdeal : Prop :=
  True

def algebraic_KernelGateIdeal_ReferenceGateIdeal_pre_finite_gate [hKernelGateIdeal : Cert.KernelGateIdeal.Facts] [hReferenceGateIdeal : Cert.ReferenceGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_gate m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v5_0)) (v1 : (c : Dev Cert.KernelGateIdeal.nD) → Buf (Elt Ideal) ((c.tc : Thread Cert.KernelGateIdeal.nD Cert.KernelGateIdeal.τ).loc Cert.KernelGateIdeal.main_v5_1)) (v2 : (c : Dev Cert.KernelGateIdeal.nD) → Buf (Elt Ideal) ((c.tc : Thread Cert.KernelGateIdeal.nD Cert.KernelGateIdeal.τ).loc Cert.KernelGateIdeal.main_v5_2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v5_0) = v0 c
          ∧ r.2.mem ((c.tc : Thread Cert.KernelGateIdeal.nD Cert.KernelGateIdeal.τ).loc Cert.KernelGateIdeal.main_v5_1) = v1 c
          ∧ r.2.mem ((c.tc : Thread Cert.KernelGateIdeal.nD Cert.KernelGateIdeal.τ).loc Cert.KernelGateIdeal.main_v5_2) = v2 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v76) = v0 c
          ∧ r.2.mem ((c.tc : Thread Cert.ReferenceGateIdeal.nD Cert.ReferenceGateIdeal.τ).loc Cert.ReferenceGateIdeal.main_v78) = v1 c
          ∧ r.2.mem ((c.tc : Thread Cert.ReferenceGateIdeal.nD Cert.ReferenceGateIdeal.τ).loc Cert.ReferenceGateIdeal.main_v79) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v5)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v5) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v31) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def Claim : Prop :=
  ∃ (hKernel : Cert.Kernel.Facts) (hKernelIdeal : Cert.KernelIdeal.Facts) (hReferenceIdeal : Cert.ReferenceIdeal.Facts) (hKernelDa : Cert.KernelDa.Facts) (hKernelDaIdeal : Cert.KernelDaIdeal.Facts) (hReferenceDaIdeal : Cert.ReferenceDaIdeal.Facts) (hKernelDwdown : Cert.KernelDwdown.Facts) (hKernelDwdownIdeal : Cert.KernelDwdownIdeal.Facts) (hReferenceDwdownIdeal : Cert.ReferenceDwdownIdeal.Facts) (hKernelDh : Cert.KernelDh.Facts) (hKernelDhIdeal : Cert.KernelDhIdeal.Facts) (hReferenceDhIdeal : Cert.ReferenceDhIdeal.Facts) (hKernelDwup : Cert.KernelDwup.Facts) (hKernelDwupIdeal : Cert.KernelDwupIdeal.Facts) (hReferenceDwupIdeal : Cert.ReferenceDwupIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelNorm : Cert.KernelNorm.Facts) (hKernelNormIdeal : Cert.KernelNormIdeal.Facts) (hReferenceNormIdeal : Cert.ReferenceNormIdeal.Facts) (hKernelQkv : Cert.KernelQkv.Facts) (hKernelQkvIdeal : Cert.KernelQkvIdeal.Facts) (hReferenceQkvIdeal : Cert.ReferenceQkvIdeal.Facts) (hKernelOut : Cert.KernelOut.Facts) (hKernelOutIdeal : Cert.KernelOutIdeal.Facts) (hReferenceOutIdeal : Cert.ReferenceOutIdeal.Facts) (hKernelDo : Cert.KernelDo.Facts) (hKernelDoIdeal : Cert.KernelDoIdeal.Facts) (hReferenceDoIdeal : Cert.ReferenceDoIdeal.Facts) (hKernelDwo : Cert.KernelDwo.Facts) (hKernelDwoIdeal : Cert.KernelDwoIdeal.Facts) (hReferenceDwoIdeal : Cert.ReferenceDwoIdeal.Facts) (hKernelDmix : Cert.KernelDmix.Facts) (hKernelDmixIdeal : Cert.KernelDmixIdeal.Facts) (hReferenceDmixIdeal : Cert.ReferenceDmixIdeal.Facts) (hKernelDwqkv : Cert.KernelDwqkv.Facts) (hKernelDwqkvIdeal : Cert.KernelDwqkvIdeal.Facts) (hReferenceDwqkvIdeal : Cert.ReferenceDwqkvIdeal.Facts) (hKernelFlash : Cert.KernelFlash.Facts) (hKernelFlashIdeal : Cert.KernelFlashIdeal.Facts) (hReferenceFlashIdeal : Cert.ReferenceFlashIdeal.Facts) (hKernelGlu : Cert.KernelGlu.Facts) (hKernelGluIdeal : Cert.KernelGluIdeal.Facts) (hReferenceGluIdeal : Cert.ReferenceGluIdeal.Facts) (hKernelDwglu : Cert.KernelDwglu.Facts) (hKernelDwgluIdeal : Cert.KernelDwgluIdeal.Facts) (hReferenceDwgluIdeal : Cert.ReferenceDwgluIdeal.Facts) (hKernelDz : Cert.KernelDz.Facts) (hKernelDzIdeal : Cert.KernelDzIdeal.Facts) (hReferenceDzIdeal : Cert.ReferenceDzIdeal.Facts) (hKernelLow : Cert.KernelLow.Facts) (hKernelLowIdeal : Cert.KernelLowIdeal.Facts) (hReferenceLowIdeal : Cert.ReferenceLowIdeal.Facts) (hKernelDwlow : Cert.KernelDwlow.Facts) (hKernelDwlowIdeal : Cert.KernelDwlowIdeal.Facts) (hReferenceDwlowIdeal : Cert.ReferenceDwlowIdeal.Facts) (hKernelDlow : Cert.KernelDlow.Facts) (hKernelDlowIdeal : Cert.KernelDlowIdeal.Facts) (hReferenceDlowIdeal : Cert.ReferenceDlowIdeal.Facts) (hKernelUq : Cert.KernelUq.Facts) (hKernelUqIdeal : Cert.KernelUqIdeal.Facts) (hReferenceUqIdeal : Cert.ReferenceUqIdeal.Facts) (hKernelDwuq : Cert.KernelDwuq.Facts) (hKernelDwuqIdeal : Cert.KernelDwuqIdeal.Facts) (hReferenceDwuqIdeal : Cert.ReferenceDwuqIdeal.Facts) (hKernelDcq : Cert.KernelDcq.Facts) (hKernelDcqIdeal : Cert.KernelDcqIdeal.Facts) (hReferenceDcqIdeal : Cert.ReferenceDcqIdeal.Facts) (hKernelUkv : Cert.KernelUkv.Facts) (hKernelUkvIdeal : Cert.KernelUkvIdeal.Facts) (hReferenceUkvIdeal : Cert.ReferenceUkvIdeal.Facts) (hKernelDwukv : Cert.KernelDwukv.Facts) (hKernelDwukvIdeal : Cert.KernelDwukvIdeal.Facts) (hReferenceDwukvIdeal : Cert.ReferenceDwukvIdeal.Facts) (hKernelDckv : Cert.KernelDckv.Facts) (hKernelDckvIdeal : Cert.KernelDckvIdeal.Facts) (hReferenceDckvIdeal : Cert.ReferenceDckvIdeal.Facts) (hKernelGate : Cert.KernelGate.Facts) (hKernelGateIdeal : Cert.KernelGateIdeal.Facts) (hReferenceGateIdeal : Cert.ReferenceGateIdeal.Facts) (hKernelAct : Cert.KernelAct.Facts) (hKernelActIdeal : Cert.KernelActIdeal.Facts) (hReferenceActIdeal : Cert.ReferenceActIdeal.Facts) (hPre_finite : Cert.Pre_finite.Facts) (hPre_finite_qkv : Cert.Pre_finite_qkv.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwup (hKernelDwup := hKernelDwup)
    ∧ quiescent_KernelDwupIdeal (hKernelDwupIdeal := hKernelDwupIdeal)
    ∧ quiescent_ReferenceDwupIdeal (hReferenceDwupIdeal := hReferenceDwupIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDmix (hKernelDmix := hKernelDmix)
    ∧ quiescent_KernelDmixIdeal (hKernelDmixIdeal := hKernelDmixIdeal)
    ∧ quiescent_ReferenceDmixIdeal (hReferenceDmixIdeal := hReferenceDmixIdeal)
    ∧ quiescent_KernelDwqkv (hKernelDwqkv := hKernelDwqkv)
    ∧ quiescent_KernelDwqkvIdeal (hKernelDwqkvIdeal := hKernelDwqkvIdeal)
    ∧ quiescent_ReferenceDwqkvIdeal (hReferenceDwqkvIdeal := hReferenceDwqkvIdeal)
    ∧ quiescent_KernelFlash (hKernelFlash := hKernelFlash)
    ∧ quiescent_KernelFlashIdeal (hKernelFlashIdeal := hKernelFlashIdeal)
    ∧ quiescent_KernelFlashIdeal_pre_finite_qkv (hKernelFlashIdeal := hKernelFlashIdeal) (hPre_finite_qkv := hPre_finite_qkv)
    ∧ quiescent_ReferenceFlashIdeal (hReferenceFlashIdeal := hReferenceFlashIdeal)
    ∧ quiescent_ReferenceFlashIdeal_pre_finite_qkv (hReferenceFlashIdeal := hReferenceFlashIdeal) (hPre_finite_qkv := hPre_finite_qkv)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelDwglu (hKernelDwglu := hKernelDwglu)
    ∧ quiescent_KernelDwgluIdeal (hKernelDwgluIdeal := hKernelDwgluIdeal)
    ∧ quiescent_ReferenceDwgluIdeal (hReferenceDwgluIdeal := hReferenceDwgluIdeal)
    ∧ quiescent_KernelDz (hKernelDz := hKernelDz)
    ∧ quiescent_KernelDzIdeal (hKernelDzIdeal := hKernelDzIdeal)
    ∧ quiescent_ReferenceDzIdeal (hReferenceDzIdeal := hReferenceDzIdeal)
    ∧ quiescent_KernelLow (hKernelLow := hKernelLow)
    ∧ quiescent_KernelLowIdeal (hKernelLowIdeal := hKernelLowIdeal)
    ∧ quiescent_ReferenceLowIdeal (hReferenceLowIdeal := hReferenceLowIdeal)
    ∧ quiescent_KernelDwlow (hKernelDwlow := hKernelDwlow)
    ∧ quiescent_KernelDwlowIdeal (hKernelDwlowIdeal := hKernelDwlowIdeal)
    ∧ quiescent_ReferenceDwlowIdeal (hReferenceDwlowIdeal := hReferenceDwlowIdeal)
    ∧ quiescent_KernelDlow (hKernelDlow := hKernelDlow)
    ∧ quiescent_KernelDlowIdeal (hKernelDlowIdeal := hKernelDlowIdeal)
    ∧ quiescent_ReferenceDlowIdeal (hReferenceDlowIdeal := hReferenceDlowIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ quiescent_KernelDwuq (hKernelDwuq := hKernelDwuq)
    ∧ quiescent_KernelDwuqIdeal (hKernelDwuqIdeal := hKernelDwuqIdeal)
    ∧ quiescent_ReferenceDwuqIdeal (hReferenceDwuqIdeal := hReferenceDwuqIdeal)
    ∧ quiescent_KernelDcq (hKernelDcq := hKernelDcq)
    ∧ quiescent_KernelDcqIdeal (hKernelDcqIdeal := hKernelDcqIdeal)
    ∧ quiescent_ReferenceDcqIdeal (hReferenceDcqIdeal := hReferenceDcqIdeal)
    ∧ quiescent_KernelUkv (hKernelUkv := hKernelUkv)
    ∧ quiescent_KernelUkvIdeal (hKernelUkvIdeal := hKernelUkvIdeal)
    ∧ quiescent_ReferenceUkvIdeal (hReferenceUkvIdeal := hReferenceUkvIdeal)
    ∧ quiescent_KernelDwukv (hKernelDwukv := hKernelDwukv)
    ∧ quiescent_KernelDwukvIdeal (hKernelDwukvIdeal := hKernelDwukvIdeal)
    ∧ quiescent_ReferenceDwukvIdeal (hReferenceDwukvIdeal := hReferenceDwukvIdeal)
    ∧ quiescent_KernelDckv (hKernelDckv := hKernelDckv)
    ∧ quiescent_KernelDckvIdeal (hKernelDckvIdeal := hKernelDckvIdeal)
    ∧ quiescent_ReferenceDckvIdeal (hReferenceDckvIdeal := hReferenceDckvIdeal)
    ∧ quiescent_KernelGate (hKernelGate := hKernelGate)
    ∧ quiescent_KernelGateIdeal (hKernelGateIdeal := hKernelGateIdeal)
    ∧ quiescent_KernelGateIdeal_pre_finite_gate (hKernelGateIdeal := hKernelGateIdeal) (hPre_finite_gate := hPre_finite_gate)
    ∧ quiescent_ReferenceGateIdeal (hReferenceGateIdeal := hReferenceGateIdeal)
    ∧ quiescent_ReferenceGateIdeal_pre_finite_gate (hReferenceGateIdeal := hReferenceGateIdeal) (hPre_finite_gate := hPre_finite_gate)
    ∧ quiescent_KernelAct (hKernelAct := hKernelAct)
    ∧ quiescent_KernelActIdeal (hKernelActIdeal := hKernelActIdeal)
    ∧ quiescent_ReferenceActIdeal (hReferenceActIdeal := hReferenceActIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDa_KernelDaIdeal
    ∧ algebraic_KernelDaIdeal_ReferenceDaIdeal (hKernelDaIdeal := hKernelDaIdeal) (hReferenceDaIdeal := hReferenceDaIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelDh_KernelDhIdeal
    ∧ algebraic_KernelDhIdeal_ReferenceDhIdeal (hKernelDhIdeal := hKernelDhIdeal) (hReferenceDhIdeal := hReferenceDhIdeal)
    ∧ preserves_KernelDwup_KernelDwupIdeal
    ∧ algebraic_KernelDwupIdeal_ReferenceDwupIdeal (hKernelDwupIdeal := hKernelDwupIdeal) (hReferenceDwupIdeal := hReferenceDwupIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelNorm_KernelNormIdeal
    ∧ algebraic_KernelNormIdeal_ReferenceNormIdeal (hKernelNormIdeal := hKernelNormIdeal) (hReferenceNormIdeal := hReferenceNormIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelOut_KernelOutIdeal
    ∧ algebraic_KernelOutIdeal_ReferenceOutIdeal (hKernelOutIdeal := hKernelOutIdeal) (hReferenceOutIdeal := hReferenceOutIdeal)
    ∧ preserves_KernelDo_KernelDoIdeal
    ∧ algebraic_KernelDoIdeal_ReferenceDoIdeal (hKernelDoIdeal := hKernelDoIdeal) (hReferenceDoIdeal := hReferenceDoIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDmix_KernelDmixIdeal
    ∧ algebraic_KernelDmixIdeal_ReferenceDmixIdeal (hKernelDmixIdeal := hKernelDmixIdeal) (hReferenceDmixIdeal := hReferenceDmixIdeal)
    ∧ preserves_KernelDwqkv_KernelDwqkvIdeal
    ∧ algebraic_KernelDwqkvIdeal_ReferenceDwqkvIdeal (hKernelDwqkvIdeal := hKernelDwqkvIdeal) (hReferenceDwqkvIdeal := hReferenceDwqkvIdeal)
    ∧ preserves_KernelFlash_KernelFlashIdeal
    ∧ algebraic_KernelFlashIdeal_ReferenceFlashIdeal_pre_finite_qkv (hKernelFlashIdeal := hKernelFlashIdeal) (hReferenceFlashIdeal := hReferenceFlashIdeal) (hPre_finite_qkv := hPre_finite_qkv)
    ∧ preserves_KernelGlu_KernelGluIdeal
    ∧ algebraic_KernelGluIdeal_ReferenceGluIdeal (hKernelGluIdeal := hKernelGluIdeal) (hReferenceGluIdeal := hReferenceGluIdeal)
    ∧ preserves_KernelDwglu_KernelDwgluIdeal
    ∧ algebraic_KernelDwgluIdeal_ReferenceDwgluIdeal (hKernelDwgluIdeal := hKernelDwgluIdeal) (hReferenceDwgluIdeal := hReferenceDwgluIdeal)
    ∧ preserves_KernelDz_KernelDzIdeal
    ∧ algebraic_KernelDzIdeal_ReferenceDzIdeal (hKernelDzIdeal := hKernelDzIdeal) (hReferenceDzIdeal := hReferenceDzIdeal)
    ∧ preserves_KernelLow_KernelLowIdeal
    ∧ algebraic_KernelLowIdeal_ReferenceLowIdeal (hKernelLowIdeal := hKernelLowIdeal) (hReferenceLowIdeal := hReferenceLowIdeal)
    ∧ preserves_KernelDwlow_KernelDwlowIdeal
    ∧ algebraic_KernelDwlowIdeal_ReferenceDwlowIdeal (hKernelDwlowIdeal := hKernelDwlowIdeal) (hReferenceDwlowIdeal := hReferenceDwlowIdeal)
    ∧ preserves_KernelDlow_KernelDlowIdeal
    ∧ algebraic_KernelDlowIdeal_ReferenceDlowIdeal (hKernelDlowIdeal := hKernelDlowIdeal) (hReferenceDlowIdeal := hReferenceDlowIdeal)
    ∧ preserves_KernelUq_KernelUqIdeal
    ∧ algebraic_KernelUqIdeal_ReferenceUqIdeal (hKernelUqIdeal := hKernelUqIdeal) (hReferenceUqIdeal := hReferenceUqIdeal)
    ∧ preserves_KernelDwuq_KernelDwuqIdeal
    ∧ algebraic_KernelDwuqIdeal_ReferenceDwuqIdeal (hKernelDwuqIdeal := hKernelDwuqIdeal) (hReferenceDwuqIdeal := hReferenceDwuqIdeal)
    ∧ preserves_KernelDcq_KernelDcqIdeal
    ∧ algebraic_KernelDcqIdeal_ReferenceDcqIdeal (hKernelDcqIdeal := hKernelDcqIdeal) (hReferenceDcqIdeal := hReferenceDcqIdeal)
    ∧ preserves_KernelUkv_KernelUkvIdeal
    ∧ algebraic_KernelUkvIdeal_ReferenceUkvIdeal (hKernelUkvIdeal := hKernelUkvIdeal) (hReferenceUkvIdeal := hReferenceUkvIdeal)
    ∧ preserves_KernelDwukv_KernelDwukvIdeal
    ∧ algebraic_KernelDwukvIdeal_ReferenceDwukvIdeal (hKernelDwukvIdeal := hKernelDwukvIdeal) (hReferenceDwukvIdeal := hReferenceDwukvIdeal)
    ∧ preserves_KernelDckv_KernelDckvIdeal
    ∧ algebraic_KernelDckvIdeal_ReferenceDckvIdeal (hKernelDckvIdeal := hKernelDckvIdeal) (hReferenceDckvIdeal := hReferenceDckvIdeal)
    ∧ preserves_KernelGate_KernelGateIdeal
    ∧ algebraic_KernelGateIdeal_ReferenceGateIdeal_pre_finite_gate (hKernelGateIdeal := hKernelGateIdeal) (hReferenceGateIdeal := hReferenceGateIdeal) (hPre_finite_gate := hPre_finite_gate)
    ∧ preserves_KernelAct_KernelActIdeal
    ∧ algebraic_KernelActIdeal_ReferenceActIdeal (hKernelActIdeal := hKernelActIdeal) (hReferenceActIdeal := hReferenceActIdeal)
-- ==== Pre_finite.lean ====
abbrev S16x8192x192 : Shape := ⟨3, ![16, 8192, 192]⟩
abbrev S16x8192x128 : Shape := ⟨3, ![16, 8192, 128]⟩
abbrev S_ : Shape := ⟨0, ![]⟩

class Facts : Prop where
  bcast_S_S16x8192x192 : S_.BroadcastsInDim S16x8192x192 (![] : Fin 0 → Fin S16x8192x192.rank)
  reducesTo_S16x8192x192_S_d0_1_2 : S16x8192x192.ReducesTo [0, 1, 2] S_
  h_S_ : 0 < S_.numel
  bitsLt_bf16_f32 : FTy.bits .bf16 < FTy.bits .f32
  bcast_S_S16x8192x128 : S_.BroadcastsInDim S16x8192x128 (![] : Fin 0 → Fin S16x8192x128.rank)
  reducesTo_S16x8192x128_S_d0_1_2 : S16x8192x128.ReducesTo [0, 1, 2] S_

variable [Facts]

def fn_part1 {F : FTy → Type} [FloatOps F] (main_v15 : IVec S_ 1) (main_v17 : FVec F S16x8192x128 .f32) : IVec S_ 1 :=
  let main_cst_4 : FVec F S_ .f32 := constant S_ .f32 0x7F800000#32
  let main_v18 : FVec F S16x8192x128 .f32 := broadcastInDim S16x8192x128 ![] bcast_S_S16x8192x128 main_cst_4
  let main_v19 : IVec S16x8192x128 1 := cmpf .olt main_v17 main_v18
  let main_c_5 : IVec S_ 1 := constantI S_ 1 1#1
  let main_v20 : IVec S_ 1 := (fun x v => Host.reduce IntOp.andi x v reducesTo_S16x8192x128_S_d0_1_2 h_S_) main_v19 main_c_5
  let main_v21 : IVec S_ 1 := andi main_v15 main_v20
  main_v21

def fn {F : FTy → Type} [FloatOps F] (main_arg0 : FVec F S16x8192x192 .f32) (main_arg1 : FVec F S16x8192x192 .bf16) (main_arg2 : FVec F S16x8192x128 .bf16) (main_arg3 : FVec F S16x8192x128 .bf16) : IVec S_ 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_c : IVec S_ 1 := constantI S_ 1 1#1
  let main_v3 : IVec S_ 1 := (fun x v => Host.reduce IntOp.andi x v reducesTo_S16x8192x192_S_d0_1_2 h_S_) main_v2 main_c
  let main_v4 : FVec F S16x8192x192 .f32 := (extf .f32 · bitsLt_bf16_f32) main_arg1
  let main_v5 : FVec F S16x8192x192 .f32 := Host.absf main_v4
  let main_cst_0 : FVec F S_ .f32 := constant S_ .f32 0x7F800000#32
  let main_v6 : FVec F S16x8192x192 .f32 := broadcastInDim S16x8192x192 ![] bcast_S_S16x8192x192 main_cst_0
  let main_v7 : IVec S16x8192x192 1 := cmpf .olt main_v5 main_v6
  let main_c_1 : IVec S_ 1 := constantI S_ 1 1#1
  let main_v8 : IVec S_ 1 := (fun x v => Host.reduce IntOp.andi x v reducesTo_S16x8192x192_S_d0_1_2 h_S_) main_v7 main_c_1
  let main_v9 : IVec S_ 1 := andi main_v3 main_v8
  let main_v10 : FVec F S16x8192x128 .f32 := (extf .f32 · bitsLt_bf16_f32) main_arg2
  let main_v11 : FVec F S16x8192x128 .f32 := Host.absf main_v10
  let main_cst_2 : FVec F S_ .f32 := constant S_ .f32 0x7F800000#32
  let main_v12 : FVec F S16x8192x128 .f32 := broadcastInDim S16x8192x128 ![] bcast_S_S16x8192x128 main_cst_2
  let main_v13 : IVec S16x8192x128 1 := cmpf .olt main_v11 main_v12
  let main_c_3 : IVec S_ 1 := constantI S_ 1 1#1
  let main_v14 : IVec S_ 1 := (fun x v => Host.reduce IntOp.andi x v reducesTo_S16x8192x128_S_d0_1_2 h_S_) main_v13 main_c_3
  let main_v15 : IVec S_ 1 := andi main_v9 main_v14
  let main_v16 : FVec F S16x8192x128 .f32 := (extf .f32 · bitsLt_bf16_f32) main_arg3
  let main_v17 : FVec F S16x8192x128 .f32 := Host.absf main_v16
  fn_part1 (F := F) main_v15 main_v17
-- ==== Pre_finite_gate.lean ====
abbrev S8192x11264 : Shape := ⟨2, ![8192, 11264]⟩
abbrev S8192x5632 : Shape := ⟨2, ![8192, 5632]⟩
abbrev S3x11264 : Shape := ⟨2, ![3, 11264]⟩
abbrev S11264 : Shape := ⟨1, ![11264]⟩
abbrev S_ : Shape := ⟨0, ![]⟩

class Facts : Prop where
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S8192x5632 : S_.BroadcastsInDim S8192x5632 (![] : Fin 0 → Fin S8192x5632.rank)
  reducesTo_S8192x5632_S_d0_1 : S8192x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_

variable [Facts]

def fn_part1 {F : FTy → Type} [FloatOps F] (main_v13 : IVec S_ 1) (main_v16 : IVec S11264 1) : IVec S_ 1 :=
  let main_c_5 : IVec S_ 1 := constantI S_ 1 1#1
  let main_v17 : IVec S_ 1 := (fun x v => Host.reduce IntOp.andi x v reducesTo_S11264_S_d0 h_S_) main_v16 main_c_5
  let main_v18 : IVec S_ 1 := andi main_v13 main_v17
  main_v18

def fn {F : FTy → Type} [FloatOps F] (main_arg0 : FVec F S8192x11264 .f32) (main_arg1 : FVec F S8192x5632 .f32) (main_arg2 : FVec F S3x11264 .f32) (main_arg3 : FVec F S11264 .f32) : IVec S_ 1 :=
  let main_v0 : FVec F S8192x11264 .f32 := Host.absf main_arg0
  let main_cst : FVec F S_ .f32 := constant S_ .f32 0x7F800000#32
  let main_v1 : FVec F S8192x11264 .f32 := broadcastInDim S8192x11264 ![] bcast_S_S8192x11264 main_cst
  let main_v2 : IVec S8192x11264 1 := cmpf .olt main_v0 main_v1
  let main_c : IVec S_ 1 := constantI S_ 1 1#1
  let main_v3 : IVec S_ 1 := (fun x v => Host.reduce IntOp.andi x v reducesTo_S8192x11264_S_d0_1 h_S_) main_v2 main_c
  let main_v4 : FVec F S8192x5632 .f32 := Host.absf main_arg1
  let main_cst_0 : FVec F S_ .f32 := constant S_ .f32 0x7F800000#32
  let main_v5 : FVec F S8192x5632 .f32 := broadcastInDim S8192x5632 ![] bcast_S_S8192x5632 main_cst_0
  let main_v6 : IVec S8192x5632 1 := cmpf .olt main_v4 main_v5
  let main_c_1 : IVec S_ 1 := constantI S_ 1 1#1
  let main_v7 : IVec S_ 1 := (fun x v => Host.reduce IntOp.andi x v reducesTo_S8192x5632_S_d0_1 h_S_) main_v6 main_c_1
  let main_v8 : IVec S_ 1 := andi main_v3 main_v7
  let main_v9 : FVec F S3x11264 .f32 := Host.absf main_arg2
  let main_cst_2 : FVec F S_ .f32 := constant S_ .f32 0x7F800000#32
  let main_v10 : FVec F S3x11264 .f32 := broadcastInDim S3x11264 ![] bcast_S_S3x11264 main_cst_2
  let main_v11 : IVec S3x11264 1 := cmpf .olt main_v9 main_v10
  let main_c_3 : IVec S_ 1 := constantI S_ 1 1#1
  let main_v12 : IVec S_ 1 := (fun x v => Host.reduce IntOp.andi x v reducesTo_S3x11264_S_d0_1 h_S_) main_v11 main_c_3
  let main_v13 : IVec S_ 1 := andi main_v8 main_v12
  let main_v14 : FVec F S11264 .f32 := Host.absf main_arg3
  let main_cst_4 : FVec F S_ .f32 := constant S_ .f32 0x7F800000#32
  let main_v15 : FVec F S11264 .f32 := broadcastInDim S11264 ![] bcast_S_S11264 main_cst_4
  let main_v16 : IVec S11264 1 := cmpf .olt main_v14 main_v15
  fn_part1 (F := F) main_v13 main_v16
-- ==== Pre_finite_qkv.lean ====
abbrev S16x8192x192 : Shape := ⟨3, ![16, 8192, 192]⟩
abbrev S16x8192x128 : Shape := ⟨3, ![16, 8192, 128]⟩
abbrev S_ : Shape := ⟨0, ![]⟩

class Facts : Prop where
  bcast_S_S16x8192x192 : S_.BroadcastsInDim S16x8192x192 (![] : Fin 0 → Fin S16x8192x192.rank)
  reducesTo_S16x8192x192_S_d0_1_2 : S16x8192x192.ReducesTo [0, 1, 2] S_
  h_S_ : 0 < S_.numel
  bitsLt_bf16_f32 : FTy.bits .bf16 < FTy.bits .f32
  bcast_S_S16x8192x128 : S_.BroadcastsInDim S16x8192x128 (![] : Fin 0 → Fin S16x8192x128.rank)
  reducesTo_S16x8192x128_S_d0_1_2 : S16x8192x128.ReducesTo [0, 1, 2] S_

variable [Facts]

def fn {F : FTy → Type} [FloatOps F] (main_arg0 : FVec F S16x8192x192 .f32) (main_arg1 : FVec F S16x8192x192 .bf16) (main_arg2 : FVec F S16x8192x128 .bf16) : IVec S_ 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_c : IVec S_ 1 := constantI S_ 1 1#1
  let main_v3 : IVec S_ 1 := (fun x v => Host.reduce IntOp.andi x v reducesTo_S16x8192x192_S_d0_1_2 h_S_) main_v2 main_c
  let main_v4 : FVec F S16x8192x192 .f32 := (extf .f32 · bitsLt_bf16_f32) main_arg1
  let main_v5 : FVec F S16x8192x192 .f32 := Host.absf main_v4
  let main_cst_0 : FVec F S_ .f32 := constant S_ .f32 0x7F800000#32
  let main_v6 : FVec F S16x8192x192 .f32 := broadcastInDim S16x8192x192 ![] bcast_S_S16x8192x192 main_cst_0
  let main_v7 : IVec S16x8192x192 1 := cmpf .olt main_v5 main_v6
  let main_c_1 : IVec S_ 1 := constantI S_ 1 1#1
  let main_v8 : IVec S_ 1 := (fun x v => Host.reduce IntOp.andi x v reducesTo_S16x8192x192_S_d0_1_2 h_S_) main_v7 main_c_1
  let main_v9 : IVec S_ 1 := andi main_v3 main_v8
  let main_v10 : FVec F S16x8192x128 .f32 := (extf .f32 · bitsLt_bf16_f32) main_arg2
  let main_v11 : FVec F S16x8192x128 .f32 := Host.absf main_v10
  let main_cst_2 : FVec F S_ .f32 := constant S_ .f32 0x7F800000#32
  let main_v12 : FVec F S16x8192x128 .f32 := broadcastInDim S16x8192x128 ![] bcast_S_S16x8192x128 main_cst_2
  let main_v13 : IVec S16x8192x128 1 := cmpf .olt main_v11 main_v12
  let main_c_3 : IVec S_ 1 := constantI S_ 1 1#1
  let main_v14 : IVec S_ 1 := (fun x v => Host.reduce IntOp.andi x v reducesTo_S16x8192x128_S_d0_1_2 h_S_) main_v13 main_c_3
  let main_v15 : IVec S_ 1 := andi main_v9 main_v14
  main_v15
-- ==== Kernel.lean ====
abbrev S16x8192x192 : Shape := ⟨3, ![16, 8192, 192]⟩
abbrev S16x8192x128 : Shape := ⟨3, ![16, 8192, 128]⟩
abbrev S_ : Shape := ⟨0, ![]⟩
abbrev S16x8192x8192 : Shape := ⟨3, ![16, 8192, 8192]⟩
abbrev S16x8192 : Shape := ⟨2, ![16, 8192]⟩
abbrev S16x8192x1 : Shape := ⟨3, ![16, 8192, 1]⟩
abbrev S16x1x8192 : Shape := ⟨3, ![16, 1, 8192]⟩
abbrev S1x8192x192 : Shape := ⟨3, ![1, 8192, 192]⟩
abbrev S1x512x192 : Shape := ⟨3, ![1, 512, 192]⟩
abbrev S1x512x128 : Shape := ⟨3, ![1, 512, 128]⟩
abbrev S1x8192x128 : Shape := ⟨3, ![1, 8192, 128]⟩
abbrev S1x1x8192 : Shape := ⟨3, ![1, 1, 8192]⟩
abbrev S512x192 : Shape := ⟨2, ![512, 192]⟩
abbrev S512x128 : Shape := ⟨2, ![512, 128]⟩
abbrev S8192x192 : Shape := ⟨2, ![8192, 192]⟩
abbrev S1x1024x192 : Shape := ⟨3, ![1, 1024, 192]⟩
abbrev S1024x192 : Shape := ⟨2, ![1024, 192]⟩
abbrev S1x1024x128 : Shape := ⟨3, ![1, 1024, 128]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 46
  | .vmem => 20
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .bf16⟩
  | .hbm, ⟨2, _⟩ => ⟨S16x8192x128, .bf16⟩
  | .hbm, ⟨3, _⟩ => ⟨S16x8192x128, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x8192x192, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S_, .f32⟩
  | .hbm, ⟨14, _⟩ => ⟨S16x8192, .f32⟩
  | .hbm, ⟨15, _⟩ => ⟨S16x8192x1, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S_, .f32⟩
  | .hbm, ⟨20, _⟩ => ⟨S16x8192, .f32⟩
  | .hbm, ⟨21, _⟩ => ⟨S16x8192x1, .f32⟩
  | .hbm, ⟨22, _⟩ => ⟨S16x8192x8192, .f32⟩
  | .hbm, ⟨23, _⟩ => ⟨S16x8192x8192, .f32⟩
  | .hbm, ⟨24, _⟩ => ⟨S16x8192x128, .f32⟩
  | .hbm, ⟨25, _⟩ => ⟨S16x8192x128, .f32⟩
  | .hbm, ⟨26, _⟩ => ⟨S16x8192x1, .f32⟩
  | .hbm, ⟨27, _⟩ => ⟨S16x8192x1, .f32⟩
  | .hbm, ⟨28, _⟩ => ⟨S_, .f32⟩
  | .hbm, ⟨29, _⟩ => ⟨S16x8192x1, .f32⟩
  | .hbm, ⟨30, _⟩ => ⟨S16x8192x1, .f32⟩
  | .hbm, ⟨31, _⟩ => ⟨S16x8192x128, .f32⟩
  | .hbm, ⟨32, _⟩ => ⟨S16x8192x128, .f32⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16x8192x192, .f32⟩
  | .hbm, ⟨39, _⟩ => ⟨S16x8192x192, .f32⟩
  | .hbm, ⟨40, _⟩ => ⟨S16x8192x192, .bf16⟩
  | .hbm, ⟨41, _⟩ => ⟨S16x1x8192, .f32⟩
  | .hbm, ⟨42, _⟩ => ⟨S16x1x8192, .f32⟩
  | .hbm, ⟨43, _⟩ => ⟨S16x8192x192, .f32⟩
  | .hbm, ⟨44, _⟩ => ⟨S16x8192x192, .f32⟩
  | .hbm, ⟨45, _⟩ => ⟨S16x8192x128, .bf16⟩
  | .local _ .vmem, ⟨0, _⟩ => ⟨S1x8192x192, .bf16⟩
  | .local _ .vmem, ⟨1, _⟩ => ⟨S1x8192x192, .bf16⟩
  | .local _ .vmem, ⟨2, _⟩ => ⟨S1x512x192, .bf16⟩
  | .local _ .vmem, ⟨3, _⟩ => ⟨S1x512x192, .bf16⟩
  | .local _ .vmem, ⟨4, _⟩ => ⟨S1x512x128, .bf16⟩
  | .local _ .vmem, ⟨5, _⟩ => ⟨S1x512x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x1x8192, .f32⟩
  | .local _ .vmem, ⟨9, _⟩ => ⟨S1x1x8192, .f32⟩
  | .local _ .vmem, ⟨10, _⟩ => ⟨S1x1x8192, .f32⟩
  | .local _ .vmem, ⟨11, _⟩ => ⟨S1x1x8192, .f32⟩
  | .local _ .vmem, ⟨12, _⟩ => ⟨S1x8192x192, .f32⟩
  | .local _ .vmem, ⟨13, _⟩ => ⟨S1x8192x192, .f32⟩
  | .local _ .vmem, ⟨14, _⟩ => ⟨S1x512x192, .f32⟩
  | .local _ .vmem, ⟨15, _⟩ => ⟨S1x512x192, .f32⟩
  | .local _ .vmem, ⟨16, _⟩ => ⟨S1x512x128, .bf16⟩
  | .local _ .vmem, ⟨17, _⟩ => ⟨S1x512x128, .bf16⟩
  | .local _ .vmem, ⟨18, _⟩ => ⟨S512x192, .f32⟩
  | .local _ .vmem, ⟨19, _⟩ => ⟨S512x128, .f32⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_11 : BitVec 32 := 0#32
  let c8_i32 : BitVec 32 := 8#32
  let v15 : BitVec 32 := Scalar.addi c0_i32_11 c8_i32
  let c1_i32 : BitVec 32 := 1#32
  ⟨c0_i32_11, v15, c1_i32⟩
def k0_mult1 (k0_t1 : Fin k0_t1_loop.trips) : BitVec 32 :=
  let c0_i32_11 : BitVec 32 := 0#32
  let c1_i32 : BitVec 32 := 1#32
  let arg13 : BitVec 32 := Scf.iv c0_i32_11 c1_i32 k0_t1
  let c1024_i32 : BitVec 32 := 1024#32
  let v30 : BitVec 32 := Scalar.muli arg13 c1024_i32
  v30
def k0_off1 (k0_t1 : Fin k0_t1_loop.trips) : Fin 3 → Nat :=
  let c0_25 : Index := 0#32
  let c0_i32_11 : BitVec 32 := 0#32
  let c1_i32 : BitVec 32 := 1#32
  let arg13 : BitVec 32 := Scf.iv c0_i32_11 c1_i32 k0_t1
  let c1024_i32 : BitVec 32 := 1024#32
  let v30 : BitVec 32 := Scalar.muli arg13 c1024_i32
  let v31 : BitVec 32 := v30
  let v32 : Index := Scalar.indexCast v31
  let c0_26 : Index := 0#32
  ![0, v32.toNat, 0]
def k0_off2 (k0_t1 : Fin k0_t1_loop.trips) : Fin 3 → Nat :=
  let c0_27 : Index := 0#32
  let c0_i32_11 : BitVec 32 := 0#32
  let c1_i32 : BitVec 32 := 1#32
  let arg13 : BitVec 32 := Scf.iv c0_i32_11 c1_i32 k0_t1
  let c1024_i32 : BitVec 32 := 1024#32
  let v30 : BitVec 32 := Scalar.muli arg13 c1024_i32
  let v31 : BitVec 32 := v30
  let v35 : Index := Scalar.indexCast v31
  let c0_28 : Index := 0#32
  ![0, v35.toNat, 0]
def k0_off3 (k0_t1 : Fin k0_t1_loop.trips) : Fin 3 → Nat :=
  let c0_30 : Index := 0#32
  let c0_31 : Index := 0#32
  let c0_i32_11 : BitVec 32 := 0#32
  let c1_i32 : BitVec 32 := 1#32
  let arg13 : BitVec 32 := Scf.iv c0_i32_11 c1_i32 k0_t1
  let c1024_i32 : BitVec 32 := 1024#32
  let v30 : BitVec 32 := Scalar.muli arg13 c1024_i32
  let v31 : BitVec 32 := v30
  let v39 : Index := Scalar.indexCast v31
  ![0, 0, v39.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S16x8192x192 : Shape := ⟨3, ![16, 8192, 192]⟩
abbrev S16x8192x128 : Shape := ⟨3, ![16, 8192, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩

abbrev nBuf : Space → Nat
  | .hbm => 73
  | .vmem => 0
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .bf16⟩
  | .hbm, ⟨2, _⟩ => ⟨S16x8192x128, .bf16⟩
  | .hbm, ⟨3, _⟩ => ⟨S16x8192x128, .bf16⟩
  | .hbm, ⟨4, _⟩ => ⟨S16x8192x192, .f32⟩
  | .hbm, ⟨5, _⟩ => ⟨S16x8192x128, .f32⟩
  | .hbm, ⟨6, _⟩ => ⟨S16x8192x8192, .f32⟩
  | .hbm, ⟨7, _⟩ => ⟨S_, .f32⟩
  | .hbm, ⟨8, _⟩ => ⟨S16x8192x8192, .f32⟩
  | .hbm, ⟨9, _⟩ => ⟨S16x8192x8192, .f32⟩
  | .hbm, ⟨10, _⟩ => ⟨S_, .f32⟩
  | .hbm, ⟨11, _⟩ => ⟨S16x8192, .f32⟩
  | .hbm, ⟨12, _⟩ => ⟨S16x8192x1, .f32⟩
  | .hbm, ⟨13, _⟩ => ⟨S16x8192x8192, .f32⟩
  | .hbm, ⟨14, _⟩ => ⟨S16x8192x8192, .i1⟩
  | .hbm, ⟨15, _⟩ => ⟨S16x8192x8192, .f32⟩
  | .hbm, ⟨16, _⟩ => ⟨S_, .f32⟩
  | .hbm, ⟨17, _⟩ => ⟨S16x8192, .f32⟩
  | .hbm, ⟨18, _⟩ => ⟨S_, .f32⟩
  | .hbm, ⟨19, _⟩ => ⟨S16x8192, .f32⟩
  | .hbm, ⟨20, _⟩ => ⟨S16x8192, .f32⟩
  | .hbm, ⟨21, _⟩ => ⟨S_, .f32⟩
  | .hbm, ⟨22, _⟩ => ⟨S16x8192, .f32⟩
  | .hbm, ⟨23, _⟩ => ⟨S16x8192, .i1⟩
  | .hbm, ⟨24, _⟩ => ⟨S_, .f32⟩
  | .hbm, ⟨25, _⟩ => ⟨S16x8192, .f32⟩
  | .hbm, ⟨26, _⟩ => ⟨S16x8192, .i1⟩
  | .hbm, ⟨27, _⟩ => ⟨S_, .f32⟩
  | .hbm, ⟨28, _⟩ => ⟨S16x8192, .f32⟩
  | .hbm, ⟨29, _⟩ => ⟨S_, .f32⟩
  | .hbm, ⟨30, _⟩ => ⟨S16x8192, .f32⟩
  | .hbm, ⟨31, _⟩ => ⟨S_, .f32⟩
  | .hbm, ⟨32, _⟩ => ⟨S16x8192, .f32⟩
  | .hbm, ⟨33, _⟩ => ⟨S16x8192, .f32⟩
  | .hbm, ⟨34, _⟩ => ⟨S16x8192, .f32⟩
  | .hbm, ⟨35, _⟩ => ⟨S16x8192x1, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x1, .f32⟩
  | .hbm, ⟨45, _⟩ => ⟨S_, .f32⟩
  | .hbm, ⟨46, _⟩ => ⟨S16x8192x1, .f32⟩
  | .hbm, ⟨47, _⟩ => ⟨S16x8192x1, .f32⟩
  | .hbm, ⟨48, _⟩ => ⟨S16x8192x128, .f32⟩
  | .hbm, ⟨49, _⟩ => ⟨S16x8192x128, .f32⟩
  | .hbm, ⟨50, _⟩ => ⟨S16x128x8192, .f32⟩
  | .hbm, ⟨51, _⟩ => ⟨S16x8192x128, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S_, .f32⟩
  | .hbm, ⟨57, _⟩ => ⟨S16x8192, .f32⟩
  | .hbm, ⟨58, _⟩ => ⟨S16x8192x1, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S_, .f32⟩
  | .hbm, ⟨63, _⟩ => ⟨S16x8192, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S_, .f32⟩
  | .hbm, ⟨68, _⟩ => ⟨S16x8192x8192, .f32⟩
  | .hbm, ⟨69, _⟩ => ⟨S16x8192x8192, .f32⟩
  | .hbm, ⟨70, _⟩ => ⟨S16x8192x192, .f32⟩
  | .hbm, ⟨71, _⟩ => ⟨S16x8192x192, .f32⟩
  | .hbm, ⟨72, _⟩ => ⟨S16x8192x128, .bf16⟩
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== KernelDa.lean ====
abbrev S8192x5632 : Shape := ⟨2, ![8192, 5632]⟩
abbrev S5632x2048 : Shape := ⟨2, ![5632, 2048]⟩
abbrev S8192x2048 : Shape := ⟨2, ![8192, 2048]⟩
abbrev S1x1x5632x2048 : Shape := ⟨4, ![1, 1, 5632, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x1x5632x2048, .bf16⟩
  | .hbm, ⟨4, _⟩ => ⟨S8192x5632, .f32⟩
  | .local _ .vmem, ⟨0, _⟩ => ⟨S1024x2048, .f32⟩
  | .local _ .vmem, ⟨1, _⟩ => ⟨S1024x2048, .f32⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDaIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S2048x5632, .f32⟩
  | .hbm, ⟨7, _⟩ => ⟨S5632x2048, .f32⟩
  | .hbm, ⟨8, _⟩ => ⟨S8192x5632, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwdown.lean ====
abbrev S8192x5632 : Shape := ⟨2, ![8192, 5632]⟩
abbrev S5632x2048 : Shape := ⟨2, ![5632, 2048]⟩
abbrev S8192x2048 : Shape := ⟨2, ![8192, 2048]⟩
abbrev S1x5632x2048 : Shape := ⟨3, ![1, 5632, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdownIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S2048x5632, .f32⟩
  | .hbm, ⟨7, _⟩ => ⟨S5632x2048, .f32⟩
  | .hbm, ⟨8, _⟩ => ⟨S8192x5632, .f32⟩
  | .hbm, ⟨9, _⟩ => ⟨S1x5632x2048, .f32⟩
  | .hbm, ⟨10, _⟩ => ⟨S1x5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDh.lean ====
abbrev S8192x2048 : Shape := ⟨2, ![8192, 2048]⟩
abbrev S2048x11264 : Shape := ⟨2, ![2048, 11264]⟩
abbrev S8192x11264 : Shape := ⟨2, ![8192, 11264]⟩
abbrev S8192x2x5632 : Shape := ⟨3, ![8192, 2, 5632]⟩
abbrev S2x8192x5632 : Shape := ⟨3, ![2, 8192, 5632]⟩
abbrev S2048x8x1408 : Shape := ⟨3, ![2048, 8, 1408]⟩
abbrev S8x2048x1408 : Shape := ⟨3, ![8, 2048, 1408]⟩
abbrev S1x8x2048x1408 : Shape := ⟨4, ![1, 8, 2048, 1408]⟩
abbrev S1x1024x1408 : Shape := ⟨3, ![1, 1024, 1408]⟩
abbrev S1x1x1024x1408 : Shape := ⟨4, ![1, 1, 1024, 1408]⟩
abbrev S1024x1024 : Shape := ⟨2, ![1024, 1024]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .hbm, ⟨3, _⟩ => ⟨S8192x2x5632, .bf16⟩
  | .hbm, ⟨4, _⟩ => ⟨S2x8192x5632, .bf16⟩
  | .hbm, ⟨5, _⟩ => ⟨S2048x8x1408, .bf16⟩
  | .hbm, ⟨6, _⟩ => ⟨S8x2048x1408, .bf16⟩
  | .hbm, ⟨7, _⟩ => ⟨S1x8x2048x1408, .bf16⟩
  | .hbm, ⟨8, _⟩ => ⟨S8192x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwup.lean ====
abbrev S8192x2048 : Shape := ⟨2, ![8192, 2048]⟩
abbrev S2048x11264 : Shape := ⟨2, ![2048, 11264]⟩
abbrev S8192x11264 : Shape := ⟨2, ![8192, 11264]⟩
abbrev S8192x2x5632 : Shape := ⟨3, ![8192, 2, 5632]⟩
abbrev S2x8192x5632 : Shape := ⟨3, ![2, 8192, 5632]⟩
abbrev S8x2048x1408 : Shape := ⟨3, ![8, 2048, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .hbm, ⟨3, _⟩ => ⟨S8192x2x5632, .bf16⟩
  | .hbm, ⟨4, _⟩ => ⟨S2x8192x5632, .bf16⟩
  | .hbm, ⟨5, _⟩ => ⟨S8x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwupIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S8192x2048, .f32⟩
  | .hbm, ⟨10, _⟩ => ⟨S2048x8x1408, .f32⟩
  | .hbm, ⟨11, _⟩ => ⟨S8x2048x1408, .f32⟩
  | .hbm, ⟨12, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelUp.lean ====
abbrev S8192x2048 : Shape := ⟨2, ![8192, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S1x8x2048x1408 : Shape := ⟨4, ![1, 8, 2048, 1408]⟩
abbrev S2x8192x5632 : Shape := ⟨3, ![2, 8192, 5632]⟩
abbrev S1024x2048 : Shape := ⟨2, ![1024, 2048]⟩
abbrev S1x1x2048x1408 : Shape := ⟨4, ![1, 1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S1x8x2048x1408, .bf16⟩
  | .hbm, ⟨5, _⟩ => ⟨S2x8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1024x1408, .f32⟩
  | .local _ .vmem, ⟨5, _⟩ => ⟨S1x1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8192x2048 : Shape := ⟨2, ![8192, 2048]⟩
abbrev S2048x11264 : Shape := ⟨2, ![2048, 11264]⟩
abbrev S8192x11264 : Shape := ⟨2, ![8192, 11264]⟩
abbrev S8192x2x5632 : Shape := ⟨3, ![8192, 2, 5632]⟩
abbrev S2x8192x5632 : Shape := ⟨3, ![2, 8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x2x5632, .f32⟩
  | .hbm, ⟨6, _⟩ => ⟨S2x8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDown.lean ====
abbrev S8192x5632 : Shape := ⟨2, ![8192, 5632]⟩
abbrev S5632x2048 : Shape := ⟨2, ![5632, 2048]⟩
abbrev S8192x2048 : Shape := ⟨2, ![8192, 2048]⟩
abbrev S1x1x5632x2048 : Shape := ⟨4, ![1, 1, 5632, 2048]⟩
abbrev S1024x5632 : Shape := ⟨2, ![1024, 5632]⟩
abbrev S1x1x5632x512 : Shape := ⟨4, ![1, 1, 5632, 512]⟩
abbrev S1024x512 : Shape := ⟨2, ![1024, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x1x5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x1x5632x512, .bf16⟩
  | .local _ .vmem, ⟨3, _⟩ => ⟨S1x1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNorm.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S512x2048 : Shape := ⟨2, ![512, 2048]⟩
abbrev S512x1 : Shape := ⟨2, ![512, 1]⟩
abbrev S512 : Shape := ⟨1, ![512]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S1x2048, .f32⟩
  | .hbm, ⟨16, _⟩ => ⟨S8192x2048, .f32⟩
  | .hbm, ⟨17, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_13 : BitVec 32 := 0#32
  let v28 : BitVec 1 := Scalar.cmpi .ne v27 c0_i32_13
  v28

def k0_cond2 (i : grid0.Coords) : BitVec 1 :=
  let arg0 : BitVec 32 := BitVec.ofNat 32 (i 0).val
  let c0_i32_14 : BitVec 32 := 0#32
  let v29 : BitVec 1 := Scalar.cmpi .sgt arg0 c0_i32_14
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelQkv.lean ====
abbrev S8192x2048 : Shape := ⟨2, ![8192, 2048]⟩
abbrev S2048x2560 : Shape := ⟨2, ![2048, 2560]⟩
abbrev S1x1x2048x2560 : Shape := ⟨4, ![1, 1, 2048, 2560]⟩
abbrev S8192x2560 : Shape := ⟨2, ![8192, 2560]⟩
abbrev S1024x2048 : Shape := ⟨2, ![1024, 2048]⟩
abbrev S1x1x2048x1280 : Shape := ⟨4, ![1, 1, 2048, 1280]⟩
abbrev S1024x1280 : Shape := ⟨2, ![1024, 1280]⟩
abbrev S2048x1280 : Shape := ⟨2, ![2048, 1280]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S1x1x2048x2560, .bf16⟩
  | .hbm, ⟨3, _⟩ => ⟨S8192x2560, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1280, .bf16⟩
  | .local _ .vmem, ⟨3, _⟩ => ⟨S1x1x2048x1280, .bf16⟩
  | .local _ .vmem, ⟨4, _⟩ => ⟨S1024x1280, .bf16⟩
  | .local _ .vmem, ⟨5, _⟩ => ⟨S1024x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkvIdeal.lean ====
abbrev S8192x2048 : Shape := ⟨2, ![8192, 2048]⟩
abbrev S2048x2560 : Shape := ⟨2, ![2048, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2048, .f32⟩
  | .hbm, ⟨3, _⟩ => ⟨S2048x2560, .f32⟩
  | .hbm, ⟨4, _⟩ => ⟨S8192x2560, .f32⟩
  | .hbm, ⟨5, _⟩ => ⟨S8192x2560, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S1x1x2048x2048 : Shape := ⟨4, ![1, 1, 2048, 2048]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x1x2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDo.lean ====
abbrev S8192x2048 : Shape := ⟨2, ![8192, 2048]⟩
abbrev S2048x2048 : Shape := ⟨2, ![2048, 2048]⟩
abbrev S1x1x2048x2048 : Shape := ⟨4, ![1, 1, 2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x1x2048x2048, .bf16⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwo.lean ====
abbrev S8192x2048 : Shape := ⟨2, ![8192, 2048]⟩
abbrev S2048x2048 : Shape := ⟨2, ![2048, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoIdeal.lean ====
abbrev S8192x2048 : Shape := ⟨2, ![8192, 2048]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S8192x2048, .f32⟩
  | .hbm, ⟨9, _⟩ => ⟨S1x2048x2048, .f32⟩
  | .hbm, ⟨10, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDmix.lean ====
abbrev S8192x2048 : Shape := ⟨2, ![8192, 2048]⟩
abbrev S2048x2560 : Shape := ⟨2, ![2048, 2560]⟩
abbrev S8192x2560 : Shape := ⟨2, ![8192, 2560]⟩
abbrev S1x1x2048x2560 : Shape := ⟨4, ![1, 1, 2048, 2560]⟩
abbrev S1024x2560 : Shape := ⟨2, ![1024, 2560]⟩
abbrev S1x1x1024x2560 : Shape := ⟨4, ![1, 1, 1024, 2560]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2560, .bf16⟩
  | .hbm, ⟨3, _⟩ => ⟨S1x1x2048x2560, .bf16⟩
  | .hbm, ⟨4, _⟩ => ⟨S8192x2048, .f32⟩
  | .local _ .vmem, ⟨0, _⟩ => ⟨S1024x2560, .bf16⟩
  | .local _ .vmem, ⟨1, _⟩ => ⟨S1024x2560, .bf16⟩
  | .local _ .vmem, ⟨2, _⟩ => ⟨S1x1x1024x2560, .bf16⟩
  | .local _ .vmem, ⟨3, _⟩ => ⟨S1x1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmixIdeal.lean ====
abbrev S8192x2048 : Shape := ⟨2, ![8192, 2048]⟩
abbrev S2048x2560 : Shape := ⟨2, ![2048, 2560]⟩
abbrev S8192x2560 : Shape := ⟨2, ![8192, 2560]⟩
abbrev S2560x2048 : Shape := ⟨2, ![2560, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2560, .bf16⟩
  | .hbm, ⟨3, _⟩ => ⟨S8192x2048, .f32⟩
  | .hbm, ⟨4, _⟩ => ⟨S2048x2560, .f32⟩
  | .hbm, ⟨5, _⟩ => ⟨S8192x2560, .f32⟩
  | .hbm, ⟨6, _⟩ => ⟨S8192x2560, .f32⟩
  | .hbm, ⟨7, _⟩ => ⟨S2560x2048, .f32⟩
  | .hbm, ⟨8, _⟩ => ⟨S2048x2560, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwqkv.lean ====
abbrev S8192x2048 : Shape := ⟨2, ![8192, 2048]⟩
abbrev S2048x2560 : Shape := ⟨2, ![2048, 2560]⟩
abbrev S8192x2560 : Shape := ⟨2, ![8192, 2560]⟩
abbrev S1x2048x2560 : Shape := ⟨3, ![1, 2048, 2560]⟩
abbrev S1024x1024 : Shape := ⟨2, ![1024, 1024]⟩
abbrev S1024x1280 : Shape := ⟨2, ![1024, 1280]⟩
abbrev S1x1024x1280 : Shape := ⟨3, ![1, 1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2560, .bf16⟩
  | .hbm, ⟨3, _⟩ => ⟨S1x2048x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwqkvIdeal.lean ====
abbrev S8192x2048 : Shape := ⟨2, ![8192, 2048]⟩
abbrev S2048x2560 : Shape := ⟨2, ![2048, 2560]⟩
abbrev S8192x2560 : Shape := ⟨2, ![8192, 2560]⟩
abbrev S2560x2048 : Shape := ⟨2, ![2560, 2048]⟩
abbrev S1x2048x2560 : Shape := ⟨3, ![1, 2048, 2560]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2560, .bf16⟩
  | .hbm, ⟨3, _⟩ => ⟨S8192x2048, .f32⟩
  | .hbm, ⟨4, _⟩ => ⟨S2048x2560, .f32⟩
  | .hbm, ⟨5, _⟩ => ⟨S8192x2560, .f32⟩
  | .hbm, ⟨6, _⟩ => ⟨S8192x2560, .f32⟩
  | .hbm, ⟨7, _⟩ => ⟨S2560x2048, .f32⟩
  | .hbm, ⟨8, _⟩ => ⟨S2048x2560, .f32⟩
  | .hbm, ⟨9, _⟩ => ⟨S8192x2048, .f32⟩
  | .hbm, ⟨10, _⟩ => ⟨S1x2048x2560, .f32⟩
  | .hbm, ⟨11, _⟩ => ⟨S1x2048x2560, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelFlash.lean ====
abbrev S16x8192x192 : Shape := ⟨3, ![16, 8192, 192]⟩
abbrev S16x8192x128 : Shape := ⟨3, ![16, 8192, 128]⟩
abbrev S_ : Shape := ⟨0, ![]⟩
abbrev S16x8192x1 : Shape := ⟨3, ![16, 8192, 1]⟩
abbrev S1x1024x192 : Shape := ⟨3, ![1, 1024, 192]⟩
abbrev S1x8192x192 : Shape := ⟨3, ![1, 8192, 192]⟩
abbrev S1x8192x128 : Shape := ⟨3, ![1, 8192, 128]⟩
abbrev S1x1024x128 : Shape := ⟨3, ![1, 1024, 128]⟩
abbrev S1x1024x1 : Shape := ⟨3, ![1, 1024, 1]⟩
abbrev S1024x128 : Shape := ⟨2, ![1024, 128]⟩
abbrev S1024x192 : Shape := ⟨2, ![1024, 192]⟩
abbrev S1x512x192 : Shape := ⟨3, ![1, 512, 192]⟩
abbrev S512x192 : Shape := ⟨2, ![512, 192]⟩
abbrev S1024x512 : Shape := ⟨2, ![1024, 512]⟩
abbrev S1024 : Shape := ⟨1, ![1024]⟩
abbrev S1024x1 : Shape := ⟨2, ![1024, 1]⟩
abbrev S1x512x128 : Shape := ⟨3, ![1, 512, 128]⟩
abbrev S512x128 : Shape := ⟨2, ![512, 128]⟩

abbrev nBuf : Space → Nat
  | .hbm => 15
  | .vmem => 13
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .bf16⟩
  | .hbm, ⟨2, _⟩ => ⟨S16x8192x128, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192x192, .f32⟩
  | .hbm, ⟨11, _⟩ => ⟨S16x8192x192, .f32⟩
  | .hbm, ⟨12, _⟩ => ⟨S16x8192x192, .bf16⟩
  | .hbm, ⟨13, _⟩ => ⟨S16x8192x128, .bf16⟩
  | .hbm, ⟨14, _⟩ => ⟨S16x8192x1, .f32⟩
  | .local _ .vmem, ⟨0, _⟩ => ⟨S1x1024x192, .bf16⟩
  | .local _ .vmem, ⟨1, _⟩ => ⟨S1x1024x192, .bf16⟩
  | .local _ .vmem, ⟨2, _⟩ => ⟨S1x8192x192, .bf16⟩
  | .local _ .vmem, ⟨3, _⟩ => ⟨S1x8192x192, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v30 : BitVec 32 := Scalar.muli arg10 c512_i32
  v30
def k0_off1 (k0_t1 : Fin k0_t1_loop.trips) : Fin 3 → Nat :=
  let c0_24 : Index := 0#32
  let c0_i32 : BitVec 32 := 0#32
  let c1_i32 : BitVec 32 := 1#32
  let arg10 : BitVec 32 := Scf.iv c0_i32 c1_i32 k0_t1
  let c512_i32 : BitVec 32 := 512#32
  let v30 : BitVec 32 := Scalar.muli arg10 c512_i32
  let v31 : BitVec 32 := v30
  let v34 : Index := Scalar.indexCast v31
  let c0_25 : Index := 0#32
  ![0, v34.toNat, 0]
def k0_off2 (k0_t1 : Fin k0_t1_loop.trips) : Fin 3 → Nat :=
  let c0_37 : Index := 0#32
  let c0_i32 : BitVec 32 := 0#32
  let c1_i32 : BitVec 32 := 1#32
  let arg10 : BitVec 32 := Scf.iv c0_i32 c1_i32 k0_t1
  let c512_i32 : BitVec 32 := 512#32
  let v30 : BitVec 32 := Scalar.muli arg10 c512_i32
  let v31 : BitVec 32 := v30
  let v60 : Index := Scalar.indexCast v31
  let c0_38 : Index := 0#32
  ![0, v60.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFlashIdeal.lean ====
abbrev S16x8192x192 : Shape := ⟨3, ![16, 8192, 192]⟩
abbrev S16x8192x128 : Shape := ⟨3, ![16, 8192, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .bf16⟩
  | .hbm, ⟨2, _⟩ => ⟨S16x8192x128, .bf16⟩
  | .hbm, ⟨3, _⟩ => ⟨S16x8192x192, .f32⟩
  | .hbm, ⟨4, _⟩ => ⟨S16x8192x128, .f32⟩
  | .hbm, ⟨5, _⟩ => ⟨S16x8192x8192, .f32⟩
  | .hbm, ⟨6, _⟩ => ⟨S_, .f32⟩
  | .hbm, ⟨7, _⟩ => ⟨S16x8192x8192, .f32⟩
  | .hbm, ⟨8, _⟩ => ⟨S16x8192x8192, .f32⟩
  | .hbm, ⟨9, _⟩ => ⟨S_, .f32⟩
  | .hbm, ⟨10, _⟩ => ⟨S16x8192, .f32⟩
  | .hbm, ⟨11, _⟩ => ⟨S16x8192x1, .f32⟩
  | .hbm, ⟨12, _⟩ => ⟨S16x8192x8192, .f32⟩
  | .hbm, ⟨13, _⟩ => ⟨S16x8192x8192, .f32⟩
  | .hbm, ⟨14, _⟩ => ⟨S16x8192x8192, .f32⟩
  | .hbm, ⟨15, _⟩ => ⟨S_, .f32⟩
  | .hbm, ⟨16, _⟩ => ⟨S16x8192, .f32⟩
  | .hbm, ⟨17, _⟩ => ⟨S16x8192x1, .f32⟩
  | .hbm, ⟨18, _⟩ => ⟨S16x8192x1, .f32⟩
  | .hbm, ⟨19, _⟩ => ⟨S16x8192x1, .f32⟩
  | .hbm, ⟨20, _⟩ => ⟨S16x8192x8192, .f32⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S16x8192x1, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192, .f32⟩
  | .hbm, ⟨35, _⟩ => ⟨S16x8192x1, .f32⟩
  | .hbm, ⟨36, _⟩ => ⟨S16x8192x8192, .f32⟩
  | .hbm, ⟨37, _⟩ => ⟨S16x8192x8192, .f32⟩
  | .hbm, ⟨38, _⟩ => ⟨S16x8192x128, .f32⟩
  | .hbm, ⟨39, _⟩ => ⟨S16x8192x128, .bf16⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x8192x1, .f32⟩
  | .hbm, ⟨44, _⟩ => ⟨S16x8192x1, .f32⟩
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== KernelGlu.lean ====
abbrev S8192x2048 : Shape := ⟨2, ![8192, 2048]⟩
abbrev S2048x2048 : Shape := ⟨2, ![2048, 2048]⟩
abbrev S1x1x2048x2048 : Shape := ⟨4, ![1, 1, 2048, 2048]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x1x2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGluIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwglu.lean ====
abbrev S8192x2048 : Shape := ⟨2, ![8192, 2048]⟩
abbrev S2048x2048 : Shape := ⟨2, ![2048, 2048]⟩
abbrev S1x2048x2048 : Shape := ⟨3, ![1, 2048, 2048]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S1x2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwgluIdeal.lean ====
abbrev S8192x2048 : Shape := ⟨2, ![8192, 2048]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S1x2048x2048, .f32⟩
  | .hbm, ⟨11, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDz.lean ====
abbrev S8192x2048 : Shape := ⟨2, ![8192, 2048]⟩
abbrev S2048x2048 : Shape := ⟨2, ![2048, 2048]⟩
abbrev S1x1x2048x2048 : Shape := ⟨4, ![1, 1, 2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S1x1x2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDzIdeal.lean ====
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelLow.lean ====
abbrev S8192x2048 : Shape := ⟨2, ![8192, 2048]⟩
abbrev S2048x1088 : Shape := ⟨2, ![2048, 1088]⟩
abbrev S1x1x2048x1088 : Shape := ⟨4, ![1, 1, 2048, 1088]⟩
abbrev S8192x1088 : Shape := ⟨2, ![8192, 1088]⟩
abbrev S1024x2048 : Shape := ⟨2, ![1024, 2048]⟩
abbrev S1024x1088 : Shape := ⟨2, ![1024, 1088]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1088, .bf16⟩
  | .hbm, ⟨2, _⟩ => ⟨S1x1x2048x1088, .bf16⟩
  | .hbm, ⟨3, _⟩ => ⟨S8192x1088, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1088, .bf16⟩
  | .local _ .vmem, ⟨3, _⟩ => ⟨S1024x1088, .f32⟩
  | .local _ .vmem, ⟨4, _⟩ => ⟨S1024x1088, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048x1088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLowIdeal.lean ====
abbrev S8192x2048 : Shape := ⟨2, ![8192, 2048]⟩
abbrev S2048x1088 : Shape := ⟨2, ![2048, 1088]⟩
abbrev S8192x1088 : Shape := ⟨2, ![8192, 1088]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1088, .bf16⟩
  | .hbm, ⟨2, _⟩ => ⟨S8192x2048, .f32⟩
  | .hbm, ⟨3, _⟩ => ⟨S2048x1088, .f32⟩
  | .hbm, ⟨4, _⟩ => ⟨S8192x1088, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwlow.lean ====
abbrev S8192x2048 : Shape := ⟨2, ![8192, 2048]⟩
abbrev S2048x1088 : Shape := ⟨2, ![2048, 1088]⟩
abbrev S8192x1088 : Shape := ⟨2, ![8192, 1088]⟩
abbrev S1x2048x1088 : Shape := ⟨3, ![1, 2048, 1088]⟩
abbrev S1024x1024 : Shape := ⟨2, ![1024, 1024]⟩
abbrev S1024x1088 : Shape := ⟨2, ![1024, 1088]⟩
abbrev S1x1024x1088 : Shape := ⟨3, ![1, 1024, 1088]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1088, .bf16⟩
  | .hbm, ⟨2, _⟩ => ⟨S8192x1088, .bf16⟩
  | .hbm, ⟨3, _⟩ => ⟨S1x2048x1088, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1088, .bf16⟩
  | .local _ .vmem, ⟨3, _⟩ => ⟨S1024x1088, .bf16⟩
  | .local _ .vmem, ⟨4, _⟩ => ⟨S1x1024x1088, .bf16⟩
  | .local _ .vmem, ⟨5, _⟩ => ⟨S1x1024x1088, .bf16⟩
  | .local _ .vmem, ⟨6, _⟩ => ⟨S1024x1088, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1088 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwlowIdeal.lean ====
abbrev S8192x2048 : Shape := ⟨2, ![8192, 2048]⟩
abbrev S2048x1088 : Shape := ⟨2, ![2048, 1088]⟩
abbrev S8192x1088 : Shape := ⟨2, ![8192, 1088]⟩
abbrev S1088x2048 : Shape := ⟨2, ![1088, 2048]⟩
abbrev S1x2048x1088 : Shape := ⟨3, ![1, 2048, 1088]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1088, .bf16⟩
  | .hbm, ⟨2, _⟩ => ⟨S8192x1088, .bf16⟩
  | .hbm, ⟨3, _⟩ => ⟨S8192x2048, .f32⟩
  | .hbm, ⟨4, _⟩ => ⟨S2048x1088, .f32⟩
  | .hbm, ⟨5, _⟩ => ⟨S8192x1088, .f32⟩
  | .hbm, ⟨6, _⟩ => ⟨S8192x1088, .f32⟩
  | .hbm, ⟨7, _⟩ => ⟨S1088x2048, .f32⟩
  | .hbm, ⟨8, _⟩ => ⟨S2048x1088, .f32⟩
  | .hbm, ⟨9, _⟩ => ⟨S8192x2048, .f32⟩
  | .hbm, ⟨10, _⟩ => ⟨S1x2048x1088, .f32⟩
  | .hbm, ⟨11, _⟩ => ⟨S1x2048x1088, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDlow.lean ====
abbrev S8192x2048 : Shape := ⟨2, ![8192, 2048]⟩
abbrev S2048x1088 : Shape := ⟨2, ![2048, 1088]⟩
abbrev S8192x1088 : Shape := ⟨2, ![8192, 1088]⟩
abbrev S1x1x2048x1088 : Shape := ⟨4, ![1, 1, 2048, 1088]⟩
abbrev S1024x1088 : Shape := ⟨2, ![1024, 1088]⟩
abbrev S1x1x1024x1088 : Shape := ⟨4, ![1, 1, 1024, 1088]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1088, .bf16⟩
  | .hbm, ⟨2, _⟩ => ⟨S8192x1088, .bf16⟩
  | .hbm, ⟨3, _⟩ => ⟨S1x1x2048x1088, .bf16⟩
  | .hbm, ⟨4, _⟩ => ⟨S8192x2048, .f32⟩
  | .local _ .vmem, ⟨0, _⟩ => ⟨S1024x1088, .bf16⟩
  | .local _ .vmem, ⟨1, _⟩ => ⟨S1024x1088, .bf16⟩
  | .local _ .vmem, ⟨2, _⟩ => ⟨S1x1x1024x1088, .bf16⟩
  | .local _ .vmem, ⟨3, _⟩ => ⟨S1x1x1024x1088, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_8 : BitVec 32 := 0#32
  let v10 : BitVec 1 := Scalar.cmpi .eq arg2 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDlowIdeal.lean ====
abbrev S8192x2048 : Shape := ⟨2, ![8192, 2048]⟩
abbrev S2048x1088 : Shape := ⟨2, ![2048, 1088]⟩
abbrev S8192x1088 : Shape := ⟨2, ![8192, 1088]⟩
abbrev S1088x2048 : Shape := ⟨2, ![1088, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1088, .bf16⟩
  | .hbm, ⟨2, _⟩ => ⟨S8192x1088, .bf16⟩
  | .hbm, ⟨3, _⟩ => ⟨S8192x2048, .f32⟩
  | .hbm, ⟨4, _⟩ => ⟨S2048x1088, .f32⟩
  | .hbm, ⟨5, _⟩ => ⟨S8192x1088, .f32⟩
  | .hbm, ⟨6, _⟩ => ⟨S8192x1088, .f32⟩
  | .hbm, ⟨7, _⟩ => ⟨S1088x2048, .f32⟩
  | .hbm, ⟨8, _⟩ => ⟨S2048x1088, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUq.lean ====
abbrev S8192x512 : Shape := ⟨2, ![8192, 512]⟩
abbrev S512x3072 : Shape := ⟨2, ![512, 3072]⟩
abbrev S512x8x384 : Shape := ⟨3, ![512, 8, 384]⟩
abbrev S8x512x384 : Shape := ⟨3, ![8, 512, 384]⟩
abbrev S1x8x512x384 : Shape := ⟨4, ![1, 8, 512, 384]⟩
abbrev S8192x3072 : Shape := ⟨2, ![8192, 3072]⟩
abbrev S1024x512 : Shape := ⟨2, ![1024, 512]⟩
abbrev S1x1x512x384 : Shape := ⟨4, ![1, 1, 512, 384]⟩
abbrev S1024x384 : Shape := ⟨2, ![1024, 384]⟩
abbrev S512x384 : Shape := ⟨2, ![512, 384]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S512x8x384, .bf16⟩
  | .hbm, ⟨3, _⟩ => ⟨S8x512x384, .bf16⟩
  | .hbm, ⟨4, _⟩ => ⟨S1x8x512x384, .bf16⟩
  | .hbm, ⟨5, _⟩ => ⟨S8192x3072, .f32⟩
  | .local _ .vmem, ⟨0, _⟩ => ⟨S1024x512, .bf16⟩
  | .local _ .vmem, ⟨1, _⟩ => ⟨S1024x512, .bf16⟩
  | .local _ .vmem, ⟨2, _⟩ => ⟨S1x1x512x384, .bf16⟩
  | .local _ .vmem, ⟨3, _⟩ => ⟨S1x1x512x384, .bf16⟩
  | .local _ .vmem, ⟨4, _⟩ => ⟨S1024x384, .f32⟩
  | .local _ .vmem, ⟨5, _⟩ => ⟨S1024x384, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUqIdeal.lean ====
abbrev S8192x512 : Shape := ⟨2, ![8192, 512]⟩
abbrev S512x3072 : Shape := ⟨2, ![512, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x512, .f32⟩
  | .hbm, ⟨3, _⟩ => ⟨S512x3072, .f32⟩
  | .hbm, ⟨4, _⟩ => ⟨S8192x3072, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwuq.lean ====
abbrev S8192x512 : Shape := ⟨2, ![8192, 512]⟩
abbrev S512x3072 : Shape := ⟨2, ![512, 3072]⟩
abbrev S8192x3072 : Shape := ⟨2, ![8192, 3072]⟩
abbrev S8x512x384 : Shape := ⟨3, ![8, 512, 384]⟩
abbrev S1024x512 : Shape := ⟨2, ![1024, 512]⟩
abbrev S1024x384 : Shape := ⟨2, ![1024, 384]⟩
abbrev S1x512x384 : Shape := ⟨3, ![1, 512, 384]⟩
abbrev S512x384 : Shape := ⟨2, ![512, 384]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .bf16⟩
  | .hbm, ⟨3, _⟩ => ⟨S8x512x384, .bf16⟩
  | .local _ .vmem, ⟨0, _⟩ => ⟨S1024x512, .bf16⟩
  | .local _ .vmem, ⟨1, _⟩ => ⟨S1024x512, .bf16⟩
  | .local _ .vmem, ⟨2, _⟩ => ⟨S1024x384, .bf16⟩
  | .local _ .vmem, ⟨3, _⟩ => ⟨S1024x384, .bf16⟩
  | .local _ .vmem, ⟨4, _⟩ => ⟨S1x512x384, .bf16⟩
  | .local _ .vmem, ⟨5, _⟩ => ⟨S1x512x384, .bf16⟩
  | .local _ .vmem, ⟨6, _⟩ => ⟨S512x384, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwuqIdeal.lean ====
abbrev S8192x512 : Shape := ⟨2, ![8192, 512]⟩
abbrev S512x3072 : Shape := ⟨2, ![512, 3072]⟩
abbrev S8192x3072 : Shape := ⟨2, ![8192, 3072]⟩
abbrev S3072x512 : Shape := ⟨2, ![3072, 512]⟩
abbrev S512x8x384 : Shape := ⟨3, ![512, 8, 384]⟩
abbrev S8x512x384 : Shape := ⟨3, ![8, 512, 384]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .bf16⟩
  | .hbm, ⟨3, _⟩ => ⟨S8192x512, .f32⟩
  | .hbm, ⟨4, _⟩ => ⟨S512x3072, .f32⟩
  | .hbm, ⟨5, _⟩ => ⟨S8192x3072, .f32⟩
  | .hbm, ⟨6, _⟩ => ⟨S8192x3072, .f32⟩
  | .hbm, ⟨7, _⟩ => ⟨S3072x512, .f32⟩
  | .hbm, ⟨8, _⟩ => ⟨S512x3072, .f32⟩
  | .hbm, ⟨9, _⟩ => ⟨S8192x512, .f32⟩
  | .hbm, ⟨10, _⟩ => ⟨S512x8x384, .f32⟩
  | .hbm, ⟨11, _⟩ => ⟨S8x512x384, .f32⟩
  | .hbm, ⟨12, _⟩ => ⟨S8x512x384, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelDcq.lean ====
abbrev S8192x512 : Shape := ⟨2, ![8192, 512]⟩
abbrev S512x3072 : Shape := ⟨2, ![512, 3072]⟩
abbrev S8192x3072 : Shape := ⟨2, ![8192, 3072]⟩
abbrev S512x8x384 : Shape := ⟨3, ![512, 8, 384]⟩
abbrev S8x512x384 : Shape := ⟨3, ![8, 512, 384]⟩
abbrev S1x8x512x384 : Shape := ⟨4, ![1, 8, 512, 384]⟩
abbrev S1024x384 : Shape := ⟨2, ![1024, 384]⟩
abbrev S1x1x512x384 : Shape := ⟨4, ![1, 1, 512, 384]⟩
abbrev S1024x512 : Shape := ⟨2, ![1024, 512]⟩
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .bf16⟩
  | .hbm, ⟨3, _⟩ => ⟨S512x8x384, .bf16⟩
  | .hbm, ⟨4, _⟩ => ⟨S8x512x384, .bf16⟩
  | .hbm, ⟨5, _⟩ => ⟨S1x8x512x384, .bf16⟩
  | .hbm, ⟨6, _⟩ => ⟨S8192x512, .f32⟩
  | .local _ .vmem, ⟨0, _⟩ => ⟨S1024x384, .bf16⟩
  | .local _ .vmem, ⟨1, _⟩ => ⟨S1024x384, .bf16⟩
  | .local _ .vmem, ⟨2, _⟩ => ⟨S1x1x512x384, .bf16⟩
  | .local _ .vmem, ⟨3, _⟩ => ⟨S1x1x512x384, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDcqIdeal.lean ====
abbrev S8192x512 : Shape := ⟨2, ![8192, 512]⟩
abbrev S512x3072 : Shape := ⟨2, ![512, 3072]⟩
abbrev S8192x3072 : Shape := ⟨2, ![8192, 3072]⟩
abbrev S3072x512 : Shape := ⟨2, ![3072, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .bf16⟩
  | .hbm, ⟨3, _⟩ => ⟨S8192x512, .f32⟩
  | .hbm, ⟨4, _⟩ => ⟨S512x3072, .f32⟩
  | .hbm, ⟨5, _⟩ => ⟨S8192x3072, .f32⟩
  | .hbm, ⟨6, _⟩ => ⟨S8192x3072, .f32⟩
  | .hbm, ⟨7, _⟩ => ⟨S3072x512, .f32⟩
  | .hbm, ⟨8, _⟩ => ⟨S512x3072, .f32⟩
  | .hbm, ⟨9, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUkv.lean ====
abbrev S8192x512 : Shape := ⟨2, ![8192, 512]⟩
abbrev S512x4096 : Shape := ⟨2, ![512, 4096]⟩
abbrev S512x8x512 : Shape := ⟨3, ![512, 8, 512]⟩
abbrev S8x512x512 : Shape := ⟨3, ![8, 512, 512]⟩
abbrev S1x8x512x512 : Shape := ⟨4, ![1, 8, 512, 512]⟩
abbrev S8192x4096 : Shape := ⟨2, ![8192, 4096]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S512x8x512, .bf16⟩
  | .hbm, ⟨3, _⟩ => ⟨S8x512x512, .bf16⟩
  | .hbm, ⟨4, _⟩ => ⟨S1x8x512x512, .bf16⟩
  | .hbm, ⟨5, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .bf16⟩
  | .local _ .vmem, ⟨5, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUkvIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x512, .f32⟩
  | .hbm, ⟨3, _⟩ => ⟨S512x4096, .f32⟩
  | .hbm, ⟨4, _⟩ => ⟨S8192x4096, .f32⟩
  | .hbm, ⟨5, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDwukv.lean ====
abbrev S8192x512 : Shape := ⟨2, ![8192, 512]⟩
abbrev S512x4096 : Shape := ⟨2, ![512, 4096]⟩
abbrev S8192x4096 : Shape := ⟨2, ![8192, 4096]⟩
abbrev S8x512x512 : Shape := ⟨3, ![8, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .bf16⟩
  | .hbm, ⟨3, _⟩ => ⟨S8x512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwukvIdeal.lean ====
abbrev S8192x512 : Shape := ⟨2, ![8192, 512]⟩
abbrev S512x4096 : Shape := ⟨2, ![512, 4096]⟩
abbrev S8192x4096 : Shape := ⟨2, ![8192, 4096]⟩
abbrev S4096x512 : Shape := ⟨2, ![4096, 512]⟩
abbrev S512x8x512 : Shape := ⟨3, ![512, 8, 512]⟩
abbrev S8x512x512 : Shape := ⟨3, ![8, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .bf16⟩
  | .hbm, ⟨3, _⟩ => ⟨S8192x512, .f32⟩
  | .hbm, ⟨4, _⟩ => ⟨S512x4096, .f32⟩
  | .hbm, ⟨5, _⟩ => ⟨S8192x4096, .f32⟩
  | .hbm, ⟨6, _⟩ => ⟨S8192x4096, .f32⟩
  | .hbm, ⟨7, _⟩ => ⟨S4096x512, .f32⟩
  | .hbm, ⟨8, _⟩ => ⟨S512x4096, .f32⟩
  | .hbm, ⟨9, _⟩ => ⟨S8192x512, .f32⟩
  | .hbm, ⟨10, _⟩ => ⟨S512x8x512, .f32⟩
  | .hbm, ⟨11, _⟩ => ⟨S8x512x512, .f32⟩
  | .hbm, ⟨12, _⟩ => ⟨S8x512x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelDckv.lean ====
abbrev S8192x512 : Shape := ⟨2, ![8192, 512]⟩
abbrev S512x4096 : Shape := ⟨2, ![512, 4096]⟩
abbrev S8192x4096 : Shape := ⟨2, ![8192, 4096]⟩
abbrev S512x8x512 : Shape := ⟨3, ![512, 8, 512]⟩
abbrev S8x512x512 : Shape := ⟨3, ![8, 512, 512]⟩
abbrev S1x8x512x512 : Shape := ⟨4, ![1, 8, 512, 512]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .bf16⟩
  | .hbm, ⟨3, _⟩ => ⟨S512x8x512, .bf16⟩
  | .hbm, ⟨4, _⟩ => ⟨S8x512x512, .bf16⟩
  | .hbm, ⟨5, _⟩ => ⟨S1x8x512x512, .bf16⟩
  | .hbm, ⟨6, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDckvIdeal.lean ====
abbrev S8192x512 : Shape := ⟨2, ![8192, 512]⟩
abbrev S512x4096 : Shape := ⟨2, ![512, 4096]⟩
abbrev S8192x4096 : Shape := ⟨2, ![8192, 4096]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .bf16⟩
  | .hbm, ⟨3, _⟩ => ⟨S8192x512, .f32⟩
  | .hbm, ⟨4, _⟩ => ⟨S512x4096, .f32⟩
  | .hbm, ⟨5, _⟩ => ⟨S8192x4096, .f32⟩
  | .hbm, ⟨6, _⟩ => ⟨S8192x4096, .f32⟩
  | .hbm, ⟨7, _⟩ => ⟨S4096x512, .f32⟩
  | .hbm, ⟨8, _⟩ => ⟨S512x4096, .f32⟩
  | .hbm, ⟨9, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGate.lean ====
abbrev S8192x11264 : Shape := ⟨2, ![8192, 11264]⟩
abbrev S8192x5632 : Shape := ⟨2, ![8192, 5632]⟩
abbrev S3x11264 : Shape := ⟨2, ![3, 11264]⟩
abbrev S11264 : Shape := ⟨1, ![11264]⟩
abbrev S8192x2x5632 : Shape := ⟨3, ![8192, 2, 5632]⟩
abbrev S2x8192x5632 : Shape := ⟨3, ![2, 8192, 5632]⟩
abbrev S3x2x5632 : Shape := ⟨3, ![3, 2, 5632]⟩
abbrev S2x3x5632 : Shape := ⟨3, ![2, 3, 5632]⟩
abbrev S2x1x5632 : Shape := ⟨3, ![2, 1, 5632]⟩
abbrev S2x512x512 : Shape := ⟨3, ![2, 512, 512]⟩
abbrev S2x8x512 : Shape := ⟨3, ![2, 8, 512]⟩
abbrev S512x512 : Shape := ⟨2, ![512, 512]⟩
abbrev S8x512 : Shape := ⟨2, ![8, 512]⟩
abbrev S2x3x512 : Shape := ⟨3, ![2, 3, 512]⟩
abbrev S2x1x512 : Shape := ⟨3, ![2, 1, 512]⟩
abbrev S1x8x512 : Shape := ⟨3, ![1, 8, 512]⟩
abbrev S1x512x512 : Shape := ⟨3, ![1, 512, 512]⟩
abbrev S528x512 : Shape := ⟨2, ![528, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 12
  | .vmem => 22
  | .smem => 0
  | _ => 0

abbrev bufTy : (tb : Table) → Fin (tcTables nBuf tb) → BufTy
  | .hbm, ⟨0, _⟩ => ⟨S8192x11264, .f32⟩
  | .hbm, ⟨1, _⟩ => ⟨S8192x5632, .f32⟩
  | .hbm, ⟨2, _⟩ => ⟨S3x11264, .f32⟩
  | .hbm, ⟨3, _⟩ => ⟨S11264, .f32⟩
  | .hbm, ⟨4, _⟩ => ⟨S8192x2x5632, .f32⟩
  | .hbm, ⟨5, _⟩ => ⟨S2x8192x5632, .f32⟩
  | .hbm, ⟨6, _⟩ => ⟨S3x2x5632, .f32⟩
  | .hbm, ⟨7, _⟩ => ⟨S2x3x5632, .f32⟩
  | .hbm, ⟨8, _⟩ => ⟨S2x1x5632, .f32⟩
  | .hbm, ⟨9, _⟩ => ⟨S2x8192x5632, .bf16⟩
  | .hbm, ⟨10, _⟩ => ⟨S2x3x5632, .f32⟩
  | .hbm, ⟨11, _⟩ => ⟨S2x1x5632, .f32⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S2x3x512, .f32⟩
  | .local _ .vmem, ⟨13, _⟩ => ⟨S2x3x512, .f32⟩
  | .local _ .vmem, ⟨14, _⟩ => ⟨S2x1x512, .f32⟩
  | .local _ .vmem, ⟨15, _⟩ => ⟨S2x1x512, .f32⟩
  | .local _ .vmem, ⟨16, _⟩ => ⟨S2x512x512, .bf16⟩
  | .local _ .vmem, ⟨17, _⟩ => ⟨S2x512x512, .bf16⟩
  | .local _ .vmem, ⟨18, _⟩ => ⟨S2x3x512, .f32⟩
  | .local _ .vmem, ⟨19, _⟩ => ⟨S2x3x512, .f32⟩
  | .local _ .vmem, ⟨20, _⟩ => ⟨S2x1x512, .f32⟩
  | .local _ .vmem, ⟨21, _⟩ => ⟨S2x1x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 16], ![false, false]⟩

def k0_cond1 (i : grid0.Coords) : BitVec 1 :=
  let arg1 : BitVec 32 := BitVec.ofNat 32 (i 1).val
  let c0_i32_64 : BitVec 32 := 0#32
  let v126 : BitVec 1 := Scalar.cmpi .eq arg1 c0_i32_64
  let v127 : BitVec 32 := Scalar.extui v126
  let c0_i32_65 : BitVec 32 := 0#32
  let v128 : BitVec 1 := Scalar.cmpi .ne v127 c0_i32_65
  v128

def k0_cond2 (i : grid0.Coords) : BitVec 1 :=
  let arg1 : BitVec 32 := BitVec.ofNat 32 (i 1).val
  let c0_i32_66 : BitVec 32 := 0#32
  let v129 : BitVec 1 := Scalar.cmpi .sgt arg1 c0_i32_66
  let v130 : BitVec 32 := Scalar.extui v129
  let c0_i32_67 : BitVec 32 := 0#32
  let v131 : BitVec 1 := Scalar.cmpi .ne v130 c0_i32_67
  v131

def k0_cond3 (i : grid0.Coords) : BitVec 1 :=
  let arg1 : BitVec 32 := BitVec.ofNat 32 (i 1).val
  let c0_i32_80 : BitVec 32 := 0#32
  let v167 : BitVec 1 := Scalar.cmpi .eq arg1 c0_i32_80
  let v168 : BitVec 32 := Scalar.extui v167
  let c0_i32_81 : BitVec 32 := 0#32
  let v169 : BitVec 1 := Scalar.cmpi .ne v168 c0_i32_81
  v169

def k0_cond4 (i : grid0.Coords) : BitVec 1 :=
  let arg1 : BitVec 32 := BitVec.ofNat 32 (i 1).val
  let c0_i32_82 : BitVec 32 := 0#32
  let v170 : BitVec 1 := Scalar.cmpi .sgt arg1 c0_i32_82
  let v171 : BitVec 32 := Scalar.extui v170
  let c0_i32_83 : BitVec 32 := 0#32
  let v172 : BitVec 1 := Scalar.cmpi .ne v171 c0_i32_83
  v172

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceGateIdeal.lean ====
abbrev S8192x11264 : Shape := ⟨2, ![8192, 11264]⟩
abbrev S8192x5632 : Shape := ⟨2, ![8192, 5632]⟩
abbrev S3x11264 : Shape := ⟨2, ![3, 11264]⟩
abbrev S11264 : Shape := ⟨1, ![11264]⟩
abbrev S_ : Shape := ⟨0, ![]⟩
abbrev S1x11264 : Shape := ⟨2, ![1, 11264]⟩
abbrev S8194x11264 : Shape := ⟨2, ![8194, 11264]⟩
abbrev S8192x2x5632 : Shape := ⟨3, ![8192, 2, 5632]⟩
abbrev S2x8192x5632 : Shape := ⟨3, ![2, 8192, 5632]⟩
abbrev S3x2x5632 : Shape := ⟨3, ![3, 2, 5632]⟩
abbrev S2x3x5632 : Shape := ⟨3, ![2, 3, 5632]⟩
abbrev S2x1x5632 : Shape := ⟨3, ![2, 1, 5632]⟩

abbrev nBuf : Space → Nat
  | .hbm => 117
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x5632, .f32⟩
  | .hbm, ⟨2, _⟩ => ⟨S3x11264, .f32⟩
  | .hbm, ⟨3, _⟩ => ⟨S11264, .f32⟩
  | .hbm, ⟨4, _⟩ => ⟨S_, .f32⟩
  | .hbm, ⟨5, _⟩ => ⟨S1x11264, .f32⟩
  | .hbm, ⟨6, _⟩ => ⟨S8194x11264, .f32⟩
  | .hbm, ⟨7, _⟩ => ⟨S_, .f32⟩
  | .hbm, ⟨8, _⟩ => ⟨S1x11264, .f32⟩
  | .hbm, ⟨9, _⟩ => ⟨S_, .f32⟩
  | .hbm, ⟨10, _⟩ => ⟨S1x11264, .f32⟩
  | .hbm, ⟨11, _⟩ => ⟨S1x11264, .f32⟩
  | .hbm, ⟨12, _⟩ => ⟨S11264, .f32⟩
  | .hbm, ⟨13, _⟩ => ⟨S8192x11264, .f32⟩
  | .hbm, ⟨14, _⟩ => ⟨S1x11264, .f32⟩
  | .hbm, ⟨15, _⟩ => ⟨S8192x11264, .f32⟩
  | .hbm, ⟨16, _⟩ => ⟨S8192x11264, .f32⟩
  | .hbm, ⟨17, _⟩ => ⟨S_, .f32⟩
  | .hbm, ⟨18, _⟩ => ⟨S8192x11264, .f32⟩
  | .hbm, ⟨19, _⟩ => ⟨S8192x11264, .f32⟩
  | .hbm, ⟨20, _⟩ => ⟨S1x11264, .f32⟩
  | .hbm, ⟨21, _⟩ => ⟨S11264, .f32⟩
  | .hbm, ⟨22, _⟩ => ⟨S8192x11264, .f32⟩
  | .hbm, ⟨23, _⟩ => ⟨S1x11264, .f32⟩
  | .hbm, ⟨24, _⟩ => ⟨S8192x11264, .f32⟩
  | .hbm, ⟨25, _⟩ => ⟨S8192x11264, .f32⟩
  | .hbm, ⟨26, _⟩ => ⟨S8192x11264, .f32⟩
  | .hbm, ⟨27, _⟩ => ⟨S1x11264, .f32⟩
  | .hbm, ⟨28, _⟩ => ⟨S11264, .f32⟩
  | .hbm, ⟨29, _⟩ => ⟨S8192x11264, .f32⟩
  | .hbm, ⟨30, _⟩ => ⟨S1x11264, .f32⟩
  | .hbm, ⟨31, _⟩ => ⟨S8192x11264, .f32⟩
  | .hbm, ⟨32, _⟩ => ⟨S8192x11264, .f32⟩
  | .hbm, ⟨33, _⟩ => ⟨S8192x11264, .f32⟩
  | .hbm, ⟨34, _⟩ => ⟨S1x11264, .f32⟩
  | .hbm, ⟨35, _⟩ => ⟨S8192x11264, .f32⟩
  | .hbm, ⟨36, _⟩ => ⟨S8192x11264, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x11264, .f32⟩
  | .hbm, ⟨60, _⟩ => ⟨S_, .f32⟩
  | .hbm, ⟨61, _⟩ => ⟨S11264, .f32⟩
  | .hbm, ⟨62, _⟩ => ⟨S1x11264, .f32⟩
  | .hbm, ⟨63, _⟩ => ⟨S_, .f32⟩
  | .hbm, ⟨64, _⟩ => ⟨S11264, .f32⟩
  | .hbm, ⟨65, _⟩ => ⟨S8192x11264, .f32⟩
  | .hbm, ⟨66, _⟩ => ⟨S8192x11264, .f32⟩
  | .hbm, ⟨67, _⟩ => ⟨S8192x11264, .f32⟩
  | .hbm, ⟨68, _⟩ => ⟨S_, .f32⟩
  | .hbm, ⟨69, _⟩ => ⟨S11264, .f32⟩
  | .hbm, ⟨70, _⟩ => ⟨S1x11264, .f32⟩
  | .hbm, ⟨71, _⟩ => ⟨S_, .f32⟩
  | .hbm, ⟨72, _⟩ => ⟨S11264, .f32⟩
  | .hbm, ⟨73, _⟩ => ⟨S_, .f32⟩
  | .hbm, ⟨74, _⟩ => ⟨S8194x11264, .f32⟩
  | .hbm, ⟨75, _⟩ => ⟨S1x11264, .f32⟩
  | .hbm, ⟨76, _⟩ => ⟨S_, .f32⟩
  | .hbm, ⟨77, _⟩ => ⟨S3x11264, .f32⟩
  | .hbm, ⟨78, _⟩ => ⟨S8192x11264, .f32⟩
  | .hbm, ⟨79, _⟩ => ⟨S8192x11264, .f32⟩
  | .hbm, ⟨80, _⟩ => ⟨S8192x11264, .f32⟩
  | .hbm, ⟨81, _⟩ => ⟨S_, .f32⟩
  | .hbm, ⟨82, _⟩ => ⟨S11264, .f32⟩
  | .hbm, ⟨83, _⟩ => ⟨S1x11264, .f32⟩
  | .hbm, ⟨84, _⟩ => ⟨S_, .f32⟩
  | .hbm, ⟨85, _⟩ => ⟨S11264, .f32⟩
  | .hbm, ⟨86, _⟩ => ⟨S_, .f32⟩
  | .hbm, ⟨87, _⟩ => ⟨S8194x11264, .f32⟩
  | .hbm, ⟨88, _⟩ => ⟨S8194x11264, .f32⟩
  | .hbm, ⟨89, _⟩ => ⟨S1x11264, .f32⟩
  | .hbm, ⟨90, _⟩ => ⟨S_, .f32⟩
  | .hbm, ⟨91, _⟩ => ⟨S3x11264, .f32⟩
  | .hbm, ⟨92, _⟩ => ⟨S3x11264, .f32⟩
  | .hbm, ⟨93, _⟩ => ⟨S8192x11264, .f32⟩
  | .hbm, ⟨94, _⟩ => ⟨S8192x11264, .f32⟩
  | .hbm, ⟨95, _⟩ => ⟨S8192x11264, .f32⟩
  | .hbm, ⟨96, _⟩ => ⟨S_, .f32⟩
  | .hbm, ⟨97, _⟩ => ⟨S11264, .f32⟩
  | .hbm, ⟨98, _⟩ => ⟨S1x11264, .f32⟩
  | .hbm, ⟨99, _⟩ => ⟨S_, .f32⟩
  | .hbm, ⟨100, _⟩ => ⟨S11264, .f32⟩
  | .hbm, ⟨101, _⟩ => ⟨S_, .f32⟩
  | .hbm, ⟨102, _⟩ => ⟨S8194x11264, .f32⟩
  | .hbm, ⟨103, _⟩ => ⟨S8194x11264, .f32⟩
  | .hbm, ⟨104, _⟩ => ⟨S1x11264, .f32⟩
  | .hbm, ⟨105, _⟩ => ⟨S_, .f32⟩
  | .hbm, ⟨106, _⟩ => ⟨S3x11264, .f32⟩
  | .hbm, ⟨107, _⟩ => ⟨S3x11264, .f32⟩
  | .hbm, ⟨108, _⟩ => ⟨S1x11264, .f32⟩
  | .hbm, ⟨109, _⟩ => ⟨S8192x11264, .f32⟩
  | .hbm, ⟨110, _⟩ => ⟨S1x11264, .f32⟩
  | .hbm, ⟨111, _⟩ => ⟨S8192x2x5632, .f32⟩
  | .hbm, ⟨112, _⟩ => ⟨S2x8192x5632, .f32⟩
  | .hbm, ⟨113, _⟩ => ⟨S2x8192x5632, .bf16⟩
  | .hbm, ⟨114, _⟩ => ⟨S3x2x5632, .f32⟩
  | .hbm, ⟨115, _⟩ => ⟨S2x3x5632, .f32⟩
  | .hbm, ⟨116, _⟩ => ⟨S2x1x5632, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v31_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v31_1 : Ref sig .tc := ⟨.hbm, 50, rfl⟩
abbrev main_v31_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]
-- ==== KernelAct.lean ====
abbrev S8192x11264 : Shape := ⟨2, ![8192, 11264]⟩
abbrev S3x11264 : Shape := ⟨2, ![3, 11264]⟩
abbrev S11264 : Shape := ⟨1, ![11264]⟩
abbrev S8192x2x5632 : Shape := ⟨3, ![8192, 2, 5632]⟩
abbrev S2x8192x5632 : Shape := ⟨3, ![2, 8192, 5632]⟩
abbrev S3x2x5632 : Shape := ⟨3, ![3, 2, 5632]⟩
abbrev S2x3x5632 : Shape := ⟨3, ![2, 3, 5632]⟩
abbrev S2x1x5632 : Shape := ⟨3, ![2, 1, 5632]⟩
abbrev S8192x5632 : Shape := ⟨2, ![8192, 5632]⟩
abbrev S2x512x512 : Shape := ⟨3, ![2, 512, 512]⟩
abbrev S2x8x512 : Shape := ⟨3, ![2, 8, 512]⟩
abbrev S2x3x512 : Shape := ⟨3, ![2, 3, 512]⟩
abbrev S2x1x512 : Shape := ⟨3, ![2, 1, 512]⟩
abbrev S512x512 : Shape := ⟨2, ![512, 512]⟩
abbrev S1x8x512 : Shape := ⟨3, ![1, 8, 512]⟩
abbrev S8x512 : Shape := ⟨2, ![8, 512]⟩
abbrev S1x512x512 : Shape := ⟨3, ![1, 512, 512]⟩
abbrev S528x512 : Shape := ⟨2, ![528, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S11264, .f32⟩
  | .hbm, ⟨3, _⟩ => ⟨S8192x2x5632, .f32⟩
  | .hbm, ⟨4, _⟩ => ⟨S2x8192x5632, .f32⟩
  | .hbm, ⟨5, _⟩ => ⟨S3x2x5632, .f32⟩
  | .hbm, ⟨6, _⟩ => ⟨S2x3x5632, .f32⟩
  | .hbm, ⟨7, _⟩ => ⟨S2x1x5632, .f32⟩
  | .hbm, ⟨8, _⟩ => ⟨S8192x5632, .bf16⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | .local _ .vmem, ⟨6, _⟩ => ⟨S2x3x512, .f32⟩
  | .local _ .vmem, ⟨7, _⟩ => ⟨S2x3x512, .f32⟩
  | .local _ .vmem, ⟨8, _⟩ => ⟨S2x1x512, .f32⟩
  | .local _ .vmem, ⟨9, _⟩ => ⟨S2x1x512, .f32⟩
  | .local _ .vmem, ⟨10, _⟩ => ⟨S512x512, .bf16⟩
  | .local _ .vmem, ⟨11, _⟩ => ⟨S512x512, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S8192x11264 : Shape := ⟨2, ![8192, 11264]⟩
abbrev S3x11264 : Shape := ⟨2, ![3, 11264]⟩
abbrev S11264 : Shape := ⟨1, ![11264]⟩
abbrev S_ : Shape := ⟨0, ![]⟩
abbrev S1x11264 : Shape := ⟨2, ![1, 11264]⟩
abbrev S8194x11264 : Shape := ⟨2, ![8194, 11264]⟩
abbrev S8192x5632 : Shape := ⟨2, ![8192, 5632]⟩

abbrev nBuf : Space → Nat
  | .hbm => 45
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S11264, .f32⟩
  | .hbm, ⟨3, _⟩ => ⟨S_, .f32⟩
  | .hbm, ⟨4, _⟩ => ⟨S1x11264, .f32⟩
  | .hbm, ⟨5, _⟩ => ⟨S8194x11264, .f32⟩
  | .hbm, ⟨6, _⟩ => ⟨S1x11264, .f32⟩
  | .hbm, ⟨7, _⟩ => ⟨S11264, .f32⟩
  | .hbm, ⟨8, _⟩ => ⟨S8192x11264, .f32⟩
  | .hbm, ⟨9, _⟩ => ⟨S1x11264, .f32⟩
  | .hbm, ⟨10, _⟩ => ⟨S8192x11264, .f32⟩
  | .hbm, ⟨11, _⟩ => ⟨S8192x11264, .f32⟩
  | .hbm, ⟨12, _⟩ => ⟨S_, .f32⟩
  | .hbm, ⟨13, _⟩ => ⟨S8192x11264, .f32⟩
  | .hbm, ⟨14, _⟩ => ⟨S8192x11264, .f32⟩
  | .hbm, ⟨15, _⟩ => ⟨S1x11264, .f32⟩
  | .hbm, ⟨16, _⟩ => ⟨S11264, .f32⟩
  | .hbm, ⟨17, _⟩ => ⟨S8192x11264, .f32⟩
  | .hbm, ⟨18, _⟩ => ⟨S1x11264, .f32⟩
  | .hbm, ⟨19, _⟩ => ⟨S8192x11264, .f32⟩
  | .hbm, ⟨20, _⟩ => ⟨S8192x11264, .f32⟩
  | .hbm, ⟨21, _⟩ => ⟨S8192x11264, .f32⟩
  | .hbm, ⟨22, _⟩ => ⟨S1x11264, .f32⟩
  | .hbm, ⟨23, _⟩ => ⟨S11264, .f32⟩
  | .hbm, ⟨24, _⟩ => ⟨S8192x11264, .f32⟩
  | .hbm, ⟨25, _⟩ => ⟨S1x11264, .f32⟩
  | .hbm, ⟨26, _⟩ => ⟨S8192x11264, .f32⟩
  | .hbm, ⟨27, _⟩ => ⟨S8192x11264, .f32⟩
  | .hbm, ⟨28, _⟩ => ⟨S8192x11264, .f32⟩
  | .hbm, ⟨29, _⟩ => ⟨S1x11264, .f32⟩
  | .hbm, ⟨30, _⟩ => ⟨S8192x11264, .f32⟩
  | .hbm, ⟨31, _⟩ => ⟨S8192x11264, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Attn.Tile.lean ====
/- One tile of the attention gradient: what the body's payloads compute at an index, over the extended reals.

   A grid point holds one head's queries, output gradients, log-sums and row deltas whole (8192 rows) and one block of
   512 keys and values. Trip `k` of its loop takes the 1024 queries from row `1024 k` on. -/
module

public import proofs.«01_k».proof.Proof.Gen.KernelIdeal.Skeleton
public import Idealize.ShloMosaic.Lib.Pipeline.FrameBody
public import Idealize.ShloMosaic.Lib.Pointwise

@[expose] public section

set_option maxRecDepth 16384

noncomputable section

namespace Cert.KernelIdeal.Attn

open Cert.KernelIdeal Cert.KernelIdeal.Gen Idealize.ShloMosaic

/-- Row `j` of an axis of 8192 rows, for any natural number. -/
def row (j : ℕ) : Fin 8192 := ⟨j % 8192, Nat.mod_lt _ (by norm_num)⟩

/-- The probability weight of key row `r` for query `j`: two to the power of score minus log-sum. -/
def pT (q : S1x8192x192.Idx → EReal) (k : S1x512x192.Idx → EReal) (lse : S1x1x8192.Idx → EReal) (r : Fin 512) (j : ℕ) : EReal :=
  Ideal.exp2 (∑ d : Fin 192, k (ix3 0 r d) * q (ix3 0 (row j) d) - lse (ix3 0 0 (row j)))

/-- The score gradient of key row `r` for query `j`. -/
def sT (q : S1x8192x192.Idx → EReal) (k : S1x512x192.Idx → EReal) (v : S1x512x128.Idx → EReal) (w : S1x8192x128.Idx → EReal)
    (lse dl : S1x1x8192.Idx → EReal) (r : Fin 512) (j : ℕ) : EReal :=
  pT q k lse r j * (∑ d : Fin 128, v (ix3 0 r d) * w (ix3 0 (row j) d) - dl (ix3 0 0 (row j)))

/-- Trip `k`'s slice of an array of 8192 rows. -/
def rows192 (q : S1x8192x192.Idx → EReal) (k : Fin k0_t1_loop.trips) : S1x1024x192.Idx → EReal :=
  View.ld (Val := Elt Ideal) (e' := .bf16) q (Rect.unit (s := S1x8192x192) (k0_off1 k) S1x1024x192.size (k0_off1_inb k))
def rows128 (w : S1x8192x128.Idx → EReal) (k : Fin k0_t1_loop.trips) : S1x1024x128.Idx → EReal :=
  View.ld (Val := Elt Ideal) (e' := .bf16) w (Rect.unit (s := S1x8192x128) (k0_off2 k) S1x1024x128.size (k0_off2_inb k))
def rows1 (l : S1x1x8192.Idx → EReal) (k : Fin k0_t1_loop.trips) : S1x1x1024.Idx → EReal :=
  View.ld (Val := Elt Ideal) (e' := .f32) l (Rect.unit (s := S1x1x8192) (k0_off3 k) S1x1x1024.size (k0_off3_inb k))

theorem trips_lt (k : Fin k0_t1_loop.trips) : k.val < 8 := Nat.lt_of_lt_of_le k.isLt k0_t1_abs.2.1

theorem rows192_apply (q : S1x8192x192.Idx → EReal) (k : Fin k0_t1_loop.trips) (j : Fin 1024) (d : Fin 192) :
    rows192 q k (ix3 0 j d) = q (ix3 0 (row (1024 * k.val + j.val)) d) := by
  have hk := trips_lt k
  show q _ = q _
  congr 1
  funext a
  apply Fin.ext
  match a with
  | ⟨0, _⟩ => show k0_off1 k 0 + 1 * 0 = 0; rw [k0_off1_eq]; rfl
  | ⟨1, _⟩ => show k0_off1 k 1 + 1 * j.val = (1024 * k.val + j.val) % 8192; rw [k0_off1_eq]; show 1024 * k.val + 1 * j.val = _; omega
  | ⟨2, _⟩ => show k0_off1 k 2 + 1 * d.val = d.val; rw [k0_off1_eq]; show 0 + 1 * d.val = _; omega

theorem rows128_apply (w : S1x8192x128.Idx → EReal) (k : Fin k0_t1_loop.trips) (j : Fin 1024) (d : Fin 128) :
    rows128 w k (ix3 0 j d) = w (ix3 0 (row (1024 * k.val + j.val)) d) := by
  have hk := trips_lt k
  show w _ = w _
  congr 1
  funext a
  apply Fin.ext
  match a with
  | ⟨0, _⟩ => show k0_off2 k 0 + 1 * 0 = 0; rw [k0_off2_eq]; rfl
  | ⟨1, _⟩ => show k0_off2 k 1 + 1 * j.val = (1024 * k.val + j.val) % 8192; rw [k0_off2_eq]; show 1024 * k.val + 1 * j.val = _; omega
  | ⟨2, _⟩ => show k0_off2 k 2 + 1 * d.val = d.val; rw [k0_off2_eq]; show 0 + 1 * d.val = _; omega

theorem rows1_apply (l : S1x1x8192.Idx → EReal) (k : Fin k0_t1_loop.trips) (j : Fin 1024) :
    rows1 l k (ix3 0 0 j) = l (ix3 0 0 (row (1024 * k.val + j.val))) := by
  have hk := trips_lt k
  show l _ = l _
  congr 1
  funext a
  apply Fin.ext
  match a with
  | ⟨0, _⟩ => show k0_off3 k 0 + 1 * 0 = 0; rw [k0_off3_eq]; rfl
  | ⟨1, _⟩ => show k0_off3 k 1 + 1 * 0 = 0; rw [k0_off3_eq]; rfl
  | ⟨2, _⟩ => show k0_off3 k 2 + 1 * j.val = (1024 * k.val + j.val) % 8192; rw [k0_off3_eq]; show 1024 * k.val + 1 * j.val = _; omega

variable (q : S1x8192x192.Idx → EReal) (k : S1x512x192.Idx → EReal) (v : S1x512x128.Idx → EReal) (w : S1x8192x128.Idx → EReal)
  (lse dl : S1x1x8192.Idx → EReal) (t : Fin k0_t1_loop.trips)

theorem pay5_apply (r : Fin 512) (j : Fin 1024) :
    k0_pay5 (F := Ideal) (k0_pay12 k) (rows192 q t) (rows1 lse t) (ix2 r j) = pT q k lse r (1024 * t.val + j.val) := by
  unfold k0_pay5 k0_pay3 k0_pay12 pT
  pointwise []
  simp only [rows192_apply, rows1_apply]
  rfl

theorem pay6_apply (r : Fin 512) (j : Fin 1024) :
    k0_pay6 (F := Ideal) (k0_pay12 k) (k0_pay13 v) (rows192 q t) (rows128 w t) (rows1 lse t) (rows1 dl t) (ix2 r j)
      = sT q k v w lse dl r (1024 * t.val + j.val) := by
  unfold k0_pay6 k0_pay4 k0_pay13 sT
  pointwise []
  simp only [rows128_apply, rows1_apply, pay5_apply]

theorem pay7_apply (a : S512x128.Idx → EReal) (r : Fin 512) (d : Fin 128) :
    k0_pay7 (F := Ideal) (k0_pay12 k) (rows192 q t) (rows128 w t) (rows1 lse t) a (ix2 r d)
      = a (ix2 r d) + ∑ j : Fin 1024, pT q k lse r (1024 * t.val + j.val) * w (ix3 0 (row (1024 * t.val + j.val)) d) := by
  unfold k0_pay7 k0_pay4
  pointwise []
  simp only [rows128_apply, pay5_apply]

theorem pay8_apply (a : S512x192.Idx → EReal) (r : Fin 512) (d : Fin 192) :
    k0_pay8 (F := Ideal) (k0_pay12 k) (k0_pay13 v) (rows192 q t) (rows128 w t) (rows1 lse t) (rows1 dl t) a (ix2 r d)
      = a (ix2 r d) + ∑ j : Fin 1024, sT q k v w lse dl r (1024 * t.val + j.val) * q (ix3 0 (row (1024 * t.val + j.val)) d) := by
  unfold k0_pay8 k0_pay3
  pointwise []
  simp only [rows192_apply, pay6_apply]

theorem pay14_apply (a : S1x8192x192.Idx → EReal) (j : Fin 1024) (d : Fin 192) :
    k0_pay14 (F := Ideal) k (k0_pay6 (k0_pay12 k) (k0_pay13 v) (rows192 q t) (rows128 w t) (rows1 lse t) (rows1 dl t))
        (rows192 a t) (ix3 0 j d)
      = a (ix3 0 (row (1024 * t.val + j.val)) d) + ∑ r : Fin 512, sT q k v w lse dl r (1024 * t.val + j.val) * k (ix3 0 r d) := by
  unfold k0_pay14
  pointwise []
  simp only [rows192_apply, pay6_apply]
  unfold k0_pay12
  pointwise []

end Cert.KernelIdeal.Attn
-- ==== Proof.Attn.Loop.lean ====
/- The loop over the query rows at one grid point: what its accumulators hold after any number of trips.

   Trip `k` stores into three arrays: the block's key-gradient sum, its value-gradient sum, and its own 1024 rows of the
   query-gradient sum. -/
module

public import proofs.«01_k».proof.Proof.Gen.KernelIdeal.Loops
public import proofs.«01_k».proof.Proof.Attn.Tile
public import Idealize.ShloMosaic.Lib.Pipeline.Value
public import Idealize.ShloMosaic.Lib.WritesUnit

@[expose] public section

set_option maxRecDepth 16384

noncomputable section

namespace Cert.KernelIdeal.Attn

open Cert.KernelIdeal Cert.KernelIdeal.Gen Idealize.ShloMosaic Idealize.ShloMosaic.TcCoe Idealize.SL.Sem

theorem inb192 : ∀ a, (![0, 0] : Fin 2 → ℕ) a + S512x192.size a ≤ S512x192.size a := by decide
theorem inb128 : ∀ a, (![0, 0] : Fin 2 → ℕ) a + S512x128.size a ≤ S512x128.size a := by decide

/-- The pieces one trip stores, given the arrays it reads. -/
def tripP (q : S1x8192x192.Idx → EReal) (k : S1x512x192.Idx → EReal) (v : S1x512x128.Idx → EReal) (w : S1x8192x128.Idx → EReal)
    (lse dl : S1x1x8192.Idx → EReal) (t : Fin k0_t1_loop.trips)
    (a : S1x8192x192.Idx → EReal) (ak : S512x192.Idx → EReal) (av : S512x128.Idx → EReal) :
    List (View.Piece (Elt Ideal) S1x8192x192 .f32) × List (View.Piece (Elt Ideal) S512x192 .f32) × List (View.Piece (Elt Ideal) S512x128 .f32) :=
  ([⟨Rect.unit (s := S1x8192x192) (k0_off1 t) S1x1024x192.size (k0_off1_inb t), k0_pay14 (F := Ideal) k (k0_pay6 (k0_pay12 k) (k0_pay13 v) (rows192 q t) (rows128 w t) (rows1 lse t) (rows1 dl t)) (rows192 a t)⟩],
   [⟨Rect.unit (s := S512x192) ![0, 0] S512x192.size inb192, k0_pay8 (F := Ideal) (k0_pay12 k) (k0_pay13 v) (rows192 q t) (rows128 w t) (rows1 lse t) (rows1 dl t)
       (View.ld (Val := Elt Ideal) (e' := .f32) ak (Rect.unit (s := S512x192) ![0, 0] S512x192.size inb192))⟩],
   [⟨Rect.unit (s := S512x128) ![0, 0] S512x128.size inb128, k0_pay7 (F := Ideal) (k0_pay12 k) (rows192 q t) (rows128 w t) (rows1 lse t)
       (View.ld (Val := Elt Ideal) (e' := .f32) av (Rect.unit (s := S512x128) ![0, 0] S512x128.size inb128))⟩])

section Trip
variable (𝒱 : Variants) (c : Dev nD) (bd : Option 𝒱.V) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (v11 : Vec Ideal S1x512x192 .bf16) (v13 : Vec Ideal S1x512x128 .bf16)
  (X2 : BufTy.Contents (Elt Ideal) arg2.view.ty) (X5 : BufTy.Contents (Elt Ideal) arg5.view.ty) (X6 : BufTy.Contents (Elt Ideal) arg6.view.ty) (X7 : BufTy.Contents (Elt Ideal) arg7.view.ty)

/-- One trip's stores are the pieces above, read at the contents it finds. -/
theorem tripL_eq (k : Fin k0_t1_loop.trips) (f8 : BufTy.Contents (Elt Ideal) arg8.view.ty) (f11 : BufTy.Contents (Elt Ideal) arg11.view.ty) (f12 : BufTy.Contents (Elt Ideal) arg12.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 k f8 f11 f12
      = tripP (arg2.view.read (Elt Ideal) X2) v11 v13 (arg5.view.read (Elt Ideal) X5) (arg6.view.read (Elt Ideal) X6) (arg7.view.read (Elt Ideal) X7) k
          (arg8.view.read (Elt Ideal) f8) (arg11.view.read (Elt Ideal) f11) (arg12.view.read (Elt Ideal) f12) := by
  unfold tripL_k0_t1 trip_k0_t1
  rfl

end Trip

/-! ## Sums over rows -/

/-- A sum over the rows before `n + 1024` is the sum over the rows before `n` plus one trip's. -/
theorem sum_trip (f : ℕ → EReal) (n : ℕ) :
    ∑ j ∈ Finset.range (n + 1024), f j = (∑ j ∈ Finset.range n, f j) + ∑ j : Fin 1024, f (n + j.val) := by
  rw [Finset.sum_range_add, Finset.sum_range (fun x => f (n + x))]

section Read
variable (V8 : View sig .tc .vmem S1x8192x192 .f32) (V11 : View sig .tc .vmem S512x192 .f32) (V12 : View sig .tc .vmem S512x128 .f32)
  (q : S1x8192x192.Idx → EReal) (k : S1x512x192.Idx → EReal) (v : S1x512x128.Idx → EReal) (w : S1x8192x128.Idx → EReal)
  (lse dl : S1x1x8192.Idx → EReal)
  (G8 : V8.ty.Contents (Elt Ideal)) (G11 : V11.ty.Contents (Elt Ideal)) (G12 : V12.ty.Contents (Elt Ideal))
  (P : ℕ → List (View.Piece (Elt Ideal) S1x8192x192 .f32) × List (View.Piece (Elt Ideal) S512x192 .f32) × List (View.Piece (Elt Ideal) S512x128 .f32))

/-- What it is for a sequence of piece lists to be the loop's. -/
structure LoopPieces : Prop where
  zero : P 0 = ([], [], [])
  succ : ∀ t : Fin k0_t1_loop.trips, P (t.val + 1)
    = ((tripP q k v w lse dl t (V8.read (Elt Ideal) (V8.writes (Elt Ideal) G8 (P t.val).1)) (V11.read (Elt Ideal) (V11.writes (Elt Ideal) G11 (P t.val).2.1)) (V12.read (Elt Ideal) (V12.writes (Elt Ideal) G12 (P t.val).2.2))).1 ++ (P t.val).1,
       (tripP q k v w lse dl t (V8.read (Elt Ideal) (V8.writes (Elt Ideal) G8 (P t.val).1)) (V11.read (Elt Ideal) (V11.writes (Elt Ideal) G11 (P t.val).2.1)) (V12.read (Elt Ideal) (V12.writes (Elt Ideal) G12 (P t.val).2.2))).2.1 ++ (P t.val).2.1,
       (tripP q k v w lse dl t (V8.read (Elt Ideal) (V8.writes (Elt Ideal) G8 (P t.val).1)) (V11.read (Elt Ideal) (V11.writes (Elt Ideal) G11 (P t.val).2.1)) (V12.read (Elt Ideal) (V12.writes (Elt Ideal) G12 (P t.val).2.2))).2.2 ++ (P t.val).2.2)

variable {V8 V11 V12 q k v w lse dl G8 G11 G12 P}

theorem zero2 : (![0, 0] : Fin 2 → ℕ) = fun _ => 0 := by funext a; fin_cases a <;> rfl

/-- The value-gradient sum after `n` trips: what it began with plus the rows before `1024 n`. -/
theorem read12 (h : LoopPieces V8 V11 V12 q k v w lse dl G8 G11 G12 P) (n : ℕ) (hn : n ≤ k0_t1_loop.trips) (r : Fin 512) (d : Fin 128) :
    V12.read (Elt Ideal) (V12.writes (Elt Ideal) G12 (P n).2.2) (ix2 r d)
      = V12.read (Elt Ideal) G12 (ix2 r d) + ∑ j ∈ Finset.range (1024 * n), pT q k lse r j * w (ix3 0 (row j) d) := by
  induction n with
  | zero => rw [h.zero]; simp [View.writes_nil]
  | succ n ih =>
    rw [h.succ ⟨n, hn⟩]
    dsimp only [tripP]
    rw [List.singleton_append, View.read_writes_cons_unit_of_mem V12 _ inb128 _ _ (ix2 r d) (ix2 r d) rfl (by intro a; fin_cases a <;> simp)]
    rw [View.ld_unit_zero (S := S512x128) zero2 inb128, pay7_apply, ih (by omega), add_assoc]
    congr 1
    rw [Nat.mul_add, sum_trip (fun j => pT q k lse r j * w (ix3 0 (row j) d))]

/-- The key-gradient sum after `n` trips. -/
theorem read11 (h : LoopPieces V8 V11 V12 q k v w lse dl G8 G11 G12 P) (n : ℕ) (hn : n ≤ k0_t1_loop.trips) (r : Fin 512) (d : Fin 192) :
    V11.read (Elt Ideal) (V11.writes (Elt Ideal) G11 (P n).2.1) (ix2 r d)
      = V11.read (Elt Ideal) G11 (ix2 r d) + ∑ j ∈ Finset.range (1024 * n), sT q k v w lse dl r j * q (ix3 0 (row j) d) := by
  induction n with
  | zero => rw [h.zero]; simp [View.writes_nil]
  | succ n ih =>
    rw [h.succ ⟨n, hn⟩]
    dsimp only [tripP]
    rw [List.singleton_append, View.read_writes_cons_unit_of_mem V11 _ inb192 _ _ (ix2 r d) (ix2 r d) rfl (by intro a; fin_cases a <;> simp)]
    rw [View.ld_unit_zero (S := S512x192) zero2 inb192, pay8_apply, ih (by omega), add_assoc]
    congr 1
    rw [Nat.mul_add, sum_trip (fun j => sT q k v w lse dl r j * q (ix3 0 (row j) d))]

/-- The query-gradient rows after `n` trips: a row before `1024 n` has this block's term added, the others are as at entry. -/
theorem read8 (h : LoopPieces V8 V11 V12 q k v w lse dl G8 G11 G12 P) (n : ℕ) (hn : n ≤ k0_t1_loop.trips) (j : Fin 8192) (d : Fin 192) :
    V8.read (Elt Ideal) (V8.writes (Elt Ideal) G8 (P n).1) (ix3 0 j d)
      = if j.val < 1024 * n then V8.read (Elt Ideal) G8 (ix3 0 j d) + ∑ r : Fin 512, sT q k v w lse dl r j.val * k (ix3 0 r d)
        else V8.read (Elt Ideal) G8 (ix3 0 j d) := by
  induction n with
  | zero => rw [h.zero]; simp [View.writes_nil]
  | succ n ih =>
    have hn8 : n < 8 := trips_lt ⟨n, hn⟩
    rw [h.succ ⟨n, hn⟩]
    dsimp only [tripP]
    by_cases hj : 1024 * n ≤ j.val ∧ j.val < 1024 * n + 1024
    · rw [List.singleton_append, View.read_writes_cons_unit_of_mem V8 _ (k0_off1_inb ⟨n, hn⟩) _ _ (ix3 0 j d) (ix3 0 (⟨j.val - 1024 * n, by omega⟩ : Fin 1024) d) (k0_off1_eq ⟨n, hn⟩)
        (by intro a
            match a with
            | ⟨0, _⟩ => rfl
            | ⟨1, _⟩ => show j.val = 1024 * n + (j.val - 1024 * n); omega
            | ⟨2, _⟩ => show d.val = 0 + d.val; omega)]
      have hr : row (1024 * n + (j.val - 1024 * n)) = j := Fin.ext (by show _ % 8192 = _; have := j.isLt; omega)
      rw [pay14_apply]
      dsimp only
      rw [hr, ih (by omega), if_neg (by omega), if_pos (by omega), show 1024 * n + (j.val - 1024 * n) = j.val by omega]
    · rw [List.singleton_append, View.read_writes_cons_unit_of_not_mem V8 _ (k0_off1_inb ⟨n, hn⟩) _ _ (ix3 0 j d) (k0_off1_eq ⟨n, hn⟩) 1
        (by show j.val < 1024 * n ∨ 1024 * n + 1024 ≤ j.val; omega), ih (by omega)]
      by_cases h1 : j.val < 1024 * n
      · rw [if_pos h1, if_pos (by omega)]
      · rw [if_neg h1, if_neg (by omega)]

end Read

end Cert.KernelIdeal.Attn
-- ==== Proof.Attn.Point.lean ====
/- What one grid point leaves in its three outputs, from the blocks it is given.

   The grid has three kinds of points: a head's first key block (A) starts the query gradient from zero, its last (C)
   multiplies it by the scale afterwards, and the blocks between (B) add to what the block before left. -/
module

public import proofs.«01_k».proof.Proof.Gen.KernelIdeal.Frame
public import proofs.«01_k».proof.Proof.Attn.Loop

@[expose] public section

set_option maxRecDepth 16384

noncomputable section

namespace Cert.KernelIdeal.Attn

open Cert.KernelIdeal Cert.KernelIdeal.Gen Idealize.ShloMosaic Idealize.ShloMosaic.TcCoe Idealize.SL.Sem

theorem trips_eq : k0_t1_loop.trips = 8 := rfl

/-- The loop's recorded pieces are a sequence of the kind `LoopPieces` describes. -/
theorem pb_loop (𝒱 : Variants) (c : Dev nD) (bd : Option 𝒱.V) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (v11 : Vec Ideal S1x512x192 .bf16) (v13 : Vec Ideal S1x512x128 .bf16)
    (X2 : BufTy.Contents (Elt Ideal) arg2.view.ty) (X5 : BufTy.Contents (Elt Ideal) arg5.view.ty) (X6 : BufTy.Contents (Elt Ideal) arg6.view.ty) (X7 : BufTy.Contents (Elt Ideal) arg7.view.ty)
    (G8 : BufTy.Contents (Elt Ideal) arg8.view.ty) (G11 : BufTy.Contents (Elt Ideal) arg11.view.ty) (G12 : BufTy.Contents (Elt Ideal) arg12.view.ty) :
    LoopPieces arg8.view arg11.view arg12.view (arg2.view.read (Elt Ideal) X2) v11 v13 (arg5.view.read (Elt Ideal) X5) (arg6.view.read (Elt Ideal) X6) (arg7.view.read (Elt Ideal) X7) G8 G11 G12
      (pb_k0_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12) :=
  ⟨rfl, fun t => by rw [pb_k0_t1_succ, tripL_eq]⟩

theorem zero3 : (![0, 0, 0] : Fin 3 → ℕ) = fun _ => 0 := by funext a; fin_cases a <;> rfl

theorem read_store {κ : Kind} {sp : Space} (V : View sig κ sp S1x8192x192 .f32) (f) (w : S1x8192x192.Idx → EReal) (L) (y) :
    V.read (Elt Ideal) (V.writes (Elt Ideal) f (⟨Rect.unit (s := S1x8192x192) ![0, 0, 0] S1x8192x192.size inb_S1x8192x192_S1x8192x192_0_0_0, w⟩ :: L)) y = w y :=
  View.read_writes_cons_unit_of_mem V f inb_S1x8192x192_S1x8192x192_0_0_0 w L y y rfl (by intro a; fin_cases a <;> simp)
/-- A store through a whole block reads back as its payload. -/
theorem read_store192 {κ : Kind} {sp : Space} (V : View sig κ sp S1x512x192 .f32) (f) (w : S1x512x192.Idx → EReal) (y) :
    V.read (Elt Ideal) (V.writes (Elt Ideal) f [⟨Rect.unit (s := S1x512x192) ![0, 0, 0] S1x512x192.size inb_S1x512x192_S1x512x192_0_0_0, w⟩]) y = w y :=
  View.read_writes_cons_unit_of_mem V f inb_S1x512x192_S1x512x192_0_0_0 w [] y y rfl (by intro a; fin_cases a <;> simp)
theorem read_store128 {κ : Kind} {sp : Space} (V : View sig κ sp S1x512x128 .bf16) (f) (w : S1x512x128.Idx → EReal) (y) :
    V.read (Elt Ideal) (V.writes (Elt Ideal) f [⟨Rect.unit (s := S1x512x128) ![0, 0, 0] S1x512x128.size inb_S1x512x128_S1x512x128_0_0_0, w⟩]) y = w y :=
  View.read_writes_cons_unit_of_mem V f inb_S1x512x128_S1x512x128_0_0_0 w [] y y rfl (by intro a; fin_cases a <;> simp)

theorem pay9_apply (y) : k0_pay9 (F := Ideal) y = 0 := by unfold k0_pay9; pointwise []
theorem pay10_apply (y) : k0_pay10 (F := Ideal) y = 0 := by unfold k0_pay10; pointwise []
theorem pay11_apply (y) : k0_pay11 (F := Ideal) y = 0 := by unfold k0_pay11; pointwise []

/-- An accumulator begins at zero. -/
theorem read_zero192 {κ : Kind} {sp : Space} (V : View sig κ sp S512x192 .f32) (f) (y) :
    V.read (Elt Ideal) (V.writes (Elt Ideal) f [⟨Rect.unit (s := S512x192) ![0, 0] S512x192.size inb_S512x192_S512x192_0_0, k0_pay10 (F := Ideal)⟩]) y = (0 : EReal) :=
  (View.read_writes_cons_unit_of_mem V f inb_S512x192_S512x192_0_0 (k0_pay10 (F := Ideal)) [] y y rfl (by intro a; fin_cases a <;> simp)).trans (pay10_apply y)
theorem read_zero128 {κ : Kind} {sp : Space} (V : View sig κ sp S512x128 .f32) (f) (y) :
    V.read (Elt Ideal) (V.writes (Elt Ideal) f [⟨Rect.unit (s := S512x128) ![0, 0] S512x128.size inb_S512x128_S512x128_0_0, k0_pay11 (F := Ideal)⟩]) y = (0 : EReal) :=
  (View.read_writes_cons_unit_of_mem V f inb_S512x128_S512x128_0_0 (k0_pay11 (F := Ideal)) [] y y rfl (by intro a; fin_cases a <;> simp)).trans (pay11_apply y)

/-- The scale of the scores, and the factor the key gradient carries. -/
abbrev scaleV : EReal := Ideal.ofBits .f32 0x3D93CD3A#32
abbrev ln2V : EReal := Named.named (F := Ideal) (φ := .f32) κ "ln2" 0x3F317218#32

theorem pay2_apply (a : S1x8192x192.Idx → EReal) (j : Fin 8192) (d : Fin 192) :
    k0_pay2 (F := Ideal) a (ix3 0 j d) = a (ix3 0 j d) * scaleV := by
  unfold k0_pay2; pointwise []
theorem pay15_apply (a : S512x192.Idx → EReal) (r : Fin 512) (d : Fin 192) :
    k0_pay15 (F := Ideal) a (ix3 0 r d) = a (ix2 r d) * ln2V := by
  unfold k0_pay15; pointwise []
theorem pay1_16_apply (a : S512x128.Idx → EReal) (r : Fin 512) (d : Fin 128) :
    k0_pay1 (k0_pay16 (F := Ideal) a) (ix3 0 r d) = a (ix2 r d) := by
  unfold k0_pay1 k0_pay16; pointwise []

theorem out0_A_6_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : cond0_0 i) (hc1 : ¬cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (j : Fin 8192) (d : Fin 192) :
    out0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix3 0 j d) = ∑ r : Fin 512, sT x0 x1 x2 x3 x4 x5 r j.val * x1 (ix3 0 r d) := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5), ← View.read_writes_eq_canon arg8.view arg8.view.junk _ (cover0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  rw [View.writes_append]
  rw [read8 (pb_loop ..) _ (le_refl _), if_pos (show j.val < 1024 * k0_t1_loop.trips by rw [trips_eq]; omega)]
  simp only [View.readAt_eq_ld, harg2.read_unread, harg3.read_unread, harg4.read_unread, harg5.read_unread, harg6.read_unread, harg7.read_unread, harg8.read_unread]
  rw [View.ld_unit_zero (S := S1x512x192) zero3, View.ld_unit_zero (S := S1x512x128) zero3]
  unfold kernelRun0_A.sl.H6_1
  rw [(read_store arg8.view _ _ _ _).trans (pay9_apply _), zero_add]

theorem out0_A_7_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : cond0_0 i) (hc1 : ¬cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (r : Fin 512) (d : Fin 192) :
    out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix3 0 r d) = (∑ j ∈ Finset.range 8192, sT x0 x1 x2 x3 x4 x5 r j * x0 (ix3 0 (row j) d)) * ln2V := by
  unfold out0_A_7 kernelRun0_A kernelRun0_A.sl.v16
  dsimp only
  refine (read_store192 _ _ _ _).trans ?_
  rw [pay15_apply]
  congr 1
  unfold View.readCov kernelRun0_A.sl.HS0_1
  rw [View.readAt_eq_ld, View.ld_unit_zero (S := S512x192) zero2, View.writes_append]
  rw [read11 (pb_loop ..) _ (le_refl _)]
  rw [read_zero192, zero_add]
  simp only [View.readAt_eq_ld, harg2.read_unread, harg3.read_unread, harg4.read_unread, harg5.read_unread, harg6.read_unread, harg7.read_unread, harg8.read_unread]
  rw [View.ld_unit_zero (S := S1x512x192) zero3]
  try rw [View.ld_unit_zero (S := S1x512x128) zero3]
  rfl

theorem out0_A_8_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : cond0_0 i) (hc1 : ¬cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (r : Fin 512) (d : Fin 128) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix3 0 r d) = ∑ j ∈ Finset.range 8192, pT x0 x1 x4 r j * x3 (ix3 0 (row j) d) := by
  unfold out0_A_8 kernelRun0_A kernelRun0_A.sl.r kernelRun0_A.sl.v22
  dsimp only
  refine (read_store128 _ _ _ _).trans ?_
  rw [pay1_16_apply]
  unfold View.readCov kernelRun0_A.sl.HS1_1
  rw [View.readAt_eq_ld, View.ld_unit_zero (S := S512x128) zero2, View.writes_append]
  rw [read12 (pb_loop ..) _ (le_refl _)]
  rw [read_zero128, zero_add]
  simp only [View.readAt_eq_ld, harg2.read_unread, harg3.read_unread, harg4.read_unread, harg5.read_unread, harg6.read_unread, harg7.read_unread, harg8.read_unread]
  rw [View.ld_unit_zero (S := S1x512x192) zero3]
  try rw [View.ld_unit_zero (S := S1x512x128) zero3]
  rfl

theorem out0_B_6_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : ¬cond0_0 i) (hc1 : ¬cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (xo6 : Vec Ideal S1x8192x192 .f32) (j : Fin 8192) (d : Fin 192) :
    out0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6 (ix3 0 j d) = xo6 (ix3 0 j d) + ∑ r : Fin 512, sT x0 x1 x2 x3 x4 x5 r j.val * x1 (ix3 0 r d) := by
  unfold out0_B_6
  rw [View.read_writes_eq_canon _ _ _ (cover0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6), ← View.read_writes_eq_canon arg8.view (harg8.unread xo6) _ (cover0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6)]
  unfold kernelRun0_B
  dsimp only
  rw [read8 (pb_loop ..) _ (le_refl _), if_pos (show j.val < 1024 * k0_t1_loop.trips by rw [trips_eq]; omega)]
  simp only [View.readAt_eq_ld, harg2.read_unread, harg3.read_unread, harg4.read_unread, harg5.read_unread, harg6.read_unread, harg7.read_unread, harg8.read_unread]
  rw [View.ld_unit_zero (S := S1x512x192) zero3, View.ld_unit_zero (S := S1x512x128) zero3]

theorem out0_B_7_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : ¬cond0_0 i) (hc1 : ¬cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (xo6 : Vec Ideal S1x8192x192 .f32) (r : Fin 512) (d : Fin 192) :
    out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6 (ix3 0 r d) = (∑ j ∈ Finset.range 8192, sT x0 x1 x2 x3 x4 x5 r j * x0 (ix3 0 (row j) d)) * ln2V := by
  unfold out0_B_7 kernelRun0_B kernelRun0_B.sl.v16
  dsimp only
  refine (read_store192 _ _ _ _).trans ?_
  rw [pay15_apply]
  congr 1
  unfold View.readCov kernelRun0_B.sl.HS0_1
  rw [View.readAt_eq_ld, View.ld_unit_zero (S := S512x192) zero2, View.writes_append]
  rw [read11 (pb_loop ..) _ (le_refl _)]
  rw [read_zero192, zero_add]
  simp only [View.readAt_eq_ld, harg2.read_unread, harg3.read_unread, harg4.read_unread, harg5.read_unread, harg6.read_unread, harg7.read_unread, harg8.read_unread]
  rw [View.ld_unit_zero (S := S1x512x192) zero3]
  try rw [View.ld_unit_zero (S := S1x512x128) zero3]
  rfl

theorem out0_B_8_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : ¬cond0_0 i) (hc1 : ¬cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (xo6 : Vec Ideal S1x8192x192 .f32) (r : Fin 512) (d : Fin 128) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6 (ix3 0 r d) = ∑ j ∈ Finset.range 8192, pT x0 x1 x4 r j * x3 (ix3 0 (row j) d) := by
  unfold out0_B_8 kernelRun0_B kernelRun0_B.sl.r kernelRun0_B.sl.v22
  dsimp only
  refine (read_store128 _ _ _ _).trans ?_
  rw [pay1_16_apply]
  unfold View.readCov kernelRun0_B.sl.HS1_1
  rw [View.readAt_eq_ld, View.ld_unit_zero (S := S512x128) zero2, View.writes_append]
  rw [read12 (pb_loop ..) _ (le_refl _)]
  rw [read_zero128, zero_add]
  simp only [View.readAt_eq_ld, harg2.read_unread, harg3.read_unread, harg4.read_unread, harg5.read_unread, harg6.read_unread, harg7.read_unread, harg8.read_unread]
  rw [View.ld_unit_zero (S := S1x512x192) zero3]
  try rw [View.ld_unit_zero (S := S1x512x128) zero3]
  rfl

theorem out0_C_6_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : ¬cond0_0 i) (hc1 : cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (xo6 : Vec Ideal S1x8192x192 .f32) (j : Fin 8192) (d : Fin 192) :
    out0_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6 (ix3 0 j d) = (xo6 (ix3 0 j d) + ∑ r : Fin 512, sT x0 x1 x2 x3 x4 x5 r j.val * x1 (ix3 0 r d)) * scaleV := by
  unfold out0_C_6
  unfold kernelRun0_C kernelRun0_C.sl.v30
  dsimp only
  refine (read_store _ _ _ _ _).trans ?_
  rw [pay2_apply]
  congr 1
  rw [View.readAt_eq_ld, View.ld_unit_zero (S := S1x8192x192) zero3]
  rw [read8 (pb_loop ..) _ (le_refl _), if_pos (show j.val < 1024 * k0_t1_loop.trips by rw [trips_eq]; omega)]
  simp only [View.readAt_eq_ld, harg2.read_unread, harg3.read_unread, harg4.read_unread, harg5.read_unread, harg6.read_unread, harg7.read_unread, harg8.read_unread]
  rw [View.ld_unit_zero (S := S1x512x192) zero3, View.ld_unit_zero (S := S1x512x128) zero3]

theorem out0_C_7_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : ¬cond0_0 i) (hc1 : cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (xo6 : Vec Ideal S1x8192x192 .f32) (r : Fin 512) (d : Fin 192) :
    out0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6 (ix3 0 r d) = (∑ j ∈ Finset.range 8192, sT x0 x1 x2 x3 x4 x5 r j * x0 (ix3 0 (row j) d)) * ln2V := by
  unfold out0_C_7 kernelRun0_C kernelRun0_C.sl.v16
  dsimp only
  refine (read_store192 _ _ _ _).trans ?_
  rw [pay15_apply]
  congr 1
  unfold View.readCov kernelRun0_C.sl.HS0_1
  rw [View.readAt_eq_ld, View.ld_unit_zero (S := S512x192) zero2, View.writes_append]
  rw [read11 (pb_loop ..) _ (le_refl _)]
  rw [read_zero192, zero_add]
  simp only [View.readAt_eq_ld, harg2.read_unread, harg3.read_unread, harg4.read_unread, harg5.read_unread, harg6.read_unread, harg7.read_unread, harg8.read_unread]
  rw [View.ld_unit_zero (S := S1x512x192) zero3]
  try rw [View.ld_unit_zero (S := S1x512x128) zero3]
  rfl

theorem out0_C_8_apply (c : Dev nD) (i : grid0.Coords) (arg2 : Memref sig .tc .vmem S1x8192x192 .bf16) (harg2 : arg2.IsWhole) (arg3 : Memref sig .tc .vmem S1x512x192 .bf16) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S1x8192x192 .f32) (harg8 : arg8.IsWhole) (arg9 : Memref sig .tc .vmem S1x512x192 .f32) (harg9 : arg9.IsWhole) (arg10 : Memref sig .tc .vmem S1x512x128 .bf16) (harg10 : arg10.IsWhole) (arg11 : Memref sig .tc .vmem S512x192 .f32) (harg11 : arg11.IsWhole) (arg12 : Memref sig .tc .vmem S512x128 .f32) (harg12 : arg12.IsWhole) (hc0 : ¬cond0_0 i) (hc1 : cond0_1 i)
    (x0 : Vec Ideal S1x8192x192 .bf16) (x1 : Vec Ideal S1x512x192 .bf16) (x2 : Vec Ideal S1x512x128 .bf16) (x3 : Vec Ideal S1x8192x128 .bf16) (x4 : Vec Ideal S1x1x8192 .f32) (x5 : Vec Ideal S1x1x8192 .f32) (xo6 : Vec Ideal S1x8192x192 .f32) (r : Fin 512) (d : Fin 128) :
    out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6 (ix3 0 r d) = ∑ j ∈ Finset.range 8192, pT x0 x1 x4 r j * x3 (ix3 0 (row j) d) := by
  unfold out0_C_8 kernelRun0_C kernelRun0_C.sl.r kernelRun0_C.sl.v22
  dsimp only
  refine (read_store128 _ _ _ _).trans ?_
  rw [pay1_16_apply]
  unfold View.readCov kernelRun0_C.sl.HS1_1
  rw [View.readAt_eq_ld, View.ld_unit_zero (S := S512x128) zero2, View.writes_append]
  rw [read12 (pb_loop ..) _ (le_refl _)]
  rw [read_zero128, zero_add]
  simp only [View.readAt_eq_ld, harg2.read_unread, harg3.read_unread, harg4.read_unread, harg5.read_unread, harg6.read_unread, harg7.read_unread, harg8.read_unread]
  rw [View.ld_unit_zero (S := S1x512x192) zero3]
  try rw [View.ld_unit_zero (S := S1x512x128) zero3]
  rfl

end Cert.KernelIdeal.Attn
-- ==== Proof.Attn.Blocks.lean ====
/- Where a grid point's blocks lie, and the sums over a whole head.

   Point `t` of the grid works on head `t / 16` and on the 512 keys from `512 (t mod 16)` on. -/
module

public import proofs.«01_k».proof.Proof.Gen.KernelIdeal.Frame
public import proofs.«01_k».proof.Proof.Attn.Point

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat Window)

/-! ## The sums over a whole head -/

section Global
variable (Q K : S16x8192x192.Idx → EReal) (X W : S16x8192x128.Idx → EReal) (L D : S16x1x8192.Idx → EReal)

/-- The weight of key `k` for query `j` in head `h`. -/
def pG (h : Fin 16) (k j : Fin 8192) : EReal :=
  Ideal.exp2 (∑ d : Fin 192, K (ix3 h k d) * Q (ix3 h j d) - L (ix3 h 0 j))

/-- The score gradient of key `k` for query `j` in head `h`. -/
def sG (h : Fin 16) (k j : Fin 8192) : EReal :=
  pG Q K L h k j * (∑ d : Fin 128, X (ix3 h k d) * W (ix3 h j d) - D (ix3 h 0 j))

/-- The gradients of the queries, the keys and the values. -/
def dqG (h : Fin 16) (j : Fin 8192) (d : Fin 192) : EReal := (∑ k : Fin 8192, sG Q K X W L D h k j * K (ix3 h k d)) * scaleV
def dkG (h : Fin 16) (k : Fin 8192) (d : Fin 192) : EReal := (∑ j : Fin 8192, sG Q K X W L D h k j * Q (ix3 h j d)) * ln2V
def dvG (h : Fin 16) (k : Fin 8192) (d : Fin 128) : EReal := ∑ j : Fin 8192, pG Q K L h k j * W (ix3 h j d)
end Global

theorem row_val (j : Fin 8192) : row j.val = j := Fin.ext (Nat.mod_eq_of_lt j.isLt)

theorem sum_rows (f : Fin 8192 → EReal) : ∑ j ∈ Finset.range 8192, f (row j) = ∑ j : Fin 8192, f j := by
  rw [Finset.sum_range (fun j => f (row j))]
  exact Finset.sum_congr rfl fun j _ => by rw [row_val]

/-! ## Where a point's blocks lie -/

/-- The head and the keys of a point. -/
def hd (t : Fin cfg0.N) : Fin 16 := ⟨t.val / 16 % 16, Nat.mod_lt _ (by norm_num)⟩
def kr (t : Fin cfg0.N) (r : Fin 512) : Fin 8192 := row (512 * (t.val % 16) + r.val)

theorem kr_val (t : Fin cfg0.N) (r : Fin 512) : (kr t r).val = t.val % 16 * 512 + r.val := by
  show (512 * (t.val % 16) + r.val) % 8192 = _
  omega

theorem c0 (t : Fin cfg0.N) : (grid0.coords t 0).val = t.val / 16 % 16 := Pipeline.Grid.coords_val t 0 rfl rfl
theorem c1 (t : Fin cfg0.N) : (grid0.coords t 1).val = t.val % 16 :=
  (Pipeline.Grid.coords_val (S := 1) (B := 16) t 1 rfl rfl).trans (by rw [Nat.div_one])

theorem w0 (t : Fin cfg0.N) : (BitVec.ofNat 32 (grid0.coords t 0).val).toNat = t.val / 16 % 16 := by
  rw [c0, BitVec.toNat_ofNat]; omega
theorem w1 (t : Fin cfg0.N) : (BitVec.ofNat 32 (grid0.coords t 1).val).toNat = t.val % 16 := by
  rw [c1, BitVec.toNat_ofNat]; omega

/-! Reading a point's block of an array is reading the array at the head and the rows of the point. -/

theorem read0 (t : Fin cfg0.N) (f : S16x8192x192.Idx → EReal) (j : Fin 8192) (d : Fin 192) :
    ((cfg0.win 0).blk t).view.read (Elt Ideal) f (ix3 (0 : Fin 1) j d) = f (ix3 (hd t) j d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 16 % 16; omega
  | ⟨1, _⟩ => show 0 * 8192 + 1 * j.val = j.val; omega
  | ⟨2, _⟩ => show 0 * 192 + 1 * d.val = d.val; omega

theorem read1 (t : Fin cfg0.N) (f : S16x8192x192.Idx → EReal) (r : Fin 512) (d : Fin 192) :
    ((cfg0.win 1).blk t).view.read (Elt Ideal) f (ix3 (0 : Fin 1) r d) = f (ix3 (hd t) (kr t r) d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 16 % 16; omega
  | ⟨1, _⟩ => show (BitVec.ofNat 32 (grid0.coords t 1).val).toNat * 512 + 1 * r.val = (kr t r).val; rw [w1, kr_val]; omega
  | ⟨2, _⟩ => show 0 * 192 + 1 * d.val = d.val; omega

theorem read2 (t : Fin cfg0.N) (f : S16x8192x128.Idx → EReal) (r : Fin 512) (d : Fin 128) :
    ((cfg0.win 2).blk t).view.read (Elt Ideal) f (ix3 (0 : Fin 1) r d) = f (ix3 (hd t) (kr t r) d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 16 % 16; omega
  | ⟨1, _⟩ => show (BitVec.ofNat 32 (grid0.coords t 1).val).toNat * 512 + 1 * r.val = (kr t r).val; rw [w1, kr_val]; omega
  | ⟨2, _⟩ => show 0 * 128 + 1 * d.val = d.val; omega

theorem read3 (t : Fin cfg0.N) (f : S16x8192x128.Idx → EReal) (j : Fin 8192) (d : Fin 128) :
    ((cfg0.win 3).blk t).view.read (Elt Ideal) f (ix3 (0 : Fin 1) j d) = f (ix3 (hd t) j d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 16 % 16; omega
  | ⟨1, _⟩ => show 0 * 8192 + 1 * j.val = j.val; omega
  | ⟨2, _⟩ => show 0 * 128 + 1 * d.val = d.val; omega

theorem read4 (t : Fin cfg0.N) (f : S16x1x8192.Idx → EReal) (j : Fin 8192) :
    ((cfg0.win 4).blk t).view.read (Elt Ideal) f (ix3 (0 : Fin 1) (0 : Fin 1) j) = f (ix3 (hd t) (0 : Fin 1) j) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 16 % 16; omega
  | ⟨1, _⟩ => show 0 * 1 + 1 * 0 = 0; rfl
  | ⟨2, _⟩ => show 0 * 8192 + 1 * j.val = j.val; omega

theorem read5 (t : Fin cfg0.N) (f : S16x1x8192.Idx → EReal) (j : Fin 8192) :
    ((cfg0.win 5).blk t).view.read (Elt Ideal) f (ix3 (0 : Fin 1) (0 : Fin 1) j) = f (ix3 (hd t) (0 : Fin 1) j) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 16 % 16; omega
  | ⟨1, _⟩ => show 0 * 1 + 1 * 0 = 0; rfl
  | ⟨2, _⟩ => show 0 * 8192 + 1 * j.val = j.val; omega

section Blocks
variable (m : (ℓ : Loc nD τ sig) → Buf (Elt Ideal) ℓ) (c : Dev nD) (t : Fin cfg0.N)

theorem iblk0_apply (j : Fin 8192) (d : Fin 192) : iblk m c 0 t (ix3 (0 : Fin 1) j d) = V m c main_v29 (ix3 (hd t) j d) :=
  read0 t (V m c main_v29) j d

theorem iblk1_apply (r : Fin 512) (d : Fin 192) : iblk m c 1 t (ix3 (0 : Fin 1) r d) = V m c main_arg1 (ix3 (hd t) (kr t r) d) :=
  read1 t (V m c main_arg1) r d

theorem iblk2_apply (r : Fin 512) (d : Fin 128) : iblk m c 2 t (ix3 (0 : Fin 1) r d) = V m c main_arg2 (ix3 (hd t) (kr t r) d) :=
  read2 t (V m c main_arg2) r d

theorem iblk3_apply (j : Fin 8192) (d : Fin 128) : iblk m c 3 t (ix3 (0 : Fin 1) j d) = V m c main_arg3 (ix3 (hd t) j d) :=
  read3 t (V m c main_arg3) j d

theorem iblk4_apply (j : Fin 8192) : iblk m c 4 t (ix3 (0 : Fin 1) (0 : Fin 1) j) = V m c main_v30 (ix3 (hd t) (0 : Fin 1) j) :=
  read4 t (V m c main_v30) j

theorem iblk5_apply (j : Fin 8192) : iblk m c 5 t (ix3 (0 : Fin 1) (0 : Fin 1) j) = V m c main_v31 (ix3 (hd t) (0 : Fin 1) j) :=
  read5 t (V m c main_v31) j

end Blocks

end Cert.KernelIdeal.Attn
-- ==== Proof.Attn.Out.lean ====
/- What the outputs' blocks hold after each point of the grid. -/
module

public import proofs.«01_k».proof.Proof.Attn.Blocks

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat Window)

section Blocks
variable (m : (ℓ : Loc nD τ sig) → Buf (Elt Ideal) ℓ) (c : Dev nD) (t : Fin cfg0.N)

/-- The arrays at the call's entry. -/
abbrev vQ : S16x8192x192.Idx → EReal := V m c main_v29
abbrev vK : S16x8192x192.Idx → EReal := V m c main_arg1
abbrev vX : S16x8192x128.Idx → EReal := V m c main_arg2
abbrev vW : S16x8192x128.Idx → EReal := V m c main_arg3
abbrev vL : S16x1x8192.Idx → EReal := V m c main_v30
abbrev vD : S16x1x8192.Idx → EReal := V m c main_v31

theorem pT_eq (r : Fin 512) (j : ℕ) :
    pT (iblk m c 0 t) (iblk m c 1 t) (iblk m c 4 t) r j = pG (vQ m c) (vK m c) (vL m c) (hd t) (kr t r) (row j) := by
  unfold pT pG
  simp only [iblk0_apply, iblk1_apply, iblk4_apply]

theorem sT_eq (r : Fin 512) (j : ℕ) :
    sT (iblk m c 0 t) (iblk m c 1 t) (iblk m c 2 t) (iblk m c 3 t) (iblk m c 4 t) (iblk m c 5 t) r j
      = sG (vQ m c) (vK m c) (vX m c) (vW m c) (vL m c) (vD m c) (hd t) (kr t r) (row j) := by
  unfold sT sG
  simp only [pT_eq, iblk2_apply, iblk3_apply, iblk5_apply]

/-! ## What a point leaves -/

/-- A point leaves the key gradient of its block. -/
theorem out7 (r : Fin 512) (d : Fin 192) :
    (outsAt0 m c t.val t.isLt).2.1 (ix3 (0 : Fin 1) r d)
      = dkG (vQ m c) (vK m c) (vX m c) (vW m c) (vL m c) (vD m c) (hd t) (kr t r) d := by
  have key : (∑ j ∈ Finset.range 8192, sT (iblk m c 0 t) (iblk m c 1 t) (iblk m c 2 t) (iblk m c 3 t) (iblk m c 4 t) (iblk m c 5 t) r j * iblk m c 0 t (ix3 (0 : Fin 1) (row j) d)) * ln2V
      = dkG (vQ m c) (vK m c) (vX m c) (vW m c) (vL m c) (vD m c) (hd t) (kr t r) d := by
    unfold dkG
    simp only [sT_eq, iblk0_apply]
    rw [sum_rows (fun j => sG (vQ m c) (vK m c) (vX m c) (vW m c) (vL m c) (vD m c) (hd t) (kr t r) j * vQ m c (ix3 (hd t) j d))]
  by_cases h0 : t.val % 16 = 0
  · have h1 : ¬t.val % 16 = 15 := by omega
    rw [outsAt0_A m c t h0 h1]
    dsimp only; rw [out0_A_7_apply]; exact key
  · by_cases h1 : t.val % 16 = 15
    · rw [outsAt0_C m c t h0 h1]
      dsimp only; rw [out0_C_7_apply]; exact key
    · rw [outsAt0_B m c t h0 h1]
      dsimp only; rw [out0_B_7_apply]; exact key

/-- A point leaves the value gradient of its block. -/
theorem out8 (r : Fin 512) (d : Fin 128) :
    (outsAt0 m c t.val t.isLt).2.2 (ix3 (0 : Fin 1) r d) = dvG (vQ m c) (vK m c) (vW m c) (vL m c) (hd t) (kr t r) d := by
  have key : (∑ j ∈ Finset.range 8192, pT (iblk m c 0 t) (iblk m c 1 t) (iblk m c 4 t) r j * iblk m c 3 t (ix3 (0 : Fin 1) (row j) d))
      = dvG (vQ m c) (vK m c) (vW m c) (vL m c) (hd t) (kr t r) d := by
    unfold dvG
    simp only [pT_eq, iblk3_apply]
    rw [sum_rows (fun j => pG (vQ m c) (vK m c) (vL m c) (hd t) (kr t r) j * vW m c (ix3 (hd t) j d))]
  by_cases h0 : t.val % 16 = 0
  · have h1 : ¬t.val % 16 = 15 := by omega
    rw [outsAt0_A m c t h0 h1]
    dsimp only; rw [out0_A_8_apply]; exact key
  · by_cases h1 : t.val % 16 = 15
    · rw [outsAt0_C m c t h0 h1]
      dsimp only; rw [out0_C_8_apply]; exact key
    · rw [outsAt0_B m c t h0 h1]
      dsimp only; rw [out0_B_8_apply]; exact key

end Blocks

section Query
variable (m : (ℓ : Loc nD τ sig) → Buf (Elt Ideal) ℓ) (c : Dev nD)

/-- One key's term of a query gradient. -/
abbrev qTerm (h : Fin 16) (j : Fin 8192) (d : Fin 192) (k : ℕ) : EReal :=
  sG (vQ m c) (vK m c) (vX m c) (vW m c) (vL m c) (vD m c) h (row k) j * vK m c (ix3 h (row k) d)

theorem block_sum (t : Fin cfg0.N) (j : Fin 8192) (d : Fin 192) :
    ∑ r : Fin 512, sT (iblk m c 0 t) (iblk m c 1 t) (iblk m c 2 t) (iblk m c 3 t) (iblk m c 4 t) (iblk m c 5 t) r j.val * iblk m c 1 t (ix3 (0 : Fin 1) r d)
      = ∑ r : Fin 512, qTerm m c (hd t) j d (512 * (t.val % 16) + r.val) := by
  refine Finset.sum_congr rfl fun r _ => ?_
  rw [sT_eq, iblk1_apply, row_val]
  rfl

theorem sum_block (f : ℕ → EReal) (b : ℕ) :
    ∑ k ∈ Finset.range (512 * (b + 1)), f k = (∑ k ∈ Finset.range (512 * b), f k) + ∑ r : Fin 512, f (512 * b + r.val) := by
  rw [Nat.mul_add, Nat.mul_one, Finset.sum_range_add, Finset.sum_range (fun x => f (512 * b + x))]

/-- After block `b` of a head the query gradient holds the terms of the keys before `512 (b + 1)`; the last block scales it. -/
theorem out6 (b : ℕ) (hb : b < 16) : ∀ t : Fin cfg0.N, t.val % 16 = b → ∀ (j : Fin 8192) (d : Fin 192),
    (outsAt0 m c t.val t.isLt).1 (ix3 (0 : Fin 1) j d)
      = if b = 15 then (∑ k ∈ Finset.range (512 * (b + 1)), qTerm m c (hd t) j d k) * scaleV
        else ∑ k ∈ Finset.range (512 * (b + 1)), qTerm m c (hd t) j d k := by
  induction b with
  | zero =>
    intro t ht j d
    rw [if_neg (by omega), outsAt0_A m c t ht (by omega)]
    dsimp only
    rw [out0_A_6_apply, block_sum, ht, sum_block]
    simp
  | succ b ih =>
    intro t ht j d
    have hlt : t.val - 1 < cfg0.N := Nat.lt_of_le_of_lt (Nat.sub_le _ _) t.isLt
    have hh : hd ⟨t.val - 1, hlt⟩ = hd t := Fin.ext (by show (t.val - 1) / 16 % 16 = t.val / 16 % 16; omega)
    have prev := ih (by omega) ⟨t.val - 1, hlt⟩ (by show (t.val - 1) % 16 = b; omega) j d
    rw [if_neg (by omega), hh] at prev
    by_cases h1 : b + 1 = 15
    · rw [if_pos h1, outsAt0_C m c t (by omega) (by omega)]
      dsimp only
      rw [out0_C_6_apply, block_sum, ht, sum_block _ (b + 1)]
      dsimp only at prev
      rw [prev]
    · rw [if_neg h1, outsAt0_B m c t (by omega) (by omega)]
      dsimp only
      rw [out0_B_6_apply, block_sum, ht, sum_block _ (b + 1)]
      dsimp only at prev
      rw [prev]

end Query

end Cert.KernelIdeal.Attn
-- ==== Proof.Attn.Final.lean ====
/- The three arrays the call leaves, each as one sum over all keys or all queries of the head. -/
module

public import proofs.«01_k».proof.Proof.Gen.KernelIdeal.Value
public import proofs.«01_k».proof.Proof.Attn.Out

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat Window)

/-! ## The arrays at the end -/

section Final
variable (m : (ℓ : Loc nD τ sig) → Buf (Elt Ideal) ℓ) (c : Dev nD)

/-- The three results as arrays. -/
def G6 : S16x8192x192.Idx → EReal := fun i => dqG (vQ m c) (vK m c) (vX m c) (vW m c) (vL m c) (vD m c) (i 0) (i 1) (i 2)
def G7 : S16x8192x192.Idx → EReal := fun i => dkG (vQ m c) (vK m c) (vX m c) (vW m c) (vL m c) (vD m c) (i 0) (i 1) (i 2)
def G8 : S16x8192x128.Idx → EReal := fun i => dvG (vQ m c) (vK m c) (vW m c) (vL m c) (i 0) (i 1) (i 2)

theorem emb6 (t : Fin cfg0.N) (j : Fin 8192) (d : Fin 192) :
    ((cfg0.win 6).blk t).view.emb (ix3 (0 : Fin 1) j d) = (ix3 (hd t) j d : S16x8192x192.Idx) := by
  funext a
  apply Fin.ext
  match a with
  | ⟨0, _⟩ => show (BitVec.ofNat 32 (grid0.coords t 0).val).toNat * 1 + 1 * 0 = _; rw [w0]; show _ = t.val / 16 % 16; omega
  | ⟨1, _⟩ => show 0 * 8192 + 1 * j.val = j.val; omega
  | ⟨2, _⟩ => show 0 * 192 + 1 * d.val = d.val; omega

theorem emb7 (t : Fin cfg0.N) (r : Fin 512) (d : Fin 192) :
    ((cfg0.win 7).blk t).view.emb (ix3 (0 : Fin 1) r d) = (ix3 (hd t) (kr t r) d : S16x8192x192.Idx) := by
  funext a
  apply Fin.ext
  match a with
  | ⟨0, _⟩ => show (BitVec.ofNat 32 (grid0.coords t 0).val).toNat * 1 + 1 * 0 = _; rw [w0]; show _ = t.val / 16 % 16; omega
  | ⟨1, _⟩ => show (BitVec.ofNat 32 (grid0.coords t 1).val).toNat * 512 + 1 * r.val = (kr t r).val; rw [w1, kr_val]; omega
  | ⟨2, _⟩ => show 0 * 192 + 1 * d.val = d.val; omega

theorem emb8 (t : Fin cfg0.N) (r : Fin 512) (d : Fin 128) :
    ((cfg0.win 8).blk t).view.emb (ix3 (0 : Fin 1) r d) = (ix3 (hd t) (kr t r) d : S16x8192x128.Idx) := by
  funext a
  apply Fin.ext
  match a with
  | ⟨0, _⟩ => show (BitVec.ofNat 32 (grid0.coords t 0).val).toNat * 1 + 1 * 0 = _; rw [w0]; show _ = t.val / 16 % 16; omega
  | ⟨1, _⟩ => show (BitVec.ofNat 32 (grid0.coords t 1).val).toNat * 512 + 1 * r.val = (kr t r).val; rw [w1, kr_val]; omega
  | ⟨2, _⟩ => show 0 * 128 + 1 * d.val = d.val; omega

/-- The point that works on head `h` and key block `b`. -/
def pt (h b : Fin 16) : Fin cfg0.N := ⟨16 * h.val + b.val, by show _ < 256; omega⟩

theorem hd_pt (h b : Fin 16) : hd (pt h b) = h := Fin.ext (by show (16 * h.val + b.val) / 16 % 16 = h.val; omega)
theorem kr_pt (h b : Fin 16) (r : Fin 512) : (kr (pt h b) r).val = b.val * 512 + r.val := by
  rw [kr_val]; show (16 * h.val + b.val) % 16 * 512 + _ = _; omega

theorem final6 : (dats m 0 c).arrAt 6 cfg0.N = G6 m c := by
  refine (dats m 0 c).arrAt_eq_of_cover 6 (G6 m c) (fun t hf => ?_) fun i => ?_
  · have h15 := (flush0_6 t).mp hf
    rw [Value.flushed6]
    refine funext fun (y : S1x8192x192.Idx) => ?_
    obtain ⟨y0, j, d, rfl⟩ : ∃ (a : Fin 1) (b : Fin 8192) (e : Fin 192), y = ix3 a b e := ⟨y 0, y 1, y 2, by funext a; fin_cases a <;> rfl⟩
    obtain rfl : y0 = 0 := Subsingleton.elim _ _
    rw [View.read_apply]
    refine Eq.trans (out6 m c 15 (by omega) t h15 j d) ?_
    rw [if_pos rfl]
    show _ = G6 m c (((cfg0.win 6).blk t).view.emb (ix3 (0 : Fin 1) j d))
    rw [emb6]
    show _ = dqG _ _ _ _ _ _ (hd t) j d
    unfold dqG
    rw [sum_rows (fun k => sG (vQ m c) (vK m c) (vX m c) (vW m c) (vL m c) (vD m c) (hd t) k j * vK m c (ix3 (hd t) k d))]
  · obtain ⟨h, j, d, rfl⟩ : ∃ (a : Fin 16) (b : Fin 8192) (e : Fin 192), i = (ix3 a b e : S16x8192x192.Idx) := ⟨i 0, i 1, i 2, by funext a; fin_cases a <;> rfl⟩
    refine ⟨pt h 15, (flush0_6 _).mpr (by show (16 * h.val + 15) % 16 = 15; omega), ?_⟩
    have e := emb6 (pt h 15) j d
    rw [hd_pt] at e
    rw [← e]
    exact View.emb_mem_set _ _

theorem final7 : (dats m 0 c).arrAt 7 cfg0.N = G7 m c := by
  refine (dats m 0 c).arrAt_eq_of_cover 7 (G7 m c) (fun t hf => ?_) fun i => ?_
  · rw [Value.flushed7]
    refine funext fun (y : S1x512x192.Idx) => ?_
    obtain ⟨y0, r, d, rfl⟩ : ∃ (a : Fin 1) (b : Fin 512) (e : Fin 192), y = ix3 a b e := ⟨y 0, y 1, y 2, by funext a; fin_cases a <;> rfl⟩
    obtain rfl : y0 = 0 := Subsingleton.elim _ _
    rw [View.read_apply]
    refine Eq.trans (out7 m c t r d) ?_
    show _ = G7 m c (((cfg0.win 7).blk t).view.emb (ix3 (0 : Fin 1) r d))
    rw [emb7]
    rfl
  · obtain ⟨h, k, d, rfl⟩ : ∃ (a : Fin 16) (b : Fin 8192) (e : Fin 192), i = (ix3 a b e : S16x8192x192.Idx) := ⟨i 0, i 1, i 2, by funext a; fin_cases a <;> rfl⟩
    refine ⟨pt h ⟨k.val / 512, by omega⟩, flush0_7 _, ?_⟩
    have e := emb7 (pt h ⟨k.val / 512, by omega⟩) ⟨k.val % 512, by omega⟩ d
    rw [hd_pt, show kr (pt h ⟨k.val / 512, by omega⟩) ⟨k.val % 512, by omega⟩ = k from Fin.ext (by rw [kr_pt]; show k.val / 512 * 512 + k.val % 512 = _; omega)] at e
    rw [← e]
    exact View.emb_mem_set _ _

theorem final8 : (dats m 0 c).arrAt 8 cfg0.N = G8 m c := by
  refine (dats m 0 c).arrAt_eq_of_cover 8 (G8 m c) (fun t hf => ?_) fun i => ?_
  · rw [Value.flushed8]
    refine funext fun (y : S1x512x128.Idx) => ?_
    obtain ⟨y0, r, d, rfl⟩ : ∃ (a : Fin 1) (b : Fin 512) (e : Fin 128), y = ix3 a b e := ⟨y 0, y 1, y 2, by funext a; fin_cases a <;> rfl⟩
    obtain rfl : y0 = 0 := Subsingleton.elim _ _
    rw [View.read_apply]
    refine Eq.trans (out8 m c t r d) ?_
    show _ = G8 m c (((cfg0.win 8).blk t).view.emb (ix3 (0 : Fin 1) r d))
    rw [emb8]
    rfl
  · obtain ⟨h, k, d, rfl⟩ : ∃ (a : Fin 16) (b : Fin 8192) (e : Fin 128), i = (ix3 a b e : S16x8192x128.Idx) := ⟨i 0, i 1, i 2, by funext a; fin_cases a <;> rfl⟩
    refine ⟨pt h ⟨k.val / 512, by omega⟩, flush0_8 _, ?_⟩
    have e := emb8 (pt h ⟨k.val / 512, by omega⟩) ⟨k.val % 512, by omega⟩ d
    rw [hd_pt, show kr (pt h ⟨k.val / 512, by omega⟩) ⟨k.val % 512, by omega⟩ = k from Fin.ext (by rw [kr_pt]; show k.val / 512 * 512 + k.val % 512 = _; omega)] at e
    rw [← e]
    exact View.emb_mem_set _ _

end Final

end Cert.KernelIdeal.Attn
-- ==== Proof.Attn.Math.lean ====
/- The real mathematics of the gradient of attention, one head at a time: queries `q`, keys `k`, values `v`, cotangents
   `w`, the scale `c` of the logits and any number `M j` taken from the logits of query `j`. -/
module

public import Mathlib.Analysis.SpecialFunctions.Pow.Real
public import Mathlib.Data.EReal.Operations
public import Mathlib.Algebra.BigOperators.Field

@[expose] public section

noncomputable section

namespace Cert.Attn

open Finset

variable {n a b : ℕ} (q k : Fin n → Fin a → ℝ) (v w : Fin n → Fin b → ℝ) (c : ℝ) (M : Fin n → ℝ)

/-- The logit of query `j` against key `i`. -/
def sc (j i : Fin n) : ℝ := (∑ d, q j d * k i d) * c
/-- Its exponential after `M j` is taken off. -/
def ex (j i : Fin n) : ℝ := Real.exp (sc q k c j i - M j)
/-- The sum of the exponentials of query `j`. -/
def ls (j : Fin n) : ℝ := ∑ i, ex q k c M j i
/-- The weight of key `i` for query `j`. -/
def pr (j i : Fin n) : ℝ := ex q k c M j i / ls q k c M j
/-- The cotangent of the weight. -/
def dp (j i : Fin n) : ℝ := ∑ d, w j d * v i d
/-- The output of query `j` times its cotangent, summed over the feature. -/
def dl (j : Fin n) : ℝ := ∑ d, (∑ i, pr q k c M j i * v i d) * w j d
/-- The cotangent of the logit, before the scale. -/
def ds (j i : Fin n) : ℝ := pr q k c M j i * (dp v w j i - dl q k v w c M j)
/-- The three gradients. -/
def gq (j : Fin n) (d : Fin a) : ℝ := (∑ i, ds q k v w c M j i * k i d) * c
def gk (i : Fin n) (d : Fin a) : ℝ := (∑ j, ds q k v w c M j i * q j d) * c
def gv (i : Fin n) (d : Fin b) : ℝ := ∑ j, pr q k c M j i * w j d

theorem ex_pos (j i : Fin n) : 0 < ex q k c M j i := Real.exp_pos _

theorem ls_pos (j : Fin n) : 0 < ls q k c M j :=
  Finset.sum_pos (fun i _ => ex_pos q k c M j i) ⟨j, Finset.mem_univ _⟩

/-- Two to the scaled logit less the stored log-sum is the weight. -/
theorem exp2_eq_pr (j i : Fin n) :
    Real.rpow 2 ((∑ d, k i d * (q j d * (c * (1 / Real.log 2)))) - (M j + Real.log (ls q k c M j)) * (1 / Real.log 2))
      = pr q k c M j i := by
  have h2 : Real.log 2 ≠ 0 := (Real.log_pos (by norm_num)).ne'
  have e : (∑ d, k i d * (q j d * (c * (1 / Real.log 2)))) = sc q k c j i * (1 / Real.log 2) := by
    unfold sc; rw [Finset.sum_mul, Finset.sum_mul]; exact Finset.sum_congr rfl fun d _ => by ring
  rw [Real.rpow_eq_pow, Real.rpow_def_of_pos (by norm_num), e, ← sub_mul, mul_comm, mul_assoc, one_div, inv_mul_cancel₀ h2, mul_one,
    ← sub_sub, Real.exp_sub, Real.exp_log (ls_pos q k c M j)]
  rfl

/-- The stored row sum is the sum the softmax's cotangent takes off. -/
theorem dl_eq (j : Fin n) : dl q k v w c M j = ∑ i, pr q k c M j i * dp v w j i := by
  unfold dl dp
  simp only [Finset.sum_mul, Finset.mul_sum]
  rw [Finset.sum_comm]
  exact Finset.sum_congr rfl fun i _ => Finset.sum_congr rfl fun d _ => by ring

/-- The cotangent of the logit as the derivative of a quotient gives it. -/
theorem ds_eq (j i : Fin n) :
    (dp v w j i / ls q k c M j
        + -∑ x, dp v w j x * (1 / (ls q k c M j * ls q k c M j)) * ex q k c M j x) * ex q k c M j i * c
      = ds q k v w c M j i * c := by
  have hl : ls q k c M j ≠ 0 := (ls_pos q k c M j).ne'
  have e : ∑ x, dp v w j x * (1 / (ls q k c M j * ls q k c M j)) * ex q k c M j x
      = dl q k v w c M j / ls q k c M j := by
    rw [dl_eq, Finset.sum_div]
    refine Finset.sum_congr rfl fun x _ => ?_
    unfold pr; field_simp
  rw [e]; unfold ds pr; field_simp; ring

/-- The scale of the logits leaves the sums. -/
theorem gq_eq (j : Fin n) (d : Fin a) : ∑ i, ds q k v w c M j i * c * k i d = gq q k v w c M j d := by
  unfold gq; rw [Finset.sum_mul]; exact Finset.sum_congr rfl fun i _ => by ring

theorem gk_eq (i : Fin n) (d : Fin a) : ∑ j, ds q k v w c M j i * c * q j d = gk q k v w c M i d := by
  unfold gk; rw [Finset.sum_mul]; exact Finset.sum_congr rfl fun j _ => by ring

/-- The scaled queries and the logarithm of two make the scale of the logits. -/
theorem gk_eq_ln2 (i : Fin n) (d : Fin a) :
    (∑ j, ds q k v w c M j i * (q j d * (c * (1 / Real.log 2)))) * Real.log 2 = gk q k v w c M i d := by
  have h2 : Real.log 2 ≠ 0 := (Real.log_pos (by norm_num)).ne'
  unfold gk; rw [Finset.sum_mul, Finset.sum_mul]
  refine Finset.sum_congr rfl fun j _ => ?_
  field_simp

/-- A sum of reals read among the extended reals. -/
theorem coe_sum {ι : Type*} (s : Finset ι) (f : ι → ℝ) : (∑ i ∈ s, (f i : EReal)) = ((∑ i ∈ s, f i : ℝ) : EReal) :=
  (map_sum (⟨⟨Real.toEReal, EReal.coe_zero⟩, EReal.coe_add⟩ : ℝ →+ EReal) f s).symm

/-- The greatest of finitely many reals, started from `-∞`, is a real when there is one at all. -/
theorem fold_max_real {ι : Type*} [Fintype ι] [Nonempty ι] (f : ι → ℝ) :
    ∃ r : ℝ, Finset.univ.fold max (⊥ : EReal) (fun i => (f i : EReal)) = r := by
  classical
  have h : ∀ s : Finset ι, s.Nonempty → ∃ r : ℝ, s.fold max (⊥ : EReal) (fun i => (f i : EReal)) = r := by
    intro s hs
    induction hs using Finset.Nonempty.cons_induction with
    | singleton i => exact ⟨f i, by simp⟩
    | cons i s hi hs ih =>
      obtain ⟨r, hr⟩ := ih
      refine ⟨max (f i) r, ?_⟩
      rw [Finset.fold_cons, hr]
      rcases le_total (f i) r with h | h
      · rw [max_eq_right h, max_eq_right (EReal.coe_le_coe_iff.2 h)]
      · rw [max_eq_left h, max_eq_left (EReal.coe_le_coe_iff.2 h)]
  exact h _ Finset.univ_nonempty

end Cert.Attn

end
-- ==== Proof.Attn.Host.lean ====
/- What the host lines before the call hand to it: the scaled queries, the log-sum of every query's logits and the
   row sums of the output times its cotangent, each read at an index. -/
module

public import Idealize.ShloMosaic.Lib.Pointwise
public import proofs.«01_k».proof.Proof.Attn.Blocks
public import proofs.«01_k».proof.Proof.Attn.Math

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo
open Facts

/-! ## The host lines as functions of the arguments -/

section Stages
variable (x0 : FVec Ideal S16x8192x192 .f32) (x1 : FVec Ideal S16x8192x192 .bf16) (x2 x3 : FVec Ideal S16x8192x128 .bf16)

def hLog : FVec Ideal S_ .f32 := Host.divf (constant S_ .f32 0x3F800000#32) (Host.log (constant S_ .f32 0x40000000#32))
def hS : FVec Ideal S16x8192x8192 .f32 :=
  mulf (Host.dotGeneral dot_S16x8192x192_S16x8192x192_S16x8192x8192_2_2_1_1_0_0 none x0 (extf .f32 x1 bitsLt_bf16_f32))
    (broadcastInDim S16x8192x8192 ![] bcast_S_S16x8192x8192 (constant S_ .f32 0x3D93CD3A#32))
def hM : FVec Ideal S16x8192x1 .f32 :=
  broadcastInDim S16x8192x1 ![0, 1] bcast_S16x8192_S16x8192x1_0_1
    (Host.reduce FloatOps.maximumf (hS x0 x1) (constant S_ .f32 0xFF800000#32) reducesTo_S16x8192x8192_S16x8192_d2 h_S_)
def hE : FVec Ideal S16x8192x8192 .f32 :=
  Host.exp (subf (hS x0 x1) (broadcastInDim S16x8192x8192 ![0, 1, 2] bcast_S16x8192x1_S16x8192x8192_0_1_2 (hM x0 x1)))
def hL : FVec Ideal S16x8192x1 .f32 :=
  broadcastInDim S16x8192x1 ![0, 1] bcast_S16x8192_S16x8192x1_0_1
    (Host.reduceAdd (hE x0 x1) (constant S_ .f32 0x00000000#32) reducesTo_S16x8192x8192_S16x8192_d2 h_S_)
def hP : FVec Ideal S16x8192x8192 .f32 :=
  Host.divf (hE x0 x1) (broadcastInDim S16x8192x8192 ![0, 1, 2] bcast_S16x8192x1_S16x8192x8192_0_1_2 (hL x0 x1))
def hO : FVec Ideal S16x8192x128 .f32 :=
  Host.dotGeneral dot_S16x8192x8192_S16x8192x128_S16x8192x128_2_1_1_2_0_0 none (hP x0 x1) (extf .f32 x2 bitsLt_bf16_f32)
def hLse : FVec Ideal S16x8192x1 .f32 :=
  mulf (addf (hM x0 x1) (Host.log (hL x0 x1))) (broadcastInDim S16x8192x1 ![] bcast_S_S16x8192x1 hLog)
def hDelta : FVec Ideal S16x8192 .f32 :=
  Host.reduceAdd (mulf (hO x0 x1 x2) (extf .f32 x3 bitsLt_bf16_f32)) (constant S_ .f32 0x00000000#32) reducesTo_S16x8192x128_S16x8192_d2 h_S_
def hQ : FVec Ideal S16x8192x192 .bf16 :=
  truncf .bf16 (mulf x0 (broadcastInDim S16x8192x192 ![] bcast_S_S16x8192x192 (mulf (constant S_ .f32 0x3D93CD3A#32) hLog))) bitsLt_bf16_f32

end Stages

/-! ## The stages read at an index -/

section Apply
variable (x0 : FVec Ideal S16x8192x192 .f32) (x1 : FVec Ideal S16x8192x192 .bf16) (x2 x3 : FVec Ideal S16x8192x128 .bf16)

theorem hLog_apply (i : S_.Idx) :
    hLog i = Ideal.div (Ideal.ofBits .f32 0x3F800000#32) (Ideal.log (Ideal.ofBits .f32 0x40000000#32)) := rfl

theorem hS_apply (h : Fin 16) (j k : Fin 8192) :
    hS x0 x1 (ix3 h j k) = (∑ d : Fin 192, x0 (ix3 h j d) * x1 (ix3 h k d)) * scaleV := by
  pointwise [hS, scaleV]

theorem hM_apply (h : Fin 16) (j : Fin 8192) :
    hM x0 x1 (ix3 h j (0 : Fin 1))
      = Finset.univ.fold max (Ideal.ofBits .f32 0xFF800000#32) fun k : Fin 8192 => hS x0 x1 (ix3 h j k) := by
  pointwise [hM]

theorem hE_apply (h : Fin 16) (j k : Fin 8192) :
    hE x0 x1 (ix3 h j k) = Ideal.exp (hS x0 x1 (ix3 h j k) - hM x0 x1 (ix3 h j (0 : Fin 1))) := by
  pointwise [hE]

theorem hL_apply (h : Fin 16) (j : Fin 8192) :
    hL x0 x1 (ix3 h j (0 : Fin 1)) = Ideal.ofBits .f32 0x00000000#32 + ∑ k : Fin 8192, hE x0 x1 (ix3 h j k) := by
  pointwise [hL]

theorem hP_apply (h : Fin 16) (j k : Fin 8192) :
    hP x0 x1 (ix3 h j k) = Ideal.div (hE x0 x1 (ix3 h j k)) (hL x0 x1 (ix3 h j (0 : Fin 1))) := by
  pointwise [hP]

theorem hO_apply (h : Fin 16) (j : Fin 8192) (d : Fin 128) :
    hO x0 x1 x2 (ix3 h j d) = ∑ k : Fin 8192, hP x0 x1 (ix3 h j k) * x2 (ix3 h k d) := by
  pointwise [hO]

/-- The log-sum of one query from the greatest logit, the sum and the factor. -/
theorem lse_read (f g : FVec Ideal S16x8192x1 .f32) (z : FVec Ideal S_ .f32) (h : Fin 16) (j : Fin 8192) :
    mulf (addf f (Host.log g)) (broadcastInDim S16x8192x1 ![] bcast_S_S16x8192x1 z) (ix3 h j (0 : Fin 1))
      = (f (ix3 h j (0 : Fin 1)) + Ideal.log (g (ix3 h j (0 : Fin 1)))) * z ix0 := by
  pointwise

theorem hLse_apply (h : Fin 16) (j : Fin 8192) :
    hLse x0 x1 (ix3 h j (0 : Fin 1))
      = (hM x0 x1 (ix3 h j (0 : Fin 1)) + Ideal.log (hL x0 x1 (ix3 h j (0 : Fin 1)))) * hLog ix0 :=
  lse_read _ _ _ h j

theorem hDelta_apply (h : Fin 16) (j : Fin 8192) :
    hDelta x0 x1 x2 x3 (ix2 h j)
      = Ideal.ofBits .f32 0x00000000#32 + ∑ d : Fin 128, hO x0 x1 x2 (ix3 h j d) * x3 (ix3 h j d) := by
  pointwise [hDelta]

theorem hQ_apply (h : Fin 16) (j : Fin 8192) (d : Fin 192) :
    hQ x0 (ix3 h j d) = x0 (ix3 h j d) * (scaleV * hLog ix0) := by
  pointwise [hQ, scaleV]

end Apply

section Flat
variable {α : Type}

/-- A column array cast to a row array keeps the element of a query. -/
theorem cast_col (f : S16x8192x1.Idx → EReal) (h : Fin 16) (j : Fin 8192) :
    shapeCast S16x1x8192 f shapeCasts_S16x8192x1_S16x1x8192 (ix3 h (0 : Fin 1) j) = f (ix3 h j (0 : Fin 1)) := by
  pointwise

theorem cast_row (f : S16x8192.Idx → EReal) (h : Fin 16) (j : Fin 8192) :
    shapeCast S16x1x8192 f shapeCasts_S16x8192_S16x1x8192 (ix3 h (0 : Fin 1) j) = f (ix2 h j) := by
  pointwise

end Flat

section Reads
variable (m : (ℓ : Loc nD τ sig) → Buf (Elt Ideal) ℓ) (c : Dev nD)

theorem V_main_v29 : V m c main_v29 = hQ (m ((c : Thread nD τ).loc main_arg0)) := by
  unfold_abbrev_sides
  after_results
  rfl
theorem V_main_v30 : V m c main_v30
    = shapeCast S16x1x8192 (hLse (m ((c : Thread nD τ).loc main_arg0)) (m ((c : Thread nD τ).loc main_arg1))) shapeCasts_S16x8192x1_S16x1x8192 := by
  unfold_abbrev_sides
  after_results
  rfl
theorem V_main_v31 : V m c main_v31
    = shapeCast S16x1x8192 (hDelta (m ((c : Thread nD τ).loc main_arg0)) (m ((c : Thread nD τ).loc main_arg1))
        (m ((c : Thread nD τ).loc main_arg2)) (m ((c : Thread nD τ).loc main_arg3))) shapeCasts_S16x8192_S16x1x8192 := by
  unfold_abbrev_sides
  after_results
  rfl

end Reads

end Cert.KernelIdeal.Attn

end
-- ==== Proof.Attn.HostReal.lean ====
/- The host lines and the three gradients of the call, at real arguments. -/
module

public import proofs.«01_k».proof.Proof.Attn.Host

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn

/-! ## The constants -/

theorem one_word : Ideal.ofBits .f32 0x3F800000#32 = ((1 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem bot_word : Ideal.ofBits .f32 0xFF800000#32 = ⊥ := by
  simp [Ideal.ofBits, Ideal.ieee]

/-- The scale of the logits as a real. -/
def scaleR : ℝ := (9686330 : ℝ) / 134217728
theorem scale_word : Ideal.ofBits .f32 0x3D93CD3A#32 = (scaleR : EReal) := by
  simp [Ideal.ofBits, Ideal.ieee, scaleR, -EReal.coe_mul]; norm_num
theorem scaleV_eq : scaleV = (scaleR : EReal) := scale_word

theorem ln2V_eq : ln2V = ((Real.log 2 : ℝ) : EReal) :=
  IdealRules.named_const.ideal_named_scalar _ _ _ _ rfl

theorem log2_ne : Real.log 2 ≠ 0 := (Real.log_pos (by norm_num)).ne'

theorem hLog_eq (i : S_.Idx) : hLog i = ((1 / Real.log 2 : ℝ) : EReal) := by
  rw [hLog_apply, two_word, one_word, Ideal.log_coe, if_neg (by norm_num), Ideal.div_coe log2_ne, ← EReal.coe_mul, one_mul]

/-! ## The stages at real arguments -/

section Real
variable (x0 : FVec Ideal S16x8192x192 .f32) (x1 : FVec Ideal S16x8192x192 .bf16) (x2 x3 : FVec Ideal S16x8192x128 .bf16)
  (q k : Fin 16 → Fin 8192 → Fin 192 → ℝ) (v w : Fin 16 → Fin 8192 → Fin 128 → ℝ)
  (h0 : ∀ h j d, x0 (ix3 h j d) = (q h j d : EReal)) (h1 : ∀ h j d, x1 (ix3 h j d) = (k h j d : EReal))
  (h2 : ∀ h j d, x2 (ix3 h j d) = (v h j d : EReal)) (h3 : ∀ h j d, x3 (ix3 h j d) = (w h j d : EReal))

include h0 h1 in
theorem hS_real (h : Fin 16) (j i : Fin 8192) : hS x0 x1 (ix3 h j i) = (sc (q h) (k h) scaleR j i : EReal) := by
  rw [hS_apply, scaleV_eq]
  simp only [h0, h1, ← EReal.coe_mul, coe_sum]
  rfl

include h0 h1 in
/-- The greatest logit of a query is a real. -/
theorem hM_real (h : Fin 16) (j : Fin 8192) : ∃ r : ℝ, hM x0 x1 (ix3 h j (0 : Fin 1)) = r := by
  rw [hM_apply, bot_word]
  simp only [hS_real x0 x1 q k h0 h1]
  exact fold_max_real _

variable (M : Fin 16 → Fin 8192 → ℝ) (hM' : ∀ h j, hM x0 x1 (ix3 h j (0 : Fin 1)) = (M h j : EReal))

include h0 h1 hM' in
theorem hE_real (h : Fin 16) (j i : Fin 8192) : hE x0 x1 (ix3 h j i) = (ex (q h) (k h) scaleR (M h) j i : EReal) := by
  rw [hE_apply, hS_real x0 x1 q k h0 h1, hM', ← EReal.coe_sub, Ideal.exp_coe]
  rfl

include h0 h1 hM' in
theorem hL_real (h : Fin 16) (j : Fin 8192) :
    hL x0 x1 (ix3 h j (0 : Fin 1)) = (ls (q h) (k h) scaleR (M h) j : EReal) := by
  rw [hL_apply, Ideal.ofBits_zero_f32, zero_add]
  simp only [hE_real x0 x1 q k h0 h1 M hM', coe_sum]
  rfl

include h0 h1 hM' in
theorem hP_real (h : Fin 16) (j i : Fin 8192) :
    hP x0 x1 (ix3 h j i) = (pr (q h) (k h) scaleR (M h) j i : EReal) := by
  rw [hP_apply, hE_real x0 x1 q k h0 h1 M hM', hL_real x0 x1 q k h0 h1 M hM',
    Ideal.div_coe (ls_pos _ _ _ _ _).ne', ← EReal.coe_mul, mul_one_div]
  rfl

include h0 h1 h2 hM' in
theorem hO_real (h : Fin 16) (j : Fin 8192) (d : Fin 128) :
    hO x0 x1 x2 (ix3 h j d) = ((∑ i, pr (q h) (k h) scaleR (M h) j i * v h i d : ℝ) : EReal) := by
  rw [hO_apply]
  simp only [hP_real x0 x1 q k h0 h1 M hM', h2, ← EReal.coe_mul, coe_sum]

include h0 h1 hM' in
theorem hLse_real (h : Fin 16) (j : Fin 8192) :
    hLse x0 x1 (ix3 h j (0 : Fin 1))
      = (((M h j + Real.log (ls (q h) (k h) scaleR (M h) j)) * (1 / Real.log 2) : ℝ) : EReal) := by
  rw [hLse_apply, hM', hL_real x0 x1 q k h0 h1 M hM', hLog_eq, Ideal.log_coe,
    if_neg (not_le.2 (ls_pos _ _ _ _ _)), ← EReal.coe_add, ← EReal.coe_mul]

include h0 h1 h2 h3 hM' in
theorem hDelta_real (h : Fin 16) (j : Fin 8192) :
    hDelta x0 x1 x2 x3 (ix2 h j) = (dl (q h) (k h) (v h) (w h) scaleR (M h) j : EReal) := by
  rw [hDelta_apply, Ideal.ofBits_zero_f32, zero_add]
  simp only [hO_real x0 x1 x2 q k v h0 h1 h2 M hM', h3, ← EReal.coe_mul, coe_sum]
  rfl

include h0 in
theorem hQ_real (h : Fin 16) (j : Fin 8192) (d : Fin 192) :
    hQ x0 (ix3 h j d) = ((q h j d * (scaleR * (1 / Real.log 2)) : ℝ) : EReal) := by
  rw [hQ_apply, h0, hLog_eq, scaleV_eq, ← EReal.coe_mul, ← EReal.coe_mul]

/-! ## The gradients of the call -/

variable (Q : S16x8192x192.Idx → EReal) (L D : S16x1x8192.Idx → EReal)
  (hQ' : ∀ h j d, Q (ix3 h j d) = ((q h j d * (scaleR * (1 / Real.log 2)) : ℝ) : EReal))
  (hL' : ∀ h j, L (ix3 h (0 : Fin 1) j)
    = (((M h j + Real.log (ls (q h) (k h) scaleR (M h) j)) * (1 / Real.log 2) : ℝ) : EReal))
  (hD' : ∀ h j, D (ix3 h (0 : Fin 1) j) = (dl (q h) (k h) (v h) (w h) scaleR (M h) j : EReal))

include h1 hQ' hL' in
theorem pG_real (h : Fin 16) (i j : Fin 8192) :
    pG Q x1 L h i j = (pr (q h) (k h) scaleR (M h) j i : EReal) := by
  unfold pG
  simp only [hQ', h1, hL', ← EReal.coe_mul, coe_sum, ← EReal.coe_sub]
  rw [Ideal.exp2_coe, exp2_eq_pr]

include h1 h2 h3 hQ' hL' hD' in
theorem sG_real (h : Fin 16) (i j : Fin 8192) :
    sG Q x1 x2 x3 L D h i j = (ds (q h) (k h) (v h) (w h) scaleR (M h) j i : EReal) := by
  unfold sG
  rw [pG_real x1 q k h1 M Q L hQ' hL']
  simp only [h2, h3, hD', ← EReal.coe_mul, coe_sum, ← EReal.coe_sub]
  unfold ds dp
  simp only [mul_comm (v h i _)]

include h1 h2 h3 hQ' hL' hD' in
theorem dqG_real (h : Fin 16) (j : Fin 8192) (d : Fin 192) :
    dqG Q x1 x2 x3 L D h j d = (gq (q h) (k h) (v h) (w h) scaleR (M h) j d : EReal) := by
  unfold dqG
  simp only [sG_real x1 x2 x3 q k v w h1 h2 h3 M Q L D hQ' hL' hD', h1, scaleV_eq, ← EReal.coe_mul, coe_sum]
  rfl

include h1 h2 h3 hQ' hL' hD' in
theorem dkG_real (h : Fin 16) (i : Fin 8192) (d : Fin 192) :
    dkG Q x1 x2 x3 L D h i d = (gk (q h) (k h) (v h) (w h) scaleR (M h) i d : EReal) := by
  unfold dkG
  simp only [sG_real x1 x2 x3 q k v w h1 h2 h3 M Q L D hQ' hL' hD', hQ', ln2V_eq, ← EReal.coe_mul, coe_sum]
  rw [gk_eq_ln2]

include h1 h3 hQ' hL' in
theorem dvG_real (h : Fin 16) (i : Fin 8192) (d : Fin 128) :
    dvG Q x1 x3 L h i d = (gv (q h) (k h) (w h) scaleR (M h) i d : EReal) := by
  unfold dvG
  simp only [pG_real x1 q k h1 M Q L hQ' hL', h3, ← EReal.coe_mul, coe_sum]
  rfl

end Real

end Cert.KernelIdeal.Attn

end
-- ==== Proof.Attn.Finite.lean ====
/- What the precondition says: every element of the four arguments is a real. -/
module

public import Idealize.ShloMosaic.Lib.Pointwise
public import Idealize.ShloMosaic.Lib.ReduceAll
public import proofs.«01_k».proof.Defs
public import proofs.«01_k».proof.Proof.Gen.Pre_finite
public import proofs.«01_k».proof.Proof.Attn.HostReal

@[expose] public section

set_option maxRecDepth 16384

noncomputable section

namespace Cert.Attn

open Idealize.ShloMosaic Idealize.ShloMosaic.TcCoe Idealize.SL.Sem
open Cert.Pre_finite Cert.Pre_finite.Facts

theorem inf_word : Ideal.ofBits .f32 0x7F800000#32 = ⊤ := by
  simp [Ideal.ofBits, Ideal.ieee]

/-- An extended real whose absolute value lies below infinity is a real. -/
theorem real_of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- An array all of whose absolute values lie below infinity holds reals. -/
theorem real_of_all {s : Shape} (x : FVec Ideal s .f32) (hb : S_.BroadcastsInDim s (![] : Fin 0 → Fin s.rank)) {axes : List (Fin s.rank)}
    (hr : s.ReducesTo axes S_) (j : S_.Idx)
    (e : Host.reduce IntOp.andi (cmpf .olt (Host.absf x) (broadcastInDim s ![] hb (constant S_ .f32 0x7F800000#32))) (constantI S_ 1 1#1)
      hr h_S_ j = 1#1) (i : s.Idx) : ∃ r : ℝ, x i = r := by
  have h := Host.reduce_andi_all _ _ _ _ j e i
  refine real_of_abs_lt ?_
  rw [← inf_word]
  exact h

/-- Finite arguments hold reals. -/
theorem finite_real (x0 : FVec Ideal S16x8192x192 .f32) (x1 : FVec Ideal S16x8192x192 .bf16) (x2 x3 : FVec Ideal S16x8192x128 .bf16)
    (h : Cert.Pre_finite.fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have e := congrFun h ix0
  dsimp only [Cert.Pre_finite.fn, Cert.Pre_finite.fn_part1] at e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ e0, real_of_all (extf .f32 x1 bitsLt_bf16_f32) _ _ _ e1,
    real_of_all (extf .f32 x2 bitsLt_bf16_f32) _ _ _ e2, real_of_all (extf .f32 x3 bitsLt_bf16_f32) _ _ _ e3⟩

end Cert.Attn

end
-- ==== Proof.Attn.Reference.lean ====
/- What the reference leaves, at real arguments: the same three gradients. -/
module

public import Idealize.ShloMosaic.Lib.Pointwise
public import proofs.«01_k».proof.Proof.Gen.ReferenceIdeal.Read
public import proofs.«01_k».proof.Proof.Attn.HostReal

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Cert.Attn
open Cert.KernelIdeal.Attn (scaleR scale_word one_word bot_word)

section Real
variable (x0 : FVec Ideal S16x8192x192 .f32) (x1 : FVec Ideal S16x8192x192 .bf16) (x2 x3 : FVec Ideal S16x8192x128 .bf16)
  (q k : Fin 16 → Fin 8192 → Fin 192 → ℝ) (v w : Fin 16 → Fin 8192 → Fin 128 → ℝ)
  (h0 : ∀ h j d, x0 (ix3 h j d) = (q h j d : EReal)) (h1 : ∀ h j d, x1 (ix3 h j d) = (k h j d : EReal))
  (h2 : ∀ h j d, x2 (ix3 h j d) = (v h j d : EReal)) (h3 : ∀ h j d, x3 (ix3 h j d) = (w h j d : EReal))

theorem i3 {a b c : Nat} (f : (⟨3, ![a, b, c]⟩ : Shape).Idx → EReal) (i : (⟨3, ![a, b, c]⟩ : Shape).Idx) (x : Fin a) (y : Fin b)
    (z : Fin c) (hx : i 0 = x) (hy : i 1 = y) (hz : i 2 = z) : f i = f (ix3 x y z) := by
  subst hx hy hz; exact congrArg f (ValueIdx.eq_ix3 i)
theorem i2 {a b : Nat} (f : (⟨2, ![a, b]⟩ : Shape).Idx → EReal) (i : (⟨2, ![a, b]⟩ : Shape).Idx) (x : Fin a) (y : Fin b)
    (hx : i 0 = x) (hy : i 1 = y) : f i = f (ix2 x y) := by
  subst hx hy; exact congrArg f (ValueIdx.eq_ix2 i)

include h0 h1 in
theorem s_real (h : Fin 16) (j i : Fin 8192) :
    val_main_v4 (F := Ideal) x0 x1 (ix3 h j i) = (sc (q h) (k h) scaleR j i : EReal) := by
  rw [val_main_v4_apply, val_main_v2_apply, val_main_v3_apply, val_main_cst_apply, Ideal.mulf_def, Ideal.ofBits_def, scale_word]
  have e : ∀ d : Fin 192, x0 (lidx_main_v2 (ix3 h j i) d) * val_main_v0 (F := Ideal) x1 (ridx_main_v2 (ix3 h j i) d)
      = ((q h j d * k h i d : ℝ) : EReal) := fun d => by
    rw [val_main_v0_apply, Ideal.extf_def, i3 x0 _ h j d rfl rfl rfl, i3 x1 _ h i d rfl rfl rfl, h0, h1, EReal.coe_mul]
  simp only [e, coe_sum, ← EReal.coe_mul]
  rfl

/-- The greatest logit the reference takes off is the fold of the maximum. -/
theorem max_apply (h : Fin 16) (j : Fin 8192) :
    val_main_v5 (F := Ideal) x0 x1 (ix2 h j)
      = Finset.univ.fold max (Ideal.ofBits .f32 0xFF800000#32) fun i : Fin 8192 => val_main_v4 (F := Ideal) x0 x1 (ix3 h j i) := by
  unfold val_main_v5
  generalize val_main_v4 (F := Ideal) x0 x1 = y
  pointwise [val_main_cst_0]

include h0 h1 in
theorem max_real (h : Fin 16) (j : Fin 8192) : ∃ r : ℝ, val_main_v12 (F := Ideal) x0 x1 (ix2 h j) = r := by
  obtain ⟨r, hr⟩ := fold_max_real (sc (q h) (k h) scaleR j)
  refine ⟨r, ?_⟩
  rw [val_main_v12_apply, val_main_v11_apply, val_main_cst_2_apply, max_apply, Ideal.maximumf_def, Ideal.ofBits_def, bot_word]
  simp only [s_real x0 x1 q k h0 h1]
  rw [hr]
  exact max_eq_right bot_le

variable (M : Fin 16 → Fin 8192 → ℝ) (hM' : ∀ h j, val_main_v12 (F := Ideal) x0 x1 (ix2 h j) = (M h j : EReal))

include h0 h1 hM' in
theorem e_real (h : Fin 16) (j i : Fin 8192) :
    val_main_v25 (F := Ideal) x0 x1 (ix3 h j i) = (ex (q h) (k h) scaleR (M h) j i : EReal) := by
  rw [val_main_v25_apply, val_main_v24_apply, val_main_v23_apply, val_main_v22_apply, i2 (val_main_v12 (F := Ideal) x0 x1) _ h j rfl rfl,
    hM', s_real x0 x1 q k h0 h1, Ideal.subf_def, ← EReal.coe_sub]
  exact Ideal.exp_coe _

include h0 h1 hM' in
theorem l_real (h : Fin 16) (j : Fin 8192) :
    val_main_v26 (F := Ideal) x0 x1 (ix2 h j) = (ls (q h) (k h) scaleR (M h) j : EReal) := by
  rw [val_main_v26_apply, val_main_cst_8_apply, Ideal.ofBits_def, Ideal.ofBits_zero_f32, zero_add]
  have e : ∀ i : Fin 8192, val_main_v25 (F := Ideal) x0 x1 (idx_main_v26 (ix2 h j) i) = (ex (q h) (k h) scaleR (M h) j i : EReal) :=
    fun i => (i3 _ _ h j i rfl rfl rfl).trans (e_real x0 x1 q k h0 h1 M hM' h j i)
  simp only [e, coe_sum]
  rfl

include h0 h1 hM' in
theorem l3_real (h : Fin 16) (j : Fin 8192) :
    val_main_v27 (F := Ideal) x0 x1 (ix3 h j (0 : Fin 1)) = (ls (q h) (k h) scaleR (M h) j : EReal) := by
  rw [val_main_v27_apply, i2 (val_main_v26 (F := Ideal) x0 x1) _ h j rfl rfl, l_real x0 x1 q k h0 h1 M hM']

theorem hdiv_def (x y : EReal) : FloatOps.hostDivf (F := Ideal) (φ := .f32) x y = Ideal.div x y := rfl

include h0 h1 hM' in
theorem p_real (h : Fin 16) (j i : Fin 8192) :
    val_main_v29 (F := Ideal) x0 x1 (ix3 h j i) = (pr (q h) (k h) scaleR (M h) j i : EReal) := by
  rw [val_main_v29_apply, val_main_v28_apply, i3 (val_main_v27 (F := Ideal) x0 x1) _ h j (0 : Fin 1) rfl rfl rfl,
    l3_real x0 x1 q k h0 h1 M hM', e_real x0 x1 q k h0 h1 M hM', hdiv_def,
    Ideal.div_coe (ls_pos _ _ _ _ _).ne', ← EReal.coe_mul, mul_one_div]
  rfl

include h2 h3 in
theorem dp_real (h : Fin 16) (j i : Fin 8192) :
    val_main_v37 (F := Ideal) x2 x3 (ix3 h j i) = (dp (v h) (w h) j i : EReal) := by
  rw [val_main_v37_apply]
  have e : ∀ d : Fin 128, val_main_v34 (F := Ideal) x3 (lidx_main_v37 (ix3 h j i) d) * val_main_v1 (F := Ideal) x2 (ridx_main_v37 (ix3 h j i) d)
      = ((w h j d * v h i d : ℝ) : EReal) := fun d => by
    rw [val_main_v34_apply, val_main_v1_apply, Ideal.extf_def, Ideal.extf_def, i3 x3 _ h j d rfl rfl rfl, i3 x2 _ h i d rfl rfl rfl,
      h2, h3, EReal.coe_mul]
  simp only [e, coe_sum]
  rfl

include h0 h1 hM' in
theorem inv_real (h : Fin 16) (j : Fin 8192) :
    val_main_v32 (F := Ideal) x0 x1 (ix3 h j (0 : Fin 1))
      = ((1 / (ls (q h) (k h) scaleR (M h) j * ls (q h) (k h) scaleR (M h) j) : ℝ) : EReal) := by
  have hl := (ls_pos (q h) (k h) scaleR (M h) j).ne'
  rw [val_main_v32_apply, val_main_v31_apply, val_main_cst_9_apply, val_main_v30_apply, l3_real x0 x1 q k h0 h1 M hM', hdiv_def,
    Ideal.ofBits_def, one_word, Ideal.mulf_def, ← EReal.coe_mul, Ideal.div_coe (mul_ne_zero hl hl), ← EReal.coe_mul, one_mul]

include h0 h1 h2 h3 hM' in
theorem w_real (h : Fin 16) (j : Fin 8192) :
    val_main_v46 (F := Ideal) x0 x1 x2 x3 (ix2 h j)
      = ((-∑ x, dp (v h) (w h) j x * (1 / (ls (q h) (k h) scaleR (M h) j * ls (q h) (k h) scaleR (M h) j))
          * ex (q h) (k h) scaleR (M h) j x : ℝ) : EReal) := by
  have e : ∀ i : Fin 8192, val_main_v40 (F := Ideal) x0 x1 x2 x3 (idx_main_v41 (ix2 h j) i)
      = ((dp (v h) (w h) j i * (1 / (ls (q h) (k h) scaleR (M h) j * ls (q h) (k h) scaleR (M h) j))
          * ex (q h) (k h) scaleR (M h) j i : ℝ) : EReal) := fun i => by
    rw [i3 (val_main_v40 (F := Ideal) x0 x1 x2 x3) _ h j i rfl rfl rfl, val_main_v40_apply, val_main_v39_apply, val_main_v38_apply,
      i3 (val_main_v32 (F := Ideal) x0 x1) _ h j (0 : Fin 1) rfl rfl rfl, inv_real x0 x1 q k h0 h1 M hM',
      dp_real x2 x3 v w h2 h3, e_real x0 x1 q k h0 h1 M hM', Ideal.mulf_def, Ideal.mulf_def, ← EReal.coe_mul, ← EReal.coe_mul]
  have e1 : val_main_v41 (F := Ideal) x0 x1 x2 x3 (ix2 h j) = ((∑ x, dp (v h) (w h) j x * (1 / (ls (q h) (k h) scaleR (M h) j * ls (q h) (k h) scaleR (M h) j))
          * ex (q h) (k h) scaleR (M h) j x : ℝ) : EReal) := by
    rw [val_main_v41_apply, val_main_cst_10_apply, Ideal.ofBits_def, Ideal.ofBits_zero_f32, zero_add]
    simp only [e, coe_sum]
  have e2 : ∀ i : Fin 1, val_main_v43 (F := Ideal) x0 x1 x2 x3 (idx_main_v46 (ix2 h j) i)
      = ((-∑ x, dp (v h) (w h) j x * (1 / (ls (q h) (k h) scaleR (M h) j * ls (q h) (k h) scaleR (M h) j))
          * ex (q h) (k h) scaleR (M h) j x : ℝ) : EReal) := fun i => by
    have hi : i = 0 := Subsingleton.elim _ _
    subst hi
    rw [val_main_v43_apply, val_main_v42_apply, i2 (val_main_v41 (F := Ideal) x0 x1 x2 x3) _ h j
      (Fin.ext (by show ((h.val * 8192 + j.val) * 1 + 0) / 8192 = h.val; omega))
      (Fin.ext (by show ((h.val * 8192 + j.val) * 1 + 0) % 8192 = j.val; omega)), e1, EReal.coe_neg]
    rfl
  rw [val_main_v46_apply, val_main_cst_11_apply, Ideal.ofBits_def, Ideal.ofBits_zero_f32, zero_add]
  simp only [e2]
  rw [Fin.sum_univ_one]

include h0 h1 h2 h3 hM' in
theorem ds_real (h : Fin 16) (j i : Fin 8192) :
    val_main_v51 (F := Ideal) x0 x1 x2 x3 (ix3 h j i) = ((ds (q h) (k h) (v h) (w h) scaleR (M h) j i * scaleR : ℝ) : EReal) := by
  rw [val_main_v51_apply, val_main_v50_apply, val_main_cst_12_apply, val_main_v49_apply, val_main_v48_apply, val_main_v47_apply,
    i2 (val_main_v46 (F := Ideal) x0 x1 x2 x3) _ h j rfl rfl, w_real x0 x1 x2 x3 q k v w h0 h1 h2 h3 M hM', val_main_v45_apply,
    val_main_v44_apply, i3 (val_main_v27 (F := Ideal) x0 x1) _ h j (0 : Fin 1) rfl rfl rfl, l3_real x0 x1 q k h0 h1 M hM',
    dp_real x2 x3 v w h2 h3, e_real x0 x1 q k h0 h1 M hM', hdiv_def, Ideal.div_coe (ls_pos _ _ _ _ _).ne',
    Ideal.mulf_def, Ideal.mulf_def, Ideal.addf_def, Ideal.ofBits_def, scale_word,
    ← EReal.coe_mul, ← EReal.coe_add, ← EReal.coe_mul, ← EReal.coe_mul, mul_one_div, ds_eq]

include h0 h1 h2 h3 hM' in
theorem dq_real (h : Fin 16) (j : Fin 8192) (d : Fin 192) :
    val_main_v53 (F := Ideal) x0 x1 x2 x3 (ix3 h j d) = (gq (q h) (k h) (v h) (w h) scaleR (M h) j d : EReal) := by
  rw [val_main_v53_apply, ← gq_eq]
  have e : ∀ i : Fin 8192, val_main_v51 (F := Ideal) x0 x1 x2 x3 (lidx_main_v53 (ix3 h j d) i) * val_main_v0 (F := Ideal) x1 (ridx_main_v53 (ix3 h j d) i)
      = ((ds (q h) (k h) (v h) (w h) scaleR (M h) j i * scaleR * k h i d : ℝ) : EReal) := fun i => by
    rw [i3 (val_main_v51 (F := Ideal) x0 x1 x2 x3) _ h j i rfl rfl rfl, ds_real x0 x1 x2 x3 q k v w h0 h1 h2 h3 M hM',
      val_main_v0_apply, Ideal.extf_def, i3 x1 _ h i d rfl rfl rfl, h1, ← EReal.coe_mul]
  simp only [e, coe_sum]

include h0 h1 h2 h3 hM' in
theorem dk_real (h : Fin 16) (i : Fin 8192) (d : Fin 192) :
    val_main_v52 (F := Ideal) x0 x1 x2 x3 (ix3 h i d) = (gk (q h) (k h) (v h) (w h) scaleR (M h) i d : EReal) := by
  rw [val_main_v52_apply, ← gk_eq]
  have e : ∀ j : Fin 8192, val_main_v51 (F := Ideal) x0 x1 x2 x3 (lidx_main_v52 (ix3 h i d) j) * x0 (ridx_main_v52 (ix3 h i d) j)
      = ((ds (q h) (k h) (v h) (w h) scaleR (M h) j i * scaleR * q h j d : ℝ) : EReal) := fun j => by
    rw [i3 (val_main_v51 (F := Ideal) x0 x1 x2 x3) _ h j i rfl rfl rfl, ds_real x0 x1 x2 x3 q k v w h0 h1 h2 h3 M hM',
      i3 x0 _ h j d rfl rfl rfl, h0, ← EReal.coe_mul]
  simp only [e, coe_sum]

include h0 h1 h3 hM' in
theorem dv_real (h : Fin 16) (i : Fin 8192) (d : Fin 128) :
    val_main_v54 (F := Ideal) x0 x1 x3 (ix3 h i d) = (gv (q h) (k h) (w h) scaleR (M h) i d : EReal) := by
  rw [val_main_v54_apply, Ideal.truncf_def, val_main_v36_apply, val_main_v35_apply]
  unfold gv
  have e : ∀ j : Fin 8192, val_main_v34 (F := Ideal) x3 (lidx_main_v35 (idx_main_v36 (ix3 h i d)) j)
        * val_main_v29 (F := Ideal) x0 x1 (ridx_main_v35 (idx_main_v36 (ix3 h i d)) j)
      = ((pr (q h) (k h) scaleR (M h) j i * w h j d : ℝ) : EReal) := fun j => by
    rw [val_main_v34_apply, Ideal.extf_def, i3 x3 _ h j d rfl rfl rfl, h3, i3 (val_main_v29 (F := Ideal) x0 x1) _ h j i rfl rfl rfl,
      p_real x0 x1 q k h0 h1 M hM', ← EReal.coe_mul, mul_comm]
  simp only [e, coe_sum]

end Real

end Cert.ReferenceIdeal.Attn

end
-- ==== Proof.Attn.Equation.lean ====
/- The call and the reference leave the same three arrays when the arguments are finite. -/
module

public import proofs.«01_k».proof.Proof.Attn.Final
public import proofs.«01_k».proof.Proof.Attn.Finite
public import proofs.«01_k».proof.Proof.Attn.Reference

@[expose] public section

set_option maxRecDepth 16384

noncomputable section

namespace Cert.Attn

open Idealize.ShloMosaic Idealize.ShloMosaic.TcCoe Idealize.SL.Sem
open Cert.KernelIdeal Cert.KernelIdeal.Gen Cert.KernelIdeal.Attn

section Arrays
variable (x0 : FVec Ideal S16x8192x192 .f32) (x1 : FVec Ideal S16x8192x192 .bf16) (x2 x3 : FVec Ideal S16x8192x128 .bf16)
  (hfin : Cert.Pre_finite.fn (F := Ideal) x0 x1 x2 x3 = fun _ => 1#1)
  (Q : S16x8192x192.Idx → EReal) (L D : S16x1x8192.Idx → EReal)
  (hQ : ∀ h j d, Q (ix3 h j d) = hQ x0 (ix3 h j d))
  (hL : ∀ h j, L (ix3 h (0 : Fin 1) j) = hLse x0 x1 (ix3 h j (0 : Fin 1)))
  (hD : ∀ h j, D (ix3 h (0 : Fin 1) j) = hDelta x0 x1 x2 x3 (ix2 h j))

include hfin hQ hL hD in
/-- What the call's sums and the reference's stages hold at one index, read together. -/
theorem same : (∀ (h : Fin 16) (j : Fin 8192) (d : Fin 192),
      dqG Q x1 x2 x3 L D h j d = Cert.ReferenceIdeal.Read.val_main_v53 (F := Ideal) x0 x1 x2 x3 (ix3 h j d))
    ∧ (∀ (h : Fin 16) (j : Fin 8192) (d : Fin 192),
      dkG Q x1 x2 x3 L D h j d = Cert.ReferenceIdeal.Read.val_main_v52 (F := Ideal) x0 x1 x2 x3 (ix3 h j d))
    ∧ (∀ (h : Fin 16) (j : Fin 8192) (d : Fin 128),
      dvG Q x1 x3 L h j d = Cert.ReferenceIdeal.Read.val_main_v54 (F := Ideal) x0 x1 x3 (ix3 h j d)) := by
  obtain ⟨f0, f1, f2, f3⟩ := finite_real x0 x1 x2 x3 hfin
  choose q hq using fun (h : Fin 16) (j : Fin 8192) (d : Fin 192) => f0 (ix3 h j d)
  choose k hk using fun (h : Fin 16) (j : Fin 8192) (d : Fin 192) => f1 (ix3 h j d)
  choose v hv using fun (h : Fin 16) (j : Fin 8192) (d : Fin 128) => f2 (ix3 h j d)
  choose w hw using fun (h : Fin 16) (j : Fin 8192) (d : Fin 128) => f3 (ix3 h j d)
  choose M hM using hM_real x0 x1 q k hq hk
  choose N hN using Cert.ReferenceIdeal.Attn.max_real x0 x1 q k hq hk
  have hQ' := fun h j d => (hQ h j d).trans (hQ_real x0 q hq h j d)
  have hL' := fun h j => (hL h j).trans (hLse_real x0 x1 q k hq hk M hM h j)
  have hD' := fun h j => (hD h j).trans (hDelta_real x0 x1 x2 x3 q k v w hq hk hv hw M hM h j)
  have hMN : M = N := by
    funext h j
    refine EReal.coe_injective ?_
    rw [← hM, ← hN, hM_apply, Cert.ReferenceIdeal.Read.val_main_v12_apply, Cert.ReferenceIdeal.Read.val_main_v11_apply,
      Cert.ReferenceIdeal.Read.val_main_cst_2_apply, Cert.ReferenceIdeal.Attn.max_apply, Ideal.maximumf_def, Ideal.ofBits_def,
      bot_word, max_eq_right bot_le]
    simp only [hS_real x0 x1 q k hq hk, Cert.ReferenceIdeal.Attn.s_real x0 x1 q k hq hk]
  subst hMN
  exact ⟨fun h j d => (dqG_real x1 x2 x3 q k v w hk hv hw M Q L D hQ' hL' hD' h j d).trans
      (Cert.ReferenceIdeal.Attn.dq_real x0 x1 x2 x3 q k v w hq hk hv hw M hN h j d).symm,
    fun h j d => (dkG_real x1 x2 x3 q k v w hk hv hw M Q L D hQ' hL' hD' h j d).trans
      (Cert.ReferenceIdeal.Attn.dk_real x0 x1 x2 x3 q k v w hq hk hv hw M hN h j d).symm,
    fun h j d => (dvG_real x1 x3 q k w hk hw M Q L hQ' hL' h j d).trans
      (Cert.ReferenceIdeal.Attn.dv_real x0 x1 x3 q k w hq hk hw M hN h j d).symm⟩

end Arrays

section Run
variable (m : (ℓ : Loc nD τ sig) → Buf (Elt Ideal) ℓ) (c : Dev nD)
  (x0 : FVec Ideal S16x8192x192 .f32) (x1 : FVec Ideal S16x8192x192 .bf16) (x2 x3 : FVec Ideal S16x8192x128 .bf16)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (hfin : Cert.Pre_finite.fn (F := Ideal) x0 x1 x2 x3 = fun _ => 1#1)

include e0 in
theorem vQ_eq : vQ m c = hQ x0 := (V_main_v29 m c).trans (by rw [e0])
include e0 e1 in
theorem vL_eq (h : Fin 16) (j : Fin 8192) : vL m c (ix3 h (0 : Fin 1) j) = hLse x0 x1 (ix3 h j (0 : Fin 1)) := by
  have e : vL m c = shapeCast S16x1x8192 (hLse x0 x1) shapeCasts_S16x8192x1_S16x1x8192 := (V_main_v30 m c).trans (by rw [e0, e1])
  rw [e]; exact cast_col _ h j
include e0 e1 e2 e3 in
theorem vD_eq (h : Fin 16) (j : Fin 8192) : vD m c (ix3 h (0 : Fin 1) j) = hDelta x0 x1 x2 x3 (ix2 h j) := by
  have e : vD m c = shapeCast S16x1x8192 (hDelta x0 x1 x2 x3) shapeCasts_S16x8192_S16x1x8192 :=
    (V_main_v31 m c).trans (by rw [e0, e1, e2, e3])
  rw [e]; exact cast_row _ h j
include e1 in
theorem vK_eq : vK m c = x1 := (V_main_arg1 m c).trans e1
include e2 in
theorem vX_eq : vX m c = x2 := (V_main_arg2 m c).trans e2
include e3 in
theorem vW_eq : vW m c = x3 := (V_main_arg3 m c).trans e3

include e0 e1 e2 e3 hfin in
/-- The three arrays the run of the call leaves are the reference's. -/
theorem arrays : (dats m 0 c).arrAt 6 cfg0.N = Cert.ReferenceIdeal.Read.val_main_v53 (F := Ideal) x0 x1 x2 x3
    ∧ (dats m 0 c).arrAt 7 cfg0.N = Cert.ReferenceIdeal.Read.val_main_v52 (F := Ideal) x0 x1 x2 x3
    ∧ (dats m 0 c).arrAt 8 cfg0.N = Cert.ReferenceIdeal.Read.val_main_v54 (F := Ideal) x0 x1 x3 := by
  obtain ⟨s0, s1, s2⟩ := same x0 x1 x2 x3 hfin (vQ m c) (vL m c) (vD m c) (fun h j d => by rw [vQ_eq m c x0 e0])
    (fun h j => vL_eq m c x0 x1 e0 e1 h j) (fun h j => vD_eq m c x0 x1 x2 x3 e0 e1 e2 e3 h j)
  refine ⟨(final6 m c).trans (funext fun i => ?_), (final7 m c).trans (funext fun i => ?_), (final8 m c).trans (funext fun i => ?_)⟩
  · unfold G6
    rw [vK_eq m c x1 e1, vX_eq m c x2 e2, vW_eq m c x3 e3]
    exact (s0 _ _ _).trans (congrArg _ (ValueIdx.eq_ix3 i).symm)
  · unfold G7
    rw [vK_eq m c x1 e1, vX_eq m c x2 e2, vW_eq m c x3 e3]
    exact (s1 _ _ _).trans (congrArg _ (ValueIdx.eq_ix3 i).symm)
  · unfold G8
    rw [vK_eq m c x1 e1, vW_eq m c x3 e3]
    exact (s2 _ _ _).trans (congrArg _ (ValueIdx.eq_ix3 i).symm)

end Run

end Cert.Attn

end
-- ==== Proof.Attn.Claims.lean ====
/- The claims about the gradient of the latent attention, one by one. -/
module

public import proofs.«01_k».proof.Defs
public import proofs.«01_k».proof.Proof.Gen.Kernel.Frame
public import proofs.«01_k».proof.Proof.Attn.Equation

@[expose] public section

set_option maxRecDepth 16384

noncomputable section

namespace Cert.Attn

open Idealize.ShloMosaic Idealize.ShloMosaic.TcCoe Idealize.SL.Sem

theorem frame_k : Cert.quiescent_Kernel := fun m ρ _ => Cert.Kernel.Gen.frame m ρ
theorem frame_ki : Cert.quiescent_KernelIdeal := fun m ρ _ => Cert.KernelIdeal.Gen.frame m ρ
theorem frame_kif : Cert.quiescent_KernelIdeal_pre_finite := fun m ρ _ => Cert.KernelIdeal.Gen.frame m ρ

theorem frame_r : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_rf : Cert.quiescent_ReferenceIdeal_pre_finite := fun m ρ _ => frame_r m ρ trivial

theorem preserves : Cert.preserves_Kernel_KernelIdeal :=
  IdealRules.named_const.statement Cert.KernelIdeal.κ "ln2" .f32 0x3F317218#32 _ rfl

/-- With finite arguments the call leaves the reference's three gradients. -/
theorem algebraic : Cert.algebraic_KernelIdeal_ReferenceIdeal_pre_finite := by
  intro m g m' g' hpre hagree
  refine ⟨_, _, _, Cert.KernelIdeal.Value.run_blocks m g, ?_⟩
  refine (θ_run Cert.ReferenceIdeal.defs _ _).mono (fun r h c => ?_) (Cert.ReferenceIdeal.Value.run (F := Ideal) m' g')
  obtain ⟨a0, a1, a2, a3⟩ := hagree c
  obtain ⟨s0, s1, s2⟩ := arrays m c _ _ _ _ a0.symm a1.symm a2.symm a3.symm (by rw [a0, a1, a2, a3]; exact hpre c)
  refine ⟨(h c).1.trans ?_, (h c).2.1.trans ?_, (h c).2.2.1.trans ?_, (h c).2.2.2⟩
  · exact (Cert.ReferenceIdeal.Read.val_main_v53_eq m' c).trans s0.symm
  · exact (Cert.ReferenceIdeal.Read.val_main_v52_eq m' c).trans s1.symm
  · exact (Cert.ReferenceIdeal.Read.val_main_v54_eq _ _ _).trans s2.symm

end Cert.Attn

end
-- ==== Proof.Ffn.Blocks.lean ====
/- Sums taken block by block, and the whole-block stores and loads the products of the channel mixers make. -/
module

public import Mathlib.Data.EReal.Operations
public import Mathlib.Algebra.BigOperators.Fin
public import Idealize.ShloMosaic.Lib.Pointwise
public import Idealize.ShloMosaic.Lib.WritesUnit

@[expose] public section

noncomputable section

namespace Cert.Ffn

open Finset

/-- The offsets of a store through a whole block. -/
theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- A sum over an axis is the sum over its blocks of `b` of the sum over each block. -/
theorem sum_blocks (b n : ℕ) (f : ℕ → EReal) :
    ∑ k ∈ range n, ∑ x : Fin b, f (b * k + x.val) = ∑ j ∈ range (b * n), f j := by
  induction n with
  | zero => rw [Nat.mul_zero, range_zero, sum_empty, sum_empty]
  | succ n ih =>
    rw [sum_range_succ, ih, Nat.mul_succ, sum_range_add]
    congr 1
    exact (sum_range fun x => f (b * n + x)).symm

/-- A number that is below the extent is the index it names. -/
theorem ofNat_val {n : ℕ} [NeZero n] (j : Fin n) : Fin.ofNat n j.val = j := Fin.ext (Nat.mod_eq_of_lt j.isLt)

/-- The sum over an axis, by blocks, of a function of the axis's indices. -/
theorem sum_axis {N : ℕ} [NeZero N] (b n : ℕ) (hN : b * n = N) (f : Fin N → EReal) :
    ∑ k ∈ range n, ∑ x : Fin b, f (Fin.ofNat N (b * k + x.val)) = ∑ j : Fin N, f j := by
  subst hN
  rw [sum_blocks b n fun j => f (Fin.ofNat _ j), sum_range fun j => f (Fin.ofNat _ j)]
  exact sum_congr rfl fun j _ => by rw [ofNat_val]

/-- An accumulator that every run of `q` points starts anew holds the sum over the points of the run so far. -/
theorem acc_eq {α : Type*} (q N : ℕ) (hq : 0 < q) (s : (n : ℕ) → n < N → α → EReal) (p : ℕ → ℕ → α → EReal)
    (hA : ∀ n h y, n % q = 0 → s n h y = p (n / q) 0 y)
    (hB : ∀ n h y, n % q ≠ 0 → s n h y = s (n - 1) (Nat.lt_of_le_of_lt (Nat.sub_le n 1) h) y + p (n / q) (n % q) y) :
    ∀ n h y, s n h y = ∑ k ∈ range (n % q + 1), p (n / q) k y := by
  intro n
  induction n with
  | zero => intro h y; rw [hA 0 h y (Nat.zero_mod q), Nat.zero_mod, sum_range_one]
  | succ n ih =>
    intro h y
    by_cases h0 : (n + 1) % q = 0
    · rw [hA _ h y h0, h0, sum_range_one]
    · have e : (n + 1) / q = n / q ∧ (n + 1) % q = n % q + 1 := by
        have d1 := Nat.div_add_mod n q
        have l1 := Nat.mod_lt n hq
        have hlt : n % q + 1 < q := by
          rcases Nat.lt_or_ge (n % q + 1) q with h2 | h2
          · exact h2
          · exact absurd (by
              have e1 : n + 1 = q * (n / q + 1) := by rw [Nat.mul_add, Nat.mul_one]; omega
              rw [e1, Nat.mul_mod_right]) h0
        have e1 : n + 1 = (n % q + 1) + q * (n / q) := by omega
        refine ⟨?_, ?_⟩
        · conv_lhs => rw [e1]
          rw [Nat.add_mul_div_left _ _ hq, Nat.div_eq_of_lt hlt, Nat.zero_add]
        · conv_lhs => rw [e1]
          rw [Nat.add_mul_mod_self_left, Nat.mod_eq_of_lt hlt]
      rw [hB _ h y h0, sum_range_succ, e.1, e.2]
      congr 1
      exact ih _ y

end Cert.Ffn

end
-- ==== Proof.Ffn.Da.Final.lean ====
/- The gradient of the gated width of the channel mixer: the array the call leaves. Each point of the grid makes one
   block of the product, whole. -/
module

public import proofs.«01_k».proof.Proof.Gen.KernelDaIdeal.Value
public import proofs.«01_k».proof.Proof.Ffn.Blocks

@[expose] public section

set_option maxRecDepth 16384

noncomputable section

namespace Cert.KernelDaIdeal.Ffn

open Cert.KernelDaIdeal Cert.KernelDaIdeal.Gen Cert.Ffn Idealize.ShloMosaic Idealize.ShloMosaic.TcCoe Idealize.SL.Sem
open Idealize.ShloMosaic.Pipeline (Dat Window)
open Facts

/-! ## What one grid point leaves -/

/-- The product of a point's two blocks. -/
def part (a : S1024x2048.Idx → EReal) (w : S1x1x512x2048.Idx → EReal) (r : Fin 1024) (s : Fin 512) : EReal :=
  ∑ x : Fin 2048, a (ix2 r x) * w (ix4 0 0 s x)

theorem pay2_apply (a : S1024x2048.Idx → EReal) (w : S1x1x512x2048.Idx → EReal) (r : Fin 1024) (s : Fin 512) :
    k0_pay2 (F := Ideal) a w (ix2 r s) = part a w r s := by
  unfold k0_pay2 k0_pay1 part
  pointwise []

/-- A store through the whole block reads back as its payload. -/
theorem read_store {κ : Kind} {sp : Space} (V : View sig κ sp S1024x512 .f32) (f) (w : S1024x512.Idx → EReal) (L) (y) :
    V.read (Elt Ideal) (V.writes (Elt Ideal) f (⟨Rect.unit (s := S1024x512) ![0, 0] S1024x512.size inb_S1024x512_S1024x512_0_0, w⟩ :: L)) y = w y :=
  View.read_writes_cons_unit_of_mem V f inb_S1024x512_S1024x512_0_0 w L y y rfl (by intro a; fin_cases a <;> simp)

theorem out (c : Dev nD) (i : grid0.Coords) (arg3 : Memref sig .tc .vmem S1024x2048 .f32) (harg3 : arg3.IsWhole) (arg4 : Memref sig .tc .vmem S1x1x512x2048 .bf16) (harg4 : arg4.IsWhole)
    (arg5 : Memref sig .tc .vmem S1024x512 .f32) (harg5 : arg5.IsWhole) (arg6 : Memref sig .tc .vmem S1024x512 .f32) (harg6 : arg6.IsWhole)
    (x0 : Vec Ideal S1024x2048 .f32) (x1 : Vec Ideal S1x1x512x2048 .bf16) (r : Fin 1024) (s : Fin 512) (h0 h1 h2) :
    out0_A_2 (F := Ideal) c i arg3 harg3 arg4 harg4 arg5 harg5 arg6 harg6 h0 h1 h2 x0 x1 (ix2 r s) = part x0 x1 r s := by
  unfold out0_A_2 kernelRun0_A
  dsimp only
  refine (read_store _ _ _ _ _).trans ?_
  unfold kernelRun0_A.sl.v14 View.readCov kernelRun0_A.sl.HS0_1
  rw [View.readAt_eq_ld, View.ld_unit_zero (S := S1024x512) zero2]
  refine (read_store _ _ _ _ _).trans ?_
  simp only [View.readAt_eq_ld, harg3.read_unread, harg4.read_unread, harg6.read_unread]
  rw [View.ld_unit_zero (S := S1024x2048) zero2, View.ld_unit_zero (S := S1x1x512x2048) zero4]
  exact pay2_apply _ _ _ _

/-! ## The array at the end -/

theorem at0 : ∀ t : Fin cfg0.N, win0_0.index t = ![t.val / 11, 0] := (by decide +kernel : ∀ t : Fin grid0.N, _)
theorem at1 : ∀ t : Fin cfg0.N, win0_1.index t = ![0, 0, t.val % 11, 0] := (by decide +kernel : ∀ t : Fin grid0.N, _)
theorem at2 : ∀ t : Fin cfg0.N, win0_2.index t = ![t.val / 11, t.val % 11] := (by decide +kernel : ∀ t : Fin grid0.N, _)

theorem lt_N (t : Fin cfg0.N) : t.val < 88 := t.isLt

/-- The row and the column of the result that a point's block holds at `r` and `s`. -/
def rw_ (n : ℕ) (r : Fin 1024) : Fin 8192 := Fin.ofNat 8192 (1024 * (n / 11) + r.val)
def cl (n : ℕ) (s : Fin 512) : Fin 5632 := Fin.ofNat 5632 (512 * (n % 11) + s.val)

variable (m : (ℓ : Loc nD τ sig) → Buf (Elt Ideal) ℓ) (c : Dev nD)

/-- The cotangent and the weight, as the call is launched with them. -/
abbrev aY : S8192x2048.Idx → EReal := m ((c : Thread nD τ).loc main_arg2)
abbrev aW : S5632x2048.Idx → EReal := m ((c : Thread nD τ).loc main_arg1)

theorem V_main_v0 : V m c main_v0 = shapeCast S1x1x5632x2048 (aW m c) shapeCasts_S5632x2048_S1x1x5632x2048 := by
  unfold_abbrev_sides
  after_results
  rfl

theorem lead_apply (x : S5632x2048.Idx → EReal) (k : Fin 5632) (d : Fin 2048) :
    shapeCast S1x1x5632x2048 x shapeCasts_S5632x2048_S1x1x5632x2048 (ix4 (0 : Fin 1) (0 : Fin 1) k d) = x (ix2 k d) := by
  pointwise

theorem iblk0_apply (t : Fin cfg0.N) (r : Fin 1024) (x : Fin 2048) :
    iblk m c 0 t (ix2 r x) = aY m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 11 * 1024 + 1 * r.val = (1024 * (t.val / 11) + r.val) % 8192; omega
    | ⟨1, _⟩ => show win0_0.index t 1 * 2048 + 1 * x.val = x.val; rw [at0]; show 0 * 2048 + 1 * x.val = _; omega
  unfold iblk
  rw [View.read_apply, e]
  show V m c main_arg2 _ = _
  rw [V_main_arg2]

theorem iblk1_apply (t : Fin cfg0.N) (s : Fin 512) (x : Fin 2048) :
    iblk m c 1 t (ix4 (0 : Fin 1) (0 : Fin 1) s x) = aW m c (ix2 (cl t.val s) x) := by
  have e : ((cfg0.win 1).blk t).view.emb (ix4 (0 : Fin 1) (0 : Fin 1) s x) = (ix4 0 0 (cl t.val s) x : S1x1x5632x2048.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 512 + 1 * s.val = _ % 5632; rw [at1]; show t.val % 11 * 512 + 1 * s.val = (512 * (t.val % 11) + s.val) % 5632; omega
    | ⟨3, _⟩ => show win0_1.index t 3 * 2048 + 1 * x.val = x.val; rw [at1]; show 0 * 2048 + 1 * x.val = _; omega
  unfold iblk
  rw [View.read_apply, e]
  show V m c main_v0 _ = _
  rw [V_main_v0, lead_apply]

/-- The result: every row of the cotangent times every row of the weight. -/
def G : S8192x5632.Idx → EReal := fun i => ∑ j : Fin 2048, aY m c (ix2 (i 0) j) * aW m c (ix2 (i 1) j)

theorem part_eq (t : Fin cfg0.N) (r : Fin 1024) (s : Fin 512) :
    part (iblk m c 0 t) (iblk m c 1 t) r s = G m c (ix2 (rw_ t.val r) (cl t.val s)) := by
  unfold part G
  exact Finset.sum_congr rfl fun x _ => by rw [iblk0_apply, iblk1_apply]; rfl

theorem emb2 (t : Fin cfg0.N) (r : Fin 1024) (s : Fin 512) :
    ((cfg0.win 2).blk t).view.emb (ix2 r s) = (ix2 (rw_ t.val r) (cl t.val s) : S8192x5632.Idx) := by
  have ht := lt_N t
  funext a
  apply Fin.ext
  match a with
  | ⟨0, _⟩ => show win0_2.index t 0 * 1024 + 1 * r.val = _ % 8192; rw [at2]; show t.val / 11 * 1024 + 1 * r.val = (1024 * (t.val / 11) + r.val) % 8192; omega
  | ⟨1, _⟩ => show win0_2.index t 1 * 512 + 1 * s.val = _ % 5632; rw [at2]; show t.val % 11 * 512 + 1 * s.val = (512 * (t.val % 11) + s.val) % 5632; omega

theorem final : (dats m 0 c).arrAt 2 cfg0.N = G m c := by
  refine (dats m 0 c).arrAt_eq_of_cover 2 (G m c) (fun t hf => ?_) fun i => ?_
  · rw [Value.flushed2_A]
    refine funext fun (y : S1024x512.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 5632), i = (ix2 a b : S8192x5632.Idx) := ⟨i 0, i 1, ValueIdx.eq_ix2 i⟩
    let t : Fin cfg0.N := ⟨11 * (a.val / 1024) + b.val / 512, by show _ < 88; omega⟩
    refine ⟨t, flush0_2 t, ?_⟩
    have e := emb2 t ⟨a.val % 1024, by omega⟩ ⟨b.val % 512, by omega⟩
    rw [show rw_ t.val ⟨a.val % 1024, by omega⟩ = a from Fin.ext (by
        show (1024 * ((11 * (a.val / 1024) + b.val / 512) / 11) + a.val % 1024) % 8192 = a.val; omega),
      show cl t.val ⟨b.val % 512, by omega⟩ = b from Fin.ext (by
        show (512 * ((11 * (a.val / 1024) + b.val / 512) % 11) + b.val % 512) % 5632 = b.val; omega)] at e
    rw [← e]
    exact View.emb_mem_set _ _

end Cert.KernelDaIdeal.Ffn

end
-- ==== Proof.Ffn.Da.Claims.lean ====
/- The claims about the gradient of the channel mixer's gated width. -/
module

public import proofs.«01_k».proof.Defs
public import proofs.«01_k».proof.Proof.Gen.KernelDa.Frame
public import proofs.«01_k».proof.Proof.Gen.ReferenceDaIdeal.Read
public import proofs.«01_k».proof.Proof.Ffn.Da.Final

@[expose] public section

set_option maxRecDepth 16384

noncomputable section

namespace Cert.FfnDa

open Idealize.ShloMosaic Idealize.ShloMosaic.TcCoe Idealize.SL.Sem

theorem frame_k : Cert.quiescent_KernelDa := fun m ρ _ => Cert.KernelDa.Gen.frame m ρ
theorem frame_ki : Cert.quiescent_KernelDaIdeal := fun m ρ _ => Cert.KernelDaIdeal.Gen.frame m ρ
theorem frame_r : Cert.quiescent_ReferenceDaIdeal := fun m ρ _ =>
  (θ_run Cert.ReferenceDaIdeal.defs _ _).mono (fun r h => ⟨fun c => (h c).2, Idealize.ShloMosaic.sem_eq_zero_of_no_sems (by decide) r.2⟩)
    (Cert.ReferenceDaIdeal.Value.run (F := Ideal) m ρ)
theorem preserves : Cert.preserves_KernelDa_KernelDaIdeal := trivial

/-- The call leaves the reference's gradient. -/
theorem algebraic : Cert.algebraic_KernelDaIdeal_ReferenceDaIdeal := by
  intro m g m' g' _ hagree
  refine ⟨_, Cert.KernelDaIdeal.Value.run_blocks m g, ?_⟩
  refine (θ_run Cert.ReferenceDaIdeal.defs _ _).mono (fun r h c => ?_) (Cert.ReferenceDaIdeal.Value.run (F := Ideal) m' g')
  obtain ⟨_, a1, a2⟩ := hagree c
  refine ⟨(h c).1.trans ?_, (h c).2⟩
  rw [Cert.ReferenceDaIdeal.Read.val_main_v5_eq, Cert.KernelDaIdeal.Ffn.final]
  refine funext fun i => ?_
  rw [Cert.ReferenceDaIdeal.Read.val_main_v5_apply]
  unfold Cert.KernelDaIdeal.Ffn.G Cert.KernelDaIdeal.Ffn.aY Cert.KernelDaIdeal.Ffn.aW
  rw [← a1, ← a2]
  refine Finset.sum_congr rfl fun j _ => ?_
  rw [Cert.ReferenceDaIdeal.Read.val_main_v1_apply]
  exact congrArg₂ (fun x y : EReal => x * y) (congrArg (m' _) (ValueIdx.eq_ix2 _)) (congrArg (m' _) (ValueIdx.eq_ix2 _))

end Cert.FfnDa

end
-- ==== Proof.Ffn.Dwdown.Point.lean ====
/- The gradient of the mixer's second weight: what one grid point leaves in its accumulator and in its output block. -/
module

public import proofs.«01_k».proof.Proof.Gen.KernelDwdownIdeal.Frame
public import proofs.«01_k».proof.Proof.Ffn.Blocks

@[expose] public section

set_option maxRecDepth 16384

noncomputable section

namespace Cert.KernelDwdownIdeal.Ffn

open Cert.KernelDwdownIdeal Cert.KernelDwdownIdeal.Gen Cert.Ffn Idealize.ShloMosaic Idealize.ShloMosaic.TcCoe Idealize.SL.Sem

/-- The product of a point's two blocks, over their rows. -/
def part (a : S1024x1408.Idx → EReal) (w : S1024x1024.Idx → EReal) (r : Fin 1408) (s : Fin 1024) : EReal :=
  ∑ x : Fin 1024, a (ix2 x r) * w (ix2 x s)

theorem pay2_apply (a : S1024x1408.Idx → EReal) (w : S1024x1024.Idx → EReal) (r : Fin 1408) (s : Fin 1024) :
    k0_pay2 (F := Ideal) a w (ix2 r s) = part a w r s := by
  unfold k0_pay2 k0_pay1 part
  pointwise []
theorem pay3_apply (a : S1024x1408.Idx → EReal) (w : S1024x1024.Idx → EReal) (z : S1408x1024.Idx → EReal) (r : Fin 1408) (s : Fin 1024) :
    k0_pay3 (F := Ideal) a w z (ix2 r s) = z (ix2 r s) + part a w r s := by
  unfold k0_pay3 k0_pay1 part
  pointwise []
theorem pay4_apply (z : S1408x1024.Idx → EReal) (r : Fin 1408) (s : Fin 1024) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S1408x1024 .f32) (f) (w : S1408x1024.Idx → EReal) (L) (y) :
    V.read (Elt Ideal) (V.writes (Elt Ideal) f (⟨Rect.unit (s := S1408x1024) ![0, 0] S1408x1024.size inb_S1408x1024_S1408x1024_0_0, w⟩ :: L)) y = w y :=
  View.read_writes_cons_unit_of_mem V f inb_S1408x1024_S1408x1024_0_0 w L y y rfl (by intro a; fin_cases a <;> simp)
theorem read_out {κ : Kind} {sp : Space} (V : View sig κ sp S1x1408x1024 .bf16) (f) (w : S1x1408x1024.Idx → EReal) (L) (y) :
    V.read (Elt Ideal) (V.writes (Elt Ideal) f (⟨Rect.unit (s := S1x1408x1024) ![0, 0, 0] S1x1408x1024.size inb_S1x1408x1024_S1x1408x1024_0_0_0, w⟩ :: L)) y = w y :=
  View.read_writes_cons_unit_of_mem V f inb_S1x1408x1024_S1x1408x1024_0_0_0 w L y y rfl (by intro a; fin_cases a <;> simp)

section
variable (c : Dev nD) (i : grid0.Coords) (arg3 : Memref sig .tc .vmem S1024x1408 .bf16) (harg3 : arg3.IsWhole) (arg4 : Memref sig .tc .vmem S1024x1024 .f32) (harg4 : arg4.IsWhole)
  (arg5 : Memref sig .tc .vmem S1x1408x1024 .bf16) (harg5 : arg5.IsWhole) (arg6 : Memref sig .tc .vmem S1408x1024 .f32) (harg6 : arg6.IsWhole)
  (x0 : Vec Ideal S1024x1408 .bf16) (x1 : Vec Ideal S1024x1024 .f32) (xs0 : Vec Ideal S1408x1024 .f32) (r : Fin 1408) (s : Fin 1024)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x1408) zero2, View.ld_unit_zero (S := S1024x1024) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x1408) zero2, View.ld_unit_zero (S := S1024x1024) zero2, View.ld_unit_zero (S := S1408x1024) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x1408) zero2, View.ld_unit_zero (S := S1024x1024) zero2, View.ld_unit_zero (S := S1408x1024) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v13 View.readCov kernelRun0_C.sl.HS0_1
  rw [View.readAt_eq_ld, View.ld_unit_zero (S := S1408x1024) zero2]
  refine (read_store _ _ _ _ _).trans ?_
  simp only [View.readAt_eq_ld, harg3.read_unread, harg4.read_unread, harg6.read_unread]
  rw [View.ld_unit_zero (S := S1024x1408) zero2, View.ld_unit_zero (S := S1024x1024) zero2, View.ld_unit_zero (S := S1408x1024) zero2]
  exact pay3_apply _ _ _ _ _
end

end Cert.KernelDwdownIdeal.Ffn

end
-- ==== Proof.Ffn.Dwdown.Final.lean ====
/- The gradient of the mixer's second weight: the array the call leaves, as one sum over all rows. -/
module

public import proofs.«01_k».proof.Proof.Gen.KernelDwdownIdeal.Value
public import proofs.«01_k».proof.Proof.Ffn.Dwdown.Point

@[expose] public section

set_option maxRecDepth 16384

noncomputable section

namespace Cert.KernelDwdownIdeal.Ffn

open Cert.KernelDwdownIdeal Cert.KernelDwdownIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, t.val / 16] := (by decide +kernel : ∀ t : Fin grid0.N, _)
theorem at1 : ∀ t : Fin cfg0.N, win0_1.index t = ![t.val % 8, t.val / 8 % 2] := (by decide +kernel : ∀ t : Fin grid0.N, _)
theorem at2 : ∀ t : Fin cfg0.N, win0_2.index t = ![0, t.val / 16, t.val / 8 % 2] := (by decide +kernel : ∀ t : Fin grid0.N, _)

theorem lt_N (t : Fin cfg0.N) : t.val < 64 := t.isLt

/-- The row and the column of the result that output block `n` holds at `r` and `s`. -/
def rw_ (n : ℕ) (r : Fin 1408) : Fin 5632 := Fin.ofNat 5632 (1408 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The gated width and the cotangent, as the call is launched with them. -/
abbrev aA : S8192x5632.Idx → EReal := m ((c : Thread nD τ).loc main_arg0)
abbrev aY : S8192x2048.Idx → EReal := m ((c : Thread nD τ).loc main_arg2)

theorem iblk0_apply (t : Fin cfg0.N) (x : Fin 1024) (r : Fin 1408) :
    iblk m c 0 t (ix2 x r) = aA m c (ix2 (Fin.ofNat 8192 (1024 * (t.val % 8) + x.val)) (rw_ (t.val / 8) r)) := by
  have ht := lt_N t
  have e : ((cfg0.win 0).blk t).view.emb (ix2 x r)
      = (ix2 (Fin.ofNat 8192 (1024 * (t.val % 8) + x.val)) (rw_ (t.val / 8) r) : S8192x5632.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 1408 + 1 * r.val = _ % 5632; rw [at0]; show t.val / 16 * 1408 + 1 * r.val = (1408 * (t.val / 8 / 2) + r.val) % 5632; omega
  unfold iblk
  rw [View.read_apply, e]
  show V m c main_arg0 _ = _
  rw [V_main_arg0]

theorem iblk1_apply (t : Fin cfg0.N) (x : Fin 1024) (s : Fin 1024) :
    iblk m c 1 t (ix2 x s) = aY m c (ix2 (Fin.ofNat 8192 (1024 * (t.val % 8) + x.val)) (cl (t.val / 8) s)) := by
  have e : ((cfg0.win 1).blk t).view.emb (ix2 x s)
      = (ix2 (Fin.ofNat 8192 (1024 * (t.val % 8) + x.val)) (cl (t.val / 8) s) : S8192x2048.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 1024 + 1 * s.val = _ % 2048; rw [at1]; show t.val / 8 % 2 * 1024 + 1 * s.val = (1024 * (t.val / 8 % 2) + s.val) % 2048; omega
  unfold iblk
  rw [View.read_apply, e]
  show V m c main_arg2 _ = _
  rw [V_main_arg2]

/-- What block `k` of the rows adds to place `y` of output block `b`. -/
def term (b k : ℕ) (y : S1408x1024.Idx) : EReal :=
  ∑ x : Fin 1024, aA m c (ix2 (Fin.ofNat 8192 (1024 * k + x.val)) (rw_ b (y 0))) * aY m c (ix2 (Fin.ofNat 8192 (1024 * k + x.val)) (cl b (y 1)))

theorem part_eq (t : Fin cfg0.N) (r : Fin 1408) (s : Fin 1024) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1408) (s : Fin 1024) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1408) (s : Fin 1024) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1408) (s : Fin 1024) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1408x1024.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the gated width times every column of the cotangent. -/
def G : S1x5632x2048.Idx → EReal := fun i => ∑ j : Fin 8192, aA m c (ix2 j (i 1)) * aY m c (ix2 j (i 2))

theorem out_eq (t : Fin cfg0.N) (h7 : t.val % 8 = 7) (r : Fin 1408) (s : Fin 1024) :
    (outsAt0 m c t.val t.isLt).1 (ix3 0 r s) = G m c (ix3 0 (rw_ (t.val / 8) r) (cl (t.val / 8) s)) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aA m c (ix2 j (rw_ (t.val / 8) r)) * aY m c (ix2 j (cl (t.val / 8) s))

theorem emb2 (t : Fin cfg0.N) (r : Fin 1408) (s : Fin 1024) :
    ((cfg0.win 2).blk t).view.emb (ix3 (0 : Fin 1) r s) = (ix3 0 (rw_ (t.val / 8) r) (cl (t.val / 8) s) : S1x5632x2048.Idx) := by
  have ht := lt_N t
  funext a
  apply Fin.ext
  match a with
  | ⟨0, _⟩ => show win0_2.index t 0 * 1 + 1 * 0 = 0; rw [at2]; rfl
  | ⟨1, _⟩ => show win0_2.index t 1 * 1408 + 1 * r.val = _ % 5632; rw [at2]; show t.val / 16 * 1408 + 1 * r.val = (1408 * (t.val / 8 / 2) + r.val) % 5632; omega
  | ⟨2, _⟩ => show win0_2.index t 2 * 1024 + 1 * s.val = _ % 2048; rw [at2]; show t.val / 8 % 2 * 1024 + 1 * s.val = (1024 * (t.val / 8 % 2) + s.val) % 2048; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x1408x1024.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨z, a, b, rfl⟩ : ∃ (z : Fin 1) (a : Fin 5632) (b : Fin 2048), i = (ix3 z a b : S1x5632x2048.Idx) := ⟨i 0, i 1, i 2, ValueIdx.eq_ix3 i⟩
    obtain rfl : z = 0 := Subsingleton.elim _ _
    let t : Fin cfg0.N := ⟨16 * (a.val / 1408) + 8 * (b.val / 1024) + 7, by show _ < 64; omega⟩
    refine ⟨t, (flush0_2 t).mpr (by show (16 * (a.val / 1408) + 8 * (b.val / 1024) + 7) % 8 = 7; omega), ?_⟩
    have e := emb2 t ⟨a.val % 1408, by omega⟩ ⟨b.val % 1024, by omega⟩
    rw [show rw_ (t.val / 8) ⟨a.val % 1408, by omega⟩ = a from Fin.ext (by
        show (1408 * ((16 * (a.val / 1408) + 8 * (b.val / 1024) + 7) / 8 / 2) + a.val % 1408) % 5632 = a.val; omega),
      show cl (t.val / 8) ⟨b.val % 1024, by omega⟩ = b from Fin.ext (by
        show (1024 * ((16 * (a.val / 1408) + 8 * (b.val / 1024) + 7) / 8 % 2) + b.val % 1024) % 2048 = b.val; omega)] at e
    rw [← e]
    exact View.emb_mem_set _ _

end Cert.KernelDwdownIdeal.Ffn

end
-- ==== Proof.Ffn.Dwdown.Claims.lean ====
/- The claims about the gradient of the mixer's second weight. -/
module

public import proofs.«01_k».proof.Defs
public import proofs.«01_k».proof.Proof.Gen.KernelDwdown.Frame
public import proofs.«01_k».proof.Proof.Gen.ReferenceDwdownIdeal.Read
public import proofs.«01_k».proof.Proof.Ffn.Dwdown.Final

@[expose] public section

set_option maxRecDepth 16384

noncomputable section

namespace Cert.FfnDwdown

open Idealize.ShloMosaic Idealize.ShloMosaic.TcCoe Idealize.SL.Sem

theorem frame_k : Cert.quiescent_KernelDwdown := fun m ρ _ => Cert.KernelDwdown.Gen.frame m ρ
theorem frame_ki : Cert.quiescent_KernelDwdownIdeal := fun m ρ _ => Cert.KernelDwdownIdeal.Gen.frame m ρ
theorem frame_r : Cert.quiescent_ReferenceDwdownIdeal := fun m ρ _ =>
  (θ_run Cert.ReferenceDwdownIdeal.defs _ _).mono (fun r h => ⟨fun c => (h c).2, Idealize.ShloMosaic.sem_eq_zero_of_no_sems (by decide) r.2⟩)
    (Cert.ReferenceDwdownIdeal.Value.run (F := Ideal) m ρ)
theorem preserves : Cert.preserves_KernelDwdown_KernelDwdownIdeal := trivial

/-- The call leaves the reference's gradient. -/
theorem algebraic : Cert.algebraic_KernelDwdownIdeal_ReferenceDwdownIdeal := by
  intro m g m' g' _ hagree
  refine ⟨_, Cert.KernelDwdownIdeal.Value.run_blocks m g, ?_⟩
  refine (θ_run Cert.ReferenceDwdownIdeal.defs _ _).mono (fun r h c => ?_) (Cert.ReferenceDwdownIdeal.Value.run (F := Ideal) m' g')
  obtain ⟨a0, _, a2⟩ := hagree c
  refine ⟨(h c).1.trans ?_, (h c).2⟩
  rw [Cert.ReferenceDwdownIdeal.Read.val_main_v7_eq, Cert.KernelDwdownIdeal.Ffn.final]
  refine funext fun i => ?_
  rw [Cert.ReferenceDwdownIdeal.Read.val_main_v7_apply, Cert.ReferenceDwdownIdeal.Read.val_main_v6_apply,
    Cert.ReferenceDwdownIdeal.Read.val_main_v4_apply, Cert.ReferenceDwdownIdeal.Read.val_main_v3_apply]
  unfold Cert.KernelDwdownIdeal.Ffn.G Cert.KernelDwdownIdeal.Ffn.aA Cert.KernelDwdownIdeal.Ffn.aY
  rw [← a0, ← a2]
  refine Finset.sum_congr rfl fun j _ => ?_
  rw [Cert.ReferenceDwdownIdeal.Read.val_main_v0_apply]
  refine (mul_comm (G := EReal) _ _).trans ?_
  exact congrArg₂ (fun x y : EReal => x * y) (congrArg (m' _) (ValueIdx.eq_ix2 _)) (congrArg (m' _) (ValueIdx.eq_ix2 _))

end Cert.FfnDwdown

end
-- ==== Proof.Ffn.Dh.Point.lean ====
/- The gradient of the channel mixer's input: what one grid point leaves in its accumulator and in its output block. -/
module

public import proofs.«01_k».proof.Proof.Gen.KernelDhIdeal.Frame
public import proofs.«01_k».proof.Proof.Ffn.Blocks

@[expose] public section

set_option maxRecDepth 16384

noncomputable section

namespace Cert.KernelDhIdeal.Ffn

open Cert.KernelDhIdeal Cert.KernelDhIdeal.Gen Cert.Ffn Idealize.ShloMosaic Idealize.ShloMosaic.TcCoe Idealize.SL.Sem

/-- The product of a point's two blocks. -/
def part (a : S1x1024x1408.Idx → EReal) (w : S1x1x1024x1408.Idx → EReal) (r s : Fin 1024) : EReal :=
  ∑ x : Fin 1408, a (ix3 0 r x) * w (ix4 0 0 s x)

theorem pay2_apply (a : S1x1024x1408.Idx → EReal) (w : S1x1x1024x1408.Idx → EReal) (r s : Fin 1024) :
    k0_pay2 (F := Ideal) a w (ix2 r s) = part a w r s := by
  unfold k0_pay2 k0_pay1 part
  pointwise []
theorem pay3_apply (a : S1x1024x1408.Idx → EReal) (w : S1x1x1024x1408.Idx → EReal) (z : S1024x1024.Idx → EReal) (r s : Fin 1024) :
    k0_pay3 (F := Ideal) a w z (ix2 r s) = z (ix2 r s) + part a w r s := by
  unfold k0_pay3 k0_pay1 part
  pointwise []

/-- A store through the whole accumulator reads back as its payload. -/
theorem read_store {κ : Kind} {sp : Space} (V : View sig κ sp S1024x1024 .f32) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)

section
variable (c : Dev nD) (i : grid0.Coords) (arg3 : Memref sig .tc .vmem S1x1024x1408 .bf16) (harg3 : arg3.IsWhole) (arg4 : Memref sig .tc .vmem S1x1x1024x1408 .bf16) (harg4 : arg4.IsWhole)
  (arg5 : Memref sig .tc .vmem S1024x1024 .f32) (harg5 : arg5.IsWhole) (arg6 : Memref sig .tc .vmem S1024x1024 .f32) (harg6 : arg6.IsWhole)
  (x0 : Vec Ideal S1x1024x1408 .bf16) (x1 : Vec Ideal S1x1x1024x1408 .bf16) (xs0 : Vec Ideal S1024x1024 .f32) (r s : Fin 1024)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1x1024x1408) zero3, View.ld_unit_zero (S := S1x1x1024x1408) zero4]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1x1024x1408) zero3, View.ld_unit_zero (S := S1x1x1024x1408) zero4, View.ld_unit_zero (S := S1024x1024) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1x1024x1408) zero3, View.ld_unit_zero (S := S1x1x1024x1408) zero4, View.ld_unit_zero (S := S1024x1024) zero2]
  exact pay3_apply _ _ _ _ _

theorem out (h0 h1 h2) :
    out0_C_2 (F := Ideal) c i arg3 harg3 arg4 harg4 arg5 harg5 arg6 harg6 h0 h1 h2 x0 x1 xs0 (ix2 r s) = xs0 (ix2 r s) + part x0 x1 r s := by
  unfold out0_C_2 kernelRun0_C
  dsimp only
  refine (read_store _ _ _ _ _).trans ?_
  unfold kernelRun0_C.sl.v14 View.readCov kernelRun0_C.sl.HS0_1
  rw [View.readAt_eq_ld, View.ld_unit_zero (S := S1024x1024) zero2]
  refine (read_store _ _ _ _ _).trans ?_
  simp only [View.readAt_eq_ld, harg3.read_unread, harg4.read_unread, harg6.read_unread]
  rw [View.ld_unit_zero (S := S1x1024x1408) zero3, View.ld_unit_zero (S := S1x1x1024x1408) zero4, View.ld_unit_zero (S := S1024x1024) zero2]
  exact pay3_apply _ _ _ _ _
end

end Cert.KernelDhIdeal.Ffn

end
-- ==== Proof.Ffn.Dh.Host.lean ====
/- The gradient of the channel mixer's input: the two arrays the host lines hand to the call. -/
module

public import proofs.«01_k».proof.Proof.Ffn.Dh.Point

@[expose] public section

set_option maxRecDepth 16384

noncomputable section

namespace Cert.KernelDhIdeal.Ffn

open Cert.KernelDhIdeal Cert.KernelDhIdeal.Gen Cert.Ffn Idealize.ShloMosaic Idealize.ShloMosaic.TcCoe Idealize.SL.Sem
open Facts

/-- The cotangent as its two halves, and the weight as its eight blocks of columns. -/
def halves (x : FVec Ideal S8192x11264 .bf16) : FVec Ideal S2x8192x5632 .bf16 :=
  transpose S2x8192x5632 [1, 0, 2] (shapeCast S8192x2x5632 x shapeCasts_S8192x11264_S8192x2x5632) transposes_S8192x2x5632_S2x8192x5632_1_0_2
def blocks (x : FVec Ideal S2048x11264 .bf16) : FVec Ideal S1x8x2048x1408 .bf16 :=
  broadcastInDim S1x8x2048x1408 ![1, 2, 3] bcast_S8x2048x1408_S1x8x2048x1408_1_2_3
    (transpose S8x2048x1408 [1, 0, 2] (shapeCast S2048x8x1408 x shapeCasts_S2048x11264_S2048x8x1408) transposes_S2048x8x1408_S8x2048x1408_1_0_2)

theorem halves_apply (x : S8192x11264.Idx → EReal) (h : Fin 2) (r : Fin 8192) (d : Fin 5632) :
    halves x (ix3 h r d) = x (ix2 r (Fin.ofNat 11264 (5632 * h.val + d.val))) := by
  unfold halves
  pointwise []
  congr 2
  apply Fin.ext
  show h.val * 5632 + d.val = (5632 * h.val + d.val) % 11264
  omega

theorem blocks_apply (x : S2048x11264.Idx → EReal) (b : Fin 8) (k : Fin 2048) (d : Fin 1408) :
    blocks x (ix4 0 b k d) = x (ix2 k (Fin.ofNat 11264 (1408 * b.val + d.val))) := by
  unfold blocks
  pointwise []
  congr 2
  apply Fin.ext
  show b.val * 1408 + d.val = (1408 * b.val + d.val) % 11264
  omega

variable (m : (ℓ : Loc nD τ sig) → Buf (Elt Ideal) ℓ) (c : Dev nD)

theorem V_main_v1 : V m c main_v1 = halves (m ((c : Thread nD τ).loc main_arg2)) := by
  unfold_abbrev_sides
  after_results
  rfl
theorem V_main_v4 : V m c main_v4 = blocks (m ((c : Thread nD τ).loc main_arg1)) := by
  unfold_abbrev_sides
  after_results
  rfl

end Cert.KernelDhIdeal.Ffn

end
-- ==== Proof.Ffn.Dh.Final.lean ====
/- The gradient of the channel mixer's input: the array the call leaves, as one sum over the mixer's whole width. -/
module

public import proofs.«01_k».proof.Proof.Gen.KernelDhIdeal.Value
public import proofs.«01_k».proof.Proof.Ffn.Dh.Point
public import proofs.«01_k».proof.Proof.Ffn.Dh.Host

@[expose] public section

set_option maxRecDepth 16384

noncomputable section

namespace Cert.KernelDhIdeal.Ffn

open Cert.KernelDhIdeal Cert.KernelDhIdeal.Gen Cert.Ffn Idealize.ShloMosaic Idealize.ShloMosaic.TcCoe Idealize.SL.Sem
open Idealize.ShloMosaic.Pipeline (Dat Window)
open Finset (range)

/-! Where a point's blocks lie: point `t` adds columns block `t mod 8` to output block `t / 8`. -/

theorem at0 : ∀ t : Fin cfg0.N, win0_0.index t = ![t.val % 8 / 4, t.val / 16, t.val % 4] := (by decide +kernel : ∀ t : Fin grid0.N, _)
theorem at1 : ∀ t : Fin cfg0.N, win0_1.index t = ![0, t.val % 8, t.val / 8 % 2, 0] := (by decide +kernel : ∀ t : Fin grid0.N, _)
theorem at2 : ∀ t : Fin cfg0.N, win0_2.index t = ![t.val / 16, t.val / 8 % 2] := (by decide +kernel : ∀ t : Fin grid0.N, _)

theorem lt_N (t : Fin cfg0.N) : t.val < 128 := t.isLt

/-- The row and the column of the result that a point's block holds at `r` and `s`. -/
def rw_ (n : ℕ) (r : Fin 1024) : Fin 8192 := Fin.ofNat 8192 (1024 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The cotangent and the weight, as the call is launched with them. -/
abbrev aU : S8192x11264.Idx → EReal := m ((c : Thread nD τ).loc main_arg2)
abbrev aW : S2048x11264.Idx → EReal := m ((c : Thread nD τ).loc main_arg1)

theorem iblk0_apply (t : Fin cfg0.N) (r : Fin 1024) (x : Fin 1408) :
    iblk m c 0 t (ix3 (0 : Fin 1) r x) = aU m c (ix2 (rw_ (t.val / 8) r) (Fin.ofNat 11264 (1408 * (t.val % 8) + x.val))) := by
  have ht := lt_N t
  have hr : (1024 * (t.val / 8 / 2) + r.val) % 8192 = 1024 * (t.val / 16) + r.val := by omega
  have e : ((cfg0.win 0).blk t).view.emb (ix3 (0 : Fin 1) r x)
      = (ix3 (Fin.ofNat 2 (t.val % 8 / 4)) (rw_ (t.val / 8) r) (Fin.ofNat 5632 (1408 * (t.val % 4) + x.val)) : S2x8192x5632.Idx) := by
    funext a
    apply Fin.ext
    match a with
    | ⟨0, _⟩ => show win0_0.index t 0 * 1 + 1 * 0 = t.val % 8 / 4 % 2; rw [at0]; show t.val % 8 / 4 * 1 + 1 * 0 = _; omega
    | ⟨1, _⟩ => show win0_0.index t 1 * 1024 + 1 * r.val = _ % 8192; rw [at0, hr]; show t.val / 16 * 1024 + 1 * r.val = _; omega
    | ⟨2, _⟩ => show win0_0.index t 2 * 1408 + 1 * x.val = _ % 5632; rw [at0]; show t.val % 4 * 1408 + 1 * x.val = _; omega
  unfold iblk
  rw [View.read_apply, e]
  show V m c main_v1 _ = _
  rw [V_main_v1, halves_apply]
  congr 2
  apply Fin.ext
  show (5632 * (t.val % 8 / 4 % 2) + (1408 * (t.val % 4) + x.val) % 5632) % 11264 = (1408 * (t.val % 8) + x.val) % 11264
  omega

theorem iblk1_apply (t : Fin cfg0.N) (s : Fin 1024) (x : Fin 1408) :
    iblk m c 1 t (ix4 (0 : Fin 1) (0 : Fin 1) s x) = aW m c (ix2 (cl (t.val / 8) s) (Fin.ofNat 11264 (1408 * (t.val % 8) + x.val))) := by
  have e : ((cfg0.win 1).blk t).view.emb (ix4 (0 : Fin 1) (0 : Fin 1) s x)
      = (ix4 0 (Fin.ofNat 8 (t.val % 8)) (cl (t.val / 8) s) x : S1x8x2048x1408.Idx) := by
    funext a
    apply Fin.ext
    match a with
    | ⟨0, _⟩ => show win0_1.index t 0 * 1 + 1 * 0 = 0; rw [at1]; rfl
    | ⟨1, _⟩ => show win0_1.index t 1 * 1 + 1 * 0 = t.val % 8 % 8; rw [at1]; show t.val % 8 * 1 + 1 * 0 = _; omega
    | ⟨2, _⟩ => show win0_1.index t 2 * 1024 + 1 * s.val = _ % 2048; rw [at1]; show t.val / 8 % 2 * 1024 + 1 * s.val = _; omega
    | ⟨3, _⟩ => show win0_1.index t 3 * 1408 + 1 * x.val = x.val; rw [at1]; show 0 * 1408 + 1 * x.val = _; omega
  unfold iblk
  rw [View.read_apply, e]
  show V m c main_v4 _ = _
  rw [V_main_v4, blocks_apply]
  congr 2
  apply Fin.ext
  show (1408 * (t.val % 8 % 8) + x.val) % 11264 = (1408 * (t.val % 8) + x.val) % 11264
  omega

/-- What block `k` of the columns adds to place `y` of output block `b`. -/
def term (b k : ℕ) (y : S1024x1024.Idx) : EReal :=
  ∑ x : Fin 1408, aU m c (ix2 (rw_ b (y 0)) (Fin.ofNat 11264 (1408 * k + x.val))) * aW m c (ix2 (cl b (y 1)) (Fin.ofNat 11264 (1408 * k + x.val)))

theorem part_eq (t : Fin cfg0.N) (r s : Fin 1024) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r s : Fin 1024) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r s : Fin 1024) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r s : Fin 1024) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x1024.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every row of the cotangent times every row of the weight. -/
def G : S8192x2048.Idx → EReal := fun i => ∑ j : Fin 11264, aU m c (ix2 (i 0) j) * aW m c (ix2 (i 1) j)

theorem out_eq (t : Fin cfg0.N) (h7 : t.val % 8 = 7) (r s : Fin 1024) :
    (outsAt0 m c t.val t.isLt).1 (ix2 r s) = G m c (ix2 (rw_ (t.val / 8) r) (cl (t.val / 8) s)) := by
  have e : (outsAt0 m c t.val t.isLt).1 (ix2 r s) = (outsAt0 m c t.val t.isLt).2 (ix2 r s) := by
    rw [outsAt0_C m c t (by omega) (by omega) h7]
    dsimp only
    rw [out, last]
  rw [e, acc, h7]
  exact sum_axis 1408 8 rfl fun j => aU m c (ix2 (rw_ (t.val / 8) r) j) * aW m c (ix2 (cl (t.val / 8) s) j)

theorem emb2 (t : Fin cfg0.N) (r s : Fin 1024) :
    ((cfg0.win 2).blk t).view.emb (ix2 r s) = (ix2 (rw_ (t.val / 8) r) (cl (t.val / 8) s) : S8192x2048.Idx) := by
  have ht := lt_N t
  funext a
  apply Fin.ext
  match a with
  | ⟨0, _⟩ => show win0_2.index t 0 * 1024 + 1 * r.val = _ % 8192; rw [at2]; show t.val / 16 * 1024 + 1 * r.val = (1024 * (t.val / 8 / 2) + r.val) % 8192; omega
  | ⟨1, _⟩ => show win0_2.index t 1 * 1024 + 1 * s.val = _ % 2048; rw [at2]; show t.val / 8 % 2 * 1024 + 1 * s.val = (1024 * (t.val / 8 % 2) + s.val) % 2048; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1024x1024.Idx) => ?_
    obtain ⟨r, s, rfl⟩ : ∃ r s, y = ix2 r s := ⟨y 0, y 1, ValueIdx.eq_ix2 y⟩
    rw [View.read_apply, emb2]
    exact out_eq m c t ((flush0_2 t).mp hf) r s
  · obtain ⟨a, b, rfl⟩ : ∃ (a : Fin 8192) (b : Fin 2048), i = (ix2 a b : S8192x2048.Idx) := ⟨i 0, i 1, ValueIdx.eq_ix2 i⟩
    let t : Fin cfg0.N := ⟨16 * (a.val / 1024) + 8 * (b.val / 1024) + 7, by show _ < 128; omega⟩
    refine ⟨t, (flush0_2 t).mpr (by show (16 * (a.val / 1024) + 8 * (b.val / 1024) + 7) % 8 = 7; omega), ?_⟩
    have e := emb2 t ⟨a.val % 1024, by omega⟩ ⟨b.val % 1024, by omega⟩
    rw [show rw_ (t.val / 8) ⟨a.val % 1024, by omega⟩ = a from Fin.ext (by
        show (1024 * ((16 * (a.val / 1024) + 8 * (b.val / 1024) + 7) / 8 / 2) + a.val % 1024) % 8192 = a.val; omega),
      show cl (t.val / 8) ⟨b.val % 1024, by omega⟩ = b from Fin.ext (by
        show (1024 * ((16 * (a.val / 1024) + 8 * (b.val / 1024) + 7) / 8 % 2) + b.val % 1024) % 2048 = b.val; omega)] at e
    rw [← e]
    exact View.emb_mem_set _ _

end Cert.KernelDhIdeal.Ffn

end
-- ==== Proof.Ffn.Dh.Claims.lean ====
/- The claims about the gradient of the channel mixer's input. -/
module

public import proofs.«01_k».proof.Defs
public import proofs.«01_k».proof.Proof.Gen.KernelDh.Frame
public import proofs.«01_k».proof.Proof.Gen.ReferenceDhIdeal.Read
public import proofs.«01_k».proof.Proof.Ffn.Dh.Final

@[expose] public section

set_option maxRecDepth 16384

noncomputable section

namespace Cert.FfnDh

open Idealize.ShloMosaic Idealize.ShloMosaic.TcCoe Idealize.SL.Sem

theorem frame_k : Cert.quiescent_KernelDh := fun m ρ _ => Cert.KernelDh.Gen.frame m ρ
theorem frame_ki : Cert.quiescent_KernelDhIdeal := fun m ρ _ => Cert.KernelDhIdeal.Gen.frame m ρ
theorem frame_r : Cert.quiescent_ReferenceDhIdeal := fun m ρ _ =>
  (θ_run Cert.ReferenceDhIdeal.defs _ _).mono (fun r h => ⟨fun c => (h c).2, Idealize.ShloMosaic.sem_eq_zero_of_no_sems (by decide) r.2⟩)
    (Cert.ReferenceDhIdeal.Value.run (F := Ideal) m ρ)
theorem preserves : Cert.preserves_KernelDh_KernelDhIdeal := trivial

/-- The call leaves the reference's gradient. -/
theorem algebraic : Cert.algebraic_KernelDhIdeal_ReferenceDhIdeal := by
  intro m g m' g' _ hagree
  refine ⟨_, Cert.KernelDhIdeal.Value.run_blocks m g, ?_⟩
  refine (θ_run Cert.ReferenceDhIdeal.defs _ _).mono (fun r h c => ?_) (Cert.ReferenceDhIdeal.Value.run (F := Ideal) m' g')
  obtain ⟨_, a1, a2⟩ := hagree c
  refine ⟨(h c).1.trans ?_, (h c).2⟩
  rw [Cert.ReferenceDhIdeal.Read.val_main_v6_eq, Cert.KernelDhIdeal.Ffn.final]
  refine funext fun i => ?_
  rw [Cert.ReferenceDhIdeal.Read.val_main_v6_apply]
  unfold Cert.KernelDhIdeal.Ffn.G Cert.KernelDhIdeal.Ffn.aU Cert.KernelDhIdeal.Ffn.aW
  rw [← a1, ← a2]
  refine Finset.sum_congr rfl fun j _ => ?_
  rw [Cert.ReferenceDhIdeal.Read.val_main_v3_apply, Cert.ReferenceDhIdeal.Read.val_main_v1_apply]
  exact congrArg₂ (fun x y : EReal => x * y) (congrArg (m' _) (ValueIdx.eq_ix2 _)) (congrArg (m' _) (ValueIdx.eq_ix2 _))

end Cert.FfnDh

end
-- ==== Proof.Ffn.Dwup.Point.lean ====
/- The gradient of the mixer's first weight: what one grid point leaves in its accumulator and in its output block. -/
module

public import proofs.«01_k».proof.Proof.Gen.KernelDwupIdeal.Frame
public import proofs.«01_k».proof.Proof.Ffn.Blocks

@[expose] public section

set_option maxRecDepth 16384

noncomputable section

namespace Cert.KernelDwupIdeal.Ffn

open Cert.KernelDwupIdeal Cert.KernelDwupIdeal.Gen Cert.Ffn Idealize.ShloMosaic Idealize.ShloMosaic.TcCoe Idealize.SL.Sem

/-- The product of a point's two blocks, over their rows. -/
def part (a : S1024x1024.Idx → EReal) (w : S1x1024x1408.Idx → EReal) (r : Fin 1024) (s : Fin 1408) : EReal :=
  ∑ x : Fin 1024, a (ix2 x r) * w (ix3 0 x s)

theorem pay2_apply (a : S1024x1024.Idx → EReal) (w : S1x1024x1408.Idx → EReal) (r : Fin 1024) (s : Fin 1408) :
    k0_pay2 (F := Ideal) a w (ix2 r s) = part a w r s := by
  unfold k0_pay2 k0_pay1 part
  pointwise []
theorem pay3_apply (a : S1024x1024.Idx → EReal) (w : S1x1024x1408.Idx → EReal) (z : S1024x1408.Idx → EReal) (r : Fin 1024) (s : Fin 1408) :
    k0_pay3 (F := Ideal) a w z (ix2 r s) = z (ix2 r s) + part a w r s := by
  unfold k0_pay3 k0_pay1 part
  pointwise []
theorem pay4_apply (z : S1024x1408.Idx → EReal) (r : Fin 1024) (s : Fin 1408) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S1024x1408 .f32) (f) (w : S1024x1408.Idx → EReal) (L) (y) :
    V.read (Elt Ideal) (V.writes (Elt Ideal) f (⟨Rect.unit (s := S1024x1408) ![0, 0] S1024x1408.size inb_S1024x1408_S1024x1408_0_0, w⟩ :: L)) y = w y :=
  View.read_writes_cons_unit_of_mem V f inb_S1024x1408_S1024x1408_0_0 w L y y rfl (by intro a; fin_cases a <;> simp)
theorem read_out {κ : Kind} {sp : Space} (V : View sig κ sp S1x1024x1408 .bf16) (f) (w : S1x1024x1408.Idx → EReal) (L) (y) :
    V.read (Elt Ideal) (V.writes (Elt Ideal) f (⟨Rect.unit (s := S1x1024x1408) ![0, 0, 0] S1x1024x1408.size inb_S1x1024x1408_S1x1024x1408_0_0_0, w⟩ :: L)) y = w y :=
  View.read_writes_cons_unit_of_mem V f inb_S1x1024x1408_S1x1024x1408_0_0_0 w L y y rfl (by intro a; fin_cases a <;> simp)

section
variable (c : Dev nD) (i : grid0.Coords) (arg3 : Memref sig .tc .vmem S1024x1024 .bf16) (harg3 : arg3.IsWhole) (arg4 : Memref sig .tc .vmem S1x1024x1408 .bf16) (harg4 : arg4.IsWhole)
  (arg5 : Memref sig .tc .vmem S1x1024x1408 .bf16) (harg5 : arg5.IsWhole) (arg6 : Memref sig .tc .vmem S1024x1408 .f32) (harg6 : arg6.IsWhole)
  (x0 : Vec Ideal S1024x1024 .bf16) (x1 : Vec Ideal S1x1024x1408 .bf16) (xs0 : Vec Ideal S1024x1408 .f32) (r : Fin 1024) (s : Fin 1408)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x1024) zero2, View.ld_unit_zero (S := S1x1024x1408) zero3]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x1024) zero2, View.ld_unit_zero (S := S1x1024x1408) zero3, View.ld_unit_zero (S := S1024x1408) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x1024) zero2, View.ld_unit_zero (S := S1x1024x1408) zero3, View.ld_unit_zero (S := S1024x1408) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v13 View.readCov kernelRun0_C.sl.HS0_1
  rw [View.readAt_eq_ld, View.ld_unit_zero (S := S1024x1408) zero2]
  refine (read_store _ _ _ _ _).trans ?_
  simp only [View.readAt_eq_ld, harg3.read_unread, harg4.read_unread, harg6.read_unread]
  rw [View.ld_unit_zero (S := S1024x1024) zero2, View.ld_unit_zero (S := S1x1024x1408) zero3, View.ld_unit_zero (S := S1024x1408) zero2]
  exact pay3_apply _ _ _ _ _
end

end Cert.KernelDwupIdeal.Ffn

end
-- ==== Proof.Ffn.Dwup.Host.lean ====
/- The gradient of the mixer's first weight: the array the host lines hand to the call. -/
module

public import proofs.«01_k».proof.Proof.Ffn.Dwup.Point

@[expose] public section

set_option maxRecDepth 16384

noncomputable section

namespace Cert.KernelDwupIdeal.Ffn

open Cert.KernelDwupIdeal Cert.KernelDwupIdeal.Gen Cert.Ffn Idealize.ShloMosaic Idealize.ShloMosaic.TcCoe Idealize.SL.Sem
open Facts

/-- The cotangent as its two halves. -/
def halves (x : FVec Ideal S8192x11264 .bf16) : FVec Ideal S2x8192x5632 .bf16 :=
  transpose S2x8192x5632 [1, 0, 2] (shapeCast S8192x2x5632 x shapeCasts_S8192x11264_S8192x2x5632) transposes_S8192x2x5632_S2x8192x5632_1_0_2

theorem halves_apply (x : S8192x11264.Idx → EReal) (h : Fin 2) (r : Fin 8192) (d : Fin 5632) :
    halves x (ix3 h r d) = x (ix2 r (Fin.ofNat 11264 (5632 * h.val + d.val))) := by
  unfold halves
  pointwise []
  congr 2
  apply Fin.ext
  show h.val * 5632 + d.val = (5632 * h.val + d.val) % 11264
  omega

variable (m : (ℓ : Loc nD τ sig) → Buf (Elt Ideal) ℓ) (c : Dev nD)

theorem V_main_v1 : V m c main_v1 = halves (m ((c : Thread nD τ).loc main_arg2)) := by
  unfold_abbrev_sides
  after_results
  rfl

end Cert.KernelDwupIdeal.Ffn

end
-- ==== Proof.Ffn.Dwup.Final.lean ====
/- The gradient of the mixer's first weight: the array the call leaves, as one sum over all rows. -/
module

public import proofs.«01_k».proof.Proof.Gen.KernelDwupIdeal.Value
public import proofs.«01_k».proof.Proof.Ffn.Dwup.Point
public import proofs.«01_k».proof.Proof.Ffn.Dwup.Host

@[expose] public section

set_option maxRecDepth 16384

noncomputable section

namespace Cert.KernelDwupIdeal.Ffn

open Cert.KernelDwupIdeal Cert.KernelDwupIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, t.val / 64] := (by decide +kernel : ∀ t : Fin grid0.N, _)
theorem at1 : ∀ t : Fin cfg0.N, win0_1.index t = ![t.val / 8 % 8 / 4, t.val % 8, t.val / 8 % 4] := (by decide +kernel : ∀ t : Fin grid0.N, _)
theorem at2 : ∀ t : Fin cfg0.N, win0_2.index t = ![t.val / 8 % 8, t.val / 64, 0] := (by decide +kernel : ∀ t : Fin grid0.N, _)

theorem lt_N (t : Fin cfg0.N) : t.val < 128 := t.isLt

/-- Output block `n`: which block of columns it is, and the row and the column of the weight it holds at `r` and `s`. -/
def bk (n : ℕ) : Fin 8 := Fin.ofNat 8 n
def rw_ (n : ℕ) (r : Fin 1024) : Fin 2048 := Fin.ofNat 2048 (1024 * (n / 8) + r.val)
def wide (b : Fin 8) (s : Fin 1408) : Fin 11264 := Fin.ofNat 11264 (1408 * b.val + s.val)

variable (m : (ℓ : Loc nD τ sig) → Buf (Elt Ideal) ℓ) (c : Dev nD)

/-- The input and the cotangent, as the call is launched with them. -/
abbrev aH : S8192x2048.Idx → EReal := m ((c : Thread nD τ).loc main_arg0)
abbrev aU : S8192x11264.Idx → EReal := m ((c : Thread nD τ).loc main_arg2)

theorem iblk0_apply (t : Fin cfg0.N) (x : Fin 1024) (r : Fin 1024) :
    iblk m c 0 t (ix2 x r) = aH m c (ix2 (Fin.ofNat 8192 (1024 * (t.val % 8) + x.val)) (rw_ (t.val / 8) r)) := by
  have ht := lt_N t
  have e : ((cfg0.win 0).blk t).view.emb (ix2 x r)
      = (ix2 (Fin.ofNat 8192 (1024 * (t.val % 8) + x.val)) (rw_ (t.val / 8) r) : S8192x2048.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 1024 + 1 * r.val = _ % 2048; rw [at0]; show t.val / 64 * 1024 + 1 * r.val = (1024 * (t.val / 8 / 8) + r.val) % 2048; omega
  unfold iblk
  rw [View.read_apply, e]
  show V m c main_arg0 _ = _
  rw [V_main_arg0]

theorem iblk1_apply (t : Fin cfg0.N) (x : Fin 1024) (s : Fin 1408) :
    iblk m c 1 t (ix3 (0 : Fin 1) x s) = aU m c (ix2 (Fin.ofNat 8192 (1024 * (t.val % 8) + x.val)) (wide (bk (t.val / 8)) s)) := by
  have e : ((cfg0.win 1).blk t).view.emb (ix3 (0 : Fin 1) x s)
      = (ix3 (Fin.ofNat 2 (t.val / 8 % 8 / 4)) (Fin.ofNat 8192 (1024 * (t.val % 8) + x.val)) (Fin.ofNat 5632 (1408 * (t.val / 8 % 4) + s.val)) : S2x8192x5632.Idx) := by
    funext a
    apply Fin.ext
    match a with
    | ⟨0, _⟩ => show win0_1.index t 0 * 1 + 1 * 0 = t.val / 8 % 8 / 4 % 2; rw [at1]; show t.val / 8 % 8 / 4 * 1 + 1 * 0 = _; omega
    | ⟨1, _⟩ => show win0_1.index t 1 * 1024 + 1 * x.val = _ % 8192; rw [at1]; show t.val % 8 * 1024 + 1 * x.val = (1024 * (t.val % 8) + x.val) % 8192; omega
    | ⟨2, _⟩ => show win0_1.index t 2 * 1408 + 1 * s.val = _ % 5632; rw [at1]; show t.val / 8 % 4 * 1408 + 1 * s.val = _; omega
  unfold iblk
  rw [View.read_apply, e]
  show V m c main_v1 _ = _
  rw [V_main_v1, halves_apply]
  congr 2
  apply Fin.ext
  show (5632 * (t.val / 8 % 8 / 4 % 2) + (1408 * (t.val / 8 % 4) + s.val) % 5632) % 11264 = (1408 * (t.val / 8 % 8) + s.val) % 11264
  omega

/-- What block `k` of the rows adds to place `y` of output block `b`. -/
def term (b k : ℕ) (y : S1024x1408.Idx) : EReal :=
  ∑ x : Fin 1024, aH m c (ix2 (Fin.ofNat 8192 (1024 * k + x.val)) (rw_ b (y 0))) * aU m c (ix2 (Fin.ofNat 8192 (1024 * k + x.val)) (wide (bk b) (y 1)))

theorem part_eq (t : Fin cfg0.N) (r : Fin 1024) (s : Fin 1408) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 1408) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 1408) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 1408) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x1408.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the input times every column of the cotangent, the latter in eight blocks. -/
def G : S8x2048x1408.Idx → EReal := fun i => ∑ j : Fin 8192, aH m c (ix2 j (i 1)) * aU m c (ix2 j (wide (i 0) (i 2)))

theorem out_eq (t : Fin cfg0.N) (h7 : t.val % 8 = 7) (r : Fin 1024) (s : Fin 1408) :
    (outsAt0 m c t.val t.isLt).1 (ix3 0 r s) = G m c (ix3 (bk (t.val / 8)) (rw_ (t.val / 8) r) s) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aH m c (ix2 j (rw_ (t.val / 8) r)) * aU m c (ix2 j (wide (bk (t.val / 8)) s))

theorem emb2 (t : Fin cfg0.N) (r : Fin 1024) (s : Fin 1408) :
    ((cfg0.win 2).blk t).view.emb (ix3 (0 : Fin 1) r s) = (ix3 (bk (t.val / 8)) (rw_ (t.val / 8) r) s : S8x2048x1408.Idx) := by
  have ht := lt_N t
  funext a
  apply Fin.ext
  match a with
  | ⟨0, _⟩ => show win0_2.index t 0 * 1 + 1 * 0 = t.val / 8 % 8; rw [at2]; show t.val / 8 % 8 * 1 + 1 * 0 = _; omega
  | ⟨1, _⟩ => show win0_2.index t 1 * 1024 + 1 * r.val = _ % 2048; rw [at2]; show t.val / 64 * 1024 + 1 * r.val = (1024 * (t.val / 8 / 8) + r.val) % 2048; omega
  | ⟨2, _⟩ => show win0_2.index t 2 * 1408 + 1 * s.val = s.val; rw [at2]; show 0 * 1408 + 1 * s.val = _; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x1024x1408.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨b, a, s, rfl⟩ : ∃ (b : Fin 8) (a : Fin 2048) (s : Fin 1408), i = (ix3 b a s : S8x2048x1408.Idx) := ⟨i 0, i 1, i 2, ValueIdx.eq_ix3 i⟩
    let t : Fin cfg0.N := ⟨64 * (a.val / 1024) + 8 * b.val + 7, by show _ < 128; omega⟩
    refine ⟨t, (flush0_2 t).mpr (by show (64 * (a.val / 1024) + 8 * b.val + 7) % 8 = 7; omega), ?_⟩
    have e := emb2 t ⟨a.val % 1024, by omega⟩ s
    rw [show rw_ (t.val / 8) ⟨a.val % 1024, by omega⟩ = a from Fin.ext (by
        show (1024 * ((64 * (a.val / 1024) + 8 * b.val + 7) / 8 / 8) + a.val % 1024) % 2048 = a.val; omega),
      show bk (t.val / 8) = b from Fin.ext (by show (64 * (a.val / 1024) + 8 * b.val + 7) / 8 % 8 = b.val; omega)] at e
    rw [← e]
    exact View.emb_mem_set _ _

end Cert.KernelDwupIdeal.Ffn

end
-- ==== Proof.Ffn.Dwup.Claims.lean ====
/- The claims about the gradient of the mixer's first weight. -/
module

public import proofs.«01_k».proof.Defs
public import proofs.«01_k».proof.Proof.Gen.KernelDwup.Frame
public import proofs.«01_k».proof.Proof.Gen.ReferenceDwupIdeal.Read
public import proofs.«01_k».proof.Proof.Ffn.Dwup.Final

@[expose] public section

set_option maxRecDepth 16384

noncomputable section

namespace Cert.FfnDwup

open Idealize.ShloMosaic Idealize.ShloMosaic.TcCoe Idealize.SL.Sem

theorem frame_k : Cert.quiescent_KernelDwup := fun m ρ _ => Cert.KernelDwup.Gen.frame m ρ
theorem frame_ki : Cert.quiescent_KernelDwupIdeal := fun m ρ _ => Cert.KernelDwupIdeal.Gen.frame m ρ
theorem frame_r : Cert.quiescent_ReferenceDwupIdeal := fun m ρ _ =>
  (θ_run Cert.ReferenceDwupIdeal.defs _ _).mono (fun r h => ⟨fun c => (h c).2, Idealize.ShloMosaic.sem_eq_zero_of_no_sems (by decide) r.2⟩)
    (Cert.ReferenceDwupIdeal.Value.run (F := Ideal) m ρ)
theorem preserves : Cert.preserves_KernelDwup_KernelDwupIdeal := trivial

/-- The call leaves the reference's gradient. -/
theorem algebraic : Cert.algebraic_KernelDwupIdeal_ReferenceDwupIdeal := by
  intro m g m' g' _ hagree
  refine ⟨_, Cert.KernelDwupIdeal.Value.run_blocks m g, ?_⟩
  refine (θ_run Cert.ReferenceDwupIdeal.defs _ _).mono (fun r h c => ?_) (Cert.ReferenceDwupIdeal.Value.run (F := Ideal) m' g')
  obtain ⟨a0, _, a2⟩ := hagree c
  refine ⟨(h c).1.trans ?_, (h c).2⟩
  rw [Cert.ReferenceDwupIdeal.Read.val_main_v9_eq, Cert.KernelDwupIdeal.Ffn.final]
  refine funext fun i => ?_
  rw [Cert.ReferenceDwupIdeal.Read.val_main_v9_apply, Cert.ReferenceDwupIdeal.Read.val_main_v8_apply,
    Cert.ReferenceDwupIdeal.Read.val_main_v7_apply, Cert.ReferenceDwupIdeal.Read.val_main_v5_apply, Cert.ReferenceDwupIdeal.Read.val_main_v4_apply]
  unfold Cert.KernelDwupIdeal.Ffn.G Cert.KernelDwupIdeal.Ffn.aH Cert.KernelDwupIdeal.Ffn.aU
  rw [← a0, ← a2]
  refine Finset.sum_congr rfl fun j _ => ?_
  rw [Cert.ReferenceDwupIdeal.Read.val_main_v0_apply, Cert.ReferenceDwupIdeal.Read.val_main_v3_apply]
  refine (mul_comm (G := EReal) _ _).trans ?_
  have h0 : (i 0).val < 8 := (i 0).isLt
  have h1 : (i 1).val < 2048 := (i 1).isLt
  have h2 : (i 2).val < 1408 := (i 2).isLt
  refine congrArg₂ (fun x y : EReal => x * y) (congrArg (m' _) ?_) (congrArg (m' _) ?_)
  · refine (ValueIdx.eq_ix2 _).trans (congrArg (ix2 _) (Fin.ext ?_))
    show (((i 1).val * 8 + (i 0).val) * 1408 + (i 2).val) / 11264 = (i 1).val
    omega
  · refine (ValueIdx.eq_ix2 _).trans (congrArg (ix2 _) (Fin.ext ?_))
    show (((i 1).val * 8 + (i 0).val) * 1408 + (i 2).val) % 11264 = (1408 * (i 0).val + (i 2).val) % 11264
    omega

end Cert.FfnDwup

end
-- ==== Proof.Ffn.Up.Final.lean ====
/- The channel mixer's first product: the array the call leaves. Each point of the grid makes one block of one half,
   whole. -/
module

public import proofs.«01_k».proof.Proof.Gen.KernelUpIdeal.Value
public import proofs.«01_k».proof.Proof.Ffn.Blocks

@[expose] public section

set_option maxRecDepth 16384

noncomputable section

namespace Cert.KernelUpIdeal.Ffn

open Cert.KernelUpIdeal Cert.KernelUpIdeal.Gen Cert.Ffn Idealize.ShloMosaic Idealize.ShloMosaic.TcCoe Idealize.SL.Sem
open Idealize.ShloMosaic.Pipeline (Dat Window)
open Facts

/-- The product of a point's two blocks. -/
def part (a : S1024x2048.Idx → EReal) (w : S1x1x2048x1408.Idx → EReal) (r : Fin 1024) (s : Fin 1408) : EReal :=
  ∑ x : Fin 2048, a (ix2 r x) * w (ix4 0 0 x s)

theorem pay1_apply (a : S1024x2048.Idx → EReal) (w : S1x1x2048x1408.Idx → EReal) (r : Fin 1024) (s : Fin 1408) :
    k0_pay1 (F := Ideal) a w (ix3 0 r s) = part a w r s := by
  unfold k0_pay1 part
  pointwise []

theorem out (a : Vec Ideal S1024x2048 .bf16) (w : Vec Ideal S1x1x2048x1408 .bf16) (r : Fin 1024) (s : Fin 1408) :
    out0_2 (F := Ideal) a w (ix3 0 r s) = part a w r s := by
  unfold out0_2
  rw [View.canon_unit_zero (S := S1x1024x1408) zero3,
    View.ld_unit_zero (S := S1024x2048) zero2, View.ld_unit_zero (S := S1x1x2048x1408) zero4]
  exact pay1_apply _ _ _ _

/-! ## The array at the end -/

theorem at0 : ∀ t : Fin cfg0.N, win0_0.index t = ![t.val / 8, 0] := (by decide +kernel : ∀ t : Fin grid0.N, _)
theorem at1 : ∀ t : Fin cfg0.N, win0_1.index t = ![0, t.val % 8, 0, 0] := (by decide +kernel : ∀ t : Fin grid0.N, _)
theorem at2 : ∀ t : Fin cfg0.N, win0_2.index t = ![t.val % 8 / 4, t.val / 8, t.val % 4] := (by decide +kernel : ∀ t : Fin grid0.N, _)

theorem lt_N (t : Fin cfg0.N) : t.val < 64 := t.isLt

/-- The half, the row and the column of the result that a point's block holds at `r` and `s`. -/
def hf (n : ℕ) : Fin 2 := Fin.ofNat 2 (n % 8 / 4)
def rw_ (n : ℕ) (r : Fin 1024) : Fin 8192 := Fin.ofNat 8192 (1024 * (n / 8) + r.val)
def cl (n : ℕ) (s : Fin 1408) : Fin 5632 := Fin.ofNat 5632 (1408 * (n % 4) + s.val)

/-- The column of the weight that a half's column is. -/
def col (h : Fin 2) (d : Fin 5632) : Fin 11264 := Fin.ofNat 11264 (5632 * h.val + d.val)

/-- The weight as its eight blocks of columns. -/
def blocks (x : FVec Ideal S2048x11264 .bf16) : FVec Ideal S1x8x2048x1408 .bf16 :=
  broadcastInDim S1x8x2048x1408 ![1, 2, 3] bcast_S8x2048x1408_S1x8x2048x1408_1_2_3
    (transpose S8x2048x1408 [1, 0, 2] (shapeCast S2048x8x1408 x shapeCasts_S2048x11264_S2048x8x1408) transposes_S2048x8x1408_S8x2048x1408_1_0_2)

theorem blocks_apply (x : S2048x11264.Idx → EReal) (b : Fin 8) (k : Fin 2048) (d : Fin 1408) :
    blocks x (ix4 0 b k d) = x (ix2 k (Fin.ofNat 11264 (1408 * b.val + d.val))) := by
  unfold blocks
  pointwise []
  congr 2
  apply Fin.ext
  show b.val * 1408 + d.val = (1408 * b.val + d.val) % 11264
  omega

variable (m : (ℓ : Loc nD τ sig) → Buf (Elt Ideal) ℓ) (c : Dev nD)

/-- The normed input and the weight, as the call is launched with them. -/
abbrev aH : S8192x2048.Idx → EReal := m ((c : Thread nD τ).loc main_arg0)
abbrev aW : S2048x11264.Idx → EReal := m ((c : Thread nD τ).loc main_arg1)

theorem V_main_v2 : V m c main_v2 = blocks (aW m c) := by
  unfold_abbrev_sides
  after_results
  rfl

theorem iblk0_apply (t : Fin cfg0.N) (r : Fin 1024) (x : Fin 2048) :
    iblk m c 0 t (ix2 r x) = aH m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 8 * 1024 + 1 * r.val = (1024 * (t.val / 8) + r.val) % 8192; omega
    | ⟨1, _⟩ => show win0_0.index t 1 * 2048 + 1 * x.val = x.val; rw [at0]; show 0 * 2048 + 1 * x.val = _; omega
  unfold iblk
  rw [View.read_apply, e]
  show V m c main_arg0 _ = _
  rw [V_main_arg0]

theorem iblk1_apply (t : Fin cfg0.N) (x : Fin 2048) (s : Fin 1408) :
    iblk m c 1 t (ix4 (0 : Fin 1) (0 : Fin 1) x s) = aW m c (ix2 x (col (hf t.val) (cl t.val s))) := by
  have e : ((cfg0.win 1).blk t).view.emb (ix4 (0 : Fin 1) (0 : Fin 1) x s) = (ix4 0 (Fin.ofNat 8 (t.val % 8)) x s : S1x8x2048x1408.Idx) := by
    funext a
    apply Fin.ext
    match a with
    | ⟨0, _⟩ => show win0_1.index t 0 * 1 + 1 * 0 = 0; rw [at1]; rfl
    | ⟨1, _⟩ => show win0_1.index t 1 * 1 + 1 * 0 = t.val % 8 % 8; rw [at1]; show t.val % 8 * 1 + 1 * 0 = _; omega
    | ⟨2, _⟩ => show win0_1.index t 2 * 2048 + 1 * x.val = x.val; rw [at1]; show 0 * 2048 + 1 * x.val = _; omega
    | ⟨3, _⟩ => show win0_1.index t 3 * 1408 + 1 * s.val = s.val; rw [at1]; show 0 * 1408 + 1 * s.val = _; omega
  unfold iblk
  rw [View.read_apply, e]
  show V m c main_v2 _ = _
  rw [V_main_v2, blocks_apply]
  congr 2
  apply Fin.ext
  show (1408 * (t.val % 8 % 8) + s.val) % 11264 = (5632 * (t.val % 8 / 4 % 2) + (1408 * (t.val % 4) + s.val) % 5632) % 11264
  omega

/-- The result: every row of the input times every column of the weight, a half of the columns at a time. -/
def G : S2x8192x5632.Idx → EReal := fun i => ∑ j : Fin 2048, aH m c (ix2 (i 1) j) * aW m c (ix2 j (col (i 0) (i 2)))

theorem part_eq (t : Fin cfg0.N) (r : Fin 1024) (s : Fin 1408) :
    part (iblk m c 0 t) (iblk m c 1 t) r s = G m c (ix3 (hf t.val) (rw_ t.val r) (cl t.val s)) := by
  unfold part G
  exact Finset.sum_congr rfl fun x _ => by rw [iblk0_apply, iblk1_apply]; rfl

theorem emb2 (t : Fin cfg0.N) (r : Fin 1024) (s : Fin 1408) :
    ((cfg0.win 2).blk t).view.emb (ix3 (0 : Fin 1) r s) = (ix3 (hf t.val) (rw_ t.val r) (cl t.val s) : S2x8192x5632.Idx) := by
  have ht := lt_N t
  funext a
  apply Fin.ext
  match a with
  | ⟨0, _⟩ => show win0_2.index t 0 * 1 + 1 * 0 = _ % 2; rw [at2]; show t.val % 8 / 4 * 1 + 1 * 0 = t.val % 8 / 4 % 2; omega
  | ⟨1, _⟩ => show win0_2.index t 1 * 1024 + 1 * r.val = _ % 8192; rw [at2]; show t.val / 8 * 1024 + 1 * r.val = (1024 * (t.val / 8) + r.val) % 8192; omega
  | ⟨2, _⟩ => show win0_2.index t 2 * 1408 + 1 * s.val = _ % 5632; rw [at2]; show t.val % 4 * 1408 + 1 * s.val = (1408 * (t.val % 4) + s.val) % 5632; omega

theorem final : (dats m 0 c).arrAt 2 cfg0.N = G m c := by
  refine (dats m 0 c).arrAt_eq_of_cover 2 (G m c) (fun t hf => ?_) fun i => ?_
  · rw [Value.flushed2]
    refine funext fun (y : S1x1024x1408.Idx) => ?_
    obtain ⟨r, s, rfl⟩ : ∃ r s, y = ix3 (0 : Fin 1) r s :=
      ⟨y 1, y 2, (ValueIdx.eq_ix3 y).trans (congrArg (fun z : Fin 1 => ix3 z (y 1) (y 2)) (Subsingleton.elim _ _))⟩
    rw [View.read_apply, emb2]
    exact (out ..).trans (part_eq m c t r s)
  · obtain ⟨h, a, b, rfl⟩ : ∃ (h : Fin 2) (a : Fin 8192) (b : Fin 5632), i = (ix3 h a b : S2x8192x5632.Idx) := ⟨i 0, i 1, i 2, ValueIdx.eq_ix3 i⟩
    let t : Fin cfg0.N := ⟨8 * (a.val / 1024) + 4 * h.val + b.val / 1408, by show _ < 64; omega⟩
    refine ⟨t, flush0_2 t, ?_⟩
    have e := emb2 t ⟨a.val % 1024, by omega⟩ ⟨b.val % 1408, by omega⟩
    rw [show hf t.val = h from Fin.ext (by
        show (8 * (a.val / 1024) + 4 * h.val + b.val / 1408) % 8 / 4 % 2 = h.val; omega),
      show rw_ t.val ⟨a.val % 1024, by omega⟩ = a from Fin.ext (by
        show (1024 * ((8 * (a.val / 1024) + 4 * h.val + b.val / 1408) / 8) + a.val % 1024) % 8192 = a.val; omega),
      show cl t.val ⟨b.val % 1408, by omega⟩ = b from Fin.ext (by
        show (1408 * ((8 * (a.val / 1024) + 4 * h.val + b.val / 1408) % 4) + b.val % 1408) % 5632 = b.val; omega)] at e
    rw [← e]
    exact View.emb_mem_set _ _

end Cert.KernelUpIdeal.Ffn

end
-- ==== Proof.Ffn.Up.Claims.lean ====
/- The claims about the channel mixer's first product. -/
module

public import proofs.«01_k».proof.Defs
public import proofs.«01_k».proof.Proof.Gen.KernelUp.Frame
public import proofs.«01_k».proof.Proof.Gen.ReferenceUpIdeal.Read
public import proofs.«01_k».proof.Proof.Ffn.Up.Final

@[expose] public section

set_option maxRecDepth 16384

noncomputable section

namespace Cert.FfnUp

open Idealize.ShloMosaic Idealize.ShloMosaic.TcCoe Idealize.SL.Sem

theorem frame_k : Cert.quiescent_KernelUp := fun m ρ _ => Cert.KernelUp.Gen.frame m ρ
theorem frame_ki : Cert.quiescent_KernelUpIdeal := fun m ρ _ => Cert.KernelUpIdeal.Gen.frame m ρ
theorem frame_r : Cert.quiescent_ReferenceUpIdeal := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)
theorem preserves : Cert.preserves_KernelUp_KernelUpIdeal := trivial

/-- The call leaves the reference's product, its columns in two halves. -/
theorem algebraic : Cert.algebraic_KernelUpIdeal_ReferenceUpIdeal := by
  intro m g m' g' _ hagree
  refine ⟨_, Cert.KernelUpIdeal.Value.run_blocks m g, ?_⟩
  refine (θ_run Cert.ReferenceUpIdeal.defs _ _).mono (fun r h c => ?_) (Cert.ReferenceUpIdeal.Value.run (F := Ideal) m' g')
  obtain ⟨a0, a1⟩ := hagree c
  refine ⟨(h c).1.trans ?_, (h c).2⟩
  rw [Cert.ReferenceUpIdeal.Read.val_main_v4_eq, Cert.KernelUpIdeal.Ffn.final]
  refine funext fun i => ?_
  rw [Cert.ReferenceUpIdeal.Read.val_main_v4_apply, Cert.ReferenceUpIdeal.Read.val_main_v3_apply, Cert.ReferenceUpIdeal.Read.val_main_v2_apply]
  unfold Cert.KernelUpIdeal.Ffn.G Cert.KernelUpIdeal.Ffn.aH Cert.KernelUpIdeal.Ffn.aW
  rw [← a0, ← a1]
  refine Finset.sum_congr rfl fun j _ => ?_
  rw [Cert.ReferenceUpIdeal.Read.val_main_v0_apply, Cert.ReferenceUpIdeal.Read.val_main_v1_apply]
  have h0 : (i 0).val < 2 := (i 0).isLt
  have h1 : (i 1).val < 8192 := (i 1).isLt
  have h2 : (i 2).val < 5632 := (i 2).isLt
  refine congrArg₂ (fun x y : EReal => x * y) (congrArg (m' _) ?_) (congrArg (m' _) ?_)
  · refine (ValueIdx.eq_ix2 _).trans (congrArg (fun z => ix2 z j) (Fin.ext ?_))
    show (((i 1).val * 2 + (i 0).val) * 5632 + (i 2).val) / 11264 = (i 1).val
    omega
  · refine (ValueIdx.eq_ix2 _).trans (congrArg (ix2 j) (Fin.ext ?_))
    show (((i 1).val * 2 + (i 0).val) * 5632 + (i 2).val) % 11264 = (5632 * (i 0).val + (i 2).val) % 11264
    omega

end Cert.FfnUp

end
-- ==== Proof.Ffn.Down.Final.lean ====
/- The channel mixer's last product and the residual it is added to: the array the call leaves. Each point of the grid
   makes one block, whole. -/
module

public import proofs.«01_k».proof.Proof.Gen.KernelDownIdeal.Value
public import proofs.«01_k».proof.Proof.Ffn.Blocks

@[expose] public section

set_option maxRecDepth 16384

noncomputable section

namespace Cert.KernelDownIdeal.Ffn

open Cert.KernelDownIdeal Cert.KernelDownIdeal.Gen Cert.Ffn Idealize.ShloMosaic Idealize.ShloMosaic.TcCoe Idealize.SL.Sem
open Idealize.ShloMosaic.Pipeline (Dat Window)
open Facts

/-- The product of a point's two blocks, added to its block of the residual. -/
def part (a : S1024x5632.Idx → EReal) (w : S1x1x5632x512.Idx → EReal) (z : S1024x512.Idx → EReal) (r : Fin 1024) (s : Fin 512) : EReal :=
  z (ix2 r s) + ∑ x : Fin 5632, a (ix2 r x) * w (ix4 0 0 x s)

theorem pay1_apply (z : S1024x512.Idx → EReal) (a : S1024x5632.Idx → EReal) (w : S1x1x5632x512.Idx → EReal) (r : Fin 1024) (s : Fin 512) :
    k0_pay1 (F := Ideal) z a w (ix2 r s) = part a w z r s := by
  unfold k0_pay1 part
  pointwise []

theorem out (a : Vec Ideal S1024x5632 .bf16) (w : Vec Ideal S1x1x5632x512 .bf16) (z : Vec Ideal S1024x512 .f32) (r : Fin 1024) (s : Fin 512) :
    out0_3 (F := Ideal) a w z (ix2 r s) = part a w z r s := by
  unfold out0_3
  rw [View.canon_unit_zero (S := S1024x512) zero2, View.ld_unit_zero (S := S1024x512) zero2,
    View.ld_unit_zero (S := S1024x5632) zero2, View.ld_unit_zero (S := S1x1x5632x512) zero4]
  exact pay1_apply _ _ _ _ _

/-! ## The array at the end -/

theorem at0 : ∀ t : Fin cfg0.N, win0_0.index t = ![t.val / 4, 0] := (by decide +kernel : ∀ t : Fin grid0.N, _)
theorem at1 : ∀ t : Fin cfg0.N, win0_1.index t = ![0, 0, 0, t.val % 4] := (by decide +kernel : ∀ t : Fin grid0.N, _)
theorem at2 : ∀ t : Fin cfg0.N, win0_2.index t = ![t.val / 4, t.val % 4] := (by decide +kernel : ∀ t : Fin grid0.N, _)
theorem at3 : ∀ t : Fin cfg0.N, win0_3.index t = ![t.val / 4, t.val % 4] := (by decide +kernel : ∀ t : Fin grid0.N, _)

theorem lt_N (t : Fin cfg0.N) : t.val < 32 := t.isLt

/-- The row and the column of the result that a point's block holds at `r` and `s`. -/
def rw_ (n : ℕ) (r : Fin 1024) : Fin 8192 := Fin.ofNat 8192 (1024 * (n / 4) + r.val)
def cl (n : ℕ) (s : Fin 512) : Fin 2048 := Fin.ofNat 2048 (512 * (n % 4) + s.val)

variable (m : (ℓ : Loc nD τ sig) → Buf (Elt Ideal) ℓ) (c : Dev nD)

/-- The activation, the weight and the residual, as the call is launched with them. -/
abbrev aA : S8192x5632.Idx → EReal := m ((c : Thread nD τ).loc main_arg0)
abbrev aW : S5632x2048.Idx → EReal := m ((c : Thread nD τ).loc main_arg1)
abbrev aX : S8192x2048.Idx → EReal := m ((c : Thread nD τ).loc main_arg2)

theorem V_main_v0 : V m c main_v0 = shapeCast S1x1x5632x2048 (aW m c) shapeCasts_S5632x2048_S1x1x5632x2048 := by
  unfold_abbrev_sides
  after_results
  rfl

theorem lead_apply (x : S5632x2048.Idx → EReal) (k : Fin 5632) (d : Fin 2048) :
    shapeCast S1x1x5632x2048 x shapeCasts_S5632x2048_S1x1x5632x2048 (ix4 (0 : Fin 1) (0 : Fin 1) k d) = x (ix2 k d) := by
  pointwise

theorem iblk0_apply (t : Fin cfg0.N) (r : Fin 1024) (x : Fin 5632) :
    iblk m c 0 t (ix2 r x) = aA m c (ix2 (rw_ t.val r) x) := by
  have ht := lt_N t
  have e : ((cfg0.win 0).blk t).view.emb (ix2 r x) = (ix2 (rw_ t.val r) x : S8192x5632.Idx) := by
    funext a
    apply Fin.ext
    match a with
    | ⟨0, _⟩ => show win0_0.index t 0 * 1024 + 1 * r.val = _ % 8192; rw [at0]; show t.val / 4 * 1024 + 1 * r.val = (1024 * (t.val / 4) + r.val) % 8192; omega
    | ⟨1, _⟩ => show win0_0.index t 1 * 5632 + 1 * x.val = x.val; rw [at0]; show 0 * 5632 + 1 * x.val = _; omega
  unfold iblk
  rw [View.read_apply, e]
  show V m c main_arg0 _ = _
  rw [V_main_arg0]

theorem iblk1_apply (t : Fin cfg0.N) (x : Fin 5632) (s : Fin 512) :
    iblk m c 1 t (ix4 (0 : Fin 1) (0 : Fin 1) x s) = aW m c (ix2 x (cl t.val s)) := by
  have e : ((cfg0.win 1).blk t).view.emb (ix4 (0 : Fin 1) (0 : Fin 1) x s) = (ix4 0 0 x (cl t.val s) : S1x1x5632x2048.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 5632 + 1 * x.val = x.val; rw [at1]; show 0 * 5632 + 1 * x.val = _; omega
    | ⟨3, _⟩ => show win0_1.index t 3 * 512 + 1 * s.val = _ % 2048; rw [at1]; show t.val % 4 * 512 + 1 * s.val = (512 * (t.val % 4) + s.val) % 2048; omega
  unfold iblk
  rw [View.read_apply, e]
  show V m c main_v0 _ = _
  rw [V_main_v0, lead_apply]

theorem emb2 (t : Fin cfg0.N) (r : Fin 1024) (s : Fin 512) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 4 * 1024 + 1 * r.val = (1024 * (t.val / 4) + r.val) % 8192; omega
  | ⟨1, _⟩ => show win0_2.index t 1 * 512 + 1 * s.val = _ % 2048; rw [at2]; show t.val % 4 * 512 + 1 * s.val = (512 * (t.val % 4) + s.val) % 2048; omega
theorem emb3 (t : Fin cfg0.N) (r : Fin 1024) (s : Fin 512) :
    ((cfg0.win 3).blk t).view.emb (ix2 r s) = (ix2 (rw_ t.val r) (cl t.val s) : S8192x2048.Idx) := by
  have ht := lt_N t
  funext a
  apply Fin.ext
  match a with
  | ⟨0, _⟩ => show win0_3.index t 0 * 1024 + 1 * r.val = _ % 8192; rw [at3]; show t.val / 4 * 1024 + 1 * r.val = (1024 * (t.val / 4) + r.val) % 8192; omega
  | ⟨1, _⟩ => show win0_3.index t 1 * 512 + 1 * s.val = _ % 2048; rw [at3]; show t.val % 4 * 512 + 1 * s.val = (512 * (t.val % 4) + s.val) % 2048; omega

theorem iblk2_apply (t : Fin cfg0.N) (r : Fin 1024) (s : Fin 512) :
    iblk m c 2 t (ix2 r s) = aX m c (ix2 (rw_ t.val r) (cl t.val s)) := by
  unfold iblk
  rw [View.read_apply, emb2]
  show V m c main_arg2 _ = _
  rw [V_main_arg2]

/-- The result: the residual, and every row of the activation times every column of the weight. -/
def G : S8192x2048.Idx → EReal := fun i => aX m c i + ∑ j : Fin 5632, aA m c (ix2 (i 0) j) * aW m c (ix2 j (i 1))

theorem part_eq (t : Fin cfg0.N) (r : Fin 1024) (s : Fin 512) :
    part (iblk m c 0 t) (iblk m c 1 t) (iblk m c 2 t) r s = G m c (ix2 (rw_ t.val r) (cl t.val s)) := by
  unfold part G
  rw [iblk2_apply]
  exact congrArg (fun z : EReal => _ + z) (Finset.sum_congr rfl fun x _ => by rw [iblk0_apply, iblk1_apply]; rfl)

theorem final : (dats m 0 c).arrAt 3 cfg0.N = G m c := by
  refine (dats m 0 c).arrAt_eq_of_cover 3 (G m c) (fun t hf => ?_) fun i => ?_
  · rw [Value.flushed3]
    refine funext fun (y : S1024x512.Idx) => ?_
    obtain ⟨r, s, rfl⟩ : ∃ r s, y = ix2 r s := ⟨y 0, y 1, ValueIdx.eq_ix2 y⟩
    rw [View.read_apply, emb3]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨4 * (a.val / 1024) + b.val / 512, by show _ < 32; omega⟩
    refine ⟨t, flush0_3 t, ?_⟩
    have e := emb3 t ⟨a.val % 1024, by omega⟩ ⟨b.val % 512, by omega⟩
    rw [show rw_ t.val ⟨a.val % 1024, by omega⟩ = a from Fin.ext (by
        show (1024 * ((4 * (a.val / 1024) + b.val / 512) / 4) + a.val % 1024) % 8192 = a.val; omega),
      show cl t.val ⟨b.val % 512, by omega⟩ = b from Fin.ext (by
        show (512 * ((4 * (a.val / 1024) + b.val / 512) % 4) + b.val % 512) % 2048 = b.val; omega)] at e
    rw [← e]
    exact View.emb_mem_set _ _

end Cert.KernelDownIdeal.Ffn

end
-- ==== Proof.Ffn.Down.Claims.lean ====
/- The claims about the channel mixer's last product. -/
module

public import proofs.«01_k».proof.Defs
public import proofs.«01_k».proof.Proof.Gen.KernelDown.Frame
public import proofs.«01_k».proof.Proof.Gen.ReferenceDownIdeal.Read
public import proofs.«01_k».proof.Proof.Ffn.Down.Final

@[expose] public section

set_option maxRecDepth 16384

noncomputable section

namespace Cert.FfnDown

open Idealize.ShloMosaic Idealize.ShloMosaic.TcCoe Idealize.SL.Sem

theorem frame_k : Cert.quiescent_KernelDown := fun m ρ _ => Cert.KernelDown.Gen.frame m ρ
theorem frame_ki : Cert.quiescent_KernelDownIdeal := fun m ρ _ => Cert.KernelDownIdeal.Gen.frame m ρ
theorem frame_r : Cert.quiescent_ReferenceDownIdeal := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)
theorem preserves : Cert.preserves_KernelDown_KernelDownIdeal := trivial

/-- The call leaves the reference's residual and product. -/
theorem algebraic : Cert.algebraic_KernelDownIdeal_ReferenceDownIdeal := by
  intro m g m' g' _ hagree
  refine ⟨_, Cert.KernelDownIdeal.Value.run_blocks m g, ?_⟩
  refine (θ_run Cert.ReferenceDownIdeal.defs _ _).mono (fun r h c => ?_) (Cert.ReferenceDownIdeal.Value.run (F := Ideal) m' g')
  obtain ⟨a0, a1, a2⟩ := hagree c
  refine ⟨(h c).1.trans ?_, (h c).2⟩
  rw [Cert.ReferenceDownIdeal.Read.val_main_v3_eq, Cert.KernelDownIdeal.Ffn.final]
  refine funext fun i => ?_
  rw [Cert.ReferenceDownIdeal.Read.val_main_v3_apply, Cert.ReferenceDownIdeal.Read.val_main_v2_apply]
  unfold Cert.KernelDownIdeal.Ffn.G Cert.KernelDownIdeal.Ffn.aA Cert.KernelDownIdeal.Ffn.aW Cert.KernelDownIdeal.Ffn.aX
  rw [← a0, ← a1, ← a2]
  refine congrArg (fun z : EReal => _ + z) (Finset.sum_congr rfl fun j _ => ?_)
  rw [Cert.ReferenceDownIdeal.Read.val_main_v0_apply, Cert.ReferenceDownIdeal.Read.val_main_v1_apply]
  exact congrArg₂ (fun x y : EReal => x * y) (congrArg (m' _) (ValueIdx.eq_ix2 _)) (congrArg (m' _) (ValueIdx.eq_ix2 _))

end Cert.FfnDown

end
-- ==== Proof.Ffn.Norm.Point.lean ====
/- The gradient through the channel mixer's norm: what one grid point leaves in its two output blocks. -/
module

public import proofs.«01_k».proof.Proof.Gen.KernelNormIdeal.Frame
public import proofs.«01_k».proof.Proof.Ffn.Blocks

@[expose] public section

set_option maxRecDepth 16384

noncomputable section

namespace Cert.KernelNormIdeal.Ffn

open Cert.KernelNormIdeal Cert.KernelNormIdeal.Gen Cert.Ffn Idealize.ShloMosaic Idealize.ShloMosaic.TcCoe Idealize.SL.Sem

/-- The width of a row, as the word the program divides by. -/
def widthV : EReal := Ideal.ofBits .f32 0x45000000#32

/-- The gradient of a row's entry `s` from a cotangent row, an input row, its scale, the gain and the residual's cotangent. -/
def rowGrad (d x : Fin 2048 → EReal) (r : EReal) (g : Fin 2048 → EReal) (z : EReal) (s : Fin 2048) : EReal :=
  r * (d s * g s - x s * r * Ideal.div (∑ k : Fin 2048, d k * g k * (x k * r)) widthV) + z

theorem pay3_apply (d : S512x2048.Idx → EReal) (r : S512x1.Idx → EReal) (x : S512x2048.Idx → EReal) (g : S1x2048.Idx → EReal) (z : S512x2048.Idx → EReal)
    (p : Fin 512) (s : Fin 2048) :
    k0_pay3 (F := Ideal) d r x g z (ix2 p s)
      = rowGrad (fun k => d (ix2 p k)) (fun k => x (ix2 p k)) (r (ix2 p (0 : Fin 1))) (fun k => g (ix2 (0 : Fin 1) k)) (z (ix2 p s)) s := by
  unfold k0_pay3 k0_pay2 k0_pay1 rowGrad widthV
  pointwise []

theorem pay4_apply (d : S512x2048.Idx → EReal) (r : S512x1.Idx → EReal) (x : S512x2048.Idx → EReal) (s : Fin 2048) :
    k0_pay4 (F := Ideal) d r x (ix2 (0 : Fin 1) s) = ∑ p : Fin 512, d (ix2 p s) * (x (ix2 p s) * r (ix2 p (0 : Fin 1))) := by
  unfold k0_pay4 k0_pay2 k0_pay1
  pointwise []

theorem pay5_apply (d : S512x2048.Idx → EReal) (r : S512x1.Idx → EReal) (x : S512x2048.Idx → EReal) (z : S1x2048.Idx → EReal) (s : Fin 2048) :
    k0_pay5 (F := Ideal) d r x z (ix2 (0 : Fin 1) s) = z (ix2 (0 : Fin 1) s) + ∑ p : Fin 512, d (ix2 p s) * (x (ix2 p s) * r (ix2 p (0 : Fin 1))) := by
  unfold k0_pay5
  rw [← pay4_apply]
  pointwise []

/-- A store through a whole block reads back as its payload. -/
theorem read_rows {κ : Kind} {sp : Space} (V : View sig κ sp S512x2048 .f32) (f) (w : S512x2048.Idx → EReal) (L) (y) :
    V.read (Elt Ideal) (V.writes (Elt Ideal) f (⟨Rect.unit (s := S512x2048) ![0, 0] S512x2048.size inb_S512x2048_S512x2048_0_0, w⟩ :: L)) y = w y :=
  View.read_writes_cons_unit_of_mem V f inb_S512x2048_S512x2048_0_0 w L y y rfl (by intro a; fin_cases a <;> simp)
theorem read_gain {κ : Kind} {sp : Space} (V : View sig κ sp S1x2048 .f32) (f) (w : S1x2048.Idx → EReal) (L) (y) :
    V.read (Elt Ideal) (V.writes (Elt Ideal) f (⟨Rect.unit (s := S1x2048) ![0, 0] S1x2048.size inb_S1x2048_S1x2048_0_0, w⟩ :: L)) y = w y :=
  View.read_writes_cons_unit_of_mem V f inb_S1x2048_S1x2048_0_0 w L y y rfl (by intro a; fin_cases a <;> simp)

/-- A point's gradient of its rows, and what its rows add to the gradient of the gain. -/
def rows (x0 x1 : S512x2048.Idx → EReal) (x2 : S512x1.Idx → EReal) (x3 : S1x2048.Idx → EReal) (x4 : S512x2048.Idx → EReal) (p : Fin 512) (s : Fin 2048) : EReal :=
  rowGrad (fun k => x0 (ix2 p k)) (fun k => x1 (ix2 p k)) (x2 (ix2 p (0 : Fin 1))) (fun k => x3 (ix2 (0 : Fin 1) k)) (x4 (ix2 p s)) s
def gain (x0 x1 : S512x2048.Idx → EReal) (x2 : S512x1.Idx → EReal) (s : Fin 2048) : EReal :=
  ∑ p : Fin 512, x0 (ix2 p s) * (x1 (ix2 p s) * x2 (ix2 p (0 : Fin 1)))

section
variable (c : Dev nD) (i : grid0.Coords) (arg1 : Memref sig .tc .vmem S512x2048 .f32) (harg1 : arg1.IsWhole) (arg2 : Memref sig .tc .vmem S512x2048 .f32) (harg2 : arg2.IsWhole)
  (arg3 : Memref sig .tc .vmem S512x1 .f32) (harg3 : arg3.IsWhole) (arg4 : Memref sig .tc .vmem S1x2048 .f32) (harg4 : arg4.IsWhole)
  (arg5 : Memref sig .tc .vmem S512x2048 .f32) (harg5 : arg5.IsWhole) (arg6 : Memref sig .tc .vmem S512x2048 .f32) (harg6 : arg6.IsWhole) (arg7 : Memref sig .tc .vmem S1x2048 .f32) (harg7 : arg7.IsWhole)
  (x0 x1 : Vec Ideal S512x2048 .f32) (x2 : Vec Ideal S512x1 .f32) (x3 : Vec Ideal S1x2048 .f32) (x4 : Vec Ideal S512x2048 .f32) (xo6 : Vec Ideal S1x2048 .f32) (p : Fin 512) (s : Fin 2048)

theorem rows_first (h0 h1) :
    out0_A_5 (F := Ideal) c i arg1 harg1 arg2 harg2 arg3 harg3 arg4 harg4 arg5 harg5 arg6 harg6 arg7 harg7 h0 h1 x0 x1 x2 x3 x4 (ix2 p s)
      = rows x0 x1 x2 x3 x4 p s := by
  unfold out0_A_5 kernelRun0_A
  dsimp only
  refine (read_rows _ _ _ _ _).trans ?_
  simp only [View.readAt_eq_ld, harg1.read_unread, harg2.read_unread, harg3.read_unread, harg4.read_unread, harg5.read_unread, harg7.read_unread]
  rw [View.ld_unit_zero (S := S512x2048) zero2, View.ld_unit_zero (S := S512x1) zero2, View.ld_unit_zero (S := S512x2048) zero2, View.ld_unit_zero (S := S1x2048) zero2, View.ld_unit_zero (S := S512x2048) zero2]
  exact pay3_apply _ _ _ _ _ _ _

theorem rows_next (h0 h1) :
    out0_B_5 (F := Ideal) c i arg1 harg1 arg2 harg2 arg3 harg3 arg4 harg4 arg5 harg5 arg6 harg6 arg7 harg7 h0 h1 x0 x1 x2 x3 x4 xo6 (ix2 p s)
      = rows x0 x1 x2 x3 x4 p s := by
  unfold out0_B_5 kernelRun0_B
  dsimp only
  refine (read_rows _ _ _ _ _).trans ?_
  simp only [View.readAt_eq_ld, harg1.read_unread, harg2.read_unread, harg3.read_unread, harg4.read_unread, harg5.read_unread, harg7.read_unread]
  rw [View.ld_unit_zero (S := S512x2048) zero2, View.ld_unit_zero (S := S512x1) zero2, View.ld_unit_zero (S := S512x2048) zero2, View.ld_unit_zero (S := S1x2048) zero2, View.ld_unit_zero (S := S512x2048) zero2]
  exact pay3_apply _ _ _ _ _ _ _

theorem gain_first (h0 h1) :
    out0_A_6 (F := Ideal) c i arg1 harg1 arg2 harg2 arg3 harg3 arg4 harg4 arg5 harg5 arg6 harg6 arg7 harg7 h0 h1 x0 x1 x2 x3 x4 (ix2 (0 : Fin 1) s)
      = gain x0 x1 x2 s := by
  unfold out0_A_6 kernelRun0_A
  dsimp only
  refine (read_gain _ _ _ _ _).trans ?_
  simp only [View.readAt_eq_ld, harg1.read_unread, harg2.read_unread, harg3.read_unread, harg4.read_unread, harg5.read_unread, harg7.read_unread]
  rw [View.ld_unit_zero (S := S512x2048) zero2, View.ld_unit_zero (S := S512x1) zero2, View.ld_unit_zero (S := S512x2048) zero2]
  exact pay4_apply _ _ _ _

theorem gain_next (h0 h1) :
    out0_B_6 (F := Ideal) c i arg1 harg1 arg2 harg2 arg3 harg3 arg4 harg4 arg5 harg5 arg6 harg6 arg7 harg7 h0 h1 x0 x1 x2 x3 x4 xo6 (ix2 (0 : Fin 1) s)
      = xo6 (ix2 (0 : Fin 1) s) + gain x0 x1 x2 s := by
  unfold out0_B_6 kernelRun0_B
  dsimp only
  refine (read_gain _ _ _ _ _).trans ?_
  simp only [View.readAt_eq_ld, harg1.read_unread, harg2.read_unread, harg3.read_unread, harg4.read_unread, harg5.read_unread, harg7.read_unread]
  rw [View.ld_unit_zero (S := S512x2048) zero2, View.ld_unit_zero (S := S512x1) zero2, View.ld_unit_zero (S := S512x2048) zero2, View.ld_unit_zero (S := S1x2048) zero2]
  exact pay5_apply _ _ _ _ _

end

end Cert.KernelNormIdeal.Ffn

end
-- ==== Proof.Ffn.Norm.Final.lean ====
/- The gradient through the channel mixer's norm: the two arrays the call leaves. -/
module

public import proofs.«01_k».proof.Proof.Gen.KernelNormIdeal.Value
public import proofs.«01_k».proof.Proof.Ffn.Norm.Point

@[expose] public section

set_option maxRecDepth 16384

noncomputable section

namespace Cert.KernelNormIdeal.Ffn

open Cert.KernelNormIdeal Cert.KernelNormIdeal.Gen Cert.Ffn Idealize.ShloMosaic Idealize.ShloMosaic.TcCoe Idealize.SL.Sem
open Idealize.ShloMosaic.Pipeline (Dat Window)
open Finset (range)
open Facts

/-! Where a point's blocks lie: point `t` holds rows block `t`. -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![0, 0] := (by decide +kernel : ∀ t : Fin grid0.N, _)

theorem lt_N (t : Fin cfg0.N) : t.val < 16 := t.isLt

/-- The row of the arrays that a point's blocks hold at `p`. -/
def rw_ (n : ℕ) (p : Fin 512) : Fin 8192 := Fin.ofNat 8192 (512 * n + p.val)

variable (m : (ℓ : Loc nD τ sig) → Buf (Elt Ideal) ℓ) (c : Dev nD)

/-- The cotangent, the input, the gain and the residual's cotangent, as the call is launched with them. -/
abbrev aD : S8192x2048.Idx → EReal := m ((c : Thread nD τ).loc main_arg0)
abbrev aX : S8192x2048.Idx → EReal := m ((c : Thread nD τ).loc main_arg1)
abbrev aG : S2048.Idx → EReal := m ((c : Thread nD τ).loc main_arg2)
abbrev aZ : S8192x2048.Idx → EReal := m ((c : Thread nD τ).loc main_arg3)

/-! ## The host lines -/

/-- What is added to a row's mean square, as the word the program adds. -/
def epsV : EReal := Ideal.ofBits .f32 0x358637BD#32

/-- A row's scale: the reciprocal root of its mean square. -/
def scale (x : Fin 2048 → EReal) : EReal :=
  Ideal.rsqrt (Ideal.div (∑ k : Fin 2048, x k * x k) widthV + epsV)

/-- The rows' scales, as the host lines make them. -/
def scales (x : FVec Ideal S8192x2048 .f32) : FVec Ideal S8192x1 .f32 :=
  Host.rsqrt (addf (Host.divf (broadcastInDim S8192x1 ![0] bcast_S8192_S8192x1_0
      (Host.reduceAdd (mulf x x) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

theorem scales_apply (x : S8192x2048.Idx → EReal) (i : Fin 8192) :
    scales x (ix2 i (0 : Fin 1)) = scale fun k => x (ix2 i k) := by
  unfold scales scale widthV epsV
  pointwise []

theorem V_main_v7 : V m c main_v7 = scales (aX m c) := by
  unfold_abbrev_sides
  after_results
  rfl

theorem V_main_v8 : V m c main_v8 = broadcastInDim S1x2048 ![1] bcast_S2048_S1x2048_1 (aG m c) := by
  unfold_abbrev_sides
  after_results

theorem gain_apply (g : S2048.Idx → EReal) (k : Fin 2048) :
    broadcastInDim S1x2048 ![1] bcast_S2048_S1x2048_1 g (ix2 (0 : Fin 1) k) = g (ix1 k) := by
  pointwise

/-! ## A point's blocks -/

theorem iblk0_apply (t : Fin cfg0.N) (p : Fin 512) (k : Fin 2048) :
    iblk m c 0 t (ix2 p k) = aD m c (ix2 (rw_ t.val p) k) := by
  have ht := lt_N t
  have e : ((cfg0.win 0).blk t).view.emb (ix2 p k) = (ix2 (rw_ t.val p) k : S8192x2048.Idx) := by
    funext a
    apply Fin.ext
    match a with
    | ⟨0, _⟩ => show win0_0.index t 0 * 512 + 1 * p.val = _ % 8192; rw [at0]; show t.val * 512 + 1 * p.val = (512 * t.val + p.val) % 8192; omega
    | ⟨1, _⟩ => show win0_0.index t 1 * 2048 + 1 * k.val = k.val; rw [at0]; show 0 * 2048 + 1 * k.val = _; omega
  unfold iblk
  rw [View.read_apply, e]
  show V m c main_arg0 _ = _
  rw [V_main_arg0]

theorem iblk1_apply (t : Fin cfg0.N) (p : Fin 512) (k : Fin 2048) :
    iblk m c 1 t (ix2 p k) = aX m c (ix2 (rw_ t.val p) k) := by
  have ht := lt_N t
  have e : ((cfg0.win 1).blk t).view.emb (ix2 p k) = (ix2 (rw_ t.val p) k : S8192x2048.Idx) := by
    funext a
    apply Fin.ext
    match a with
    | ⟨0, _⟩ => show win0_1.index t 0 * 512 + 1 * p.val = _ % 8192; rw [at1]; show t.val * 512 + 1 * p.val = (512 * t.val + p.val) % 8192; omega
    | ⟨1, _⟩ => show win0_1.index t 1 * 2048 + 1 * k.val = k.val; rw [at1]; show 0 * 2048 + 1 * k.val = _; omega
  unfold iblk
  rw [View.read_apply, e]
  show V m c main_arg1 _ = _
  rw [V_main_arg1]

theorem iblk2_apply (t : Fin cfg0.N) (p : Fin 512) :
    iblk m c 2 t (ix2 p (0 : Fin 1)) = scale fun k => aX m c (ix2 (rw_ t.val p) k) := by
  have ht := lt_N t
  have e : ((cfg0.win 2).blk t).view.emb (ix2 p (0 : Fin 1)) = (ix2 (rw_ t.val p) 0 : S8192x1.Idx) := by
    funext a
    apply Fin.ext
    match a with
    | ⟨0, _⟩ => show win0_2.index t 0 * 512 + 1 * p.val = _ % 8192; rw [at2]; show t.val * 512 + 1 * p.val = (512 * t.val + p.val) % 8192; omega
    | ⟨1, _⟩ => show win0_2.index t 1 * 1 + 1 * 0 = 0; rw [at2]; rfl
  unfold iblk
  rw [View.read_apply, e]
  show V m c main_v7 _ = _
  rw [V_main_v7, scales_apply]

theorem iblk3_apply (t : Fin cfg0.N) (k : Fin 2048) :
    iblk m c 3 t (ix2 (0 : Fin 1) k) = aG m c (ix1 k) := by
  have e : ((cfg0.win 3).blk t).view.emb (ix2 (0 : Fin 1) k) = (ix2 0 k : S1x2048.Idx) := by
    funext a
    apply Fin.ext
    match a with
    | ⟨0, _⟩ => show win0_3.index t 0 * 1 + 1 * 0 = 0; rw [at3]; rfl
    | ⟨1, _⟩ => show win0_3.index t 1 * 2048 + 1 * k.val = k.val; rw [at3]; show 0 * 2048 + 1 * k.val = _; omega
  unfold iblk
  rw [View.read_apply, e]
  show V m c main_v8 _ = _
  rw [V_main_v8, gain_apply]

theorem iblk4_apply (t : Fin cfg0.N) (p : Fin 512) (k : Fin 2048) :
    iblk m c 4 t (ix2 p k) = aZ m c (ix2 (rw_ t.val p) k) := by
  have ht := lt_N t
  have e : ((cfg0.win 4).blk t).view.emb (ix2 p k) = (ix2 (rw_ t.val p) k : S8192x2048.Idx) := by
    funext a
    apply Fin.ext
    match a with
    | ⟨0, _⟩ => show win0_4.index t 0 * 512 + 1 * p.val = _ % 8192; rw [at4]; show t.val * 512 + 1 * p.val = (512 * t.val + p.val) % 8192; omega
    | ⟨1, _⟩ => show win0_4.index t 1 * 2048 + 1 * k.val = k.val; rw [at4]; show 0 * 2048 + 1 * k.val = _; omega
  unfold iblk
  rw [View.read_apply, e]
  show V m c main_arg3 _ = _
  rw [V_main_arg3]

/-! ## The gradient of the rows -/

/-- The gradient of the input, with the residual's cotangent. -/
def GX : S8192x2048.Idx → EReal := fun i =>
  rowGrad (fun k => aD m c (ix2 (i 0) k)) (fun k => aX m c (ix2 (i 0) k)) (scale fun k => aX m c (ix2 (i 0) k)) (fun k => aG m c (ix1 k)) (aZ m c i) (i 1)

theorem rows_eq (t : Fin cfg0.N) (p : Fin 512) (s : Fin 2048) :
    rows (iblk m c 0 t) (iblk m c 1 t) (iblk m c 2 t) (iblk m c 3 t) (iblk m c 4 t) p s = GX m c (ix2 (rw_ t.val p) s) := by
  unfold rows GX
  simp only [iblk0_apply, iblk1_apply, iblk2_apply, iblk3_apply, iblk4_apply]
  rfl

theorem out5_eq (t : Fin cfg0.N) (p : Fin 512) (s : Fin 2048) :
    (outsAt0 m c t.val t.isLt).1 (ix2 p s) = GX m c (ix2 (rw_ t.val p) s) := by
  have ht := lt_N t
  by_cases h0 : t.val % 16 = 0
  · rw [outsAt0_A m c t h0 (by omega)]
    dsimp only
    rw [rows_first, rows_eq]
  · rw [outsAt0_B m c t h0 (by omega)]
    dsimp only
    rw [rows_next, rows_eq]

theorem emb5 (t : Fin cfg0.N) (p : Fin 512) (k : Fin 2048) :
    ((cfg0.win 5).blk t).view.emb (ix2 p k) = (ix2 (rw_ t.val p) k : S8192x2048.Idx) := by
  have ht := lt_N t
  funext a
  apply Fin.ext
  match a with
  | ⟨0, _⟩ => show win0_5.index t 0 * 512 + 1 * p.val = _ % 8192; rw [at5]; show t.val * 512 + 1 * p.val = (512 * t.val + p.val) % 8192; omega
  | ⟨1, _⟩ => show win0_5.index t 1 * 2048 + 1 * k.val = k.val; rw [at5]; show 0 * 2048 + 1 * k.val = _; omega

theorem final5 : (dats m 0 c).arrAt 5 cfg0.N = GX m c := by
  refine (dats m 0 c).arrAt_eq_of_cover 5 (GX m c) (fun t hf => ?_) fun i => ?_
  · rw [Value.flushed5]
    refine funext fun (y : S512x2048.Idx) => ?_
    obtain ⟨r, s, rfl⟩ : ∃ r s, y = ix2 r s := ⟨y 0, y 1, ValueIdx.eq_ix2 y⟩
    rw [View.read_apply, emb5]
    exact out5_eq m c t r s
  · obtain ⟨a, b, rfl⟩ : ∃ (a : Fin 8192) (b : Fin 2048), i = (ix2 a b : S8192x2048.Idx) := ⟨i 0, i 1, ValueIdx.eq_ix2 i⟩
    let t : Fin cfg0.N := ⟨a.val / 512, by show _ < 16; omega⟩
    refine ⟨t, flush0_5 t, ?_⟩
    have e := emb5 t ⟨a.val % 512, by omega⟩ b
    rw [show rw_ t.val ⟨a.val % 512, by omega⟩ = a from Fin.ext (by
        show (512 * (a.val / 512) + a.val % 512) % 8192 = a.val; omega)] at e
    rw [← e]
    exact View.emb_mem_set _ _

/-! ## The gradient of the gain -/

/-- What row `j` adds to the gradient of the gain. -/
def rowGain (s : Fin 2048) (j : Fin 8192) : EReal :=
  aD m c (ix2 j s) * (aX m c (ix2 j s) * scale fun k => aX m c (ix2 j k))

/-- What block `n` of the rows adds. -/
def term (n : ℕ) (y : S1x2048.Idx) : EReal := ∑ p : Fin 512, rowGain m c (y 1) (Fin.ofNat 8192 (512 * n + p.val))

theorem gain_eq (t : Fin cfg0.N) (s : Fin 2048) :
    gain (iblk m c 0 t) (iblk m c 1 t) (iblk m c 2 t) s = term m c t.val (ix2 0 s) := by
  unfold gain term rowGain
  exact Finset.sum_congr rfl fun p _ => by rw [iblk0_apply, iblk1_apply, iblk2_apply]; rfl

theorem acc_first (t : Fin cfg0.N) (h0 : t.val % 16 = 0) (s : Fin 2048) :
    (outsAt0 m c t.val t.isLt).2 (ix2 (0 : Fin 1) s) = term m c t.val (ix2 0 s) := by
  have ht := lt_N t
  rw [outsAt0_A m c t h0 (by omega)]
  dsimp only
  rw [gain_first, gain_eq]

theorem acc_next (t : Fin cfg0.N) (h0 : ¬t.val % 16 = 0) (s : Fin 2048) :
    (outsAt0 m c t.val t.isLt).2 (ix2 (0 : Fin 1) s)
      = (outsAt0 m c (t.val - 1) (Nat.lt_of_le_of_lt (Nat.sub_le _ 1) t.isLt)).2 (ix2 (0 : Fin 1) s) + term m c t.val (ix2 0 s) := by
  have ht := lt_N t
  rw [outsAt0_B m c t h0 (by omega)]
  dsimp only
  rw [gain_next, gain_eq]

/-- The block of the gain's gradient after a point holds the blocks of rows added so far. -/
theorem acc (n : ℕ) (h : n < cfg0.N) (y : S1x2048.Idx) :
    (outsAt0 m c n h).2 y = ∑ k ∈ range (n % 16 + 1), term m c k y := by
  refine acc_eq 16 cfg0.N (by norm_num) (fun n h => (outsAt0 m c n h).2) (fun _ => term m c) (fun n h y h0 => ?_) (fun n h y h0 => ?_) n h y
  · obtain ⟨s, rfl⟩ : ∃ s, y = ix2 (0 : Fin 1) s :=
      ⟨y 1, (ValueIdx.eq_ix2 y).trans (congrArg (fun z : Fin 1 => ix2 z (y 1)) (Subsingleton.elim _ _))⟩
    have hn : n < 16 := h
    obtain rfl : n = 0 := by omega
    exact acc_first m c ⟨0, h⟩ h0 s
  · obtain ⟨s, rfl⟩ : ∃ s, y = ix2 (0 : Fin 1) s :=
      ⟨y 1, (ValueIdx.eq_ix2 y).trans (congrArg (fun z : Fin 1 => ix2 z (y 1)) (Subsingleton.elim _ _))⟩
    have hn : n < 16 := h
    rw [Nat.mod_eq_of_lt hn]
    exact acc_next m c ⟨n, h⟩ h0 s

/-- The gradient of the gain: the sum over all rows. -/
def GG : S1x2048.Idx → EReal := fun i => ∑ j : Fin 8192, rowGain m c (i 1) j

theorem emb6 (t : Fin cfg0.N) (k : Fin 2048) :
    ((cfg0.win 6).blk t).view.emb (ix2 (0 : Fin 1) k) = (ix2 0 k : S1x2048.Idx) := by
  funext a
  apply Fin.ext
  match a with
  | ⟨0, _⟩ => show win0_6.index t 0 * 1 + 1 * 0 = 0; rw [at6]; rfl
  | ⟨1, _⟩ => show win0_6.index t 1 * 2048 + 1 * k.val = k.val; rw [at6]; show 0 * 2048 + 1 * k.val = _; omega

theorem out6_eq (t : Fin cfg0.N) (h : t.val % 16 = 15) (s : Fin 2048) :
    (outsAt0 m c t.val t.isLt).2 (ix2 (0 : Fin 1) s) = GG m c (ix2 0 s) := by
  rw [acc, h]
  exact sum_axis 512 16 rfl (rowGain m c s)

theorem final6 : (dats m 0 c).arrAt 6 cfg0.N = GG m c := by
  refine (dats m 0 c).arrAt_eq_of_cover 6 (GG m c) (fun t hf => ?_) fun i => ?_
  · rw [Value.flushed6]
    refine funext fun (y : S1x2048.Idx) => ?_
    obtain ⟨s, rfl⟩ : ∃ s, y = ix2 (0 : Fin 1) s :=
      ⟨y 1, (ValueIdx.eq_ix2 y).trans (congrArg (fun z : Fin 1 => ix2 z (y 1)) (Subsingleton.elim _ _))⟩
    rw [View.read_apply, emb6]
    exact out6_eq m c t ((flush0_6 t).mp hf) s
  · obtain ⟨b, rfl⟩ : ∃ (b : Fin 2048), i = (ix2 (0 : Fin 1) b : S1x2048.Idx) :=
      ⟨i 1, (ValueIdx.eq_ix2 i).trans (congrArg (fun z : Fin 1 => ix2 z (i 1)) (Subsingleton.elim _ _))⟩
    let t : Fin cfg0.N := ⟨15, by show _ < 16; omega⟩
    refine ⟨t, (flush0_6 t).mpr rfl, ?_⟩
    rw [← emb6 t b]
    exact View.emb_mem_set _ _

end Cert.KernelNormIdeal.Ffn

end
-- ==== Proof.Ffn.Norm.Math.lean ====
/- The gradient through a norm, on the extended reals: two ways of writing it agree. -/
module

public import Mathlib.Tactic.Ring
public import Mathlib.Tactic.FieldSimp
public import proofs.«01_k».proof.Proof.Ffn.Norm.Final

@[expose] public section

noncomputable section

namespace Cert.FfnNorm

open Idealize.ShloMosaic Cert.KernelNormIdeal.Ffn

theorem width_word : widthV = ((2048 : ℝ) : EReal) := by
  unfold widthV
  simp [Ideal.ofBits, Ideal.ieee, -EReal.coe_mul]
  norm_num

/-- The word of minus one half. -/
def halfV : EReal := Ideal.ofBits .f32 0xBF000000#32

theorem half_word : halfV = ((-(1 / 2) : ℝ) : EReal) := by
  unfold halfV
  simp [Ideal.ofBits, Ideal.ieee, -EReal.coe_mul]
  norm_num

theorem eps_word : ∃ e : ℝ, 0 < e ∧ epsV = e := by
  refine ⟨_, ?_, (by unfold epsV; simp [Ideal.ofBits, Ideal.ieee, -EReal.coe_mul]; rfl)⟩
  norm_num

/-- A square is not negative. -/
theorem sq_nonneg' (x : EReal) : 0 ≤ x * x := by
  induction x with
  | bot => simp
  | top => simp
  | coe r => exact_mod_cast mul_self_nonneg r

/-- The mean square with what is added to it: infinite, or a positive real. -/
theorem square_cases (x : Fin 2048 → EReal) :
    Ideal.div (∑ k, x k * x k) widthV + epsV = ⊤ ∨ ∃ w : ℝ, 0 < w ∧ Ideal.div (∑ k, x k * x k) widthV + epsV = w := by
  obtain ⟨e, he, hw⟩ := eps_word
  rw [width_word, Ideal.div_coe (by norm_num), hw]
  have h0 : 0 ≤ ∑ k, x k * x k := Finset.sum_nonneg fun k _ => sq_nonneg' (x k)
  generalize ∑ k, x k * x k = S at h0
  induction S with
  | bot => simp at h0
  | top => left; rw [EReal.top_mul_coe_of_pos (by norm_num), EReal.top_add_coe]
  | coe r =>
    have hr : 0 ≤ r := by exact_mod_cast h0
    exact Or.inr ⟨r * (1 / 2048) + e, by positivity, by push_cast; rfl⟩

/-- A real that is not negative goes through a sum. -/
theorem sum_scale {ι : Type} [Fintype ι] (r : ℝ) (hr : 0 ≤ r) (f : ι → EReal) : ∑ k, f k * (r : EReal) = (∑ k, f k) * (r : EReal) := by
  classical
  refine Finset.induction_on (motive := fun s => ∑ k ∈ s, f k * (r : EReal) = (∑ k ∈ s, f k) * (r : EReal)) _ (by simp) fun a s ha ih => ?_
  rw [Finset.sum_insert ha, Finset.sum_insert ha, ih, EReal.right_distrib_of_nonneg_of_ne_top (by exact_mod_cast hr) (EReal.coe_ne_top r)]

theorem twice (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul, mul_two]

/-- The gradient of a row as the transposed program writes it. -/
def plain (d x g : Fin 2048 → EReal) (z : EReal) (s : Fin 2048) : EReal :=
  let r := scale x
  let v := Ideal.div ((∑ k, x k * (d k * g k)) * (halfV * Ideal.div r (Ideal.div (∑ k, x k * x k) widthV + epsV))) widthV
  z + d s * g s * r + x s * v + v * x s

theorem row_eq (d x g : Fin 2048 → EReal) (z : EReal) (s : Fin 2048) :
    rowGrad d x (scale x) g z s = plain d x g z s := by
  unfold rowGrad plain scale
  dsimp only
  rcases square_cases x with h | ⟨w, hw, h⟩
  · rw [h, width_word, Ideal.div_coe (by norm_num), Ideal.div_coe (by norm_num)]
    simp [Ideal.div]
  · have hq : 0 < √w := Real.sqrt_pos.2 hw
    rw [h, width_word, half_word, Ideal.rsqrt_coe, if_neg (not_lt.2 hw.le), if_neg hw.ne', Ideal.div_coe (by norm_num), Ideal.div_coe (by norm_num),
      Ideal.div_coe hw.ne']
    generalize hr : (√w)⁻¹ = r
    have hrp : 0 < r := hr ▸ inv_pos.2 hq
    have hrw : r * r * w = 1 := by
      rw [← hr, ← mul_inv, Real.mul_self_sqrt hw.le, inv_mul_cancel₀ hw.ne']
    have e : ∑ k, d k * g k * (x k * (r : EReal)) = (∑ k, x k * (d k * g k)) * (r : EReal) := by
      rw [← sum_scale r hrp.le]
      exact Finset.sum_congr rfl fun k _ => by rw [← mul_assoc, mul_comm (G := EReal) (x k)]
    rw [e]
    generalize (∑ k, x k * (d k * g k)) = S
    rw [sub_eq_add_neg (G := EReal), EReal.left_distrib_of_nonneg_of_ne_top (by exact_mod_cast hrp.le) (EReal.coe_ne_top r)]
    have t : x s * (S * (((-(1 / 2) : ℝ) : EReal) * ((r : EReal) * ((1 / w : ℝ) : EReal))) * ((1 / 2048 : ℝ) : EReal))
        + S * (((-(1 / 2) : ℝ) : EReal) * ((r : EReal) * ((1 / w : ℝ) : EReal))) * ((1 / 2048 : ℝ) : EReal) * x s
        = (r : EReal) * -(x s * (r : EReal) * (S * (r : EReal) * ((1 / 2048 : ℝ) : EReal))) := by
      rw [mul_comm (G := EReal) (S * _ * _) (x s), twice, ← EReal.coe_mul, ← EReal.coe_mul]
      have a1 : x s * (S * ((-(1 / 2) * (r * (1 / w)) : ℝ) : EReal) * ((1 / 2048 : ℝ) : EReal)) * ((2 : ℝ) : EReal)
          = x s * S * (((-(1 / 2) * (r * (1 / w))) * (1 / 2048) * 2 : ℝ) : EReal) := by
        rw [EReal.coe_mul _ 2, EReal.coe_mul _ (1 / 2048)]; ac_rfl
      have a2 : (r : EReal) * -(x s * (r : EReal) * (S * (r : EReal) * ((1 / 2048 : ℝ) : EReal)))
          = x s * S * ((-(r * r * r * (1 / 2048)) : ℝ) : EReal) := by
        rw [EReal.coe_neg, mul_neg, mul_neg, EReal.coe_mul _ (1 / 2048), EReal.coe_mul _ r, EReal.coe_mul r r]
        congr 1; ac_rfl
      rw [a1, a2]
      congr 2
      have hw' : r * r = 1 / w := by field_simp; linarith
      rw [hw', ← hw']; ring
    rw [add_assoc (G := EReal) (z + _), t, mul_comm (G := EReal) (r : EReal) (d s * g s)]
    exact (add_comm (G := EReal) _ z).trans (add_assoc (G := EReal) z _ _).symm

end Cert.FfnNorm

end
-- ==== Proof.Ffn.Norm.Claims.lean ====
/- The claims about the gradient through the channel mixer's norm. -/
module

public import proofs.«01_k».proof.Defs
public import proofs.«01_k».proof.Proof.Gen.KernelNorm.Frame
public import proofs.«01_k».proof.Proof.Gen.ReferenceNormIdeal.Read
public import proofs.«01_k».proof.Proof.Ffn.Norm.Math

@[expose] public section

set_option maxRecDepth 16384

noncomputable section

namespace Cert.FfnNorm

open Idealize.ShloMosaic Idealize.ShloMosaic.TcCoe Idealize.SL.Sem
open Cert.KernelNormIdeal.Ffn Cert.ReferenceNormIdeal Cert.ReferenceNormIdeal.Read

/-! ## The reference, element by element -/

variable (x0 x1 : (⟨S8192x2048, .f32⟩ : BufTy).Contents (Elt Ideal)) (x2 : (⟨S2048, .f32⟩ : BufTy).Contents (Elt Ideal))
  (x3 : (⟨S8192x2048, .f32⟩ : BufTy).Contents (Elt Ideal))

/-- The mean square of a row, with what is added to it. -/
theorem square_apply (i : Fin 8192) (j : Fin 1) :
    val_main_v6 (F := Ideal) x1 (ix2 i j) = Ideal.div (∑ k : Fin 2048, x1 (ix2 i k) * x1 (ix2 i k)) widthV + epsV := by
  rw [val_main_v6_apply, val_main_v4_apply, val_main_v2_apply, val_main_v1_apply, val_main_v3_apply, val_main_v5_apply]
  simp only [val_main_v0_apply]
  show Ideal.div (Ideal.ofBits .f32 0x00000000#32 + _) widthV + epsV = _
  rw [Ideal.ofBits_zero_f32, zero_add]
  refine congrArg (fun z => Ideal.div z widthV + epsV) (Finset.sum_congr rfl fun k _ => ?_)
  have e : idx_main_v1 (idx_main_v2 (ix2 i j)) k = (ix2 i k : S8192x2048.Idx) := ValueIdx.eq_ix2 _
  rw [e]
  rfl

theorem scale_apply (i : Fin 8192) (j : Fin 1) : val_main_v7 (F := Ideal) x1 (ix2 i j) = scale fun k => x1 (ix2 i k) := by
  rw [val_main_v7_apply, square_apply]
  rfl

theorem product_apply (i : Fin 8192) (k : Fin 2048) : val_main_v20 (F := Ideal) x0 x2 (ix2 i k) = x0 (ix2 i k) * x2 (ix1 k) := by
  rw [val_main_v20_apply, val_main_v19_apply]
  exact congrArg (fun z => x0 (ix2 i k) * x2 z) (ValueIdx.eq_ix1 _)

theorem inner_apply (i : Fin 8192) : val_main_v23 (F := Ideal) x0 x1 x2 (ix1 i) = ∑ k : Fin 2048, x1 (ix2 i k) * (x0 (ix2 i k) * x2 (ix1 k)) := by
  rw [val_main_v23_apply]
  show Ideal.ofBits .f32 0x00000000#32 + _ = _
  rw [Ideal.ofBits_zero_f32, zero_add]
  refine Finset.sum_congr rfl fun k _ => ?_
  have e : idx_main_v23 (ix1 i) k = (ix2 i k : S8192x2048.Idx) := ValueIdx.eq_ix2 _
  rw [e, val_main_v22_apply, product_apply]
  rfl

/-- What the transposed mean hands back to a row. -/
theorem back_apply (i : Fin 8192) (s : Fin 2048) :
    val_main_v32 (F := Ideal) x0 x1 x2 (ix2 i s)
      = Ideal.div ((∑ k : Fin 2048, x1 (ix2 i k) * (x0 (ix2 i k) * x2 (ix1 k)))
          * (halfV * Ideal.div (scale fun k => x1 (ix2 i k)) (Ideal.div (∑ k : Fin 2048, x1 (ix2 i k) * x1 (ix2 i k)) widthV + epsV))) widthV := by
  rw [val_main_v32_apply, val_main_v31_apply]
  show Ideal.ofBits .f32 0x00000000#32 + _ = _
  rw [Ideal.ofBits_zero_f32, zero_add, Fin.sum_univ_one]
  have e : idx_main_v31 (idx_main_v32 (ix2 i s)) 0 = (ix2 i 0 : S8192x1.Idx) := ValueIdx.eq_ix2 _
  rw [e, val_main_v30_apply, val_main_v28_apply, val_main_v24_apply, val_main_v10_apply, val_main_v9_apply, val_main_v8_apply,
    val_main_v29_apply, square_apply, scale_apply]
  have e' : idx_main_v24 (ix2 i (0 : Fin 1)) = (ix1 i : S8192.Idx) := by
    refine (ValueIdx.eq_ix1 _).trans (congrArg ix1 (Fin.ext ?_))
    show (i.val * 1 + 0) = i.val
    omega
  rw [e', inner_apply]
  rfl

/-- The reference's gradient of the input. -/
theorem input_apply (i : Fin 8192) (s : Fin 2048) :
    val_main_v36 (F := Ideal) x0 x1 x2 x3 (ix2 i s)
      = plain (fun k => x0 (ix2 i k)) (fun k => x1 (ix2 i k)) (fun k => x2 (ix1 k)) (x3 (ix2 i s)) s := by
  rw [val_main_v36_apply, val_main_v34_apply, val_main_v27_apply, val_main_v26_apply, val_main_v33_apply, val_main_v35_apply,
    product_apply, back_apply, val_main_v25_apply]
  have e : idx_main_v25 (ix2 i s) = (ix2 i 0 : S8192x1.Idx) := ValueIdx.eq_ix2 _
  rw [e, scale_apply]
  rfl

/-- The reference's gradient of the gain. -/
theorem gain_apply' (s : Fin 2048) :
    val_main_v37 (F := Ideal) x0 x1 (ix2 (0 : Fin 1) s)
      = ∑ j : Fin 8192, x0 (ix2 j s) * (x1 (ix2 j s) * scale fun k => x1 (ix2 j k)) := by
  rw [val_main_v37_apply, val_main_v21_apply]
  show Ideal.ofBits .f32 0x00000000#32 + _ = _
  rw [Ideal.ofBits_zero_f32, zero_add, Fin.sum_univ_one, val_main_v18_apply, val_main_v17_apply]
  show Ideal.ofBits .f32 0x00000000#32 + _ = _
  rw [Ideal.ofBits_zero_f32, zero_add]
  refine Finset.sum_congr rfl fun j _ => ?_
  have e : idx_main_v17 (idx_main_v18 (idx_main_v21 (idx_main_v37 (ix2 (0 : Fin 1) s)) 0)) j = (ix2 j s : S8192x2048.Idx) := by
    refine (ValueIdx.eq_ix2 _).trans (congrArg (ix2 j) (Fin.ext ?_))
    have h := s.isLt
    show 0 * 2048 + s.val = s.val
    omega
  rw [e, val_main_v16_apply, val_main_v12_apply, val_main_v11_apply]
  have e' : idx_main_v11 (ix2 j s) = (ix2 j 0 : S8192x1.Idx) := ValueIdx.eq_ix2 _
  rw [e', scale_apply]
  exact mul_comm (G := EReal) _ _

/-! ## The claims -/

theorem frame_k : Cert.quiescent_KernelNorm := fun m ρ _ => Cert.KernelNorm.Gen.frame m ρ
theorem frame_ki : Cert.quiescent_KernelNormIdeal := fun m ρ _ => Cert.KernelNormIdeal.Gen.frame m ρ
theorem frame_r : Cert.quiescent_ReferenceNormIdeal := fun m ρ _ =>
  (θ_run Cert.ReferenceNormIdeal.defs _ _).mono (fun r h => ⟨fun c => (h c).2.2, Idealize.ShloMosaic.sem_eq_zero_of_no_sems (by decide) r.2⟩)
    (Cert.ReferenceNormIdeal.Value.run (F := Ideal) m ρ)
theorem preserves : Cert.preserves_KernelNorm_KernelNormIdeal := trivial

/-- The call leaves the gradients of the input and of the gain that the transposed norm gives. -/
theorem algebraic : Cert.algebraic_KernelNormIdeal_ReferenceNormIdeal := by
  intro m g m' g' _ hagree
  refine ⟨_, _, Cert.KernelNormIdeal.Value.run_blocks m g, ?_⟩
  refine (θ_run Cert.ReferenceNormIdeal.defs _ _).mono (fun r h c => ?_) (Cert.ReferenceNormIdeal.Value.run (F := Ideal) m' g')
  obtain ⟨a0, a1, a2, a3⟩ := hagree c
  refine ⟨(h c).1.trans ?_, (h c).2.1.trans ?_, (h c).2.2⟩
  · rw [val_main_v36_eq, Cert.KernelNormIdeal.Ffn.final5]
    refine funext fun i => ?_
    obtain ⟨j, s, rfl⟩ : ∃ j s, i = (ix2 j s : S8192x2048.Idx) := ⟨i 0, i 1, ValueIdx.eq_ix2 i⟩
    refine ((input_apply _ _ _ _ j s).trans (row_eq _ _ _ _ s).symm).trans ?_
    unfold Cert.KernelNormIdeal.Ffn.GX aD aX aG aZ
    rw [← a0, ← a1, ← a2, ← a3]
    rfl
  · rw [val_main_v37_eq, Cert.KernelNormIdeal.Ffn.final6]
    refine funext fun i => ?_
    obtain ⟨s, rfl⟩ : ∃ s, i = (ix2 (0 : Fin 1) s : S1x2048.Idx) :=
      ⟨i 1, (ValueIdx.eq_ix2 i).trans (congrArg (fun z : Fin 1 => ix2 z (i 1)) (Subsingleton.elim _ _))⟩
    refine (gain_apply' _ _ s).trans ?_
    unfold Cert.KernelNormIdeal.Ffn.GG rowGain aD aX
    rw [← a0, ← a1]
    rfl

end Cert.FfnNorm

end
-- ==== Proof.Mix.Qkv.Final.lean ====
/- The product that makes the windowed attention's queries, keys and values: the array the call leaves. Each point of
   the grid makes one block, whole. -/
module

public import proofs.«01_k».proof.Proof.Gen.KernelQkvIdeal.Value
public import proofs.«01_k».proof.Proof.Ffn.Blocks

@[expose] public section

set_option maxRecDepth 16384

noncomputable section

namespace Cert.KernelQkvIdeal.Mix

open Cert.KernelQkvIdeal Cert.KernelQkvIdeal.Gen Cert.Ffn Idealize.ShloMosaic Idealize.ShloMosaic.TcCoe Idealize.SL.Sem
open Idealize.ShloMosaic.Pipeline (Dat Window)
open Facts

/-- The product of a point's two blocks. -/
def part (a : S1024x2048.Idx → EReal) (w : S1x1x2048x1280.Idx → EReal) (r : Fin 1024) (s : Fin 1280) : EReal :=
  ∑ x : Fin 2048, a (ix2 r x) * w (ix4 0 0 x s)

theorem pay1_apply (a : S1024x2048.Idx → EReal) (w : S1x1x2048x1280.Idx → EReal) (r : Fin 1024) (s : Fin 1280) :
    k0_pay1 (F := Ideal) a w (ix2 r s) = part a w r s := by
  unfold k0_pay1 part
  pointwise []

theorem out (a : Vec Ideal S1024x2048 .bf16) (w : Vec Ideal S1x1x2048x1280 .bf16) (r : Fin 1024) (s : Fin 1280) :
    out0_2 (F := Ideal) a w (ix2 r s) = part a w r s := by
  unfold out0_2
  rw [View.canon_unit_zero (S := S1024x1280) zero2, View.ld_unit_zero (S := S1024x2048) zero2,
    View.ld_unit_zero (S := S1x1x2048x1280) zero4]
  exact pay1_apply _ _ _ _

/-! ## The array at the end -/

theorem at0 : ∀ t : Fin cfg0.N, win0_0.index t = ![t.val / 2, 0] := (by decide +kernel : ∀ t : Fin grid0.N, _)
theorem at1 : ∀ t : Fin cfg0.N, win0_1.index t = ![0, 0, 0, t.val % 2] := (by decide +kernel : ∀ t : Fin grid0.N, _)
theorem at2 : ∀ t : Fin cfg0.N, win0_2.index t = ![t.val / 2, t.val % 2] := (by decide +kernel : ∀ t : Fin grid0.N, _)

theorem lt_N (t : Fin cfg0.N) : t.val < 16 := t.isLt

/-- The row and the column of the result that a point's block holds at `r` and `s`. -/
def rw_ (n : ℕ) (r : Fin 1024) : Fin 8192 := Fin.ofNat 8192 (1024 * (n / 2) + r.val)
def cl (n : ℕ) (s : Fin 1280) : Fin 2560 := Fin.ofNat 2560 (1280 * (n % 2) + s.val)

variable (m : (ℓ : Loc nD τ sig) → Buf (Elt Ideal) ℓ) (c : Dev nD)

/-- The normed input and the weight, as the call is launched with them. -/
abbrev aA : S8192x2048.Idx → EReal := m ((c : Thread nD τ).loc main_arg0)
abbrev aW : S2048x2560.Idx → EReal := m ((c : Thread nD τ).loc main_arg1)

theorem V_main_v0 : V m c main_v0 = shapeCast S1x1x2048x2560 (aW m c) shapeCasts_S2048x2560_S1x1x2048x2560 := by
  unfold_abbrev_sides
  after_results
  rfl

theorem lead_apply (x : S2048x2560.Idx → EReal) (k : Fin 2048) (d : Fin 2560) :
    shapeCast S1x1x2048x2560 x shapeCasts_S2048x2560_S1x1x2048x2560 (ix4 (0 : Fin 1) (0 : Fin 1) k d) = x (ix2 k d) := by
  pointwise

theorem iblk0_apply (t : Fin cfg0.N) (r : Fin 1024) (x : Fin 2048) :
    iblk m c 0 t (ix2 r x) = aA m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 2 * 1024 + 1 * r.val = (1024 * (t.val / 2) + r.val) % 8192; omega
    | ⟨1, _⟩ => show win0_0.index t 1 * 2048 + 1 * x.val = x.val; rw [at0]; show 0 * 2048 + 1 * x.val = _; omega
  unfold iblk
  rw [View.read_apply, e]
  show V m c main_arg0 _ = _
  rw [V_main_arg0]

theorem iblk1_apply (t : Fin cfg0.N) (x : Fin 2048) (s : Fin 1280) :
    iblk m c 1 t (ix4 (0 : Fin 1) (0 : Fin 1) x s) = aW m c (ix2 x (cl t.val s)) := by
  have e : ((cfg0.win 1).blk t).view.emb (ix4 (0 : Fin 1) (0 : Fin 1) x s) = (ix4 0 0 x (cl t.val s) : S1x1x2048x2560.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 2048 + 1 * x.val = x.val; rw [at1]; show 0 * 2048 + 1 * x.val = _; omega
    | ⟨3, _⟩ => show win0_1.index t 3 * 1280 + 1 * s.val = _ % 2560; rw [at1]; show t.val % 2 * 1280 + 1 * s.val = (1280 * (t.val % 2) + s.val) % 2560; omega
  unfold iblk
  rw [View.read_apply, e]
  show V m c main_v0 _ = _
  rw [V_main_v0, lead_apply]

theorem emb2 (t : Fin cfg0.N) (r : Fin 1024) (s : Fin 1280) :
    ((cfg0.win 2).blk t).view.emb (ix2 r s) = (ix2 (rw_ t.val r) (cl t.val s) : S8192x2560.Idx) := by
  have ht := lt_N t
  funext a
  apply Fin.ext
  match a with
  | ⟨0, _⟩ => show win0_2.index t 0 * 1024 + 1 * r.val = _ % 8192; rw [at2]; show t.val / 2 * 1024 + 1 * r.val = (1024 * (t.val / 2) + r.val) % 8192; omega
  | ⟨1, _⟩ => show win0_2.index t 1 * 1280 + 1 * s.val = _ % 2560; rw [at2]; show t.val % 2 * 1280 + 1 * s.val = (1280 * (t.val % 2) + s.val) % 2560; omega

/-- The result: every row of the normed input times every column of the weight. -/
def G : S8192x2560.Idx → EReal := fun i => ∑ j : Fin 2048, aA m c (ix2 (i 0) j) * aW m c (ix2 j (i 1))

theorem part_eq (t : Fin cfg0.N) (r : Fin 1024) (s : Fin 1280) :
    part (iblk m c 0 t) (iblk m c 1 t) r s = G m c (ix2 (rw_ t.val r) (cl t.val s)) := by
  unfold part G
  exact Finset.sum_congr rfl fun x _ => by rw [iblk0_apply, iblk1_apply]; rfl

theorem final : (dats m 0 c).arrAt 2 cfg0.N = G m c := by
  refine (dats m 0 c).arrAt_eq_of_cover 2 (G m c) (fun t hf => ?_) fun i => ?_
  · rw [Value.flushed2]
    refine funext fun (y : S1024x1280.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 2560), i = (ix2 a b : S8192x2560.Idx) := ⟨i 0, i 1, ValueIdx.eq_ix2 i⟩
    let t : Fin cfg0.N := ⟨2 * (a.val / 1024) + b.val / 1280, by show _ < 16; omega⟩
    refine ⟨t, flush0_2 t, ?_⟩
    have e := emb2 t ⟨a.val % 1024, by omega⟩ ⟨b.val % 1280, by omega⟩
    rw [show rw_ t.val ⟨a.val % 1024, by omega⟩ = a from Fin.ext (by
        show (1024 * ((2 * (a.val / 1024) + b.val / 1280) / 2) + a.val % 1024) % 8192 = a.val; omega),
      show cl t.val ⟨b.val % 1280, by omega⟩ = b from Fin.ext (by
        show (1280 * ((2 * (a.val / 1024) + b.val / 1280) % 2) + b.val % 1280) % 2560 = b.val; omega)] at e
    rw [← e]
    exact View.emb_mem_set _ _

end Cert.KernelQkvIdeal.Mix

end
-- ==== Proof.Mix.Qkv.Claims.lean ====
/- The claims about the product that makes the windowed attention's queries, keys and values. -/
module

public import proofs.«01_k».proof.Defs
public import proofs.«01_k».proof.Proof.Gen.KernelQkv.Frame
public import proofs.«01_k».proof.Proof.Gen.ReferenceQkvIdeal.Read
public import proofs.«01_k».proof.Proof.Mix.Qkv.Final

@[expose] public section

set_option maxRecDepth 16384

noncomputable section

namespace Cert.MixQkv

open Idealize.ShloMosaic Idealize.ShloMosaic.TcCoe Idealize.SL.Sem

theorem frame_k : Cert.quiescent_KernelQkv := fun m ρ _ => Cert.KernelQkv.Gen.frame m ρ
theorem frame_ki : Cert.quiescent_KernelQkvIdeal := fun m ρ _ => Cert.KernelQkvIdeal.Gen.frame m ρ
theorem frame_r : Cert.quiescent_ReferenceQkvIdeal := fun m ρ _ =>
  (θ_run Cert.ReferenceQkvIdeal.defs _ _).mono (fun r h => ⟨fun c => (h c).2, Idealize.ShloMosaic.sem_eq_zero_of_no_sems (by decide) r.2⟩)
    (Cert.ReferenceQkvIdeal.Value.run (F := Ideal) m ρ)
theorem preserves : Cert.preserves_KernelQkv_KernelQkvIdeal := trivial

/-- The call leaves the reference's product. -/
theorem algebraic : Cert.algebraic_KernelQkvIdeal_ReferenceQkvIdeal := by
  intro m g m' g' _ hagree
  refine ⟨_, Cert.KernelQkvIdeal.Value.run_blocks m g, ?_⟩
  refine (θ_run Cert.ReferenceQkvIdeal.defs _ _).mono (fun r h c => ?_) (Cert.ReferenceQkvIdeal.Value.run (F := Ideal) m' g')
  obtain ⟨a0, a1⟩ := hagree c
  refine ⟨(h c).1.trans ?_, (h c).2⟩
  rw [Cert.ReferenceQkvIdeal.Read.val_main_v3_eq, Cert.KernelQkvIdeal.Mix.final]
  refine funext fun i => ?_
  rw [Cert.ReferenceQkvIdeal.Read.val_main_v3_apply, Cert.ReferenceQkvIdeal.Read.val_main_v2_apply]
  unfold Cert.KernelQkvIdeal.Mix.G Cert.KernelQkvIdeal.Mix.aA Cert.KernelQkvIdeal.Mix.aW
  rw [← a0, ← a1]
  refine Finset.sum_congr rfl fun j _ => ?_
  rw [Cert.ReferenceQkvIdeal.Read.val_main_v0_apply, Cert.ReferenceQkvIdeal.Read.val_main_v1_apply]
  exact congrArg₂ (fun x y : EReal => x * y) (congrArg (m' _) (ValueIdx.eq_ix2 _)) (congrArg (m' _) (ValueIdx.eq_ix2 _))

end Cert.MixQkv

end
-- ==== Proof.Mix.Out.Final.lean ====
/- The attention's output product and the residual it is added to: the array the call leaves. Each point of the grid
   makes one block, whole. -/
module

public import proofs.«01_k».proof.Proof.Gen.KernelOutIdeal.Value
public import proofs.«01_k».proof.Proof.Ffn.Blocks

@[expose] public section

set_option maxRecDepth 16384

noncomputable section

namespace Cert.KernelOutIdeal.Mix

open Cert.KernelOutIdeal Cert.KernelOutIdeal.Gen Cert.Ffn Idealize.ShloMosaic Idealize.ShloMosaic.TcCoe Idealize.SL.Sem
open Idealize.ShloMosaic.Pipeline (Dat Window)
open Facts

/-- The product of a point's two blocks, added to its block of the residual. -/
def part (a : S1024x2048.Idx → EReal) (w : S1x1x2048x512.Idx → EReal) (z : S1024x512.Idx → EReal) (r : Fin 1024) (s : Fin 512) : EReal :=
  z (ix2 r s) + ∑ x : Fin 2048, a (ix2 r x) * w (ix4 0 0 x s)

theorem pay1_apply (z : S1024x512.Idx → EReal) (a : S1024x2048.Idx → EReal) (w : S1x1x2048x512.Idx → EReal) (r : Fin 1024) (s : Fin 512) :
    k0_pay1 (F := Ideal) z a w (ix2 r s) = part a w z r s := by
  unfold k0_pay1 part
  pointwise []

theorem out (a : Vec Ideal S1024x2048 .bf16) (w : Vec Ideal S1x1x2048x512 .bf16) (z : Vec Ideal S1024x512 .f32) (r : Fin 1024) (s : Fin 512) :
    out0_3 (F := Ideal) a w z (ix2 r s) = part a w z r s := by
  unfold out0_3
  rw [View.canon_unit_zero (S := S1024x512) zero2, View.ld_unit_zero (S := S1024x512) zero2,
    View.ld_unit_zero (S := S1024x2048) zero2, View.ld_unit_zero (S := S1x1x2048x512) zero4]
  exact pay1_apply _ _ _ _ _

/-! ## The array at the end -/

theorem at0 : ∀ t : Fin cfg0.N, win0_0.index t = ![t.val / 4, 0] := (by decide +kernel : ∀ t : Fin grid0.N, _)
theorem at1 : ∀ t : Fin cfg0.N, win0_1.index t = ![0, 0, 0, t.val % 4] := (by decide +kernel : ∀ t : Fin grid0.N, _)
theorem at2 : ∀ t : Fin cfg0.N, win0_2.index t = ![t.val / 4, t.val % 4] := (by decide +kernel : ∀ t : Fin grid0.N, _)
theorem at3 : ∀ t : Fin cfg0.N, win0_3.index t = ![t.val / 4, t.val % 4] := (by decide +kernel : ∀ t : Fin grid0.N, _)

theorem lt_N (t : Fin cfg0.N) : t.val < 32 := t.isLt

/-- The row and the column of the result that a point's block holds at `r` and `s`. -/
def rw_ (n : ℕ) (r : Fin 1024) : Fin 8192 := Fin.ofNat 8192 (1024 * (n / 4) + r.val)
def cl (n : ℕ) (s : Fin 512) : Fin 2048 := Fin.ofNat 2048 (512 * (n % 4) + s.val)

variable (m : (ℓ : Loc nD τ sig) → Buf (Elt Ideal) ℓ) (c : Dev nD)

/-- The heads' outputs, the weight and the residual, as the call is launched with them. -/
abbrev aA : S8192x2048.Idx → EReal := m ((c : Thread nD τ).loc main_arg0)
abbrev aW : S2048x2048.Idx → EReal := m ((c : Thread nD τ).loc main_arg1)
abbrev aX : S8192x2048.Idx → EReal := m ((c : Thread nD τ).loc main_arg2)

theorem V_main_v0 : V m c main_v0 = shapeCast S1x1x2048x2048 (aW m c) shapeCasts_S2048x2048_S1x1x2048x2048 := by
  unfold_abbrev_sides
  after_results
  rfl

theorem lead_apply (x : S2048x2048.Idx → EReal) (k : Fin 2048) (d : Fin 2048) :
    shapeCast S1x1x2048x2048 x shapeCasts_S2048x2048_S1x1x2048x2048 (ix4 (0 : Fin 1) (0 : Fin 1) k d) = x (ix2 k d) := by
  pointwise

theorem iblk0_apply (t : Fin cfg0.N) (r : Fin 1024) (x : Fin 2048) :
    iblk m c 0 t (ix2 r x) = aA m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 4 * 1024 + 1 * r.val = (1024 * (t.val / 4) + r.val) % 8192; omega
    | ⟨1, _⟩ => show win0_0.index t 1 * 2048 + 1 * x.val = x.val; rw [at0]; show 0 * 2048 + 1 * x.val = _; omega
  unfold iblk
  rw [View.read_apply, e]
  show V m c main_arg0 _ = _
  rw [V_main_arg0]

theorem iblk1_apply (t : Fin cfg0.N) (x : Fin 2048) (s : Fin 512) :
    iblk m c 1 t (ix4 (0 : Fin 1) (0 : Fin 1) x s) = aW m c (ix2 x (cl t.val s)) := by
  have e : ((cfg0.win 1).blk t).view.emb (ix4 (0 : Fin 1) (0 : Fin 1) x s) = (ix4 0 0 x (cl t.val s) : S1x1x2048x2048.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 2048 + 1 * x.val = x.val; rw [at1]; show 0 * 2048 + 1 * x.val = _; omega
    | ⟨3, _⟩ => show win0_1.index t 3 * 512 + 1 * s.val = _ % 2048; rw [at1]; show t.val % 4 * 512 + 1 * s.val = (512 * (t.val % 4) + s.val) % 2048; omega
  unfold iblk
  rw [View.read_apply, e]
  show V m c main_v0 _ = _
  rw [V_main_v0, lead_apply]

theorem emb2 (t : Fin cfg0.N) (r : Fin 1024) (s : Fin 512) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 4 * 1024 + 1 * r.val = (1024 * (t.val / 4) + r.val) % 8192; omega
  | ⟨1, _⟩ => show win0_2.index t 1 * 512 + 1 * s.val = _ % 2048; rw [at2]; show t.val % 4 * 512 + 1 * s.val = (512 * (t.val % 4) + s.val) % 2048; omega
theorem emb3 (t : Fin cfg0.N) (r : Fin 1024) (s : Fin 512) :
    ((cfg0.win 3).blk t).view.emb (ix2 r s) = (ix2 (rw_ t.val r) (cl t.val s) : S8192x2048.Idx) := by
  have ht := lt_N t
  funext a
  apply Fin.ext
  match a with
  | ⟨0, _⟩ => show win0_3.index t 0 * 1024 + 1 * r.val = _ % 8192; rw [at3]; show t.val / 4 * 1024 + 1 * r.val = (1024 * (t.val / 4) + r.val) % 8192; omega
  | ⟨1, _⟩ => show win0_3.index t 1 * 512 + 1 * s.val = _ % 2048; rw [at3]; show t.val % 4 * 512 + 1 * s.val = (512 * (t.val % 4) + s.val) % 2048; omega

theorem iblk2_apply (t : Fin cfg0.N) (r : Fin 1024) (s : Fin 512) :
    iblk m c 2 t (ix2 r s) = aX m c (ix2 (rw_ t.val r) (cl t.val s)) := by
  unfold iblk
  rw [View.read_apply, emb2]
  show V m c main_arg2 _ = _
  rw [V_main_arg2]

/-- The result: the residual, and every row of the heads' outputs times every column of the weight. -/
def G : S8192x2048.Idx → EReal := fun i => aX m c i + ∑ j : Fin 2048, aA m c (ix2 (i 0) j) * aW m c (ix2 j (i 1))

theorem part_eq (t : Fin cfg0.N) (r : Fin 1024) (s : Fin 512) :
    part (iblk m c 0 t) (iblk m c 1 t) (iblk m c 2 t) r s = G m c (ix2 (rw_ t.val r) (cl t.val s)) := by
  unfold part G
  rw [iblk2_apply]
  exact congrArg (fun z : EReal => _ + z) (Finset.sum_congr rfl fun x _ => by rw [iblk0_apply, iblk1_apply]; rfl)

theorem final : (dats m 0 c).arrAt 3 cfg0.N = G m c := by
  refine (dats m 0 c).arrAt_eq_of_cover 3 (G m c) (fun t hf => ?_) fun i => ?_
  · rw [Value.flushed3]
    refine funext fun (y : S1024x512.Idx) => ?_
    obtain ⟨r, s, rfl⟩ : ∃ r s, y = ix2 r s := ⟨y 0, y 1, ValueIdx.eq_ix2 y⟩
    rw [View.read_apply, emb3]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨4 * (a.val / 1024) + b.val / 512, by show _ < 32; omega⟩
    refine ⟨t, flush0_3 t, ?_⟩
    have e := emb3 t ⟨a.val % 1024, by omega⟩ ⟨b.val % 512, by omega⟩
    rw [show rw_ t.val ⟨a.val % 1024, by omega⟩ = a from Fin.ext (by
        show (1024 * ((4 * (a.val / 1024) + b.val / 512) / 4) + a.val % 1024) % 8192 = a.val; omega),
      show cl t.val ⟨b.val % 512, by omega⟩ = b from Fin.ext (by
        show (512 * ((4 * (a.val / 1024) + b.val / 512) % 4) + b.val % 512) % 2048 = b.val; omega)] at e
    rw [← e]
    exact View.emb_mem_set _ _

end Cert.KernelOutIdeal.Mix

end
-- ==== Proof.Mix.Out.Claims.lean ====
/- The claims about the attention's output product. -/
module

public import proofs.«01_k».proof.Defs
public import proofs.«01_k».proof.Proof.Gen.KernelOut.Frame
public import proofs.«01_k».proof.Proof.Gen.ReferenceOutIdeal.Read
public import proofs.«01_k».proof.Proof.Mix.Out.Final

@[expose] public section

set_option maxRecDepth 16384

noncomputable section

namespace Cert.MixOut

open Idealize.ShloMosaic Idealize.ShloMosaic.TcCoe Idealize.SL.Sem

theorem frame_k : Cert.quiescent_KernelOut := fun m ρ _ => Cert.KernelOut.Gen.frame m ρ
theorem frame_ki : Cert.quiescent_KernelOutIdeal := fun m ρ _ => Cert.KernelOutIdeal.Gen.frame m ρ
theorem frame_r : Cert.quiescent_ReferenceOutIdeal := fun m ρ _ =>
  (θ_run Cert.ReferenceOutIdeal.defs _ _).mono (fun r h => ⟨fun c => (h c).2, Idealize.ShloMosaic.sem_eq_zero_of_no_sems (by decide) r.2⟩)
    (Cert.ReferenceOutIdeal.Value.run (F := Ideal) m ρ)
theorem preserves : Cert.preserves_KernelOut_KernelOutIdeal := trivial

/-- The call leaves the reference's residual and product. -/
theorem algebraic : Cert.algebraic_KernelOutIdeal_ReferenceOutIdeal := by
  intro m g m' g' _ hagree
  refine ⟨_, Cert.KernelOutIdeal.Value.run_blocks m g, ?_⟩
  refine (θ_run Cert.ReferenceOutIdeal.defs _ _).mono (fun r h c => ?_) (Cert.ReferenceOutIdeal.Value.run (F := Ideal) m' g')
  obtain ⟨a0, a1, a2⟩ := hagree c
  refine ⟨(h c).1.trans ?_, (h c).2⟩
  rw [Cert.ReferenceOutIdeal.Read.val_main_v3_eq, Cert.KernelOutIdeal.Mix.final]
  refine funext fun i => ?_
  rw [Cert.ReferenceOutIdeal.Read.val_main_v3_apply, Cert.ReferenceOutIdeal.Read.val_main_v2_apply]
  unfold Cert.KernelOutIdeal.Mix.G Cert.KernelOutIdeal.Mix.aA Cert.KernelOutIdeal.Mix.aW Cert.KernelOutIdeal.Mix.aX
  rw [← a0, ← a1, ← a2]
  refine congrArg (fun z : EReal => _ + z) (Finset.sum_congr rfl fun j _ => ?_)
  rw [Cert.ReferenceOutIdeal.Read.val_main_v0_apply, Cert.ReferenceOutIdeal.Read.val_main_v1_apply]
  exact congrArg₂ (fun x y : EReal => x * y) (congrArg (m' _) (ValueIdx.eq_ix2 _)) (congrArg (m' _) (ValueIdx.eq_ix2 _))

end Cert.MixOut

end
-- ==== Proof.Mix.Do.Final.lean ====
/- The gradient of the attention's output: the array the call leaves. Each point of the grid makes one block of the
   product, whole. -/
module

public import proofs.«01_k».proof.Proof.Gen.KernelDoIdeal.Value
public import proofs.«01_k».proof.Proof.Ffn.Blocks

@[expose] public section

set_option maxRecDepth 16384

noncomputable section

namespace Cert.KernelDoIdeal.Mix

open Cert.KernelDoIdeal Cert.KernelDoIdeal.Gen Cert.Ffn Idealize.ShloMosaic Idealize.ShloMosaic.TcCoe Idealize.SL.Sem
open Idealize.ShloMosaic.Pipeline (Dat Window)
open Facts

/-! ## What one grid point leaves -/

/-- The product of a point's two blocks. -/
def part (a : S1024x2048.Idx → EReal) (w : S1x1x1024x2048.Idx → EReal) (r : Fin 1024) (s : Fin 1024) : EReal :=
  ∑ x : Fin 2048, a (ix2 r x) * w (ix4 0 0 s x)

theorem pay2_apply (a : S1024x2048.Idx → EReal) (w : S1x1x1024x2048.Idx → EReal) (r : Fin 1024) (s : Fin 1024) :
    k0_pay2 (F := Ideal) a w (ix2 r s) = part a w r s := by
  unfold k0_pay2 k0_pay1 part
  pointwise []

theorem pay4_apply (z : S1024x1024.Idx → EReal) (r : Fin 1024) (s : Fin 1024) : k0_pay4 (F := Ideal) z (ix2 r s) = z (ix2 r s) := by
  unfold k0_pay4
  pointwise []

/-- A store through the whole block reads back as its payload. -/
theorem read_store {κ : Kind} {sp : Space} (V : View sig κ sp S1024x1024 .f32) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)
theorem read_out {κ : Kind} {sp : Space} (V : View sig κ sp S1024x1024 .bf16) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)

theorem out (c : Dev nD) (i : grid0.Coords) (arg3 : Memref sig .tc .vmem S1024x2048 .f32) (harg3 : arg3.IsWhole) (arg4 : Memref sig .tc .vmem S1x1x1024x2048 .bf16) (harg4 : arg4.IsWhole)
    (arg5 : Memref sig .tc .vmem S1024x1024 .bf16) (harg5 : arg5.IsWhole) (arg6 : Memref sig .tc .vmem S1024x1024 .f32) (harg6 : arg6.IsWhole)
    (x0 : Vec Ideal S1024x2048 .f32) (x1 : Vec Ideal S1x1x1024x2048 .bf16) (r : Fin 1024) (s : Fin 1024) (h0 h1 h2) :
    out0_A_2 (F := Ideal) c i arg3 harg3 arg4 harg4 arg5 harg5 arg6 harg6 h0 h1 h2 x0 x1 (ix2 r s) = part x0 x1 r s := by
  unfold out0_A_2 kernelRun0_A
  dsimp only
  refine (read_out _ _ _ _ _).trans ?_
  rw [pay4_apply]
  unfold kernelRun0_A.sl.v14 View.readCov kernelRun0_A.sl.HS0_1
  rw [View.readAt_eq_ld, View.ld_unit_zero (S := S1024x1024) zero2]
  refine (read_store _ _ _ _ _).trans ?_
  simp only [View.readAt_eq_ld, harg3.read_unread, harg4.read_unread, harg6.read_unread]
  rw [View.ld_unit_zero (S := S1024x2048) zero2, View.ld_unit_zero (S := S1x1x1024x2048) zero4]
  exact pay2_apply _ _ _ _

/-! ## The array at the end -/

theorem at0 : ∀ t : Fin cfg0.N, win0_0.index t = ![t.val / 2, 0] := (by decide +kernel : ∀ t : Fin grid0.N, _)
theorem at1 : ∀ t : Fin cfg0.N, win0_1.index t = ![0, 0, t.val % 2, 0] := (by decide +kernel : ∀ t : Fin grid0.N, _)
theorem at2 : ∀ t : Fin cfg0.N, win0_2.index t = ![t.val / 2, t.val % 2] := (by decide +kernel : ∀ t : Fin grid0.N, _)

theorem lt_N (t : Fin cfg0.N) : t.val < 16 := t.isLt

/-- The row and the column of the result that a point's block holds at `r` and `s`. -/
def rw_ (n : ℕ) (r : Fin 1024) : Fin 8192 := Fin.ofNat 8192 (1024 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The cotangent and the weight, as the call is launched with them. -/
abbrev aY : S8192x2048.Idx → EReal := m ((c : Thread nD τ).loc main_arg2)
abbrev aW : S2048x2048.Idx → EReal := m ((c : Thread nD τ).loc main_arg1)

theorem V_main_v0 : V m c main_v0 = shapeCast S1x1x2048x2048 (aW m c) shapeCasts_S2048x2048_S1x1x2048x2048 := by
  unfold_abbrev_sides
  after_results
  rfl

theorem lead_apply (x : S2048x2048.Idx → EReal) (k : Fin 2048) (d : Fin 2048) :
    shapeCast S1x1x2048x2048 x shapeCasts_S2048x2048_S1x1x2048x2048 (ix4 (0 : Fin 1) (0 : Fin 1) k d) = x (ix2 k d) := by
  pointwise

theorem iblk0_apply (t : Fin cfg0.N) (r : Fin 1024) (x : Fin 2048) :
    iblk m c 0 t (ix2 r x) = aY m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 2 * 1024 + 1 * r.val = (1024 * (t.val / 2) + r.val) % 8192; omega
    | ⟨1, _⟩ => show win0_0.index t 1 * 2048 + 1 * x.val = x.val; rw [at0]; show 0 * 2048 + 1 * x.val = _; omega
  unfold iblk
  rw [View.read_apply, e]
  show V m c main_arg2 _ = _
  rw [V_main_arg2]

theorem iblk1_apply (t : Fin cfg0.N) (s : Fin 1024) (x : Fin 2048) :
    iblk m c 1 t (ix4 (0 : Fin 1) (0 : Fin 1) s x) = aW m c (ix2 (cl t.val s) x) := by
  have e : ((cfg0.win 1).blk t).view.emb (ix4 (0 : Fin 1) (0 : Fin 1) s x) = (ix4 0 0 (cl t.val s) x : S1x1x2048x2048.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 1024 + 1 * s.val = _ % 2048; rw [at1]; show t.val % 2 * 1024 + 1 * s.val = (1024 * (t.val % 2) + s.val) % 2048; omega
    | ⟨3, _⟩ => show win0_1.index t 3 * 2048 + 1 * x.val = x.val; rw [at1]; show 0 * 2048 + 1 * x.val = _; omega
  unfold iblk
  rw [View.read_apply, e]
  show V m c main_v0 _ = _
  rw [V_main_v0, lead_apply]

/-- The result: every row of the cotangent times every row of the weight. -/
def G : S8192x2048.Idx → EReal := fun i => ∑ j : Fin 2048, aY m c (ix2 (i 0) j) * aW m c (ix2 (i 1) j)

theorem part_eq (t : Fin cfg0.N) (r : Fin 1024) (s : Fin 1024) :
    part (iblk m c 0 t) (iblk m c 1 t) r s = G m c (ix2 (rw_ t.val r) (cl t.val s)) := by
  unfold part G
  exact Finset.sum_congr rfl fun x _ => by rw [iblk0_apply, iblk1_apply]; rfl

theorem emb2 (t : Fin cfg0.N) (r : Fin 1024) (s : Fin 1024) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 2 * 1024 + 1 * r.val = (1024 * (t.val / 2) + r.val) % 8192; omega
  | ⟨1, _⟩ => show win0_2.index t 1 * 1024 + 1 * s.val = _ % 2048; rw [at2]; show t.val % 2 * 1024 + 1 * s.val = (1024 * (t.val % 2) + s.val) % 2048; omega

theorem final : (dats m 0 c).arrAt 2 cfg0.N = G m c := by
  refine (dats m 0 c).arrAt_eq_of_cover 2 (G m c) (fun t hf => ?_) fun i => ?_
  · rw [Value.flushed2_A]
    refine funext fun (y : S1024x1024.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨2 * (a.val / 1024) + b.val / 1024, by show _ < 16; omega⟩
    refine ⟨t, flush0_2 t, ?_⟩
    have e := emb2 t ⟨a.val % 1024, by omega⟩ ⟨b.val % 1024, by omega⟩
    rw [show rw_ t.val ⟨a.val % 1024, by omega⟩ = a from Fin.ext (by
        show (1024 * ((2 * (a.val / 1024) + b.val / 1024) / 2) + a.val % 1024) % 8192 = a.val; omega),
      show cl t.val ⟨b.val % 1024, by omega⟩ = b from Fin.ext (by
        show (1024 * ((2 * (a.val / 1024) + b.val / 1024) % 2) + b.val % 1024) % 2048 = b.val; omega)] at e
    rw [← e]
    exact View.emb_mem_set _ _

end Cert.KernelDoIdeal.Mix

end
-- ==== Proof.Mix.Do.Claims.lean ====
/- The claims about the gradient of the attention's output. -/
module

public import proofs.«01_k».proof.Defs
public import proofs.«01_k».proof.Proof.Gen.KernelDo.Frame
public import proofs.«01_k».proof.Proof.Gen.ReferenceDoIdeal.Read
public import proofs.«01_k».proof.Proof.Mix.Do.Final

@[expose] public section

set_option maxRecDepth 16384

noncomputable section

namespace Cert.MixDo

open Idealize.ShloMosaic Idealize.ShloMosaic.TcCoe Idealize.SL.Sem

theorem frame_k : Cert.quiescent_KernelDo := fun m ρ _ => Cert.KernelDo.Gen.frame m ρ
theorem frame_ki : Cert.quiescent_KernelDoIdeal := fun m ρ _ => Cert.KernelDoIdeal.Gen.frame m ρ
theorem frame_r : Cert.quiescent_ReferenceDoIdeal := fun m ρ _ =>
  (θ_run Cert.ReferenceDoIdeal.defs _ _).mono (fun r h => ⟨fun c => (h c).2, Idealize.ShloMosaic.sem_eq_zero_of_no_sems (by decide) r.2⟩)
    (Cert.ReferenceDoIdeal.Value.run (F := Ideal) m ρ)
theorem preserves : Cert.preserves_KernelDo_KernelDoIdeal := trivial

/-- The call leaves the reference's gradient. -/
theorem algebraic : Cert.algebraic_KernelDoIdeal_ReferenceDoIdeal := by
  intro m g m' g' _ hagree
  refine ⟨_, Cert.KernelDoIdeal.Value.run_blocks m g, ?_⟩
  refine (θ_run Cert.ReferenceDoIdeal.defs _ _).mono (fun r h c => ?_) (Cert.ReferenceDoIdeal.Value.run (F := Ideal) m' g')
  obtain ⟨_, a1, a2⟩ := hagree c
  refine ⟨(h c).1.trans ?_, (h c).2⟩
  rw [Cert.ReferenceDoIdeal.Read.val_main_v6_eq, Cert.KernelDoIdeal.Mix.final]
  refine funext fun i => ?_
  rw [Cert.ReferenceDoIdeal.Read.val_main_v6_apply, Cert.ReferenceDoIdeal.Read.val_main_v5_apply]
  unfold Cert.KernelDoIdeal.Mix.G Cert.KernelDoIdeal.Mix.aY Cert.KernelDoIdeal.Mix.aW
  rw [← a1, ← a2]
  refine Finset.sum_congr rfl fun j _ => ?_
  rw [Cert.ReferenceDoIdeal.Read.val_main_v1_apply]
  exact congrArg₂ (fun x y : EReal => x * y) (congrArg (m' _) (ValueIdx.eq_ix2 _)) (congrArg (m' _) (ValueIdx.eq_ix2 _))

end Cert.MixDo

end
-- ==== Proof.Mix.Dwo.Point.lean ====
/- The gradient of the output weight: what one grid point leaves in its accumulator and in its output block. -/
module

public import proofs.«01_k».proof.Proof.Gen.KernelDwoIdeal.Frame
public import proofs.«01_k».proof.Proof.Ffn.Blocks

@[expose] public section

set_option maxRecDepth 16384

noncomputable section

namespace Cert.KernelDwoIdeal.Mix

open Cert.KernelDwoIdeal Cert.KernelDwoIdeal.Gen Cert.Ffn Idealize.ShloMosaic Idealize.ShloMosaic.TcCoe Idealize.SL.Sem

/-- The product of a point's two blocks, over their rows. -/
def part (a : S1024x1024.Idx → EReal) (w : S1024x1024.Idx → EReal) (r : Fin 1024) (s : Fin 1024) : EReal :=
  ∑ x : Fin 1024, a (ix2 x r) * w (ix2 x s)

theorem pay2_apply (a : S1024x1024.Idx → EReal) (w : S1024x1024.Idx → EReal) (r : Fin 1024) (s : Fin 1024) :
    k0_pay2 (F := Ideal) a w (ix2 r s) = part a w r s := by
  unfold k0_pay2 k0_pay1 part
  pointwise []
theorem pay3_apply (a : S1024x1024.Idx → EReal) (w : S1024x1024.Idx → EReal) (z : S1024x1024.Idx → EReal) (r : Fin 1024) (s : Fin 1024) :
    k0_pay3 (F := Ideal) a w z (ix2 r s) = z (ix2 r s) + part a w r s := by
  unfold k0_pay3 k0_pay1 part
  pointwise []
theorem pay4_apply (z : S1024x1024.Idx → EReal) (r : Fin 1024) (s : Fin 1024) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S1024x1024 .f32) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)
theorem read_out {κ : Kind} {sp : Space} (V : View sig κ sp S1x1024x1024 .bf16) (f) (w : S1x1024x1024.Idx → EReal) (L) (y) :
    V.read (Elt Ideal) (V.writes (Elt Ideal) f (⟨Rect.unit (s := S1x1024x1024) ![0, 0, 0] S1x1024x1024.size inb_S1x1024x1024_S1x1024x1024_0_0_0, w⟩ :: L)) y = w y :=
  View.read_writes_cons_unit_of_mem V f inb_S1x1024x1024_S1x1024x1024_0_0_0 w L y y rfl (by intro a; fin_cases a <;> simp)

section
variable (c : Dev nD) (i : grid0.Coords) (arg3 : Memref sig .tc .vmem S1024x1024 .bf16) (harg3 : arg3.IsWhole) (arg4 : Memref sig .tc .vmem S1024x1024 .f32) (harg4 : arg4.IsWhole)
  (arg5 : Memref sig .tc .vmem S1x1024x1024 .bf16) (harg5 : arg5.IsWhole) (arg6 : Memref sig .tc .vmem S1024x1024 .f32) (harg6 : arg6.IsWhole)
  (x0 : Vec Ideal S1024x1024 .bf16) (x1 : Vec Ideal S1024x1024 .f32) (xs0 : Vec Ideal S1024x1024 .f32) (r : Fin 1024) (s : Fin 1024)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x1024) zero2, View.ld_unit_zero (S := S1024x1024) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x1024) zero2, View.ld_unit_zero (S := S1024x1024) zero2, View.ld_unit_zero (S := S1024x1024) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x1024) zero2, View.ld_unit_zero (S := S1024x1024) zero2, View.ld_unit_zero (S := S1024x1024) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v13 View.readCov kernelRun0_C.sl.HS0_1
  rw [View.readAt_eq_ld, View.ld_unit_zero (S := S1024x1024) zero2]
  refine (read_store _ _ _ _ _).trans ?_
  simp only [View.readAt_eq_ld, harg3.read_unread, harg4.read_unread, harg6.read_unread]
  rw [View.ld_unit_zero (S := S1024x1024) zero2, View.ld_unit_zero (S := S1024x1024) zero2, View.ld_unit_zero (S := S1024x1024) zero2]
  exact pay3_apply _ _ _ _ _
end

end Cert.KernelDwoIdeal.Mix

end
-- ==== Proof.Mix.Dwo.Final.lean ====
/- The gradient of the output weight: the array the call leaves, as one sum over all rows. -/
module

public import proofs.«01_k».proof.Proof.Gen.KernelDwoIdeal.Value
public import proofs.«01_k».proof.Proof.Mix.Dwo.Point

@[expose] public section

set_option maxRecDepth 16384

noncomputable section

namespace Cert.KernelDwoIdeal.Mix

open Cert.KernelDwoIdeal Cert.KernelDwoIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, t.val / 16] := (by decide +kernel : ∀ t : Fin grid0.N, _)
theorem at1 : ∀ t : Fin cfg0.N, win0_1.index t = ![t.val % 8, t.val / 8 % 2] := (by decide +kernel : ∀ t : Fin grid0.N, _)
theorem at2 : ∀ t : Fin cfg0.N, win0_2.index t = ![0, t.val / 16, t.val / 8 % 2] := (by decide +kernel : ∀ t : Fin grid0.N, _)

theorem lt_N (t : Fin cfg0.N) : t.val < 32 := t.isLt

/-- The row and the column of the result that output block `n` holds at `r` and `s`. -/
def rw_ (n : ℕ) (r : Fin 1024) : Fin 2048 := Fin.ofNat 2048 (1024 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The heads' outputs and the cotangent, as the call is launched with them. -/
abbrev aA : S8192x2048.Idx → EReal := m ((c : Thread nD τ).loc main_arg0)
abbrev aY : S8192x2048.Idx → EReal := m ((c : Thread nD τ).loc main_arg2)

theorem iblk0_apply (t : Fin cfg0.N) (x : Fin 1024) (r : Fin 1024) :
    iblk m c 0 t (ix2 x r) = aA m c (ix2 (Fin.ofNat 8192 (1024 * (t.val % 8) + x.val)) (rw_ (t.val / 8) r)) := by
  have ht := lt_N t
  have e : ((cfg0.win 0).blk t).view.emb (ix2 x r)
      = (ix2 (Fin.ofNat 8192 (1024 * (t.val % 8) + x.val)) (rw_ (t.val / 8) r) : S8192x2048.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 1024 + 1 * r.val = _ % 2048; rw [at0]; show t.val / 16 * 1024 + 1 * r.val = (1024 * (t.val / 8 / 2) + r.val) % 2048; omega
  unfold iblk
  rw [View.read_apply, e]
  show V m c main_arg0 _ = _
  rw [V_main_arg0]

theorem iblk1_apply (t : Fin cfg0.N) (x : Fin 1024) (s : Fin 1024) :
    iblk m c 1 t (ix2 x s) = aY m c (ix2 (Fin.ofNat 8192 (1024 * (t.val % 8) + x.val)) (cl (t.val / 8) s)) := by
  have e : ((cfg0.win 1).blk t).view.emb (ix2 x s)
      = (ix2 (Fin.ofNat 8192 (1024 * (t.val % 8) + x.val)) (cl (t.val / 8) s) : S8192x2048.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 1024 + 1 * s.val = _ % 2048; rw [at1]; show t.val / 8 % 2 * 1024 + 1 * s.val = (1024 * (t.val / 8 % 2) + s.val) % 2048; omega
  unfold iblk
  rw [View.read_apply, e]
  show V m c main_arg2 _ = _
  rw [V_main_arg2]

/-- What block `k` of the rows adds to place `y` of output block `b`. -/
def term (b k : ℕ) (y : S1024x1024.Idx) : EReal :=
  ∑ x : Fin 1024, aA m c (ix2 (Fin.ofNat 8192 (1024 * k + x.val)) (rw_ b (y 0))) * aY m c (ix2 (Fin.ofNat 8192 (1024 * k + x.val)) (cl b (y 1)))

theorem part_eq (t : Fin cfg0.N) (r : Fin 1024) (s : Fin 1024) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 1024) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 1024) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 1024) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x1024.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the heads' outputs times every column of the cotangent. -/
def G : S1x2048x2048.Idx → EReal := fun i => ∑ j : Fin 8192, aA m c (ix2 j (i 1)) * aY m c (ix2 j (i 2))

theorem out_eq (t : Fin cfg0.N) (h7 : t.val % 8 = 7) (r : Fin 1024) (s : Fin 1024) :
    (outsAt0 m c t.val t.isLt).1 (ix3 0 r s) = G m c (ix3 0 (rw_ (t.val / 8) r) (cl (t.val / 8) s)) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aA m c (ix2 j (rw_ (t.val / 8) r)) * aY m c (ix2 j (cl (t.val / 8) s))

theorem emb2 (t : Fin cfg0.N) (r : Fin 1024) (s : Fin 1024) :
    ((cfg0.win 2).blk t).view.emb (ix3 (0 : Fin 1) r s) = (ix3 0 (rw_ (t.val / 8) r) (cl (t.val / 8) s) : S1x2048x2048.Idx) := by
  have ht := lt_N t
  funext a
  apply Fin.ext
  match a with
  | ⟨0, _⟩ => show win0_2.index t 0 * 1 + 1 * 0 = 0; rw [at2]; rfl
  | ⟨1, _⟩ => show win0_2.index t 1 * 1024 + 1 * r.val = _ % 2048; rw [at2]; show t.val / 16 * 1024 + 1 * r.val = (1024 * (t.val / 8 / 2) + r.val) % 2048; omega
  | ⟨2, _⟩ => show win0_2.index t 2 * 1024 + 1 * s.val = _ % 2048; rw [at2]; show t.val / 8 % 2 * 1024 + 1 * s.val = (1024 * (t.val / 8 % 2) + s.val) % 2048; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x1024x1024.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨z, a, b, rfl⟩ : ∃ (z : Fin 1) (a : Fin 2048) (b : Fin 2048), i = (ix3 z a b : S1x2048x2048.Idx) := ⟨i 0, i 1, i 2, ValueIdx.eq_ix3 i⟩
    obtain rfl : z = 0 := Subsingleton.elim _ _
    let t : Fin cfg0.N := ⟨16 * (a.val / 1024) + 8 * (b.val / 1024) + 7, by show _ < 32; omega⟩
    refine ⟨t, (flush0_2 t).mpr (by show (16 * (a.val / 1024) + 8 * (b.val / 1024) + 7) % 8 = 7; omega), ?_⟩
    have e := emb2 t ⟨a.val % 1024, by omega⟩ ⟨b.val % 1024, by omega⟩
    rw [show rw_ (t.val / 8) ⟨a.val % 1024, by omega⟩ = a from Fin.ext (by
        show (1024 * ((16 * (a.val / 1024) + 8 * (b.val / 1024) + 7) / 8 / 2) + a.val % 1024) % 2048 = a.val; omega),
      show cl (t.val / 8) ⟨b.val % 1024, by omega⟩ = b from Fin.ext (by
        show (1024 * ((16 * (a.val / 1024) + 8 * (b.val / 1024) + 7) / 8 % 2) + b.val % 1024) % 2048 = b.val; omega)] at e
    rw [← e]
    exact View.emb_mem_set _ _

end Cert.KernelDwoIdeal.Mix

end
-- ==== Proof.Mix.Dwo.Claims.lean ====
/- The claims about the gradient of the output weight. -/
module

public import proofs.«01_k».proof.Defs
public import proofs.«01_k».proof.Proof.Gen.KernelDwo.Frame
public import proofs.«01_k».proof.Proof.Gen.ReferenceDwoIdeal.Read
public import proofs.«01_k».proof.Proof.Mix.Dwo.Final

@[expose] public section

set_option maxRecDepth 16384

noncomputable section

namespace Cert.MixDwo

open Idealize.ShloMosaic Idealize.ShloMosaic.TcCoe Idealize.SL.Sem

theorem frame_k : Cert.quiescent_KernelDwo := fun m ρ _ => Cert.KernelDwo.Gen.frame m ρ
theorem frame_ki : Cert.quiescent_KernelDwoIdeal := fun m ρ _ => Cert.KernelDwoIdeal.Gen.frame m ρ
theorem frame_r : Cert.quiescent_ReferenceDwoIdeal := fun m ρ _ =>
  (θ_run Cert.ReferenceDwoIdeal.defs _ _).mono (fun r h => ⟨fun c => (h c).2, Idealize.ShloMosaic.sem_eq_zero_of_no_sems (by decide) r.2⟩)
    (Cert.ReferenceDwoIdeal.Value.run (F := Ideal) m ρ)
theorem preserves : Cert.preserves_KernelDwo_KernelDwoIdeal := trivial

/-- The call leaves the reference's gradient. -/
theorem algebraic : Cert.algebraic_KernelDwoIdeal_ReferenceDwoIdeal := by
  intro m g m' g' _ hagree
  refine ⟨_, Cert.KernelDwoIdeal.Value.run_blocks m g, ?_⟩
  refine (θ_run Cert.ReferenceDwoIdeal.defs _ _).mono (fun r h c => ?_) (Cert.ReferenceDwoIdeal.Value.run (F := Ideal) m' g')
  obtain ⟨a0, _, a2⟩ := hagree c
  refine ⟨(h c).1.trans ?_, (h c).2⟩
  rw [Cert.ReferenceDwoIdeal.Read.val_main_v7_eq, Cert.KernelDwoIdeal.Mix.final]
  refine funext fun i => ?_
  rw [Cert.ReferenceDwoIdeal.Read.val_main_v7_apply, Cert.ReferenceDwoIdeal.Read.val_main_v6_apply,
    Cert.ReferenceDwoIdeal.Read.val_main_v4_apply, Cert.ReferenceDwoIdeal.Read.val_main_v3_apply]
  unfold Cert.KernelDwoIdeal.Mix.G Cert.KernelDwoIdeal.Mix.aA Cert.KernelDwoIdeal.Mix.aY
  rw [← a0, ← a2]
  refine Finset.sum_congr rfl fun j _ => ?_
  rw [Cert.ReferenceDwoIdeal.Read.val_main_v0_apply]
  refine (mul_comm (G := EReal) _ _).trans ?_
  exact congrArg₂ (fun x y : EReal => x * y) (congrArg (m' _) (ValueIdx.eq_ix2 _)) (congrArg (m' _) (ValueIdx.eq_ix2 _))

end Cert.MixDwo

end
-- ==== Proof.Mix.Dmix.Final.lean ====
/- The gradient of the windowed layer's normed input: the array the call leaves. Each point of the grid makes one block
   of the product, whole. -/
module

public import proofs.«01_k».proof.Proof.Gen.KernelDmixIdeal.Value
public import proofs.«01_k».proof.Proof.Ffn.Blocks

@[expose] public section

set_option maxRecDepth 16384

noncomputable section

namespace Cert.KernelDmixIdeal.Mix

open Cert.KernelDmixIdeal Cert.KernelDmixIdeal.Gen Cert.Ffn Idealize.ShloMosaic Idealize.ShloMosaic.TcCoe Idealize.SL.Sem
open Idealize.ShloMosaic.Pipeline (Dat Window)
open Facts

/-! ## What one grid point leaves -/

/-- The product of a point's two blocks. -/
def part (a : S1024x2560.Idx → EReal) (w : S1x1x1024x2560.Idx → EReal) (r : Fin 1024) (s : Fin 1024) : EReal :=
  ∑ x : Fin 2560, a (ix2 r x) * w (ix4 0 0 s x)

theorem pay2_apply (a : S1024x2560.Idx → EReal) (w : S1x1x1024x2560.Idx → EReal) (r : Fin 1024) (s : Fin 1024) :
    k0_pay2 (F := Ideal) a w (ix2 r s) = part a w r s := by
  unfold k0_pay2 k0_pay1 part
  pointwise []

/-- A store through the whole block reads back as its payload. -/
theorem read_store {κ : Kind} {sp : Space} (V : View sig κ sp S1024x1024 .f32) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)

theorem out (c : Dev nD) (i : grid0.Coords) (arg3 : Memref sig .tc .vmem S1024x2560 .bf16) (harg3 : arg3.IsWhole) (arg4 : Memref sig .tc .vmem S1x1x1024x2560 .bf16) (harg4 : arg4.IsWhole)
    (arg5 : Memref sig .tc .vmem S1024x1024 .f32) (harg5 : arg5.IsWhole) (arg6 : Memref sig .tc .vmem S1024x1024 .f32) (harg6 : arg6.IsWhole)
    (x0 : Vec Ideal S1024x2560 .bf16) (x1 : Vec Ideal S1x1x1024x2560 .bf16) (r : Fin 1024) (s : Fin 1024) (h0 h1 h2) :
    out0_A_2 (F := Ideal) c i arg3 harg3 arg4 harg4 arg5 harg5 arg6 harg6 h0 h1 h2 x0 x1 (ix2 r s) = part x0 x1 r s := by
  unfold out0_A_2 kernelRun0_A
  dsimp only
  refine (read_store _ _ _ _ _).trans ?_
  unfold kernelRun0_A.sl.v13 View.readCov kernelRun0_A.sl.HS0_1
  rw [View.readAt_eq_ld, View.ld_unit_zero (S := S1024x1024) zero2]
  refine (read_store _ _ _ _ _).trans ?_
  simp only [View.readAt_eq_ld, harg3.read_unread, harg4.read_unread, harg6.read_unread]
  rw [View.ld_unit_zero (S := S1024x2560) zero2, View.ld_unit_zero (S := S1x1x1024x2560) zero4]
  exact pay2_apply _ _ _ _

/-! ## The array at the end -/

theorem at0 : ∀ t : Fin cfg0.N, win0_0.index t = ![t.val / 2, 0] := (by decide +kernel : ∀ t : Fin grid0.N, _)
theorem at1 : ∀ t : Fin cfg0.N, win0_1.index t = ![0, 0, t.val % 2, 0] := (by decide +kernel : ∀ t : Fin grid0.N, _)
theorem at2 : ∀ t : Fin cfg0.N, win0_2.index t = ![t.val / 2, t.val % 2] := (by decide +kernel : ∀ t : Fin grid0.N, _)

theorem lt_N (t : Fin cfg0.N) : t.val < 16 := t.isLt

/-- The row and the column of the result that a point's block holds at `r` and `s`. -/
def rw_ (n : ℕ) (r : Fin 1024) : Fin 8192 := Fin.ofNat 8192 (1024 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The cotangent and the weight, as the call is launched with them. -/
abbrev aY : S8192x2560.Idx → EReal := m ((c : Thread nD τ).loc main_arg2)
abbrev aW : S2048x2560.Idx → EReal := m ((c : Thread nD τ).loc main_arg1)

theorem V_main_v0 : V m c main_v0 = shapeCast S1x1x2048x2560 (aW m c) shapeCasts_S2048x2560_S1x1x2048x2560 := by
  unfold_abbrev_sides
  after_results
  rfl

theorem lead_apply (x : S2048x2560.Idx → EReal) (k : Fin 2048) (d : Fin 2560) :
    shapeCast S1x1x2048x2560 x shapeCasts_S2048x2560_S1x1x2048x2560 (ix4 (0 : Fin 1) (0 : Fin 1) k d) = x (ix2 k d) := by
  pointwise

theorem iblk0_apply (t : Fin cfg0.N) (r : Fin 1024) (x : Fin 2560) :
    iblk m c 0 t (ix2 r x) = aY m c (ix2 (rw_ t.val r) x) := by
  have ht := lt_N t
  have e : ((cfg0.win 0).blk t).view.emb (ix2 r x) = (ix2 (rw_ t.val r) x : S8192x2560.Idx) := by
    funext a
    apply Fin.ext
    match a with
    | ⟨0, _⟩ => show win0_0.index t 0 * 1024 + 1 * r.val = _ % 8192; rw [at0]; show t.val / 2 * 1024 + 1 * r.val = (1024 * (t.val / 2) + r.val) % 8192; omega
    | ⟨1, _⟩ => show win0_0.index t 1 * 2560 + 1 * x.val = x.val; rw [at0]; show 0 * 2560 + 1 * x.val = _; omega
  unfold iblk
  rw [View.read_apply, e]
  show V m c main_arg2 _ = _
  rw [V_main_arg2]

theorem iblk1_apply (t : Fin cfg0.N) (s : Fin 1024) (x : Fin 2560) :
    iblk m c 1 t (ix4 (0 : Fin 1) (0 : Fin 1) s x) = aW m c (ix2 (cl t.val s) x) := by
  have e : ((cfg0.win 1).blk t).view.emb (ix4 (0 : Fin 1) (0 : Fin 1) s x) = (ix4 0 0 (cl t.val s) x : S1x1x2048x2560.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 1024 + 1 * s.val = _ % 2048; rw [at1]; show t.val % 2 * 1024 + 1 * s.val = (1024 * (t.val % 2) + s.val) % 2048; omega
    | ⟨3, _⟩ => show win0_1.index t 3 * 2560 + 1 * x.val = x.val; rw [at1]; show 0 * 2560 + 1 * x.val = _; omega
  unfold iblk
  rw [View.read_apply, e]
  show V m c main_v0 _ = _
  rw [V_main_v0, lead_apply]

/-- The result: every row of the cotangent times every row of the weight. -/
def G : S8192x2048.Idx → EReal := fun i => ∑ j : Fin 2560, aY m c (ix2 (i 0) j) * aW m c (ix2 (i 1) j)

theorem part_eq (t : Fin cfg0.N) (r : Fin 1024) (s : Fin 1024) :
    part (iblk m c 0 t) (iblk m c 1 t) r s = G m c (ix2 (rw_ t.val r) (cl t.val s)) := by
  unfold part G
  exact Finset.sum_congr rfl fun x _ => by rw [iblk0_apply, iblk1_apply]; rfl

theorem emb2 (t : Fin cfg0.N) (r : Fin 1024) (s : Fin 1024) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 2 * 1024 + 1 * r.val = (1024 * (t.val / 2) + r.val) % 8192; omega
  | ⟨1, _⟩ => show win0_2.index t 1 * 1024 + 1 * s.val = _ % 2048; rw [at2]; show t.val % 2 * 1024 + 1 * s.val = (1024 * (t.val % 2) + s.val) % 2048; omega

theorem final : (dats m 0 c).arrAt 2 cfg0.N = G m c := by
  refine (dats m 0 c).arrAt_eq_of_cover 2 (G m c) (fun t hf => ?_) fun i => ?_
  · rw [Value.flushed2_A]
    refine funext fun (y : S1024x1024.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨2 * (a.val / 1024) + b.val / 1024, by show _ < 16; omega⟩
    refine ⟨t, flush0_2 t, ?_⟩
    have e := emb2 t ⟨a.val % 1024, by omega⟩ ⟨b.val % 1024, by omega⟩
    rw [show rw_ t.val ⟨a.val % 1024, by omega⟩ = a from Fin.ext (by
        show (1024 * ((2 * (a.val / 1024) + b.val / 1024) / 2) + a.val % 1024) % 8192 = a.val; omega),
      show cl t.val ⟨b.val % 1024, by omega⟩ = b from Fin.ext (by
        show (1024 * ((2 * (a.val / 1024) + b.val / 1024) % 2) + b.val % 1024) % 2048 = b.val; omega)] at e
    rw [← e]
    exact View.emb_mem_set _ _

end Cert.KernelDmixIdeal.Mix

end
-- ==== Proof.Mix.Dmix.Claims.lean ====
/- The claims about the gradient of the windowed layer's normed input. -/
module

public import proofs.«01_k».proof.Defs
public import proofs.«01_k».proof.Proof.Gen.KernelDmix.Frame
public import proofs.«01_k».proof.Proof.Gen.ReferenceDmixIdeal.Read
public import proofs.«01_k».proof.Proof.Mix.Dmix.Final

@[expose] public section

set_option maxRecDepth 16384

noncomputable section

namespace Cert.MixDmix

open Idealize.ShloMosaic Idealize.ShloMosaic.TcCoe Idealize.SL.Sem

theorem frame_k : Cert.quiescent_KernelDmix := fun m ρ _ => Cert.KernelDmix.Gen.frame m ρ
theorem frame_ki : Cert.quiescent_KernelDmixIdeal := fun m ρ _ => Cert.KernelDmixIdeal.Gen.frame m ρ
theorem frame_r : Cert.quiescent_ReferenceDmixIdeal := fun m ρ _ =>
  (θ_run Cert.ReferenceDmixIdeal.defs _ _).mono (fun r h => ⟨fun c => (h c).2, Idealize.ShloMosaic.sem_eq_zero_of_no_sems (by decide) r.2⟩)
    (Cert.ReferenceDmixIdeal.Value.run (F := Ideal) m ρ)
theorem preserves : Cert.preserves_KernelDmix_KernelDmixIdeal := trivial

/-- The call leaves the reference's gradient. -/
theorem algebraic : Cert.algebraic_KernelDmixIdeal_ReferenceDmixIdeal := by
  intro m g m' g' _ hagree
  refine ⟨_, Cert.KernelDmixIdeal.Value.run_blocks m g, ?_⟩
  refine (θ_run Cert.ReferenceDmixIdeal.defs _ _).mono (fun r h c => ?_) (Cert.ReferenceDmixIdeal.Value.run (F := Ideal) m' g')
  obtain ⟨_, a1, a2⟩ := hagree c
  refine ⟨(h c).1.trans ?_, (h c).2⟩
  rw [Cert.ReferenceDmixIdeal.Read.val_main_v6_eq, Cert.KernelDmixIdeal.Mix.final]
  refine funext fun i => ?_
  rw [Cert.ReferenceDmixIdeal.Read.val_main_v6_apply]
  unfold Cert.KernelDmixIdeal.Mix.G Cert.KernelDmixIdeal.Mix.aY Cert.KernelDmixIdeal.Mix.aW
  rw [← a1, ← a2]
  refine Finset.sum_congr rfl fun j _ => ?_
  rw [Cert.ReferenceDmixIdeal.Read.val_main_v1_apply, Cert.ReferenceDmixIdeal.Read.val_main_v3_apply]
  exact congrArg₂ (fun x y : EReal => x * y) (congrArg (m' _) (ValueIdx.eq_ix2 _)) (congrArg (m' _) (ValueIdx.eq_ix2 _))

end Cert.MixDmix

end
-- ==== Proof.Mix.Dwqkv.Point.lean ====
/- The gradient of the weight of queries, keys and values: what one grid point leaves in its accumulator and in its output block. -/
module

public import proofs.«01_k».proof.Proof.Gen.KernelDwqkvIdeal.Frame
public import proofs.«01_k».proof.Proof.Ffn.Blocks

@[expose] public section

set_option maxRecDepth 16384

noncomputable section

namespace Cert.KernelDwqkvIdeal.Mix

open Cert.KernelDwqkvIdeal Cert.KernelDwqkvIdeal.Gen Cert.Ffn Idealize.ShloMosaic Idealize.ShloMosaic.TcCoe Idealize.SL.Sem

/-- The product of a point's two blocks, over their rows. -/
def part (a : S1024x1024.Idx → EReal) (w : S1024x1280.Idx → EReal) (r : Fin 1024) (s : Fin 1280) : EReal :=
  ∑ x : Fin 1024, a (ix2 x r) * w (ix2 x s)

theorem pay2_apply (a : S1024x1024.Idx → EReal) (w : S1024x1280.Idx → EReal) (r : Fin 1024) (s : Fin 1280) :
    k0_pay2 (F := Ideal) a w (ix2 r s) = part a w r s := by
  unfold k0_pay2 k0_pay1 part
  pointwise []
theorem pay3_apply (a : S1024x1024.Idx → EReal) (w : S1024x1280.Idx → EReal) (z : S1024x1280.Idx → EReal) (r : Fin 1024) (s : Fin 1280) :
    k0_pay3 (F := Ideal) a w z (ix2 r s) = z (ix2 r s) + part a w r s := by
  unfold k0_pay3 k0_pay1 part
  pointwise []
theorem pay4_apply (z : S1024x1280.Idx → EReal) (r : Fin 1024) (s : Fin 1280) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S1024x1280 .f32) (f) (w : S1024x1280.Idx → EReal) (L) (y) :
    V.read (Elt Ideal) (V.writes (Elt Ideal) f (⟨Rect.unit (s := S1024x1280) ![0, 0] S1024x1280.size inb_S1024x1280_S1024x1280_0_0, w⟩ :: L)) y = w y :=
  View.read_writes_cons_unit_of_mem V f inb_S1024x1280_S1024x1280_0_0 w L y y rfl (by intro a; fin_cases a <;> simp)
theorem read_out {κ : Kind} {sp : Space} (V : View sig κ sp S1x1024x1280 .bf16) (f) (w : S1x1024x1280.Idx → EReal) (L) (y) :
    V.read (Elt Ideal) (V.writes (Elt Ideal) f (⟨Rect.unit (s := S1x1024x1280) ![0, 0, 0] S1x1024x1280.size inb_S1x1024x1280_S1x1024x1280_0_0_0, w⟩ :: L)) y = w y :=
  View.read_writes_cons_unit_of_mem V f inb_S1x1024x1280_S1x1024x1280_0_0_0 w L y y rfl (by intro a; fin_cases a <;> simp)

section
variable (c : Dev nD) (i : grid0.Coords) (arg3 : Memref sig .tc .vmem S1024x1024 .bf16) (harg3 : arg3.IsWhole) (arg4 : Memref sig .tc .vmem S1024x1280 .bf16) (harg4 : arg4.IsWhole)
  (arg5 : Memref sig .tc .vmem S1x1024x1280 .bf16) (harg5 : arg5.IsWhole) (arg6 : Memref sig .tc .vmem S1024x1280 .f32) (harg6 : arg6.IsWhole)
  (x0 : Vec Ideal S1024x1024 .bf16) (x1 : Vec Ideal S1024x1280 .bf16) (xs0 : Vec Ideal S1024x1280 .f32) (r : Fin 1024) (s : Fin 1280)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x1024) zero2, View.ld_unit_zero (S := S1024x1280) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x1024) zero2, View.ld_unit_zero (S := S1024x1280) zero2, View.ld_unit_zero (S := S1024x1280) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x1024) zero2, View.ld_unit_zero (S := S1024x1280) zero2, View.ld_unit_zero (S := S1024x1280) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v12 View.readCov kernelRun0_C.sl.HS0_1
  rw [View.readAt_eq_ld, View.ld_unit_zero (S := S1024x1280) zero2]
  refine (read_store _ _ _ _ _).trans ?_
  simp only [View.readAt_eq_ld, harg3.read_unread, harg4.read_unread, harg6.read_unread]
  rw [View.ld_unit_zero (S := S1024x1024) zero2, View.ld_unit_zero (S := S1024x1280) zero2, View.ld_unit_zero (S := S1024x1280) zero2]
  exact pay3_apply _ _ _ _ _
end

end Cert.KernelDwqkvIdeal.Mix

end
-- ==== Proof.Mix.Dwqkv.Final.lean ====
/- The gradient of the weight of queries, keys and values: the array the call leaves, as one sum over all rows. -/
module

public import proofs.«01_k».proof.Proof.Gen.KernelDwqkvIdeal.Value
public import proofs.«01_k».proof.Proof.Mix.Dwqkv.Point

@[expose] public section

set_option maxRecDepth 16384

noncomputable section

namespace Cert.KernelDwqkvIdeal.Mix

open Cert.KernelDwqkvIdeal Cert.KernelDwqkvIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, t.val / 16] := (by decide +kernel : ∀ t : Fin grid0.N, _)
theorem at1 : ∀ t : Fin cfg0.N, win0_1.index t = ![t.val % 8, t.val / 8 % 2] := (by decide +kernel : ∀ t : Fin grid0.N, _)
theorem at2 : ∀ t : Fin cfg0.N, win0_2.index t = ![0, t.val / 16, t.val / 8 % 2] := (by decide +kernel : ∀ t : Fin grid0.N, _)

theorem lt_N (t : Fin cfg0.N) : t.val < 32 := t.isLt

/-- The row and the column of the result that output block `n` holds at `r` and `s`. -/
def rw_ (n : ℕ) (r : Fin 1024) : Fin 2048 := Fin.ofNat 2048 (1024 * (n / 2) + r.val)
def cl (n : ℕ) (s : Fin 1280) : Fin 2560 := Fin.ofNat 2560 (1280 * (n % 2) + s.val)

variable (m : (ℓ : Loc nD τ sig) → Buf (Elt Ideal) ℓ) (c : Dev nD)

/-- The normed input and the cotangent, as the call is launched with them. -/
abbrev aA : S8192x2048.Idx → EReal := m ((c : Thread nD τ).loc main_arg0)
abbrev aY : S8192x2560.Idx → EReal := m ((c : Thread nD τ).loc main_arg2)

theorem iblk0_apply (t : Fin cfg0.N) (x : Fin 1024) (r : Fin 1024) :
    iblk m c 0 t (ix2 x r) = aA m c (ix2 (Fin.ofNat 8192 (1024 * (t.val % 8) + x.val)) (rw_ (t.val / 8) r)) := by
  have ht := lt_N t
  have e : ((cfg0.win 0).blk t).view.emb (ix2 x r)
      = (ix2 (Fin.ofNat 8192 (1024 * (t.val % 8) + x.val)) (rw_ (t.val / 8) r) : S8192x2048.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 1024 + 1 * r.val = _ % 2048; rw [at0]; show t.val / 16 * 1024 + 1 * r.val = (1024 * (t.val / 8 / 2) + r.val) % 2048; omega
  unfold iblk
  rw [View.read_apply, e]
  show V m c main_arg0 _ = _
  rw [V_main_arg0]

theorem iblk1_apply (t : Fin cfg0.N) (x : Fin 1024) (s : Fin 1280) :
    iblk m c 1 t (ix2 x s) = aY m c (ix2 (Fin.ofNat 8192 (1024 * (t.val % 8) + x.val)) (cl (t.val / 8) s)) := by
  have e : ((cfg0.win 1).blk t).view.emb (ix2 x s)
      = (ix2 (Fin.ofNat 8192 (1024 * (t.val % 8) + x.val)) (cl (t.val / 8) s) : S8192x2560.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 1280 + 1 * s.val = _ % 2560; rw [at1]; show t.val / 8 % 2 * 1280 + 1 * s.val = (1280 * (t.val / 8 % 2) + s.val) % 2560; omega
  unfold iblk
  rw [View.read_apply, e]
  show V m c main_arg2 _ = _
  rw [V_main_arg2]

/-- What block `k` of the rows adds to place `y` of output block `b`. -/
def term (b k : ℕ) (y : S1024x1280.Idx) : EReal :=
  ∑ x : Fin 1024, aA m c (ix2 (Fin.ofNat 8192 (1024 * k + x.val)) (rw_ b (y 0))) * aY m c (ix2 (Fin.ofNat 8192 (1024 * k + x.val)) (cl b (y 1)))

theorem part_eq (t : Fin cfg0.N) (r : Fin 1024) (s : Fin 1280) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 1280) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 1280) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 1280) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x1280.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the normed input times every column of the cotangent. -/
def G : S1x2048x2560.Idx → EReal := fun i => ∑ j : Fin 8192, aA m c (ix2 j (i 1)) * aY m c (ix2 j (i 2))

theorem out_eq (t : Fin cfg0.N) (h7 : t.val % 8 = 7) (r : Fin 1024) (s : Fin 1280) :
    (outsAt0 m c t.val t.isLt).1 (ix3 0 r s) = G m c (ix3 0 (rw_ (t.val / 8) r) (cl (t.val / 8) s)) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aA m c (ix2 j (rw_ (t.val / 8) r)) * aY m c (ix2 j (cl (t.val / 8) s))

theorem emb2 (t : Fin cfg0.N) (r : Fin 1024) (s : Fin 1280) :
    ((cfg0.win 2).blk t).view.emb (ix3 (0 : Fin 1) r s) = (ix3 0 (rw_ (t.val / 8) r) (cl (t.val / 8) s) : S1x2048x2560.Idx) := by
  have ht := lt_N t
  funext a
  apply Fin.ext
  match a with
  | ⟨0, _⟩ => show win0_2.index t 0 * 1 + 1 * 0 = 0; rw [at2]; rfl
  | ⟨1, _⟩ => show win0_2.index t 1 * 1024 + 1 * r.val = _ % 2048; rw [at2]; show t.val / 16 * 1024 + 1 * r.val = (1024 * (t.val / 8 / 2) + r.val) % 2048; omega
  | ⟨2, _⟩ => show win0_2.index t 2 * 1280 + 1 * s.val = _ % 2560; rw [at2]; show t.val / 8 % 2 * 1280 + 1 * s.val = (1280 * (t.val / 8 % 2) + s.val) % 2560; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x1024x1280.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨z, a, b, rfl⟩ : ∃ (z : Fin 1) (a : Fin 2048) (b : Fin 2560), i = (ix3 z a b : S1x2048x2560.Idx) := ⟨i 0, i 1, i 2, ValueIdx.eq_ix3 i⟩
    obtain rfl : z = 0 := Subsingleton.elim _ _
    let t : Fin cfg0.N := ⟨16 * (a.val / 1024) + 8 * (b.val / 1280) + 7, by show _ < 32; omega⟩
    refine ⟨t, (flush0_2 t).mpr (by show (16 * (a.val / 1024) + 8 * (b.val / 1280) + 7) % 8 = 7; omega), ?_⟩
    have e := emb2 t ⟨a.val % 1024, by omega⟩ ⟨b.val % 1280, by omega⟩
    rw [show rw_ (t.val / 8) ⟨a.val % 1024, by omega⟩ = a from Fin.ext (by
        show (1024 * ((16 * (a.val / 1024) + 8 * (b.val / 1280) + 7) / 8 / 2) + a.val % 1024) % 2048 = a.val; omega),
      show cl (t.val / 8) ⟨b.val % 1280, by omega⟩ = b from Fin.ext (by
        show (1280 * ((16 * (a.val / 1024) + 8 * (b.val / 1280) + 7) / 8 % 2) + b.val % 1280) % 2560 = b.val; omega)] at e
    rw [← e]
    exact View.emb_mem_set _ _

end Cert.KernelDwqkvIdeal.Mix

end
-- ==== Proof.Mix.Dwqkv.Claims.lean ====
/- The claims about the gradient of the weight of queries, keys and values. -/
module

public import proofs.«01_k».proof.Defs
public import proofs.«01_k».proof.Proof.Gen.KernelDwqkv.Frame
public import proofs.«01_k».proof.Proof.Gen.ReferenceDwqkvIdeal.Read
public import proofs.«01_k».proof.Proof.Mix.Dwqkv.Final

@[expose] public section

set_option maxRecDepth 16384

noncomputable section

namespace Cert.MixDwqkv

open Idealize.ShloMosaic Idealize.ShloMosaic.TcCoe Idealize.SL.Sem

theorem frame_k : Cert.quiescent_KernelDwqkv := fun m ρ _ => Cert.KernelDwqkv.Gen.frame m ρ
theorem frame_ki : Cert.quiescent_KernelDwqkvIdeal := fun m ρ _ => Cert.KernelDwqkvIdeal.Gen.frame m ρ
theorem frame_r : Cert.quiescent_ReferenceDwqkvIdeal := fun m ρ _ =>
  (θ_run Cert.ReferenceDwqkvIdeal.defs _ _).mono (fun r h => ⟨fun c => (h c).2, Idealize.ShloMosaic.sem_eq_zero_of_no_sems (by decide) r.2⟩)
    (Cert.ReferenceDwqkvIdeal.Value.run (F := Ideal) m ρ)
theorem preserves : Cert.preserves_KernelDwqkv_KernelDwqkvIdeal := trivial

/-- The call leaves the reference's gradient. -/
theorem algebraic : Cert.algebraic_KernelDwqkvIdeal_ReferenceDwqkvIdeal := by
  intro m g m' g' _ hagree
  refine ⟨_, Cert.KernelDwqkvIdeal.Value.run_blocks m g, ?_⟩
  refine (θ_run Cert.ReferenceDwqkvIdeal.defs _ _).mono (fun r h c => ?_) (Cert.ReferenceDwqkvIdeal.Value.run (F := Ideal) m' g')
  obtain ⟨a0, _, a2⟩ := hagree c
  refine ⟨(h c).1.trans ?_, (h c).2⟩
  rw [Cert.ReferenceDwqkvIdeal.Read.val_main_v8_eq, Cert.KernelDwqkvIdeal.Mix.final]
  refine funext fun i => ?_
  rw [Cert.ReferenceDwqkvIdeal.Read.val_main_v8_apply, Cert.ReferenceDwqkvIdeal.Read.val_main_v7_apply,
    Cert.ReferenceDwqkvIdeal.Read.val_main_v5_apply, Cert.ReferenceDwqkvIdeal.Read.val_main_v4_apply]
  unfold Cert.KernelDwqkvIdeal.Mix.G Cert.KernelDwqkvIdeal.Mix.aA Cert.KernelDwqkvIdeal.Mix.aY
  rw [← a0, ← a2]
  refine Finset.sum_congr rfl fun j _ => ?_
  rw [Cert.ReferenceDwqkvIdeal.Read.val_main_v0_apply, Cert.ReferenceDwqkvIdeal.Read.val_main_v3_apply]
  refine (mul_comm (G := EReal) _ _).trans ?_
  exact congrArg₂ (fun x y : EReal => x * y) (congrArg (m' _) (ValueIdx.eq_ix2 _)) (congrArg (m' _) (ValueIdx.eq_ix2 _))

end Cert.MixDwqkv

end
-- ==== Proof.Flash.Tile.lean ====
/- One tile of the forward attention: what the body's payloads compute at an index, over the extended reals.

   A grid point holds 1024 queries of one head and that head's keys and values whole. Trip `t` of its loop takes the 512
   keys from row `512 t` on. -/
module

public import proofs.«01_k».proof.Proof.Gen.KernelFlashIdeal.Skeleton
public import Idealize.ShloMosaic.Lib.Pipeline.FrameBody
public import Idealize.ShloMosaic.Lib.Pointwise

@[expose] public section

set_option maxRecDepth 16384

noncomputable section

namespace Cert.KernelFlashIdeal.Flash

open Cert.KernelFlashIdeal Cert.KernelFlashIdeal.Gen Idealize.ShloMosaic

/-- Row `j` of an axis of 8192 rows, for any natural number. -/
def row (j : ℕ) : Fin 8192 := ⟨j % 8192, Nat.mod_lt _ (by norm_num)⟩

/-- The logit of query row `r` against key `j`. -/
def sT (q : S1x1024x192.Idx → EReal) (k : S1x8192x192.Idx → EReal) (r : Fin 1024) (j : ℕ) : EReal :=
  ∑ d : Fin 192, q (ix3 0 r d) * k (ix3 0 (row j) d)

/-- Trip `t`'s keys and values. -/
def keys (k : S1x8192x192.Idx → EReal) (t : Fin k0_t1_loop.trips) : S1x512x192.Idx → EReal :=
  View.ld (Val := Elt Ideal) (e' := .bf16) k (Rect.unit (s := S1x8192x192) (k0_off1 t) S1x512x192.size (k0_off1_inb t))
def vals (v : S1x8192x128.Idx → EReal) (t : Fin k0_t1_loop.trips) : S1x512x128.Idx → EReal :=
  View.ld (Val := Elt Ideal) (e' := .bf16) v (Rect.unit (s := S1x8192x128) (k0_off2 t) S1x512x128.size (k0_off2_inb t))

theorem trips_lt (t : Fin k0_t1_loop.trips) : t.val < 16 := Nat.lt_of_lt_of_le t.isLt k0_t1_abs.2.1

theorem keys_apply (k : S1x8192x192.Idx → EReal) (t : Fin k0_t1_loop.trips) (j : Fin 512) (d : Fin 192) :
    keys k t (ix3 0 j d) = k (ix3 0 (row (512 * t.val + j.val)) d) := by
  have ht := trips_lt t
  show k _ = k _
  congr 1
  funext a
  apply Fin.ext
  match a with
  | ⟨0, _⟩ => show k0_off1 t 0 + 1 * 0 = 0; rw [k0_off1_eq]; rfl
  | ⟨1, _⟩ => show k0_off1 t 1 + 1 * j.val = (512 * t.val + j.val) % 8192; rw [k0_off1_eq]; show 512 * t.val + 1 * j.val = _; omega
  | ⟨2, _⟩ => show k0_off1 t 2 + 1 * d.val = d.val; rw [k0_off1_eq]; show 0 + 1 * d.val = _; omega

theorem vals_apply (v : S1x8192x128.Idx → EReal) (t : Fin k0_t1_loop.trips) (j : Fin 512) (d : Fin 128) :
    vals v t (ix3 0 j d) = v (ix3 0 (row (512 * t.val + j.val)) d) := by
  have ht := trips_lt t
  show v _ = v _
  congr 1
  funext a
  apply Fin.ext
  match a with
  | ⟨0, _⟩ => show k0_off2 t 0 + 1 * 0 = 0; rw [k0_off2_eq]; rfl
  | ⟨1, _⟩ => show k0_off2 t 1 + 1 * j.val = (512 * t.val + j.val) % 8192; rw [k0_off2_eq]; show 512 * t.val + 1 * j.val = _; omega
  | ⟨2, _⟩ => show k0_off2 t 2 + 1 * d.val = d.val; rw [k0_off2_eq]; show 0 + 1 * d.val = _; omega

variable (q : S1x1024x192.Idx → EReal) (k : S1x8192x192.Idx → EReal) (v : S1x8192x128.Idx → EReal) (t : Fin k0_t1_loop.trips)

theorem pay2_apply (r : Fin 1024) (j : Fin 512) :
    k0_pay2 (F := Ideal) q (keys k t) (ix2 r j) = sT q k r (512 * t.val + j.val) := by
  unfold k0_pay2 sT
  pointwise []
  simp only [keys_apply]

/-- The greatest logit of a row after a trip: the old one against the trip's 512. -/
def mx (a : S1024x128.Idx → EReal) (r : Fin 1024) (l : Fin 128) : EReal :=
  max (a (ix2 r l)) (Finset.univ.fold max (Ideal.ofBits .f32 0xFF800000#32) fun j : Fin 512 => sT q k r (512 * t.val + j.val))

theorem pay3_apply (a : S1024x128.Idx → EReal) (r : Fin 1024) (l : Fin 128) :
    k0_pay3 (F := Ideal) q (keys k t) a (ix2 r l) = mx q k t a r l := by
  unfold k0_pay3 mx
  pointwise []
  simp only [pay2_apply]

theorem pay4_apply (a : S1024x128.Idx → EReal) (r : Fin 1024) (l : Fin 128) :
    k0_pay4 (F := Ideal) q (keys k t) a (ix2 r l) = Ideal.exp2 (a (ix2 r l) - mx q k t a r l) := by
  unfold k0_pay4
  pointwise []
  simp only [pay3_apply]
  rfl

theorem pay5_apply (a : S1024x128.Idx → EReal) (r : Fin 1024) (j : Fin 512) :
    k0_pay5 (F := Ideal) q (keys k t) a (ix2 r j)
      = Ideal.exp2 (sT q k r (512 * t.val + j.val) - mx q k t a r ⟨j.val % 128, Nat.mod_lt _ (by norm_num)⟩) := by
  have e : concatenate S1024x512 1 (List.replicate 4 (⟨S1024x128, k0_pay3 (F := Ideal) q (keys k t) a⟩ : (s : Shape) × (s.Idx → EReal)))
      concatenates_S1024x128_S1024x128_S1024x128_S1024x128_S1024x512_d1 (ix2 r j)
        = k0_pay3 (F := Ideal) q (keys k t) a (ix2 r ⟨j.val % 128, Nat.mod_lt _ (by norm_num)⟩) :=
    concatenate_replicate_apply (t := S1024x512) (s₁ := S1024x128) 1 4 _ _ rfl _ _ rfl
      (fun b hb => by fin_cases b; · rfl
                      · exact absurd rfl hb)
  unfold k0_pay5
  show Ideal.exp2 (k0_pay2 (F := Ideal) q (keys k t) (ix2 r j) - concatenate S1024x512 1 (List.replicate 4 (⟨S1024x128, k0_pay3 (F := Ideal) q (keys k t) a⟩ : (s : Shape) × (s.Idx → EReal)))
      concatenates_S1024x128_S1024x128_S1024x128_S1024x128_S1024x512_d1 (ix2 r j)) = _
  rw [e, pay2_apply, pay3_apply]

theorem pay6_apply (a b : S1024x128.Idx → EReal) (r : Fin 1024) (l : Fin 128) :
    k0_pay6 (F := Ideal) q (keys k t) a b (ix2 r l)
      = Ideal.exp2 (a (ix2 r l) - mx q k t a r l) * b (ix2 r l)
        + ∑ j : Fin 512, Ideal.exp2 (sT q k r (512 * t.val + j.val) - mx q k t a r ⟨j.val % 128, Nat.mod_lt _ (by norm_num)⟩) := by
  unfold k0_pay6
  pointwise []
  simp only [pay4_apply, pay5_apply]

theorem pay7_apply (a e : S1024x128.Idx → EReal) (r : Fin 1024) (d : Fin 128) :
    k0_pay7 (F := Ideal) q (keys k t) a e (vals v t) (ix2 r d)
      = Ideal.exp2 (a (ix2 r d) - mx q k t a r d) * e (ix2 r d)
        + ∑ j : Fin 512, Ideal.exp2 (sT q k r (512 * t.val + j.val) - mx q k t a r ⟨j.val % 128, Nat.mod_lt _ (by norm_num)⟩)
            * v (ix3 0 (row (512 * t.val + j.val)) d) := by
  unfold k0_pay7
  pointwise []
  simp only [pay4_apply, pay5_apply, vals_apply]

end Cert.KernelFlashIdeal.Flash
-- ==== Proof.Flash.Math.lean ====
/- The real mathematics of the running softmax: whatever number is taken off the exponents, the quotient of the two sums
   and the log-sum do not depend on it. -/
module

public import proofs.«01_k».proof.Proof.Attn.Math

@[expose] public section

noncomputable section

namespace Cert.Flash

open Cert.Attn

/-- Two to the power of `x`. -/
def e2 (x : ℝ) : ℝ := Real.rpow 2 x

theorem e2_pos (x : ℝ) : 0 < e2 x := Real.rpow_pos_of_pos (by norm_num) x
theorem e2_mul (x y : ℝ) : e2 x * e2 y = e2 (x + y) := (Real.rpow_add (by norm_num) x y).symm

/-- Changing the number taken off rescales a term. -/
theorem e2_shift (M N x : ℝ) : e2 (M - N) * e2 (x - M) = e2 (x - N) := by
  rw [e2_mul]; congr 1; ring

theorem log2_ne : Real.log 2 ≠ 0 := (Real.log_pos (by norm_num)).ne'

theorem e2_eq_exp (x : ℝ) : e2 x = Real.exp (x * Real.log 2) := by
  unfold e2; rw [Real.rpow_eq_pow, Real.rpow_def_of_pos (by norm_num), mul_comm]

variable {n a b : ℕ} (q k : Fin n → Fin a → ℝ) (v : Fin n → Fin b → ℝ) (c : ℝ) (M : Fin n → ℝ)

/-- The logit in base two, from the scaled query. -/
def sc2 (j i : Fin n) : ℝ := ∑ d, (q j d * (c * (1 / Real.log 2))) * k i d

theorem sc2_eq (j i : Fin n) : sc2 q k c j i * Real.log 2 = sc q k c j i := by
  have h2 := log2_ne
  unfold sc2 sc; rw [Finset.sum_mul, Finset.sum_mul]
  exact Finset.sum_congr rfl fun d _ => by field_simp

/-- A term of the running sums against the exponential of the logit less `M`. -/
theorem e2_eq_ex (N : ℝ) (j i : Fin n) :
    e2 (sc2 q k c j i - N) = ex q k c M j i * Real.exp (M j - N * Real.log 2) := by
  unfold ex
  rw [e2_eq_exp, ← Real.exp_add, sub_mul, sc2_eq]
  congr 1; ring

theorem sum_e2 (N : ℝ) (j : Fin n) :
    ∑ i, e2 (sc2 q k c j i - N) = ls q k c M j * Real.exp (M j - N * Real.log 2) := by
  unfold ls; rw [Finset.sum_mul]
  exact Finset.sum_congr rfl fun i _ => e2_eq_ex q k c M N j i

/-- The quotient of the running sums is the weighted sum of the values. -/
theorem out_eq (N : ℝ) (j : Fin n) (d : Fin b) :
    (∑ i, e2 (sc2 q k c j i - N) * v i d) * (1 / ∑ i, e2 (sc2 q k c j i - N)) = ∑ i, pr q k c M j i * v i d := by
  have hl := (ls_pos q k c M j).ne'
  have he := (Real.exp_pos (M j - N * Real.log 2)).ne'
  rw [sum_e2 q k c M N, Finset.sum_mul]
  refine Finset.sum_congr rfl fun i _ => ?_
  rw [e2_eq_ex q k c M N]
  unfold pr; field_simp

/-- The log-sum in base two. -/
theorem lse_eq (N : ℝ) (j : Fin n) :
    N + Real.log (∑ i, e2 (sc2 q k c j i - N)) * (1 / Real.log 2)
      = (M j + Real.log (ls q k c M j)) * (1 / Real.log 2) := by
  have h2 := log2_ne
  rw [sum_e2 q k c M N, Real.log_mul (ls_pos q k c M j).ne' (Real.exp_pos _).ne', Real.log_exp]
  field_simp; ring

theorem sum_e2_pos (N : ℝ) (j : Fin n) : 0 < ∑ i, e2 (sc2 q k c j i - N) :=
  Finset.sum_pos (fun i _ => e2_pos _) ⟨j, Finset.mem_univ _⟩

/-- The greater of two reals read among the extended reals. -/
theorem max_coe (x y : ℝ) : max (x : EReal) y = ((max x y : ℝ) : EReal) :=
  (EReal.coe_strictMono.monotone.map_max).symm

end Cert.Flash

end
-- ==== Proof.Flash.Loop.lean ====
/- The loop over the keys at one grid point: the running greatest logit, the running sum of the weights and the running
   weighted sum of the values after any number of trips. -/
module

public import proofs.«01_k».proof.Proof.Gen.KernelFlashIdeal.Loops
public import proofs.«01_k».proof.Proof.Flash.Tile
public import proofs.«01_k».proof.Proof.Flash.Math
public import Idealize.ShloMosaic.Lib.Pipeline.Value
public import Idealize.ShloMosaic.Lib.WritesUnit

@[expose] public section

set_option maxRecDepth 16384

noncomputable section

namespace Cert.KernelFlashIdeal.Flash

open Cert.KernelFlashIdeal Cert.KernelFlashIdeal.Gen Idealize.ShloMosaic Idealize.ShloMosaic.TcCoe Idealize.SL.Sem
open Cert.Flash Cert.Attn

/-- What one trip leaves in the three accumulators, given the arrays it reads. -/
def new7 (q : S1x1024x192.Idx → EReal) (k : S1x8192x192.Idx → EReal) (t : Fin k0_t1_loop.trips) (a : S1024x128.Idx → EReal) : S1024x128.Idx → EReal :=
  k0_pay12 (F := Ideal) (k0_pay3 (View.ld (Val := Elt Ideal) (e' := .bf16) q (Rect.unit (s := S1x1024x192) ![0, 0, 0] S1x1024x192.size inb_S1x1024x192_S1x1024x192_0_0_0)) (keys k t) (View.ld (Val := Elt Ideal) (e' := .f32) a (Rect.unit (s := S1024x128) ![0, 0] S1024x128.size inb_S1024x128_S1024x128_0_0)))
def new8 (q : S1x1024x192.Idx → EReal) (k : S1x8192x192.Idx → EReal) (t : Fin k0_t1_loop.trips) (a b : S1024x128.Idx → EReal) : S1024x128.Idx → EReal :=
  k0_pay6 (F := Ideal) (View.ld (Val := Elt Ideal) (e' := .bf16) q (Rect.unit (s := S1x1024x192) ![0, 0, 0] S1x1024x192.size inb_S1x1024x192_S1x1024x192_0_0_0)) (keys k t) (View.ld (Val := Elt Ideal) (e' := .f32) a (Rect.unit (s := S1024x128) ![0, 0] S1024x128.size inb_S1024x128_S1024x128_0_0)) (View.ld (Val := Elt Ideal) (e' := .f32) b (Rect.unit (s := S1024x128) ![0, 0] S1024x128.size inb_S1024x128_S1024x128_0_0))
def new9 (q : S1x1024x192.Idx → EReal) (k : S1x8192x192.Idx → EReal) (v : S1x8192x128.Idx → EReal) (t : Fin k0_t1_loop.trips) (a e : S1024x128.Idx → EReal) : S1024x128.Idx → EReal :=
  k0_pay11 (F := Ideal) (k0_pay7 (View.ld (Val := Elt Ideal) (e' := .bf16) q (Rect.unit (s := S1x1024x192) ![0, 0, 0] S1x1024x192.size inb_S1x1024x192_S1x1024x192_0_0_0)) (keys k t) (View.ld (Val := Elt Ideal) (e' := .f32) a (Rect.unit (s := S1024x128) ![0, 0] S1024x128.size inb_S1024x128_S1024x128_0_0)) (View.ld (Val := Elt Ideal) (e' := .f32) e (Rect.unit (s := S1024x128) ![0, 0] S1024x128.size inb_S1024x128_S1024x128_0_0)) (vals v t))

/-- The pieces one trip stores. -/
def tripP (q : S1x1024x192.Idx → EReal) (k : S1x8192x192.Idx → EReal) (v : S1x8192x128.Idx → EReal) (t : Fin k0_t1_loop.trips)
    (a b e : S1024x128.Idx → EReal) : List (View.Piece (Elt Ideal) S1024x128 .f32) × List (View.Piece (Elt Ideal) S1024x128 .f32) × List (View.Piece (Elt Ideal) S1024x128 .f32) :=
  ([⟨Rect.unit (s := S1024x128) ![0, 0] S1024x128.size inb_S1024x128_S1024x128_0_0, new7 q k t a⟩], [⟨Rect.unit (s := S1024x128) ![0, 0] S1024x128.size inb_S1024x128_S1024x128_0_0, new8 q k t a b⟩], [⟨Rect.unit (s := S1024x128) ![0, 0] S1024x128.size inb_S1024x128_S1024x128_0_0, new9 q k v t a e⟩])

section Trip
variable (𝒱 : Variants) (c : Dev nD) (bd : Option 𝒱.V) (i : grid0.Coords) (arg2 : Memref sig .tc .vmem S1x1024x192 .bf16) (harg2 : arg2.IsWhole) (arg3 : Memref sig .tc .vmem S1x8192x192 .bf16) (harg3 : arg3.IsWhole) (arg4 : Memref sig .tc .vmem S1x8192x128 .bf16) (harg4 : arg4.IsWhole) (arg5 : Memref sig .tc .vmem S1x1024x128 .bf16) (harg5 : arg5.IsWhole) (arg6 : Memref sig .tc .vmem S1x1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (X2 : BufTy.Contents (Elt Ideal) arg2.view.ty) (X3 : BufTy.Contents (Elt Ideal) arg3.view.ty) (X4 : BufTy.Contents (Elt Ideal) arg4.view.ty)

/-- One trip's stores are the pieces above, read at the contents it finds. -/
theorem tripL_eq (t : Fin k0_t1_loop.trips) (f7 : BufTy.Contents (Elt Ideal) arg7.view.ty) (f8 : BufTy.Contents (Elt Ideal) arg8.view.ty) (f9 : BufTy.Contents (Elt Ideal) arg9.view.ty) :
    tripL_k0_t1 (F := Ideal) 𝒱 c bd i arg2 harg2 arg3 harg3 arg4 harg4 arg5 harg5 arg6 harg6 arg7 harg7 arg8 harg8 arg9 harg9 X2 X3 X4 t f7 f8 f9
      = tripP (arg2.view.read (Elt Ideal) X2) (arg3.view.read (Elt Ideal) X3) (arg4.view.read (Elt Ideal) X4) t
          (arg7.view.read (Elt Ideal) f7) (arg8.view.read (Elt Ideal) f8) (arg9.view.read (Elt Ideal) f9) := by
  unfold tripL_k0_t1 trip_k0_t1
  rfl

end Trip

theorem zero2 : (![0, 0] : Fin 2 → ℕ) = fun _ => 0 := by funext a; fin_cases a <;> rfl
theorem zero3 : (![0, 0, 0] : Fin 3 → ℕ) = fun _ => 0 := by funext a; fin_cases a <;> rfl

/-- A sum over the keys before `n + 512` is the sum over the keys before `n` plus one trip's. -/
theorem sum_trip (f : ℕ → ℝ) (n : ℕ) :
    ∑ j ∈ Finset.range (n + 512), f j = (∑ j ∈ Finset.range n, f j) + ∑ j : Fin 512, f (n + j.val) := by
  rw [Finset.sum_range_add, Finset.sum_range (fun x => f (n + x))]

theorem bot_word : Ideal.ofBits .f32 0xFF800000#32 = ⊥ := by
  simp [Ideal.ofBits, Ideal.ieee]

section Step
variable (q : S1x1024x192.Idx → EReal) (k : S1x8192x192.Idx → EReal) (v : S1x8192x128.Idx → EReal) (t : Fin k0_t1_loop.trips)
  (T : Fin 1024 → ℕ → ℝ) (X : ℕ → Fin 128 → ℝ) (hT : ∀ r j, sT q k r j = (T r j : EReal)) (hX : ∀ j d, v (ix3 0 (row j) d) = (X j d : EReal))
  (a b e : S1024x128.Idx → EReal) (M : Fin 1024 → ℝ) (ha : ∀ r l, a (ix2 r l) = (M r : EReal))

include hT ha in
/-- The greatest logit after a trip is again a real, the same in every lane. -/
theorem mx_real : ∃ N : Fin 1024 → ℝ, ∀ r l, mx q k t a r l = (N r : EReal) := by
  choose f hf using fun r => fold_max_real fun j : Fin 512 => T r (512 * t.val + j.val)
  refine ⟨fun r => max (M r) (f r), fun r l => ?_⟩
  unfold mx
  simp only [hT, bot_word]
  rw [hf r, ha, max_coe]

variable (N : Fin 1024 → ℝ) (hN : ∀ r l, mx q k t a r l = (N r : EReal))

include hN in
theorem new7_real (r : Fin 1024) (l : Fin 128) : new7 q k t a (ix2 r l) = (N r : EReal) := by
  unfold new7 k0_pay12
  rw [View.ld_unit_zero (S := S1x1024x192) zero3, View.ld_unit_zero (S := S1024x128) zero2]
  pointwise []
  rw [pay3_apply, hN]

include hT ha hN in
theorem new8_real (n : ℕ) (hn : n = 512 * t.val)
    (hb : ∀ r l, b (ix2 r l) = ((∑ j ∈ Finset.range n, e2 (T r j - M r) : ℝ) : EReal)) (r : Fin 1024) (l : Fin 128) :
    new8 q k t a b (ix2 r l) = ((∑ j ∈ Finset.range (n + 512), e2 (T r j - N r) : ℝ) : EReal) := by
  subst hn
  unfold new8
  rw [View.ld_unit_zero (S := S1x1024x192) zero3, View.ld_unit_zero (S := S1024x128) zero2, View.ld_unit_zero (S := S1024x128) zero2,
    pay6_apply]
  simp only [hT, ha, hN, hb, ← EReal.coe_sub, Ideal.exp2_coe, ← EReal.coe_mul, coe_sum, ← EReal.coe_add]
  rw [sum_trip, Finset.mul_sum]
  congr 2
  exact Finset.sum_congr rfl fun j _ => e2_shift _ _ _

include hT hX ha hN in
theorem new9_real (n : ℕ) (hn : n = 512 * t.val)
    (hb : ∀ r d, e (ix2 r d) = ((∑ j ∈ Finset.range n, e2 (T r j - M r) * X j d : ℝ) : EReal)) (r : Fin 1024) (d : Fin 128) :
    new9 q k v t a e (ix2 r d) = ((∑ j ∈ Finset.range (n + 512), e2 (T r j - N r) * X j d : ℝ) : EReal) := by
  subst hn
  unfold new9 k0_pay11
  rw [View.ld_unit_zero (S := S1x1024x192) zero3, View.ld_unit_zero (S := S1024x128) zero2, View.ld_unit_zero (S := S1024x128) zero2]
  pointwise []
  rw [pay7_apply]
  simp only [hT, hX, ha, hN, hb, ← EReal.coe_sub, Ideal.exp2_coe, ← EReal.coe_mul, coe_sum, ← EReal.coe_add]
  rw [sum_trip, Finset.mul_sum]
  congr 2
  exact Finset.sum_congr rfl fun j _ => (mul_assoc _ _ _).symm.trans (congrArg (· * _) (e2_shift _ _ _))

end Step

section Read
variable (V7 V8 V9 : View sig .tc .vmem S1024x128 .f32)
  (q : S1x1024x192.Idx → EReal) (k : S1x8192x192.Idx → EReal) (v : S1x8192x128.Idx → EReal)
  (G7 : V7.ty.Contents (Elt Ideal)) (G8 : V8.ty.Contents (Elt Ideal)) (G9 : V9.ty.Contents (Elt Ideal))
  (P : ℕ → List (View.Piece (Elt Ideal) S1024x128 .f32) × List (View.Piece (Elt Ideal) S1024x128 .f32) × List (View.Piece (Elt Ideal) S1024x128 .f32))

/-- What it is for a sequence of piece lists to be the loop's. -/
structure LoopPieces : Prop where
  zero : P 0 = ([], [], [])
  succ : ∀ t : Fin k0_t1_loop.trips, P (t.val + 1)
    = ((tripP q k v t (V7.read (Elt Ideal) (V7.writes (Elt Ideal) G7 (P t.val).1)) (V8.read (Elt Ideal) (V8.writes (Elt Ideal) G8 (P t.val).2.1)) (V9.read (Elt Ideal) (V9.writes (Elt Ideal) G9 (P t.val).2.2))).1 ++ (P t.val).1,
       (tripP q k v t (V7.read (Elt Ideal) (V7.writes (Elt Ideal) G7 (P t.val).1)) (V8.read (Elt Ideal) (V8.writes (Elt Ideal) G8 (P t.val).2.1)) (V9.read (Elt Ideal) (V9.writes (Elt Ideal) G9 (P t.val).2.2))).2.1 ++ (P t.val).2.1,
       (tripP q k v t (V7.read (Elt Ideal) (V7.writes (Elt Ideal) G7 (P t.val).1)) (V8.read (Elt Ideal) (V8.writes (Elt Ideal) G8 (P t.val).2.1)) (V9.read (Elt Ideal) (V9.writes (Elt Ideal) G9 (P t.val).2.2))).2.2 ++ (P t.val).2.2)

variable {V7 V8 V9 q k v G7 G8 G9 P}

/-- A store through a whole accumulator reads back as its payload. -/
theorem read_acc (V : View sig .tc .vmem S1024x128 .f32) (f) (w : S1024x128.Idx → EReal) (L) (y) :
    V.read (Elt Ideal) (V.writes (Elt Ideal) f (⟨Rect.unit (s := S1024x128) ![0, 0] S1024x128.size inb_S1024x128_S1024x128_0_0, w⟩ :: L)) y = w y :=
  View.read_writes_cons_unit_of_mem V f inb_S1024x128_S1024x128_0_0 w L y y rfl (by intro a; fin_cases a <;> simp)

/-- The three accumulators after `n` trips, from a real start and empty sums. -/
theorem read_loop (h : LoopPieces V7 V8 V9 q k v G7 G8 G9 P)
    (T : Fin 1024 → ℕ → ℝ) (X : ℕ → Fin 128 → ℝ) (hT : ∀ r j, sT q k r j = (T r j : EReal)) (hX : ∀ j d, v (ix3 0 (row j) d) = (X j d : EReal))
    (M0 : ℝ) (h7 : ∀ y, V7.read (Elt Ideal) G7 y = (M0 : EReal)) (h8 : ∀ y, V8.read (Elt Ideal) G8 y = (0 : EReal))
    (h9 : ∀ y, V9.read (Elt Ideal) G9 y = (0 : EReal)) (n : ℕ) (hn : n ≤ k0_t1_loop.trips) :
    ∃ M : Fin 1024 → ℝ, (∀ r l, V7.read (Elt Ideal) (V7.writes (Elt Ideal) G7 (P n).1) (ix2 r l) = (M r : EReal))
      ∧ (∀ r l, V8.read (Elt Ideal) (V8.writes (Elt Ideal) G8 (P n).2.1) (ix2 r l)
          = ((∑ j ∈ Finset.range (512 * n), e2 (T r j - M r) : ℝ) : EReal))
      ∧ (∀ r d, V9.read (Elt Ideal) (V9.writes (Elt Ideal) G9 (P n).2.2) (ix2 r d)
          = ((∑ j ∈ Finset.range (512 * n), e2 (T r j - M r) * X j d : ℝ) : EReal)) := by
  induction n with
  | zero =>
    refine ⟨fun _ => M0, ?_, ?_, ?_⟩ <;> intro r l <;> rw [h.zero] <;> simp [View.writes_nil, h7, h8, h9]
  | succ n ih =>
    obtain ⟨M, i7, i8, i9⟩ := ih (by omega)
    obtain ⟨N, hN⟩ := mx_real q k ⟨n, hn⟩ T hT _ M i7
    rw [h.succ ⟨n, hn⟩]
    dsimp only [tripP]
    refine ⟨N, fun r l => ?_, fun r l => ?_, fun r d => ?_⟩
    · rw [List.singleton_append, read_acc]
      exact new7_real q k ⟨n, hn⟩ _ N hN r l
    · rw [List.singleton_append, read_acc]
      exact new8_real q k ⟨n, hn⟩ T hT _ _ M i7 N hN (512 * n) rfl i8 r l
    · rw [List.singleton_append, read_acc]
      exact new9_real q k v ⟨n, hn⟩ T X hT hX _ _ M i7 N hN (512 * n) rfl i9 r d

end Read

/-- The loop's recorded pieces are a sequence of the kind `LoopPieces` describes. -/
theorem pb_loop (𝒱 : Variants) (c : Dev nD) (bd : Option 𝒱.V) (i : grid0.Coords) (arg2 : Memref sig .tc .vmem S1x1024x192 .bf16) (harg2 : arg2.IsWhole) (arg3 : Memref sig .tc .vmem S1x8192x192 .bf16) (harg3 : arg3.IsWhole) (arg4 : Memref sig .tc .vmem S1x8192x128 .bf16) (harg4 : arg4.IsWhole) (arg5 : Memref sig .tc .vmem S1x1024x128 .bf16) (harg5 : arg5.IsWhole) (arg6 : Memref sig .tc .vmem S1x1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (X2 : BufTy.Contents (Elt Ideal) arg2.view.ty) (X3 : BufTy.Contents (Elt Ideal) arg3.view.ty) (X4 : BufTy.Contents (Elt Ideal) arg4.view.ty)
    (G7 : BufTy.Contents (Elt Ideal) arg7.view.ty) (G8 : BufTy.Contents (Elt Ideal) arg8.view.ty) (G9 : BufTy.Contents (Elt Ideal) arg9.view.ty) :
    LoopPieces arg7.view arg8.view arg9.view (arg2.view.read (Elt Ideal) X2) (arg3.view.read (Elt Ideal) X3) (arg4.view.read (Elt Ideal) X4) G7 G8 G9
      (pb_k0_t1 (F := Ideal) 𝒱 c bd i arg2 harg2 arg3 harg3 arg4 harg4 arg5 harg5 arg6 harg6 arg7 harg7 arg8 harg8 arg9 harg9 X2 X3 X4 G7 G8 G9) :=
  ⟨rfl, fun t => by rw [pb_k0_t1_succ, tripL_eq]⟩

end Cert.KernelFlashIdeal.Flash
-- ==== Proof.Flash.Point.lean ====
/- What one grid point leaves in its two outputs, at real logits and values. -/
module

public import proofs.«01_k».proof.Proof.Gen.KernelFlashIdeal.Frame
public import proofs.«01_k».proof.Proof.Flash.Loop

@[expose] public section

set_option maxRecDepth 16384

noncomputable section

namespace Cert.KernelFlashIdeal.Flash

open Cert.KernelFlashIdeal Cert.KernelFlashIdeal.Gen Idealize.ShloMosaic Idealize.ShloMosaic.TcCoe Idealize.SL.Sem
open Cert.Flash Cert.Attn

theorem trips_eq : k0_t1_loop.trips = 16 := rfl

/-- The number the greatest logit begins from. -/
def maskR : ℝ := -((13234890 : ℝ) * 2 ^ 76)
theorem mask_word : Ideal.ofBits .f32 0xF149F2CA#32 = (maskR : EReal) := by
  simp [Ideal.ofBits, Ideal.ieee, maskR, -EReal.coe_mul]

theorem pay8_apply (y) : k0_pay8 (F := Ideal) y = (maskR : EReal) := by
  unfold k0_pay8; rw [← mask_word]; rfl
theorem pay9_apply (y) : k0_pay9 (F := Ideal) y = 0 := by unfold k0_pay9; pointwise []
theorem pay10_apply (y) : k0_pay10 (F := Ideal) y = 0 := by unfold k0_pay10; pointwise []

theorem pay13_apply (l e : S1024x128.Idx → EReal) (r : Fin 1024) (d : Fin 128) :
    k0_pay13 (F := Ideal) l e (ix3 0 r d) = Ideal.div (e (ix2 r d)) (l (ix2 r d)) := by
  unfold k0_pay13; pointwise []
theorem pay1_14_apply (l a : S1024x128.Idx → EReal) (r : Fin 1024) :
    k0_pay1 (F := Ideal) (k0_pay14 l a) (ix3 0 r 0)
      = a (ix2 r 0) + Ideal.div (Ideal.log (l (ix2 r 0))) (Ideal.log (Ideal.ofBits .f32 0x40000000#32)) := by
  unfold k0_pay1 k0_pay14; pointwise []

section Out
variable (c : Dev nD) (i : grid0.Coords) (arg2 : Memref sig .tc .vmem S1x1024x192 .bf16) (harg2 : arg2.IsWhole) (arg3 : Memref sig .tc .vmem S1x8192x192 .bf16) (harg3 : arg3.IsWhole) (arg4 : Memref sig .tc .vmem S1x8192x128 .bf16) (harg4 : arg4.IsWhole) (arg5 : Memref sig .tc .vmem S1x1024x128 .bf16) (harg5 : arg5.IsWhole) (arg6 : Memref sig .tc .vmem S1x1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x0 : Vec Ideal S1x1024x192 .bf16) (x1 : Vec Ideal S1x8192x192 .bf16) (x2 : Vec Ideal S1x8192x128 .bf16)
  (T : Fin 1024 → ℕ → ℝ) (X : ℕ → Fin 128 → ℝ) (hT : ∀ r j, sT x0 x1 r j = (T r j : EReal)) (hX : ∀ j d, x2 (ix3 0 (row j) d) = (X j d : EReal))

include hT hX in
theorem outs_real : ∃ M : Fin 1024 → ℝ,
    (∀ r d, out0_A_3 (F := Ideal) c i arg2 harg2 arg3 harg3 arg4 harg4 arg5 harg5 arg6 harg6 arg7 harg7 arg8 harg8 arg9 harg9 x0 x1 x2 (ix3 0 r d)
      = Ideal.div ((∑ j ∈ Finset.range 8192, e2 (T r j - M r) * X j d : ℝ) : EReal) ((∑ j ∈ Finset.range 8192, e2 (T r j - M r) : ℝ) : EReal))
    ∧ (∀ r, out0_A_4 (F := Ideal) c i arg2 harg2 arg3 harg3 arg4 harg4 arg5 harg5 arg6 harg6 arg7 harg7 arg8 harg8 arg9 harg9 x0 x1 x2 (ix3 0 r 0)
      = (M r : EReal) + Ideal.div (Ideal.log ((∑ j ∈ Finset.range 8192, e2 (T r j - M r) : ℝ) : EReal)) (Ideal.log (Ideal.ofBits .f32 0x40000000#32))) := by
  have hT' : ∀ r j, sT (arg2.view.read (Elt Ideal) (harg2.unread x0)) (arg3.view.read (Elt Ideal) (harg3.unread x1)) r j = (T r j : EReal) := by
    intro r j; rw [harg2.read_unread, harg3.read_unread]; exact hT r j
  have hX' : ∀ j d, arg4.view.read (Elt Ideal) (harg4.unread x2) (ix3 0 (row j) d) = (X j d : EReal) := by
    intro j d; rw [harg4.read_unread]; exact hX j d
  obtain ⟨M, i7, i8, i9⟩ := read_loop (pb_loop Variants.none c none i arg2 harg2 arg3 harg3 arg4 harg4 arg5 harg5 arg6 harg6 arg7 harg7 arg8 harg8 arg9 harg9
      (harg2.unread x0) (harg3.unread x1) (harg4.unread x2)
      (arg7.view.writes (Elt Ideal) arg7.view.junk kernelRun0_A.sl.HS0_1) (arg8.view.writes (Elt Ideal) arg8.view.junk kernelRun0_A.sl.HS1_1)
      (arg9.view.writes (Elt Ideal) arg9.view.junk kernelRun0_A.sl.HS2_1)) T X hT' hX' maskR
      (fun y => by unfold kernelRun0_A.sl.HS0_1; exact (read_acc _ _ _ _ _).trans (pay8_apply y))
      (fun y => by unfold kernelRun0_A.sl.HS1_1; exact (read_acc _ _ _ _ _).trans (pay9_apply y))
      (fun y => by unfold kernelRun0_A.sl.HS2_1; exact (read_acc _ _ _ _ _).trans (pay10_apply y)) 16 le_rfl
  refine ⟨M, fun r d => ?_, fun r => ?_⟩
  · unfold out0_A_3 kernelRun0_A kernelRun0_A.sl.v13 kernelRun0_A.sl.v14
    dsimp only [View.readCov]
    refine (View.read_writes_cons_unit_of_mem _ _ inb_S1x1024x128_S1x1024x128_0_0_0 _ _ _ (ix3 0 r d) rfl (by intro a; fin_cases a <;> simp)).trans ?_
    rw [pay13_apply, View.readAt_eq_ld, View.readAt_eq_ld, View.ld_unit_zero (S := S1024x128) zero2, View.ld_unit_zero (S := S1024x128) zero2, View.writes_append, View.writes_append]
    exact congrArg₂ Ideal.div (i9 r d) (i8 r d)
  · unfold out0_A_4 kernelRun0_A kernelRun0_A.sl.r kernelRun0_A.sl.v13
    try unfold kernelRun0_A.sl.v20
    dsimp only [View.readCov]
    refine (View.read_writes_cons_unit_of_mem _ _ inb_S1x1024x1_S1x1024x1_0_0_0 _ _ _ (ix3 0 r 0) rfl (by intro a; fin_cases a <;> simp)).trans ?_
    rw [pay1_14_apply, View.readAt_eq_ld, View.readAt_eq_ld, View.ld_unit_zero (S := S1024x128) zero2, View.ld_unit_zero (S := S1024x128) zero2, View.writes_append, View.writes_append]
    exact congrArg₂ (fun a b => a + Ideal.div (Ideal.log b) (Ideal.log (Ideal.ofBits .f32 0x40000000#32))) (i7 r 0) (i8 r 0)

end Out

end Cert.KernelFlashIdeal.Flash
-- ==== Proof.Flash.Blocks.lean ====
/- Where a grid point's blocks lie, and the queries the host scales.

   Point `t` of the grid works on head `t / 8` and on the 1024 queries from `1024 (t mod 8)` on. -/
module

public import Idealize.ShloMosaic.Lib.Pointwise
public import proofs.«01_k».proof.Proof.Flash.Point
public import proofs.«01_k».proof.Proof.Attn.HostReal

@[expose] public section

set_option maxRecDepth 16384

noncomputable section

namespace Cert.KernelFlashIdeal.Flash

open Cert.KernelFlashIdeal Cert.KernelFlashIdeal.Gen Idealize.ShloMosaic Idealize.ShloMosaic.TcCoe Idealize.SL.Sem Idealize.ShloMosaic.StableHlo
open Idealize.ShloMosaic.Pipeline (Dat Window)
open Facts

theorem row_val (j : Fin 8192) : row j.val = j := Fin.ext (Nat.mod_eq_of_lt j.isLt)

theorem sum_rows (f : Fin 8192 → ℝ) : ∑ j ∈ Finset.range 8192, f (row j) = ∑ j : Fin 8192, f j := by
  rw [Finset.sum_range (fun j => f (row j))]
  exact Finset.sum_congr rfl fun j _ => by rw [row_val]

/-- The head and the queries of a point. -/
def hd (t : Fin cfg0.N) : Fin 16 := ⟨t.val / 8 % 16, Nat.mod_lt _ (by norm_num)⟩
def qr (t : Fin cfg0.N) (r : Fin 1024) : Fin 8192 := row (1024 * (t.val % 8) + r.val)

theorem qr_val (t : Fin cfg0.N) (r : Fin 1024) : (qr t r).val = t.val % 8 * 1024 + r.val := by
  show (1024 * (t.val % 8) + r.val) % 8192 = _
  omega

theorem c0 (t : Fin cfg0.N) : (grid0.coords t 0).val = t.val / 8 % 16 := Pipeline.Grid.coords_val t 0 rfl rfl
theorem c1 (t : Fin cfg0.N) : (grid0.coords t 1).val = t.val % 8 :=
  (Pipeline.Grid.coords_val (S := 1) (B := 8) t 1 rfl rfl).trans (by rw [Nat.div_one])

theorem w0 (t : Fin cfg0.N) : (BitVec.ofNat 32 (grid0.coords t 0).val).toNat = t.val / 8 % 16 := by
  rw [c0, BitVec.toNat_ofNat]; omega
theorem w1 (t : Fin cfg0.N) : (BitVec.ofNat 32 (grid0.coords t 1).val).toNat = t.val % 8 := by
  rw [c1, BitVec.toNat_ofNat]; omega

/-! Reading a point's block of an array is reading the array at the head and the rows of the point. -/

theorem read0 (t : Fin cfg0.N) (f : S16x8192x192.Idx → EReal) (r : Fin 1024) (d : Fin 192) :
    ((cfg0.win 0).blk t).view.read (Elt Ideal) f (ix3 (0 : Fin 1) r d) = f (ix3 (hd t) (qr t r) d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 8 % 16; omega
  | ⟨1, _⟩ => show (BitVec.ofNat 32 (grid0.coords t 1).val).toNat * 1024 + 1 * r.val = (qr t r).val; rw [w1, qr_val]; omega
  | ⟨2, _⟩ => show 0 * 192 + 1 * d.val = d.val; omega

theorem read1 (t : Fin cfg0.N) (f : S16x8192x192.Idx → EReal) (j : Fin 8192) (d : Fin 192) :
    ((cfg0.win 1).blk t).view.read (Elt Ideal) f (ix3 (0 : Fin 1) j d) = f (ix3 (hd t) j d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 8 % 16; omega
  | ⟨1, _⟩ => show 0 * 8192 + 1 * j.val = j.val; omega
  | ⟨2, _⟩ => show 0 * 192 + 1 * d.val = d.val; omega

theorem read2 (t : Fin cfg0.N) (f : S16x8192x128.Idx → EReal) (j : Fin 8192) (d : Fin 128) :
    ((cfg0.win 2).blk t).view.read (Elt Ideal) f (ix3 (0 : Fin 1) j d) = f (ix3 (hd t) j d) := by
  rw [View.read_apply]
  show f _ = f _
  congr 1
  funext a
  apply Fin.ext
  match a with
  | ⟨0, _⟩ => show (BitVec.ofNat 32 (grid0.coords t 0).val).toNat * 1 + 1 * 0 = _; rw [w0]; show _ = t.val / 8 % 16; omega
  | ⟨1, _⟩ => show 0 * 8192 + 1 * j.val = j.val; omega
  | ⟨2, _⟩ => show 0 * 128 + 1 * d.val = d.val; omega

theorem emb3 (t : Fin cfg0.N) (r : Fin 1024) (d : Fin 128) :
    ((cfg0.win 3).blk t).view.emb (ix3 (0 : Fin 1) r d) = (ix3 (hd t) (qr t r) d : S16x8192x128.Idx) := by
  funext a
  apply Fin.ext
  match a with
  | ⟨0, _⟩ => show (BitVec.ofNat 32 (grid0.coords t 0).val).toNat * 1 + 1 * 0 = _; rw [w0]; show _ = t.val / 8 % 16; omega
  | ⟨1, _⟩ => show (BitVec.ofNat 32 (grid0.coords t 1).val).toNat * 1024 + 1 * r.val = (qr t r).val; rw [w1, qr_val]; omega
  | ⟨2, _⟩ => show 0 * 128 + 1 * d.val = d.val; omega

theorem emb4 (t : Fin cfg0.N) (r : Fin 1024) :
    ((cfg0.win 4).blk t).view.emb (ix3 (0 : Fin 1) r (0 : Fin 1)) = (ix3 (hd t) (qr t r) (0 : Fin 1) : S16x8192x1.Idx) := by
  funext a
  apply Fin.ext
  match a with
  | ⟨0, _⟩ => show (BitVec.ofNat 32 (grid0.coords t 0).val).toNat * 1 + 1 * 0 = _; rw [w0]; show _ = t.val / 8 % 16; omega
  | ⟨1, _⟩ => show (BitVec.ofNat 32 (grid0.coords t 1).val).toNat * 1024 + 1 * r.val = (qr t r).val; rw [w1, qr_val]; omega
  | ⟨2, _⟩ => show 0 * 1 + 1 * 0 = 0; omega

/-- The point that works on head `h` and query block `b`. -/
def pt (h : Fin 16) (b : Fin 8) : Fin cfg0.N := ⟨8 * h.val + b.val, by show _ < 128; omega⟩

theorem hd_pt (h : Fin 16) (b : Fin 8) : hd (pt h b) = h := Fin.ext (by show (8 * h.val + b.val) / 8 % 16 = h.val; omega)
theorem qr_pt (h : Fin 16) (j : Fin 8192) : qr (pt h ⟨j.val / 1024, by omega⟩) ⟨j.val % 1024, by omega⟩ = j :=
  Fin.ext (by rw [qr_val]; show (8 * h.val + j.val / 1024) % 8 * 1024 + j.val % 1024 = _; omega)

/-! ## The queries the host scales -/

def hLog : FVec Ideal S_ .f32 := Host.divf (constant S_ .f32 0x3F800000#32) (Host.log (constant S_ .f32 0x40000000#32))
def hQ (x0 : FVec Ideal S16x8192x192 .f32) : FVec Ideal S16x8192x192 .bf16 :=
  truncf .bf16 (mulf x0 (broadcastInDim S16x8192x192 ![] bcast_S_S16x8192x192 (mulf (constant S_ .f32 0x3D93CD3A#32) hLog))) bitsLt_bf16_f32

theorem hLog_apply (i : S_.Idx) :
    hLog i = Ideal.div (Ideal.ofBits .f32 0x3F800000#32) (Ideal.log (Ideal.ofBits .f32 0x40000000#32)) := rfl

theorem hQ_apply (x0 : FVec Ideal S16x8192x192 .f32) (h : Fin 16) (j : Fin 8192) (d : Fin 192) :
    hQ x0 (ix3 h j d) = x0 (ix3 h j d) * (Ideal.ofBits .f32 0x3D93CD3A#32 * hLog ix0) := by
  pointwise [hQ]

open Cert.KernelIdeal.Attn (scaleR scale_word one_word two_word) in
theorem hQ_real (x0 : FVec Ideal S16x8192x192 .f32) (q : Fin 16 → Fin 8192 → Fin 192 → ℝ)
    (h0 : ∀ h j d, x0 (ix3 h j d) = (q h j d : EReal)) (h : Fin 16) (j : Fin 8192) (d : Fin 192) :
    hQ x0 (ix3 h j d) = ((q h j d * (scaleR * (1 / Real.log 2)) : ℝ) : EReal) := by
  rw [hQ_apply, h0, hLog_apply, two_word, one_word, scale_word, Ideal.log_coe, if_neg (by norm_num), Ideal.div_coe Cert.Flash.log2_ne,
    ← EReal.coe_mul, ← EReal.coe_mul, ← EReal.coe_mul, one_mul]

theorem V_main_v6 (m : (ℓ : Loc nD τ sig) → Buf (Elt Ideal) ℓ) (c : Dev nD) :
    V m c main_v6 = hQ (m ((c : Thread nD τ).loc main_arg0)) := by
  unfold_abbrev_sides
  after_results
  rfl

end Cert.KernelFlashIdeal.Flash

end
-- ==== Proof.Flash.Final.lean ====
/- The two arrays the call leaves, at real arguments: the attention of every query and its log-sum in base two. -/
module

public import proofs.«01_k».proof.Proof.Gen.KernelFlashIdeal.Value
public import proofs.«01_k».proof.Proof.Flash.Blocks

@[expose] public section

set_option maxRecDepth 16384

noncomputable section

namespace Cert.KernelFlashIdeal.Flash

open Cert.KernelFlashIdeal Cert.KernelFlashIdeal.Gen Idealize.ShloMosaic Idealize.ShloMosaic.TcCoe Idealize.SL.Sem
open Idealize.ShloMosaic.Pipeline (Dat Window)
open Cert.Flash Cert.Attn
open Cert.KernelIdeal.Attn (scaleR two_word)

section Final
variable (m : (ℓ : Loc nD τ sig) → Buf (Elt Ideal) ℓ) (c : Dev nD)
  (q k : Fin 16 → Fin 8192 → Fin 192 → ℝ) (v : Fin 16 → Fin 8192 → Fin 128 → ℝ)
  (h0 : ∀ h j d, (m ((c : Thread nD τ).loc main_arg0) : S16x8192x192.Idx → EReal) (ix3 h j d) = (q h j d : EReal))
  (h1 : ∀ h j d, (m ((c : Thread nD τ).loc main_arg1) : S16x8192x192.Idx → EReal) (ix3 h j d) = (k h j d : EReal))
  (h2 : ∀ h j d, (m ((c : Thread nD τ).loc main_arg2) : S16x8192x128.Idx → EReal) (ix3 h j d) = (v h j d : EReal))
  (M : Fin 16 → Fin 8192 → ℝ)

/-- The two results as arrays. -/
def G3 : S16x8192x128.Idx → EReal := fun i => ((∑ x, pr (q (i 0)) (k (i 0)) scaleR (M (i 0)) (i 1) x * v (i 0) x (i 2) : ℝ) : EReal)
def G4 : S16x8192x1.Idx → EReal := fun i =>
  (((M (i 0) (i 1) + Real.log (ls (q (i 0)) (k (i 0)) scaleR (M (i 0)) (i 1))) * (1 / Real.log 2) : ℝ) : EReal)

include h0 in
theorem q_block (t : Fin cfg0.N) (r : Fin 1024) (d : Fin 192) :
    iblk m c 0 t (ix3 (0 : Fin 1) r d) = ((q (hd t) (qr t r) d * (scaleR * (1 / Real.log 2)) : ℝ) : EReal) := by
  refine (read0 t (V m c main_v6) r d).trans ?_
  rw [V_main_v6]
  exact hQ_real _ q h0 _ _ _

include h1 in
theorem k_block (t : Fin cfg0.N) (j : Fin 8192) (d : Fin 192) : iblk m c 1 t (ix3 (0 : Fin 1) j d) = (k (hd t) j d : EReal) := by
  refine (read1 t (V m c main_arg1) j d).trans ?_
  rw [V_main_arg1]
  exact h1 _ _ _

include h2 in
theorem v_block (t : Fin cfg0.N) (j : Fin 8192) (d : Fin 128) : iblk m c 2 t (ix3 (0 : Fin 1) j d) = (v (hd t) j d : EReal) := by
  refine (read2 t (V m c main_arg2) j d).trans ?_
  rw [V_main_arg2]
  exact h2 _ _ _

include h0 h1 in
theorem logit (t : Fin cfg0.N) (r : Fin 1024) (j : ℕ) :
    sT (iblk m c 0 t) (iblk m c 1 t) r j = (sc2 (q (hd t)) (k (hd t)) scaleR (qr t r) (row j) : EReal) := by
  unfold sT sc2
  rw [← coe_sum]
  exact Finset.sum_congr rfl fun d _ => by rw [q_block m c q h0, k_block m c k h1, ← EReal.coe_mul]

include h0 h1 h2 in
/-- What a point leaves in the two outputs. -/
theorem outs (t : Fin cfg0.N) : (∀ r d, (outsAt0 m c t).1 (ix3 (0 : Fin 1) r d) = G3 q k v M (ix3 (hd t) (qr t r) d))
    ∧ (∀ r, (outsAt0 m c t).2 (ix3 (0 : Fin 1) r (0 : Fin 1)) = G4 q k M (ix3 (hd t) (qr t r) (0 : Fin 1))) := by
  obtain ⟨N, o3, o4⟩ := outs_real c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (iblk m c 0 t) (iblk m c 1 t) (iblk m c 2 t)
    (fun r j => sc2 (q (hd t)) (k (hd t)) scaleR (qr t r) (row j)) (fun j d => v (hd t) (row j) d)
    (logit m c q k h0 h1 t) (fun j d => v_block m c v h2 t (row j) d)
  have s (r : Fin 1024) : ∑ j ∈ Finset.range 8192, e2 (sc2 (q (hd t)) (k (hd t)) scaleR (qr t r) (row j) - N r)
      = ∑ j : Fin 8192, e2 (sc2 (q (hd t)) (k (hd t)) scaleR (qr t r) j - N r) :=
    sum_rows fun j => e2 (sc2 (q (hd t)) (k (hd t)) scaleR (qr t r) j - N r)
  simp only [outsAt0]
  refine ⟨fun r d => ?_, fun r => ?_⟩
  · refine (o3 r d).trans ?_
    rw [s, sum_rows (fun j => e2 (sc2 (q (hd t)) (k (hd t)) scaleR (qr t r) j - N r) * v (hd t) j d),
      Ideal.div_coe (sum_e2_pos _ _ _ _ _).ne', ← EReal.coe_mul, out_eq _ _ _ _ (M (hd t))]
    rfl
  · refine (o4 r).trans ?_
    rw [s, two_word, Ideal.log_coe, if_neg (not_le.2 (sum_e2_pos _ _ _ _ _)), Ideal.log_coe, if_neg (by norm_num),
      Ideal.div_coe log2_ne, ← EReal.coe_mul, ← EReal.coe_add, lse_eq _ _ _ (M (hd t))]
    rfl

include h0 h1 h2 in
theorem final3 : (dats m 0 c).arrAt 3 cfg0.N = G3 q k v M := by
  refine (dats m 0 c).arrAt_eq_of_cover 3 (G3 q k v M) (fun t hf => ?_) fun i => ?_
  · rw [Value.flushed3]
    refine funext fun (y : S1x1024x128.Idx) => ?_
    obtain ⟨y0, r, d, rfl⟩ : ∃ (a : Fin 1) (b : Fin 1024) (e : Fin 128), y = ix3 a b e := ⟨y 0, y 1, y 2, ValueIdx.eq_ix3 y⟩
    obtain rfl : y0 = 0 := Subsingleton.elim _ _
    rw [View.read_apply]
    refine Eq.trans ((outs m c q k v h0 h1 h2 M t).1 r d) ?_
    show _ = G3 q k v M (((cfg0.win 3).blk t).view.emb (ix3 (0 : Fin 1) r d))
    rw [emb3]
  · obtain ⟨h, j, d, rfl⟩ : ∃ (a : Fin 16) (b : Fin 8192) (e : Fin 128), i = (ix3 a b e : S16x8192x128.Idx) := ⟨i 0, i 1, i 2, ValueIdx.eq_ix3 i⟩
    refine ⟨pt h ⟨j.val / 1024, by omega⟩, flush0_3 _, ?_⟩
    have e := emb3 (pt h ⟨j.val / 1024, by omega⟩) ⟨j.val % 1024, by omega⟩ d
    rw [hd_pt, qr_pt] at e
    rw [← e]
    exact View.emb_mem_set _ _

include h0 h1 h2 in
theorem final4 : (dats m 0 c).arrAt 4 cfg0.N = G4 q k M := by
  refine (dats m 0 c).arrAt_eq_of_cover 4 (G4 q k M) (fun t hf => ?_) fun i => ?_
  · rw [Value.flushed4]
    refine funext fun (y : S1x1024x1.Idx) => ?_
    obtain ⟨y0, r, d, rfl⟩ : ∃ (a : Fin 1) (b : Fin 1024) (e : Fin 1), y = ix3 a b e := ⟨y 0, y 1, y 2, ValueIdx.eq_ix3 y⟩
    obtain rfl : y0 = 0 := Subsingleton.elim _ _
    obtain rfl : d = 0 := Subsingleton.elim _ _
    rw [View.read_apply]
    refine Eq.trans ((outs m c q k v h0 h1 h2 M t).2 r) ?_
    show _ = G4 q k M (((cfg0.win 4).blk t).view.emb (ix3 (0 : Fin 1) r (0 : Fin 1)))
    rw [emb4]
  · obtain ⟨h, j, d, rfl⟩ : ∃ (a : Fin 16) (b : Fin 8192) (e : Fin 1), i = (ix3 a b e : S16x8192x1.Idx) := ⟨i 0, i 1, i 2, ValueIdx.eq_ix3 i⟩
    obtain rfl : d = 0 := Subsingleton.elim _ _
    refine ⟨pt h ⟨j.val / 1024, by omega⟩, flush0_4 _, ?_⟩
    have e := emb4 (pt h ⟨j.val / 1024, by omega⟩) ⟨j.val % 1024, by omega⟩
    rw [hd_pt, qr_pt] at e
    rw [← e]
    exact View.emb_mem_set _ _

end Final

end Cert.KernelFlashIdeal.Flash

end
-- ==== Proof.Flash.Reference.lean ====
/- What the reference leaves, at real arguments: the same two arrays. -/
module

public import Idealize.ShloMosaic.Lib.Pointwise
public import proofs.«01_k».proof.Proof.Gen.ReferenceFlashIdeal.Read
public import proofs.«01_k».proof.Proof.Attn.Reference
public import proofs.«01_k».proof.Proof.Flash.Math

@[expose] public section

set_option maxRecDepth 16384

noncomputable section

namespace Cert.ReferenceFlashIdeal.Flash

open Cert.ReferenceFlashIdeal Cert.ReferenceFlashIdeal.Gen Cert.ReferenceFlashIdeal.Read Idealize.ShloMosaic Idealize.ShloMosaic.TcCoe Idealize.SL.Sem
open Cert.Attn
open Cert.KernelIdeal.Attn (scaleR scale_word two_word bot_word)
open Cert.ReferenceIdeal.Attn (i3 i2 hdiv_def)

section Real
variable (x0 : FVec Ideal S16x8192x192 .f32) (x1 : FVec Ideal S16x8192x192 .bf16) (x2 : FVec Ideal S16x8192x128 .bf16)
  (q k : Fin 16 → Fin 8192 → Fin 192 → ℝ) (v : Fin 16 → Fin 8192 → Fin 128 → ℝ)
  (h0 : ∀ h j d, x0 (ix3 h j d) = (q h j d : EReal)) (h1 : ∀ h j d, x1 (ix3 h j d) = (k h j d : EReal))
  (h2 : ∀ h j d, x2 (ix3 h j d) = (v h j d : EReal))

include h0 h1 in
theorem s_real (h : Fin 16) (j i : Fin 8192) :
    val_main_v4 (F := Ideal) x0 x1 (ix3 h j i) = (sc (q h) (k h) scaleR j i : EReal) := by
  rw [val_main_v4_apply, val_main_v2_apply, val_main_v3_apply, val_main_cst_apply, Ideal.mulf_def, Ideal.ofBits_def, scale_word]
  have e : ∀ d : Fin 192, x0 (lidx_main_v2 (ix3 h j i) d) * val_main_v0 (F := Ideal) x1 (ridx_main_v2 (ix3 h j i) d)
      = ((q h j d * k h i d : ℝ) : EReal) := fun d => by
    rw [val_main_v0_apply, Ideal.extf_def, i3 x0 _ h j d rfl rfl rfl, i3 x1 _ h i d rfl rfl rfl, h0, h1, EReal.coe_mul]
  simp only [e, coe_sum, ← EReal.coe_mul]
  rfl

/-- The attention's own logits and greatest logit are the ones the log-sum takes. -/
theorem v16_eq : val_main_v16 (F := Ideal) x0 x1 = val_main_v4 (F := Ideal) x0 x1 := rfl
theorem v17_eq : val_main_v17 (F := Ideal) x0 x1 = val_main_v5 (F := Ideal) x0 x1 := rfl

/-- The greatest logit is the fold of the maximum. -/
theorem max_apply (h : Fin 16) (j : Fin 8192) :
    val_main_v5 (F := Ideal) x0 x1 (ix2 h j)
      = Finset.univ.fold max (Ideal.ofBits .f32 0xFF800000#32) fun i : Fin 8192 => val_main_v4 (F := Ideal) x0 x1 (ix3 h j i) := by
  unfold val_main_v5
  generalize val_main_v4 (F := Ideal) x0 x1 = y
  pointwise [val_main_cst_0]

include h0 h1 in
theorem max_real (h : Fin 16) (j : Fin 8192) : ∃ r : ℝ, val_main_v5 (F := Ideal) x0 x1 (ix2 h j) = r := by
  rw [max_apply, bot_word]
  simp only [s_real x0 x1 q k h0 h1]
  exact fold_max_real _

variable (M : Fin 16 → Fin 8192 → ℝ) (hM' : ∀ h j, val_main_v5 (F := Ideal) x0 x1 (ix2 h j) = (M h j : EReal))

include h0 h1 hM' in
theorem e_real (h : Fin 16) (j i : Fin 8192) :
    val_main_v9 (F := Ideal) x0 x1 (ix3 h j i) = (ex (q h) (k h) scaleR (M h) j i : EReal) := by
  rw [val_main_v9_apply, val_main_v8_apply, val_main_v7_apply, val_main_v6_apply, i2 (val_main_v5 (F := Ideal) x0 x1) _ h j rfl rfl,
    hM', s_real x0 x1 q k h0 h1, Ideal.subf_def, ← EReal.coe_sub]
  exact Ideal.exp_coe _

include h0 h1 hM' in
theorem l_real (h : Fin 16) (j : Fin 8192) :
    val_main_v10 (F := Ideal) x0 x1 (ix2 h j) = (ls (q h) (k h) scaleR (M h) j : EReal) := by
  rw [val_main_v10_apply, val_main_cst_1_apply, Ideal.ofBits_def, Ideal.ofBits_zero_f32, zero_add]
  have e : ∀ i : Fin 8192, val_main_v9 (F := Ideal) x0 x1 (idx_main_v10 (ix2 h j) i) = (ex (q h) (k h) scaleR (M h) j i : EReal) :=
    fun i => (i3 _ _ h j i rfl rfl rfl).trans (e_real x0 x1 q k h0 h1 M hM' h j i)
  simp only [e, coe_sum]
  rfl

theorem hlog_def (x : EReal) : FloatOps.hostUnary (F := Ideal) (φ := .f32) .log x = Ideal.log x := rfl

include h0 h1 hM' in
/-- The log-sum of a query in base two. -/
theorem lse_real (h : Fin 16) (j : Fin 8192) (z : Fin 1) : val_main_v33 (F := Ideal) x0 x1 (ix3 h j z)
    = (((M h j + Real.log (ls (q h) (k h) scaleR (M h) j)) * (1 / Real.log 2) : ℝ) : EReal) := by
  rw [val_main_v33_apply, val_main_v13_apply, val_main_v6_apply, val_main_v12_apply, val_main_v11_apply,
    i2 (val_main_v5 (F := Ideal) x0 x1) _ h j rfl rfl, i2 (val_main_v10 (F := Ideal) x0 x1) _ h j rfl rfl, hM',
    l_real x0 x1 q k h0 h1 M hM', val_main_v32_apply, val_main_v31_apply, val_main_v30_apply, val_main_cst_6_apply, hdiv_def,
    hlog_def, hlog_def, Ideal.ofBits_def, two_word, Ideal.log_coe, if_neg (not_le.2 (ls_pos _ _ _ _ _)), Ideal.log_coe,
    if_neg (by norm_num), Ideal.div_coe Cert.Flash.log2_ne, Ideal.addf_def, ← EReal.coe_add, ← EReal.coe_mul]

include hM' in
theorem m_real (h : Fin 16) (j : Fin 8192) : val_main_v19 (F := Ideal) x0 x1 (ix2 h j) = (M h j : EReal) := by
  rw [val_main_v19_apply, val_main_v18_apply, val_main_cst_4_apply, v17_eq, hM', Ideal.maximumf_def, Ideal.ofBits_def, bot_word]
  exact max_eq_right bot_le

include h0 h1 hM' in
theorem e'_real (h : Fin 16) (j i : Fin 8192) :
    val_main_v23 (F := Ideal) x0 x1 (ix3 h j i) = (ex (q h) (k h) scaleR (M h) j i : EReal) := by
  rw [val_main_v23_apply, val_main_v22_apply, val_main_v21_apply, val_main_v20_apply, i2 (val_main_v19 (F := Ideal) x0 x1) _ h j rfl rfl,
    m_real x0 x1 M hM', v16_eq, s_real x0 x1 q k h0 h1, Ideal.subf_def, ← EReal.coe_sub]
  exact Ideal.exp_coe _

include h0 h1 hM' in
theorem p_real (h : Fin 16) (j i : Fin 8192) :
    val_main_v27 (F := Ideal) x0 x1 (ix3 h j i) = (pr (q h) (k h) scaleR (M h) j i : EReal) := by
  have e : ∀ i : Fin 8192, val_main_v23 (F := Ideal) x0 x1 (idx_main_v24 (ix2 h j) i) = (ex (q h) (k h) scaleR (M h) j i : EReal) :=
    fun i => (i3 _ _ h j i rfl rfl rfl).trans (e'_real x0 x1 q k h0 h1 M hM' h j i)
  have l : val_main_v24 (F := Ideal) x0 x1 (ix2 h j) = (ls (q h) (k h) scaleR (M h) j : EReal) := by
    rw [val_main_v24_apply, val_main_cst_5_apply, Ideal.ofBits_def, Ideal.ofBits_zero_f32, zero_add]
    simp only [e, coe_sum]
    rfl
  rw [val_main_v27_apply, val_main_v26_apply, val_main_v25_apply, i2 (val_main_v24 (F := Ideal) x0 x1) _ h j rfl rfl, l,
    e'_real x0 x1 q k h0 h1 M hM', hdiv_def, Ideal.div_coe (ls_pos _ _ _ _ _).ne', ← EReal.coe_mul, mul_one_div]
  rfl

include h0 h1 h2 hM' in
/-- The attention of a query. -/
theorem out_real (h : Fin 16) (j : Fin 8192) (d : Fin 128) : val_main_v29 (F := Ideal) x0 x1 x2 (ix3 h j d)
    = ((∑ i, pr (q h) (k h) scaleR (M h) j i * v h i d : ℝ) : EReal) := by
  rw [val_main_v29_apply, Ideal.truncf_def, val_main_v28_apply]
  have e : ∀ i : Fin 8192, val_main_v27 (F := Ideal) x0 x1 (lidx_main_v28 (ix3 h j d) i) * val_main_v1 (F := Ideal) x2 (ridx_main_v28 (ix3 h j d) i)
      = ((pr (q h) (k h) scaleR (M h) j i * v h i d : ℝ) : EReal) := fun i => by
    rw [i3 (val_main_v27 (F := Ideal) x0 x1) _ h j i rfl rfl rfl, p_real x0 x1 q k h0 h1 M hM', val_main_v1_apply, Ideal.extf_def,
      i3 x2 _ h i d rfl rfl rfl, h2, EReal.coe_mul]
  simp only [e, coe_sum]

end Real

end Cert.ReferenceFlashIdeal.Flash

end
-- ==== Proof.Flash.Finite.lean ====
/- What the precondition says: every element of the three arguments is a real. -/
module

public import proofs.«01_k».proof.Defs
public import proofs.«01_k».proof.Proof.Gen.Pre_finite_qkv
public import proofs.«01_k».proof.Proof.Attn.Finite

@[expose] public section

set_option maxRecDepth 16384

noncomputable section

namespace Cert.Flash

open Idealize.ShloMosaic Idealize.ShloMosaic.TcCoe Idealize.SL.Sem
open Cert.Pre_finite_qkv Cert.Pre_finite_qkv.Facts

/-- Finite arguments hold reals. -/
theorem finite_real (x0 : FVec Ideal S16x8192x192 .f32) (x1 : FVec Ideal S16x8192x192 .bf16) (x2 : FVec Ideal S16x8192x128 .bf16)
    (h : Cert.Pre_finite_qkv.fn (F := Ideal) x0 x1 x2 = fun _ => 1#1) :
    (∀ i, ∃ r : ℝ, x0 i = r) ∧ (∀ i, ∃ r : ℝ, x1 i = r) ∧ (∀ i, ∃ r : ℝ, x2 i = r) := by
  have e := congrFun h ix0
  dsimp only [Cert.Pre_finite_qkv.fn] at e
  obtain ⟨e, e2⟩ := IntOp.andi_eq_one.1 e
  obtain ⟨e0, e1⟩ := IntOp.andi_eq_one.1 e
  exact ⟨Cert.Attn.real_of_all x0 _ _ _ e0, Cert.Attn.real_of_all (extf .f32 x1 bitsLt_bf16_f32) _ _ _ e1,
    Cert.Attn.real_of_all (extf .f32 x2 bitsLt_bf16_f32) _ _ _ e2⟩

end Cert.Flash

end
-- ==== Proof.Flash.Claims.lean ====
/- The claims about the latent attention's forward call, one by one. -/
module

public import proofs.«01_k».proof.Defs
public import proofs.«01_k».proof.Proof.Gen.KernelFlash.Frame
public import proofs.«01_k».proof.Proof.Flash.Final
public import proofs.«01_k».proof.Proof.Flash.Reference
public import proofs.«01_k».proof.Proof.Flash.Finite

@[expose] public section

set_option maxRecDepth 16384

noncomputable section

namespace Cert.Flash

open Idealize.ShloMosaic Idealize.ShloMosaic.TcCoe Idealize.SL.Sem

theorem frame_k : Cert.quiescent_KernelFlash := fun m ρ _ => Cert.KernelFlash.Gen.frame m ρ
theorem frame_ki : Cert.quiescent_KernelFlashIdeal := fun m ρ _ => Cert.KernelFlashIdeal.Gen.frame m ρ
theorem frame_kif : Cert.quiescent_KernelFlashIdeal_pre_finite_qkv := fun m ρ _ => Cert.KernelFlashIdeal.Gen.frame m ρ

theorem frame_r : Cert.quiescent_ReferenceFlashIdeal := fun m ρ _ =>
  (θ_run Cert.ReferenceFlashIdeal.defs _ _).mono (fun r h => ⟨fun c => (h c).2.2, Idealize.ShloMosaic.sem_eq_zero_of_no_sems (by decide) r.2⟩)
    (Cert.ReferenceFlashIdeal.Value.run (F := Ideal) m ρ)
theorem frame_rf : Cert.quiescent_ReferenceFlashIdeal_pre_finite_qkv := fun m ρ _ => frame_r m ρ trivial

theorem preserves : Cert.preserves_KernelFlash_KernelFlashIdeal := trivial

/-- With finite arguments the call leaves the reference's attention and log-sums. -/
theorem algebraic : Cert.algebraic_KernelFlashIdeal_ReferenceFlashIdeal_pre_finite_qkv := by
  intro m g m' g' hpre hagree
  refine ⟨_, _, Cert.KernelFlashIdeal.Value.run_blocks m g, ?_⟩
  refine (θ_run Cert.ReferenceFlashIdeal.defs _ _).mono (fun r h c => ?_) (Cert.ReferenceFlashIdeal.Value.run (F := Ideal) m' g')
  obtain ⟨a0, a1, a2⟩ := hagree c
  obtain ⟨f0, f1, f2⟩ := finite_real _ _ _ (hpre c)
  choose q hq using fun (h : Fin 16) (j : Fin 8192) (d : Fin 192) => f0 (ix3 h j d)
  choose k hk using fun (h : Fin 16) (j : Fin 8192) (d : Fin 192) => f1 (ix3 h j d)
  choose v hv using fun (h : Fin 16) (j : Fin 8192) (d : Fin 128) => f2 (ix3 h j d)
  choose M hM using Cert.ReferenceFlashIdeal.Flash.max_real _ _ q k hq hk
  refine ⟨(h c).1.trans ?_, (h c).2.1.trans ?_, (h c).2.2⟩
  · rw [Cert.ReferenceFlashIdeal.Read.val_main_v29_eq, a0, a1, a2, Cert.KernelFlashIdeal.Flash.final3 m c q k v hq hk hv M]
    refine funext fun i => ?_
    obtain ⟨h, j, d, rfl⟩ : ∃ (a : Fin 16) (b : Fin 8192) (e : Fin 128), i = ix3 a b e := ⟨i 0, i 1, i 2, ValueIdx.eq_ix3 i⟩
    exact Cert.ReferenceFlashIdeal.Flash.out_real _ _ _ q k v hq hk hv M hM h j d
  · rw [Cert.ReferenceFlashIdeal.Read.val_main_v33_eq, a0, a1, Cert.KernelFlashIdeal.Flash.final4 m c q k v hq hk hv M]
    refine funext fun i => ?_
    obtain ⟨h, j, z, rfl⟩ : ∃ (a : Fin 16) (b : Fin 8192) (e : Fin 1), i = ix3 a b e := ⟨i 0, i 1, i 2, ValueIdx.eq_ix3 i⟩
    exact Cert.ReferenceFlashIdeal.Flash.lse_real _ _ q k hq hk M hM h j z

end Cert.Flash

end
-- ==== Proof.Mix.Glu.Final.lean ====
/- The product of the scan layer's gate: the array the call leaves. Each point of the
   grid makes one block, whole. -/
module

public import proofs.«01_k».proof.Proof.Gen.KernelGluIdeal.Value
public import proofs.«01_k».proof.Proof.Ffn.Blocks

@[expose] public section

set_option maxRecDepth 16384

noncomputable section

namespace Cert.KernelGluIdeal.Mix

open Cert.KernelGluIdeal Cert.KernelGluIdeal.Gen Cert.Ffn Idealize.ShloMosaic Idealize.ShloMosaic.TcCoe Idealize.SL.Sem
open Idealize.ShloMosaic.Pipeline (Dat Window)
open Facts

/-- The product of a point's two blocks. -/
def part (a : S1024x2048.Idx → EReal) (w : S1x1x2048x512.Idx → EReal) (r : Fin 1024) (s : Fin 512) : EReal :=
  ∑ x : Fin 2048, a (ix2 r x) * w (ix4 0 0 x s)

theorem pay1_apply (a : S1024x2048.Idx → EReal) (w : S1x1x2048x512.Idx → EReal) (r : Fin 1024) (s : Fin 512) :
    k0_pay1 (F := Ideal) a w (ix2 r s) = part a w r s := by
  unfold k0_pay1 part
  pointwise []

theorem out (a : Vec Ideal S1024x2048 .bf16) (w : Vec Ideal S1x1x2048x512 .bf16) (r : Fin 1024) (s : Fin 512) :
    out0_2 (F := Ideal) a w (ix2 r s) = part a w r s := by
  unfold out0_2
  rw [View.canon_unit_zero (S := S1024x512) zero2, View.ld_unit_zero (S := S1024x2048) zero2,
    View.ld_unit_zero (S := S1x1x2048x512) zero4]
  exact pay1_apply _ _ _ _

/-! ## The array at the end -/

theorem at0 : ∀ t : Fin cfg0.N, win0_0.index t = ![t.val / 4, 0] := (by decide +kernel : ∀ t : Fin grid0.N, _)
theorem at1 : ∀ t : Fin cfg0.N, win0_1.index t = ![0, 0, 0, t.val % 4] := (by decide +kernel : ∀ t : Fin grid0.N, _)
theorem at2 : ∀ t : Fin cfg0.N, win0_2.index t = ![t.val / 4, t.val % 4] := (by decide +kernel : ∀ t : Fin grid0.N, _)

theorem lt_N (t : Fin cfg0.N) : t.val < 32 := t.isLt

/-- The row and the column of the result that a point's block holds at `r` and `s`. -/
def rw_ (n : ℕ) (r : Fin 1024) : Fin 8192 := Fin.ofNat 8192 (1024 * (n / 4) + r.val)
def cl (n : ℕ) (s : Fin 512) : Fin 2048 := Fin.ofNat 2048 (512 * (n % 4) + s.val)

variable (m : (ℓ : Loc nD τ sig) → Buf (Elt Ideal) ℓ) (c : Dev nD)

/-- The activated scan output and the weight, as the call is launched with them. -/
abbrev aA : S8192x2048.Idx → EReal := m ((c : Thread nD τ).loc main_arg0)
abbrev aW : S2048x2048.Idx → EReal := m ((c : Thread nD τ).loc main_arg1)

theorem V_main_v0 : V m c main_v0 = shapeCast S1x1x2048x2048 (aW m c) shapeCasts_S2048x2048_S1x1x2048x2048 := by
  unfold_abbrev_sides
  after_results
  rfl

theorem lead_apply (x : S2048x2048.Idx → EReal) (k : Fin 2048) (d : Fin 2048) :
    shapeCast S1x1x2048x2048 x shapeCasts_S2048x2048_S1x1x2048x2048 (ix4 (0 : Fin 1) (0 : Fin 1) k d) = x (ix2 k d) := by
  pointwise

theorem iblk0_apply (t : Fin cfg0.N) (r : Fin 1024) (x : Fin 2048) :
    iblk m c 0 t (ix2 r x) = aA m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 4 * 1024 + 1 * r.val = (1024 * (t.val / 4) + r.val) % 8192; omega
    | ⟨1, _⟩ => show win0_0.index t 1 * 2048 + 1 * x.val = x.val; rw [at0]; show 0 * 2048 + 1 * x.val = _; omega
  unfold iblk
  rw [View.read_apply, e]
  show V m c main_arg0 _ = _
  rw [V_main_arg0]

theorem iblk1_apply (t : Fin cfg0.N) (x : Fin 2048) (s : Fin 512) :
    iblk m c 1 t (ix4 (0 : Fin 1) (0 : Fin 1) x s) = aW m c (ix2 x (cl t.val s)) := by
  have e : ((cfg0.win 1).blk t).view.emb (ix4 (0 : Fin 1) (0 : Fin 1) x s) = (ix4 0 0 x (cl t.val s) : S1x1x2048x2048.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 2048 + 1 * x.val = x.val; rw [at1]; show 0 * 2048 + 1 * x.val = _; omega
    | ⟨3, _⟩ => show win0_1.index t 3 * 512 + 1 * s.val = _ % 2048; rw [at1]; show t.val % 4 * 512 + 1 * s.val = (512 * (t.val % 4) + s.val) % 2048; omega
  unfold iblk
  rw [View.read_apply, e]
  show V m c main_v0 _ = _
  rw [V_main_v0, lead_apply]

theorem emb2 (t : Fin cfg0.N) (r : Fin 1024) (s : Fin 512) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 4 * 1024 + 1 * r.val = (1024 * (t.val / 4) + r.val) % 8192; omega
  | ⟨1, _⟩ => show win0_2.index t 1 * 512 + 1 * s.val = _ % 2048; rw [at2]; show t.val % 4 * 512 + 1 * s.val = (512 * (t.val % 4) + s.val) % 2048; omega

/-- The result: every row of the activated scan output times every column of the weight. -/
def G : S8192x2048.Idx → EReal := fun i => ∑ j : Fin 2048, aA m c (ix2 (i 0) j) * aW m c (ix2 j (i 1))

theorem part_eq (t : Fin cfg0.N) (r : Fin 1024) (s : Fin 512) :
    part (iblk m c 0 t) (iblk m c 1 t) r s = G m c (ix2 (rw_ t.val r) (cl t.val s)) := by
  unfold part G
  exact Finset.sum_congr rfl fun x _ => by rw [iblk0_apply, iblk1_apply]; rfl

theorem final : (dats m 0 c).arrAt 2 cfg0.N = G m c := by
  refine (dats m 0 c).arrAt_eq_of_cover 2 (G m c) (fun t hf => ?_) fun i => ?_
  · rw [Value.flushed2]
    refine funext fun (y : S1024x512.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨4 * (a.val / 1024) + b.val / 512, by show _ < 32; omega⟩
    refine ⟨t, flush0_2 t, ?_⟩
    have e := emb2 t ⟨a.val % 1024, by omega⟩ ⟨b.val % 512, by omega⟩
    rw [show rw_ t.val ⟨a.val % 1024, by omega⟩ = a from Fin.ext (by
        show (1024 * ((4 * (a.val / 1024) + b.val / 512) / 4) + a.val % 1024) % 8192 = a.val; omega),
      show cl t.val ⟨b.val % 512, by omega⟩ = b from Fin.ext (by
        show (512 * ((4 * (a.val / 1024) + b.val / 512) % 4) + b.val % 512) % 2048 = b.val; omega)] at e
    rw [← e]
    exact View.emb_mem_set _ _

end Cert.KernelGluIdeal.Mix

end
-- ==== Proof.Mix.Glu.Claims.lean ====
/- The claims about the product of the scan layer's gate. -/
module

public import proofs.«01_k».proof.Defs
public import proofs.«01_k».proof.Proof.Gen.KernelGlu.Frame
public import proofs.«01_k».proof.Proof.Gen.ReferenceGluIdeal.Read
public import proofs.«01_k».proof.Proof.Mix.Glu.Final

@[expose] public section

set_option maxRecDepth 16384

noncomputable section

namespace Cert.MixGlu

open Idealize.ShloMosaic Idealize.ShloMosaic.TcCoe Idealize.SL.Sem

theorem frame_k : Cert.quiescent_KernelGlu := fun m ρ _ => Cert.KernelGlu.Gen.frame m ρ
theorem frame_ki : Cert.quiescent_KernelGluIdeal := fun m ρ _ => Cert.KernelGluIdeal.Gen.frame m ρ
theorem frame_r : Cert.quiescent_ReferenceGluIdeal := fun m ρ _ =>
  (θ_run Cert.ReferenceGluIdeal.defs _ _).mono (fun r h => ⟨fun c => (h c).2, Idealize.ShloMosaic.sem_eq_zero_of_no_sems (by decide) r.2⟩)
    (Cert.ReferenceGluIdeal.Value.run (F := Ideal) m ρ)
theorem preserves : Cert.preserves_KernelGlu_KernelGluIdeal := trivial

/-- The call leaves the reference's product. -/
theorem algebraic : Cert.algebraic_KernelGluIdeal_ReferenceGluIdeal := by
  intro m g m' g' _ hagree
  refine ⟨_, Cert.KernelGluIdeal.Value.run_blocks m g, ?_⟩
  refine (θ_run Cert.ReferenceGluIdeal.defs _ _).mono (fun r h c => ?_) (Cert.ReferenceGluIdeal.Value.run (F := Ideal) m' g')
  obtain ⟨a0, a1⟩ := hagree c
  refine ⟨(h c).1.trans ?_, (h c).2⟩
  rw [Cert.ReferenceGluIdeal.Read.val_main_v2_eq, Cert.KernelGluIdeal.Mix.final]
  refine funext fun i => ?_
  rw [Cert.ReferenceGluIdeal.Read.val_main_v2_apply]
  unfold Cert.KernelGluIdeal.Mix.G Cert.KernelGluIdeal.Mix.aA Cert.KernelGluIdeal.Mix.aW
  rw [← a0, ← a1]
  refine Finset.sum_congr rfl fun j _ => ?_
  rw [Cert.ReferenceGluIdeal.Read.val_main_v0_apply, Cert.ReferenceGluIdeal.Read.val_main_v1_apply]
  exact congrArg₂ (fun x y : EReal => x * y) (congrArg (m' _) (ValueIdx.eq_ix2 _)) (congrArg (m' _) (ValueIdx.eq_ix2 _))

end Cert.MixGlu

end
-- ==== Proof.Mix.Dwglu.Point.lean ====
/- The gradient of the scan layer's gate weight: what one grid point leaves in its accumulator
   and in its output block. -/
module

public import proofs.«01_k».proof.Proof.Gen.KernelDwgluIdeal.Frame
public import proofs.«01_k».proof.Proof.Ffn.Blocks

@[expose] public section

set_option maxRecDepth 16384

noncomputable section

namespace Cert.KernelDwgluIdeal.Mix

open Cert.KernelDwgluIdeal Cert.KernelDwgluIdeal.Gen Cert.Ffn Idealize.ShloMosaic Idealize.ShloMosaic.TcCoe Idealize.SL.Sem

/-- The product of a point's two blocks, over their rows. -/
def part (a : S1024x1024.Idx → EReal) (w : S1024x512.Idx → EReal) (r : Fin 1024) (s : Fin 512) : EReal :=
  ∑ x : Fin 1024, a (ix2 x r) * w (ix2 x s)

theorem pay2_apply (a : S1024x1024.Idx → EReal) (w : S1024x512.Idx → EReal) (r : Fin 1024) (s : Fin 512) :
    k0_pay2 (F := Ideal) a w (ix2 r s) = part a w r s := by
  unfold k0_pay2 k0_pay1 part
  pointwise []
theorem pay3_apply (a : S1024x1024.Idx → EReal) (w : S1024x512.Idx → EReal) (z : S1024x512.Idx → EReal) (r : Fin 1024) (s : Fin 512) :
    k0_pay3 (F := Ideal) a w z (ix2 r s) = z (ix2 r s) + part a w r s := by
  unfold k0_pay3 k0_pay1 part
  pointwise []
theorem pay4_apply (z : S1024x512.Idx → EReal) (r : Fin 1024) (s : Fin 512) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S1024x512 .f32) (f) (w : S1024x512.Idx → EReal) (L) (y) :
    V.read (Elt Ideal) (V.writes (Elt Ideal) f (⟨Rect.unit (s := S1024x512) ![0, 0] S1024x512.size inb_S1024x512_S1024x512_0_0, w⟩ :: L)) y = w y :=
  View.read_writes_cons_unit_of_mem V f inb_S1024x512_S1024x512_0_0 w L y y rfl (by intro a; fin_cases a <;> simp)
theorem read_out {κ : Kind} {sp : Space} (V : View sig κ sp S1x1024x512 .bf16) (f) (w : S1x1024x512.Idx → EReal) (L) (y) :
    V.read (Elt Ideal) (V.writes (Elt Ideal) f (⟨Rect.unit (s := S1x1024x512) ![0, 0, 0] S1x1024x512.size inb_S1x1024x512_S1x1024x512_0_0_0, w⟩ :: L)) y = w y :=
  View.read_writes_cons_unit_of_mem V f inb_S1x1024x512_S1x1024x512_0_0_0 w L y y rfl (by intro a; fin_cases a <;> simp)

section
variable (c : Dev nD) (i : grid0.Coords) (arg3 : Memref sig .tc .vmem S1024x1024 .bf16) (harg3 : arg3.IsWhole) (arg4 : Memref sig .tc .vmem S1024x512 .bf16) (harg4 : arg4.IsWhole)
  (arg5 : Memref sig .tc .vmem S1x1024x512 .bf16) (harg5 : arg5.IsWhole) (arg6 : Memref sig .tc .vmem S1024x512 .f32) (harg6 : arg6.IsWhole)
  (x0 : Vec Ideal S1024x1024 .bf16) (x1 : Vec Ideal S1024x512 .bf16) (xs0 : Vec Ideal S1024x512 .f32) (r : Fin 1024) (s : Fin 512)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x1024) zero2, View.ld_unit_zero (S := S1024x512) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x1024) zero2, View.ld_unit_zero (S := S1024x512) zero2, View.ld_unit_zero (S := S1024x512) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x1024) zero2, View.ld_unit_zero (S := S1024x512) zero2, View.ld_unit_zero (S := S1024x512) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v12 View.readCov kernelRun0_C.sl.HS0_1
  rw [View.readAt_eq_ld, View.ld_unit_zero (S := S1024x512) zero2]
  refine (read_store _ _ _ _ _).trans ?_
  simp only [View.readAt_eq_ld, harg3.read_unread, harg4.read_unread, harg6.read_unread]
  rw [View.ld_unit_zero (S := S1024x1024) zero2, View.ld_unit_zero (S := S1024x512) zero2, View.ld_unit_zero (S := S1024x512) zero2]
  exact pay3_apply _ _ _ _ _
end

end Cert.KernelDwgluIdeal.Mix

end
-- ==== Proof.Mix.Dwglu.Final.lean ====
/- The gradient of the scan layer's gate weight: the array the call leaves, as one sum over all rows. -/
module

public import proofs.«01_k».proof.Proof.Gen.KernelDwgluIdeal.Value
public import proofs.«01_k».proof.Proof.Mix.Dwglu.Point

@[expose] public section

set_option maxRecDepth 16384

noncomputable section

namespace Cert.KernelDwgluIdeal.Mix

open Cert.KernelDwgluIdeal Cert.KernelDwgluIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, t.val / 32] := (by decide +kernel : ∀ t : Fin grid0.N, _)
theorem at1 : ∀ t : Fin cfg0.N, win0_1.index t = ![t.val % 8, t.val / 8 % 4] := (by decide +kernel : ∀ t : Fin grid0.N, _)
theorem at2 : ∀ t : Fin cfg0.N, win0_2.index t = ![0, t.val / 32, t.val / 8 % 4] := (by decide +kernel : ∀ t : Fin grid0.N, _)

theorem lt_N (t : Fin cfg0.N) : t.val < 64 := t.isLt

/-- The row and the column of the result that output block `n` holds at `r` and `s`. -/
def rw_ (n : ℕ) (r : Fin 1024) : Fin 2048 := Fin.ofNat 2048 (1024 * (n / 4) + r.val)
def cl (n : ℕ) (s : Fin 512) : Fin 2048 := Fin.ofNat 2048 (512 * (n % 4) + s.val)

variable (m : (ℓ : Loc nD τ sig) → Buf (Elt Ideal) ℓ) (c : Dev nD)

/-- The activated scan output and the cotangent, as the call is launched with them. -/
abbrev aA : S8192x2048.Idx → EReal := m ((c : Thread nD τ).loc main_arg0)
abbrev aY : S8192x2048.Idx → EReal := m ((c : Thread nD τ).loc main_arg2)

theorem iblk0_apply (t : Fin cfg0.N) (x : Fin 1024) (r : Fin 1024) :
    iblk m c 0 t (ix2 x r) = aA m c (ix2 (Fin.ofNat 8192 (1024 * (t.val % 8) + x.val)) (rw_ (t.val / 8) r)) := by
  have ht := lt_N t
  have e : ((cfg0.win 0).blk t).view.emb (ix2 x r)
      = (ix2 (Fin.ofNat 8192 (1024 * (t.val % 8) + x.val)) (rw_ (t.val / 8) r) : S8192x2048.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 1024 + 1 * r.val = _ % 2048; rw [at0]; show t.val / 32 * 1024 + 1 * r.val = (1024 * (t.val / 8 / 4) + r.val) % 2048; omega
  unfold iblk
  rw [View.read_apply, e]
  show V m c main_arg0 _ = _
  rw [V_main_arg0]

theorem iblk1_apply (t : Fin cfg0.N) (x : Fin 1024) (s : Fin 512) :
    iblk m c 1 t (ix2 x s) = aY m c (ix2 (Fin.ofNat 8192 (1024 * (t.val % 8) + x.val)) (cl (t.val / 8) s)) := by
  have e : ((cfg0.win 1).blk t).view.emb (ix2 x s)
      = (ix2 (Fin.ofNat 8192 (1024 * (t.val % 8) + x.val)) (cl (t.val / 8) s) : S8192x2048.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 512 + 1 * s.val = _ % 2048; rw [at1]; show t.val / 8 % 4 * 512 + 1 * s.val = (512 * (t.val / 8 % 4) + s.val) % 2048; omega
  unfold iblk
  rw [View.read_apply, e]
  show V m c main_arg2 _ = _
  rw [V_main_arg2]

/-- What block `k` of the rows adds to place `y` of output block `b`. -/
def term (b k : ℕ) (y : S1024x512.Idx) : EReal :=
  ∑ x : Fin 1024, aA m c (ix2 (Fin.ofNat 8192 (1024 * k + x.val)) (rw_ b (y 0))) * aY m c (ix2 (Fin.ofNat 8192 (1024 * k + x.val)) (cl b (y 1)))

theorem part_eq (t : Fin cfg0.N) (r : Fin 1024) (s : Fin 512) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 512) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x512.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the activated scan output times every column of the cotangent. -/
def G : S1x2048x2048.Idx → EReal := fun i => ∑ j : Fin 8192, aA m c (ix2 j (i 1)) * aY m c (ix2 j (i 2))

theorem out_eq (t : Fin cfg0.N) (h7 : t.val % 8 = 7) (r : Fin 1024) (s : Fin 512) :
    (outsAt0 m c t.val t.isLt).1 (ix3 0 r s) = G m c (ix3 0 (rw_ (t.val / 8) r) (cl (t.val / 8) s)) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aA m c (ix2 j (rw_ (t.val / 8) r)) * aY m c (ix2 j (cl (t.val / 8) s))

theorem emb2 (t : Fin cfg0.N) (r : Fin 1024) (s : Fin 512) :
    ((cfg0.win 2).blk t).view.emb (ix3 (0 : Fin 1) r s) = (ix3 0 (rw_ (t.val / 8) r) (cl (t.val / 8) s) : S1x2048x2048.Idx) := by
  have ht := lt_N t
  funext a
  apply Fin.ext
  match a with
  | ⟨0, _⟩ => show win0_2.index t 0 * 1 + 1 * 0 = 0; rw [at2]; rfl
  | ⟨1, _⟩ => show win0_2.index t 1 * 1024 + 1 * r.val = _ % 2048; rw [at2]; show t.val / 32 * 1024 + 1 * r.val = (1024 * (t.val / 8 / 4) + r.val) % 2048; omega
  | ⟨2, _⟩ => show win0_2.index t 2 * 512 + 1 * s.val = _ % 2048; rw [at2]; show t.val / 8 % 4 * 512 + 1 * s.val = (512 * (t.val / 8 % 4) + s.val) % 2048; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x1024x512.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨z, a, b, rfl⟩ : ∃ (z : Fin 1) (a : Fin 2048) (b : Fin 2048), i = (ix3 z a b : S1x2048x2048.Idx) := ⟨i 0, i 1, i 2, ValueIdx.eq_ix3 i⟩
    obtain rfl : z = 0 := Subsingleton.elim _ _
    let t : Fin cfg0.N := ⟨32 * (a.val / 1024) + 8 * (b.val / 512) + 7, by show _ < 64; omega⟩
    refine ⟨t, (flush0_2 t).mpr (by show (32 * (a.val / 1024) + 8 * (b.val / 512) + 7) % 8 = 7; omega), ?_⟩
    have e := emb2 t ⟨a.val % 1024, by omega⟩ ⟨b.val % 512, by omega⟩
    rw [show rw_ (t.val / 8) ⟨a.val % 1024, by omega⟩ = a from Fin.ext (by
        show (1024 * ((32 * (a.val / 1024) + 8 * (b.val / 512) + 7) / 8 / 4) + a.val % 1024) % 2048 = a.val; omega),
      show cl (t.val / 8) ⟨b.val % 512, by omega⟩ = b from Fin.ext (by
        show (512 * ((32 * (a.val / 1024) + 8 * (b.val / 512) + 7) / 8 % 4) + b.val % 512) % 2048 = b.val; omega)] at e
    rw [← e]
    exact View.emb_mem_set _ _

end Cert.KernelDwgluIdeal.Mix

end
-- ==== Proof.Mix.Dwglu.Claims.lean ====
/- The claims about the gradient of the scan layer's gate weight. -/
module

public import proofs.«01_k».proof.Defs
public import proofs.«01_k».proof.Proof.Gen.KernelDwglu.Frame
public import proofs.«01_k».proof.Proof.Gen.ReferenceDwgluIdeal.Read
public import proofs.«01_k».proof.Proof.Mix.Dwglu.Final

@[expose] public section

set_option maxRecDepth 16384

noncomputable section

namespace Cert.MixDwglu

open Idealize.ShloMosaic Idealize.ShloMosaic.TcCoe Idealize.SL.Sem

theorem frame_k : Cert.quiescent_KernelDwglu := fun m ρ _ => Cert.KernelDwglu.Gen.frame m ρ
theorem frame_ki : Cert.quiescent_KernelDwgluIdeal := fun m ρ _ => Cert.KernelDwgluIdeal.Gen.frame m ρ
theorem frame_r : Cert.quiescent_ReferenceDwgluIdeal := fun m ρ _ =>
  (θ_run Cert.ReferenceDwgluIdeal.defs _ _).mono (fun r h => ⟨fun c => (h c).2, Idealize.ShloMosaic.sem_eq_zero_of_no_sems (by decide) r.2⟩)
    (Cert.ReferenceDwgluIdeal.Value.run (F := Ideal) m ρ)
theorem preserves : Cert.preserves_KernelDwglu_KernelDwgluIdeal := trivial

/-- The call leaves the reference's gradient. -/
theorem algebraic : Cert.algebraic_KernelDwgluIdeal_ReferenceDwgluIdeal := by
  intro m g m' g' _ hagree
  refine ⟨_, Cert.KernelDwgluIdeal.Value.run_blocks m g, ?_⟩
  refine (θ_run Cert.ReferenceDwgluIdeal.defs _ _).mono (fun r h c => ?_) (Cert.ReferenceDwgluIdeal.Value.run (F := Ideal) m' g')
  obtain ⟨a0, _, a2⟩ := hagree c
  refine ⟨(h c).1.trans ?_, (h c).2⟩
  rw [Cert.ReferenceDwgluIdeal.Read.val_main_v8_eq, Cert.KernelDwgluIdeal.Mix.final]
  refine funext fun i => ?_
  rw [Cert.ReferenceDwgluIdeal.Read.val_main_v8_apply, Cert.ReferenceDwgluIdeal.Read.val_main_v7_apply,
    Cert.ReferenceDwgluIdeal.Read.val_main_v5_apply, Cert.ReferenceDwgluIdeal.Read.val_main_v4_apply]
  unfold Cert.KernelDwgluIdeal.Mix.G Cert.KernelDwgluIdeal.Mix.aA Cert.KernelDwgluIdeal.Mix.aY
  rw [← a0, ← a2]
  refine Finset.sum_congr rfl fun j _ => ?_
  rw [Cert.ReferenceDwgluIdeal.Read.val_main_v0_apply, Cert.ReferenceDwgluIdeal.Read.val_main_v3_apply]
  refine (mul_comm (G := EReal) _ _).trans ?_
  exact congrArg₂ (fun x y : EReal => x * y) (congrArg (m' _) (ValueIdx.eq_ix2 _)) (congrArg (m' _) (ValueIdx.eq_ix2 _))

end Cert.MixDwglu

end
-- ==== Proof.Mix.Dz.Final.lean ====
/- The gradient of the scan layer's gate product in its input: the array the call leaves. Each point of the
   grid makes one block, whole. -/
module

public import proofs.«01_k».proof.Proof.Gen.KernelDzIdeal.Value
public import proofs.«01_k».proof.Proof.Ffn.Blocks

@[expose] public section

set_option maxRecDepth 16384

noncomputable section

namespace Cert.KernelDzIdeal.Mix

open Cert.KernelDzIdeal Cert.KernelDzIdeal.Gen Cert.Ffn Idealize.ShloMosaic Idealize.ShloMosaic.TcCoe Idealize.SL.Sem
open Idealize.ShloMosaic.Pipeline (Dat Window)
open Facts

/-! ## What one grid point leaves -/

/-- The product of a point's two blocks. -/
def part (a : S1024x2048.Idx → EReal) (w : S1x1x1024x2048.Idx → EReal) (r : Fin 1024) (s : Fin 1024) : EReal :=
  ∑ x : Fin 2048, a (ix2 r x) * w (ix4 0 0 s x)

theorem pay2_apply (a : S1024x2048.Idx → EReal) (w : S1x1x1024x2048.Idx → EReal) (r : Fin 1024) (s : Fin 1024) :
    k0_pay2 (F := Ideal) a w (ix2 r s) = part a w r s := by
  unfold k0_pay2 k0_pay1 part
  pointwise []

/-- A store through the whole block reads back as its payload. -/
theorem read_store {κ : Kind} {sp : Space} (V : View sig κ sp S1024x1024 .f32) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)

theorem out (c : Dev nD) (i : grid0.Coords) (arg3 : Memref sig .tc .vmem S1024x2048 .bf16) (harg3 : arg3.IsWhole) (arg4 : Memref sig .tc .vmem S1x1x1024x2048 .bf16) (harg4 : arg4.IsWhole)
    (arg5 : Memref sig .tc .vmem S1024x1024 .f32) (harg5 : arg5.IsWhole) (arg6 : Memref sig .tc .vmem S1024x1024 .f32) (harg6 : arg6.IsWhole)
    (x0 : Vec Ideal S1024x2048 .bf16) (x1 : Vec Ideal S1x1x1024x2048 .bf16) (r : Fin 1024) (s : Fin 1024) (h0 h1 h2) :
    out0_A_2 (F := Ideal) c i arg3 harg3 arg4 harg4 arg5 harg5 arg6 harg6 h0 h1 h2 x0 x1 (ix2 r s) = part x0 x1 r s := by
  unfold out0_A_2 kernelRun0_A
  dsimp only
  refine (read_store _ _ _ _ _).trans ?_
  unfold kernelRun0_A.sl.v13 View.readCov kernelRun0_A.sl.HS0_1
  rw [View.readAt_eq_ld, View.ld_unit_zero (S := S1024x1024) zero2]
  refine (read_store _ _ _ _ _).trans ?_
  simp only [View.readAt_eq_ld, harg3.read_unread, harg4.read_unread, harg6.read_unread]
  rw [View.ld_unit_zero (S := S1024x2048) zero2, View.ld_unit_zero (S := S1x1x1024x2048) zero4]
  exact pay2_apply _ _ _ _

/-! ## The array at the end -/

theorem at0 : ∀ t : Fin cfg0.N, win0_0.index t = ![t.val / 2, 0] := (by decide +kernel : ∀ t : Fin grid0.N, _)
theorem at1 : ∀ t : Fin cfg0.N, win0_1.index t = ![0, 0, t.val % 2, 0] := (by decide +kernel : ∀ t : Fin grid0.N, _)
theorem at2 : ∀ t : Fin cfg0.N, win0_2.index t = ![t.val / 2, t.val % 2] := (by decide +kernel : ∀ t : Fin grid0.N, _)

theorem lt_N (t : Fin cfg0.N) : t.val < 16 := t.isLt

/-- The row and the column of the result that a point's block holds at `r` and `s`. -/
def rw_ (n : ℕ) (r : Fin 1024) : Fin 8192 := Fin.ofNat 8192 (1024 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The cotangent and the weight, as the call is launched with them. -/
abbrev aY : S8192x2048.Idx → EReal := m ((c : Thread nD τ).loc main_arg2)
abbrev aW : S2048x2048.Idx → EReal := m ((c : Thread nD τ).loc main_arg1)

theorem V_main_v0 : V m c main_v0 = shapeCast S1x1x2048x2048 (aW m c) shapeCasts_S2048x2048_S1x1x2048x2048 := by
  unfold_abbrev_sides
  after_results
  rfl

theorem lead_apply (x : S2048x2048.Idx → EReal) (k : Fin 2048) (d : Fin 2048) :
    shapeCast S1x1x2048x2048 x shapeCasts_S2048x2048_S1x1x2048x2048 (ix4 (0 : Fin 1) (0 : Fin 1) k d) = x (ix2 k d) := by
  pointwise

theorem iblk0_apply (t : Fin cfg0.N) (r : Fin 1024) (x : Fin 2048) :
    iblk m c 0 t (ix2 r x) = aY m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val / 2 * 1024 + 1 * r.val = (1024 * (t.val / 2) + r.val) % 8192; omega
    | ⟨1, _⟩ => show win0_0.index t 1 * 2048 + 1 * x.val = x.val; rw [at0]; show 0 * 2048 + 1 * x.val = _; omega
  unfold iblk
  rw [View.read_apply, e]
  show V m c main_arg2 _ = _
  rw [V_main_arg2]

theorem iblk1_apply (t : Fin cfg0.N) (s : Fin 1024) (x : Fin 2048) :
    iblk m c 1 t (ix4 (0 : Fin 1) (0 : Fin 1) s x) = aW m c (ix2 (cl t.val s) x) := by
  have e : ((cfg0.win 1).blk t).view.emb (ix4 (0 : Fin 1) (0 : Fin 1) s x) = (ix4 0 0 (cl t.val s) x : S1x1x2048x2048.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 1024 + 1 * s.val = _ % 2048; rw [at1]; show t.val % 2 * 1024 + 1 * s.val = (1024 * (t.val % 2) + s.val) % 2048; omega
    | ⟨3, _⟩ => show win0_1.index t 3 * 2048 + 1 * x.val = x.val; rw [at1]; show 0 * 2048 + 1 * x.val = _; omega
  unfold iblk
  rw [View.read_apply, e]
  show V m c main_v0 _ = _
  rw [V_main_v0, lead_apply]

/-- The result: every row of the cotangent times every row of the weight. -/
def G : S8192x2048.Idx → EReal := fun i => ∑ j : Fin 2048, aY m c (ix2 (i 0) j) * aW m c (ix2 (i 1) j)

theorem part_eq (t : Fin cfg0.N) (r : Fin 1024) (s : Fin 1024) :
    part (iblk m c 0 t) (iblk m c 1 t) r s = G m c (ix2 (rw_ t.val r) (cl t.val s)) := by
  unfold part G
  exact Finset.sum_congr rfl fun x _ => by rw [iblk0_apply, iblk1_apply]; rfl

theorem emb2 (t : Fin cfg0.N) (r : Fin 1024) (s : Fin 1024) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 2 * 1024 + 1 * r.val = (1024 * (t.val / 2) + r.val) % 8192; omega
  | ⟨1, _⟩ => show win0_2.index t 1 * 1024 + 1 * s.val = _ % 2048; rw [at2]; show t.val % 2 * 1024 + 1 * s.val = (1024 * (t.val % 2) + s.val) % 2048; omega

theorem final : (dats m 0 c).arrAt 2 cfg0.N = G m c := by
  refine (dats m 0 c).arrAt_eq_of_cover 2 (G m c) (fun t hf => ?_) fun i => ?_
  · rw [Value.flushed2_A]
    refine funext fun (y : S1024x1024.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨2 * (a.val / 1024) + b.val / 1024, by show _ < 16; omega⟩
    refine ⟨t, flush0_2 t, ?_⟩
    have e := emb2 t ⟨a.val % 1024, by omega⟩ ⟨b.val % 1024, by omega⟩
    rw [show rw_ t.val ⟨a.val % 1024, by omega⟩ = a from Fin.ext (by
        show (1024 * ((2 * (a.val / 1024) + b.val / 1024) / 2) + a.val % 1024) % 8192 = a.val; omega),
      show cl t.val ⟨b.val % 1024, by omega⟩ = b from Fin.ext (by
        show (1024 * ((2 * (a.val / 1024) + b.val / 1024) % 2) + b.val % 1024) % 2048 = b.val; omega)] at e
    rw [← e]
    exact View.emb_mem_set _ _

end Cert.KernelDzIdeal.Mix

end
-- ==== Proof.Mix.Dz.Claims.lean ====
/- The claims about the gradient of the scan layer's gate product in its input. -/
module

public import proofs.«01_k».proof.Defs
public import proofs.«01_k».proof.Proof.Gen.KernelDz.Frame
public import proofs.«01_k».proof.Proof.Gen.ReferenceDzIdeal.Read
public import proofs.«01_k».proof.Proof.Mix.Dz.Final

@[expose] public section

set_option maxRecDepth 16384

noncomputable section

namespace Cert.MixDz

open Idealize.ShloMosaic Idealize.ShloMosaic.TcCoe Idealize.SL.Sem

theorem frame_k : Cert.quiescent_KernelDz := fun m ρ _ => Cert.KernelDz.Gen.frame m ρ
theorem frame_ki : Cert.quiescent_KernelDzIdeal := fun m ρ _ => Cert.KernelDzIdeal.Gen.frame m ρ
theorem frame_r : Cert.quiescent_ReferenceDzIdeal := fun m ρ _ =>
  (θ_run Cert.ReferenceDzIdeal.defs _ _).mono (fun r h => ⟨fun c => (h c).2, Idealize.ShloMosaic.sem_eq_zero_of_no_sems (by decide) r.2⟩)
    (Cert.ReferenceDzIdeal.Value.run (F := Ideal) m ρ)
theorem preserves : Cert.preserves_KernelDz_KernelDzIdeal := trivial

/-- The call leaves the reference's gradient. -/
theorem algebraic : Cert.algebraic_KernelDzIdeal_ReferenceDzIdeal := by
  intro m g m' g' _ hagree
  refine ⟨_, Cert.KernelDzIdeal.Value.run_blocks m g, ?_⟩
  refine (θ_run Cert.ReferenceDzIdeal.defs _ _).mono (fun r h c => ?_) (Cert.ReferenceDzIdeal.Value.run (F := Ideal) m' g')
  obtain ⟨_, a1, a2⟩ := hagree c
  refine ⟨(h c).1.trans ?_, (h c).2⟩
  rw [Cert.ReferenceDzIdeal.Read.val_main_v6_eq, Cert.KernelDzIdeal.Mix.final]
  refine funext fun i => ?_
  rw [Cert.ReferenceDzIdeal.Read.val_main_v6_apply]
  unfold Cert.KernelDzIdeal.Mix.G Cert.KernelDzIdeal.Mix.aY Cert.KernelDzIdeal.Mix.aW
  rw [← a1, ← a2]
  refine Finset.sum_congr rfl fun j _ => ?_
  rw [Cert.ReferenceDzIdeal.Read.val_main_v1_apply, Cert.ReferenceDzIdeal.Read.val_main_v3_apply]
  exact congrArg₂ (fun x y : EReal => x * y) (congrArg (m' _) (ValueIdx.eq_ix2 _)) (congrArg (m' _) (ValueIdx.eq_ix2 _))

end Cert.MixDz

end
-- ==== Proof.Mix.Low.Final.lean ====
/- The latent layer's first product: the array the call leaves. Each point of the
   grid makes one block, whole. -/
module

public import proofs.«01_k».proof.Proof.Gen.KernelLowIdeal.Value
public import proofs.«01_k».proof.Proof.Ffn.Blocks

@[expose] public section

set_option maxRecDepth 16384

noncomputable section

namespace Cert.KernelLowIdeal.Mix

open Cert.KernelLowIdeal Cert.KernelLowIdeal.Gen Cert.Ffn Idealize.ShloMosaic Idealize.ShloMosaic.TcCoe Idealize.SL.Sem
open Idealize.ShloMosaic.Pipeline (Dat Window)
open Facts

/-- The product of a point's two blocks. -/
def part (a : S1024x2048.Idx → EReal) (w : S1x1x2048x1088.Idx → EReal) (r : Fin 1024) (s : Fin 1088) : EReal :=
  ∑ x : Fin 2048, a (ix2 r x) * w (ix4 0 0 x s)

theorem pay1_apply (a : S1024x2048.Idx → EReal) (w : S1x1x2048x1088.Idx → EReal) (r : Fin 1024) (s : Fin 1088) :
    k0_pay1 (F := Ideal) a w (ix2 r s) = part a w r s := by
  unfold k0_pay1 part
  pointwise []

theorem out (a : Vec Ideal S1024x2048 .bf16) (w : Vec Ideal S1x1x2048x1088 .bf16) (r : Fin 1024) (s : Fin 1088) :
    out0_2 (F := Ideal) a w (ix2 r s) = part a w r s := by
  unfold out0_2
  rw [View.canon_unit_zero (S := S1024x1088) zero2, View.ld_unit_zero (S := S1024x2048) zero2,
    View.ld_unit_zero (S := S1x1x2048x1088) zero4]
  exact pay1_apply _ _ _ _

/-! ## The array at the end -/

theorem at0 : ∀ t : Fin cfg0.N, win0_0.index t = ![t.val, 0] := (by decide +kernel : ∀ t : Fin grid0.N, _)
theorem at1 : ∀ t : Fin cfg0.N, win0_1.index t = ![0, 0, 0, 0] := (by decide +kernel : ∀ t : Fin grid0.N, _)
theorem at2 : ∀ t : Fin cfg0.N, win0_2.index t = ![t.val, 0] := (by decide +kernel : ∀ t : Fin grid0.N, _)

theorem lt_N (t : Fin cfg0.N) : t.val < 8 := t.isLt

/-- The row and the column of the result that a point's block holds at `r` and `s`. -/
def rw_ (n : ℕ) (r : Fin 1024) : Fin 8192 := Fin.ofNat 8192 (1024 * n + r.val)
def cl (n : ℕ) (s : Fin 1088) : Fin 1088 := Fin.ofNat 1088 (1088 * 0 + s.val)

variable (m : (ℓ : Loc nD τ sig) → Buf (Elt Ideal) ℓ) (c : Dev nD)

/-- The normed input and the weight, as the call is launched with them. -/
abbrev aA : S8192x2048.Idx → EReal := m ((c : Thread nD τ).loc main_arg0)
abbrev aW : S2048x1088.Idx → EReal := m ((c : Thread nD τ).loc main_arg1)

theorem V_main_v0 : V m c main_v0 = shapeCast S1x1x2048x1088 (aW m c) shapeCasts_S2048x1088_S1x1x2048x1088 := by
  unfold_abbrev_sides
  after_results
  rfl

theorem lead_apply (x : S2048x1088.Idx → EReal) (k : Fin 2048) (d : Fin 1088) :
    shapeCast S1x1x2048x1088 x shapeCasts_S2048x1088_S1x1x2048x1088 (ix4 (0 : Fin 1) (0 : Fin 1) k d) = x (ix2 k d) := by
  pointwise

theorem iblk0_apply (t : Fin cfg0.N) (r : Fin 1024) (x : Fin 2048) :
    iblk m c 0 t (ix2 r x) = aA m c (ix2 (rw_ t.val r) x) := by
  have ht := lt_N t
  have e : ((cfg0.win 0).blk t).view.emb (ix2 r x) = (ix2 (rw_ t.val r) x : S8192x2048.Idx) := by
    funext a
    apply Fin.ext
    match a with
    | ⟨0, _⟩ => show win0_0.index t 0 * 1024 + 1 * r.val = _ % 8192; rw [at0]; show t.val * 1024 + 1 * r.val = (1024 * (t.val) + r.val) % 8192; omega
    | ⟨1, _⟩ => show win0_0.index t 1 * 2048 + 1 * x.val = x.val; rw [at0]; show 0 * 2048 + 1 * x.val = _; omega
  unfold iblk
  rw [View.read_apply, e]
  show V m c main_arg0 _ = _
  rw [V_main_arg0]

theorem iblk1_apply (t : Fin cfg0.N) (x : Fin 2048) (s : Fin 1088) :
    iblk m c 1 t (ix4 (0 : Fin 1) (0 : Fin 1) x s) = aW m c (ix2 x (cl t.val s)) := by
  have e : ((cfg0.win 1).blk t).view.emb (ix4 (0 : Fin 1) (0 : Fin 1) x s) = (ix4 0 0 x (cl t.val s) : S1x1x2048x1088.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 2048 + 1 * x.val = x.val; rw [at1]; show 0 * 2048 + 1 * x.val = _; omega
    | ⟨3, _⟩ => show win0_1.index t 3 * 1088 + 1 * s.val = _ % 1088; rw [at1]; show 0 * 1088 + 1 * s.val = (1088 * (0) + s.val) % 1088; omega
  unfold iblk
  rw [View.read_apply, e]
  show V m c main_v0 _ = _
  rw [V_main_v0, lead_apply]

theorem emb2 (t : Fin cfg0.N) (r : Fin 1024) (s : Fin 1088) :
    ((cfg0.win 2).blk t).view.emb (ix2 r s) = (ix2 (rw_ t.val r) (cl t.val s) : S8192x1088.Idx) := by
  have ht := lt_N t
  funext a
  apply Fin.ext
  match a with
  | ⟨0, _⟩ => show win0_2.index t 0 * 1024 + 1 * r.val = _ % 8192; rw [at2]; show t.val * 1024 + 1 * r.val = (1024 * (t.val) + r.val) % 8192; omega
  | ⟨1, _⟩ => show win0_2.index t 1 * 1088 + 1 * s.val = _ % 1088; rw [at2]; show 0 * 1088 + 1 * s.val = (1088 * (0) + s.val) % 1088; omega

/-- The result: every row of the normed input times every column of the weight. -/
def G : S8192x1088.Idx → EReal := fun i => ∑ j : Fin 2048, aA m c (ix2 (i 0) j) * aW m c (ix2 j (i 1))

theorem part_eq (t : Fin cfg0.N) (r : Fin 1024) (s : Fin 1088) :
    part (iblk m c 0 t) (iblk m c 1 t) r s = G m c (ix2 (rw_ t.val r) (cl t.val s)) := by
  unfold part G
  exact Finset.sum_congr rfl fun x _ => by rw [iblk0_apply, iblk1_apply]; rfl

theorem final : (dats m 0 c).arrAt 2 cfg0.N = G m c := by
  refine (dats m 0 c).arrAt_eq_of_cover 2 (G m c) (fun t hf => ?_) fun i => ?_
  · rw [Value.flushed2]
    refine funext fun (y : S1024x1088.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 1088), i = (ix2 a b : S8192x1088.Idx) := ⟨i 0, i 1, ValueIdx.eq_ix2 i⟩
    let t : Fin cfg0.N := ⟨a.val / 1024, by show _ < 8; omega⟩
    refine ⟨t, flush0_2 t, ?_⟩
    have e := emb2 t ⟨a.val % 1024, by omega⟩ ⟨b.val % 1088, by omega⟩
    rw [show rw_ t.val ⟨a.val % 1024, by omega⟩ = a from Fin.ext (by
        show (1024 * (a.val / 1024) + a.val % 1024) % 8192 = a.val; omega),
      show cl t.val ⟨b.val % 1088, by omega⟩ = b from Fin.ext (by
        show (1088 * 0 + b.val % 1088) % 1088 = b.val; omega)] at e
    rw [← e]
    exact View.emb_mem_set _ _

end Cert.KernelLowIdeal.Mix

end
-- ==== Proof.Mix.Low.Claims.lean ====
/- The claims about the latent layer's first product. -/
module

public import proofs.«01_k».proof.Defs
public import proofs.«01_k».proof.Proof.Gen.KernelLow.Frame
public import proofs.«01_k».proof.Proof.Gen.ReferenceLowIdeal.Read
public import proofs.«01_k».proof.Proof.Mix.Low.Final

@[expose] public section

set_option maxRecDepth 16384

noncomputable section

namespace Cert.MixLow

open Idealize.ShloMosaic Idealize.ShloMosaic.TcCoe Idealize.SL.Sem

theorem frame_k : Cert.quiescent_KernelLow := fun m ρ _ => Cert.KernelLow.Gen.frame m ρ
theorem frame_ki : Cert.quiescent_KernelLowIdeal := fun m ρ _ => Cert.KernelLowIdeal.Gen.frame m ρ
theorem frame_r : Cert.quiescent_ReferenceLowIdeal := fun m ρ _ =>
  (θ_run Cert.ReferenceLowIdeal.defs _ _).mono (fun r h => ⟨fun c => (h c).2, Idealize.ShloMosaic.sem_eq_zero_of_no_sems (by decide) r.2⟩)
    (Cert.ReferenceLowIdeal.Value.run (F := Ideal) m ρ)
theorem preserves : Cert.preserves_KernelLow_KernelLowIdeal := trivial

/-- The call leaves the reference's product. -/
theorem algebraic : Cert.algebraic_KernelLowIdeal_ReferenceLowIdeal := by
  intro m g m' g' _ hagree
  refine ⟨_, Cert.KernelLowIdeal.Value.run_blocks m g, ?_⟩
  refine (θ_run Cert.ReferenceLowIdeal.defs _ _).mono (fun r h c => ?_) (Cert.ReferenceLowIdeal.Value.run (F := Ideal) m' g')
  obtain ⟨a0, a1⟩ := hagree c
  refine ⟨(h c).1.trans ?_, (h c).2⟩
  rw [Cert.ReferenceLowIdeal.Read.val_main_v2_eq, Cert.KernelLowIdeal.Mix.final]
  refine funext fun i => ?_
  rw [Cert.ReferenceLowIdeal.Read.val_main_v2_apply]
  unfold Cert.KernelLowIdeal.Mix.G Cert.KernelLowIdeal.Mix.aA Cert.KernelLowIdeal.Mix.aW
  rw [← a0, ← a1]
  refine Finset.sum_congr rfl fun j _ => ?_
  rw [Cert.ReferenceLowIdeal.Read.val_main_v0_apply, Cert.ReferenceLowIdeal.Read.val_main_v1_apply]
  exact congrArg₂ (fun x y : EReal => x * y) (congrArg (m' _) (ValueIdx.eq_ix2 _)) (congrArg (m' _) (ValueIdx.eq_ix2 _))

end Cert.MixLow

end
-- ==== Proof.Mix.Dwlow.Point.lean ====
/- The gradient of the latent layer's first weight: what one grid point leaves in its accumulator
   and in its output block. -/
module

public import proofs.«01_k».proof.Proof.Gen.KernelDwlowIdeal.Frame
public import proofs.«01_k».proof.Proof.Ffn.Blocks

@[expose] public section

set_option maxRecDepth 16384

noncomputable section

namespace Cert.KernelDwlowIdeal.Mix

open Cert.KernelDwlowIdeal Cert.KernelDwlowIdeal.Gen Cert.Ffn Idealize.ShloMosaic Idealize.ShloMosaic.TcCoe Idealize.SL.Sem

/-- The product of a point's two blocks, over their rows. -/
def part (a : S1024x1024.Idx → EReal) (w : S1024x1088.Idx → EReal) (r : Fin 1024) (s : Fin 1088) : EReal :=
  ∑ x : Fin 1024, a (ix2 x r) * w (ix2 x s)

theorem pay2_apply (a : S1024x1024.Idx → EReal) (w : S1024x1088.Idx → EReal) (r : Fin 1024) (s : Fin 1088) :
    k0_pay2 (F := Ideal) a w (ix2 r s) = part a w r s := by
  unfold k0_pay2 k0_pay1 part
  pointwise []
theorem pay3_apply (a : S1024x1024.Idx → EReal) (w : S1024x1088.Idx → EReal) (z : S1024x1088.Idx → EReal) (r : Fin 1024) (s : Fin 1088) :
    k0_pay3 (F := Ideal) a w z (ix2 r s) = z (ix2 r s) + part a w r s := by
  unfold k0_pay3 k0_pay1 part
  pointwise []
theorem pay4_apply (z : S1024x1088.Idx → EReal) (r : Fin 1024) (s : Fin 1088) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S1024x1088 .f32) (f) (w : S1024x1088.Idx → EReal) (L) (y) :
    V.read (Elt Ideal) (V.writes (Elt Ideal) f (⟨Rect.unit (s := S1024x1088) ![0, 0] S1024x1088.size inb_S1024x1088_S1024x1088_0_0, w⟩ :: L)) y = w y :=
  View.read_writes_cons_unit_of_mem V f inb_S1024x1088_S1024x1088_0_0 w L y y rfl (by intro a; fin_cases a <;> simp)
theorem read_out {κ : Kind} {sp : Space} (V : View sig κ sp S1x1024x1088 .bf16) (f) (w : S1x1024x1088.Idx → EReal) (L) (y) :
    V.read (Elt Ideal) (V.writes (Elt Ideal) f (⟨Rect.unit (s := S1x1024x1088) ![0, 0, 0] S1x1024x1088.size inb_S1x1024x1088_S1x1024x1088_0_0_0, w⟩ :: L)) y = w y :=
  View.read_writes_cons_unit_of_mem V f inb_S1x1024x1088_S1x1024x1088_0_0_0 w L y y rfl (by intro a; fin_cases a <;> simp)

section
variable (c : Dev nD) (i : grid0.Coords) (arg3 : Memref sig .tc .vmem S1024x1024 .bf16) (harg3 : arg3.IsWhole) (arg4 : Memref sig .tc .vmem S1024x1088 .bf16) (harg4 : arg4.IsWhole)
  (arg5 : Memref sig .tc .vmem S1x1024x1088 .bf16) (harg5 : arg5.IsWhole) (arg6 : Memref sig .tc .vmem S1024x1088 .f32) (harg6 : arg6.IsWhole)
  (x0 : Vec Ideal S1024x1024 .bf16) (x1 : Vec Ideal S1024x1088 .bf16) (xs0 : Vec Ideal S1024x1088 .f32) (r : Fin 1024) (s : Fin 1088)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x1024) zero2, View.ld_unit_zero (S := S1024x1088) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x1024) zero2, View.ld_unit_zero (S := S1024x1088) zero2, View.ld_unit_zero (S := S1024x1088) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x1024) zero2, View.ld_unit_zero (S := S1024x1088) zero2, View.ld_unit_zero (S := S1024x1088) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v12 View.readCov kernelRun0_C.sl.HS0_1
  rw [View.readAt_eq_ld, View.ld_unit_zero (S := S1024x1088) zero2]
  refine (read_store _ _ _ _ _).trans ?_
  simp only [View.readAt_eq_ld, harg3.read_unread, harg4.read_unread, harg6.read_unread]
  rw [View.ld_unit_zero (S := S1024x1024) zero2, View.ld_unit_zero (S := S1024x1088) zero2, View.ld_unit_zero (S := S1024x1088) zero2]
  exact pay3_apply _ _ _ _ _
end

end Cert.KernelDwlowIdeal.Mix

end
-- ==== Proof.Mix.Dwlow.Final.lean ====
/- The gradient of the latent layer's first weight: the array the call leaves, as one sum over all rows. -/
module

public import proofs.«01_k».proof.Proof.Gen.KernelDwlowIdeal.Value
public import proofs.«01_k».proof.Proof.Mix.Dwlow.Point

@[expose] public section

set_option maxRecDepth 16384

noncomputable section

namespace Cert.KernelDwlowIdeal.Mix

open Cert.KernelDwlowIdeal Cert.KernelDwlowIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, t.val / 8] := (by decide +kernel : ∀ t : Fin grid0.N, _)
theorem at1 : ∀ t : Fin cfg0.N, win0_1.index t = ![t.val % 8, 0] := (by decide +kernel : ∀ t : Fin grid0.N, _)
theorem at2 : ∀ t : Fin cfg0.N, win0_2.index t = ![0, t.val / 8, 0] := (by decide +kernel : ∀ t : Fin grid0.N, _)

theorem lt_N (t : Fin cfg0.N) : t.val < 16 := t.isLt

/-- The row and the column of the result that output block `n` holds at `r` and `s`. -/
def rw_ (n : ℕ) (r : Fin 1024) : Fin 2048 := Fin.ofNat 2048 (1024 * n + r.val)
def cl (n : ℕ) (s : Fin 1088) : Fin 1088 := Fin.ofNat 1088 (1088 * 0 + s.val)

variable (m : (ℓ : Loc nD τ sig) → Buf (Elt Ideal) ℓ) (c : Dev nD)

/-- The normed input and the cotangent, as the call is launched with them. -/
abbrev aA : S8192x2048.Idx → EReal := m ((c : Thread nD τ).loc main_arg0)
abbrev aY : S8192x1088.Idx → EReal := m ((c : Thread nD τ).loc main_arg2)

theorem iblk0_apply (t : Fin cfg0.N) (x : Fin 1024) (r : Fin 1024) :
    iblk m c 0 t (ix2 x r) = aA m c (ix2 (Fin.ofNat 8192 (1024 * (t.val % 8) + x.val)) (rw_ (t.val / 8) r)) := by
  have ht := lt_N t
  have e : ((cfg0.win 0).blk t).view.emb (ix2 x r)
      = (ix2 (Fin.ofNat 8192 (1024 * (t.val % 8) + x.val)) (rw_ (t.val / 8) r) : S8192x2048.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 1024 + 1 * r.val = _ % 2048; rw [at0]; show t.val / 8 * 1024 + 1 * r.val = (1024 * (t.val / 8) + r.val) % 2048; omega
  unfold iblk
  rw [View.read_apply, e]
  show V m c main_arg0 _ = _
  rw [V_main_arg0]

theorem iblk1_apply (t : Fin cfg0.N) (x : Fin 1024) (s : Fin 1088) :
    iblk m c 1 t (ix2 x s) = aY m c (ix2 (Fin.ofNat 8192 (1024 * (t.val % 8) + x.val)) (cl (t.val / 8) s)) := by
  have e : ((cfg0.win 1).blk t).view.emb (ix2 x s)
      = (ix2 (Fin.ofNat 8192 (1024 * (t.val % 8) + x.val)) (cl (t.val / 8) s) : S8192x1088.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 1088 + 1 * s.val = _ % 1088; rw [at1]; show 0 * 1088 + 1 * s.val = (1088 * (0) + s.val) % 1088; omega
  unfold iblk
  rw [View.read_apply, e]
  show V m c main_arg2 _ = _
  rw [V_main_arg2]

/-- What block `k` of the rows adds to place `y` of output block `b`. -/
def term (b k : ℕ) (y : S1024x1088.Idx) : EReal :=
  ∑ x : Fin 1024, aA m c (ix2 (Fin.ofNat 8192 (1024 * k + x.val)) (rw_ b (y 0))) * aY m c (ix2 (Fin.ofNat 8192 (1024 * k + x.val)) (cl b (y 1)))

theorem part_eq (t : Fin cfg0.N) (r : Fin 1024) (s : Fin 1088) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 1088) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 1088) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 1088) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x1088.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the normed input times every column of the cotangent. -/
def G : S1x2048x1088.Idx → EReal := fun i => ∑ j : Fin 8192, aA m c (ix2 j (i 1)) * aY m c (ix2 j (i 2))

theorem out_eq (t : Fin cfg0.N) (h7 : t.val % 8 = 7) (r : Fin 1024) (s : Fin 1088) :
    (outsAt0 m c t.val t.isLt).1 (ix3 0 r s) = G m c (ix3 0 (rw_ (t.val / 8) r) (cl (t.val / 8) s)) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aA m c (ix2 j (rw_ (t.val / 8) r)) * aY m c (ix2 j (cl (t.val / 8) s))

theorem emb2 (t : Fin cfg0.N) (r : Fin 1024) (s : Fin 1088) :
    ((cfg0.win 2).blk t).view.emb (ix3 (0 : Fin 1) r s) = (ix3 0 (rw_ (t.val / 8) r) (cl (t.val / 8) s) : S1x2048x1088.Idx) := by
  have ht := lt_N t
  funext a
  apply Fin.ext
  match a with
  | ⟨0, _⟩ => show win0_2.index t 0 * 1 + 1 * 0 = 0; rw [at2]; rfl
  | ⟨1, _⟩ => show win0_2.index t 1 * 1024 + 1 * r.val = _ % 2048; rw [at2]; show t.val / 8 * 1024 + 1 * r.val = (1024 * (t.val / 8) + r.val) % 2048; omega
  | ⟨2, _⟩ => show win0_2.index t 2 * 1088 + 1 * s.val = _ % 1088; rw [at2]; show 0 * 1088 + 1 * s.val = (1088 * (0) + s.val) % 1088; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x1024x1088.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨z, a, b, rfl⟩ : ∃ (z : Fin 1) (a : Fin 2048) (b : Fin 1088), i = (ix3 z a b : S1x2048x1088.Idx) := ⟨i 0, i 1, i 2, ValueIdx.eq_ix3 i⟩
    obtain rfl : z = 0 := Subsingleton.elim _ _
    let t : Fin cfg0.N := ⟨8 * (a.val / 1024) + 7, by show _ < 16; omega⟩
    refine ⟨t, (flush0_2 t).mpr (by show (8 * (a.val / 1024) + 7) % 8 = 7; omega), ?_⟩
    have e := emb2 t ⟨a.val % 1024, by omega⟩ ⟨b.val % 1088, by omega⟩
    rw [show rw_ (t.val / 8) ⟨a.val % 1024, by omega⟩ = a from Fin.ext (by
        show (1024 * ((8 * (a.val / 1024) + 7) / 8) + a.val % 1024) % 2048 = a.val; omega),
      show cl (t.val / 8) ⟨b.val % 1088, by omega⟩ = b from Fin.ext (by
        show (1088 * 0 + b.val % 1088) % 1088 = b.val; omega)] at e
    rw [← e]
    exact View.emb_mem_set _ _

end Cert.KernelDwlowIdeal.Mix

end
-- ==== Proof.Mix.Dwlow.Claims.lean ====
/- The claims about the gradient of the latent layer's first weight. -/
module

public import proofs.«01_k».proof.Defs
public import proofs.«01_k».proof.Proof.Gen.KernelDwlow.Frame
public import proofs.«01_k».proof.Proof.Gen.ReferenceDwlowIdeal.Read
public import proofs.«01_k».proof.Proof.Mix.Dwlow.Final

@[expose] public section

set_option maxRecDepth 16384

noncomputable section

namespace Cert.MixDwlow

open Idealize.ShloMosaic Idealize.ShloMosaic.TcCoe Idealize.SL.Sem

theorem frame_k : Cert.quiescent_KernelDwlow := fun m ρ _ => Cert.KernelDwlow.Gen.frame m ρ
theorem frame_ki : Cert.quiescent_KernelDwlowIdeal := fun m ρ _ => Cert.KernelDwlowIdeal.Gen.frame m ρ
theorem frame_r : Cert.quiescent_ReferenceDwlowIdeal := fun m ρ _ =>
  (θ_run Cert.ReferenceDwlowIdeal.defs _ _).mono (fun r h => ⟨fun c => (h c).2, Idealize.ShloMosaic.sem_eq_zero_of_no_sems (by decide) r.2⟩)
    (Cert.ReferenceDwlowIdeal.Value.run (F := Ideal) m ρ)
theorem preserves : Cert.preserves_KernelDwlow_KernelDwlowIdeal := trivial

/-- The call leaves the reference's gradient. -/
theorem algebraic : Cert.algebraic_KernelDwlowIdeal_ReferenceDwlowIdeal := by
  intro m g m' g' _ hagree
  refine ⟨_, Cert.KernelDwlowIdeal.Value.run_blocks m g, ?_⟩
  refine (θ_run Cert.ReferenceDwlowIdeal.defs _ _).mono (fun r h c => ?_) (Cert.ReferenceDwlowIdeal.Value.run (F := Ideal) m' g')
  obtain ⟨a0, _, a2⟩ := hagree c
  refine ⟨(h c).1.trans ?_, (h c).2⟩
  rw [Cert.ReferenceDwlowIdeal.Read.val_main_v8_eq, Cert.KernelDwlowIdeal.Mix.final]
  refine funext fun i => ?_
  rw [Cert.ReferenceDwlowIdeal.Read.val_main_v8_apply, Cert.ReferenceDwlowIdeal.Read.val_main_v7_apply,
    Cert.ReferenceDwlowIdeal.Read.val_main_v5_apply, Cert.ReferenceDwlowIdeal.Read.val_main_v4_apply]
  unfold Cert.KernelDwlowIdeal.Mix.G Cert.KernelDwlowIdeal.Mix.aA Cert.KernelDwlowIdeal.Mix.aY
  rw [← a0, ← a2]
  refine Finset.sum_congr rfl fun j _ => ?_
  rw [Cert.ReferenceDwlowIdeal.Read.val_main_v0_apply, Cert.ReferenceDwlowIdeal.Read.val_main_v3_apply]
  refine (mul_comm (G := EReal) _ _).trans ?_
  exact congrArg₂ (fun x y : EReal => x * y) (congrArg (m' _) (ValueIdx.eq_ix2 _)) (congrArg (m' _) (ValueIdx.eq_ix2 _))

end Cert.MixDwlow

end
-- ==== Proof.Mix.Dlow.Final.lean ====
/- The gradient of the latent layer's normed input: the array the call leaves. Each point of the
   grid makes one block, whole. -/
module

public import proofs.«01_k».proof.Proof.Gen.KernelDlowIdeal.Value
public import proofs.«01_k».proof.Proof.Ffn.Blocks

@[expose] public section

set_option maxRecDepth 16384

noncomputable section

namespace Cert.KernelDlowIdeal.Mix

open Cert.KernelDlowIdeal Cert.KernelDlowIdeal.Gen Cert.Ffn Idealize.ShloMosaic Idealize.ShloMosaic.TcCoe Idealize.SL.Sem
open Idealize.ShloMosaic.Pipeline (Dat Window)
open Facts

/-! ## What one grid point leaves -/

/-- The product of a point's two blocks. -/
def part (a : S1024x1088.Idx → EReal) (w : S1x1x1024x1088.Idx → EReal) (r : Fin 1024) (s : Fin 1024) : EReal :=
  ∑ x : Fin 1088, a (ix2 r x) * w (ix4 0 0 s x)

theorem pay2_apply (a : S1024x1088.Idx → EReal) (w : S1x1x1024x1088.Idx → EReal) (r : Fin 1024) (s : Fin 1024) :
    k0_pay2 (F := Ideal) a w (ix2 r s) = part a w r s := by
  unfold k0_pay2 k0_pay1 part
  pointwise []

/-- A store through the whole block reads back as its payload. -/
theorem read_store {κ : Kind} {sp : Space} (V : View sig κ sp S1024x1024 .f32) (f) (w : S1024x1024.Idx → EReal) (L) (y) :
    V.read (Elt Ideal) (V.writes (Elt Ideal) f (⟨Rect.unit (s := S1024x1024) ![0, 0] S1024x1024.size inb_S1024x1024_S1024x1024_0_0, w⟩ :: L)) y = w y :=
  View.read_writes_cons_unit_of_mem V f inb_S1024x1024_S1024x1024_0_0 w L y y rfl (by intro a; fin_cases a <;> simp)

theorem out (c : Dev nD) (i : grid0.Coords) (arg3 : Memref sig .tc .vmem S1024x1088 .bf16) (harg3 : arg3.IsWhole) (arg4 : Memref sig .tc .vmem S1x1x1024x1088 .bf16) (harg4 : arg4.IsWhole)
    (arg5 : Memref sig .tc .vmem S1024x1024 .f32) (harg5 : arg5.IsWhole) (arg6 : Memref sig .tc .vmem S1024x1024 .f32) (harg6 : arg6.IsWhole)
    (x0 : Vec Ideal S1024x1088 .bf16) (x1 : Vec Ideal S1x1x1024x1088 .bf16) (r : Fin 1024) (s : Fin 1024) (h0 h1 h2) :
    out0_A_2 (F := Ideal) c i arg3 harg3 arg4 harg4 arg5 harg5 arg6 harg6 h0 h1 h2 x0 x1 (ix2 r s) = part x0 x1 r s := by
  unfold out0_A_2 kernelRun0_A
  dsimp only
  refine (read_store _ _ _ _ _).trans ?_
  unfold kernelRun0_A.sl.v13 View.readCov kernelRun0_A.sl.HS0_1
  rw [View.readAt_eq_ld, View.ld_unit_zero (S := S1024x1024) zero2]
  refine (read_store _ _ _ _ _).trans ?_
  simp only [View.readAt_eq_ld, harg3.read_unread, harg4.read_unread, harg6.read_unread]
  rw [View.ld_unit_zero (S := S1024x1088) zero2, View.ld_unit_zero (S := S1x1x1024x1088) zero4]
  exact pay2_apply _ _ _ _

/-! ## The array at the end -/

theorem at0 : ∀ t : Fin cfg0.N, win0_0.index t = ![t.val / 2, 0] := (by decide +kernel : ∀ t : Fin grid0.N, _)
theorem at1 : ∀ t : Fin cfg0.N, win0_1.index t = ![0, 0, t.val % 2, 0] := (by decide +kernel : ∀ t : Fin grid0.N, _)
theorem at2 : ∀ t : Fin cfg0.N, win0_2.index t = ![t.val / 2, t.val % 2] := (by decide +kernel : ∀ t : Fin grid0.N, _)

theorem lt_N (t : Fin cfg0.N) : t.val < 16 := t.isLt

/-- The row and the column of the result that a point's block holds at `r` and `s`. -/
def rw_ (n : ℕ) (r : Fin 1024) : Fin 8192 := Fin.ofNat 8192 (1024 * (n / 2) + r.val)
def cl (n : ℕ) (s : Fin 1024) : Fin 2048 := Fin.ofNat 2048 (1024 * (n % 2) + s.val)

variable (m : (ℓ : Loc nD τ sig) → Buf (Elt Ideal) ℓ) (c : Dev nD)

/-- The cotangent and the weight, as the call is launched with them. -/
abbrev aY : S8192x1088.Idx → EReal := m ((c : Thread nD τ).loc main_arg2)
abbrev aW : S2048x1088.Idx → EReal := m ((c : Thread nD τ).loc main_arg1)

theorem V_main_v0 : V m c main_v0 = shapeCast S1x1x2048x1088 (aW m c) shapeCasts_S2048x1088_S1x1x2048x1088 := by
  unfold_abbrev_sides
  after_results
  rfl

theorem lead_apply (x : S2048x1088.Idx → EReal) (k : Fin 2048) (d : Fin 1088) :
    shapeCast S1x1x2048x1088 x shapeCasts_S2048x1088_S1x1x2048x1088 (ix4 (0 : Fin 1) (0 : Fin 1) k d) = x (ix2 k d) := by
  pointwise

theorem iblk0_apply (t : Fin cfg0.N) (r : Fin 1024) (x : Fin 1088) :
    iblk m c 0 t (ix2 r x) = aY m c (ix2 (rw_ t.val r) x) := by
  have ht := lt_N t
  have e : ((cfg0.win 0).blk t).view.emb (ix2 r x) = (ix2 (rw_ t.val r) x : S8192x1088.Idx) := by
    funext a
    apply Fin.ext
    match a with
    | ⟨0, _⟩ => show win0_0.index t 0 * 1024 + 1 * r.val = _ % 8192; rw [at0]; show t.val / 2 * 1024 + 1 * r.val = (1024 * (t.val / 2) + r.val) % 8192; omega
    | ⟨1, _⟩ => show win0_0.index t 1 * 1088 + 1 * x.val = x.val; rw [at0]; show 0 * 1088 + 1 * x.val = _; omega
  unfold iblk
  rw [View.read_apply, e]
  show V m c main_arg2 _ = _
  rw [V_main_arg2]

theorem iblk1_apply (t : Fin cfg0.N) (s : Fin 1024) (x : Fin 1088) :
    iblk m c 1 t (ix4 (0 : Fin 1) (0 : Fin 1) s x) = aW m c (ix2 (cl t.val s) x) := by
  have e : ((cfg0.win 1).blk t).view.emb (ix4 (0 : Fin 1) (0 : Fin 1) s x) = (ix4 0 0 (cl t.val s) x : S1x1x2048x1088.Idx) := by
    funext a
    apply Fin.ext
    match a with
    | ⟨0, _⟩ => show win0_1.index t 0 * 1 + 1 * 0 = 0; rw [at1]; rfl
    | ⟨1, _⟩ => show win0_1.index t 1 * 1 + 1 * 0 = 0; rw [at1]; rfl
    | ⟨2, _⟩ => show win0_1.index t 2 * 1024 + 1 * s.val = _ % 2048; rw [at1]; show t.val % 2 * 1024 + 1 * s.val = (1024 * (t.val % 2) + s.val) % 2048; omega
    | ⟨3, _⟩ => show win0_1.index t 3 * 1088 + 1 * x.val = x.val; rw [at1]; show 0 * 1088 + 1 * x.val = _; omega
  unfold iblk
  rw [View.read_apply, e]
  show V m c main_v0 _ = _
  rw [V_main_v0, lead_apply]

/-- The result: every row of the cotangent times every row of the weight. -/
def G : S8192x2048.Idx → EReal := fun i => ∑ j : Fin 1088, aY m c (ix2 (i 0) j) * aW m c (ix2 (i 1) j)

theorem part_eq (t : Fin cfg0.N) (r : Fin 1024) (s : Fin 1024) :
    part (iblk m c 0 t) (iblk m c 1 t) r s = G m c (ix2 (rw_ t.val r) (cl t.val s)) := by
  unfold part G
  exact Finset.sum_congr rfl fun x _ => by rw [iblk0_apply, iblk1_apply]; rfl

theorem emb2 (t : Fin cfg0.N) (r : Fin 1024) (s : Fin 1024) :
    ((cfg0.win 2).blk t).view.emb (ix2 r s) = (ix2 (rw_ t.val r) (cl t.val s) : S8192x2048.Idx) := by
  have ht := lt_N t
  funext a
  apply Fin.ext
  match a with
  | ⟨0, _⟩ => show win0_2.index t 0 * 1024 + 1 * r.val = _ % 8192; rw [at2]; show t.val / 2 * 1024 + 1 * r.val = (1024 * (t.val / 2) + r.val) % 8192; omega
  | ⟨1, _⟩ => show win0_2.index t 1 * 1024 + 1 * s.val = _ % 2048; rw [at2]; show t.val % 2 * 1024 + 1 * s.val = (1024 * (t.val % 2) + s.val) % 2048; omega

theorem final : (dats m 0 c).arrAt 2 cfg0.N = G m c := by
  refine (dats m 0 c).arrAt_eq_of_cover 2 (G m c) (fun t hf => ?_) fun i => ?_
  · rw [Value.flushed2_A]
    refine funext fun (y : S1024x1024.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 2048), i = (ix2 a b : S8192x2048.Idx) := ⟨i 0, i 1, ValueIdx.eq_ix2 i⟩
    let t : Fin cfg0.N := ⟨2 * (a.val / 1024) + b.val / 1024, by show _ < 16; omega⟩
    refine ⟨t, flush0_2 t, ?_⟩
    have e := emb2 t ⟨a.val % 1024, by omega⟩ ⟨b.val % 1024, by omega⟩
    rw [show rw_ t.val ⟨a.val % 1024, by omega⟩ = a from Fin.ext (by
        show (1024 * ((2 * (a.val / 1024) + b.val / 1024) / 2) + a.val % 1024) % 8192 = a.val; omega),
      show cl t.val ⟨b.val % 1024, by omega⟩ = b from Fin.ext (by
        show (1024 * ((2 * (a.val / 1024) + b.val / 1024) % 2) + b.val % 1024) % 2048 = b.val; omega)] at e
    rw [← e]
    exact View.emb_mem_set _ _

end Cert.KernelDlowIdeal.Mix

end
-- ==== Proof.Mix.Dlow.Claims.lean ====
/- The claims about the gradient of the latent layer's normed input. -/
module

public import proofs.«01_k».proof.Defs
public import proofs.«01_k».proof.Proof.Gen.KernelDlow.Frame
public import proofs.«01_k».proof.Proof.Gen.ReferenceDlowIdeal.Read
public import proofs.«01_k».proof.Proof.Mix.Dlow.Final

@[expose] public section

set_option maxRecDepth 16384

noncomputable section

namespace Cert.MixDlow

open Idealize.ShloMosaic Idealize.ShloMosaic.TcCoe Idealize.SL.Sem

theorem frame_k : Cert.quiescent_KernelDlow := fun m ρ _ => Cert.KernelDlow.Gen.frame m ρ
theorem frame_ki : Cert.quiescent_KernelDlowIdeal := fun m ρ _ => Cert.KernelDlowIdeal.Gen.frame m ρ
theorem frame_r : Cert.quiescent_ReferenceDlowIdeal := fun m ρ _ =>
  (θ_run Cert.ReferenceDlowIdeal.defs _ _).mono (fun r h => ⟨fun c => (h c).2, Idealize.ShloMosaic.sem_eq_zero_of_no_sems (by decide) r.2⟩)
    (Cert.ReferenceDlowIdeal.Value.run (F := Ideal) m ρ)
theorem preserves : Cert.preserves_KernelDlow_KernelDlowIdeal := trivial

/-- The call leaves the reference's gradient. -/
theorem algebraic : Cert.algebraic_KernelDlowIdeal_ReferenceDlowIdeal := by
  intro m g m' g' _ hagree
  refine ⟨_, Cert.KernelDlowIdeal.Value.run_blocks m g, ?_⟩
  refine (θ_run Cert.ReferenceDlowIdeal.defs _ _).mono (fun r h c => ?_) (Cert.ReferenceDlowIdeal.Value.run (F := Ideal) m' g')
  obtain ⟨_, a1, a2⟩ := hagree c
  refine ⟨(h c).1.trans ?_, (h c).2⟩
  rw [Cert.ReferenceDlowIdeal.Read.val_main_v6_eq, Cert.KernelDlowIdeal.Mix.final]
  refine funext fun i => ?_
  rw [Cert.ReferenceDlowIdeal.Read.val_main_v6_apply]
  unfold Cert.KernelDlowIdeal.Mix.G Cert.KernelDlowIdeal.Mix.aY Cert.KernelDlowIdeal.Mix.aW
  rw [← a1, ← a2]
  refine Finset.sum_congr rfl fun j _ => ?_
  rw [Cert.ReferenceDlowIdeal.Read.val_main_v1_apply, Cert.ReferenceDlowIdeal.Read.val_main_v3_apply]
  exact congrArg₂ (fun x y : EReal => x * y) (congrArg (m' _) (ValueIdx.eq_ix2 _)) (congrArg (m' _) (ValueIdx.eq_ix2 _))

end Cert.MixDlow

end
-- ==== Proof.Mix.Uq.Final.lean ====
/- The product that makes the latent layer's queries: the array the call leaves. Each point of the
   grid makes one block, whole. -/
module

public import proofs.«01_k».proof.Proof.Gen.KernelUqIdeal.Value
public import proofs.«01_k».proof.Proof.Ffn.Blocks

@[expose] public section

set_option maxRecDepth 16384

noncomputable section

namespace Cert.KernelUqIdeal.Mix

open Cert.KernelUqIdeal Cert.KernelUqIdeal.Gen Cert.Ffn Idealize.ShloMosaic Idealize.ShloMosaic.TcCoe Idealize.SL.Sem
open Idealize.ShloMosaic.Pipeline (Dat Window)
open Facts

/-- The product of a point's two blocks. -/
def part (a : S1024x512.Idx → EReal) (w : S1x1x512x384.Idx → EReal) (r : Fin 1024) (s : Fin 384) : EReal :=
  ∑ x : Fin 512, a (ix2 r x) * w (ix4 0 0 x s)

theorem pay1_apply (a : S1024x512.Idx → EReal) (w : S1x1x512x384.Idx → EReal) (r : Fin 1024) (s : Fin 384) :
    k0_pay1 (F := Ideal) a w (ix2 r s) = part a w r s := by
  unfold k0_pay1 part
  pointwise []

theorem out (a : Vec Ideal S1024x512 .bf16) (w : Vec Ideal S1x1x512x384 .bf16) (r : Fin 1024) (s : Fin 384) :
    out0_2 (F := Ideal) a w (ix2 r s) = part a w r s := by
  unfold out0_2
  rw [View.canon_unit_zero (S := S1024x384) zero2, View.ld_unit_zero (S := S1024x512) zero2,
    View.ld_unit_zero (S := S1x1x512x384) zero4]
  exact pay1_apply _ _ _ _

/-! ## The array at the end -/

theorem at0 : ∀ t : Fin cfg0.N, win0_0.index t = ![t.val / 8, 0] := (by decide +kernel : ∀ t : Fin grid0.N, _)
theorem at1 : ∀ t : Fin cfg0.N, win0_1.index t = ![0, t.val % 8, 0, 0] := (by decide +kernel : ∀ t : Fin grid0.N, _)
theorem at2 : ∀ t : Fin cfg0.N, win0_2.index t = ![t.val / 8, t.val % 8] := (by decide +kernel : ∀ t : Fin grid0.N, _)

theorem lt_N (t : Fin cfg0.N) : t.val < 64 := t.isLt

/-- The row and the column of the result that a point's block holds at `r` and `s`. -/
def rw_ (n : ℕ) (r : Fin 1024) : Fin 8192 := Fin.ofNat 8192 (1024 * (n / 8) + r.val)
def cl (n : ℕ) (s : Fin 384) : Fin 3072 := Fin.ofNat 3072 (384 * (n % 8) + s.val)

variable (m : (ℓ : Loc nD τ sig) → Buf (Elt Ideal) ℓ) (c : Dev nD)

/-- The normed latent and the weight, as the call is launched with them. -/
abbrev aA : S8192x512.Idx → EReal := m ((c : Thread nD τ).loc main_arg0)
abbrev aW : S512x3072.Idx → EReal := m ((c : Thread nD τ).loc main_arg1)

/-- The weight as its eight blocks of columns. -/
def blocks (x : FVec Ideal S512x3072 .bf16) : FVec Ideal S1x8x512x384 .bf16 :=
  broadcastInDim S1x8x512x384 ![1, 2, 3] bcast_S8x512x384_S1x8x512x384_1_2_3
    (transpose S8x512x384 [1, 0, 2] (shapeCast S512x8x384 x shapeCasts_S512x3072_S512x8x384) transposes_S512x8x384_S8x512x384_1_0_2)

theorem blocks_apply (x : S512x3072.Idx → EReal) (b : Fin 8) (k : Fin 512) (d : Fin 384) :
    blocks x (ix4 0 b k d) = x (ix2 k (Fin.ofNat 3072 (384 * b.val + d.val))) := by
  unfold blocks
  pointwise []
  congr 2
  apply Fin.ext
  show b.val * 384 + d.val = (384 * b.val + d.val) % 3072
  omega

theorem V_main_v2 : V m c main_v2 = blocks (aW m c) := by
  unfold_abbrev_sides
  after_results
  rfl

theorem iblk0_apply (t : Fin cfg0.N) (r : Fin 1024) (x : Fin 512) :
    iblk m c 0 t (ix2 r x) = aA m c (ix2 (rw_ t.val r) x) := by
  have ht := lt_N t
  have e : ((cfg0.win 0).blk t).view.emb (ix2 r x) = (ix2 (rw_ t.val r) x : S8192x512.Idx) := by
    funext a
    apply Fin.ext
    match a with
    | ⟨0, _⟩ => show win0_0.index t 0 * 1024 + 1 * r.val = _ % 8192; rw [at0]; show t.val / 8 * 1024 + 1 * r.val = (1024 * (t.val / 8) + r.val) % 8192; omega
    | ⟨1, _⟩ => show win0_0.index t 1 * 512 + 1 * x.val = x.val; rw [at0]; show 0 * 512 + 1 * x.val = _; omega
  unfold iblk
  rw [View.read_apply, e]
  show V m c main_arg0 _ = _
  rw [V_main_arg0]

theorem iblk1_apply (t : Fin cfg0.N) (x : Fin 512) (s : Fin 384) :
    iblk m c 1 t (ix4 (0 : Fin 1) (0 : Fin 1) x s) = aW m c (ix2 x (cl t.val s)) := by
  have e : ((cfg0.win 1).blk t).view.emb (ix4 (0 : Fin 1) (0 : Fin 1) x s) = (ix4 0 (Fin.ofNat 8 (t.val % 8)) x s : S1x8x512x384.Idx) := by
    funext a
    apply Fin.ext
    match a with
    | ⟨0, _⟩ => show win0_1.index t 0 * 1 + 1 * 0 = 0; rw [at1]; rfl
    | ⟨1, _⟩ => show win0_1.index t 1 * 1 + 1 * 0 = t.val % 8 % 8; rw [at1]; show t.val % 8 * 1 + 1 * 0 = _; omega
    | ⟨2, _⟩ => show win0_1.index t 2 * 512 + 1 * x.val = x.val; rw [at1]; show 0 * 512 + 1 * x.val = _; omega
    | ⟨3, _⟩ => show win0_1.index t 3 * 384 + 1 * s.val = s.val; rw [at1]; show 0 * 384 + 1 * s.val = _; omega
  unfold iblk
  rw [View.read_apply, e]
  show V m c main_v2 _ = _
  rw [V_main_v2, blocks_apply]
  congr 2
  apply Fin.ext
  show (384 * (t.val % 8 % 8) + s.val) % 3072 = (384 * (t.val % 8) + s.val) % 3072
  omega

theorem emb2 (t : Fin cfg0.N) (r : Fin 1024) (s : Fin 384) :
    ((cfg0.win 2).blk t).view.emb (ix2 r s) = (ix2 (rw_ t.val r) (cl t.val s) : S8192x3072.Idx) := by
  have ht := lt_N t
  funext a
  apply Fin.ext
  match a with
  | ⟨0, _⟩ => show win0_2.index t 0 * 1024 + 1 * r.val = _ % 8192; rw [at2]; show t.val / 8 * 1024 + 1 * r.val = (1024 * (t.val / 8) + r.val) % 8192; omega
  | ⟨1, _⟩ => show win0_2.index t 1 * 384 + 1 * s.val = _ % 3072; rw [at2]; show t.val % 8 * 384 + 1 * s.val = (384 * (t.val % 8) + s.val) % 3072; omega

/-- The result: every row of the normed latent times every column of the weight. -/
def G : S8192x3072.Idx → EReal := fun i => ∑ j : Fin 512, aA m c (ix2 (i 0) j) * aW m c (ix2 j (i 1))

theorem part_eq (t : Fin cfg0.N) (r : Fin 1024) (s : Fin 384) :
    part (iblk m c 0 t) (iblk m c 1 t) r s = G m c (ix2 (rw_ t.val r) (cl t.val s)) := by
  unfold part G
  exact Finset.sum_congr rfl fun x _ => by rw [iblk0_apply, iblk1_apply]; rfl

theorem final : (dats m 0 c).arrAt 2 cfg0.N = G m c := by
  refine (dats m 0 c).arrAt_eq_of_cover 2 (G m c) (fun t hf => ?_) fun i => ?_
  · rw [Value.flushed2]
    refine funext fun (y : S1024x384.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 3072), i = (ix2 a b : S8192x3072.Idx) := ⟨i 0, i 1, ValueIdx.eq_ix2 i⟩
    let t : Fin cfg0.N := ⟨8 * (a.val / 1024) + b.val / 384, by show _ < 64; omega⟩
    refine ⟨t, flush0_2 t, ?_⟩
    have e := emb2 t ⟨a.val % 1024, by omega⟩ ⟨b.val % 384, by omega⟩
    rw [show rw_ t.val ⟨a.val % 1024, by omega⟩ = a from Fin.ext (by
        show (1024 * ((8 * (a.val / 1024) + b.val / 384) / 8) + a.val % 1024) % 8192 = a.val; omega),
      show cl t.val ⟨b.val % 384, by omega⟩ = b from Fin.ext (by
        show (384 * ((8 * (a.val / 1024) + b.val / 384) % 8) + b.val % 384) % 3072 = b.val; omega)] at e
    rw [← e]
    exact View.emb_mem_set _ _

end Cert.KernelUqIdeal.Mix

end
-- ==== Proof.Mix.Uq.Claims.lean ====
/- The claims about the product that makes the latent layer's queries. -/
module

public import proofs.«01_k».proof.Defs
public import proofs.«01_k».proof.Proof.Gen.KernelUq.Frame
public import proofs.«01_k».proof.Proof.Gen.ReferenceUqIdeal.Read
public import proofs.«01_k».proof.Proof.Mix.Uq.Final

@[expose] public section

set_option maxRecDepth 16384

noncomputable section

namespace Cert.MixUq

open Idealize.ShloMosaic Idealize.ShloMosaic.TcCoe Idealize.SL.Sem

theorem frame_k : Cert.quiescent_KernelUq := fun m ρ _ => Cert.KernelUq.Gen.frame m ρ
theorem frame_ki : Cert.quiescent_KernelUqIdeal := fun m ρ _ => Cert.KernelUqIdeal.Gen.frame m ρ
theorem frame_r : Cert.quiescent_ReferenceUqIdeal := fun m ρ _ =>
  (θ_run Cert.ReferenceUqIdeal.defs _ _).mono (fun r h => ⟨fun c => (h c).2, Idealize.ShloMosaic.sem_eq_zero_of_no_sems (by decide) r.2⟩)
    (Cert.ReferenceUqIdeal.Value.run (F := Ideal) m ρ)
theorem preserves : Cert.preserves_KernelUq_KernelUqIdeal := trivial

/-- The call leaves the reference's product. -/
theorem algebraic : Cert.algebraic_KernelUqIdeal_ReferenceUqIdeal := by
  intro m g m' g' _ hagree
  refine ⟨_, Cert.KernelUqIdeal.Value.run_blocks m g, ?_⟩
  refine (θ_run Cert.ReferenceUqIdeal.defs _ _).mono (fun r h c => ?_) (Cert.ReferenceUqIdeal.Value.run (F := Ideal) m' g')
  obtain ⟨a0, a1⟩ := hagree c
  refine ⟨(h c).1.trans ?_, (h c).2⟩
  rw [Cert.ReferenceUqIdeal.Read.val_main_v2_eq, Cert.KernelUqIdeal.Mix.final]
  refine funext fun i => ?_
  rw [Cert.ReferenceUqIdeal.Read.val_main_v2_apply]
  unfold Cert.KernelUqIdeal.Mix.G Cert.KernelUqIdeal.Mix.aA Cert.KernelUqIdeal.Mix.aW
  rw [← a0, ← a1]
  refine Finset.sum_congr rfl fun j _ => ?_
  rw [Cert.ReferenceUqIdeal.Read.val_main_v0_apply, Cert.ReferenceUqIdeal.Read.val_main_v1_apply]
  exact congrArg₂ (fun x y : EReal => x * y) (congrArg (m' _) (ValueIdx.eq_ix2 _)) (congrArg (m' _) (ValueIdx.eq_ix2 _))

end Cert.MixUq

end
-- ==== Proof.Mix.Dwuq.Point.lean ====
/- The gradient of the weight of the latent layer's queries: what one grid point leaves in its accumulator
   and in its output block. -/
module

public import proofs.«01_k».proof.Proof.Gen.KernelDwuqIdeal.Frame
public import proofs.«01_k».proof.Proof.Ffn.Blocks

@[expose] public section

set_option maxRecDepth 16384

noncomputable section

namespace Cert.KernelDwuqIdeal.Mix

open Cert.KernelDwuqIdeal Cert.KernelDwuqIdeal.Gen Cert.Ffn Idealize.ShloMosaic Idealize.ShloMosaic.TcCoe Idealize.SL.Sem

/-- The product of a point's two blocks, over their rows. -/
def part (a : S1024x512.Idx → EReal) (w : S1024x384.Idx → EReal) (r : Fin 512) (s : Fin 384) : EReal :=
  ∑ x : Fin 1024, a (ix2 x r) * w (ix2 x s)

theorem pay2_apply (a : S1024x512.Idx → EReal) (w : S1024x384.Idx → EReal) (r : Fin 512) (s : Fin 384) :
    k0_pay2 (F := Ideal) a w (ix2 r s) = part a w r s := by
  unfold k0_pay2 k0_pay1 part
  pointwise []
theorem pay3_apply (a : S1024x512.Idx → EReal) (w : S1024x384.Idx → EReal) (z : S512x384.Idx → EReal) (r : Fin 512) (s : Fin 384) :
    k0_pay3 (F := Ideal) a w z (ix2 r s) = z (ix2 r s) + part a w r s := by
  unfold k0_pay3 k0_pay1 part
  pointwise []
theorem pay4_apply (z : S512x384.Idx → EReal) (r : Fin 512) (s : Fin 384) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S512x384 .f32) (f) (w : S512x384.Idx → EReal) (L) (y) :
    V.read (Elt Ideal) (V.writes (Elt Ideal) f (⟨Rect.unit (s := S512x384) ![0, 0] S512x384.size inb_S512x384_S512x384_0_0, w⟩ :: L)) y = w y :=
  View.read_writes_cons_unit_of_mem V f inb_S512x384_S512x384_0_0 w L y y rfl (by intro a; fin_cases a <;> simp)
theorem read_out {κ : Kind} {sp : Space} (V : View sig κ sp S1x512x384 .bf16) (f) (w : S1x512x384.Idx → EReal) (L) (y) :
    V.read (Elt Ideal) (V.writes (Elt Ideal) f (⟨Rect.unit (s := S1x512x384) ![0, 0, 0] S1x512x384.size inb_S1x512x384_S1x512x384_0_0_0, w⟩ :: L)) y = w y :=
  View.read_writes_cons_unit_of_mem V f inb_S1x512x384_S1x512x384_0_0_0 w L y y rfl (by intro a; fin_cases a <;> simp)

section
variable (c : Dev nD) (i : grid0.Coords) (arg3 : Memref sig .tc .vmem S1024x512 .bf16) (harg3 : arg3.IsWhole) (arg4 : Memref sig .tc .vmem S1024x384 .bf16) (harg4 : arg4.IsWhole)
  (arg5 : Memref sig .tc .vmem S1x512x384 .bf16) (harg5 : arg5.IsWhole) (arg6 : Memref sig .tc .vmem S512x384 .f32) (harg6 : arg6.IsWhole)
  (x0 : Vec Ideal S1024x512 .bf16) (x1 : Vec Ideal S1024x384 .bf16) (xs0 : Vec Ideal S512x384 .f32) (r : Fin 512) (s : Fin 384)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x512) zero2, View.ld_unit_zero (S := S1024x384) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x512) zero2, View.ld_unit_zero (S := S1024x384) zero2, View.ld_unit_zero (S := S512x384) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x512) zero2, View.ld_unit_zero (S := S1024x384) zero2, View.ld_unit_zero (S := S512x384) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v12 View.readCov kernelRun0_C.sl.HS0_1
  rw [View.readAt_eq_ld, View.ld_unit_zero (S := S512x384) zero2]
  refine (read_store _ _ _ _ _).trans ?_
  simp only [View.readAt_eq_ld, harg3.read_unread, harg4.read_unread, harg6.read_unread]
  rw [View.ld_unit_zero (S := S1024x512) zero2, View.ld_unit_zero (S := S1024x384) zero2, View.ld_unit_zero (S := S512x384) zero2]
  exact pay3_apply _ _ _ _ _
end

end Cert.KernelDwuqIdeal.Mix

end
-- ==== Proof.Mix.Dwuq.Final.lean ====
/- The gradient of the weight of the latent layer's queries: the array the call leaves, as one sum over all rows. -/
module

public import proofs.«01_k».proof.Proof.Gen.KernelDwuqIdeal.Value
public import proofs.«01_k».proof.Proof.Mix.Dwuq.Point

@[expose] public section

set_option maxRecDepth 16384

noncomputable section

namespace Cert.KernelDwuqIdeal.Mix

open Cert.KernelDwuqIdeal Cert.KernelDwuqIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, 0] := (by decide +kernel : ∀ t : Fin grid0.N, _)
theorem at1 : ∀ t : Fin cfg0.N, win0_1.index t = ![t.val % 8, t.val / 8] := (by decide +kernel : ∀ t : Fin grid0.N, _)
theorem at2 : ∀ t : Fin cfg0.N, win0_2.index t = ![t.val / 8, 0, 0] := (by decide +kernel : ∀ t : Fin grid0.N, _)

theorem lt_N (t : Fin cfg0.N) : t.val < 64 := t.isLt

/-- Which block of columns output block `n` is, and the column of the weight a block holds at `s`. -/
def bk (n : ℕ) : Fin 8 := Fin.ofNat 8 n
def wide (b : Fin 8) (s : Fin 384) : Fin 3072 := Fin.ofNat 3072 (384 * b.val + s.val)

variable (m : (ℓ : Loc nD τ sig) → Buf (Elt Ideal) ℓ) (c : Dev nD)

/-- The normed latent and the cotangent, as the call is launched with them. -/
abbrev aH : S8192x512.Idx → EReal := m ((c : Thread nD τ).loc main_arg0)
abbrev aU : S8192x3072.Idx → EReal := m ((c : Thread nD τ).loc main_arg2)

theorem iblk0_apply (t : Fin cfg0.N) (x : Fin 1024) (r : Fin 512) :
    iblk m c 0 t (ix2 x r) = aH m c (ix2 (Fin.ofNat 8192 (1024 * (t.val % 8) + x.val)) r) := by
  have ht := lt_N t
  have e : ((cfg0.win 0).blk t).view.emb (ix2 x r)
      = (ix2 (Fin.ofNat 8192 (1024 * (t.val % 8) + x.val)) r : S8192x512.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 512 + 1 * r.val = r.val; rw [at0]; show 0 * 512 + 1 * r.val = _; omega
  unfold iblk
  rw [View.read_apply, e]
  show V m c main_arg0 _ = _
  rw [V_main_arg0]

theorem iblk1_apply (t : Fin cfg0.N) (x : Fin 1024) (s : Fin 384) :
    iblk m c 1 t (ix2 x s) = aU m c (ix2 (Fin.ofNat 8192 (1024 * (t.val % 8) + x.val)) (wide (bk (t.val / 8)) s)) := by
  have ht := lt_N t
  have e : ((cfg0.win 1).blk t).view.emb (ix2 x s)
      = (ix2 (Fin.ofNat 8192 (1024 * (t.val % 8) + x.val)) (wide (bk (t.val / 8)) s) : S8192x3072.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 384 + 1 * s.val = _ % 3072; rw [at1]; show t.val / 8 * 384 + 1 * s.val = (384 * (t.val / 8 % 8) + s.val) % 3072; omega
  unfold iblk
  rw [View.read_apply, e]
  show V m c main_arg2 _ = _
  rw [V_main_arg2]

/-- What block `k` of the rows adds to place `y` of output block `b`. -/
def term (b k : ℕ) (y : S512x384.Idx) : EReal :=
  ∑ x : Fin 1024, aH m c (ix2 (Fin.ofNat 8192 (1024 * k + x.val)) (y 0)) * aU m c (ix2 (Fin.ofNat 8192 (1024 * k + x.val)) (wide (bk b) (y 1)))

theorem part_eq (t : Fin cfg0.N) (r : Fin 512) (s : Fin 384) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 512) (s : Fin 384) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 512) (s : Fin 384) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 512) (s : Fin 384) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S512x384.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the normed latent times every column of the cotangent, the latter in eight blocks. -/
def G : S8x512x384.Idx → EReal := fun i => ∑ j : Fin 8192, aH m c (ix2 j (i 1)) * aU m c (ix2 j (wide (i 0) (i 2)))

theorem out_eq (t : Fin cfg0.N) (h7 : t.val % 8 = 7) (r : Fin 512) (s : Fin 384) :
    (outsAt0 m c t.val t.isLt).1 (ix3 0 r s) = G m c (ix3 (bk (t.val / 8)) r s) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aH m c (ix2 j r) * aU m c (ix2 j (wide (bk (t.val / 8)) s))

theorem emb2 (t : Fin cfg0.N) (r : Fin 512) (s : Fin 384) :
    ((cfg0.win 2).blk t).view.emb (ix3 (0 : Fin 1) r s) = (ix3 (bk (t.val / 8)) r s : S8x512x384.Idx) := by
  have ht := lt_N t
  funext a
  apply Fin.ext
  match a with
  | ⟨0, _⟩ => show win0_2.index t 0 * 1 + 1 * 0 = t.val / 8 % 8; rw [at2]; show t.val / 8 * 1 + 1 * 0 = t.val / 8 % 8; omega
  | ⟨1, _⟩ => show win0_2.index t 1 * 512 + 1 * r.val = r.val; rw [at2]; show 0 * 512 + 1 * r.val = _; omega
  | ⟨2, _⟩ => show win0_2.index t 2 * 384 + 1 * s.val = s.val; rw [at2]; show 0 * 384 + 1 * s.val = _; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x512x384.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨b, a, s, rfl⟩ : ∃ (b : Fin 8) (a : Fin 512) (s : Fin 384), i = (ix3 b a s : S8x512x384.Idx) := ⟨i 0, i 1, i 2, ValueIdx.eq_ix3 i⟩
    let t : Fin cfg0.N := ⟨8 * b.val + 7, by show _ < 64; omega⟩
    refine ⟨t, (flush0_2 t).mpr (by show (8 * b.val + 7) % 8 = 7; omega), ?_⟩
    have e := emb2 t a s
    rw [show bk (t.val / 8) = b from Fin.ext (by show (8 * b.val + 7) / 8 % 8 = b.val; omega)] at e
    rw [← e]
    exact View.emb_mem_set _ _

end Cert.KernelDwuqIdeal.Mix

end
-- ==== Proof.Mix.Dwuq.Claims.lean ====
/- The claims about the gradient of the weight of the latent layer's queries. -/
module

public import proofs.«01_k».proof.Defs
public import proofs.«01_k».proof.Proof.Gen.KernelDwuq.Frame
public import proofs.«01_k».proof.Proof.Gen.ReferenceDwuqIdeal.Read
public import proofs.«01_k».proof.Proof.Mix.Dwuq.Final

@[expose] public section

set_option maxRecDepth 16384

noncomputable section

namespace Cert.MixDwuq

open Idealize.ShloMosaic Idealize.ShloMosaic.TcCoe Idealize.SL.Sem

theorem frame_k : Cert.quiescent_KernelDwuq := fun m ρ _ => Cert.KernelDwuq.Gen.frame m ρ
theorem frame_ki : Cert.quiescent_KernelDwuqIdeal := fun m ρ _ => Cert.KernelDwuqIdeal.Gen.frame m ρ
theorem frame_r : Cert.quiescent_ReferenceDwuqIdeal := fun m ρ _ =>
  (θ_run Cert.ReferenceDwuqIdeal.defs _ _).mono (fun r h => ⟨fun c => (h c).2, Idealize.ShloMosaic.sem_eq_zero_of_no_sems (by decide) r.2⟩)
    (Cert.ReferenceDwuqIdeal.Value.run (F := Ideal) m ρ)
theorem preserves : Cert.preserves_KernelDwuq_KernelDwuqIdeal := trivial

/-- The call leaves the reference's gradient. -/
theorem algebraic : Cert.algebraic_KernelDwuqIdeal_ReferenceDwuqIdeal := by
  intro m g m' g' _ hagree
  refine ⟨_, Cert.KernelDwuqIdeal.Value.run_blocks m g, ?_⟩
  refine (θ_run Cert.ReferenceDwuqIdeal.defs _ _).mono (fun r h c => ?_) (Cert.ReferenceDwuqIdeal.Value.run (F := Ideal) m' g')
  obtain ⟨a0, _, a2⟩ := hagree c
  refine ⟨(h c).1.trans ?_, (h c).2⟩
  rw [Cert.ReferenceDwuqIdeal.Read.val_main_v9_eq, Cert.KernelDwuqIdeal.Mix.final]
  refine funext fun i => ?_
  rw [Cert.ReferenceDwuqIdeal.Read.val_main_v9_apply, Cert.ReferenceDwuqIdeal.Read.val_main_v8_apply,
    Cert.ReferenceDwuqIdeal.Read.val_main_v7_apply, Cert.ReferenceDwuqIdeal.Read.val_main_v5_apply, Cert.ReferenceDwuqIdeal.Read.val_main_v4_apply]
  unfold Cert.KernelDwuqIdeal.Mix.G Cert.KernelDwuqIdeal.Mix.aH Cert.KernelDwuqIdeal.Mix.aU
  rw [← a0, ← a2]
  refine Finset.sum_congr rfl fun j _ => ?_
  rw [Cert.ReferenceDwuqIdeal.Read.val_main_v0_apply, Cert.ReferenceDwuqIdeal.Read.val_main_v3_apply]
  refine (mul_comm (G := EReal) _ _).trans ?_
  have h0 : (i 0).val < 8 := (i 0).isLt
  have h1 : (i 1).val < 512 := (i 1).isLt
  have h2 : (i 2).val < 384 := (i 2).isLt
  refine congrArg₂ (fun x y : EReal => x * y) (congrArg (m' _) ?_) (congrArg (m' _) ?_)
  · refine (ValueIdx.eq_ix2 _).trans (congrArg (ix2 _) (Fin.ext ?_))
    show (((i 1).val * 8 + (i 0).val) * 384 + (i 2).val) / 3072 = (i 1).val
    omega
  · refine (ValueIdx.eq_ix2 _).trans (congrArg (ix2 _) (Fin.ext ?_))
    show (((i 1).val * 8 + (i 0).val) * 384 + (i 2).val) % 3072 = (384 * (i 0).val + (i 2).val) % 3072
    omega

end Cert.MixDwuq

end
-- ==== Proof.Mix.Dcq.Point.lean ====
/- The gradient of the latent the queries are made of: what one grid point leaves in its accumulator
   and in its output block. -/
module

public import proofs.«01_k».proof.Proof.Gen.KernelDcqIdeal.Frame
public import proofs.«01_k».proof.Proof.Ffn.Blocks

@[expose] public section

set_option maxRecDepth 16384

noncomputable section

namespace Cert.KernelDcqIdeal.Mix

open Cert.KernelDcqIdeal Cert.KernelDcqIdeal.Gen Cert.Ffn Idealize.ShloMosaic Idealize.ShloMosaic.TcCoe Idealize.SL.Sem

/-- The product of a point's two blocks. -/
def part (a : S1024x384.Idx → EReal) (w : S1x1x512x384.Idx → EReal) (r : Fin 1024) (s : Fin 512) : EReal :=
  ∑ x : Fin 384, a (ix2 r x) * w (ix4 0 0 s x)

theorem pay2_apply (a : S1024x384.Idx → EReal) (w : S1x1x512x384.Idx → EReal) (r : Fin 1024) (s : Fin 512) :
    k0_pay2 (F := Ideal) a w (ix2 r s) = part a w r s := by
  unfold k0_pay2 k0_pay1 part
  pointwise []
theorem pay3_apply (a : S1024x384.Idx → EReal) (w : S1x1x512x384.Idx → EReal) (z : S1024x512.Idx → EReal) (r : Fin 1024) (s : Fin 512) :
    k0_pay3 (F := Ideal) a w z (ix2 r s) = z (ix2 r s) + part a w r s := by
  unfold k0_pay3 k0_pay1 part
  pointwise []

/-- A store through the whole accumulator reads back as its payload. -/
theorem read_store {κ : Kind} {sp : Space} (V : View sig κ sp S1024x512 .f32) (f) (w : S1024x512.Idx → EReal) (L) (y) :
    V.read (Elt Ideal) (V.writes (Elt Ideal) f (⟨Rect.unit (s := S1024x512) ![0, 0] S1024x512.size inb_S1024x512_S1024x512_0_0, w⟩ :: L)) y = w y :=
  View.read_writes_cons_unit_of_mem V f inb_S1024x512_S1024x512_0_0 w L y y rfl (by intro a; fin_cases a <;> simp)

section
variable (c : Dev nD) (i : grid0.Coords) (arg3 : Memref sig .tc .vmem S1024x384 .bf16) (harg3 : arg3.IsWhole) (arg4 : Memref sig .tc .vmem S1x1x512x384 .bf16) (harg4 : arg4.IsWhole)
  (arg5 : Memref sig .tc .vmem S1024x512 .f32) (harg5 : arg5.IsWhole) (arg6 : Memref sig .tc .vmem S1024x512 .f32) (harg6 : arg6.IsWhole)
  (x0 : Vec Ideal S1024x384 .bf16) (x1 : Vec Ideal S1x1x512x384 .bf16) (xs0 : Vec Ideal S1024x512 .f32) (r : Fin 1024) (s : Fin 512)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x384) zero2, View.ld_unit_zero (S := S1x1x512x384) zero4]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x384) zero2, View.ld_unit_zero (S := S1x1x512x384) zero4, View.ld_unit_zero (S := S1024x512) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x384) zero2, View.ld_unit_zero (S := S1x1x512x384) zero4, View.ld_unit_zero (S := S1024x512) zero2]
  exact pay3_apply _ _ _ _ _

theorem out (h0 h1 h2) :
    out0_C_2 (F := Ideal) c i arg3 harg3 arg4 harg4 arg5 harg5 arg6 harg6 h0 h1 h2 x0 x1 xs0 (ix2 r s) = xs0 (ix2 r s) + part x0 x1 r s := by
  unfold out0_C_2 kernelRun0_C
  dsimp only
  refine (read_store _ _ _ _ _).trans ?_
  unfold kernelRun0_C.sl.v13 View.readCov kernelRun0_C.sl.HS0_1
  rw [View.readAt_eq_ld, View.ld_unit_zero (S := S1024x512) zero2]
  refine (read_store _ _ _ _ _).trans ?_
  simp only [View.readAt_eq_ld, harg3.read_unread, harg4.read_unread, harg6.read_unread]
  rw [View.ld_unit_zero (S := S1024x384) zero2, View.ld_unit_zero (S := S1x1x512x384) zero4, View.ld_unit_zero (S := S1024x512) zero2]
  exact pay3_apply _ _ _ _ _
end

end Cert.KernelDcqIdeal.Mix

end
-- ==== Proof.Mix.Dcq.Final.lean ====
/- The gradient of the latent the queries are made of: the array the call leaves, as one sum over the
   whole width. -/
module

public import proofs.«01_k».proof.Proof.Gen.KernelDcqIdeal.Value
public import proofs.«01_k».proof.Proof.Mix.Dcq.Point

@[expose] public section

set_option maxRecDepth 16384

noncomputable section

namespace Cert.KernelDcqIdeal.Mix

open Cert.KernelDcqIdeal Cert.KernelDcqIdeal.Gen Cert.Ffn Idealize.ShloMosaic Idealize.ShloMosaic.TcCoe Idealize.SL.Sem
open Idealize.ShloMosaic.Pipeline (Dat Window)
open Finset (range)

/-! Where a point's blocks lie: point `t` adds columns block `t mod 8` to output block `t / 8`. -/

theorem at0 : ∀ t : Fin cfg0.N, win0_0.index t = ![t.val / 8, t.val % 8] := (by decide +kernel : ∀ t : Fin grid0.N, _)
theorem at1 : ∀ t : Fin cfg0.N, win0_1.index t = ![0, t.val % 8, 0, 0] := (by decide +kernel : ∀ t : Fin grid0.N, _)
theorem at2 : ∀ t : Fin cfg0.N, win0_2.index t = ![t.val / 8, 0] := (by decide +kernel : ∀ t : Fin grid0.N, _)

theorem lt_N (t : Fin cfg0.N) : t.val < 64 := t.isLt

/-- The row of the result that an output block holds at `r`. -/
def rw_ (n : ℕ) (r : Fin 1024) : Fin 8192 := Fin.ofNat 8192 (1024 * n + r.val)

/-- The weight as its eight blocks of columns. -/
def blocks (x : FVec Ideal S512x3072 .bf16) : FVec Ideal S1x8x512x384 .bf16 :=
  broadcastInDim S1x8x512x384 ![1, 2, 3] bcast_S8x512x384_S1x8x512x384_1_2_3
    (transpose S8x512x384 [1, 0, 2] (shapeCast S512x8x384 x shapeCasts_S512x3072_S512x8x384) transposes_S512x8x384_S8x512x384_1_0_2)

theorem blocks_apply (x : S512x3072.Idx → EReal) (b : Fin 8) (k : Fin 512) (d : Fin 384) :
    blocks x (ix4 0 b k d) = x (ix2 k (Fin.ofNat 3072 (384 * b.val + d.val))) := by
  unfold blocks
  pointwise []
  congr 2
  apply Fin.ext
  show b.val * 384 + d.val = (384 * b.val + d.val) % 3072
  omega

variable (m : (ℓ : Loc nD τ sig) → Buf (Elt Ideal) ℓ) (c : Dev nD)

/-- The cotangent and the weight, as the call is launched with them. -/
abbrev aU : S8192x3072.Idx → EReal := m ((c : Thread nD τ).loc main_arg2)
abbrev aW : S512x3072.Idx → EReal := m ((c : Thread nD τ).loc main_arg1)

theorem V_main_v2 : V m c main_v2 = blocks (aW m c) := by
  unfold_abbrev_sides
  after_results
  rfl

theorem iblk0_apply (t : Fin cfg0.N) (r : Fin 1024) (x : Fin 384) :
    iblk m c 0 t (ix2 r x) = aU m c (ix2 (rw_ (t.val / 8) r) (Fin.ofNat 3072 (384 * (t.val % 8) + x.val))) := by
  have ht := lt_N t
  have e : ((cfg0.win 0).blk t).view.emb (ix2 r x)
      = (ix2 (rw_ (t.val / 8) r) (Fin.ofNat 3072 (384 * (t.val % 8) + x.val)) : S8192x3072.Idx) := by
    funext a
    apply Fin.ext
    match a with
    | ⟨0, _⟩ => show win0_0.index t 0 * 1024 + 1 * r.val = _ % 8192; rw [at0]; show t.val / 8 * 1024 + 1 * r.val = (1024 * (t.val / 8) + r.val) % 8192; omega
    | ⟨1, _⟩ => show win0_0.index t 1 * 384 + 1 * x.val = _ % 3072; rw [at0]; show t.val % 8 * 384 + 1 * x.val = (384 * (t.val % 8) + x.val) % 3072; omega
  unfold iblk
  rw [View.read_apply, e]
  show V m c main_arg2 _ = _
  rw [V_main_arg2]

theorem iblk1_apply (t : Fin cfg0.N) (s : Fin 512) (x : Fin 384) :
    iblk m c 1 t (ix4 (0 : Fin 1) (0 : Fin 1) s x) = aW m c (ix2 s (Fin.ofNat 3072 (384 * (t.val % 8) + x.val))) := by
  have e : ((cfg0.win 1).blk t).view.emb (ix4 (0 : Fin 1) (0 : Fin 1) s x)
      = (ix4 0 (Fin.ofNat 8 (t.val % 8)) s x : S1x8x512x384.Idx) := by
    funext a
    apply Fin.ext
    match a with
    | ⟨0, _⟩ => show win0_1.index t 0 * 1 + 1 * 0 = 0; rw [at1]; rfl
    | ⟨1, _⟩ => show win0_1.index t 1 * 1 + 1 * 0 = t.val % 8 % 8; rw [at1]; show t.val % 8 * 1 + 1 * 0 = _; omega
    | ⟨2, _⟩ => show win0_1.index t 2 * 512 + 1 * s.val = s.val; rw [at1]; show 0 * 512 + 1 * s.val = _; omega
    | ⟨3, _⟩ => show win0_1.index t 3 * 384 + 1 * x.val = x.val; rw [at1]; show 0 * 384 + 1 * x.val = _; omega
  unfold iblk
  rw [View.read_apply, e]
  show V m c main_v2 _ = _
  rw [V_main_v2, blocks_apply]
  congr 2
  apply Fin.ext
  show (384 * (t.val % 8 % 8) + x.val) % 3072 = (384 * (t.val % 8) + x.val) % 3072
  omega

/-- What block `k` of the columns adds to place `y` of output block `b`. -/
def term (b k : ℕ) (y : S1024x512.Idx) : EReal :=
  ∑ x : Fin 384, aU m c (ix2 (rw_ b (y 0)) (Fin.ofNat 3072 (384 * k + x.val))) * aW m c (ix2 (y 1) (Fin.ofNat 3072 (384 * k + x.val)))

theorem part_eq (t : Fin cfg0.N) (r : Fin 1024) (s : Fin 512) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 512) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x512.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every row of the cotangent times every row of the weight. -/
def G : S8192x512.Idx → EReal := fun i => ∑ j : Fin 3072, aU m c (ix2 (i 0) j) * aW m c (ix2 (i 1) j)

theorem out_eq (t : Fin cfg0.N) (h7 : t.val % 8 = 7) (r : Fin 1024) (s : Fin 512) :
    (outsAt0 m c t.val t.isLt).1 (ix2 r s) = G m c (ix2 (rw_ (t.val / 8) r) s) := by
  have e : (outsAt0 m c t.val t.isLt).1 (ix2 r s) = (outsAt0 m c t.val t.isLt).2 (ix2 r s) := by
    rw [outsAt0_C m c t (by omega) (by omega) h7]
    dsimp only
    rw [out, last]
  rw [e, acc, h7]
  exact sum_axis 384 8 rfl fun j => aU m c (ix2 (rw_ (t.val / 8) r) j) * aW m c (ix2 s j)

theorem emb2 (t : Fin cfg0.N) (r : Fin 1024) (s : Fin 512) :
    ((cfg0.win 2).blk t).view.emb (ix2 r s) = (ix2 (rw_ (t.val / 8) r) s : S8192x512.Idx) := by
  have ht := lt_N t
  funext a
  apply Fin.ext
  match a with
  | ⟨0, _⟩ => show win0_2.index t 0 * 1024 + 1 * r.val = _ % 8192; rw [at2]; show t.val / 8 * 1024 + 1 * r.val = (1024 * (t.val / 8) + r.val) % 8192; omega
  | ⟨1, _⟩ => show win0_2.index t 1 * 512 + 1 * s.val = s.val; rw [at2]; show 0 * 512 + 1 * s.val = _; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1024x512.Idx) => ?_
    obtain ⟨r, s, rfl⟩ : ∃ r s, y = ix2 r s := ⟨y 0, y 1, ValueIdx.eq_ix2 y⟩
    rw [View.read_apply, emb2]
    exact out_eq m c t ((flush0_2 t).mp hf) r s
  · obtain ⟨a, b, rfl⟩ : ∃ (a : Fin 8192) (b : Fin 512), i = (ix2 a b : S8192x512.Idx) := ⟨i 0, i 1, ValueIdx.eq_ix2 i⟩
    let t : Fin cfg0.N := ⟨8 * (a.val / 1024) + 7, by show _ < 64; omega⟩
    refine ⟨t, (flush0_2 t).mpr (by show (8 * (a.val / 1024) + 7) % 8 = 7; omega), ?_⟩
    have e := emb2 t ⟨a.val % 1024, by omega⟩ b
    rw [show rw_ (t.val / 8) ⟨a.val % 1024, by omega⟩ = a from Fin.ext (by
        show (1024 * ((8 * (a.val / 1024) + 7) / 8) + a.val % 1024) % 8192 = a.val; omega)] at e
    rw [← e]
    exact View.emb_mem_set _ _

end Cert.KernelDcqIdeal.Mix

end
-- ==== Proof.Mix.Dcq.Claims.lean ====
/- The claims about the gradient of the latent the queries are made of. -/
module

public import proofs.«01_k».proof.Defs
public import proofs.«01_k».proof.Proof.Gen.KernelDcq.Frame
public import proofs.«01_k».proof.Proof.Gen.ReferenceDcqIdeal.Read
public import proofs.«01_k».proof.Proof.Mix.Dcq.Final

@[expose] public section

set_option maxRecDepth 16384

noncomputable section

namespace Cert.MixDcq

open Idealize.ShloMosaic Idealize.ShloMosaic.TcCoe Idealize.SL.Sem

theorem frame_k : Cert.quiescent_KernelDcq := fun m ρ _ => Cert.KernelDcq.Gen.frame m ρ
theorem frame_ki : Cert.quiescent_KernelDcqIdeal := fun m ρ _ => Cert.KernelDcqIdeal.Gen.frame m ρ
theorem frame_r : Cert.quiescent_ReferenceDcqIdeal := fun m ρ _ =>
  (θ_run Cert.ReferenceDcqIdeal.defs _ _).mono (fun r h => ⟨fun c => (h c).2, Idealize.ShloMosaic.sem_eq_zero_of_no_sems (by decide) r.2⟩)
    (Cert.ReferenceDcqIdeal.Value.run (F := Ideal) m ρ)
theorem preserves : Cert.preserves_KernelDcq_KernelDcqIdeal := trivial

/-- The call leaves the reference's gradient. -/
theorem algebraic : Cert.algebraic_KernelDcqIdeal_ReferenceDcqIdeal := by
  intro m g m' g' _ hagree
  refine ⟨_, Cert.KernelDcqIdeal.Value.run_blocks m g, ?_⟩
  refine (θ_run Cert.ReferenceDcqIdeal.defs _ _).mono (fun r h c => ?_) (Cert.ReferenceDcqIdeal.Value.run (F := Ideal) m' g')
  obtain ⟨_, a1, a2⟩ := hagree c
  refine ⟨(h c).1.trans ?_, (h c).2⟩
  rw [Cert.ReferenceDcqIdeal.Read.val_main_v6_eq, Cert.KernelDcqIdeal.Mix.final]
  refine funext fun i => ?_
  rw [Cert.ReferenceDcqIdeal.Read.val_main_v6_apply]
  unfold Cert.KernelDcqIdeal.Mix.G Cert.KernelDcqIdeal.Mix.aU Cert.KernelDcqIdeal.Mix.aW
  rw [← a1, ← a2]
  refine Finset.sum_congr rfl fun j _ => ?_
  rw [Cert.ReferenceDcqIdeal.Read.val_main_v1_apply, Cert.ReferenceDcqIdeal.Read.val_main_v3_apply]
  exact congrArg₂ (fun x y : EReal => x * y) (congrArg (m' _) (ValueIdx.eq_ix2 _)) (congrArg (m' _) (ValueIdx.eq_ix2 _))

end Cert.MixDcq

end
-- ==== Proof.Mix.Ukv.Final.lean ====
/- The product that makes the latent layer's keys and values: the array the call leaves. Each point of the
   grid makes one block, whole. -/
module

public import proofs.«01_k».proof.Proof.Gen.KernelUkvIdeal.Value
public import proofs.«01_k».proof.Proof.Ffn.Blocks

@[expose] public section

set_option maxRecDepth 16384

noncomputable section

namespace Cert.KernelUkvIdeal.Mix

open Cert.KernelUkvIdeal Cert.KernelUkvIdeal.Gen Cert.Ffn Idealize.ShloMosaic Idealize.ShloMosaic.TcCoe Idealize.SL.Sem
open Idealize.ShloMosaic.Pipeline (Dat Window)
open Facts

/-- The product of a point's two blocks. -/
def part (a : S1024x512.Idx → EReal) (w : S1x1x512x512.Idx → EReal) (r : Fin 1024) (s : Fin 512) : EReal :=
  ∑ x : Fin 512, a (ix2 r x) * w (ix4 0 0 x s)

theorem pay1_apply (a : S1024x512.Idx → EReal) (w : S1x1x512x512.Idx → EReal) (r : Fin 1024) (s : Fin 512) :
    k0_pay1 (F := Ideal) a w (ix2 r s) = part a w r s := by
  unfold k0_pay1 part
  pointwise []

theorem out (a : Vec Ideal S1024x512 .bf16) (w : Vec Ideal S1x1x512x512 .bf16) (r : Fin 1024) (s : Fin 512) :
    out0_2 (F := Ideal) a w (ix2 r s) = part a w r s := by
  unfold out0_2
  rw [View.canon_unit_zero (S := S1024x512) zero2, View.ld_unit_zero (S := S1024x512) zero2,
    View.ld_unit_zero (S := S1x1x512x512) zero4]
  exact pay1_apply _ _ _ _

/-! ## The array at the end -/

theorem at0 : ∀ t : Fin cfg0.N, win0_0.index t = ![t.val / 8, 0] := (by decide +kernel : ∀ t : Fin grid0.N, _)
theorem at1 : ∀ t : Fin cfg0.N, win0_1.index t = ![0, t.val % 8, 0, 0] := (by decide +kernel : ∀ t : Fin grid0.N, _)
theorem at2 : ∀ t : Fin cfg0.N, win0_2.index t = ![t.val / 8, t.val % 8] := (by decide +kernel : ∀ t : Fin grid0.N, _)

theorem lt_N (t : Fin cfg0.N) : t.val < 64 := t.isLt

/-- The row and the column of the result that a point's block holds at `r` and `s`. -/
def rw_ (n : ℕ) (r : Fin 1024) : Fin 8192 := Fin.ofNat 8192 (1024 * (n / 8) + r.val)
def cl (n : ℕ) (s : Fin 512) : Fin 4096 := Fin.ofNat 4096 (512 * (n % 8) + s.val)

variable (m : (ℓ : Loc nD τ sig) → Buf (Elt Ideal) ℓ) (c : Dev nD)

/-- The normed latent and the weight, as the call is launched with them. -/
abbrev aA : S8192x512.Idx → EReal := m ((c : Thread nD τ).loc main_arg0)
abbrev aW : S512x4096.Idx → EReal := m ((c : Thread nD τ).loc main_arg1)

/-- The weight as its eight blocks of columns. -/
def blocks (x : FVec Ideal S512x4096 .bf16) : FVec Ideal S1x8x512x512 .bf16 :=
  broadcastInDim S1x8x512x512 ![1, 2, 3] bcast_S8x512x512_S1x8x512x512_1_2_3
    (transpose S8x512x512 [1, 0, 2] (shapeCast S512x8x512 x shapeCasts_S512x4096_S512x8x512) transposes_S512x8x512_S8x512x512_1_0_2)

theorem blocks_apply (x : S512x4096.Idx → EReal) (b : Fin 8) (k : Fin 512) (d : Fin 512) :
    blocks x (ix4 0 b k d) = x (ix2 k (Fin.ofNat 4096 (512 * b.val + d.val))) := by
  unfold blocks
  pointwise []
  congr 2
  apply Fin.ext
  show b.val * 512 + d.val = (512 * b.val + d.val) % 4096
  omega

theorem V_main_v2 : V m c main_v2 = blocks (aW m c) := by
  unfold_abbrev_sides
  after_results
  rfl

theorem iblk0_apply (t : Fin cfg0.N) (r : Fin 1024) (x : Fin 512) :
    iblk m c 0 t (ix2 r x) = aA m c (ix2 (rw_ t.val r) x) := by
  have ht := lt_N t
  have e : ((cfg0.win 0).blk t).view.emb (ix2 r x) = (ix2 (rw_ t.val r) x : S8192x512.Idx) := by
    funext a
    apply Fin.ext
    match a with
    | ⟨0, _⟩ => show win0_0.index t 0 * 1024 + 1 * r.val = _ % 8192; rw [at0]; show t.val / 8 * 1024 + 1 * r.val = (1024 * (t.val / 8) + r.val) % 8192; omega
    | ⟨1, _⟩ => show win0_0.index t 1 * 512 + 1 * x.val = x.val; rw [at0]; show 0 * 512 + 1 * x.val = _; omega
  unfold iblk
  rw [View.read_apply, e]
  show V m c main_arg0 _ = _
  rw [V_main_arg0]

theorem iblk1_apply (t : Fin cfg0.N) (x : Fin 512) (s : Fin 512) :
    iblk m c 1 t (ix4 (0 : Fin 1) (0 : Fin 1) x s) = aW m c (ix2 x (cl t.val s)) := by
  have e : ((cfg0.win 1).blk t).view.emb (ix4 (0 : Fin 1) (0 : Fin 1) x s) = (ix4 0 (Fin.ofNat 8 (t.val % 8)) x s : S1x8x512x512.Idx) := by
    funext a
    apply Fin.ext
    match a with
    | ⟨0, _⟩ => show win0_1.index t 0 * 1 + 1 * 0 = 0; rw [at1]; rfl
    | ⟨1, _⟩ => show win0_1.index t 1 * 1 + 1 * 0 = t.val % 8 % 8; rw [at1]; show t.val % 8 * 1 + 1 * 0 = _; omega
    | ⟨2, _⟩ => show win0_1.index t 2 * 512 + 1 * x.val = x.val; rw [at1]; show 0 * 512 + 1 * x.val = _; omega
    | ⟨3, _⟩ => show win0_1.index t 3 * 512 + 1 * s.val = s.val; rw [at1]; show 0 * 512 + 1 * s.val = _; omega
  unfold iblk
  rw [View.read_apply, e]
  show V m c main_v2 _ = _
  rw [V_main_v2, blocks_apply]
  congr 2
  apply Fin.ext
  show (512 * (t.val % 8 % 8) + s.val) % 4096 = (512 * (t.val % 8) + s.val) % 4096
  omega

theorem emb2 (t : Fin cfg0.N) (r : Fin 1024) (s : Fin 512) :
    ((cfg0.win 2).blk t).view.emb (ix2 r s) = (ix2 (rw_ t.val r) (cl t.val s) : S8192x4096.Idx) := by
  have ht := lt_N t
  funext a
  apply Fin.ext
  match a with
  | ⟨0, _⟩ => show win0_2.index t 0 * 1024 + 1 * r.val = _ % 8192; rw [at2]; show t.val / 8 * 1024 + 1 * r.val = (1024 * (t.val / 8) + r.val) % 8192; omega
  | ⟨1, _⟩ => show win0_2.index t 1 * 512 + 1 * s.val = _ % 4096; rw [at2]; show t.val % 8 * 512 + 1 * s.val = (512 * (t.val % 8) + s.val) % 4096; omega

/-- The result: every row of the normed latent times every column of the weight. -/
def G : S8192x4096.Idx → EReal := fun i => ∑ j : Fin 512, aA m c (ix2 (i 0) j) * aW m c (ix2 j (i 1))

theorem part_eq (t : Fin cfg0.N) (r : Fin 1024) (s : Fin 512) :
    part (iblk m c 0 t) (iblk m c 1 t) r s = G m c (ix2 (rw_ t.val r) (cl t.val s)) := by
  unfold part G
  exact Finset.sum_congr rfl fun x _ => by rw [iblk0_apply, iblk1_apply]; rfl

theorem final : (dats m 0 c).arrAt 2 cfg0.N = G m c := by
  refine (dats m 0 c).arrAt_eq_of_cover 2 (G m c) (fun t hf => ?_) fun i => ?_
  · rw [Value.flushed2]
    refine funext fun (y : S1024x512.Idx) => ?_
    obtain ⟨r, s, rfl⟩ : ∃ r s, y = ix2 r s := ⟨y 0, y 1, ValueIdx.eq_ix2 y⟩
    rw [View.read_apply, emb2]
    exact (out ..).trans (part_eq m c t r s)
  · obtain ⟨a, b, rfl⟩ : ∃ (a : Fin 8192) (b : Fin 4096), i = (ix2 a b : S8192x4096.Idx) := ⟨i 0, i 1, ValueIdx.eq_ix2 i⟩
    let t : Fin cfg0.N := ⟨8 * (a.val / 1024) + b.val / 512, by show _ < 64; omega⟩
    refine ⟨t, flush0_2 t, ?_⟩
    have e := emb2 t ⟨a.val % 1024, by omega⟩ ⟨b.val % 512, by omega⟩
    rw [show rw_ t.val ⟨a.val % 1024, by omega⟩ = a from Fin.ext (by
        show (1024 * ((8 * (a.val / 1024) + b.val / 512) / 8) + a.val % 1024) % 8192 = a.val; omega),
      show cl t.val ⟨b.val % 512, by omega⟩ = b from Fin.ext (by
        show (512 * ((8 * (a.val / 1024) + b.val / 512) % 8) + b.val % 512) % 4096 = b.val; omega)] at e
    rw [← e]
    exact View.emb_mem_set _ _

end Cert.KernelUkvIdeal.Mix

end
-- ==== Proof.Mix.Ukv.Claims.lean ====
/- The claims about the product that makes the latent layer's keys and values. -/
module

public import proofs.«01_k».proof.Defs
public import proofs.«01_k».proof.Proof.Gen.KernelUkv.Frame
public import proofs.«01_k».proof.Proof.Gen.ReferenceUkvIdeal.Read
public import proofs.«01_k».proof.Proof.Mix.Ukv.Final

@[expose] public section

set_option maxRecDepth 16384

noncomputable section

namespace Cert.MixUkv

open Idealize.ShloMosaic Idealize.ShloMosaic.TcCoe Idealize.SL.Sem

theorem frame_k : Cert.quiescent_KernelUkv := fun m ρ _ => Cert.KernelUkv.Gen.frame m ρ
theorem frame_ki : Cert.quiescent_KernelUkvIdeal := fun m ρ _ => Cert.KernelUkvIdeal.Gen.frame m ρ
theorem frame_r : Cert.quiescent_ReferenceUkvIdeal := fun m ρ _ =>
  (θ_run Cert.ReferenceUkvIdeal.defs _ _).mono (fun r h => ⟨fun c => (h c).2, Idealize.ShloMosaic.sem_eq_zero_of_no_sems (by decide) r.2⟩)
    (Cert.ReferenceUkvIdeal.Value.run (F := Ideal) m ρ)
theorem preserves : Cert.preserves_KernelUkv_KernelUkvIdeal := trivial

/-- The call leaves the reference's product. -/
theorem algebraic : Cert.algebraic_KernelUkvIdeal_ReferenceUkvIdeal := by
  intro m g m' g' _ hagree
  refine ⟨_, Cert.KernelUkvIdeal.Value.run_blocks m g, ?_⟩
  refine (θ_run Cert.ReferenceUkvIdeal.defs _ _).mono (fun r h c => ?_) (Cert.ReferenceUkvIdeal.Value.run (F := Ideal) m' g')
  obtain ⟨a0, a1⟩ := hagree c
  refine ⟨(h c).1.trans ?_, (h c).2⟩
  rw [Cert.ReferenceUkvIdeal.Read.val_main_v3_eq, Cert.KernelUkvIdeal.Mix.final]
  refine funext fun i => ?_
  rw [Cert.ReferenceUkvIdeal.Read.val_main_v3_apply, Cert.ReferenceUkvIdeal.Read.val_main_v2_apply]
  unfold Cert.KernelUkvIdeal.Mix.G Cert.KernelUkvIdeal.Mix.aA Cert.KernelUkvIdeal.Mix.aW
  rw [← a0, ← a1]
  refine Finset.sum_congr rfl fun j _ => ?_
  rw [Cert.ReferenceUkvIdeal.Read.val_main_v0_apply, Cert.ReferenceUkvIdeal.Read.val_main_v1_apply]
  exact congrArg₂ (fun x y : EReal => x * y) (congrArg (m' _) (ValueIdx.eq_ix2 _)) (congrArg (m' _) (ValueIdx.eq_ix2 _))

end Cert.MixUkv

end
-- ==== Proof.Mix.Dwukv.Point.lean ====
/- The gradient of the weight of the latent layer's keys and values: what one grid point leaves in its accumulator
   and in its output block. -/
module

public import proofs.«01_k».proof.Proof.Gen.KernelDwukvIdeal.Frame
public import proofs.«01_k».proof.Proof.Ffn.Blocks

@[expose] public section

set_option maxRecDepth 16384

noncomputable section

namespace Cert.KernelDwukvIdeal.Mix

open Cert.KernelDwukvIdeal Cert.KernelDwukvIdeal.Gen Cert.Ffn Idealize.ShloMosaic Idealize.ShloMosaic.TcCoe Idealize.SL.Sem

/-- The product of a point's two blocks, over their rows. -/
def part (a : S1024x512.Idx → EReal) (w : S1024x512.Idx → EReal) (r : Fin 512) (s : Fin 512) : EReal :=
  ∑ x : Fin 1024, a (ix2 x r) * w (ix2 x s)

theorem pay2_apply (a : S1024x512.Idx → EReal) (w : S1024x512.Idx → EReal) (r : Fin 512) (s : Fin 512) :
    k0_pay2 (F := Ideal) a w (ix2 r s) = part a w r s := by
  unfold k0_pay2 k0_pay1 part
  pointwise []
theorem pay3_apply (a : S1024x512.Idx → EReal) (w : S1024x512.Idx → EReal) (z : S512x512.Idx → EReal) (r : Fin 512) (s : Fin 512) :
    k0_pay3 (F := Ideal) a w z (ix2 r s) = z (ix2 r s) + part a w r s := by
  unfold k0_pay3 k0_pay1 part
  pointwise []
theorem pay4_apply (z : S512x512.Idx → EReal) (r : Fin 512) (s : Fin 512) :
    k0_pay4 (F := Ideal) z (ix3 0 r s) = z (ix2 r s) := by
  unfold k0_pay4
  pointwise []

/-- A store through the whole accumulator, and one through the whole output block, read back as their payloads. -/
theorem read_store {κ : Kind} {sp : Space} (V : View sig κ sp S512x512 .f32) (f) (w : S512x512.Idx → EReal) (L) (y) :
    V.read (Elt Ideal) (V.writes (Elt Ideal) f (⟨Rect.unit (s := S512x512) ![0, 0] S512x512.size inb_S512x512_S512x512_0_0, w⟩ :: L)) y = w y :=
  View.read_writes_cons_unit_of_mem V f inb_S512x512_S512x512_0_0 w L y y rfl (by intro a; fin_cases a <;> simp)
theorem read_out {κ : Kind} {sp : Space} (V : View sig κ sp S1x512x512 .bf16) (f) (w : S1x512x512.Idx → EReal) (L) (y) :
    V.read (Elt Ideal) (V.writes (Elt Ideal) f (⟨Rect.unit (s := S1x512x512) ![0, 0, 0] S1x512x512.size inb_S1x512x512_S1x512x512_0_0_0, w⟩ :: L)) y = w y :=
  View.read_writes_cons_unit_of_mem V f inb_S1x512x512_S1x512x512_0_0_0 w L y y rfl (by intro a; fin_cases a <;> simp)

section
variable (c : Dev nD) (i : grid0.Coords) (arg3 : Memref sig .tc .vmem S1024x512 .bf16) (harg3 : arg3.IsWhole) (arg4 : Memref sig .tc .vmem S1024x512 .bf16) (harg4 : arg4.IsWhole)
  (arg5 : Memref sig .tc .vmem S1x512x512 .bf16) (harg5 : arg5.IsWhole) (arg6 : Memref sig .tc .vmem S512x512 .f32) (harg6 : arg6.IsWhole)
  (x0 : Vec Ideal S1024x512 .bf16) (x1 : Vec Ideal S1024x512 .bf16) (xs0 : Vec Ideal S512x512 .f32) (r : Fin 512) (s : Fin 512)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x512) zero2, View.ld_unit_zero (S := S1024x512) zero2]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x512) zero2, View.ld_unit_zero (S := S1024x512) zero2, View.ld_unit_zero (S := S512x512) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x512) zero2, View.ld_unit_zero (S := S1024x512) zero2, View.ld_unit_zero (S := S512x512) zero2]
  exact pay3_apply _ _ _ _ _

theorem out (h0 h1 h2) :
    out0_C_2 (F := Ideal) c i arg3 harg3 arg4 harg4 arg5 harg5 arg6 harg6 h0 h1 h2 x0 x1 xs0 (ix3 0 r s) = xs0 (ix2 r s) + part x0 x1 r s := by
  unfold out0_C_2 kernelRun0_C
  dsimp only
  refine (read_out _ _ _ _ _).trans ?_
  rw [pay4_apply]
  unfold kernelRun0_C.sl.v12 View.readCov kernelRun0_C.sl.HS0_1
  rw [View.readAt_eq_ld, View.ld_unit_zero (S := S512x512) zero2]
  refine (read_store _ _ _ _ _).trans ?_
  simp only [View.readAt_eq_ld, harg3.read_unread, harg4.read_unread, harg6.read_unread]
  rw [View.ld_unit_zero (S := S1024x512) zero2, View.ld_unit_zero (S := S1024x512) zero2, View.ld_unit_zero (S := S512x512) zero2]
  exact pay3_apply _ _ _ _ _
end

end Cert.KernelDwukvIdeal.Mix

end
-- ==== Proof.Mix.Dwukv.Final.lean ====
/- The gradient of the weight of the latent layer's keys and values: the array the call leaves, as one sum over all rows. -/
module

public import proofs.«01_k».proof.Proof.Gen.KernelDwukvIdeal.Value
public import proofs.«01_k».proof.Proof.Mix.Dwukv.Point

@[expose] public section

set_option maxRecDepth 16384

noncomputable section

namespace Cert.KernelDwukvIdeal.Mix

open Cert.KernelDwukvIdeal Cert.KernelDwukvIdeal.Gen Cert.Ffn Idealize.ShloMosaic Idealize.ShloMosaic.TcCoe Idealize.SL.Sem
open Idealize.ShloMosaic.Pipeline (Dat Window)
open Finset (range)

/-! Where a point's blocks lie: point `t` adds rows block `t mod 8` to output block `t / 8`. -/

theorem at0 : ∀ t : Fin cfg0.N, win0_0.index t = ![t.val % 8, 0] := (by decide +kernel : ∀ t : Fin grid0.N, _)
theorem at1 : ∀ t : Fin cfg0.N, win0_1.index t = ![t.val % 8, t.val / 8] := (by decide +kernel : ∀ t : Fin grid0.N, _)
theorem at2 : ∀ t : Fin cfg0.N, win0_2.index t = ![t.val / 8, 0, 0] := (by decide +kernel : ∀ t : Fin grid0.N, _)

theorem lt_N (t : Fin cfg0.N) : t.val < 64 := t.isLt

/-- Which block of columns output block `n` is, and the column of the weight a block holds at `s`. -/
def bk (n : ℕ) : Fin 8 := Fin.ofNat 8 n
def wide (b : Fin 8) (s : Fin 512) : Fin 4096 := Fin.ofNat 4096 (512 * b.val + s.val)

variable (m : (ℓ : Loc nD τ sig) → Buf (Elt Ideal) ℓ) (c : Dev nD)

/-- The normed latent and the cotangent, as the call is launched with them. -/
abbrev aH : S8192x512.Idx → EReal := m ((c : Thread nD τ).loc main_arg0)
abbrev aU : S8192x4096.Idx → EReal := m ((c : Thread nD τ).loc main_arg2)

theorem iblk0_apply (t : Fin cfg0.N) (x : Fin 1024) (r : Fin 512) :
    iblk m c 0 t (ix2 x r) = aH m c (ix2 (Fin.ofNat 8192 (1024 * (t.val % 8) + x.val)) r) := by
  have ht := lt_N t
  have e : ((cfg0.win 0).blk t).view.emb (ix2 x r)
      = (ix2 (Fin.ofNat 8192 (1024 * (t.val % 8) + x.val)) r : S8192x512.Idx) := by
    funext a
    apply Fin.ext
    match a with
    | ⟨0, _⟩ => show win0_0.index t 0 * 1024 + 1 * x.val = _ % 8192; rw [at0]; show t.val % 8 * 1024 + 1 * x.val = (1024 * (t.val % 8) + x.val) % 8192; omega
    | ⟨1, _⟩ => show win0_0.index t 1 * 512 + 1 * r.val = r.val; rw [at0]; show 0 * 512 + 1 * r.val = _; omega
  unfold iblk
  rw [View.read_apply, e]
  show V m c main_arg0 _ = _
  rw [V_main_arg0]

theorem iblk1_apply (t : Fin cfg0.N) (x : Fin 1024) (s : Fin 512) :
    iblk m c 1 t (ix2 x s) = aU m c (ix2 (Fin.ofNat 8192 (1024 * (t.val % 8) + x.val)) (wide (bk (t.val / 8)) s)) := by
  have ht := lt_N t
  have e : ((cfg0.win 1).blk t).view.emb (ix2 x s)
      = (ix2 (Fin.ofNat 8192 (1024 * (t.val % 8) + x.val)) (wide (bk (t.val / 8)) s) : S8192x4096.Idx) := by
    funext a
    apply Fin.ext
    match a with
    | ⟨0, _⟩ => show win0_1.index t 0 * 1024 + 1 * x.val = _ % 8192; rw [at1]; show t.val % 8 * 1024 + 1 * x.val = (1024 * (t.val % 8) + x.val) % 8192; omega
    | ⟨1, _⟩ => show win0_1.index t 1 * 512 + 1 * s.val = _ % 4096; rw [at1]; show t.val / 8 * 512 + 1 * s.val = (512 * (t.val / 8 % 8) + s.val) % 4096; omega
  unfold iblk
  rw [View.read_apply, e]
  show V m c main_arg2 _ = _
  rw [V_main_arg2]

/-- What block `k` of the rows adds to place `y` of output block `b`. -/
def term (b k : ℕ) (y : S512x512.Idx) : EReal :=
  ∑ x : Fin 1024, aH m c (ix2 (Fin.ofNat 8192 (1024 * k + x.val)) (y 0)) * aU m c (ix2 (Fin.ofNat 8192 (1024 * k + x.val)) (wide (bk b) (y 1)))

theorem part_eq (t : Fin cfg0.N) (r : Fin 512) (s : Fin 512) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 512) (s : Fin 512) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 512) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 512) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S512x512.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every column of the normed latent times every column of the cotangent, the latter in eight blocks. -/
def G : S8x512x512.Idx → EReal := fun i => ∑ j : Fin 8192, aH m c (ix2 j (i 1)) * aU m c (ix2 j (wide (i 0) (i 2)))

theorem out_eq (t : Fin cfg0.N) (h7 : t.val % 8 = 7) (r : Fin 512) (s : Fin 512) :
    (outsAt0 m c t.val t.isLt).1 (ix3 0 r s) = G m c (ix3 (bk (t.val / 8)) r s) := by
  have e : (outsAt0 m c t.val t.isLt).1 (ix3 0 r s) = (outsAt0 m c t.val t.isLt).2 (ix2 r s) := by
    rw [outsAt0_C m c t (by omega) (by omega) h7]
    dsimp only
    rw [out, last]
  rw [e, acc, h7]
  exact sum_axis 1024 8 rfl fun j => aH m c (ix2 j r) * aU m c (ix2 j (wide (bk (t.val / 8)) s))

theorem emb2 (t : Fin cfg0.N) (r : Fin 512) (s : Fin 512) :
    ((cfg0.win 2).blk t).view.emb (ix3 (0 : Fin 1) r s) = (ix3 (bk (t.val / 8)) r s : S8x512x512.Idx) := by
  have ht := lt_N t
  funext a
  apply Fin.ext
  match a with
  | ⟨0, _⟩ => show win0_2.index t 0 * 1 + 1 * 0 = t.val / 8 % 8; rw [at2]; show t.val / 8 * 1 + 1 * 0 = t.val / 8 % 8; omega
  | ⟨1, _⟩ => show win0_2.index t 1 * 512 + 1 * r.val = r.val; rw [at2]; show 0 * 512 + 1 * r.val = _; omega
  | ⟨2, _⟩ => show win0_2.index t 2 * 512 + 1 * s.val = s.val; rw [at2]; show 0 * 512 + 1 * s.val = _; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1x512x512.Idx) => ?_
    obtain ⟨z, r, s, rfl⟩ : ∃ z r s, y = ix3 z r s := ⟨y 0, y 1, y 2, ValueIdx.eq_ix3 y⟩
    obtain rfl : z = 0 := Subsingleton.elim _ _
    rw [View.read_apply, emb2]
    exact out_eq m c t ((flush0_2 t).mp hf) r s
  · obtain ⟨b, a, s, rfl⟩ : ∃ (b : Fin 8) (a : Fin 512) (s : Fin 512), i = (ix3 b a s : S8x512x512.Idx) := ⟨i 0, i 1, i 2, ValueIdx.eq_ix3 i⟩
    let t : Fin cfg0.N := ⟨8 * b.val + 7, by show _ < 64; omega⟩
    refine ⟨t, (flush0_2 t).mpr (by show (8 * b.val + 7) % 8 = 7; omega), ?_⟩
    have e := emb2 t a s
    rw [show bk (t.val / 8) = b from Fin.ext (by show (8 * b.val + 7) / 8 % 8 = b.val; omega)] at e
    rw [← e]
    exact View.emb_mem_set _ _

end Cert.KernelDwukvIdeal.Mix

end
-- ==== Proof.Mix.Dwukv.Claims.lean ====
/- The claims about the gradient of the weight of the latent layer's keys and values. -/
module

public import proofs.«01_k».proof.Defs
public import proofs.«01_k».proof.Proof.Gen.KernelDwukv.Frame
public import proofs.«01_k».proof.Proof.Gen.ReferenceDwukvIdeal.Read
public import proofs.«01_k».proof.Proof.Mix.Dwukv.Final

@[expose] public section

set_option maxRecDepth 16384

noncomputable section

namespace Cert.MixDwukv

open Idealize.ShloMosaic Idealize.ShloMosaic.TcCoe Idealize.SL.Sem

theorem frame_k : Cert.quiescent_KernelDwukv := fun m ρ _ => Cert.KernelDwukv.Gen.frame m ρ
theorem frame_ki : Cert.quiescent_KernelDwukvIdeal := fun m ρ _ => Cert.KernelDwukvIdeal.Gen.frame m ρ
theorem frame_r : Cert.quiescent_ReferenceDwukvIdeal := fun m ρ _ =>
  (θ_run Cert.ReferenceDwukvIdeal.defs _ _).mono (fun r h => ⟨fun c => (h c).2, Idealize.ShloMosaic.sem_eq_zero_of_no_sems (by decide) r.2⟩)
    (Cert.ReferenceDwukvIdeal.Value.run (F := Ideal) m ρ)
theorem preserves : Cert.preserves_KernelDwukv_KernelDwukvIdeal := trivial

/-- The call leaves the reference's gradient. -/
theorem algebraic : Cert.algebraic_KernelDwukvIdeal_ReferenceDwukvIdeal := by
  intro m g m' g' _ hagree
  refine ⟨_, Cert.KernelDwukvIdeal.Value.run_blocks m g, ?_⟩
  refine (θ_run Cert.ReferenceDwukvIdeal.defs _ _).mono (fun r h c => ?_) (Cert.ReferenceDwukvIdeal.Value.run (F := Ideal) m' g')
  obtain ⟨a0, _, a2⟩ := hagree c
  refine ⟨(h c).1.trans ?_, (h c).2⟩
  rw [Cert.ReferenceDwukvIdeal.Read.val_main_v9_eq, Cert.KernelDwukvIdeal.Mix.final]
  refine funext fun i => ?_
  rw [Cert.ReferenceDwukvIdeal.Read.val_main_v9_apply, Cert.ReferenceDwukvIdeal.Read.val_main_v8_apply,
    Cert.ReferenceDwukvIdeal.Read.val_main_v7_apply, Cert.ReferenceDwukvIdeal.Read.val_main_v5_apply, Cert.ReferenceDwukvIdeal.Read.val_main_v4_apply]
  unfold Cert.KernelDwukvIdeal.Mix.G Cert.KernelDwukvIdeal.Mix.aH Cert.KernelDwukvIdeal.Mix.aU
  rw [← a0, ← a2]
  refine Finset.sum_congr rfl fun j _ => ?_
  rw [Cert.ReferenceDwukvIdeal.Read.val_main_v0_apply, Cert.ReferenceDwukvIdeal.Read.val_main_v3_apply]
  refine (mul_comm (G := EReal) _ _).trans ?_
  have h0 : (i 0).val < 8 := (i 0).isLt
  have h1 : (i 1).val < 512 := (i 1).isLt
  have h2 : (i 2).val < 512 := (i 2).isLt
  refine congrArg₂ (fun x y : EReal => x * y) (congrArg (m' _) ?_) (congrArg (m' _) ?_)
  · refine (ValueIdx.eq_ix2 _).trans (congrArg (ix2 _) (Fin.ext ?_))
    show (((i 1).val * 8 + (i 0).val) * 512 + (i 2).val) / 4096 = (i 1).val
    omega
  · refine (ValueIdx.eq_ix2 _).trans (congrArg (ix2 _) (Fin.ext ?_))
    show (((i 1).val * 8 + (i 0).val) * 512 + (i 2).val) % 4096 = (512 * (i 0).val + (i 2).val) % 4096
    omega

end Cert.MixDwukv

end
-- ==== Proof.Mix.Dckv.Point.lean ====
/- The gradient of the latent the keys and values are made of: what one grid point leaves in its accumulator
   and in its output block. -/
module

public import proofs.«01_k».proof.Proof.Gen.KernelDckvIdeal.Frame
public import proofs.«01_k».proof.Proof.Ffn.Blocks

@[expose] public section

set_option maxRecDepth 16384

noncomputable section

namespace Cert.KernelDckvIdeal.Mix

open Cert.KernelDckvIdeal Cert.KernelDckvIdeal.Gen Cert.Ffn Idealize.ShloMosaic Idealize.ShloMosaic.TcCoe Idealize.SL.Sem

/-- The product of a point's two blocks. -/
def part (a : S1024x512.Idx → EReal) (w : S1x1x512x512.Idx → EReal) (r : Fin 1024) (s : Fin 512) : EReal :=
  ∑ x : Fin 512, a (ix2 r x) * w (ix4 0 0 s x)

theorem pay2_apply (a : S1024x512.Idx → EReal) (w : S1x1x512x512.Idx → EReal) (r : Fin 1024) (s : Fin 512) :
    k0_pay2 (F := Ideal) a w (ix2 r s) = part a w r s := by
  unfold k0_pay2 k0_pay1 part
  pointwise []
theorem pay3_apply (a : S1024x512.Idx → EReal) (w : S1x1x512x512.Idx → EReal) (z : S1024x512.Idx → EReal) (r : Fin 1024) (s : Fin 512) :
    k0_pay3 (F := Ideal) a w z (ix2 r s) = z (ix2 r s) + part a w r s := by
  unfold k0_pay3 k0_pay1 part
  pointwise []

/-- A store through the whole accumulator reads back as its payload. -/
theorem read_store {κ : Kind} {sp : Space} (V : View sig κ sp S1024x512 .f32) (f) (w : S1024x512.Idx → EReal) (L) (y) :
    V.read (Elt Ideal) (V.writes (Elt Ideal) f (⟨Rect.unit (s := S1024x512) ![0, 0] S1024x512.size inb_S1024x512_S1024x512_0_0, w⟩ :: L)) y = w y :=
  View.read_writes_cons_unit_of_mem V f inb_S1024x512_S1024x512_0_0 w L y y rfl (by intro a; fin_cases a <;> simp)

section
variable (c : Dev nD) (i : grid0.Coords) (arg3 : Memref sig .tc .vmem S1024x512 .bf16) (harg3 : arg3.IsWhole) (arg4 : Memref sig .tc .vmem S1x1x512x512 .bf16) (harg4 : arg4.IsWhole)
  (arg5 : Memref sig .tc .vmem S1024x512 .f32) (harg5 : arg5.IsWhole) (arg6 : Memref sig .tc .vmem S1024x512 .f32) (harg6 : arg6.IsWhole)
  (x0 : Vec Ideal S1024x512 .bf16) (x1 : Vec Ideal S1x1x512x512 .bf16) (xs0 : Vec Ideal S1024x512 .f32) (r : Fin 1024) (s : Fin 512)

theorem first (h0 h1 h2) :
    sout0_A_0 (F := Ideal) c i arg3 harg3 arg4 harg4 arg5 harg5 arg6 harg6 h0 h1 h2 x0 x1 (ix2 r s) = part x0 x1 r s := by
  unfold sout0_A_0 kernelRun0_A
  dsimp only
  refine (read_store _ _ _ _ _).trans ?_
  simp only [View.readAt_eq_ld, harg3.read_unread, harg4.read_unread, harg6.read_unread]
  rw [View.ld_unit_zero (S := S1024x512) zero2, View.ld_unit_zero (S := S1x1x512x512) zero4]
  exact pay2_apply _ _ _ _

theorem next (h0 h1 h2) :
    sout0_B_0 (F := Ideal) c i arg3 harg3 arg4 harg4 arg5 harg5 arg6 harg6 h0 h1 h2 x0 x1 xs0 (ix2 r s) = xs0 (ix2 r s) + part x0 x1 r s := by
  unfold sout0_B_0 kernelRun0_B
  dsimp only
  refine (read_store _ _ _ _ _).trans ?_
  simp only [View.readAt_eq_ld, harg3.read_unread, harg4.read_unread, harg6.read_unread]
  rw [View.ld_unit_zero (S := S1024x512) zero2, View.ld_unit_zero (S := S1x1x512x512) zero4, View.ld_unit_zero (S := S1024x512) zero2]
  exact pay3_apply _ _ _ _ _

theorem last (h0 h1 h2) :
    sout0_C_0 (F := Ideal) c i arg3 harg3 arg4 harg4 arg5 harg5 arg6 harg6 h0 h1 h2 x0 x1 xs0 (ix2 r s) = xs0 (ix2 r s) + part x0 x1 r s := by
  unfold sout0_C_0 kernelRun0_C
  dsimp only
  refine (read_store _ _ _ _ _).trans ?_
  simp only [View.readAt_eq_ld, harg3.read_unread, harg4.read_unread, harg6.read_unread]
  rw [View.ld_unit_zero (S := S1024x512) zero2, View.ld_unit_zero (S := S1x1x512x512) zero4, View.ld_unit_zero (S := S1024x512) zero2]
  exact pay3_apply _ _ _ _ _

theorem out (h0 h1 h2) :
    out0_C_2 (F := Ideal) c i arg3 harg3 arg4 harg4 arg5 harg5 arg6 harg6 h0 h1 h2 x0 x1 xs0 (ix2 r s) = xs0 (ix2 r s) + part x0 x1 r s := by
  unfold out0_C_2 kernelRun0_C
  dsimp only
  refine (read_store _ _ _ _ _).trans ?_
  unfold kernelRun0_C.sl.v13 View.readCov kernelRun0_C.sl.HS0_1
  rw [View.readAt_eq_ld, View.ld_unit_zero (S := S1024x512) zero2]
  refine (read_store _ _ _ _ _).trans ?_
  simp only [View.readAt_eq_ld, harg3.read_unread, harg4.read_unread, harg6.read_unread]
  rw [View.ld_unit_zero (S := S1024x512) zero2, View.ld_unit_zero (S := S1x1x512x512) zero4, View.ld_unit_zero (S := S1024x512) zero2]
  exact pay3_apply _ _ _ _ _
end

end Cert.KernelDckvIdeal.Mix

end
-- ==== Proof.Mix.Dckv.Final.lean ====
/- The gradient of the latent the keys and values are made of: the array the call leaves, as one sum over the
   whole width. -/
module

public import proofs.«01_k».proof.Proof.Gen.KernelDckvIdeal.Value
public import proofs.«01_k».proof.Proof.Mix.Dckv.Point

@[expose] public section

set_option maxRecDepth 16384

noncomputable section

namespace Cert.KernelDckvIdeal.Mix

open Cert.KernelDckvIdeal Cert.KernelDckvIdeal.Gen Cert.Ffn Idealize.ShloMosaic Idealize.ShloMosaic.TcCoe Idealize.SL.Sem
open Idealize.ShloMosaic.Pipeline (Dat Window)
open Finset (range)

/-! Where a point's blocks lie: point `t` adds columns block `t mod 8` to output block `t / 8`. -/

theorem at0 : ∀ t : Fin cfg0.N, win0_0.index t = ![t.val / 8, t.val % 8] := (by decide +kernel : ∀ t : Fin grid0.N, _)
theorem at1 : ∀ t : Fin cfg0.N, win0_1.index t = ![0, t.val % 8, 0, 0] := (by decide +kernel : ∀ t : Fin grid0.N, _)
theorem at2 : ∀ t : Fin cfg0.N, win0_2.index t = ![t.val / 8, 0] := (by decide +kernel : ∀ t : Fin grid0.N, _)

theorem lt_N (t : Fin cfg0.N) : t.val < 64 := t.isLt

/-- The row of the result that an output block holds at `r`. -/
def rw_ (n : ℕ) (r : Fin 1024) : Fin 8192 := Fin.ofNat 8192 (1024 * n + r.val)

/-- The weight as its eight blocks of columns. -/
def blocks (x : FVec Ideal S512x4096 .bf16) : FVec Ideal S1x8x512x512 .bf16 :=
  broadcastInDim S1x8x512x512 ![1, 2, 3] bcast_S8x512x512_S1x8x512x512_1_2_3
    (transpose S8x512x512 [1, 0, 2] (shapeCast S512x8x512 x shapeCasts_S512x4096_S512x8x512) transposes_S512x8x512_S8x512x512_1_0_2)

theorem blocks_apply (x : S512x4096.Idx → EReal) (b : Fin 8) (k : Fin 512) (d : Fin 512) :
    blocks x (ix4 0 b k d) = x (ix2 k (Fin.ofNat 4096 (512 * b.val + d.val))) := by
  unfold blocks
  pointwise []
  congr 2
  apply Fin.ext
  show b.val * 512 + d.val = (512 * b.val + d.val) % 4096
  omega

variable (m : (ℓ : Loc nD τ sig) → Buf (Elt Ideal) ℓ) (c : Dev nD)

/-- The cotangent and the weight, as the call is launched with them. -/
abbrev aU : S8192x4096.Idx → EReal := m ((c : Thread nD τ).loc main_arg2)
abbrev aW : S512x4096.Idx → EReal := m ((c : Thread nD τ).loc main_arg1)

theorem V_main_v2 : V m c main_v2 = blocks (aW m c) := by
  unfold_abbrev_sides
  after_results
  rfl

theorem iblk0_apply (t : Fin cfg0.N) (r : Fin 1024) (x : Fin 512) :
    iblk m c 0 t (ix2 r x) = aU m c (ix2 (rw_ (t.val / 8) r) (Fin.ofNat 4096 (512 * (t.val % 8) + x.val))) := by
  have ht := lt_N t
  have e : ((cfg0.win 0).blk t).view.emb (ix2 r x)
      = (ix2 (rw_ (t.val / 8) r) (Fin.ofNat 4096 (512 * (t.val % 8) + x.val)) : S8192x4096.Idx) := by
    funext a
    apply Fin.ext
    match a with
    | ⟨0, _⟩ => show win0_0.index t 0 * 1024 + 1 * r.val = _ % 8192; rw [at0]; show t.val / 8 * 1024 + 1 * r.val = (1024 * (t.val / 8) + r.val) % 8192; omega
    | ⟨1, _⟩ => show win0_0.index t 1 * 512 + 1 * x.val = _ % 4096; rw [at0]; show t.val % 8 * 512 + 1 * x.val = (512 * (t.val % 8) + x.val) % 4096; omega
  unfold iblk
  rw [View.read_apply, e]
  show V m c main_arg2 _ = _
  rw [V_main_arg2]

theorem iblk1_apply (t : Fin cfg0.N) (s : Fin 512) (x : Fin 512) :
    iblk m c 1 t (ix4 (0 : Fin 1) (0 : Fin 1) s x) = aW m c (ix2 s (Fin.ofNat 4096 (512 * (t.val % 8) + x.val))) := by
  have e : ((cfg0.win 1).blk t).view.emb (ix4 (0 : Fin 1) (0 : Fin 1) s x)
      = (ix4 0 (Fin.ofNat 8 (t.val % 8)) s x : S1x8x512x512.Idx) := by
    funext a
    apply Fin.ext
    match a with
    | ⟨0, _⟩ => show win0_1.index t 0 * 1 + 1 * 0 = 0; rw [at1]; rfl
    | ⟨1, _⟩ => show win0_1.index t 1 * 1 + 1 * 0 = t.val % 8 % 8; rw [at1]; show t.val % 8 * 1 + 1 * 0 = _; omega
    | ⟨2, _⟩ => show win0_1.index t 2 * 512 + 1 * s.val = s.val; rw [at1]; show 0 * 512 + 1 * s.val = _; omega
    | ⟨3, _⟩ => show win0_1.index t 3 * 512 + 1 * x.val = x.val; rw [at1]; show 0 * 512 + 1 * x.val = _; omega
  unfold iblk
  rw [View.read_apply, e]
  show V m c main_v2 _ = _
  rw [V_main_v2, blocks_apply]
  congr 2
  apply Fin.ext
  show (512 * (t.val % 8 % 8) + x.val) % 4096 = (512 * (t.val % 8) + x.val) % 4096
  omega

/-- What block `k` of the columns adds to place `y` of output block `b`. -/
def term (b k : ℕ) (y : S1024x512.Idx) : EReal :=
  ∑ x : Fin 512, aU m c (ix2 (rw_ b (y 0)) (Fin.ofNat 4096 (512 * k + x.val))) * aW m c (ix2 (y 1) (Fin.ofNat 4096 (512 * k + x.val)))

theorem part_eq (t : Fin cfg0.N) (r : Fin 1024) (s : Fin 512) :
    part (iblk m c 0 t) (iblk m c 1 t) r s = term m c (t.val / 8) (t.val % 8) (ix2 r s) := by
  unfold part term
  exact Finset.sum_congr rfl fun x _ => by rw [iblk0_apply, iblk1_apply]; rfl

theorem acc_first (t : Fin cfg0.N) (h0 : t.val % 8 = 0) (r : Fin 1024) (s : Fin 512) :
    (outsAt0 m c t.val t.isLt).2 (ix2 r s) = term m c (t.val / 8) 0 (ix2 r s) := by
  rw [outsAt0_A m c t h0 (by omega) (by omega)]
  dsimp only
  rw [first, part_eq, h0]

theorem acc_last (t : Fin cfg0.N) (h7 : t.val % 8 = 7) (r : Fin 1024) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  rw [outsAt0_C m c t (by omega) (by omega) h7]
  dsimp only
  rw [last, part_eq]

theorem acc_next (t : Fin cfg0.N) (h0 : ¬t.val % 8 = 0) (r : Fin 1024) (s : Fin 512) :
    (outsAt0 m c t.val t.isLt).2 (ix2 r s)
      = (outsAt0 m c (t.val - 1) (Nat.lt_of_le_of_lt (Nat.sub_le _ 1) t.isLt)).2 (ix2 r s) + term m c (t.val / 8) (t.val % 8) (ix2 r s) := by
  by_cases h7 : t.val % 8 = 7
  · exact acc_last m c t h7 r s
  · rw [outsAt0_B m c t h0 (by omega) h7]
    dsimp only
    rw [next, part_eq]

/-- The accumulator after a point holds the blocks added so far. -/
theorem acc (n : ℕ) (h : n < cfg0.N) (y : S1024x512.Idx) :
    (outsAt0 m c n h).2 y = ∑ k ∈ range (n % 8 + 1), term m c (n / 8) k y := by
  refine acc_eq 8 cfg0.N (by norm_num) (fun n h => (outsAt0 m c n h).2) (term m c) (fun n h y h0 => ?_) (fun n h y h0 => ?_) n h y
  · obtain ⟨r, s, rfl⟩ : ∃ r s, y = ix2 r s := ⟨y 0, y 1, ValueIdx.eq_ix2 y⟩
    exact acc_first m c ⟨n, h⟩ h0 r s
  · obtain ⟨r, s, rfl⟩ : ∃ r s, y = ix2 r s := ⟨y 0, y 1, ValueIdx.eq_ix2 y⟩
    exact acc_next m c ⟨n, h⟩ h0 r s

/-- The result: every row of the cotangent times every row of the weight. -/
def G : S8192x512.Idx → EReal := fun i => ∑ j : Fin 4096, aU m c (ix2 (i 0) j) * aW m c (ix2 (i 1) j)

theorem out_eq (t : Fin cfg0.N) (h7 : t.val % 8 = 7) (r : Fin 1024) (s : Fin 512) :
    (outsAt0 m c t.val t.isLt).1 (ix2 r s) = G m c (ix2 (rw_ (t.val / 8) r) s) := by
  have e : (outsAt0 m c t.val t.isLt).1 (ix2 r s) = (outsAt0 m c t.val t.isLt).2 (ix2 r s) := by
    rw [outsAt0_C m c t (by omega) (by omega) h7]
    dsimp only
    rw [out, last]
  rw [e, acc, h7]
  exact sum_axis 512 8 rfl fun j => aU m c (ix2 (rw_ (t.val / 8) r) j) * aW m c (ix2 s j)

theorem emb2 (t : Fin cfg0.N) (r : Fin 1024) (s : Fin 512) :
    ((cfg0.win 2).blk t).view.emb (ix2 r s) = (ix2 (rw_ (t.val / 8) r) s : S8192x512.Idx) := by
  have ht := lt_N t
  funext a
  apply Fin.ext
  match a with
  | ⟨0, _⟩ => show win0_2.index t 0 * 1024 + 1 * r.val = _ % 8192; rw [at2]; show t.val / 8 * 1024 + 1 * r.val = (1024 * (t.val / 8) + r.val) % 8192; omega
  | ⟨1, _⟩ => show win0_2.index t 1 * 512 + 1 * s.val = s.val; rw [at2]; show 0 * 512 + 1 * s.val = _; omega

/-- The array at the end. -/
theorem final : (dats m 0 c).arrAt 2 cfg0.N = G m c := by
  refine (dats m 0 c).arrAt_eq_of_cover 2 (G m c) (fun t hf => ?_) fun i => ?_
  · rw [Value.flushed2]
    refine funext fun (y : S1024x512.Idx) => ?_
    obtain ⟨r, s, rfl⟩ : ∃ r s, y = ix2 r s := ⟨y 0, y 1, ValueIdx.eq_ix2 y⟩
    rw [View.read_apply, emb2]
    exact out_eq m c t ((flush0_2 t).mp hf) r s
  · obtain ⟨a, b, rfl⟩ : ∃ (a : Fin 8192) (b : Fin 512), i = (ix2 a b : S8192x512.Idx) := ⟨i 0, i 1, ValueIdx.eq_ix2 i⟩
    let t : Fin cfg0.N := ⟨8 * (a.val / 1024) + 7, by show _ < 64; omega⟩
    refine ⟨t, (flush0_2 t).mpr (by show (8 * (a.val / 1024) + 7) % 8 = 7; omega), ?_⟩
    have e := emb2 t ⟨a.val % 1024, by omega⟩ b
    rw [show rw_ (t.val / 8) ⟨a.val % 1024, by omega⟩ = a from Fin.ext (by
        show (1024 * ((8 * (a.val / 1024) + 7) / 8) + a.val % 1024) % 8192 = a.val; omega)] at e
    rw [← e]
    exact View.emb_mem_set _ _

end Cert.KernelDckvIdeal.Mix

end
-- ==== Proof.Mix.Dckv.Claims.lean ====
/- The claims about the gradient of the latent the keys and values are made of. -/
module

public import proofs.«01_k».proof.Defs
public import proofs.«01_k».proof.Proof.Gen.KernelDckv.Frame
public import proofs.«01_k».proof.Proof.Gen.ReferenceDckvIdeal.Read
public import proofs.«01_k».proof.Proof.Mix.Dckv.Final

@[expose] public section

set_option maxRecDepth 16384

noncomputable section

namespace Cert.MixDckv

open Idealize.ShloMosaic Idealize.ShloMosaic.TcCoe Idealize.SL.Sem

theorem frame_k : Cert.quiescent_KernelDckv := fun m ρ _ => Cert.KernelDckv.Gen.frame m ρ
theorem frame_ki : Cert.quiescent_KernelDckvIdeal := fun m ρ _ => Cert.KernelDckvIdeal.Gen.frame m ρ
theorem frame_r : Cert.quiescent_ReferenceDckvIdeal := fun m ρ _ =>
  (θ_run Cert.ReferenceDckvIdeal.defs _ _).mono (fun r h => ⟨fun c => (h c).2, Idealize.ShloMosaic.sem_eq_zero_of_no_sems (by decide) r.2⟩)
    (Cert.ReferenceDckvIdeal.Value.run (F := Ideal) m ρ)
theorem preserves : Cert.preserves_KernelDckv_KernelDckvIdeal := trivial

/-- The call leaves the reference's gradient. -/
theorem algebraic : Cert.algebraic_KernelDckvIdeal_ReferenceDckvIdeal := by
  intro m g m' g' _ hagree
  refine ⟨_, Cert.KernelDckvIdeal.Value.run_blocks m g, ?_⟩
  refine (θ_run Cert.ReferenceDckvIdeal.defs _ _).mono (fun r h c => ?_) (Cert.ReferenceDckvIdeal.Value.run (F := Ideal) m' g')
  obtain ⟨_, a1, a2⟩ := hagree c
  refine ⟨(h c).1.trans ?_, (h c).2⟩
  rw [Cert.ReferenceDckvIdeal.Read.val_main_v6_eq, Cert.KernelDckvIdeal.Mix.final]
  refine funext fun i => ?_
  rw [Cert.ReferenceDckvIdeal.Read.val_main_v6_apply]
  unfold Cert.KernelDckvIdeal.Mix.G Cert.KernelDckvIdeal.Mix.aU Cert.KernelDckvIdeal.Mix.aW
  rw [← a1, ← a2]
  refine Finset.sum_congr rfl fun j _ => ?_
  rw [Cert.ReferenceDckvIdeal.Read.val_main_v1_apply, Cert.ReferenceDckvIdeal.Read.val_main_v3_apply]
  exact congrArg₂ (fun x y : EReal => x * y) (congrArg (m' _) (ValueIdx.eq_ix2 _)) (congrArg (m' _) (ValueIdx.eq_ix2 _))

end Cert.MixDckv

end
-- ==== Proof.Gate.Tile.lean ====
/- The gradient through the gated convolution: what the kernel's lines do to one column of a tile. -/
module

public import proofs.«01_k».proof.Proof.Gen.KernelGateIdeal.Frame
public import proofs.«01_k».proof.Proof.Ffn.Blocks

@[expose] public section

set_option maxRecDepth 16384

noncomputable section

namespace Cert.KernelGateIdeal.Gate

open Cert.KernelGateIdeal Cert.KernelGateIdeal.Gen Cert.Ffn Idealize.ShloMosaic Idealize.ShloMosaic.TcCoe Idealize.SL.Sem

/-- Entry `r` of column `s` of an extended tile. -/
def ent (x : S528x512.Idx → EReal) (s : Fin 512) (r : ℕ) : EReal := x (ix2 (Fin.ofNat 528 r) s)

theorem ent_at (x : S528x512.Idx → EReal) (s : Fin 512) (r : ℕ) (k : Fin 528) (h : k.val = r) : x (ix2 k s) = ent x s r := by
  subst h
  unfold ent
  exact congrArg (fun k => x (ix2 k s)) (Fin.ext (Nat.mod_eq_of_lt k.isLt).symm)

/-- One rotation brings the entry before, the other the entry after. -/
theorem down_apply (x : S528x512.Idx → EReal) (s : Fin 512) (r : ℕ) (h : r + 1 < 528) :
    ent (k0_pay21 (F := Ideal) x) s (r + 1) = ent x s r := by
  unfold k0_pay21
  conv_lhs => unfold ent
  pointwise []
  refine ent_at _ _ _ _ ?_
  show ((r + 1) % 528 + 528 - 1) % 528 = r
  omega

theorem up_apply (x : S528x512.Idx → EReal) (s : Fin 512) (r : ℕ) (h : r + 1 < 528) :
    ent (k0_pay22 (F := Ideal) x) s r = ent x s (r + 1) := by
  unfold k0_pay22
  conv_lhs => unfold ent
  pointwise []
  refine ent_at _ _ _ _ ?_
  show (r % 528 + 528 - 527) % 528 = r + 1
  omega

/-- The rows before a tile, the tile, the rows after it. -/
def three (p : Fin 8 → EReal) (x : Fin 512 → EReal) (n : Fin 8 → EReal) (r : ℕ) : EReal :=
  if r < 8 then p (Fin.ofNat 8 r) else if r < 520 then x (Fin.ofNat 512 (r - 8)) else n (Fin.ofNat 8 (r - 520))

theorem cat_apply (p : S8x512.Idx → EReal) (x : S512x512.Idx → EReal) (n : S8x512.Idx → EReal) (s : Fin 512) (r : ℕ) (h : r < 528) :
    ent (concatenate S528x512 0 [⟨S8x512, p⟩, ⟨S512x512, x⟩, ⟨S8x512, n⟩] concatenates_S8x512_S512x512_S8x512_S528x512_d0) s r
      = three (fun k => p (ix2 k s)) (fun k => x (ix2 k s)) (fun k => n (ix2 k s)) r := by
  have e : (Fin.ofNat 528 r).val = r := Nat.mod_eq_of_lt h
  unfold ent three
  pointwise []
  repeat' split
  all_goals first
    | omega
    | (refine congrArg p (congrArg (fun k => ix2 k s) (Fin.ext ?_)); show (Fin.ofNat 528 r).val = r % 8; omega)
    | (refine congrArg x (congrArg (fun k => ix2 k s) (Fin.ext ?_)); show (Fin.ofNat 528 r).val - 8 = (r - 8) % 512; omega)
    | (refine congrArg n (congrArg (fun k => ix2 k s) (Fin.ext ?_)); show (Fin.ofNat 528 r).val - 8 - 512 = (r - 520) % 8; omega)

/-- The same, with zeros before the first tile and after the last. -/
def edge (k : ℕ) (p : Fin 8 → EReal) (x : Fin 512 → EReal) (n : Fin 8 → EReal) : ℕ → EReal :=
  three (fun j => if 0 < k then p j else 0) x (fun j => if k < 15 then n j else 0)

theorem first_word : ∀ k : Fin 16, Scalar.cmpi .sgt (BitVec.ofNat 32 k.val) 0#32 = if 0 < k.val then 1#1 else 0#1 := by decide
theorem last_word : ∀ k : Fin 16, Scalar.cmpi .slt (Scalar.muli (Scalar.addi (BitVec.ofNat 32 k.val) 1#32) 512#32) 8192#32 = if k.val < 15 then 1#1 else 0#1 := by decide

theorem pick_apply (P : Prop) [Decidable P] (a b : S8x512.Idx → EReal) (j : Fin 8) (s : Fin 512) :
    Scalar.select (if P then 1#1 else 0#1) a b (ix2 j s) = if P then a (ix2 j s) else b (ix2 j s) := by
  by_cases h : P
  · simp [h, Scalar.select]
  · simp [h, Scalar.select]

theorem pay27_apply (k : Fin 16) (p : S8x512.Idx → EReal) (x : S512x512.Idx → EReal) (n : S8x512.Idx → EReal) (s : Fin 512) (r : ℕ) (h : r < 528) :
    ent (k0_pay27 (F := Ideal) (BitVec.ofNat 32 k.val) p x n) s r = edge k.val (fun j => p (ix2 j s)) (fun j => x (ix2 j s)) (fun j => n (ix2 j s)) r := by
  unfold k0_pay27 edge
  dsimp only
  refine (cat_apply _ _ _ s r h).trans ?_
  rw [first_word, last_word]
  simp only [pick_apply]
  have z : ∀ j : Fin 8, broadcast S8x512 (Scalar.ofBits (F := Ideal) .f32 0x00000000#32) (ix2 j s) = (0 : EReal) := fun _ => Ideal.ofBits_zero_f32
  simp only [z]

theorem pay15_apply (i : grid0.Coords) (p : S1x8x512.Idx → EReal) (x : S1x512x512.Idx → EReal) (n : S1x8x512.Idx → EReal) (s : Fin 512) (r : ℕ) (h : r < 528) :
    ent (k0_pay15 (F := Ideal) i p x n) s r = edge (i 1).val (fun j => p (ix3 0 j s)) (fun j => x (ix3 0 j s)) (fun j => n (ix3 0 j s)) r := by
  have e : k0_pay15 (F := Ideal) i p x n = k0_pay27 (F := Ideal) (BitVec.ofNat 32 (i 1).val) (shapeCast S8x512 p shapeCasts_S1x8x512_S8x512)
    (shapeCast S512x512 x shapeCasts_S1x512x512_S512x512) (shapeCast S8x512 n shapeCasts_S1x8x512_S8x512) := rfl
  rw [e]
  refine (pay27_apply (i 1) _ _ _ s r h).trans ?_
  have e1 : ∀ y : S1x8x512.Idx → EReal, (fun j : Fin 8 => shapeCast S8x512 y shapeCasts_S1x8x512_S8x512 (ix2 j s)) = fun j => y (ix3 0 j s) := fun y => funext fun j => by pointwise []
  have e2 : (fun j : Fin 512 => shapeCast S512x512 x shapeCasts_S1x512x512_S512x512 (ix2 j s)) = fun j => x (ix3 0 j s) := funext fun j => by pointwise []
  rw [e1, e1, e2]

/-- The convolution's three taps, and its bias, at a place of a column. -/
def conv (w : Fin 3 → EReal) (b : EReal) (f : ℕ → EReal) (q : ℕ) : EReal := b + (w 0 * f (q - 1) + w 1 * f q + w 2 * f (q + 1))

theorem conv_apply (x : S528x512.Idx → EReal) (w : S1x3x512.Idx → EReal) (b : S1x1x512.Idx → EReal) (s : Fin 512) (r : ℕ) (h1 : 1 ≤ r) (h : r < 527) :
    ent (k0_pay25 (F := Ideal) x w b) s r = conv (fun t => w (ix3 0 t s)) (b (ix3 0 0 s)) (ent x s) r := by
  obtain ⟨k, rfl⟩ : ∃ k, r = k + 1 := ⟨r - 1, by omega⟩
  have e : ent (k0_pay25 (F := Ideal) x w b) s (k + 1) = b (ix3 0 0 s) + (w (ix3 0 0 s) * ent (k0_pay21 (F := Ideal) x) s (k + 1)
      + w (ix3 0 1 s) * ent x s (k + 1) + w (ix3 0 2 s) * ent (k0_pay22 (F := Ideal) x) s (k + 1)) := by
    unfold k0_pay25 ent
    pointwise []
  rw [e, down_apply x s k (by omega), up_apply x s (k + 1) (by omega)]
  rfl

/-- The gradient of the gate, and of the value, at a place of a column. -/
def gateGrad (g v a : EReal) : EReal := a * v * (Ideal.logistic g * (1 + g * (1 - Ideal.logistic g)))
def valGrad (g a : EReal) : EReal := a * (g * Ideal.logistic g)

theorem one_word : Ideal.ofBits .f32 0x3F800000#32 = (1 : EReal) := by
  simp [Ideal.ofBits, Ideal.ieee, -EReal.coe_mul]; norm_num

theorem pay29_apply (a : BitVec 32) (g v : S528x512.Idx → EReal) (p : S8x512.Idx → EReal) (x : S512x512.Idx → EReal) (n : S8x512.Idx → EReal) (s : Fin 512) (r : ℕ) :
    ent (k0_pay29 (F := Ideal) a g v p x n) s r = gateGrad (ent g s r) (ent v s r) (ent (k0_pay27 (F := Ideal) a p x n) s r) := by
  unfold k0_pay29 k0_pay28 gateGrad
  generalize k0_pay27 (F := Ideal) a p x n = d
  rw [← one_word]
  unfold ent
  pointwise []

theorem pay30_apply (a : BitVec 32) (g : S528x512.Idx → EReal) (p : S8x512.Idx → EReal) (x : S512x512.Idx → EReal) (n : S8x512.Idx → EReal) (s : Fin 512) (r : ℕ) :
    ent (k0_pay30 (F := Ideal) a g p x n) s r = valGrad (ent g s r) (ent (k0_pay27 (F := Ideal) a p x n) s r) := by
  unfold k0_pay30 k0_pay28 valGrad
  generalize k0_pay27 (F := Ideal) a p x n = d
  unfold ent
  pointwise []

/-- The gradient of the convolution's input: the taps turned round. -/
theorem du_apply (d : S528x512.Idx → EReal) (w : S1x3x512.Idx → EReal) (r s : Fin 512) :
    k0_pay46 (F := Ideal) d w (ix2 r s) = w (ix3 0 0 s) * ent d s (r.val + 9) + w (ix3 0 1 s) * ent d s (r.val + 8) + w (ix3 0 2 s) * ent d s (r.val + 7) := by
  unfold k0_pay46
  pointwise []
  rw [ent_at d s (r.val + 9) _ (by show (8 + r.val + 528 - 527) % 528 = _; omega), ent_at d s (r.val + 8) _ (by show 8 + r.val = _; omega),
    ent_at d s (r.val + 7) _ (by show (8 + r.val + 528 - 1) % 528 = _; omega)]

/-- The sums over a tile's own rows. -/
theorem sum_apply (x d : S528x512.Idx → EReal) (s : Fin 512) :
    k0_pay3 (F := Ideal) x d (ix2 0 s) = ∑ r : Fin 512, ent d s (r.val + 8) * ent x s (r.val + 8) := by
  unfold k0_pay3 k0_pay2
  pointwise []
  refine Finset.sum_congr rfl fun r _ => ?_
  rw [ent_at d s (r.val + 8) _ (by show 8 + r.val = _; omega), ent_at x s (r.val + 8) _ (by show 8 + r.val = _; omega)]

theorem bias_apply (d : S528x512.Idx → EReal) (s : Fin 512) :
    k0_pay6 (F := Ideal) d (ix2 0 s) = ∑ r : Fin 512, ent d s (r.val + 8) := by
  unfold k0_pay6 k0_pay2
  pointwise []
  exact Finset.sum_congr rfl fun r _ => ent_at d s (r.val + 8) _ (by show 8 + r.val = _; omega)

end Cert.KernelGateIdeal.Gate

end
-- ==== Proof.Gate.Cols.lean ====
/- The gradient through the gated convolution: the columns one grid point works on. -/
module

public import proofs.«01_k».proof.Proof.Gate.Tile

@[expose] public section

set_option maxRecDepth 16384

noncomputable section

namespace Cert.KernelGateIdeal.Gate

open Cert.KernelGateIdeal Cert.KernelGateIdeal.Gen Cert.Ffn Idealize.ShloMosaic Idealize.ShloMosaic.TcCoe Idealize.SL.Sem

/-! ## The halves of a block -/

def half8 (h : Fin 2) (x : S2x8x512.Idx → EReal) : S1x8x512.Idx → EReal := fun y => x (ix3 h (y 1) (y 2))
def half512 (h : Fin 2) (x : S2x512x512.Idx → EReal) : S1x512x512.Idx → EReal := fun y => x (ix3 h (y 1) (y 2))
def half3 (h : Fin 2) (x : S2x3x512.Idx → EReal) : S1x3x512.Idx → EReal := fun y => x (ix3 h (y 1) (y 2))
def half1 (h : Fin 2) (x : S2x1x512.Idx → EReal) : S1x1x512.Idx → EReal := fun y => x (ix3 h (y 1) (y 2))
/-- One tap of one half. -/
def tapOf (h : Fin 2) (t : Fin 3) (x : S2x3x512.Idx → EReal) : S1x1x512.Idx → EReal := fun y => x (ix3 h t (y 2))

theorem ld_at {S : Shape} (x : Vec Ideal S .f32) (off size : Fin S.rank → ℕ) (inb) (y : (Rect.unit off size inb).shape.Idx) (i : S.Idx)
    (h : ∀ a, (i a : ℕ) = off a + y a) : View.ld x (Rect.unit off size inb) y = x i :=
  congrArg x (funext fun a => Fin.ext (by show off a + 1 * (y a : ℕ) = i a; rw [h]; omega))

theorem ld_half8_0 (x : Vec Ideal S2x8x512 .f32) (inb) : View.ld x (Rect.unit (s := S2x8x512) ![0, 0, 0] S1x8x512.size inb) = half8 0 x :=
  funext fun y => ld_at x ![0, 0, 0] _ inb y (ix3 0 (y 1) (y 2)) fun a => by
    match a with
    | ⟨0, _⟩ => have h : (y 0).val < 1 := (y 0).isLt; show 0 = 0 + (y 0).val; omega
    | ⟨1, _⟩ => show (y 1).val = 0 + (y 1).val; omega
    | ⟨2, _⟩ => show (y 2).val = 0 + (y 2).val; omega
theorem ld_half8_1 (x : Vec Ideal S2x8x512 .f32) (inb) : View.ld x (Rect.unit (s := S2x8x512) ![1, 0, 0] S1x8x512.size inb) = half8 1 x :=
  funext fun y => ld_at x ![1, 0, 0] _ inb y (ix3 1 (y 1) (y 2)) fun a => by
    match a with
    | ⟨0, _⟩ => have h : (y 0).val < 1 := (y 0).isLt; show 1 = 1 + (y 0).val; omega
    | ⟨1, _⟩ => show (y 1).val = 0 + (y 1).val; omega
    | ⟨2, _⟩ => show (y 2).val = 0 + (y 2).val; omega
theorem ld_half512_0 (x : Vec Ideal S2x512x512 .f32) (inb) : View.ld x (Rect.unit (s := S2x512x512) ![0, 0, 0] S1x512x512.size inb) = half512 0 x :=
  funext fun y => ld_at x ![0, 0, 0] _ inb y (ix3 0 (y 1) (y 2)) fun a => by
    match a with
    | ⟨0, _⟩ => have h : (y 0).val < 1 := (y 0).isLt; show 0 = 0 + (y 0).val; omega
    | ⟨1, _⟩ => show (y 1).val = 0 + (y 1).val; omega
    | ⟨2, _⟩ => show (y 2).val = 0 + (y 2).val; omega
theorem ld_half512_1 (x : Vec Ideal S2x512x512 .f32) (inb) : View.ld x (Rect.unit (s := S2x512x512) ![1, 0, 0] S1x512x512.size inb) = half512 1 x :=
  funext fun y => ld_at x ![1, 0, 0] _ inb y (ix3 1 (y 1) (y 2)) fun a => by
    match a with
    | ⟨0, _⟩ => have h : (y 0).val < 1 := (y 0).isLt; show 1 = 1 + (y 0).val; omega
    | ⟨1, _⟩ => show (y 1).val = 0 + (y 1).val; omega
    | ⟨2, _⟩ => show (y 2).val = 0 + (y 2).val; omega
theorem ld_half3_0 (x : Vec Ideal S2x3x512 .f32) (inb) : View.ld x (Rect.unit (s := S2x3x512) ![0, 0, 0] S1x3x512.size inb) = half3 0 x :=
  funext fun y => ld_at x ![0, 0, 0] _ inb y (ix3 0 (y 1) (y 2)) fun a => by
    match a with
    | ⟨0, _⟩ => have h : (y 0).val < 1 := (y 0).isLt; show 0 = 0 + (y 0).val; omega
    | ⟨1, _⟩ => show (y 1).val = 0 + (y 1).val; omega
    | ⟨2, _⟩ => show (y 2).val = 0 + (y 2).val; omega
theorem ld_half3_1 (x : Vec Ideal S2x3x512 .f32) (inb) : View.ld x (Rect.unit (s := S2x3x512) ![1, 0, 0] S1x3x512.size inb) = half3 1 x :=
  funext fun y => ld_at x ![1, 0, 0] _ inb y (ix3 1 (y 1) (y 2)) fun a => by
    match a with
    | ⟨0, _⟩ => have h : (y 0).val < 1 := (y 0).isLt; show 1 = 1 + (y 0).val; omega
    | ⟨1, _⟩ => show (y 1).val = 0 + (y 1).val; omega
    | ⟨2, _⟩ => show (y 2).val = 0 + (y 2).val; omega
theorem ld_half1_0 (x : Vec Ideal S2x1x512 .f32) (inb) : View.ld x (Rect.unit (s := S2x1x512) ![0, 0, 0] S1x1x512.size inb) = half1 0 x :=
  funext fun y => ld_at x ![0, 0, 0] _ inb y (ix3 0 (y 1) (y 2)) fun a => by
    match a with
    | ⟨0, _⟩ => have h : (y 0).val < 1 := (y 0).isLt; show 0 = 0 + (y 0).val; omega
    | ⟨1, _⟩ => show (y 1).val = 0 + (y 1).val; omega
    | ⟨2, _⟩ => show (y 2).val = 0 + (y 2).val; omega
theorem ld_half1_1 (x : Vec Ideal S2x1x512 .f32) (inb) : View.ld x (Rect.unit (s := S2x1x512) ![1, 0, 0] S1x1x512.size inb) = half1 1 x :=
  funext fun y => ld_at x ![1, 0, 0] _ inb y (ix3 1 (y 1) (y 2)) fun a => by
    match a with
    | ⟨0, _⟩ => have h : (y 0).val < 1 := (y 0).isLt; show 1 = 1 + (y 0).val; omega
    | ⟨1, _⟩ => show (y 1).val = 0 + (y 1).val; omega
    | ⟨2, _⟩ => show (y 2).val = 0 + (y 2).val; omega

theorem ld_tap (x : Vec Ideal S2x3x512 .f32) (h : Fin 2) (t : Fin 3) (off : Fin 3 → ℕ) (e : off = ![h.val, t.val, 0]) (inb) :
    View.ld x (Rect.unit (s := S2x3x512) off S1x1x512.size inb) = tapOf h t x := by
  subst e
  exact funext fun y => ld_at x ![h.val, t.val, 0] _ inb y (ix3 h t (y 2)) fun a => by
    match a with
    | ⟨0, _⟩ => have h0 : (y 0).val < 1 := (y 0).isLt; show h.val = h.val + (y 0).val; omega
    | ⟨1, _⟩ => have h0 : (y 1).val < 1 := (y 1).isLt; show t.val = t.val + (y 1).val; omega
    | ⟨2, _⟩ => show (y 2).val = 0 + (y 2).val; omega

/-! ## The columns of a point -/

section
variable (i : grid0.Coords) (x0 : Vec Ideal S2x512x512 .f32) (x1 x2 : Vec Ideal S2x8x512 .f32) (x3 : Vec Ideal S512x512 .f32) (x4 x5 : Vec Ideal S8x512 .f32)
  (x6 : Vec Ideal S2x3x512 .f32) (x7 : Vec Ideal S2x1x512 .f32) (h : Fin 2) (s : Fin 512)

/-- The input of the convolution, the cotangent, the convolution, and its gradient, along the rows of a tile and of its neighbours. -/
def colU : ℕ → EReal := edge (i 1).val (fun j => x1 (ix3 h j s)) (fun j => x0 (ix3 h j s)) (fun j => x2 (ix3 h j s))
def colA : ℕ → EReal := edge (i 1).val (fun j => x4 (ix2 j s)) (fun j => x3 (ix2 j s)) (fun j => x5 (ix2 j s))
def colC : ℕ → EReal := conv (fun t => x6 (ix3 h t s)) (x7 (ix3 h 0 s)) (colU i x0 x1 x2 h s)
def colD (r : ℕ) : EReal :=
  if h = 0 then gateGrad (colC i x0 x1 x2 x6 x7 0 s r) (colC i x0 x1 x2 x6 x7 1 s r) (colA i x3 x4 x5 s r)
  else valGrad (colC i x0 x1 x2 x6 x7 0 s r) (colA i x3 x4 x5 s r)

/-- What a point writes: the gradient of the input, and its rows' parts of the gradients of the taps and of the bias. -/
def duOf (p : Fin 512) : EReal :=
  x6 (ix3 h 0 s) * colD i x0 x1 x2 x3 x4 x5 x6 x7 h s (p.val + 9) + x6 (ix3 h 1 s) * colD i x0 x1 x2 x3 x4 x5 x6 x7 h s (p.val + 8)
    + x6 (ix3 h 2 s) * colD i x0 x1 x2 x3 x4 x5 x6 x7 h s (p.val + 7)
def dwOf (t : Fin 3) : EReal := ∑ p : Fin 512, colD i x0 x1 x2 x3 x4 x5 x6 x7 h s (p.val + 8) * colU i x0 x1 x2 h s (p.val + 7 + t.val)
def dbOf : EReal := ∑ p : Fin 512, colD i x0 x1 x2 x3 x4 x5 x6 x7 h s (p.val + 8)

/-- The tiles the kernel holds these columns in. -/
def tile : S528x512.Idx → EReal := k0_pay15 (F := Ideal) i (half8 h x1) (half512 h x0) (half8 h x2)
def grad0 : S528x512.Idx → EReal :=
  k0_pay29 (F := Ideal) (BitVec.ofNat 32 (i 1).val) (k0_pay25 (F := Ideal) (tile i x0 x1 x2 0) (half3 0 x6) (half1 0 x7)) (k0_pay25 (F := Ideal) (tile i x0 x1 x2 1) (half3 1 x6) (half1 1 x7)) x4 x3 x5
def grad1 : S528x512.Idx → EReal :=
  k0_pay30 (F := Ideal) (BitVec.ofNat 32 (i 1).val) (k0_pay25 (F := Ideal) (tile i x0 x1 x2 0) (half3 0 x6) (half1 0 x7)) x4 x3 x5

theorem tile_apply (r : ℕ) (hr : r < 528) : ent (tile i x0 x1 x2 h) s r = colU i x0 x1 x2 h s r := pay15_apply i _ _ _ s r hr

theorem conv_tile (r : ℕ) (h1 : 1 ≤ r) (hr : r < 527) :
    ent (k0_pay25 (F := Ideal) (tile i x0 x1 x2 h) (half3 h x6) (half1 h x7)) s r = colC i x0 x1 x2 x6 x7 h s r := by
  rw [conv_apply _ _ _ s r h1 hr]
  unfold colC conv
  rw [tile_apply i x0 x1 x2 h s (r - 1) (by omega), tile_apply i x0 x1 x2 h s r (by omega), tile_apply i x0 x1 x2 h s (r + 1) (by omega)]
  rfl

theorem grad0_apply (r : ℕ) (h1 : 1 ≤ r) (hr : r < 527) : ent (grad0 i x0 x1 x2 x3 x4 x5 x6 x7) s r = colD i x0 x1 x2 x3 x4 x5 x6 x7 0 s r := by
  unfold grad0 colD
  rw [pay29_apply, conv_tile i x0 x1 x2 x6 x7 0 s r h1 hr, conv_tile i x0 x1 x2 x6 x7 1 s r h1 hr, pay27_apply (i 1) _ _ _ s r (by omega), if_pos rfl]
  rfl

theorem grad1_apply (r : ℕ) (h1 : 1 ≤ r) (hr : r < 527) : ent (grad1 i x0 x1 x2 x3 x4 x5 x6 x7) s r = colD i x0 x1 x2 x3 x4 x5 x6 x7 1 s r := by
  unfold grad1 colD
  rw [pay30_apply, conv_tile i x0 x1 x2 x6 x7 0 s r h1 hr, pay27_apply (i 1) _ _ _ s r (by omega), if_neg (by decide)]
  rfl

/-- The gradient's tile, of either half. -/
def grad : S528x512.Idx → EReal := if h = 0 then grad0 i x0 x1 x2 x3 x4 x5 x6 x7 else grad1 i x0 x1 x2 x3 x4 x5 x6 x7

theorem grad_apply (r : ℕ) (h1 : 1 ≤ r) (hr : r < 527) : ent (grad i x0 x1 x2 x3 x4 x5 x6 x7 h) s r = colD i x0 x1 x2 x3 x4 x5 x6 x7 h s r := by
  unfold grad
  match h with
  | 0 => exact grad0_apply i x0 x1 x2 x3 x4 x5 x6 x7 s r h1 hr
  | 1 => exact grad1_apply i x0 x1 x2 x3 x4 x5 x6 x7 s r h1 hr

theorem du_eq (p : Fin 512) : k0_pay46 (F := Ideal) (grad i x0 x1 x2 x3 x4 x5 x6 x7 h) (half3 h x6) (ix2 p s) = duOf i x0 x1 x2 x3 x4 x5 x6 x7 h s p := by
  rw [du_apply]
  unfold duOf
  rw [grad_apply i x0 x1 x2 x3 x4 x5 x6 x7 h s (p.val + 9) (by omega) (by omega), grad_apply i x0 x1 x2 x3 x4 x5 x6 x7 h s (p.val + 8) (by omega) (by omega),
    grad_apply i x0 x1 x2 x3 x4 x5 x6 x7 h s (p.val + 7) (by omega) (by omega)]
  rfl

/-- The tile a tap's sum is taken against. -/
def shifted (t : Fin 3) (x : S528x512.Idx → EReal) : S528x512.Idx → EReal :=
  match t with
  | 0 => k0_pay21 (F := Ideal) x
  | 1 => x
  | 2 => k0_pay22 (F := Ideal) x

theorem shifted_apply (t : Fin 3) (x : S528x512.Idx → EReal) (p : Fin 512) : ent (shifted t x) s (p.val + 8) = ent x s (p.val + 7 + t.val) := by
  match t with
  | 0 => exact down_apply x s (p.val + 7) (by omega)
  | 1 => rfl
  | 2 => exact up_apply x s (p.val + 8) (by omega)

theorem dw_eq (t : Fin 3) :
    k0_pay3 (F := Ideal) (shifted t (tile i x0 x1 x2 h)) (grad i x0 x1 x2 x3 x4 x5 x6 x7 h) (ix2 0 s) = dwOf i x0 x1 x2 x3 x4 x5 x6 x7 h s t := by
  rw [sum_apply]
  unfold dwOf
  refine Finset.sum_congr rfl fun p _ => ?_
  rw [grad_apply i x0 x1 x2 x3 x4 x5 x6 x7 h s (p.val + 8) (by omega) (by omega), shifted_apply, tile_apply i x0 x1 x2 h s _ (by omega)]

theorem db_eq : k0_pay6 (F := Ideal) (grad i x0 x1 x2 x3 x4 x5 x6 x7 h) (ix2 0 s) = dbOf i x0 x1 x2 x3 x4 x5 x6 x7 h s := by
  rw [bias_apply]
  exact Finset.sum_congr rfl fun p _ => grad_apply i x0 x1 x2 x3 x4 x5 x6 x7 h s (p.val + 8) (by omega) (by omega)

end

theorem cast_rows (x : S512x512.Idx → EReal) (p s : Fin 512) : k0_pay1 (F := Ideal) x (ix3 0 p s) = x (ix2 p s) := by
  unfold k0_pay1; pointwise []
theorem first_tap (x d : S528x512.Idx → EReal) (s : Fin 512) : k0_pay7 (F := Ideal) x d (ix3 0 0 s) = k0_pay3 (F := Ideal) x d (ix2 0 s) := by
  unfold k0_pay7; pointwise []
theorem next_tap (x d : S528x512.Idx → EReal) (z : S1x1x512.Idx → EReal) (s : Fin 512) :
    k0_pay11 (F := Ideal) x d z (ix3 0 0 s) = z (ix3 0 0 s) + k0_pay3 (F := Ideal) x d (ix2 0 s) := by
  unfold k0_pay11; pointwise []
theorem first_bias (d : S528x512.Idx → EReal) (s : Fin 512) : k0_pay10 (F := Ideal) d (ix3 0 0 s) = k0_pay6 (F := Ideal) d (ix2 0 s) := by
  unfold k0_pay10; pointwise []
theorem next_bias (d : S528x512.Idx → EReal) (z : S1x1x512.Idx → EReal) (s : Fin 512) :
    k0_pay14 (F := Ideal) d z (ix3 0 0 s) = z (ix3 0 0 s) + k0_pay6 (F := Ideal) d (ix2 0 s) := by
  unfold k0_pay14; pointwise []

end Cert.KernelGateIdeal.Gate

end
-- ==== Proof.Gate.Point.lean ====
/- The gradient through the gated convolution: what one grid point leaves in its three output blocks. -/
module

public import proofs.«01_k».proof.Proof.Gate.Cols

@[expose] public section

set_option maxRecDepth 16384

noncomputable section

namespace Cert.KernelGateIdeal.Gate

open Cert.KernelGateIdeal Cert.KernelGateIdeal.Gen Cert.Ffn Idealize.ShloMosaic Idealize.ShloMosaic.TcCoe Idealize.SL.Sem

/-! ## Blocks written piece by piece, read back -/

theorem read_rows {κ : Kind} {sp : Space} (V : View sig κ sp S2x512x512 .bf16) (f) (i0 i1) (w : Fin 2 → S1x512x512.Idx → EReal) (h : Fin 2) (p s : Fin 512) :
    V.read (Elt Ideal) (V.writes (Elt Ideal) f [⟨Rect.unit (s := S2x512x512) ![1, 0, 0] S1x512x512.size i1, w 1⟩, ⟨Rect.unit (s := S2x512x512) ![0, 0, 0] S1x512x512.size i0, w 0⟩]) (ix3 h p s)
      = w h (ix3 0 p s) := by
  match h with
  | 1 => exact View.read_writes_cons_unit_of_mem V f i1 (w 1) _ _ (ix3 0 p s) rfl (by intro a; fin_cases a <;> simp)
  | 0 =>
    refine (View.read_writes_cons_unit_of_not_mem V f i1 (w 1) _ _ rfl 0 (Or.inl (by show 0 < 1; omega))).trans ?_
    exact View.read_writes_cons_unit_of_mem V f i0 (w 0) _ _ (ix3 0 p s) rfl (by intro a; fin_cases a <;> simp)

theorem read_bias {κ : Kind} {sp : Space} (V : View sig κ sp S2x1x512 .f32) (f) (i0 i1) (w : Fin 2 → S1x1x512.Idx → EReal) (h : Fin 2) (s : Fin 512) :
    V.read (Elt Ideal) (V.writes (Elt Ideal) f [⟨Rect.unit (s := S2x1x512) ![1, 0, 0] S1x1x512.size i1, w 1⟩, ⟨Rect.unit (s := S2x1x512) ![0, 0, 0] S1x1x512.size i0, w 0⟩]) (ix3 h 0 s)
      = w h (ix3 0 0 s) := by
  match h with
  | 1 => exact View.read_writes_cons_unit_of_mem V f i1 (w 1) _ _ (ix3 0 0 s) rfl (by intro a; fin_cases a <;> simp)
  | 0 =>
    refine (View.read_writes_cons_unit_of_not_mem V f i1 (w 1) _ _ rfl 0 (Or.inl (by show 0 < 1; omega))).trans ?_
    exact View.read_writes_cons_unit_of_mem V f i0 (w 0) _ _ (ix3 0 0 s) rfl (by intro a; fin_cases a <;> simp)

/-- A tap's piece, read where it lies, and passed by elsewhere. -/
theorem read_hit {κ : Kind} {sp : Space} (V : View sig κ sp S2x3x512 .f32) (f) (h : Fin 2) (t : Fin 3) (off : Fin 3 → ℕ) (e : off = ![h.val, t.val, 0]) (inb) (w : S1x1x512.Idx → EReal) (L) (s : Fin 512) :
    V.read (Elt Ideal) (V.writes (Elt Ideal) f (⟨Rect.unit (s := S2x3x512) off S1x1x512.size inb, w⟩ :: L)) (ix3 h t s) = w (ix3 0 0 s) :=
  View.read_writes_cons_unit_of_mem V f inb w L _ (ix3 0 0 s) e (by intro a; fin_cases a <;> simp)
theorem read_miss {κ : Kind} {sp : Space} (V : View sig κ sp S2x3x512 .f32) (f) (h h' : Fin 2) (t t' : Fin 3) (n : ¬(h = h' ∧ t = t')) (off : Fin 3 → ℕ) (e : off = ![h'.val, t'.val, 0]) (inb) (w : S1x1x512.Idx → EReal) (L) (s : Fin 512) :
    V.read (Elt Ideal) (V.writes (Elt Ideal) f (⟨Rect.unit (s := S2x3x512) off S1x1x512.size inb, w⟩ :: L)) (ix3 h t s) = V.read (Elt Ideal) (V.writes (Elt Ideal) f L) (ix3 h t s) := by
  by_cases hh : h = h'
  · exact View.read_writes_cons_unit_of_not_mem V f inb w L _ e 1 (by
      show t.val < t'.val ∨ t'.val + 1 ≤ t.val
      have : t.val ≠ t'.val := fun q => n ⟨hh, Fin.ext q⟩
      omega)
  · exact View.read_writes_cons_unit_of_not_mem V f inb w L _ e 0 (by
      show h.val < h'.val ∨ h'.val + 1 ≤ h.val
      have : h.val ≠ h'.val := fun q => hh (Fin.ext q)
      omega)

theorem read_taps {κ : Kind} {sp : Space} (V : View sig κ sp S2x3x512 .f32) (f) (i00 i01 i02 i10 i11 i12) (w : Fin 2 → Fin 3 → S1x1x512.Idx → EReal) (h : Fin 2) (t : Fin 3) (s : Fin 512) :
    V.read (Elt Ideal) (V.writes (Elt Ideal) f
      [⟨Rect.unit (s := S2x3x512) ![1, 2, 0] S1x1x512.size i12, w 1 2⟩, ⟨Rect.unit (s := S2x3x512) ![1, 1, 0] S1x1x512.size i11, w 1 1⟩, ⟨Rect.unit (s := S2x3x512) ![1, 0, 0] S1x1x512.size i10, w 1 0⟩,
        ⟨Rect.unit (s := S2x3x512) ![0, 2, 0] S1x1x512.size i02, w 0 2⟩, ⟨Rect.unit (s := S2x3x512) ![0, 1, 0] S1x1x512.size i01, w 0 1⟩, ⟨Rect.unit (s := S2x3x512) ![0, 0, 0] S1x1x512.size i00, w 0 0⟩]) (ix3 h t s)
      = w h t (ix3 0 0 s) := by
  match h, t with
  | 1, 2 => exact read_hit V f 1 2 _ rfl _ _ _ s
  | 1, 1 => exact (read_miss V f 1 1 1 2 (by decide) _ rfl _ _ _ s).trans (read_hit V f 1 1 _ rfl _ _ _ s)
  | 1, 0 => exact ((read_miss V f 1 1 0 2 (by decide) _ rfl _ _ _ s).trans ((read_miss V f 1 1 0 1 (by decide) _ rfl _ _ _ s).trans (read_hit V f 1 0 _ rfl _ _ _ s)))
  | 0, 2 => exact ((read_miss V f 0 1 2 2 (by decide) _ rfl _ _ _ s).trans ((read_miss V f 0 1 2 1 (by decide) _ rfl _ _ _ s).trans ((read_miss V f 0 1 2 0 (by decide) _ rfl _ _ _ s).trans (read_hit V f 0 2 _ rfl _ _ _ s))))
  | 0, 1 => exact ((read_miss V f 0 1 1 2 (by decide) _ rfl _ _ _ s).trans ((read_miss V f 0 1 1 1 (by decide) _ rfl _ _ _ s).trans ((read_miss V f 0 1 1 0 (by decide) _ rfl _ _ _ s).trans ((read_miss V f 0 0 1 2 (by decide) _ rfl _ _ _ s).trans (read_hit V f 0 1 _ rfl _ _ _ s)))))
  | 0, 0 => exact ((read_miss V f 0 1 0 2 (by decide) _ rfl _ _ _ s).trans ((read_miss V f 0 1 0 1 (by decide) _ rfl _ _ _ s).trans ((read_miss V f 0 1 0 0 (by decide) _ rfl _ _ _ s).trans ((read_miss V f 0 0 0 2 (by decide) _ rfl _ _ _ s).trans ((read_miss V f 0 0 0 1 (by decide) _ rfl _ _ _ s).trans (read_hit V f 0 0 _ rfl _ _ _ s))))))

/-! ## Lines that are the same for both halves -/

theorem pay20_eq (i : grid0.Coords) (a : S1x8x512.Idx → EReal) (x : S1x512x512.Idx → EReal) (b : S1x8x512.Idx → EReal) :
    k0_pay20 (F := Ideal) (k0_pay16 (F := Ideal) x) (k0_pay17 (F := Ideal) b) (k0_pay18 (F := Ideal) i a)
      (Scalar.cmpi .slt (Scalar.muli (Scalar.addi (BitVec.ofNat 32 (i 1).val) 1#32) 512#32) 8192#32) (k0_pay19 (F := Ideal)) = k0_pay15 (F := Ideal) i a x b := rfl
theorem pay31_eq (a : BitVec 32) (g v : S528x512.Idx → EReal) (p : S8x512.Idx → EReal) (x : S512x512.Idx → EReal) (n : S8x512.Idx → EReal) (w : S1x3x512.Idx → EReal) :
    k0_pay31 (F := Ideal) a g v p x n w = k0_pay46 (F := Ideal) (k0_pay29 (F := Ideal) a g v p x n) w := rfl
theorem pay32_eq : k0_pay32 (F := Ideal) = k0_pay1 (F := Ideal) := rfl
theorem pay8_eq : k0_pay8 (F := Ideal) = k0_pay7 (F := Ideal) := rfl
theorem pay9_eq : k0_pay9 (F := Ideal) = k0_pay7 (F := Ideal) := rfl
theorem pay38_eq : k0_pay38 (F := Ideal) = k0_pay7 (F := Ideal) := rfl
theorem pay39_eq : k0_pay39 (F := Ideal) = k0_pay7 (F := Ideal) := rfl
theorem pay40_eq : k0_pay40 (F := Ideal) = k0_pay7 (F := Ideal) := rfl
theorem pay41_eq : k0_pay41 (F := Ideal) = k0_pay10 (F := Ideal) := rfl
theorem pay12_eq : k0_pay12 (F := Ideal) = k0_pay11 (F := Ideal) := rfl
theorem pay13_eq : k0_pay13 (F := Ideal) = k0_pay11 (F := Ideal) := rfl
theorem pay42_eq : k0_pay42 (F := Ideal) = k0_pay11 (F := Ideal) := rfl
theorem pay43_eq : k0_pay43 (F := Ideal) = k0_pay11 (F := Ideal) := rfl
theorem pay44_eq : k0_pay44 (F := Ideal) = k0_pay11 (F := Ideal) := rfl
theorem pay45_eq : k0_pay45 (F := Ideal) = k0_pay14 (F := Ideal) := rfl

/-! ## The three blocks -/

section
variable (c : Dev nD) (i : grid0.Coords) (arg2 : Memref sig .tc .vmem S2x512x512 .f32) (harg2 : arg2.IsWhole)  (arg3 : Memref sig .tc .vmem S2x8x512 .f32) (harg3 : arg3.IsWhole)
   (arg4 : Memref sig .tc .vmem S2x8x512 .f32) (harg4 : arg4.IsWhole)  (arg5 : Memref sig .tc .vmem S512x512 .f32) (harg5 : arg5.IsWhole)
   (arg6 : Memref sig .tc .vmem S8x512 .f32) (harg6 : arg6.IsWhole)  (arg7 : Memref sig .tc .vmem S8x512 .f32) (harg7 : arg7.IsWhole)
   (arg8 : Memref sig .tc .vmem S2x3x512 .f32) (harg8 : arg8.IsWhole)  (arg9 : Memref sig .tc .vmem S2x1x512 .f32) (harg9 : arg9.IsWhole)
   (arg10 : Memref sig .tc .vmem S2x512x512 .bf16) (harg10 : arg10.IsWhole)  (arg11 : Memref sig .tc .vmem S2x3x512 .f32) (harg11 : arg11.IsWhole)
   (arg12 : Memref sig .tc .vmem S2x1x512 .f32) (harg12 : arg12.IsWhole)
  (x0 : Vec Ideal S2x512x512 .f32) (x1 x2 : Vec Ideal S2x8x512 .f32) (x3 : Vec Ideal S512x512 .f32) (x4 x5 : Vec Ideal S8x512 .f32)
  (x6 : Vec Ideal S2x3x512 .f32) (x7 : Vec Ideal S2x1x512 .f32) (xo9 : Vec Ideal S2x3x512 .f32) (xo10 : Vec Ideal S2x1x512 .f32) (h : Fin 2) (s : Fin 512)

theorem r_A : kernelRun0_A.sl.r (F := Ideal) c i arg2 harg2 arg3 harg3 arg4 harg4 x0 x1 x2 = tile i x0 x1 x2 0 := by
  unfold kernelRun0_A.sl.r
  simp only [View.readAt_eq_ld, harg2.read_unread, harg3.read_unread, harg4.read_unread]
  rw [ld_half8_0, ld_half512_0, ld_half8_0]
  rfl
theorem r_1_A : kernelRun0_A.sl.r_1 (F := Ideal) c arg2 harg2 x0 = k0_pay16 (F := Ideal) (half512 1 x0) := by
  unfold kernelRun0_A.sl.r_1
  rw [View.readAt_eq_ld, harg2.read_unread, ld_half512_1]
theorem r_2_A : kernelRun0_A.sl.r_2 (F := Ideal) c arg4 harg4 x2 = k0_pay17 (F := Ideal) (half8 1 x2) := by
  unfold kernelRun0_A.sl.r_2
  rw [View.readAt_eq_ld, harg4.read_unread, ld_half8_1]
theorem r_3_A : kernelRun0_A.sl.r_3 (F := Ideal) c i arg3 harg3 x1 = k0_pay18 (F := Ideal) i (half8 1 x1) := by
  unfold kernelRun0_A.sl.r_3
  rw [View.readAt_eq_ld, harg3.read_unread, ld_half8_1]
theorem r_4_A : kernelRun0_A.sl.r_4 (F := Ideal) c i arg2 harg2 arg3 harg3 arg4 harg4 x0 x1 x2 = tile i x0 x1 x2 1 := by
  unfold kernelRun0_A.sl.r_4
  rw [r_1_A, r_2_A, r_3_A, show kernelRun0_A.sl.v26 i = Scalar.cmpi .slt (Scalar.muli (Scalar.addi (BitVec.ofNat 32 (i 1).val) 1#32) 512#32) 8192#32 from rfl]
  exact pay20_eq i _ _ _
theorem r_5_A : kernelRun0_A.sl.r_5 (F := Ideal) c i arg2 harg2 arg3 harg3 arg4 harg4 x0 x1 x2 = shifted 0 (tile i x0 x1 x2 0) := by
  unfold kernelRun0_A.sl.r_5
  rw [r_A]
  rfl
theorem r_6_A : kernelRun0_A.sl.r_6 (F := Ideal) c i arg2 harg2 arg3 harg3 arg4 harg4 x0 x1 x2 = shifted 2 (tile i x0 x1 x2 0) := by
  unfold kernelRun0_A.sl.r_6
  rw [r_A]
  rfl
theorem r_7_A : kernelRun0_A.sl.r_7 (F := Ideal) c i arg2 harg2 arg3 harg3 arg4 harg4 x0 x1 x2 = shifted 0 (tile i x0 x1 x2 1) := by
  unfold kernelRun0_A.sl.r_7
  rw [r_1_A, r_2_A, r_3_A, show kernelRun0_A.sl.v26 i = Scalar.cmpi .slt (Scalar.muli (Scalar.addi (BitVec.ofNat 32 (i 1).val) 1#32) 512#32) 8192#32 from rfl]
  exact congrArg (k0_pay21 (F := Ideal)) (pay20_eq i _ _ _)
theorem r_8_A : kernelRun0_A.sl.r_8 (F := Ideal) c i arg2 harg2 arg3 harg3 arg4 harg4 x0 x1 x2 = shifted 2 (tile i x0 x1 x2 1) := by
  unfold kernelRun0_A.sl.r_8
  rw [r_1_A, r_2_A, r_3_A, show kernelRun0_A.sl.v26 i = Scalar.cmpi .slt (Scalar.muli (Scalar.addi (BitVec.ofNat 32 (i 1).val) 1#32) 512#32) 8192#32 from rfl]
  exact congrArg (k0_pay22 (F := Ideal)) (pay20_eq i _ _ _)
theorem r_9_A : kernelRun0_A.sl.r_9 (F := Ideal) c i arg2 harg2 arg3 harg3 arg4 harg4 arg8 harg8 arg9 harg9 x0 x1 x2 x6 x7 = k0_pay25 (F := Ideal) (tile i x0 x1 x2 0) (half3 0 x6) (half1 0 x7) := by
  unfold kernelRun0_A.sl.r_9
  rw [r_A]; simp only [View.readAt_eq_ld, harg8.read_unread, harg9.read_unread]
  rw [ld_half3_0, ld_half1_0]
theorem r_10_A : kernelRun0_A.sl.r_10 (F := Ideal) c i arg2 harg2 arg3 harg3 arg4 harg4 arg8 harg8 arg9 harg9 x0 x1 x2 x6 x7 = k0_pay25 (F := Ideal) (tile i x0 x1 x2 1) (half3 1 x6) (half1 1 x7) := by
  unfold kernelRun0_A.sl.r_10
  rw [r_1_A, r_2_A, r_3_A, show kernelRun0_A.sl.v26 i = Scalar.cmpi .slt (Scalar.muli (Scalar.addi (BitVec.ofNat 32 (i 1).val) 1#32) 512#32) 8192#32 from rfl]; simp only [View.readAt_eq_ld, harg8.read_unread, harg9.read_unread]
  rw [ld_half3_1, ld_half1_1]
  exact congrArg (fun z => k0_pay25 (F := Ideal) z (half3 1 x6) (half1 1 x7)) (pay20_eq i _ _ _)
theorem r_11_A : kernelRun0_A.sl.r_11 (F := Ideal) c arg6 harg6 x4 = x4 := by
  unfold kernelRun0_A.sl.r_11
  rw [View.readAt_eq_ld, harg6.read_unread, View.ld_unit_zero (S := S8x512) zero2]
theorem r_12_A : kernelRun0_A.sl.r_12 (F := Ideal) c i arg2 harg2 arg3 harg3 arg4 harg4 arg5 harg5 arg6 harg6 arg7 harg7 arg8 harg8 arg9 harg9 x0 x1 x2 x3 x4 x5 x6 x7 = grad i x0 x1 x2 x3 x4 x5 x6 x7 0 := by
  unfold kernelRun0_A.sl.r_12
  rw [r_9_A, r_10_A, r_11_A]; simp only [View.readAt_eq_ld, harg5.read_unread, harg7.read_unread]
  rw [View.ld_unit_zero (S := S512x512) zero2, View.ld_unit_zero (S := S8x512) zero2]
  rfl
theorem r_13_A : kernelRun0_A.sl.r_13 (F := Ideal) c i arg2 harg2 arg3 harg3 arg4 harg4 arg5 harg5 arg6 harg6 arg7 harg7 arg8 harg8 arg9 harg9 x0 x1 x2 x3 x4 x5 x6 x7 = grad i x0 x1 x2 x3 x4 x5 x6 x7 1 := by
  unfold kernelRun0_A.sl.r_13
  rw [r_9_A, r_11_A]; simp only [View.readAt_eq_ld, harg5.read_unread, harg7.read_unread]
  rw [View.ld_unit_zero (S := S512x512) zero2, View.ld_unit_zero (S := S8x512) zero2]
  rfl
theorem r_14_A : kernelRun0_A.sl.r_14 (F := Ideal) c i arg2 harg2 arg3 harg3 arg4 harg4 arg5 harg5 arg6 harg6 arg7 harg7 arg8 harg8 arg9 harg9 x0 x1 x2 x3 x4 x5 x6 x7 = k0_pay46 (F := Ideal) (grad i x0 x1 x2 x3 x4 x5 x6 x7 0) (half3 0 x6) := by
  unfold kernelRun0_A.sl.r_14
  rw [pay31_eq, r_9_A, r_10_A, r_11_A]; simp only [View.readAt_eq_ld, harg5.read_unread, harg7.read_unread, harg8.read_unread]
  rw [View.ld_unit_zero (S := S512x512) zero2, View.ld_unit_zero (S := S8x512) zero2, ld_half3_0]
  rfl
theorem r_15_A : kernelRun0_A.sl.r_15 (F := Ideal) c i arg2 harg2 arg3 harg3 arg4 harg4 arg5 harg5 arg6 harg6 arg7 harg7 arg8 harg8 arg9 harg9 x0 x1 x2 x3 x4 x5 x6 x7 = k0_pay46 (F := Ideal) (grad i x0 x1 x2 x3 x4 x5 x6 x7 1) (half3 1 x6) := by
  unfold kernelRun0_A.sl.r_15
  rw [r_13_A, View.readAt_eq_ld, harg8.read_unread, ld_half3_1]

theorem du_first (c0 c1 c2 c3) (p : Fin 512) :
    out0_A_8 (F := Ideal) c i arg2 harg2 arg3 harg3 arg4 harg4 arg5 harg5 arg6 harg6 arg7 harg7 arg8 harg8 arg9 harg9 arg10 harg10 arg11 harg11 arg12 harg12 c0 c1 c2 c3 x0 x1 x2 x3 x4 x5 x6 x7 (ix3 h p s) = duOf i x0 x1 x2 x3 x4 x5 x6 x7 h s p := by
  unfold out0_A_8 kernelRun0_A
  dsimp only
  rw [r_14_A, r_15_A, pay32_eq]
  refine (read_rows _ _ _ _ (fun h => k0_pay1 (F := Ideal) (k0_pay46 (F := Ideal) (grad i x0 x1 x2 x3 x4 x5 x6 x7 h) (half3 h x6))) h p s).trans ?_
  exact (cast_rows _ _ _).trans (du_eq i x0 x1 x2 x3 x4 x5 x6 x7 h s p)

theorem dw_first (c0 c1 c2 c3) (t : Fin 3) :
    out0_A_9 (F := Ideal) c i arg2 harg2 arg3 harg3 arg4 harg4 arg5 harg5 arg6 harg6 arg7 harg7 arg8 harg8 arg9 harg9 arg10 harg10 arg11 harg11 arg12 harg12 c0 c1 c2 c3 x0 x1 x2 x3 x4 x5 x6 x7 (ix3 h t s) = dwOf i x0 x1 x2 x3 x4 x5 x6 x7 h s t := by
  unfold out0_A_9 kernelRun0_A
  dsimp only
  rw [r_4_A, r_5_A, r_6_A, r_7_A, r_8_A, r_12_A, r_13_A, r_A, pay38_eq, pay39_eq, pay40_eq, pay8_eq, pay9_eq]
  refine (read_taps _ _ _ _ _ _ _ _ (fun h t => k0_pay7 (F := Ideal) (shifted t (tile i x0 x1 x2 h)) (grad i x0 x1 x2 x3 x4 x5 x6 x7 h)) h t s).trans ?_
  refine (first_tap _ _ s).trans ?_
  rw [dw_eq]

theorem db_first (c0 c1 c2 c3) :
    out0_A_10 (F := Ideal) c i arg2 harg2 arg3 harg3 arg4 harg4 arg5 harg5 arg6 harg6 arg7 harg7 arg8 harg8 arg9 harg9 arg10 harg10 arg11 harg11 arg12 harg12 c0 c1 c2 c3 x0 x1 x2 x3 x4 x5 x6 x7 (ix3 h 0 s) = dbOf i x0 x1 x2 x3 x4 x5 x6 x7 h s := by
  unfold out0_A_10 kernelRun0_A
  dsimp only
  rw [r_12_A, r_13_A, pay41_eq]
  refine (read_bias _ _ _ _ (fun h => k0_pay10 (F := Ideal) (grad i x0 x1 x2 x3 x4 x5 x6 x7 h)) h s).trans ?_
  refine (first_bias _ s).trans ?_
  rw [db_eq]

theorem r_B : kernelRun0_B.sl.r (F := Ideal) c i arg2 harg2 arg3 harg3 arg4 harg4 x0 x1 x2 = tile i x0 x1 x2 0 := by
  unfold kernelRun0_B.sl.r
  simp only [View.readAt_eq_ld, harg2.read_unread, harg3.read_unread, harg4.read_unread]
  rw [ld_half8_0, ld_half512_0, ld_half8_0]
  rfl
theorem r_1_B : kernelRun0_B.sl.r_1 (F := Ideal) c arg2 harg2 x0 = k0_pay16 (F := Ideal) (half512 1 x0) := by
  unfold kernelRun0_B.sl.r_1
  rw [View.readAt_eq_ld, harg2.read_unread, ld_half512_1]
theorem r_2_B : kernelRun0_B.sl.r_2 (F := Ideal) c arg4 harg4 x2 = k0_pay17 (F := Ideal) (half8 1 x2) := by
  unfold kernelRun0_B.sl.r_2
  rw [View.readAt_eq_ld, harg4.read_unread, ld_half8_1]
theorem r_3_B : kernelRun0_B.sl.r_3 (F := Ideal) c i arg3 harg3 x1 = k0_pay18 (F := Ideal) i (half8 1 x1) := by
  unfold kernelRun0_B.sl.r_3
  rw [View.readAt_eq_ld, harg3.read_unread, ld_half8_1]
theorem r_4_B : kernelRun0_B.sl.r_4 (F := Ideal) c i arg2 harg2 arg3 harg3 arg4 harg4 x0 x1 x2 = tile i x0 x1 x2 1 := by
  unfold kernelRun0_B.sl.r_4
  rw [r_1_B, r_2_B, r_3_B, show kernelRun0_B.sl.v26 i = Scalar.cmpi .slt (Scalar.muli (Scalar.addi (BitVec.ofNat 32 (i 1).val) 1#32) 512#32) 8192#32 from rfl]
  exact pay20_eq i _ _ _
theorem r_5_B : kernelRun0_B.sl.r_5 (F := Ideal) c i arg2 harg2 arg3 harg3 arg4 harg4 x0 x1 x2 = shifted 0 (tile i x0 x1 x2 0) := by
  unfold kernelRun0_B.sl.r_5
  rw [r_B]
  rfl
theorem r_6_B : kernelRun0_B.sl.r_6 (F := Ideal) c i arg2 harg2 arg3 harg3 arg4 harg4 x0 x1 x2 = shifted 2 (tile i x0 x1 x2 0) := by
  unfold kernelRun0_B.sl.r_6
  rw [r_B]
  rfl
theorem r_7_B : kernelRun0_B.sl.r_7 (F := Ideal) c i arg2 harg2 arg3 harg3 arg4 harg4 x0 x1 x2 = shifted 0 (tile i x0 x1 x2 1) := by
  unfold kernelRun0_B.sl.r_7
  rw [r_1_B, r_2_B, r_3_B, show kernelRun0_B.sl.v26 i = Scalar.cmpi .slt (Scalar.muli (Scalar.addi (BitVec.ofNat 32 (i 1).val) 1#32) 512#32) 8192#32 from rfl]
  exact congrArg (k0_pay21 (F := Ideal)) (pay20_eq i _ _ _)
theorem r_8_B : kernelRun0_B.sl.r_8 (F := Ideal) c i arg2 harg2 arg3 harg3 arg4 harg4 x0 x1 x2 = shifted 2 (tile i x0 x1 x2 1) := by
  unfold kernelRun0_B.sl.r_8
  rw [r_1_B, r_2_B, r_3_B, show kernelRun0_B.sl.v26 i = Scalar.cmpi .slt (Scalar.muli (Scalar.addi (BitVec.ofNat 32 (i 1).val) 1#32) 512#32) 8192#32 from rfl]
  exact congrArg (k0_pay22 (F := Ideal)) (pay20_eq i _ _ _)
theorem r_9_B : kernelRun0_B.sl.r_9 (F := Ideal) c i arg2 harg2 arg3 harg3 arg4 harg4 arg8 harg8 arg9 harg9 x0 x1 x2 x6 x7 = k0_pay25 (F := Ideal) (tile i x0 x1 x2 0) (half3 0 x6) (half1 0 x7) := by
  unfold kernelRun0_B.sl.r_9
  rw [r_B]; simp only [View.readAt_eq_ld, harg8.read_unread, harg9.read_unread]
  rw [ld_half3_0, ld_half1_0]
theorem r_10_B : kernelRun0_B.sl.r_10 (F := Ideal) c i arg2 harg2 arg3 harg3 arg4 harg4 arg8 harg8 arg9 harg9 x0 x1 x2 x6 x7 = k0_pay25 (F := Ideal) (tile i x0 x1 x2 1) (half3 1 x6) (half1 1 x7) := by
  unfold kernelRun0_B.sl.r_10
  rw [r_1_B, r_2_B, r_3_B, show kernelRun0_B.sl.v26 i = Scalar.cmpi .slt (Scalar.muli (Scalar.addi (BitVec.ofNat 32 (i 1).val) 1#32) 512#32) 8192#32 from rfl]; simp only [View.readAt_eq_ld, harg8.read_unread, harg9.read_unread]
  rw [ld_half3_1, ld_half1_1]
  exact congrArg (fun z => k0_pay25 (F := Ideal) z (half3 1 x6) (half1 1 x7)) (pay20_eq i _ _ _)
theorem r_11_B : kernelRun0_B.sl.r_11 (F := Ideal) c arg6 harg6 x4 = x4 := by
  unfold kernelRun0_B.sl.r_11
  rw [View.readAt_eq_ld, harg6.read_unread, View.ld_unit_zero (S := S8x512) zero2]
theorem r_12_B : kernelRun0_B.sl.r_12 (F := Ideal) c i arg2 harg2 arg3 harg3 arg4 harg4 arg5 harg5 arg6 harg6 arg7 harg7 arg8 harg8 arg9 harg9 x0 x1 x2 x3 x4 x5 x6 x7 = grad i x0 x1 x2 x3 x4 x5 x6 x7 0 := by
  unfold kernelRun0_B.sl.r_12
  rw [r_9_B, r_10_B, r_11_B]; simp only [View.readAt_eq_ld, harg5.read_unread, harg7.read_unread]
  rw [View.ld_unit_zero (S := S512x512) zero2, View.ld_unit_zero (S := S8x512) zero2]
  rfl
theorem r_13_B : kernelRun0_B.sl.r_13 (F := Ideal) c i arg2 harg2 arg3 harg3 arg4 harg4 arg5 harg5 arg6 harg6 arg7 harg7 arg8 harg8 arg9 harg9 x0 x1 x2 x3 x4 x5 x6 x7 = grad i x0 x1 x2 x3 x4 x5 x6 x7 1 := by
  unfold kernelRun0_B.sl.r_13
  rw [r_9_B, r_11_B]; simp only [View.readAt_eq_ld, harg5.read_unread, harg7.read_unread]
  rw [View.ld_unit_zero (S := S512x512) zero2, View.ld_unit_zero (S := S8x512) zero2]
  rfl
theorem r_14_B : kernelRun0_B.sl.r_14 (F := Ideal) c i arg2 harg2 arg3 harg3 arg4 harg4 arg5 harg5 arg6 harg6 arg7 harg7 arg8 harg8 arg9 harg9 x0 x1 x2 x3 x4 x5 x6 x7 = k0_pay46 (F := Ideal) (grad i x0 x1 x2 x3 x4 x5 x6 x7 0) (half3 0 x6) := by
  unfold kernelRun0_B.sl.r_14
  rw [pay31_eq, r_9_B, r_10_B, r_11_B]; simp only [View.readAt_eq_ld, harg5.read_unread, harg7.read_unread, harg8.read_unread]
  rw [View.ld_unit_zero (S := S512x512) zero2, View.ld_unit_zero (S := S8x512) zero2, ld_half3_0]
  rfl
theorem r_15_B : kernelRun0_B.sl.r_15 (F := Ideal) c i arg2 harg2 arg3 harg3 arg4 harg4 arg5 harg5 arg6 harg6 arg7 harg7 arg8 harg8 arg9 harg9 x0 x1 x2 x3 x4 x5 x6 x7 = k0_pay46 (F := Ideal) (grad i x0 x1 x2 x3 x4 x5 x6 x7 1) (half3 1 x6) := by
  unfold kernelRun0_B.sl.r_15
  rw [r_13_B, View.readAt_eq_ld, harg8.read_unread, ld_half3_1]
theorem v173_B : kernelRun0_B.sl.v173 (F := Ideal) c arg11 harg11 xo9 = tapOf 1 0 xo9 := by
  unfold kernelRun0_B.sl.v173
  rw [View.readAt_eq_ld, harg11.read_unread]
  exact ld_tap xo9 1 0 _ rfl _
theorem v179_B : kernelRun0_B.sl.v179 (F := Ideal) c arg11 harg11 xo9 = tapOf 0 1 xo9 := by
  unfold kernelRun0_B.sl.v179
  rw [View.readAt_eq_ld, harg11.read_unread]
  exact ld_tap xo9 0 1 _ rfl _
theorem v185_B : kernelRun0_B.sl.v185 (F := Ideal) c arg11 harg11 xo9 = tapOf 0 2 xo9 := by
  unfold kernelRun0_B.sl.v185
  rw [View.readAt_eq_ld, harg11.read_unread]
  exact ld_tap xo9 0 2 _ rfl _
theorem v179_1_B : kernelRun0_B.sl.v179_1 (F := Ideal) c arg11 harg11 xo9 = tapOf 1 1 xo9 := by
  unfold kernelRun0_B.sl.v179_1
  rw [View.readAt_eq_ld, harg11.read_unread]
  exact ld_tap xo9 1 1 _ rfl _
theorem v185_1_B : kernelRun0_B.sl.v185_1 (F := Ideal) c arg11 harg11 xo9 = tapOf 1 2 xo9 := by
  unfold kernelRun0_B.sl.v185_1
  rw [View.readAt_eq_ld, harg11.read_unread]
  exact ld_tap xo9 1 2 _ rfl _
theorem v191_B : kernelRun0_B.sl.v191 (F := Ideal) c arg12 harg12 xo10 = half1 1 xo10 := by
  unfold kernelRun0_B.sl.v191
  rw [View.readAt_eq_ld, harg12.read_unread]
  exact ld_half1_1 _ _

theorem du_next (c0 c1 c2 c3) (p : Fin 512) :
    out0_B_8 (F := Ideal) c i arg2 harg2 arg3 harg3 arg4 harg4 arg5 harg5 arg6 harg6 arg7 harg7 arg8 harg8 arg9 harg9 arg10 harg10 arg11 harg11 arg12 harg12 c0 c1 c2 c3 x0 x1 x2 x3 x4 x5 x6 x7 xo9 xo10 (ix3 h p s) = duOf i x0 x1 x2 x3 x4 x5 x6 x7 h s p := by
  unfold out0_B_8 kernelRun0_B
  dsimp only
  rw [r_14_B, r_15_B, pay32_eq]
  refine (read_rows _ _ _ _ (fun h => k0_pay1 (F := Ideal) (k0_pay46 (F := Ideal) (grad i x0 x1 x2 x3 x4 x5 x6 x7 h) (half3 h x6))) h p s).trans ?_
  exact (cast_rows _ _ _).trans (du_eq i x0 x1 x2 x3 x4 x5 x6 x7 h s p)

theorem dw_next (c0 c1 c2 c3) (t : Fin 3) :
    out0_B_9 (F := Ideal) c i arg2 harg2 arg3 harg3 arg4 harg4 arg5 harg5 arg6 harg6 arg7 harg7 arg8 harg8 arg9 harg9 arg10 harg10 arg11 harg11 arg12 harg12 c0 c1 c2 c3 x0 x1 x2 x3 x4 x5 x6 x7 xo9 xo10 (ix3 h t s) = xo9 (ix3 h t s) + dwOf i x0 x1 x2 x3 x4 x5 x6 x7 h s t := by
  unfold out0_B_9 kernelRun0_B
  dsimp only
  rw [r_4_B, r_5_B, r_6_B, r_7_B, r_8_B, r_12_B, r_13_B, r_B, v173_B, v179_B, v185_B, v179_1_B, v185_1_B, pay42_eq, pay43_eq, pay44_eq, pay12_eq, pay13_eq]
  rw [View.readAt_eq_ld, harg11.read_unread, show ∀ inb, View.ld xo9 (Rect.unit (s := S2x3x512) ![0, 0, 0] ![1, 1, 512] inb) = tapOf 0 0 xo9 from fun inb => ld_tap xo9 0 0 _ rfl inb]
  refine (read_taps _ _ _ _ _ _ _ _ (fun h t => k0_pay11 (F := Ideal) (shifted t (tile i x0 x1 x2 h)) (grad i x0 x1 x2 x3 x4 x5 x6 x7 h) (tapOf h t xo9)) h t s).trans ?_
  refine (next_tap _ _ _ s).trans ?_
  rw [dw_eq]
  rfl

theorem db_next (c0 c1 c2 c3) :
    out0_B_10 (F := Ideal) c i arg2 harg2 arg3 harg3 arg4 harg4 arg5 harg5 arg6 harg6 arg7 harg7 arg8 harg8 arg9 harg9 arg10 harg10 arg11 harg11 arg12 harg12 c0 c1 c2 c3 x0 x1 x2 x3 x4 x5 x6 x7 xo9 xo10 (ix3 h 0 s) = xo10 (ix3 h 0 s) + dbOf i x0 x1 x2 x3 x4 x5 x6 x7 h s := by
  unfold out0_B_10 kernelRun0_B
  dsimp only
  rw [r_12_B, r_13_B, v191_B, pay45_eq]
  rw [View.readAt_eq_ld, harg12.read_unread, ld_half1_0]
  refine (read_bias _ _ _ _ (fun h => k0_pay14 (F := Ideal) (grad i x0 x1 x2 x3 x4 x5 x6 x7 h) (half1 h xo10)) h s).trans ?_
  refine (next_bias _ _ s).trans ?_
  rw [db_eq]
  rfl

end

end Cert.KernelGateIdeal.Gate

end
-- ==== Proof.Gate.Math.lean ====
/- The gradient through the gated convolution, at one row and one channel: rows outside the array count as zeros. -/
module

public import proofs.«01_k».proof.Proof.Gate.Tile

@[expose] public section

set_option maxRecDepth 16384

noncomputable section

namespace Cert.Gate

open Cert.KernelGateIdeal Cert.KernelGateIdeal.Gate Idealize.ShloMosaic

/-- A column of rows with eight rows of zeros before it, and zeros after it. -/
def pad (f : Fin 8192 → EReal) (q : ℕ) : EReal := if 8 ≤ q ∧ q < 8200 then f (Fin.ofNat 8192 (q - 8)) else 0

theorem pad_row (f : Fin 8192 → EReal) (n : Fin 8192) : pad f (n.val + 8) = f n := by
  unfold pad
  rw [if_pos (by omega)]
  exact congrArg f (Fin.ext (by show (n.val + 8 - 8) % 8192 = n.val; omega))

theorem edge_pad (k : ℕ) (hk : k < 16) (f : Fin 8192 → EReal) (p : Fin 8 → EReal) (x : Fin 512 → EReal) (n : Fin 8 → EReal)
    (hp : 0 < k → ∀ j, p j = f (Fin.ofNat 8192 (512 * k - 8 + j.val))) (hx : ∀ j, x j = f (Fin.ofNat 8192 (512 * k + j.val)))
    (hn : k < 15 → ∀ j, n j = f (Fin.ofNat 8192 (512 * k + 512 + j.val))) (r : ℕ) (hr : r < 528) : edge k p x n r = pad f (512 * k + r) := by
  unfold edge three pad
  by_cases h1 : r < 8
  · rw [if_pos h1]
    beta_reduce
    by_cases h2 : 0 < k
    · rw [if_pos h2, if_pos (by omega), hp h2]
      exact congrArg f (Fin.ext (by show (512 * k - 8 + r % 8) % 8192 = (512 * k + r - 8) % 8192; omega))
    · rw [if_neg h2, if_neg (by omega)]
  · rw [if_neg h1]
    by_cases h2 : r < 520
    · rw [if_pos h2, if_pos (by omega), hx]
      exact congrArg f (Fin.ext (by show (512 * k + (r - 8) % 512) % 8192 = (512 * k + r - 8) % 8192; omega))
    · rw [if_neg h2]
      beta_reduce
      by_cases h3 : k < 15
      · rw [if_pos h3, if_pos (by omega), hn h3]
        exact congrArg f (Fin.ext (by show (512 * k + 512 + (r - 520) % 8) % 8192 = (512 * k + r - 8) % 8192; omega))
      · rw [if_neg h3, if_neg (by omega)]

/-- Channel `s` of half `h`. -/
def chan (h : Fin 2) (s : Fin 5632) : Fin 11264 := ⟨5632 * h.val + s.val, by omega⟩

section
variable (u : S8192x11264.Idx → EReal) (a : S8192x5632.Idx → EReal) (w : S3x11264.Idx → EReal) (b : S11264.Idx → EReal) (h : Fin 2) (s : Fin 5632)

/-- The input of the convolution, the cotangent, the convolution and its gradient, along the rows. -/
def rowU : ℕ → EReal := pad fun n => u (ix2 n (chan h s))
def rowA : ℕ → EReal := pad fun n => a (ix2 n s)
def tapW (t : Fin 3) : EReal := w (ix2 t (chan h s))
def rowC : ℕ → EReal := conv (tapW w h s) (b (ix1 (chan h s))) (rowU u h s)
def rowD (q : ℕ) : EReal :=
  if h = 0 then gateGrad (rowC u w b 0 s q) (rowC u w b 1 s q) (rowA a s q) else valGrad (rowC u w b 0 s q) (rowA a s q)

/-- The gradients of the input, of the taps and of the bias. -/
def gradU (n : Fin 8192) : EReal :=
  tapW w h s 0 * rowD u a w b h s (n.val + 9) + tapW w h s 1 * rowD u a w b h s (n.val + 8) + tapW w h s 2 * rowD u a w b h s (n.val + 7)
def gradW (t : Fin 3) : EReal := ∑ n : Fin 8192, rowD u a w b h s (n.val + 8) * rowU u h s (n.val + 7 + t.val)
def gradB : EReal := ∑ n : Fin 8192, rowD u a w b h s (n.val + 8)

end

end Cert.Gate

end
-- ==== Proof.Gate.Final.lean ====
/- The gradient through the gated convolution: the three arrays the call leaves. -/
module

public import proofs.«01_k».proof.Proof.Gen.KernelGateIdeal.Value
public import proofs.«01_k».proof.Proof.Gate.Point
public import proofs.«01_k».proof.Proof.Gate.Math

@[expose] public section

set_option maxRecDepth 16384

noncomputable section

namespace Cert.KernelGateIdeal.Gate

open Cert.KernelGateIdeal Cert.KernelGateIdeal.Gen Cert.Ffn Cert.Gate Idealize.ShloMosaic Idealize.ShloMosaic.TcCoe Idealize.SL.Sem
open Idealize.ShloMosaic.Pipeline (Dat Window)
open Finset (range)
open Facts

/-! Where a point's blocks lie: point `16 * j + k` holds rows block `k` of channels block `j`. -/

theorem coord1 : ∀ t : Fin cfg0.N, (grid0.coords t 1).val = t.val % 16 := (by decide +kernel : ∀ t : Fin grid0.N, _)
theorem at0 : ∀ t : Fin cfg0.N, win0_0.index t = ![0, t.val % 16, t.val / 16] := (by decide +kernel : ∀ t : Fin grid0.N, _)
theorem at1 : ∀ t : Fin cfg0.N, win0_1.index t = ![0, 64 * (t.val % 16) - 1, t.val / 16] := (by decide +kernel : ∀ t : Fin grid0.N, _)
theorem at2 : ∀ t : Fin cfg0.N, win0_2.index t = ![0, min (64 * (t.val % 16) + 64) 1023, t.val / 16] := (by decide +kernel : ∀ t : Fin grid0.N, _)
theorem at3 : ∀ t : Fin cfg0.N, win0_3.index t = ![t.val % 16, t.val / 16] := (by decide +kernel : ∀ t : Fin grid0.N, _)
theorem at4 : ∀ t : Fin cfg0.N, win0_4.index t = ![64 * (t.val % 16) - 1, t.val / 16] := (by decide +kernel : ∀ t : Fin grid0.N, _)
theorem at5 : ∀ t : Fin cfg0.N, win0_5.index t = ![min (64 * (t.val % 16) + 64) 1023, t.val / 16] := (by decide +kernel : ∀ t : Fin grid0.N, _)
theorem at6 : ∀ t : Fin cfg0.N, win0_6.index t = ![0, 0, t.val / 16] := (by decide +kernel : ∀ t : Fin grid0.N, _)
theorem at7 : ∀ t : Fin cfg0.N, win0_7.index t = ![0, 0, t.val / 16] := (by decide +kernel : ∀ t : Fin grid0.N, _)
theorem at8 : ∀ t : Fin cfg0.N, win0_8.index t = ![0, t.val % 16, t.val / 16] := (by decide +kernel : ∀ t : Fin grid0.N, _)
theorem at9 : ∀ t : Fin cfg0.N, win0_9.index t = ![0, 0, t.val / 16] := (by decide +kernel : ∀ t : Fin grid0.N, _)
theorem at10 : ∀ t : Fin cfg0.N, win0_10.index t = ![0, 0, t.val / 16] := (by decide +kernel : ∀ t : Fin grid0.N, _)

theorem lt_N (t : Fin cfg0.N) : t.val < 176 := t.isLt

/-- The row, or the channel, that lies `x` past the number `n`. -/
def row (n x : ℕ) : Fin 8192 := Fin.ofNat 8192 (n + x)
def col (n : ℕ) (s : Fin 512) : Fin 5632 := Fin.ofNat 5632 (512 * n + s.val)

variable (m : (ℓ : Loc nD τ sig) → Buf (Elt Ideal) ℓ) (c : Dev nD)

/-- The input of the convolution, the cotangent, the taps and the bias, as the call is launched with them. -/
abbrev aU : S8192x11264.Idx → EReal := m ((c : Thread nD τ).loc main_arg0)
abbrev aA : S8192x5632.Idx → EReal := m ((c : Thread nD τ).loc main_arg1)
abbrev aW : S3x11264.Idx → EReal := m ((c : Thread nD τ).loc main_arg2)
abbrev aB : S11264.Idx → EReal := m ((c : Thread nD τ).loc main_arg3)

/-! ## The host lines: the halves of the channels apart -/

theorem V_main_v1 : V m c main_v1 = transpose S2x8192x5632 [1, 0, 2] (shapeCast S8192x2x5632 (aU m c) shapeCasts_S8192x11264_S8192x2x5632) transposes_S8192x2x5632_S2x8192x5632_1_0_2 := by
  unfold_abbrev_sides
  after_results
  rfl
theorem V_main_v3 : V m c main_v3 = transpose S2x3x5632 [1, 0, 2] (shapeCast S3x2x5632 (aW m c) shapeCasts_S3x11264_S3x2x5632) transposes_S3x2x5632_S2x3x5632_1_0_2 := by
  unfold_abbrev_sides
  after_results
  rfl
theorem V_main_v4 : V m c main_v4 = shapeCast S2x1x5632 (aB m c) shapeCasts_S11264_S2x1x5632 := by
  unfold_abbrev_sides
  after_results
  rfl

theorem halves_apply (x : S8192x11264.Idx → EReal) (h : Fin 2) (n : Fin 8192) (s : Fin 5632) :
    transpose S2x8192x5632 [1, 0, 2] (shapeCast S8192x2x5632 x shapeCasts_S8192x11264_S8192x2x5632) transposes_S8192x2x5632_S2x8192x5632_1_0_2 (ix3 h n s) = x (ix2 n (chan h s)) := by
  pointwise []
  exact congrArg x (congrArg (ix2 n) (Fin.ext (by show h.val * 5632 + s.val = 5632 * h.val + s.val; omega)))
theorem taps_apply (x : S3x11264.Idx → EReal) (h : Fin 2) (t : Fin 3) (s : Fin 5632) :
    transpose S2x3x5632 [1, 0, 2] (shapeCast S3x2x5632 x shapeCasts_S3x11264_S3x2x5632) transposes_S3x2x5632_S2x3x5632_1_0_2 (ix3 h t s) = x (ix2 t (chan h s)) := by
  pointwise []
  exact congrArg x (congrArg (ix2 t) (Fin.ext (by show h.val * 5632 + s.val = 5632 * h.val + s.val; omega)))
theorem bias_host (x : S11264.Idx → EReal) (h : Fin 2) (s : Fin 5632) :
    shapeCast S2x1x5632 x shapeCasts_S11264_S2x1x5632 (ix3 h 0 s) = x (ix1 (chan h s)) := by
  pointwise []
  exact congrArg x (congrArg ix1 (Fin.ext (by show h.val * 5632 + s.val = 5632 * h.val + s.val; omega)))

/-! ## A point's blocks -/

theorem iblk0_apply (t : Fin cfg0.N) (h : Fin 2) (p : Fin 512) (s : Fin 512) :
    iblk m c 0 t (ix3 h p s) = aU m c (ix2 (row (512 * (t.val % 16)) p.val) (chan h (col (t.val / 16) s))) := by
  have ht := lt_N t
  have e : ((cfg0.win 0).blk t).view.emb (ix3 h p s) = (ix3 h (row (512 * (t.val % 16)) p.val) (col (t.val / 16) s) : S2x8192x5632.Idx) := by
    funext a
    apply Fin.ext
    match a with
    | ⟨0, _⟩ => show win0_0.index t 0 * 2 + 1 * h.val = h.val; rw [at0]; show 0 * 2 + 1 * h.val = _; omega
    | ⟨1, _⟩ => show win0_0.index t 1 * 512 + 1 * p.val = _ % 8192; rw [at0]; show t.val % 16 * 512 + 1 * p.val = (512 * (t.val % 16) + p.val) % 8192; omega
    | ⟨2, _⟩ => show win0_0.index t 2 * 512 + 1 * s.val = _ % 5632; rw [at0]; show t.val / 16 * 512 + 1 * s.val = (512 * (t.val / 16) + s.val) % 5632; omega
  unfold iblk
  rw [View.read_apply, e]
  show V m c main_v1 _ = _
  rw [V_main_v1, halves_apply]

theorem iblk1_apply (t : Fin cfg0.N) (h0 : 0 < t.val % 16) (h : Fin 2) (p : Fin 8) (s : Fin 512) :
    iblk m c 1 t (ix3 h p s) = aU m c (ix2 (row (512 * (t.val % 16) - 8) p.val) (chan h (col (t.val / 16) s))) := by
  have ht := lt_N t
  have e : ((cfg0.win 1).blk t).view.emb (ix3 h p s) = (ix3 h (row (512 * (t.val % 16) - 8) p.val) (col (t.val / 16) s) : S2x8192x5632.Idx) := by
    funext a
    apply Fin.ext
    match a with
    | ⟨0, _⟩ => show win0_1.index t 0 * 2 + 1 * h.val = h.val; rw [at1]; show 0 * 2 + 1 * h.val = _; omega
    | ⟨1, _⟩ => show win0_1.index t 1 * 8 + 1 * p.val = _ % 8192; rw [at1]; show (64 * (t.val % 16) - 1) * 8 + 1 * p.val = (512 * (t.val % 16) - 8 + p.val) % 8192; omega
    | ⟨2, _⟩ => show win0_1.index t 2 * 512 + 1 * s.val = _ % 5632; rw [at1]; show t.val / 16 * 512 + 1 * s.val = (512 * (t.val / 16) + s.val) % 5632; omega
  unfold iblk
  rw [View.read_apply, e]
  show V m c main_v1 _ = _
  rw [V_main_v1, halves_apply]

theorem iblk2_apply (t : Fin cfg0.N) (h0 : t.val % 16 < 15) (h : Fin 2) (p : Fin 8) (s : Fin 512) :
    iblk m c 2 t (ix3 h p s) = aU m c (ix2 (row (512 * (t.val % 16) + 512) p.val) (chan h (col (t.val / 16) s))) := by
  have ht := lt_N t
  have e : ((cfg0.win 2).blk t).view.emb (ix3 h p s) = (ix3 h (row (512 * (t.val % 16) + 512) p.val) (col (t.val / 16) s) : S2x8192x5632.Idx) := by
    funext a
    apply Fin.ext
    match a with
    | ⟨0, _⟩ => show win0_2.index t 0 * 2 + 1 * h.val = h.val; rw [at2]; show 0 * 2 + 1 * h.val = _; omega
    | ⟨1, _⟩ => show win0_2.index t 1 * 8 + 1 * p.val = _ % 8192; rw [at2]; show min (64 * (t.val % 16) + 64) 1023 * 8 + 1 * p.val = (512 * (t.val % 16) + 512 + p.val) % 8192; omega
    | ⟨2, _⟩ => show win0_2.index t 2 * 512 + 1 * s.val = _ % 5632; rw [at2]; show t.val / 16 * 512 + 1 * s.val = (512 * (t.val / 16) + s.val) % 5632; omega
  unfold iblk
  rw [View.read_apply, e]
  show V m c main_v1 _ = _
  rw [V_main_v1, halves_apply]

theorem iblk3_apply (t : Fin cfg0.N) (p : Fin 512) (s : Fin 512) :
    iblk m c 3 t (ix2 p s) = aA m c (ix2 (row (512 * (t.val % 16)) p.val) (col (t.val / 16) s)) := by
  have ht := lt_N t
  have e : ((cfg0.win 3).blk t).view.emb (ix2 p s) = (ix2 (row (512 * (t.val % 16)) p.val) (col (t.val / 16) s) : S8192x5632.Idx) := by
    funext a
    apply Fin.ext
    match a with
    | ⟨0, _⟩ => show win0_3.index t 0 * 512 + 1 * p.val = _ % 8192; rw [at3]; show t.val % 16 * 512 + 1 * p.val = (512 * (t.val % 16) + p.val) % 8192; omega
    | ⟨1, _⟩ => show win0_3.index t 1 * 512 + 1 * s.val = _ % 5632; rw [at3]; show t.val / 16 * 512 + 1 * s.val = (512 * (t.val / 16) + s.val) % 5632; omega
  unfold iblk
  rw [View.read_apply, e]
  show V m c main_arg1 _ = _
  rw [V_main_arg1]

theorem iblk4_apply (t : Fin cfg0.N) (h0 : 0 < t.val % 16) (p : Fin 8) (s : Fin 512) :
    iblk m c 4 t (ix2 p s) = aA m c (ix2 (row (512 * (t.val % 16) - 8) p.val) (col (t.val / 16) s)) := by
  have ht := lt_N t
  have e : ((cfg0.win 4).blk t).view.emb (ix2 p s) = (ix2 (row (512 * (t.val % 16) - 8) p.val) (col (t.val / 16) s) : S8192x5632.Idx) := by
    funext a
    apply Fin.ext
    match a with
    | ⟨0, _⟩ => show win0_4.index t 0 * 8 + 1 * p.val = _ % 8192; rw [at4]; show (64 * (t.val % 16) - 1) * 8 + 1 * p.val = (512 * (t.val % 16) - 8 + p.val) % 8192; omega
    | ⟨1, _⟩ => show win0_4.index t 1 * 512 + 1 * s.val = _ % 5632; rw [at4]; show t.val / 16 * 512 + 1 * s.val = (512 * (t.val / 16) + s.val) % 5632; omega
  unfold iblk
  rw [View.read_apply, e]
  show V m c main_arg1 _ = _
  rw [V_main_arg1]

theorem iblk5_apply (t : Fin cfg0.N) (h0 : t.val % 16 < 15) (p : Fin 8) (s : Fin 512) :
    iblk m c 5 t (ix2 p s) = aA m c (ix2 (row (512 * (t.val % 16) + 512) p.val) (col (t.val / 16) s)) := by
  have ht := lt_N t
  have e : ((cfg0.win 5).blk t).view.emb (ix2 p s) = (ix2 (row (512 * (t.val % 16) + 512) p.val) (col (t.val / 16) s) : S8192x5632.Idx) := by
    funext a
    apply Fin.ext
    match a with
    | ⟨0, _⟩ => show win0_5.index t 0 * 8 + 1 * p.val = _ % 8192; rw [at5]; show min (64 * (t.val % 16) + 64) 1023 * 8 + 1 * p.val = (512 * (t.val % 16) + 512 + p.val) % 8192; omega
    | ⟨1, _⟩ => show win0_5.index t 1 * 512 + 1 * s.val = _ % 5632; rw [at5]; show t.val / 16 * 512 + 1 * s.val = (512 * (t.val / 16) + s.val) % 5632; omega
  unfold iblk
  rw [View.read_apply, e]
  show V m c main_arg1 _ = _
  rw [V_main_arg1]

theorem iblk6_apply (t : Fin cfg0.N) (h : Fin 2) (p : Fin 3) (s : Fin 512) :
    iblk m c 6 t (ix3 h p s) = aW m c (ix2 p (chan h (col (t.val / 16) s))) := by
  have ht := lt_N t
  have e : ((cfg0.win 6).blk t).view.emb (ix3 h p s) = (ix3 h p (col (t.val / 16) s) : S2x3x5632.Idx) := by
    funext a
    apply Fin.ext
    match a with
    | ⟨0, _⟩ => show win0_6.index t 0 * 2 + 1 * h.val = h.val; rw [at6]; show 0 * 2 + 1 * h.val = _; omega
    | ⟨1, _⟩ => show win0_6.index t 1 * 3 + 1 * p.val = _; rw [at6]; show 0 * 3 + 1 * p.val = p.val; omega
    | ⟨2, _⟩ => show win0_6.index t 2 * 512 + 1 * s.val = _ % 5632; rw [at6]; show t.val / 16 * 512 + 1 * s.val = (512 * (t.val / 16) + s.val) % 5632; omega
  unfold iblk
  rw [View.read_apply, e]
  show V m c main_v3 _ = _
  rw [V_main_v3, taps_apply]

theorem iblk7_apply (t : Fin cfg0.N) (h : Fin 2) (s : Fin 512) :
    iblk m c 7 t (ix3 h (0 : Fin 1) s) = aB m c (ix1 (chan h (col (t.val / 16) s))) := by
  have ht := lt_N t
  have e : ((cfg0.win 7).blk t).view.emb (ix3 h (0 : Fin 1) s) = (ix3 h (0 : Fin 1) (col (t.val / 16) s) : S2x1x5632.Idx) := by
    funext a
    apply Fin.ext
    match a with
    | ⟨0, _⟩ => show win0_7.index t 0 * 2 + 1 * h.val = h.val; rw [at7]; show 0 * 2 + 1 * h.val = _; omega
    | ⟨1, _⟩ => show win0_7.index t 1 * 1 + 1 * 0 = _; rw [at7]; show 0 * 1 + 1 * 0 = 0; omega
    | ⟨2, _⟩ => show win0_7.index t 2 * 512 + 1 * s.val = _ % 5632; rw [at7]; show t.val / 16 * 512 + 1 * s.val = (512 * (t.val / 16) + s.val) % 5632; omega
  unfold iblk
  rw [View.read_apply, e]
  show V m c main_v4 _ = _
  rw [V_main_v4, bias_host]

/-! ## The columns of a point are columns of the arrays -/

theorem colU_eq (t : Fin cfg0.N) (h : Fin 2) (s : Fin 512) (r : ℕ) (hr : r < 528) :
    colU (grid0.coords t) (iblk m c 0 t) (iblk m c 1 t) (iblk m c 2 t) h s r = rowU (aU m c) h (col (t.val / 16) s) (512 * (t.val % 16) + r) := by
  unfold colU rowU
  rw [coord1]
  exact edge_pad _ (by omega) _ _ _ _ (fun h0 j => iblk1_apply m c t h0 h j s) (fun j => iblk0_apply m c t h j s) (fun h0 j => iblk2_apply m c t h0 h j s) r hr

theorem colA_eq (t : Fin cfg0.N) (s : Fin 512) (r : ℕ) (hr : r < 528) :
    colA (grid0.coords t) (iblk m c 3 t) (iblk m c 4 t) (iblk m c 5 t) s r = rowA (aA m c) (col (t.val / 16) s) (512 * (t.val % 16) + r) := by
  unfold colA rowA
  rw [coord1]
  exact edge_pad _ (by omega) _ _ _ _ (fun h0 j => iblk4_apply m c t h0 j s) (fun j => iblk3_apply m c t j s) (fun h0 j => iblk5_apply m c t h0 j s) r hr

theorem colC_eq (t : Fin cfg0.N) (h : Fin 2) (s : Fin 512) (r : ℕ) (h1 : 1 ≤ r) (hr : r < 527) :
    colC (grid0.coords t) (iblk m c 0 t) (iblk m c 1 t) (iblk m c 2 t) (iblk m c 6 t) (iblk m c 7 t) h s r = rowC (aU m c) (aW m c) (aB m c) h (col (t.val / 16) s) (512 * (t.val % 16) + r) := by
  unfold colC rowC conv tapW
  rw [colU_eq m c t h s (r - 1) (by omega), colU_eq m c t h s r (by omega), colU_eq m c t h s (r + 1) (by omega)]
  simp only [iblk6_apply, iblk7_apply]
  rw [show 512 * (t.val % 16) + r - 1 = 512 * (t.val % 16) + (r - 1) by omega, show 512 * (t.val % 16) + r + 1 = 512 * (t.val % 16) + (r + 1) by omega]

theorem colD_eq (t : Fin cfg0.N) (h : Fin 2) (s : Fin 512) (r : ℕ) (h1 : 1 ≤ r) (hr : r < 527) :
    colD (grid0.coords t) (iblk m c 0 t) (iblk m c 1 t) (iblk m c 2 t) (iblk m c 3 t) (iblk m c 4 t) (iblk m c 5 t) (iblk m c 6 t) (iblk m c 7 t) h s r = rowD (aU m c) (aA m c) (aW m c) (aB m c) h (col (t.val / 16) s) (512 * (t.val % 16) + r) := by
  unfold colD rowD
  rw [colC_eq m c t 0 s r h1 hr, colC_eq m c t 1 s r h1 hr, colA_eq m c t s r (by omega)]

theorem duOf_eq (t : Fin cfg0.N) (h : Fin 2) (s p : Fin 512) :
    duOf (grid0.coords t) (iblk m c 0 t) (iblk m c 1 t) (iblk m c 2 t) (iblk m c 3 t) (iblk m c 4 t) (iblk m c 5 t) (iblk m c 6 t) (iblk m c 7 t) h s p = gradU (aU m c) (aA m c) (aW m c) (aB m c) h (col (t.val / 16) s) (row (512 * (t.val % 16)) p.val) := by
  have ht := lt_N t
  have e : (row (512 * (t.val % 16)) p.val).val = 512 * (t.val % 16) + p.val := by show (512 * (t.val % 16) + p.val) % 8192 = _; omega
  unfold duOf gradU tapW
  rw [colD_eq m c t h s (p.val + 9) (by omega) (by omega), colD_eq m c t h s (p.val + 8) (by omega) (by omega), colD_eq m c t h s (p.val + 7) (by omega) (by omega), e]
  simp only [iblk6_apply, Nat.add_assoc]

/-- What rows block `k` of channels block `j` adds to the gradients of the taps and of the bias. -/
def termW (j k : ℕ) (y : S2x3x512.Idx) : EReal :=
  ∑ p : Fin 512, (fun n : Fin 8192 => rowD (aU m c) (aA m c) (aW m c) (aB m c) (y 0) (col j (y 2)) (n.val + 8) * rowU (aU m c) (y 0) (col j (y 2)) (n.val + 7 + (y 1).val)) (Fin.ofNat 8192 (512 * k + p.val))
def termB (j k : ℕ) (y : S2x1x512.Idx) : EReal :=
  ∑ p : Fin 512, (fun n : Fin 8192 => rowD (aU m c) (aA m c) (aW m c) (aB m c) (y 0) (col j (y 2)) (n.val + 8)) (Fin.ofNat 8192 (512 * k + p.val))

theorem dwOf_eq (t : Fin cfg0.N) (h : Fin 2) (s : Fin 512) (q : Fin 3) : dwOf (grid0.coords t) (iblk m c 0 t) (iblk m c 1 t) (iblk m c 2 t) (iblk m c 3 t) (iblk m c 4 t) (iblk m c 5 t) (iblk m c 6 t) (iblk m c 7 t) h s q = termW m c (t.val / 16) (t.val % 16) (ix3 h q s) := by
  have ht := lt_N t
  unfold dwOf termW
  refine Finset.sum_congr rfl fun p _ => ?_
  have e : (Fin.ofNat 8192 (512 * (t.val % 16) + p.val)).val = 512 * (t.val % 16) + p.val := by show (512 * (t.val % 16) + p.val) % 8192 = _; omega
  rw [colD_eq m c t h s (p.val + 8) (by omega) (by omega), colU_eq m c t h s (p.val + 7 + q.val) (by omega)]
  dsimp only
  rw [e]
  simp only [Nat.add_assoc]
  rfl

theorem dbOf_eq (t : Fin cfg0.N) (h : Fin 2) (s : Fin 512) : dbOf (grid0.coords t) (iblk m c 0 t) (iblk m c 1 t) (iblk m c 2 t) (iblk m c 3 t) (iblk m c 4 t) (iblk m c 5 t) (iblk m c 6 t) (iblk m c 7 t) h s = termB m c (t.val / 16) (t.val % 16) (ix3 h 0 s) := by
  have ht := lt_N t
  unfold dbOf termB
  refine Finset.sum_congr rfl fun p _ => ?_
  have e : (Fin.ofNat 8192 (512 * (t.val % 16) + p.val)).val = 512 * (t.val % 16) + p.val := by show (512 * (t.val % 16) + p.val) % 8192 = _; omega
  rw [colD_eq m c t h s (p.val + 8) (by omega) (by omega)]
  dsimp only
  rw [e]
  simp only [Nat.add_assoc]
  rfl

/-! ## The gradient of the input -/

/-- The gradients, as the call lays them out. -/
def GU : S2x8192x5632.Idx → EReal := fun i => gradU (aU m c) (aA m c) (aW m c) (aB m c) (i 0) (i 2) (i 1)
def GW : S2x3x5632.Idx → EReal := fun i => gradW (aU m c) (aA m c) (aW m c) (aB m c) (i 0) (i 2) (i 1)
def GB : S2x1x5632.Idx → EReal := fun i => gradB (aU m c) (aA m c) (aW m c) (aB m c) (i 0) (i 2)

theorem out8_eq (t : Fin cfg0.N) (h : Fin 2) (p s : Fin 512) :
    (outsAt0 m c t.val t.isLt).1 (ix3 h p s) = GU m c (ix3 h (row (512 * (t.val % 16)) p.val) (col (t.val / 16) s)) := by
  by_cases h0 : t.val % 16 = 0
  · rw [outsAt0_A m c t h0 (by omega) h0 (by omega)]
    dsimp only
    rw [du_first, duOf_eq]
    rfl
  · rw [outsAt0_B m c t h0 (by omega) h0 (by omega)]
    dsimp only
    rw [du_next, duOf_eq]
    rfl

theorem emb8 (t : Fin cfg0.N) (h : Fin 2) (p s : Fin 512) :
    ((cfg0.win 8).blk t).view.emb (ix3 h p s) = (ix3 h (row (512 * (t.val % 16)) p.val) (col (t.val / 16) s) : S2x8192x5632.Idx) := by
  have ht := lt_N t
  funext a
  apply Fin.ext
  match a with
  | ⟨0, _⟩ => show win0_8.index t 0 * 2 + 1 * h.val = h.val; rw [at8]; show 0 * 2 + 1 * h.val = _; omega
  | ⟨1, _⟩ => show win0_8.index t 1 * 512 + 1 * p.val = _ % 8192; rw [at8]; show t.val % 16 * 512 + 1 * p.val = (512 * (t.val % 16) + p.val) % 8192; omega
  | ⟨2, _⟩ => show win0_8.index t 2 * 512 + 1 * s.val = _ % 5632; rw [at8]; show t.val / 16 * 512 + 1 * s.val = (512 * (t.val / 16) + s.val) % 5632; omega

theorem final8 : (dats m 0 c).arrAt 8 cfg0.N = GU m c := by
  refine (dats m 0 c).arrAt_eq_of_cover 8 (GU m c) (fun t hf => ?_) fun i => ?_
  · rw [Value.flushed8]
    refine funext fun (y : S2x512x512.Idx) => ?_
    obtain ⟨h, p, s, rfl⟩ : ∃ h p s, y = ix3 h p s := ⟨y 0, y 1, y 2, ValueIdx.eq_ix3 y⟩
    rw [View.read_apply, emb8]
    exact out8_eq m c t h p s
  · obtain ⟨h, a, b, rfl⟩ : ∃ (h : Fin 2) (a : Fin 8192) (b : Fin 5632), i = (ix3 h a b : S2x8192x5632.Idx) := ⟨i 0, i 1, i 2, ValueIdx.eq_ix3 i⟩
    let t : Fin cfg0.N := ⟨16 * (b.val / 512) + a.val / 512, by show _ < 176; omega⟩
    refine ⟨t, flush0_8 t, ?_⟩
    have e := emb8 t h ⟨a.val % 512, by omega⟩ ⟨b.val % 512, by omega⟩
    rw [show row (512 * (t.val % 16)) (a.val % 512) = a from Fin.ext (by
        show (512 * ((16 * (b.val / 512) + a.val / 512) % 16) + a.val % 512) % 8192 = a.val; omega),
      show col (t.val / 16) ⟨b.val % 512, by omega⟩ = b from Fin.ext (by
        show (512 * ((16 * (b.val / 512) + a.val / 512) / 16) + b.val % 512) % 5632 = b.val; omega)] at e
    rw [← e]
    exact View.emb_mem_set _ _

/-! ## The gradients of the taps and of the bias -/

theorem acc9_first (t : Fin cfg0.N) (h0 : t.val % 16 = 0) (h : Fin 2) (q : Fin 3) (s : Fin 512) :
    (outsAt0 m c t.val t.isLt).2.1 (ix3 h q s) = termW m c (t.val / 16) 0 (ix3 h q s) := by
  rw [outsAt0_A m c t h0 (by omega) h0 (by omega)]
  dsimp only
  rw [dw_first, dwOf_eq, h0]

theorem acc9_next (t : Fin cfg0.N) (h0 : ¬t.val % 16 = 0) (h : Fin 2) (q : Fin 3) (s : Fin 512) :
    (outsAt0 m c t.val t.isLt).2.1 (ix3 h q s)
      = (outsAt0 m c (t.val - 1) (Nat.lt_of_le_of_lt (Nat.sub_le _ 1) t.isLt)).2.1 (ix3 h q s) + termW m c (t.val / 16) (t.val % 16) (ix3 h q s) := by
  rw [outsAt0_B m c t h0 (by omega) h0 (by omega)]
  dsimp only
  rw [dw_next, dwOf_eq]

/-- The block after a point holds what the rows blocks add, so far. -/
theorem acc9 (n : ℕ) (h : n < cfg0.N) (y : S2x3x512.Idx) :
    (outsAt0 m c n h).2.1 y = ∑ k ∈ range (n % 16 + 1), termW m c (n / 16) k y := by
  refine acc_eq 16 cfg0.N (by norm_num) (fun n h => (outsAt0 m c n h).2.1) (termW m c) (fun n hn y h0 => ?_) (fun n hn y h0 => ?_) n h y
  · obtain ⟨h, q, s, rfl⟩ : ∃ h q s, y = ix3 h q s := ⟨y 0, y 1, y 2, ValueIdx.eq_ix3 y⟩
    exact acc9_first m c ⟨n, hn⟩ h0 h q s
  · obtain ⟨h, q, s, rfl⟩ : ∃ h q s, y = ix3 h q s := ⟨y 0, y 1, y 2, ValueIdx.eq_ix3 y⟩
    exact acc9_next m c ⟨n, hn⟩ h0 h q s

theorem out9_eq (t : Fin cfg0.N) (ht : t.val % 16 = 15) (h : Fin 2) (q : Fin 3) (s : Fin 512) :
    (outsAt0 m c t.val t.isLt).2.1 (ix3 h q s) = GW m c (ix3 h q (col (t.val / 16) s)) := by
  rw [acc9, ht]
  exact sum_axis 512 16 rfl (fun n : Fin 8192 => rowD (aU m c) (aA m c) (aW m c) (aB m c) h (col (t.val / 16) s) (n.val + 8) * rowU (aU m c) h (col (t.val / 16) s) (n.val + 7 + q.val))

theorem emb9 (t : Fin cfg0.N) (h : Fin 2) (q : Fin 3) (s : Fin 512) :
    ((cfg0.win 9).blk t).view.emb (ix3 h q s) = (ix3 h q (col (t.val / 16) s) : S2x3x5632.Idx) := by
  have ht := lt_N t
  funext a
  apply Fin.ext
  match a with
  | ⟨0, _⟩ => show win0_9.index t 0 * 2 + 1 * h.val = h.val; rw [at9]; show 0 * 2 + 1 * h.val = _; omega
  | ⟨1, _⟩ => show win0_9.index t 1 * 3 + 1 * q.val = q.val; rw [at9]; show 0 * 3 + 1 * q.val = _; omega
  | ⟨2, _⟩ => show win0_9.index t 2 * 512 + 1 * s.val = _ % 5632; rw [at9]; show t.val / 16 * 512 + 1 * s.val = (512 * (t.val / 16) + s.val) % 5632; omega

theorem final9 : (dats m 0 c).arrAt 9 cfg0.N = GW m c := by
  refine (dats m 0 c).arrAt_eq_of_cover 9 (GW m c) (fun t hf => ?_) fun i => ?_
  · rw [Value.flushed9]
    refine funext fun (y : S2x3x512.Idx) => ?_
    obtain ⟨h, q, s, rfl⟩ : ∃ h q s, y = ix3 h q s := ⟨y 0, y 1, y 2, ValueIdx.eq_ix3 y⟩
    rw [View.read_apply, emb9]
    exact out9_eq m c t ((flush0_9 t).mp hf) h q s
  · obtain ⟨h, q, b, rfl⟩ : ∃ (h : Fin 2) (q : Fin 3) (b : Fin 5632), i = (ix3 h q b : S2x3x5632.Idx) := ⟨i 0, i 1, i 2, ValueIdx.eq_ix3 i⟩
    let t : Fin cfg0.N := ⟨16 * (b.val / 512) + 15, by show _ < 176; omega⟩
    refine ⟨t, (flush0_9 t).mpr (by show (16 * (b.val / 512) + 15) % 16 = 15; omega), ?_⟩
    have e := emb9 t h q ⟨b.val % 512, by omega⟩
    rw [show col (t.val / 16) ⟨b.val % 512, by omega⟩ = b from Fin.ext (by
        show (512 * ((16 * (b.val / 512) + 15) / 16) + b.val % 512) % 5632 = b.val; omega)] at e
    rw [← e]
    exact View.emb_mem_set _ _

theorem acc10_first (t : Fin cfg0.N) (h0 : t.val % 16 = 0) (h : Fin 2) (s : Fin 512) :
    (outsAt0 m c t.val t.isLt).2.2 (ix3 h (0 : Fin 1) s) = termB m c (t.val / 16) 0 (ix3 h (0 : Fin 1) s) := by
  rw [outsAt0_A m c t h0 (by omega) h0 (by omega)]
  dsimp only
  rw [db_first, dbOf_eq, h0]

theorem acc10_next (t : Fin cfg0.N) (h0 : ¬t.val % 16 = 0) (h : Fin 2) (s : Fin 512) :
    (outsAt0 m c t.val t.isLt).2.2 (ix3 h (0 : Fin 1) s)
      = (outsAt0 m c (t.val - 1) (Nat.lt_of_le_of_lt (Nat.sub_le _ 1) t.isLt)).2.2 (ix3 h (0 : Fin 1) s) + termB m c (t.val / 16) (t.val % 16) (ix3 h (0 : Fin 1) s) := by
  rw [outsAt0_B m c t h0 (by omega) h0 (by omega)]
  dsimp only
  rw [db_next, dbOf_eq]

/-- The block after a point holds what the rows blocks add, so far. -/
theorem acc10 (n : ℕ) (h : n < cfg0.N) (y : S2x1x512.Idx) :
    (outsAt0 m c n h).2.2 y = ∑ k ∈ range (n % 16 + 1), termB m c (n / 16) k y := by
  refine acc_eq 16 cfg0.N (by norm_num) (fun n h => (outsAt0 m c n h).2.2) (termB m c) (fun n hn y h0 => ?_) (fun n hn y h0 => ?_) n h y
  · obtain ⟨h, s, rfl⟩ : ∃ h s, y = ix3 h (0 : Fin 1) s :=
      ⟨y 0, y 2, (ValueIdx.eq_ix3 y).trans (congrArg (fun z : Fin 1 => ix3 (y 0) z (y 2)) (Subsingleton.elim _ _))⟩
    exact acc10_first m c ⟨n, hn⟩ h0 h s
  · obtain ⟨h, s, rfl⟩ : ∃ h s, y = ix3 h (0 : Fin 1) s :=
      ⟨y 0, y 2, (ValueIdx.eq_ix3 y).trans (congrArg (fun z : Fin 1 => ix3 (y 0) z (y 2)) (Subsingleton.elim _ _))⟩
    exact acc10_next m c ⟨n, hn⟩ h0 h s

theorem out10_eq (t : Fin cfg0.N) (ht : t.val % 16 = 15) (h : Fin 2) (s : Fin 512) :
    (outsAt0 m c t.val t.isLt).2.2 (ix3 h (0 : Fin 1) s) = GB m c (ix3 h (0 : Fin 1) (col (t.val / 16) s)) := by
  rw [acc10, ht]
  exact sum_axis 512 16 rfl (fun n : Fin 8192 => rowD (aU m c) (aA m c) (aW m c) (aB m c) h (col (t.val / 16) s) (n.val + 8))

theorem emb10 (t : Fin cfg0.N) (h : Fin 2) (s : Fin 512) :
    ((cfg0.win 10).blk t).view.emb (ix3 h (0 : Fin 1) s) = (ix3 h (0 : Fin 1) (col (t.val / 16) s) : S2x1x5632.Idx) := by
  have ht := lt_N t
  funext a
  apply Fin.ext
  match a with
  | ⟨0, _⟩ => show win0_10.index t 0 * 2 + 1 * h.val = h.val; rw [at10]; show 0 * 2 + 1 * h.val = _; omega
  | ⟨1, _⟩ => show win0_10.index t 1 * 1 + 1 * 0 = 0; rw [at10]; show 0 * 1 + 1 * 0 = _; omega
  | ⟨2, _⟩ => show win0_10.index t 2 * 512 + 1 * s.val = _ % 5632; rw [at10]; show t.val / 16 * 512 + 1 * s.val = (512 * (t.val / 16) + s.val) % 5632; omega

theorem final10 : (dats m 0 c).arrAt 10 cfg0.N = GB m c := by
  refine (dats m 0 c).arrAt_eq_of_cover 10 (GB m c) (fun t hf => ?_) fun i => ?_
  · rw [Value.flushed10]
    refine funext fun (y : S2x1x512.Idx) => ?_
    obtain ⟨h, s, rfl⟩ : ∃ h s, y = ix3 h (0 : Fin 1) s :=
      ⟨y 0, y 2, (ValueIdx.eq_ix3 y).trans (congrArg (fun z : Fin 1 => ix3 (y 0) z (y 2)) (Subsingleton.elim _ _))⟩
    rw [View.read_apply, emb10]
    exact out10_eq m c t ((flush0_10 t).mp hf) h s
  · obtain ⟨h, b, rfl⟩ : ∃ (h : Fin 2) (b : Fin 5632), i = (ix3 h (0 : Fin 1) b : S2x1x5632.Idx) :=
      ⟨i 0, i 2, (ValueIdx.eq_ix3 i).trans (congrArg (fun z : Fin 1 => ix3 (i 0) z (i 2)) (Subsingleton.elim _ _))⟩
    let t : Fin cfg0.N := ⟨16 * (b.val / 512) + 15, by show _ < 176; omega⟩
    refine ⟨t, (flush0_10 t).mpr (by show (16 * (b.val / 512) + 15) % 16 = 15; omega), ?_⟩
    have e := emb10 t h ⟨b.val % 512, by omega⟩
    rw [show col (t.val / 16) ⟨b.val % 512, by omega⟩ = b from Fin.ext (by
        show (512 * ((16 * (b.val / 512) + 15) / 16) + b.val % 512) % 5632 = b.val; omega)] at e
    rw [← e]
    exact View.emb_mem_set _ _

end Cert.KernelGateIdeal.Gate

end
-- ==== Proof.Gate.Reference.lean ====
/- What the reference leaves, at real arguments: the same three gradients. -/
module

public import Idealize.ShloMosaic.Lib.Pointwise
public import Idealize.ShloMosaic.Lib.KernelVsHost
public import proofs.«01_k».proof.Proof.Gen.ReferenceGateIdeal.Read
public import proofs.«01_k».proof.Proof.Attn.Reference
public import proofs.«01_k».proof.Proof.Gate.Math

@[expose] public section

set_option maxRecDepth 16384

noncomputable section

namespace Cert.ReferenceGateIdeal.Gate

open Cert.ReferenceGateIdeal Cert.ReferenceGateIdeal.Gen Cert.ReferenceGateIdeal.Read Idealize.ShloMosaic Idealize.ShloMosaic.TcCoe Idealize.SL.Sem
open Cert.Gate (chan rowU rowA rowC rowD tapW gradU gradW gradB pad_row)
open Cert.KernelGateIdeal.Gate (conv gateGrad valGrad one_word)
open Cert.ReferenceIdeal.Attn (i3 i2)

theorem i1 {a : ℕ} (f : (⟨1, ![a]⟩ : Shape).Idx → EReal) (i : (⟨1, ![a]⟩ : Shape).Idx) (x : Fin a) (hx : i 0 = x) : f i = f (ix1 x) := by
  subst hx; exact congrArg f (ValueIdx.eq_ix1 i)

/-- A row of zeros above and below the rows. -/
theorem wide_apply (p x n) (h) (q : Fin 8194) (c : Fin 11264) (hp : ∀ i, p i = 0) (hn : ∀ i, n i = 0) :
    concatenate S8194x11264 0 [⟨S1x11264, (p : S1x11264.Idx → EReal)⟩, ⟨S8192x11264, (x : S8192x11264.Idx → EReal)⟩, ⟨S1x11264, (n : S1x11264.Idx → EReal)⟩] h (ix2 q c)
      = Cert.Gate.pad (fun j => x (ix2 j c)) (q.val + 7) := by
  have hq := q.isLt
  unfold Cert.Gate.pad
  pointwise []
  repeat' split
  all_goals first
    | omega
    | exact hp _
    | exact hn _
    | (refine congrArg x (congrArg (fun k => ix2 k c) (Fin.ext ?_)); show q.val - 1 = (q.val + 7 - 8) % 8192; omega)

/-- A padded array, where nothing but zeros is put in. -/
theorem pads_apply (lo hi : ℕ) (x : S8192x11264.Idx → EReal) (v : S_.Idx → EReal) (h) (hv) (q : Fin 8194) (c : Fin 11264) (v0 : ∀ i, v i = 0) :
    Idealize.ShloMosaic.pad S8194x11264 ![lo, 0] ![hi, 0] ![0, 0] x v h hv (ix2 q c)
      = if lo ≤ q.val ∧ q.val - lo < 8192 then x (ix2 (Fin.ofNat 8192 (q.val - lo)) c) else 0 := by
  by_cases hq : lo ≤ q.val ∧ q.val - lo < 8192
  · rw [if_pos hq]
    refine pad_apply_of_inside _ _ _ x v h hv _ (ix2 (Fin.ofNat 8192 (q.val - lo)) c) fun a => ?_
    match a with
    | ⟨0, _⟩ => show q.val = lo + (q.val - lo) % 8192 * (0 + 1); omega
    | ⟨1, _⟩ => show c.val = 0 + c.val * (0 + 1); omega
  · rw [if_neg hq]
    refine (pad_apply_of_not_inside _ _ _ x v h hv _ 0 fun hin => hq ?_).trans (v0 _)
    have h1 : lo ≤ q.val := hin.1
    have h2 : (q.val - lo) / (0 + 1) < 8192 := hin.2.2
    exact ⟨h1, by omega⟩

theorem pads3_apply (lo hi : ℕ) (x : S1x11264.Idx → EReal) (v : S_.Idx → EReal) (h) (hv) (q : Fin 3) (c : Fin 11264) (v0 : ∀ i, v i = 0) :
    Idealize.ShloMosaic.pad S3x11264 ![lo, 0] ![hi, 0] ![0, 0] x v h hv (ix2 q c) = if q.val = lo then x (ix2 0 c) else 0 := by
  by_cases hq : q.val = lo
  · rw [if_pos hq]
    refine pad_apply_of_inside _ _ _ x v h hv _ (ix2 0 c) fun a => ?_
    match a with
    | ⟨0, _⟩ => show q.val = lo + 0 * (0 + 1); omega
    | ⟨1, _⟩ => show c.val = 0 + c.val * (0 + 1); omega
  · rw [if_neg hq]
    refine (pad_apply_of_not_inside _ _ _ x v h hv _ 0 fun hin => hq ?_).trans (v0 _)
    have h1 : lo ≤ q.val := hin.1
    have h2 : (q.val - lo) / (0 + 1) < 1 := hin.2.2
    omega

variable (x0 : S8192x11264.Idx → EReal) (x1 : S8192x5632.Idx → EReal) (x2 : S3x11264.Idx → EReal) (x3 : S11264.Idx → EReal)

/-! ## The convolution -/

theorem v1_apply (q : Fin 8194) (c : Fin 11264) : val_main_v1 (F := Ideal) x0 (ix2 q c) = Cert.Gate.pad (fun j => x0 (ix2 j c)) (q.val + 7) := by
  unfold val_main_v1
  refine wide_apply _ x0 _ _ q c (fun i => ?_) fun i => ?_
  · rw [val_main_v0_apply, val_main_cst_apply, Ideal.ofBits_def, Ideal.ofBits_zero_f32]
  · first
      | rw [val_main_v0_apply, val_main_cst_apply, Ideal.ofBits_def, Ideal.ofBits_zero_f32]
      | rw [val_main_v2_apply, val_main_cst_0_apply, Ideal.ofBits_def, Ideal.ofBits_zero_f32]
      | rw [val_main_v3_apply, val_main_cst_1_apply, Ideal.ofBits_def, Ideal.ofBits_zero_f32]

theorem v6_apply (n : Fin 8192) (h : Fin 2) (s : Fin 5632) : val_main_v6 (F := Ideal) x0 (ix2 n (chan h s)) = rowU x0 h s (n.val + 7) := by
  rw [val_main_v6_apply, i2 (val_main_v1 (F := Ideal) x0) _ ⟨n.val + 0, by omega⟩ (chan h s) (Fin.ext (by show n.val = n.val + 0; omega)) rfl, v1_apply]
  rfl
theorem v14_apply (n : Fin 8192) (h : Fin 2) (s : Fin 5632) : val_main_v14 (F := Ideal) x0 (ix2 n (chan h s)) = rowU x0 h s (n.val + 8) := by
  rw [val_main_v14_apply, i2 (val_main_v1 (F := Ideal) x0) _ ⟨n.val + 1, by omega⟩ (chan h s) (Fin.ext (by show 1 + n.val = n.val + 1; omega)) rfl, v1_apply]
  rfl
theorem v21_apply (n : Fin 8192) (h : Fin 2) (s : Fin 5632) : val_main_v21 (F := Ideal) x0 (ix2 n (chan h s)) = rowU x0 h s (n.val + 9) := by
  rw [val_main_v21_apply, i2 (val_main_v1 (F := Ideal) x0) _ ⟨n.val + 2, by omega⟩ (chan h s) (Fin.ext (by show 2 + n.val = n.val + 2; omega)) rfl, v1_apply]
  rfl
theorem v8_apply (n : Fin 8192) (h : Fin 2) (s : Fin 5632) : val_main_v8 (F := Ideal) x2 (ix2 n (chan h s)) = tapW x2 h s 0 := by
  rw [val_main_v8_apply, val_main_v7_apply, val_main_v5_apply, val_main_v4_apply]
  exact i2 x2 _ 0 (chan h s) rfl (Fin.ext (Nat.mod_eq_of_lt (chan h s).isLt))
theorem v16_apply (n : Fin 8192) (h : Fin 2) (s : Fin 5632) : val_main_v16 (F := Ideal) x2 (ix2 n (chan h s)) = tapW x2 h s 1 := by
  rw [val_main_v16_apply, val_main_v15_apply, val_main_v13_apply, val_main_v12_apply]
  exact i2 x2 _ 1 (chan h s) rfl (Fin.ext (Nat.mod_eq_of_lt (chan h s).isLt))
theorem v23_apply (n : Fin 8192) (h : Fin 2) (s : Fin 5632) : val_main_v23 (F := Ideal) x2 (ix2 n (chan h s)) = tapW x2 h s 2 := by
  rw [val_main_v23_apply, val_main_v22_apply, val_main_v20_apply, val_main_v19_apply]
  exact i2 x2 _ 2 (chan h s) rfl (Fin.ext (Nat.mod_eq_of_lt (chan h s).isLt))
theorem v60_apply (n : Fin 8192) (h : Fin 2) (s : Fin 5632) : val_main_v60 (F := Ideal) x2 (ix2 n (chan h s)) = tapW x2 h s 0 := by
  rw [val_main_v60_apply, val_main_v7_apply, val_main_v5_apply, val_main_v4_apply]
  exact i2 x2 _ 0 (chan h s) rfl (Fin.ext (Nat.mod_eq_of_lt (chan h s).isLt))
theorem v49_apply (n : Fin 8192) (h : Fin 2) (s : Fin 5632) : val_main_v49 (F := Ideal) x2 (ix2 n (chan h s)) = tapW x2 h s 1 := by
  rw [val_main_v49_apply, val_main_v15_apply, val_main_v13_apply, val_main_v12_apply]
  exact i2 x2 _ 1 (chan h s) rfl (Fin.ext (Nat.mod_eq_of_lt (chan h s).isLt))
theorem v40_apply (n : Fin 8192) (h : Fin 2) (s : Fin 5632) : val_main_v40 (F := Ideal) x2 (ix2 n (chan h s)) = tapW x2 h s 2 := by
  rw [val_main_v40_apply, val_main_v22_apply, val_main_v20_apply, val_main_v19_apply]
  exact i2 x2 _ 2 (chan h s) rfl (Fin.ext (Nat.mod_eq_of_lt (chan h s).isLt))

theorem v28_apply (n : Fin 8192) (h : Fin 2) (s : Fin 5632) : val_main_v28 (F := Ideal) x0 x2 x3 (ix2 n (chan h s)) = rowC x0 x2 x3 h s (n.val + 8) := by
  have e : val_main_v27 (F := Ideal) x3 (ix2 n (chan h s)) = x3 (ix1 (chan h s)) := by
    rw [val_main_v27_apply, val_main_v26_apply]
    exact i1 x3 _ (chan h s) rfl
  rw [val_main_v28_apply, e, val_main_v25_apply, val_main_v18_apply, val_main_v11_apply, val_main_v9_apply, val_main_v17_apply, val_main_v24_apply,
    val_main_v10_apply, val_main_cst_2_apply, v6_apply, v14_apply, v21_apply, v8_apply, v16_apply, v23_apply]
  simp only [Ideal.addf_def, Ideal.mulf_def, Ideal.ofBits_def, Ideal.ofBits_zero_f32, zero_add]
  rfl

theorem v29_apply (n : Fin 8192) (s : Fin 5632) : val_main_v29 (F := Ideal) x0 x2 x3 (ix2 n s) = rowC x0 x2 x3 0 s (n.val + 8) := by
  rw [val_main_v29_apply, i2 (val_main_v28 (F := Ideal) x0 x2 x3) _ n (chan 0 s) rfl (Fin.ext (by show s.val = 5632 * 0 + s.val; omega)), v28_apply]
theorem v30_apply (n : Fin 8192) (s : Fin 5632) : val_main_v30 (F := Ideal) x0 x2 x3 (ix2 n s) = rowC x0 x2 x3 1 s (n.val + 8) := by
  rw [val_main_v30_apply, i2 (val_main_v28 (F := Ideal) x0 x2 x3) _ n (chan 1 s) rfl (Fin.ext (by show 5632 + s.val = 5632 * 1 + s.val; omega)), v28_apply]

/-! ## The gradient of the gate -/

theorem v31_2_apply (n : Fin 8192) (s : Fin 5632) : val_main_v31_2 (F := Ideal) x0 x2 x3 (ix2 n s) = Ideal.logistic (rowC x0 x2 x3 0 s (n.val + 8)) := by
  rw [val_main_v31_2_apply, val_main_call0_v4_apply, val_main_call0_cst_0_apply, val_main_call0_v3_apply, val_main_call0_v2_apply, val_main_call0_cst_apply,
    val_main_call0_v1_apply, val_main_call0_v0_apply, v29_apply]
  simp only [Ideal.addf_def, Ideal.ofBits_def, one_word]
  rfl

theorem v31_1_apply (n : Fin 8192) (s : Fin 5632) : val_main_v31_1 (F := Ideal) x0 x2 x3 (ix2 n s)
    = Ideal.logistic (rowC x0 x2 x3 0 s (n.val + 8)) * (1 - Ideal.logistic (rowC x0 x2 x3 0 s (n.val + 8))) := by
  rw [val_main_v31_1_apply, val_main_call0_v7_apply, val_main_call0_v6_apply, val_main_call0_cst_1_apply, v31_2_apply]
  simp only [Ideal.mulf_def, Ideal.subf_def, Ideal.ofBits_def, one_word]

theorem rowA_apply (n : Fin 8192) (s : Fin 5632) : rowA x1 s (n.val + 8) = x1 (ix2 n s) := by
  unfold rowA
  rw [pad_row]

theorem v33_apply (n : Fin 8192) (s : Fin 5632) : val_main_v33 (F := Ideal) x0 x1 x2 x3 (ix2 n s) = rowD x0 x1 x2 x3 1 s (n.val + 8) := by
  rw [val_main_v33_apply, val_main_v31_0_apply, v31_2_apply, v29_apply]
  unfold rowD valGrad
  rw [if_neg (by decide), rowA_apply, mul_comm (G := EReal) (x1 (ix2 n s))]
  rfl

/-- The two ways of writing the gradient of `g / (1 + exp (-g))` agree at reals. -/
theorem gate_real (g v a : ℝ) : (a : EReal) * v * Ideal.logistic g + g * (a * v) * (Ideal.logistic g * (1 - Ideal.logistic g)) = gateGrad g v a := by
  unfold gateGrad
  rw [Ideal.logistic_coe, ← EReal.coe_one]
  simp only [← EReal.coe_mul, ← EReal.coe_add, ← EReal.coe_sub]
  exact congrArg _ (by ring)

section Real
variable (f0 : ∀ i, ∃ r : ℝ, x0 i = r) (f1 : ∀ i, ∃ r : ℝ, x1 i = r) (f2 : ∀ i, ∃ r : ℝ, x2 i = r) (f3 : ∀ i, ∃ r : ℝ, x3 i = r)

include f0 in
theorem rowU_real (h : Fin 2) (s : Fin 5632) (q : ℕ) : ∃ r : ℝ, rowU x0 h s q = r := by
  unfold rowU Cert.Gate.pad
  split
  · exact f0 _
  · exact ⟨0, EReal.coe_zero.symm⟩

include f0 f2 f3 in
theorem rowC_real (h : Fin 2) (s : Fin 5632) (q : ℕ) : ∃ r : ℝ, rowC x0 x2 x3 h s q = r := by
  unfold rowC conv tapW
  obtain ⟨b, hb⟩ := f3 (ix1 (chan h s))
  choose w hw using fun t : Fin 3 => f2 (ix2 t (chan h s))
  choose u hu using rowU_real x0 f0 h s
  refine ⟨b + (w 0 * u (q - 1) + w 1 * u q + w 2 * u (q + 1)), ?_⟩
  simp only [hb, hw, hu, EReal.coe_mul, EReal.coe_add]

include f0 f1 f2 f3 in
theorem v35_apply (n : Fin 8192) (s : Fin 5632) : val_main_v35 (F := Ideal) x0 x1 x2 x3 (ix2 n s) = rowD x0 x1 x2 x3 0 s (n.val + 8) := by
  rw [val_main_v35_apply, val_main_call1_v1_apply, val_main_call1_v2_apply, val_main_call1_v0_apply, val_main_v34_apply, v31_1_apply, v31_2_apply, v29_apply, v30_apply]
  unfold rowD
  rw [if_pos rfl, rowA_apply]
  obtain ⟨g, hg⟩ := rowC_real x0 x2 x3 f0 f2 f3 0 s (n.val + 8)
  obtain ⟨v, hv⟩ := rowC_real x0 x2 x3 f0 f2 f3 1 s (n.val + 8)
  obtain ⟨a, ha⟩ := f1 (ix2 n s)
  rw [hg, hv, ha]
  exact gate_real g v a

theorem joined_apply (y z : S8192x5632.Idx → EReal) (hc) (n : Fin 8192) (h : Fin 2) (s : Fin 5632) :
    concatenate S8192x11264 1 [⟨S8192x5632, y⟩, ⟨S8192x5632, z⟩] hc (ix2 n (chan h s)) = if h = 0 then y (ix2 n s) else z (ix2 n s) := by
  have e : (chan h s).val = 5632 * h.val + s.val := rfl
  have hh : h = 0 ↔ h.val = 0 := Fin.ext_iff
  pointwise []
  repeat' split
  all_goals first
    | omega
    | (refine congrArg y (congrArg (ix2 n) (Fin.ext ?_)); show (chan h s).val = s.val; omega)
    | (refine congrArg z (congrArg (ix2 n) (Fin.ext ?_)); show (chan h s).val - 5632 = s.val; omega)

include f0 f1 f2 f3 in
theorem v36_apply (n : Fin 8192) (h : Fin 2) (s : Fin 5632) : val_main_v36 (F := Ideal) x0 x1 x2 x3 (ix2 n (chan h s)) = rowD x0 x1 x2 x3 h s (n.val + 8) := by
  unfold val_main_v36
  rw [joined_apply, v35_apply x0 x1 x2 x3 f0 f1 f2 f3, v33_apply]
  match h with
  | 0 => rfl
  | 1 => rfl

/-- Outside the rows there is no gradient. -/
theorem rowD_out (h : Fin 2) (s : Fin 5632) (q : ℕ) (hq : ¬(8 ≤ q ∧ q < 8200)) : rowD x0 x1 x2 x3 h s q = 0 := by
  have e : rowA x1 s q = 0 := if_neg hq
  unfold rowD gateGrad valGrad
  simp only [e, zero_mul, ite_self]

/-! ## The gradient of the input -/

include f0 f1 f2 f3 in
theorem v46_apply (q : Fin 8194) (h : Fin 2) (s : Fin 5632) :
    val_main_v46 (F := Ideal) x0 x1 x2 x3 (ix2 q (chan h s)) = tapW x2 h s 2 * rowD x0 x1 x2 x3 h s (q.val + 6) := by
  have hq := q.isLt
  unfold val_main_v46
  rw [pads_apply _ _ _ _ _ _ q _ fun i => by rw [val_main_cst_7_apply, Ideal.ofBits_def, Ideal.ofBits_zero_f32], val_main_v41_apply, v40_apply,
    v36_apply x0 x1 x2 x3 f0 f1 f2 f3, Ideal.mulf_def]
  split
  · rw [show (Fin.ofNat 8192 (q.val - 2)).val + 8 = q.val + 6 by show (q.val - 2) % 8192 + 8 = _; omega]
  · rw [rowD_out x0 x1 x2 x3 h s (q.val + 6) (by omega), mul_zero]

include f0 f1 f2 f3 in
theorem v55_apply (q : Fin 8194) (h : Fin 2) (s : Fin 5632) :
    val_main_v55 (F := Ideal) x0 x1 x2 x3 (ix2 q (chan h s)) = tapW x2 h s 1 * rowD x0 x1 x2 x3 h s (q.val + 7) := by
  have hq := q.isLt
  unfold val_main_v55
  rw [pads_apply _ _ _ _ _ _ q _ fun i => by rw [val_main_cst_11_apply, Ideal.ofBits_def, Ideal.ofBits_zero_f32], val_main_v50_apply, v49_apply,
    v36_apply x0 x1 x2 x3 f0 f1 f2 f3, Ideal.mulf_def]
  split
  · rw [show (Fin.ofNat 8192 (q.val - 1)).val + 8 = q.val + 7 by show (q.val - 1) % 8192 + 8 = _; omega]
  · rw [rowD_out x0 x1 x2 x3 h s (q.val + 7) (by omega), mul_zero]

include f0 f1 f2 f3 in
theorem v66_apply (q : Fin 8194) (h : Fin 2) (s : Fin 5632) :
    val_main_v66 (F := Ideal) x0 x1 x2 x3 (ix2 q (chan h s)) = tapW x2 h s 0 * rowD x0 x1 x2 x3 h s (q.val + 8) := by
  have hq := q.isLt
  unfold val_main_v66
  rw [pads_apply _ _ _ _ _ _ q _ fun i => by rw [val_main_cst_15_apply, Ideal.ofBits_def, Ideal.ofBits_zero_f32], val_main_v61_apply, v60_apply,
    v36_apply x0 x1 x2 x3 f0 f1 f2 f3, Ideal.mulf_def]
  split
  · rw [show (Fin.ofNat 8192 (q.val - 0)).val + 8 = q.val + 8 by show (q.val - 0) % 8192 + 8 = _; omega]
  · rw [rowD_out x0 x1 x2 x3 h s (q.val + 8) (by omega), mul_zero]

include f0 f1 f2 f3 in
theorem v72_apply (n : Fin 8192) (h : Fin 2) (s : Fin 5632) : val_main_v72 (F := Ideal) x0 x1 x2 x3 (ix2 n (chan h s)) = gradU x0 x1 x2 x3 h s n := by
  rw [val_main_v72_apply, i2 (val_main_v67 (F := Ideal) x0 x1 x2 x3) _ ⟨n.val + 1, by omega⟩ (chan h s) (Fin.ext (by show 1 + n.val = n.val + 1; omega)) rfl,
    val_main_v67_apply, val_main_v56_apply, v46_apply x0 x1 x2 x3 f0 f1 f2 f3, v55_apply x0 x1 x2 x3 f0 f1 f2 f3, v66_apply x0 x1 x2 x3 f0 f1 f2 f3]
  simp only [Ideal.addf_def, Nat.add_assoc]
  unfold gradU
  rw [add_comm (G := EReal), add_comm (G := EReal) (tapW x2 h s 2 * _), ← add_assoc (G := EReal)]

include f0 f1 f2 f3 in
theorem du_apply (h : Fin 2) (n : Fin 8192) (s : Fin 5632) : val_main_v76 (F := Ideal) x0 x1 x2 x3 (ix3 h n s) = gradU x0 x1 x2 x3 h s n := by
  rw [val_main_v76_apply, Ideal.truncf_def, val_main_v75_apply, val_main_v74_apply, i2 (val_main_v72 (F := Ideal) x0 x1 x2 x3) _ n (chan h s)
    (Fin.ext (by show ((n.val * 2 + h.val) * 5632 + s.val) / 11264 = n.val; omega))
    (Fin.ext (by show ((n.val * 2 + h.val) * 5632 + s.val) % 11264 = 5632 * h.val + s.val; omega)), v72_apply x0 x1 x2 x3 f0 f1 f2 f3]

/-! ## The gradients of the taps -/

include f0 f1 f2 f3 in
theorem v48_apply (q : Fin 3) (h : Fin 2) (s : Fin 5632) :
    val_main_v48 (F := Ideal) x0 x1 x2 x3 (ix2 q (chan h s)) = if q.val = 2 then gradW x0 x1 x2 x3 h s 2 else 0 := by
  have e : ∀ n : Fin 8192, val_main_v42 (F := Ideal) x0 x1 x2 x3 (ix2 n (chan h s)) = rowD x0 x1 x2 x3 h s (n.val + 8) * rowU x0 h s (n.val + 9) := fun n => by
    rw [val_main_v42_apply, v36_apply x0 x1 x2 x3 f0 f1 f2 f3, v21_apply, Ideal.mulf_def]
  unfold val_main_v48
  rw [pads3_apply _ _ _ _ _ _ q _ fun i => by rw [val_main_cst_8_apply, Ideal.ofBits_def, Ideal.ofBits_zero_f32], val_main_v47_apply,
    i1 (val_main_v45 (F := Ideal) x0 x1 x2 x3) _ (chan h s) rfl, val_main_v45_apply, val_main_cst_6_apply, Ideal.ofBits_def, Ideal.ofBits_zero_f32, zero_add,
    Fin.sum_univ_one, val_main_v44_apply, i1 (val_main_v43 (F := Ideal) x0 x1 x2 x3) _ (chan h s) (Fin.ext (by show 0 * 11264 + (chan h s).val = (chan h s).val; omega)),
    val_main_v43_apply, val_main_cst_5_apply, Ideal.ofBits_def, Ideal.ofBits_zero_f32, zero_add,
    Finset.sum_congr rfl fun n _ => (i2 (val_main_v42 (F := Ideal) x0 x1 x2 x3) _ n (chan h s) rfl rfl).trans (e n)]
  rfl

include f0 f1 f2 f3 in
theorem v58_apply (q : Fin 3) (h : Fin 2) (s : Fin 5632) :
    val_main_v58 (F := Ideal) x0 x1 x2 x3 (ix2 q (chan h s)) = if q.val = 1 then gradW x0 x1 x2 x3 h s 1 else 0 := by
  have e : ∀ n : Fin 8192, val_main_v51 (F := Ideal) x0 x1 x2 x3 (ix2 n (chan h s)) = rowD x0 x1 x2 x3 h s (n.val + 8) * rowU x0 h s (n.val + 8) := fun n => by
    rw [val_main_v51_apply, v36_apply x0 x1 x2 x3 f0 f1 f2 f3, v14_apply, Ideal.mulf_def]
  unfold val_main_v58
  rw [pads3_apply _ _ _ _ _ _ q _ fun i => by rw [val_main_cst_12_apply, Ideal.ofBits_def, Ideal.ofBits_zero_f32], val_main_v57_apply,
    i1 (val_main_v54 (F := Ideal) x0 x1 x2 x3) _ (chan h s) rfl, val_main_v54_apply, val_main_cst_10_apply, Ideal.ofBits_def, Ideal.ofBits_zero_f32, zero_add,
    Fin.sum_univ_one, val_main_v53_apply, i1 (val_main_v52 (F := Ideal) x0 x1 x2 x3) _ (chan h s) (Fin.ext (by show 0 * 11264 + (chan h s).val = (chan h s).val; omega)),
    val_main_v52_apply, val_main_cst_9_apply, Ideal.ofBits_def, Ideal.ofBits_zero_f32, zero_add,
    Finset.sum_congr rfl fun n _ => (i2 (val_main_v51 (F := Ideal) x0 x1 x2 x3) _ n (chan h s) rfl rfl).trans (e n)]
  rfl

include f0 f1 f2 f3 in
theorem v69_apply (q : Fin 3) (h : Fin 2) (s : Fin 5632) :
    val_main_v69 (F := Ideal) x0 x1 x2 x3 (ix2 q (chan h s)) = if q.val = 0 then gradW x0 x1 x2 x3 h s 0 else 0 := by
  have e : ∀ n : Fin 8192, val_main_v62 (F := Ideal) x0 x1 x2 x3 (ix2 n (chan h s)) = rowD x0 x1 x2 x3 h s (n.val + 8) * rowU x0 h s (n.val + 7) := fun n => by
    rw [val_main_v62_apply, v36_apply x0 x1 x2 x3 f0 f1 f2 f3, v6_apply, Ideal.mulf_def]
  unfold val_main_v69
  rw [pads3_apply _ _ _ _ _ _ q _ fun i => by rw [val_main_cst_16_apply, Ideal.ofBits_def, Ideal.ofBits_zero_f32], val_main_v68_apply,
    i1 (val_main_v65 (F := Ideal) x0 x1 x2 x3) _ (chan h s) rfl, val_main_v65_apply, val_main_cst_14_apply, Ideal.ofBits_def, Ideal.ofBits_zero_f32, zero_add,
    Fin.sum_univ_one, val_main_v64_apply, i1 (val_main_v63 (F := Ideal) x0 x1 x2 x3) _ (chan h s) (Fin.ext (by show 0 * 11264 + (chan h s).val = (chan h s).val; omega)),
    val_main_v63_apply, val_main_cst_13_apply, Ideal.ofBits_def, Ideal.ofBits_zero_f32, zero_add,
    Finset.sum_congr rfl fun n _ => (i2 (val_main_v62 (F := Ideal) x0 x1 x2 x3) _ n (chan h s) rfl rfl).trans (e n)]
  rfl

include f0 f1 f2 f3 in
theorem v70_apply (q : Fin 3) (h : Fin 2) (s : Fin 5632) : val_main_v70 (F := Ideal) x0 x1 x2 x3 (ix2 q (chan h s)) = gradW x0 x1 x2 x3 h s q := by
  rw [val_main_v70_apply, val_main_v59_apply, v48_apply x0 x1 x2 x3 f0 f1 f2 f3, v58_apply x0 x1 x2 x3 f0 f1 f2 f3, v69_apply x0 x1 x2 x3 f0 f1 f2 f3]
  simp only [Ideal.addf_def]
  match q with
  | 0 => exact (congrArg (· + gradW x0 x1 x2 x3 h s 0) (zero_add (0 : EReal))).trans (zero_add _)
  | 1 => exact (add_zero _).trans (zero_add _)
  | 2 => exact (add_zero _).trans (add_zero _)

include f0 f1 f2 f3 in
theorem dw_apply (h : Fin 2) (q : Fin 3) (s : Fin 5632) : val_main_v78 (F := Ideal) x0 x1 x2 x3 (ix3 h q s) = gradW x0 x1 x2 x3 h s q := by
  rw [val_main_v78_apply, val_main_v77_apply, i2 (val_main_v70 (F := Ideal) x0 x1 x2 x3) _ q (chan h s)
    (Fin.ext (by show ((q.val * 2 + h.val) * 5632 + s.val) / 11264 = q.val; omega))
    (Fin.ext (by show ((q.val * 2 + h.val) * 5632 + s.val) % 11264 = 5632 * h.val + s.val; omega)), v70_apply x0 x1 x2 x3 f0 f1 f2 f3]

/-! ## The gradient of the bias -/

include f0 f1 f2 f3 in
theorem db_apply (h : Fin 2) (z : Fin 1) (s : Fin 5632) : val_main_v79 (F := Ideal) x0 x1 x2 x3 (ix3 h z s) = gradB x0 x1 x2 x3 h s := by
  rw [val_main_v79_apply, i1 (val_main_v39 (F := Ideal) x0 x1 x2 x3) _ (chan h s) (Fin.ext (by show (h.val * 1 + z.val) * 5632 + s.val = 5632 * h.val + s.val; omega)),
    val_main_v39_apply, val_main_cst_4_apply, Ideal.ofBits_def, Ideal.ofBits_zero_f32, zero_add,
    Fin.sum_univ_one, val_main_v38_apply, i1 (val_main_v37 (F := Ideal) x0 x1 x2 x3) _ (chan h s) (Fin.ext (by show 0 * 11264 + (chan h s).val = (chan h s).val; omega)),
    val_main_v37_apply, val_main_cst_3_apply, Ideal.ofBits_def, Ideal.ofBits_zero_f32, zero_add,
    Finset.sum_congr rfl fun n _ => (i2 (val_main_v36 (F := Ideal) x0 x1 x2 x3) _ n (chan h s) rfl rfl).trans (v36_apply x0 x1 x2 x3 f0 f1 f2 f3 n h s)]
  rfl

end Real

end Cert.ReferenceGateIdeal.Gate

end
-- ==== Proof.Gate.Finite.lean ====
/- What the precondition says: every element of the four arguments is a real. -/
module

public import proofs.«01_k».proof.Defs
public import proofs.«01_k».proof.Proof.Gen.Pre_finite_gate
public import proofs.«01_k».proof.Proof.Attn.Finite

@[expose] public section

set_option maxRecDepth 16384

noncomputable section

namespace Cert.Gate

open Idealize.ShloMosaic Idealize.ShloMosaic.TcCoe Idealize.SL.Sem
open Cert.Pre_finite_gate Cert.Pre_finite_gate.Facts

/-- Finite arguments hold reals. -/
theorem finite_real (x0 : FVec Ideal S8192x11264 .f32) (x1 : FVec Ideal S8192x5632 .f32) (x2 : FVec Ideal S3x11264 .f32) (x3 : FVec Ideal S11264 .f32)
    (h : Cert.Pre_finite_gate.fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have e := congrFun h ix0
  dsimp only [Cert.Pre_finite_gate.fn, Cert.Pre_finite_gate.fn_part1] at e
  obtain ⟨e, e3⟩ := IntOp.andi_eq_one.1 e
  obtain ⟨e, e2⟩ := IntOp.andi_eq_one.1 e
  obtain ⟨e0, e1⟩ := IntOp.andi_eq_one.1 e
  exact ⟨Cert.Attn.real_of_all x0 _ _ _ e0, Cert.Attn.real_of_all x1 _ _ _ e1, Cert.Attn.real_of_all x2 _ _ _ e2, Cert.Attn.real_of_all x3 _ _ _ e3⟩

end Cert.Gate

end
-- ==== Proof.Gate.Claims.lean ====
/- The claims about the backward call of the gated convolution, one by one. -/
module

public import proofs.«01_k».proof.Defs
public import proofs.«01_k».proof.Proof.Gen.KernelGate.Frame
public import proofs.«01_k».proof.Proof.Gate.Final
public import proofs.«01_k».proof.Proof.Gate.Reference
public import proofs.«01_k».proof.Proof.Gate.Finite

@[expose] public section

set_option maxRecDepth 16384

noncomputable section

namespace Cert.Gate

open Idealize.ShloMosaic Idealize.ShloMosaic.TcCoe Idealize.SL.Sem

theorem frame_k : Cert.quiescent_KernelGate := fun m ρ _ => Cert.KernelGate.Gen.frame m ρ
theorem frame_ki : Cert.quiescent_KernelGateIdeal := fun m ρ _ => Cert.KernelGateIdeal.Gen.frame m ρ
theorem frame_kif : Cert.quiescent_KernelGateIdeal_pre_finite_gate := fun m ρ _ => Cert.KernelGateIdeal.Gen.frame m ρ

theorem frame_r : Cert.quiescent_ReferenceGateIdeal := fun m ρ _ =>
  (θ_run Cert.ReferenceGateIdeal.defs _ _).mono (fun r h => ⟨fun c => (h c).2.2.2, Idealize.ShloMosaic.sem_eq_zero_of_no_sems (by decide) r.2⟩)
    (Cert.ReferenceGateIdeal.Value.run (F := Ideal) m ρ)
theorem frame_rf : Cert.quiescent_ReferenceGateIdeal_pre_finite_gate := fun m ρ _ => frame_r m ρ trivial

theorem preserves : Cert.preserves_KernelGate_KernelGateIdeal := trivial

/-- With finite arguments the call leaves the reference's three gradients. -/
theorem algebraic : Cert.algebraic_KernelGateIdeal_ReferenceGateIdeal_pre_finite_gate := by
  intro m g m' g' hpre hagree
  refine ⟨_, _, _, Cert.KernelGateIdeal.Value.run_blocks m g, ?_⟩
  refine (θ_run Cert.ReferenceGateIdeal.defs _ _).mono (fun r h c => ?_) (Cert.ReferenceGateIdeal.Value.run (F := Ideal) m' g')
  obtain ⟨a0, a1, a2, a3⟩ := hagree c
  obtain ⟨f0, f1, f2, f3⟩ := finite_real _ _ _ _ (hpre c)
  refine ⟨(h c).1.trans ?_, (h c).2.1.trans ?_, (h c).2.2.1.trans ?_, (h c).2.2.2⟩
  · rw [Cert.ReferenceGateIdeal.Read.val_main_v76_eq, a0, a1, a2, a3, Cert.KernelGateIdeal.Gate.final8]
    refine funext fun i => ?_
    obtain ⟨h, n, s, rfl⟩ : ∃ (a : Fin 2) (b : Fin 8192) (e : Fin 5632), i = ix3 a b e := ⟨i 0, i 1, i 2, ValueIdx.eq_ix3 i⟩
    exact Cert.ReferenceGateIdeal.Gate.du_apply _ _ _ _ f0 f1 f2 f3 h n s
  · rw [Cert.ReferenceGateIdeal.Read.val_main_v78_eq, a0, a1, a2, a3, Cert.KernelGateIdeal.Gate.final9]
    refine funext fun i => ?_
    obtain ⟨h, q, s, rfl⟩ : ∃ (a : Fin 2) (b : Fin 3) (e : Fin 5632), i = ix3 a b e := ⟨i 0, i 1, i 2, ValueIdx.eq_ix3 i⟩
    exact Cert.ReferenceGateIdeal.Gate.dw_apply _ _ _ _ f0 f1 f2 f3 h q s
  · rw [Cert.ReferenceGateIdeal.Read.val_main_v79_eq, a0, a1, a2, a3, Cert.KernelGateIdeal.Gate.final10]
    refine funext fun i => ?_
    obtain ⟨h, z, s, rfl⟩ : ∃ (a : Fin 2) (b : Fin 1) (e : Fin 5632), i = ix3 a b e := ⟨i 0, i 1, i 2, ValueIdx.eq_ix3 i⟩
    exact Cert.ReferenceGateIdeal.Gate.db_apply _ _ _ _ f0 f1 f2 f3 h z s

end Cert.Gate

end
-- ==== Proof.Act.Final.lean ====
/- The gated convolution: the array the call leaves. -/
module

public import proofs.«01_k».proof.Proof.Gen.KernelActIdeal.Value
public import proofs.«01_k».proof.Proof.Gate.Final

@[expose] public section

set_option maxRecDepth 16384

noncomputable section

/-- The gated convolution at a row and a channel: the first half `g` of the convolution as `g / (1 + exp (-g))`, times the second half. -/
def Cert.Gate.act (u : (⟨2, ![8192, 11264]⟩ : Idealize.ShloMosaic.Shape).Idx → EReal) (w : (⟨2, ![3, 11264]⟩ : Idealize.ShloMosaic.Shape).Idx → EReal)
    (b : (⟨1, ![11264]⟩ : Idealize.ShloMosaic.Shape).Idx → EReal) (n : Fin 8192) (s : Fin 5632) : EReal :=
  Cert.Gate.rowC u w b 0 s (n.val + 8) * Idealize.ShloMosaic.Ideal.logistic (Cert.Gate.rowC u w b 0 s (n.val + 8)) * Cert.Gate.rowC u w b 1 s (n.val + 8)

namespace Cert.KernelActIdeal.Act

open Cert.KernelActIdeal Cert.KernelActIdeal.Gen Cert.Ffn Cert.Gate Idealize.ShloMosaic Idealize.ShloMosaic.TcCoe Idealize.SL.Sem
open Cert.KernelGateIdeal.Gate (row col ent ent_at conv edge colU colC tile conv_tile halves_apply taps_apply bias_host half8 half512 half3 half1
  ld_half8_0 ld_half8_1 ld_half512_0 ld_half512_1 ld_half3_0 ld_half3_1 ld_half1_0 ld_half1_1)
open Idealize.ShloMosaic.Pipeline (Dat Window)
open Facts

/-! ## What a point computes: the tiles are those of the backward call -/

theorem first_half (i : grid0.Coords) (p : S1x8x512.Idx → EReal) (x : S1x512x512.Idx → EReal) (n : S1x8x512.Idx → EReal) (w : S1x3x512.Idx → EReal) (b : S1x1x512.Idx → EReal) :
    k0_pay2 (F := Ideal) i p x n w b = extractStridedSlice S512x512 ![8, 0]
      (Cert.KernelGateIdeal.Gen.k0_pay25 (F := Ideal) (Cert.KernelGateIdeal.Gen.k0_pay15 (F := Ideal) i p x n) w b) slices_S528x512_o8_0_S512x512 := rfl
theorem second_half (i : grid0.Coords) (p : S1x8x512.Idx → EReal) (x : S1x512x512.Idx → EReal) (n : S1x8x512.Idx → EReal) (w : S1x3x512.Idx → EReal) (b : S1x1x512.Idx → EReal) :
    k0_pay3 (F := Ideal) (BitVec.ofNat 32 (i 1).val) p x n w b = k0_pay2 (F := Ideal) i p x n w b := rfl

section
variable (i : grid0.Coords) (x0 : Vec Ideal S2x512x512 .f32) (x1 x2 : Vec Ideal S2x8x512 .f32) (x3 : Vec Ideal S2x3x512 .f32) (x4 : Vec Ideal S2x1x512 .f32)

theorem half_apply (h : Fin 2) (p s : Fin 512) :
    k0_pay2 (F := Ideal) i (half8 h x1) (half512 h x0) (half8 h x2) (half3 h x3) (half1 h x4) (ix2 p s) = colC i x0 x1 x2 x3 x4 h s (p.val + 8) := by
  rw [first_half, ← conv_tile i x0 x1 x2 x3 x4 h s (p.val + 8) (by omega) (by omega)]
  pointwise []
  exact ent_at _ s (p.val + 8) _ (by show 8 + p.val = p.val + 8; omega)

theorem point_apply (p s : Fin 512) :
    out0_5 (F := Ideal) i x0 x1 x2 x3 x4 (ix2 p s)
      = colC i x0 x1 x2 x3 x4 0 s (p.val + 8) * Ideal.logistic (colC i x0 x1 x2 x3 x4 0 s (p.val + 8)) * colC i x0 x1 x2 x3 x4 1 s (p.val + 8) := by
  unfold out0_5
  rw [View.canon_unit_zero (S := S512x512) zero2, ld_half8_0, ld_half8_1, ld_half8_0, ld_half8_1, ld_half512_0, ld_half512_1, ld_half3_0, ld_half3_1, ld_half1_0, ld_half1_1, second_half]
  rw [← half_apply, ← half_apply]
  rfl
end

/-! ## Where a point's blocks lie -/

theorem coord1 : ∀ t : Fin cfg0.N, (grid0.coords t 1).val = t.val % 16 := (by decide +kernel : ∀ t : Fin grid0.N, _)
theorem at0 : ∀ t : Fin cfg0.N, win0_0.index t = ![0, t.val % 16, t.val / 16] := (by decide +kernel : ∀ t : Fin grid0.N, _)
theorem at1 : ∀ t : Fin cfg0.N, win0_1.index t = ![0, 64 * (t.val % 16) - 1, t.val / 16] := (by decide +kernel : ∀ t : Fin grid0.N, _)
theorem at2 : ∀ t : Fin cfg0.N, win0_2.index t = ![0, min (64 * (t.val % 16) + 64) 1023, t.val / 16] := (by decide +kernel : ∀ t : Fin grid0.N, _)
theorem at3 : ∀ t : Fin cfg0.N, win0_3.index t = ![0, 0, t.val / 16] := (by decide +kernel : ∀ t : Fin grid0.N, _)
theorem at4 : ∀ t : Fin cfg0.N, win0_4.index t = ![0, 0, t.val / 16] := (by decide +kernel : ∀ t : Fin grid0.N, _)
theorem at5 : ∀ t : Fin cfg0.N, win0_5.index t = ![t.val % 16, t.val / 16] := (by decide +kernel : ∀ t : Fin grid0.N, _)

theorem lt_N (t : Fin cfg0.N) : t.val < 176 := t.isLt

variable (m : (ℓ : Loc nD τ sig) → Buf (Elt Ideal) ℓ) (c : Dev nD)

/-- The input of the convolution, the taps and the bias, as the call is launched with them. -/
abbrev aU : S8192x11264.Idx → EReal := m ((c : Thread nD τ).loc main_arg0)
abbrev aW : S3x11264.Idx → EReal := m ((c : Thread nD τ).loc main_arg1)
abbrev aB : S11264.Idx → EReal := m ((c : Thread nD τ).loc main_arg2)

theorem V_main_v1 : V m c main_v1 = transpose S2x8192x5632 [1, 0, 2] (shapeCast S8192x2x5632 (aU m c) shapeCasts_S8192x11264_S8192x2x5632) transposes_S8192x2x5632_S2x8192x5632_1_0_2 := by
  unfold_abbrev_sides
  after_results
  rfl
theorem V_main_v3 : V m c main_v3 = transpose S2x3x5632 [1, 0, 2] (shapeCast S3x2x5632 (aW m c) shapeCasts_S3x11264_S3x2x5632) transposes_S3x2x5632_S2x3x5632_1_0_2 := by
  unfold_abbrev_sides
  after_results
  rfl
theorem V_main_v4 : V m c main_v4 = shapeCast S2x1x5632 (aB m c) shapeCasts_S11264_S2x1x5632 := by
  unfold_abbrev_sides
  after_results
  rfl

theorem iblk0_apply (t : Fin cfg0.N) (h : Fin 2) (p : Fin 512) (s : Fin 512) :
    iblk m c 0 t (ix3 h p s) = aU m c (ix2 (row (512 * (t.val % 16)) p.val) (chan h (col (t.val / 16) s))) := by
  have ht := lt_N t
  have e : ((cfg0.win 0).blk t).view.emb (ix3 h p s) = (ix3 h (row (512 * (t.val % 16)) p.val) (col (t.val / 16) s) : S2x8192x5632.Idx) := by
    funext a
    apply Fin.ext
    match a with
    | ⟨0, _⟩ => show win0_0.index t 0 * 2 + 1 * h.val = h.val; rw [at0]; show 0 * 2 + 1 * h.val = _; omega
    | ⟨1, _⟩ => show win0_0.index t 1 * 512 + 1 * p.val = _ % 8192; rw [at0]; show t.val % 16 * 512 + 1 * p.val = (512 * (t.val % 16) + p.val) % 8192; omega
    | ⟨2, _⟩ => show win0_0.index t 2 * 512 + 1 * s.val = _ % 5632; rw [at0]; show t.val / 16 * 512 + 1 * s.val = (512 * (t.val / 16) + s.val) % 5632; omega
  unfold iblk
  rw [View.read_apply, e]
  show V m c main_v1 _ = _
  rw [V_main_v1, halves_apply]

theorem iblk1_apply (t : Fin cfg0.N) (h0 : 0 < t.val % 16) (h : Fin 2) (p : Fin 8) (s : Fin 512) :
    iblk m c 1 t (ix3 h p s) = aU m c (ix2 (row (512 * (t.val % 16) - 8) p.val) (chan h (col (t.val / 16) s))) := by
  have ht := lt_N t
  have e : ((cfg0.win 1).blk t).view.emb (ix3 h p s) = (ix3 h (row (512 * (t.val % 16) - 8) p.val) (col (t.val / 16) s) : S2x8192x5632.Idx) := by
    funext a
    apply Fin.ext
    match a with
    | ⟨0, _⟩ => show win0_1.index t 0 * 2 + 1 * h.val = h.val; rw [at1]; show 0 * 2 + 1 * h.val = _; omega
    | ⟨1, _⟩ => show win0_1.index t 1 * 8 + 1 * p.val = _ % 8192; rw [at1]; show (64 * (t.val % 16) - 1) * 8 + 1 * p.val = (512 * (t.val % 16) - 8 + p.val) % 8192; omega
    | ⟨2, _⟩ => show win0_1.index t 2 * 512 + 1 * s.val = _ % 5632; rw [at1]; show t.val / 16 * 512 + 1 * s.val = (512 * (t.val / 16) + s.val) % 5632; omega
  unfold iblk
  rw [View.read_apply, e]
  show V m c main_v1 _ = _
  rw [V_main_v1, halves_apply]

theorem iblk2_apply (t : Fin cfg0.N) (h0 : t.val % 16 < 15) (h : Fin 2) (p : Fin 8) (s : Fin 512) :
    iblk m c 2 t (ix3 h p s) = aU m c (ix2 (row (512 * (t.val % 16) + 512) p.val) (chan h (col (t.val / 16) s))) := by
  have ht := lt_N t
  have e : ((cfg0.win 2).blk t).view.emb (ix3 h p s) = (ix3 h (row (512 * (t.val % 16) + 512) p.val) (col (t.val / 16) s) : S2x8192x5632.Idx) := by
    funext a
    apply Fin.ext
    match a with
    | ⟨0, _⟩ => show win0_2.index t 0 * 2 + 1 * h.val = h.val; rw [at2]; show 0 * 2 + 1 * h.val = _; omega
    | ⟨1, _⟩ => show win0_2.index t 1 * 8 + 1 * p.val = _ % 8192; rw [at2]; show min (64 * (t.val % 16) + 64) 1023 * 8 + 1 * p.val = (512 * (t.val % 16) + 512 + p.val) % 8192; omega
    | ⟨2, _⟩ => show win0_2.index t 2 * 512 + 1 * s.val = _ % 5632; rw [at2]; show t.val / 16 * 512 + 1 * s.val = (512 * (t.val / 16) + s.val) % 5632; omega
  unfold iblk
  rw [View.read_apply, e]
  show V m c main_v1 _ = _
  rw [V_main_v1, halves_apply]

theorem iblk3_apply (t : Fin cfg0.N) (h : Fin 2) (p : Fin 3) (s : Fin 512) :
    iblk m c 3 t (ix3 h p s) = aW m c (ix2 p (chan h (col (t.val / 16) s))) := by
  have ht := lt_N t
  have e : ((cfg0.win 3).blk t).view.emb (ix3 h p s) = (ix3 h p (col (t.val / 16) s) : S2x3x5632.Idx) := by
    funext a
    apply Fin.ext
    match a with
    | ⟨0, _⟩ => show win0_3.index t 0 * 2 + 1 * h.val = h.val; rw [at3]; show 0 * 2 + 1 * h.val = _; omega
    | ⟨1, _⟩ => show win0_3.index t 1 * 3 + 1 * p.val = _; rw [at3]; show 0 * 3 + 1 * p.val = p.val; omega
    | ⟨2, _⟩ => show win0_3.index t 2 * 512 + 1 * s.val = _ % 5632; rw [at3]; show t.val / 16 * 512 + 1 * s.val = (512 * (t.val / 16) + s.val) % 5632; omega
  unfold iblk
  rw [View.read_apply, e]
  show V m c main_v3 _ = _
  rw [V_main_v3, taps_apply]

theorem iblk4_apply (t : Fin cfg0.N) (h : Fin 2) (s : Fin 512) :
    iblk m c 4 t (ix3 h (0 : Fin 1) s) = aB m c (ix1 (chan h (col (t.val / 16) s))) := by
  have ht := lt_N t
  have e : ((cfg0.win 4).blk t).view.emb (ix3 h (0 : Fin 1) s) = (ix3 h (0 : Fin 1) (col (t.val / 16) s) : S2x1x5632.Idx) := by
    funext a
    apply Fin.ext
    match a with
    | ⟨0, _⟩ => show win0_4.index t 0 * 2 + 1 * h.val = h.val; rw [at4]; show 0 * 2 + 1 * h.val = _; omega
    | ⟨1, _⟩ => show win0_4.index t 1 * 1 + 1 * 0 = _; rw [at4]; show 0 * 1 + 1 * 0 = 0; omega
    | ⟨2, _⟩ => show win0_4.index t 2 * 512 + 1 * s.val = _ % 5632; rw [at4]; show t.val / 16 * 512 + 1 * s.val = (512 * (t.val / 16) + s.val) % 5632; omega
  unfold iblk
  rw [View.read_apply, e]
  show V m c main_v4 _ = _
  rw [V_main_v4, bias_host]

theorem colU_eq (t : Fin cfg0.N) (h : Fin 2) (s : Fin 512) (r : ℕ) (hr : r < 528) :
    colU (grid0.coords t) (iblk m c 0 t) (iblk m c 1 t) (iblk m c 2 t) h s r = rowU (aU m c) h (col (t.val / 16) s) (512 * (t.val % 16) + r) := by
  unfold colU rowU
  rw [coord1]
  exact edge_pad _ (by omega) _ _ _ _ (fun h0 j => iblk1_apply m c t h0 h j s) (fun j => iblk0_apply m c t h j s) (fun h0 j => iblk2_apply m c t h0 h j s) r hr

theorem colC_eq (t : Fin cfg0.N) (h : Fin 2) (s : Fin 512) (r : ℕ) (h1 : 1 ≤ r) (hr : r < 527) :
    colC (grid0.coords t) (iblk m c 0 t) (iblk m c 1 t) (iblk m c 2 t) (iblk m c 3 t) (iblk m c 4 t) h s r = rowC (aU m c) (aW m c) (aB m c) h (col (t.val / 16) s) (512 * (t.val % 16) + r) := by
  unfold colC rowC conv tapW
  rw [colU_eq m c t h s (r - 1) (by omega), colU_eq m c t h s r (by omega), colU_eq m c t h s (r + 1) (by omega)]
  simp only [iblk3_apply, iblk4_apply]
  rw [show 512 * (t.val % 16) + r - 1 = 512 * (t.val % 16) + (r - 1) by omega, show 512 * (t.val % 16) + r + 1 = 512 * (t.val % 16) + (r + 1) by omega]

/-! ## The array -/

/-- The gated convolution, as the call lays it out. -/
def GA : S8192x5632.Idx → EReal := fun i => act (aU m c) (aW m c) (aB m c) (i 0) (i 1)

theorem emb5 (t : Fin cfg0.N) (p s : Fin 512) :
    ((cfg0.win 5).blk t).view.emb (ix2 p s) = (ix2 (row (512 * (t.val % 16)) p.val) (col (t.val / 16) s) : S8192x5632.Idx) := by
  have ht := lt_N t
  funext a
  apply Fin.ext
  match a with
  | ⟨0, _⟩ => show win0_5.index t 0 * 512 + 1 * p.val = _ % 8192; rw [at5]; show t.val % 16 * 512 + 1 * p.val = (512 * (t.val % 16) + p.val) % 8192; omega
  | ⟨1, _⟩ => show win0_5.index t 1 * 512 + 1 * s.val = _ % 5632; rw [at5]; show t.val / 16 * 512 + 1 * s.val = (512 * (t.val / 16) + s.val) % 5632; omega

theorem out_eq (t : Fin cfg0.N) (p s : Fin 512) :
    out0_5 (F := Ideal) (grid0.coords t) (iblk m c 0 t) (iblk m c 1 t) (iblk m c 2 t) (iblk m c 3 t) (iblk m c 4 t) (ix2 p s)
      = GA m c (ix2 (row (512 * (t.val % 16)) p.val) (col (t.val / 16) s)) := by
  have ht := lt_N t
  have e : (row (512 * (t.val % 16)) p.val).val = 512 * (t.val % 16) + p.val := by show (512 * (t.val % 16) + p.val) % 8192 = _; omega
  refine (point_apply (grid0.coords t) (iblk m c 0 t) (iblk m c 1 t) (iblk m c 2 t) (iblk m c 3 t) (iblk m c 4 t) p s).trans ?_
  rw [colC_eq m c t 0 s (p.val + 8) (by omega) (by omega), colC_eq m c t 1 s (p.val + 8) (by omega) (by omega)]
  show _ = act (aU m c) (aW m c) (aB m c) (row (512 * (t.val % 16)) p.val) (col (t.val / 16) s)
  unfold act
  rw [e]
  simp only [Nat.add_assoc]

theorem final5 : (dats m 0 c).arrAt 5 cfg0.N = GA m c := by
  refine (dats m 0 c).arrAt_eq_of_cover 5 (GA m c) (fun t hf => ?_) fun i => ?_
  · rw [Value.flushed5]
    refine funext fun (y : S512x512.Idx) => ?_
    obtain ⟨p, s, rfl⟩ : ∃ p s, y = ix2 p s := ⟨y 0, y 1, ValueIdx.eq_ix2 y⟩
    rw [View.read_apply, emb5]
    exact out_eq m c t p s
  · obtain ⟨a, b, rfl⟩ : ∃ (a : Fin 8192) (b : Fin 5632), i = (ix2 a b : S8192x5632.Idx) := ⟨i 0, i 1, ValueIdx.eq_ix2 i⟩
    let t : Fin cfg0.N := ⟨16 * (b.val / 512) + a.val / 512, by show _ < 176; omega⟩
    refine ⟨t, flush0_5 t, ?_⟩
    have e := emb5 t ⟨a.val % 512, by omega⟩ ⟨b.val % 512, by omega⟩
    rw [show row (512 * (t.val % 16)) (a.val % 512) = a from Fin.ext (by
        show (512 * ((16 * (b.val / 512) + a.val / 512) % 16) + a.val % 512) % 8192 = a.val; omega),
      show col (t.val / 16) ⟨b.val % 512, by omega⟩ = b from Fin.ext (by
        show (512 * ((16 * (b.val / 512) + a.val / 512) / 16) + b.val % 512) % 5632 = b.val; omega)] at e
    rw [← e]
    exact View.emb_mem_set _ _

end Cert.KernelActIdeal.Act

end
-- ==== Proof.Act.Reference.lean ====
/- What the reference leaves: the same gated convolution. -/
module

public import Idealize.ShloMosaic.Lib.Pointwise
public import proofs.«01_k».proof.Proof.Gen.ReferenceActIdeal.Read
public import proofs.«01_k».proof.Proof.Gate.Reference
public import proofs.«01_k».proof.Proof.Act.Final

@[expose] public section

set_option maxRecDepth 16384

noncomputable section

namespace Cert.ReferenceActIdeal.Act

open Cert.ReferenceActIdeal Cert.ReferenceActIdeal.Gen Cert.ReferenceActIdeal.Read Idealize.ShloMosaic Idealize.ShloMosaic.TcCoe Idealize.SL.Sem
open Cert.Gate (chan rowU rowC tapW act)
open Cert.KernelGateIdeal.Gate (conv one_word)
open Cert.ReferenceGateIdeal.Gate (i1 wide_apply)
open Cert.ReferenceIdeal.Attn (i2)

variable (x0 : S8192x11264.Idx → EReal) (x1 : S3x11264.Idx → EReal) (x2 : S11264.Idx → EReal)

theorem v1_apply (q : Fin 8194) (c : Fin 11264) : val_main_v1 (F := Ideal) x0 (ix2 q c) = Cert.Gate.pad (fun j => x0 (ix2 j c)) (q.val + 7) := by
  unfold val_main_v1
  refine wide_apply _ x0 _ _ q c (fun i => ?_) fun i => ?_
  · rw [val_main_v0_apply, val_main_cst_apply, Ideal.ofBits_def, Ideal.ofBits_zero_f32]
  · rw [val_main_v0_apply, val_main_cst_apply, Ideal.ofBits_def, Ideal.ofBits_zero_f32]

theorem v4_apply (n : Fin 8192) (h : Fin 2) (s : Fin 5632) : val_main_v4 (F := Ideal) x0 (ix2 n (chan h s)) = rowU x0 h s (n.val + 7) := by
  rw [val_main_v4_apply, i2 (val_main_v1 (F := Ideal) x0) _ ⟨n.val + 0, by omega⟩ (chan h s) (Fin.ext (by show n.val = n.val + 0; omega)) rfl, v1_apply]
  rfl
theorem v12_apply (n : Fin 8192) (h : Fin 2) (s : Fin 5632) : val_main_v12 (F := Ideal) x0 (ix2 n (chan h s)) = rowU x0 h s (n.val + 8) := by
  rw [val_main_v12_apply, i2 (val_main_v1 (F := Ideal) x0) _ ⟨n.val + 1, by omega⟩ (chan h s) (Fin.ext (by show 1 + n.val = n.val + 1; omega)) rfl, v1_apply]
  rfl
theorem v19_apply (n : Fin 8192) (h : Fin 2) (s : Fin 5632) : val_main_v19 (F := Ideal) x0 (ix2 n (chan h s)) = rowU x0 h s (n.val + 9) := by
  rw [val_main_v19_apply, i2 (val_main_v1 (F := Ideal) x0) _ ⟨n.val + 2, by omega⟩ (chan h s) (Fin.ext (by show 2 + n.val = n.val + 2; omega)) rfl, v1_apply]
  rfl
theorem v6_apply (n : Fin 8192) (h : Fin 2) (s : Fin 5632) : val_main_v6 (F := Ideal) x1 (ix2 n (chan h s)) = tapW x1 h s 0 := by
  rw [val_main_v6_apply, val_main_v5_apply, val_main_v3_apply, val_main_v2_apply]
  exact i2 x1 _ 0 (chan h s) rfl (Fin.ext (Nat.mod_eq_of_lt (chan h s).isLt))
theorem v14_apply (n : Fin 8192) (h : Fin 2) (s : Fin 5632) : val_main_v14 (F := Ideal) x1 (ix2 n (chan h s)) = tapW x1 h s 1 := by
  rw [val_main_v14_apply, val_main_v13_apply, val_main_v11_apply, val_main_v10_apply]
  exact i2 x1 _ 1 (chan h s) rfl (Fin.ext (Nat.mod_eq_of_lt (chan h s).isLt))
theorem v21_apply (n : Fin 8192) (h : Fin 2) (s : Fin 5632) : val_main_v21 (F := Ideal) x1 (ix2 n (chan h s)) = tapW x1 h s 2 := by
  rw [val_main_v21_apply, val_main_v20_apply, val_main_v18_apply, val_main_v17_apply]
  exact i2 x1 _ 2 (chan h s) rfl (Fin.ext (Nat.mod_eq_of_lt (chan h s).isLt))

theorem v26_apply (n : Fin 8192) (h : Fin 2) (s : Fin 5632) : val_main_v26 (F := Ideal) x0 x1 x2 (ix2 n (chan h s)) = rowC x0 x1 x2 h s (n.val + 8) := by
  have e : val_main_v25 (F := Ideal) x2 (ix2 n (chan h s)) = x2 (ix1 (chan h s)) := by
    rw [val_main_v25_apply, val_main_v24_apply]
    exact i1 x2 _ (chan h s) rfl
  rw [val_main_v26_apply, e, val_main_v23_apply, val_main_v16_apply, val_main_v9_apply, val_main_v7_apply, val_main_v15_apply, val_main_v22_apply,
    val_main_v8_apply, val_main_cst_0_apply, v4_apply, v12_apply, v19_apply, v6_apply, v14_apply, v21_apply]
  simp only [Ideal.addf_def, Ideal.mulf_def, Ideal.ofBits_def, Ideal.ofBits_zero_f32, zero_add]
  rfl

theorem v27_apply (n : Fin 8192) (s : Fin 5632) : val_main_v27 (F := Ideal) x0 x1 x2 (ix2 n s) = rowC x0 x1 x2 0 s (n.val + 8) := by
  rw [val_main_v27_apply, i2 (val_main_v26 (F := Ideal) x0 x1 x2) _ n (chan 0 s) rfl (Fin.ext (by show s.val = 5632 * 0 + s.val; omega)), v26_apply]
theorem v28_apply (n : Fin 8192) (s : Fin 5632) : val_main_v28 (F := Ideal) x0 x1 x2 (ix2 n s) = rowC x0 x1 x2 1 s (n.val + 8) := by
  rw [val_main_v28_apply, i2 (val_main_v26 (F := Ideal) x0 x1 x2) _ n (chan 1 s) rfl (Fin.ext (by show 5632 + s.val = 5632 * 1 + s.val; omega)), v26_apply]

theorem act_apply (n : Fin 8192) (s : Fin 5632) : act x0 x1 x2 n s = val_main_v31 (F := Ideal) x0 x1 x2 (ix2 n s) := by
  rw [val_main_v31_apply, val_main_v30_apply, val_main_v29_apply, val_main_call0_v5_apply, val_main_call0_v4_apply, val_main_call0_cst_0_apply,
    val_main_call0_v3_apply, val_main_call0_v2_apply, val_main_call0_cst_apply, val_main_call0_v1_apply, val_main_call0_v0_apply, v27_apply, v28_apply]
  simp only [Ideal.addf_def, Ideal.ofBits_def, one_word]
  rfl

end Cert.ReferenceActIdeal.Act

end
-- ==== Proof.Act.Claims.lean ====
/- The claims about the forward call of the gated convolution, one by one. -/
module

public import proofs.«01_k».proof.Defs
public import proofs.«01_k».proof.Proof.Gen.KernelAct.Frame
public import proofs.«01_k».proof.Proof.Act.Final
public import proofs.«01_k».proof.Proof.Act.Reference

@[expose] public section

set_option maxRecDepth 16384

noncomputable section

namespace Cert.Act

open Idealize.ShloMosaic Idealize.ShloMosaic.TcCoe Idealize.SL.Sem

theorem frame_k : Cert.quiescent_KernelAct := fun m ρ _ => Cert.KernelAct.Gen.frame m ρ
theorem frame_ki : Cert.quiescent_KernelActIdeal := fun m ρ _ => Cert.KernelActIdeal.Gen.frame m ρ

theorem frame_r : Cert.quiescent_ReferenceActIdeal := fun m ρ _ =>
  (θ_run Cert.ReferenceActIdeal.defs _ _).mono (fun r h => ⟨fun c => (h c).2, Idealize.ShloMosaic.sem_eq_zero_of_no_sems (by decide) r.2⟩)
    (Cert.ReferenceActIdeal.Value.run (F := Ideal) m ρ)

theorem preserves : Cert.preserves_KernelAct_KernelActIdeal := trivial

/-- The call leaves the reference's gated convolution. -/
theorem algebraic : Cert.algebraic_KernelActIdeal_ReferenceActIdeal := by
  intro m g m' g' _ hagree
  refine ⟨_, Cert.KernelActIdeal.Value.run_blocks m g, ?_⟩
  refine (θ_run Cert.ReferenceActIdeal.defs _ _).mono (fun r h c => ?_) (Cert.ReferenceActIdeal.Value.run (F := Ideal) m' g')
  obtain ⟨a0, a1, a2⟩ := hagree c
  refine ⟨(h c).1.trans ?_, (h c).2⟩
  rw [Cert.ReferenceActIdeal.Read.val_main_v31_eq, a0, a1, a2, Cert.KernelActIdeal.Act.final5]
  refine funext fun i => ?_
  obtain ⟨n, s, rfl⟩ : ∃ (b : Fin 8192) (e : Fin 5632), i = ix2 b e := ⟨i 0, i 1, ValueIdx.eq_ix2 i⟩
  exact (Cert.ReferenceActIdeal.Act.act_apply _ _ _ n s).symm

end Cert.Act

end
-- ==== Proof.lean ====
/- The certificate: the frames, the named logarithm of two, and the values of the calls. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelDa
public import proofs.«01_k».proof.Proof.Gen.KernelDa.Skeleton
public import proofs.«01_k».proof.Proof.Gen.KernelDa.Launch
public import proofs.«01_k».proof.Proof.Gen.KernelDa.Points
public import proofs.«01_k».proof.Proof.Gen.KernelDa.Frame
public import proofs.«01_k».proof.Proof.Gen.KernelDaIdeal
public import proofs.«01_k».proof.Proof.Gen.KernelDaIdeal.Skeleton
public import proofs.«01_k».proof.Proof.Gen.KernelDaIdeal.Launch
public import proofs.«01_k».proof.Proof.Gen.KernelDaIdeal.Points
public import proofs.«01_k».proof.Proof.Gen.KernelDaIdeal.Frame
public import proofs.«01_k».proof.Proof.Gen.ReferenceDaIdeal
public import proofs.«01_k».proof.Proof.Gen.KernelDwdown
public import proofs.«01_k».proof.Proof.Gen.KernelDwdown.Skeleton
public import proofs.«01_k».proof.Proof.Gen.KernelDwdown.Launch
public import proofs.«01_k».proof.Proof.Gen.KernelDwdown.Points
public import proofs.«01_k».proof.Proof.Gen.KernelDwdown.Frame
public import proofs.«01_k».proof.Proof.Gen.KernelDwdownIdeal
public import proofs.«01_k».proof.Proof.Gen.KernelDwdownIdeal.Skeleton
public import proofs.«01_k».proof.Proof.Gen.KernelDwdownIdeal.Launch
public import proofs.«01_k».proof.Proof.Gen.KernelDwdownIdeal.Points
public import proofs.«01_k».proof.Proof.Gen.KernelDwdownIdeal.Frame
public import proofs.«01_k».proof.Proof.Gen.ReferenceDwdownIdeal
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.ReferenceDhIdeal
public import proofs.«01_k».proof.Proof.Gen.KernelDwup
public import proofs.«01_k».proof.Proof.Gen.KernelDwup.Skeleton
public import proofs.«01_k».proof.Proof.Gen.KernelDwup.Launch
public import proofs.«01_k».proof.Proof.Gen.KernelDwup.Points
public import proofs.«01_k».proof.Proof.Gen.KernelDwup.Frame
public import proofs.«01_k».proof.Proof.Gen.KernelDwupIdeal
public import proofs.«01_k».proof.Proof.Gen.KernelDwupIdeal.Skeleton
public import proofs.«01_k».proof.Proof.Gen.KernelDwupIdeal.Launch
public import proofs.«01_k».proof.Proof.Gen.KernelDwupIdeal.Points
public import proofs.«01_k».proof.Proof.Gen.KernelDwupIdeal.Frame
public import proofs.«01_k».proof.Proof.Gen.ReferenceDwupIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.ReferenceQkvIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelDo
public import proofs.«01_k».proof.Proof.Gen.KernelDo.Skeleton
public import proofs.«01_k».proof.Proof.Gen.KernelDo.Launch
public import proofs.«01_k».proof.Proof.Gen.KernelDo.Points
public import proofs.«01_k».proof.Proof.Gen.KernelDo.Frame
public import proofs.«01_k».proof.Proof.Gen.KernelDoIdeal
public import proofs.«01_k».proof.Proof.Gen.KernelDoIdeal.Skeleton
public import proofs.«01_k».proof.Proof.Gen.KernelDoIdeal.Launch
public import proofs.«01_k».proof.Proof.Gen.KernelDoIdeal.Points
public import proofs.«01_k».proof.Proof.Gen.KernelDoIdeal.Frame
public import proofs.«01_k».proof.Proof.Gen.ReferenceDoIdeal
public import proofs.«01_k».proof.Proof.Gen.KernelDwo
public import proofs.«01_k».proof.Proof.Gen.KernelDwo.Skeleton
public import proofs.«01_k».proof.Proof.Gen.KernelDwo.Launch
public import proofs.«01_k».proof.Proof.Gen.KernelDwo.Points
public import proofs.«01_k».proof.Proof.Gen.KernelDwo.Frame
public import proofs.«01_k».proof.Proof.Gen.KernelDwoIdeal
public import proofs.«01_k».proof.Proof.Gen.KernelDwoIdeal.Skeleton
public import proofs.«01_k».proof.Proof.Gen.KernelDwoIdeal.Launch
public import proofs.«01_k».proof.Proof.Gen.KernelDwoIdeal.Points
public import proofs.«01_k».proof.Proof.Gen.KernelDwoIdeal.Frame
public import proofs.«01_k».proof.Proof.Gen.ReferenceDwoIdeal
public import proofs.«01_k».proof.Proof.Gen.KernelDmix
public import proofs.«01_k».proof.Proof.Gen.KernelDmix.Skeleton
public import proofs.«01_k».proof.Proof.Gen.KernelDmix.Launch
public import proofs.«01_k».proof.Proof.Gen.KernelDmix.Points
public import proofs.«01_k».proof.Proof.Gen.KernelDmix.Frame
public import proofs.«01_k».proof.Proof.Gen.KernelDmixIdeal
public import proofs.«01_k».proof.Proof.Gen.KernelDmixIdeal.Skeleton
public import proofs.«01_k».proof.Proof.Gen.KernelDmixIdeal.Launch
public import proofs.«01_k».proof.Proof.Gen.KernelDmixIdeal.Points
public import proofs.«01_k».proof.Proof.Gen.KernelDmixIdeal.Frame
public import proofs.«01_k».proof.Proof.Gen.ReferenceDmixIdeal
public import proofs.«01_k».proof.Proof.Gen.KernelDwqkv
public import proofs.«01_k».proof.Proof.Gen.KernelDwqkv.Skeleton
public import proofs.«01_k».proof.Proof.Gen.KernelDwqkv.Launch
public import proofs.«01_k».proof.Proof.Gen.KernelDwqkv.Points
public import proofs.«01_k».proof.Proof.Gen.KernelDwqkv.Frame
public import proofs.«01_k».proof.Proof.Gen.KernelDwqkvIdeal
public import proofs.«01_k».proof.Proof.Gen.KernelDwqkvIdeal.Skeleton
public import proofs.«01_k».proof.Proof.Gen.KernelDwqkvIdeal.Launch
public import proofs.«01_k».proof.Proof.Gen.KernelDwqkvIdeal.Points
public import proofs.«01_k».proof.Proof.Gen.KernelDwqkvIdeal.Frame
public import proofs.«01_k».proof.Proof.Gen.ReferenceDwqkvIdeal
public import proofs.«01_k».proof.Proof.Gen.KernelFlash
public import proofs.«01_k».proof.Proof.Gen.KernelFlash.Skeleton
public import proofs.«01_k».proof.Proof.Gen.KernelFlash.Loops
public import proofs.«01_k».proof.Proof.Gen.KernelFlash.Launch
public import proofs.«01_k».proof.Proof.Gen.KernelFlash.Points
public import proofs.«01_k».proof.Proof.Gen.KernelFlash.Frame
public import proofs.«01_k».proof.Proof.Gen.KernelFlashIdeal
public import proofs.«01_k».proof.Proof.Gen.KernelFlashIdeal.Skeleton
public import proofs.«01_k».proof.Proof.Gen.KernelFlashIdeal.Loops
public import proofs.«01_k».proof.Proof.Gen.KernelFlashIdeal.Launch
public import proofs.«01_k».proof.Proof.Gen.KernelFlashIdeal.Points
public import proofs.«01_k».proof.Proof.Gen.KernelFlashIdeal.Frame
public import proofs.«01_k».proof.Proof.Gen.ReferenceFlashIdeal
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.ReferenceGluIdeal
public import proofs.«01_k».proof.Proof.Gen.KernelDwglu
public import proofs.«01_k».proof.Proof.Gen.KernelDwglu.Skeleton
public import proofs.«01_k».proof.Proof.Gen.KernelDwglu.Launch
public import proofs.«01_k».proof.Proof.Gen.KernelDwglu.Points
public import proofs.«01_k».proof.Proof.Gen.KernelDwglu.Frame
public import proofs.«01_k».proof.Proof.Gen.KernelDwgluIdeal
public import proofs.«01_k».proof.Proof.Gen.KernelDwgluIdeal.Skeleton
public import proofs.«01_k».proof.Proof.Gen.KernelDwgluIdeal.Launch
public import proofs.«01_k».proof.Proof.Gen.KernelDwgluIdeal.Points
public import proofs.«01_k».proof.Proof.Gen.KernelDwgluIdeal.Frame
public import proofs.«01_k».proof.Proof.Gen.ReferenceDwgluIdeal
public import proofs.«01_k».proof.Proof.Gen.KernelDz
public import proofs.«01_k».proof.Proof.Gen.KernelDz.Skeleton
public import proofs.«01_k».proof.Proof.Gen.KernelDz.Launch
public import proofs.«01_k».proof.Proof.Gen.KernelDz.Points
public import proofs.«01_k».proof.Proof.Gen.KernelDz.Frame
public import proofs.«01_k».proof.Proof.Gen.KernelDzIdeal
public import proofs.«01_k».proof.Proof.Gen.KernelDzIdeal.Skeleton
public import proofs.«01_k».proof.Proof.Gen.KernelDzIdeal.Launch
public import proofs.«01_k».proof.Proof.Gen.KernelDzIdeal.Points
public import proofs.«01_k».proof.Proof.Gen.KernelDzIdeal.Frame
public import proofs.«01_k».proof.Proof.Gen.ReferenceDzIdeal
public import proofs.«01_k».proof.Proof.Gen.KernelLow
public import proofs.«01_k».proof.Proof.Gen.KernelLow.Skeleton
public import proofs.«01_k».proof.Proof.Gen.KernelLow.Launch
public import proofs.«01_k».proof.Proof.Gen.KernelLow.Points
public import proofs.«01_k».proof.Proof.Gen.KernelLow.Frame
public import proofs.«01_k».proof.Proof.Gen.KernelLowIdeal
public import proofs.«01_k».proof.Proof.Gen.KernelLowIdeal.Skeleton
public import proofs.«01_k».proof.Proof.Gen.KernelLowIdeal.Launch
public import proofs.«01_k».proof.Proof.Gen.KernelLowIdeal.Points
public import proofs.«01_k».proof.Proof.Gen.KernelLowIdeal.Frame
public import proofs.«01_k».proof.Proof.Gen.ReferenceLowIdeal
public import proofs.«01_k».proof.Proof.Gen.KernelDwlow
public import proofs.«01_k».proof.Proof.Gen.KernelDwlow.Skeleton
public import proofs.«01_k».proof.Proof.Gen.KernelDwlow.Launch
public import proofs.«01_k».proof.Proof.Gen.KernelDwlow.Points
public import proofs.«01_k».proof.Proof.Gen.KernelDwlow.Frame
public import proofs.«01_k».proof.Proof.Gen.KernelDwlowIdeal
public import proofs.«01_k».proof.Proof.Gen.KernelDwlowIdeal.Skeleton
public import proofs.«01_k».proof.Proof.Gen.KernelDwlowIdeal.Launch
public import proofs.«01_k».proof.Proof.Gen.KernelDwlowIdeal.Points
public import proofs.«01_k».proof.Proof.Gen.KernelDwlowIdeal.Frame
public import proofs.«01_k».proof.Proof.Gen.ReferenceDwlowIdeal
public import proofs.«01_k».proof.Proof.Gen.KernelDlow
public import proofs.«01_k».proof.Proof.Gen.KernelDlow.Skeleton
public import proofs.«01_k».proof.Proof.Gen.KernelDlow.Launch
public import proofs.«01_k».proof.Proof.Gen.KernelDlow.Points
public import proofs.«01_k».proof.Proof.Gen.KernelDlow.Frame
public import proofs.«01_k».proof.Proof.Gen.KernelDlowIdeal
public import proofs.«01_k».proof.Proof.Gen.KernelDlowIdeal.Skeleton
public import proofs.«01_k».proof.Proof.Gen.KernelDlowIdeal.Launch
public import proofs.«01_k».proof.Proof.Gen.KernelDlowIdeal.Points
public import proofs.«01_k».proof.Proof.Gen.KernelDlowIdeal.Frame
public import proofs.«01_k».proof.Proof.Gen.ReferenceDlowIdeal
public import proofs.«01_k».proof.Proof.Gen.KernelUq
public import proofs.«01_k».proof.Proof.Gen.KernelUq.Skeleton
public import proofs.«01_k».proof.Proof.Gen.KernelUq.Launch
public import proofs.«01_k».proof.Proof.Gen.KernelUq.Points
public import proofs.«01_k».proof.Proof.Gen.KernelUq.Frame
public import proofs.«01_k».proof.Proof.Gen.KernelUqIdeal
public import proofs.«01_k».proof.Proof.Gen.KernelUqIdeal.Skeleton
public import proofs.«01_k».proof.Proof.Gen.KernelUqIdeal.Launch
public import proofs.«01_k».proof.Proof.Gen.KernelUqIdeal.Points
public import proofs.«01_k».proof.Proof.Gen.KernelUqIdeal.Frame
public import proofs.«01_k».proof.Proof.Gen.ReferenceUqIdeal
public import proofs.«01_k».proof.Proof.Gen.KernelDwuq
public import proofs.«01_k».proof.Proof.Gen.KernelDwuq.Skeleton
public import proofs.«01_k».proof.Proof.Gen.KernelDwuq.Launch
public import proofs.«01_k».proof.Proof.Gen.KernelDwuq.Points
public import proofs.«01_k».proof.Proof.Gen.KernelDwuq.Frame
public import proofs.«01_k».proof.Proof.Gen.KernelDwuqIdeal
public import proofs.«01_k».proof.Proof.Gen.KernelDwuqIdeal.Skeleton
public import proofs.«01_k».proof.Proof.Gen.KernelDwuqIdeal.Launch
public import proofs.«01_k».proof.Proof.Gen.KernelDwuqIdeal.Points
public import proofs.«01_k».proof.Proof.Gen.KernelDwuqIdeal.Frame
public import proofs.«01_k».proof.Proof.Gen.ReferenceDwuqIdeal
public import proofs.«01_k».proof.Proof.Gen.KernelDcq
public import proofs.«01_k».proof.Proof.Gen.KernelDcq.Skeleton
public import proofs.«01_k».proof.Proof.Gen.KernelDcq.Launch
public import proofs.«01_k».proof.Proof.Gen.KernelDcq.Points
public import proofs.«01_k».proof.Proof.Gen.KernelDcq.Frame
public import proofs.«01_k».proof.Proof.Gen.KernelDcqIdeal
public import proofs.«01_k».proof.Proof.Gen.KernelDcqIdeal.Skeleton
public import proofs.«01_k».proof.Proof.Gen.KernelDcqIdeal.Launch
public import proofs.«01_k».proof.Proof.Gen.KernelDcqIdeal.Points
public import proofs.«01_k».proof.Proof.Gen.KernelDcqIdeal.Frame
public import proofs.«01_k».proof.Proof.Gen.ReferenceDcqIdeal
public import proofs.«01_k».proof.Proof.Gen.KernelUkv
public import proofs.«01_k».proof.Proof.Gen.KernelUkv.Skeleton
public import proofs.«01_k».proof.Proof.Gen.KernelUkv.Launch
public import proofs.«01_k».proof.Proof.Gen.KernelUkv.Points
public import proofs.«01_k».proof.Proof.Gen.KernelUkv.Frame
public import proofs.«01_k».proof.Proof.Gen.KernelUkvIdeal
public import proofs.«01_k».proof.Proof.Gen.KernelUkvIdeal.Skeleton
public import proofs.«01_k».proof.Proof.Gen.KernelUkvIdeal.Launch
public import proofs.«01_k».proof.Proof.Gen.KernelUkvIdeal.Points
public import proofs.«01_k».proof.Proof.Gen.KernelUkvIdeal.Frame
public import proofs.«01_k».proof.Proof.Gen.ReferenceUkvIdeal
public import proofs.«01_k».proof.Proof.Gen.KernelDwukv
public import proofs.«01_k».proof.Proof.Gen.KernelDwukv.Skeleton
public import proofs.«01_k».proof.Proof.Gen.KernelDwukv.Launch
public import proofs.«01_k».proof.Proof.Gen.KernelDwukv.Points
public import proofs.«01_k».proof.Proof.Gen.KernelDwukv.Frame
public import proofs.«01_k».proof.Proof.Gen.KernelDwukvIdeal
public import proofs.«01_k».proof.Proof.Gen.KernelDwukvIdeal.Skeleton
public import proofs.«01_k».proof.Proof.Gen.KernelDwukvIdeal.Launch
public import proofs.«01_k».proof.Proof.Gen.KernelDwukvIdeal.Points
public import proofs.«01_k».proof.Proof.Gen.KernelDwukvIdeal.Frame
public import proofs.«01_k».proof.Proof.Gen.ReferenceDwukvIdeal
public import proofs.«01_k».proof.Proof.Gen.KernelDckv
public import proofs.«01_k».proof.Proof.Gen.KernelDckv.Skeleton
public import proofs.«01_k».proof.Proof.Gen.KernelDckv.Launch
public import proofs.«01_k».proof.Proof.Gen.KernelDckv.Points
public import proofs.«01_k».proof.Proof.Gen.KernelDckv.Frame
public import proofs.«01_k».proof.Proof.Gen.KernelDckvIdeal
public import proofs.«01_k».proof.Proof.Gen.KernelDckvIdeal.Skeleton
public import proofs.«01_k».proof.Proof.Gen.KernelDckvIdeal.Launch
public import proofs.«01_k».proof.Proof.Gen.KernelDckvIdeal.Points
public import proofs.«01_k».proof.Proof.Gen.KernelDckvIdeal.Frame
public import proofs.«01_k».proof.Proof.Gen.ReferenceDckvIdeal
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.ReferenceGateIdeal
public import proofs.«01_k».proof.Proof.Gen.KernelAct
public import proofs.«01_k».proof.Proof.Gen.KernelAct.Skeleton
public import proofs.«01_k».proof.Proof.Gen.KernelAct.Launch
public import proofs.«01_k».proof.Proof.Gen.KernelAct.Points
public import proofs.«01_k».proof.Proof.Gen.KernelAct.Frame
public import proofs.«01_k».proof.Proof.Gen.KernelActIdeal
public import proofs.«01_k».proof.Proof.Gen.KernelActIdeal.Skeleton
public import proofs.«01_k».proof.Proof.Gen.KernelActIdeal.Launch
public import proofs.«01_k».proof.Proof.Gen.KernelActIdeal.Points
public import proofs.«01_k».proof.Proof.Gen.KernelActIdeal.Frame
public import proofs.«01_k».proof.Proof.Gen.ReferenceActIdeal
public import proofs.«01_k».proof.Proof.Gen.Pre_finite
public import proofs.«01_k».proof.Proof.Gen.Pre_finite_qkv
public import proofs.«01_k».proof.Proof.Gen.Pre_finite_gate
public import proofs.«01_k».proof.Proof.Attn.Claims
public import proofs.«01_k».proof.Proof.Ffn.Da.Claims
public import proofs.«01_k».proof.Proof.Ffn.Dwdown.Claims
public import proofs.«01_k».proof.Proof.Ffn.Dh.Claims
public import proofs.«01_k».proof.Proof.Ffn.Dwup.Claims
public import proofs.«01_k».proof.Proof.Ffn.Up.Claims
public import proofs.«01_k».proof.Proof.Ffn.Down.Claims
public import proofs.«01_k».proof.Proof.Ffn.Norm.Claims
public import proofs.«01_k».proof.Proof.Mix.Qkv.Claims
public import proofs.«01_k».proof.Proof.Mix.Out.Claims
public import proofs.«01_k».proof.Proof.Mix.Do.Claims
public import proofs.«01_k».proof.Proof.Mix.Dwo.Claims
public import proofs.«01_k».proof.Proof.Mix.Dmix.Claims
public import proofs.«01_k».proof.Proof.Mix.Dwqkv.Claims
public import proofs.«01_k».proof.Proof.Flash.Claims
public import proofs.«01_k».proof.Proof.Mix.Glu.Claims
public import proofs.«01_k».proof.Proof.Mix.Dwglu.Claims
public import proofs.«01_k».proof.Proof.Mix.Dz.Claims
public import proofs.«01_k».proof.Proof.Mix.Low.Claims
public import proofs.«01_k».proof.Proof.Mix.Dwlow.Claims
public import proofs.«01_k».proof.Proof.Mix.Dlow.Claims
public import proofs.«01_k».proof.Proof.Mix.Uq.Claims
public import proofs.«01_k».proof.Proof.Mix.Dwuq.Claims
public import proofs.«01_k».proof.Proof.Mix.Dcq.Claims
public import proofs.«01_k».proof.Proof.Mix.Ukv.Claims
public import proofs.«01_k».proof.Proof.Mix.Dwukv.Claims
public import proofs.«01_k».proof.Proof.Mix.Dckv.Claims
public import proofs.«01_k».proof.Proof.Gate.Claims
public import proofs.«01_k».proof.Proof.Act.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.KernelDa.Gen.facts,
    Cert.KernelDaIdeal.Gen.facts,
    Cert.ReferenceDaIdeal.Gen.facts,
    Cert.KernelDwdown.Gen.facts,
    Cert.KernelDwdownIdeal.Gen.facts,
    Cert.ReferenceDwdownIdeal.Gen.facts,
    Cert.KernelDh.Gen.facts,
    Cert.KernelDhIdeal.Gen.facts,
    Cert.ReferenceDhIdeal.Gen.facts,
    Cert.KernelDwup.Gen.facts,
    Cert.KernelDwupIdeal.Gen.facts,
    Cert.ReferenceDwupIdeal.Gen.facts,
    Cert.KernelUp.Gen.facts,
    Cert.KernelUpIdeal.Gen.facts,
    Cert.ReferenceUpIdeal.Gen.facts,
    Cert.KernelDown.Gen.facts,
    Cert.KernelDownIdeal.Gen.facts,
    Cert.ReferenceDownIdeal.Gen.facts,
    Cert.KernelNorm.Gen.facts,
    Cert.KernelNormIdeal.Gen.facts,
    Cert.ReferenceNormIdeal.Gen.facts,
    Cert.KernelQkv.Gen.facts,
    Cert.KernelQkvIdeal.Gen.facts,
    Cert.ReferenceQkvIdeal.Gen.facts,
    Cert.KernelOut.Gen.facts,
    Cert.KernelOutIdeal.Gen.facts,
    Cert.ReferenceOutIdeal.Gen.facts,
    Cert.KernelDo.Gen.facts,
    Cert.KernelDoIdeal.Gen.facts,
    Cert.ReferenceDoIdeal.Gen.facts,
    Cert.KernelDwo.Gen.facts,
    Cert.KernelDwoIdeal.Gen.facts,
    Cert.ReferenceDwoIdeal.Gen.facts,
    Cert.KernelDmix.Gen.facts,
    Cert.KernelDmixIdeal.Gen.facts,
    Cert.ReferenceDmixIdeal.Gen.facts,
    Cert.KernelDwqkv.Gen.facts,
    Cert.KernelDwqkvIdeal.Gen.facts,
    Cert.ReferenceDwqkvIdeal.Gen.facts,
    Cert.KernelFlash.Gen.facts,
    Cert.KernelFlashIdeal.Gen.facts,
    Cert.ReferenceFlashIdeal.Gen.facts,
    Cert.KernelGlu.Gen.facts,
    Cert.KernelGluIdeal.Gen.facts,
    Cert.ReferenceGluIdeal.Gen.facts,
    Cert.KernelDwglu.Gen.facts,
    Cert.KernelDwgluIdeal.Gen.facts,
    Cert.ReferenceDwgluIdeal.Gen.facts,
    Cert.KernelDz.Gen.facts,
    Cert.KernelDzIdeal.Gen.facts,
    Cert.ReferenceDzIdeal.Gen.facts,
    Cert.KernelLow.Gen.facts,
    Cert.KernelLowIdeal.Gen.facts,
    Cert.ReferenceLowIdeal.Gen.facts,
    Cert.KernelDwlow.Gen.facts,
    Cert.KernelDwlowIdeal.Gen.facts,
    Cert.ReferenceDwlowIdeal.Gen.facts,
    Cert.KernelDlow.Gen.facts,
    Cert.KernelDlowIdeal.Gen.facts,
    Cert.ReferenceDlowIdeal.Gen.facts,
    Cert.KernelUq.Gen.facts,
    Cert.KernelUqIdeal.Gen.facts,
    Cert.ReferenceUqIdeal.Gen.facts,
    Cert.KernelDwuq.Gen.facts,
    Cert.KernelDwuqIdeal.Gen.facts,
    Cert.ReferenceDwuqIdeal.Gen.facts,
    Cert.KernelDcq.Gen.facts,
    Cert.KernelDcqIdeal.Gen.facts,
    Cert.ReferenceDcqIdeal.Gen.facts,
    Cert.KernelUkv.Gen.facts,
    Cert.KernelUkvIdeal.Gen.facts,
    Cert.ReferenceUkvIdeal.Gen.facts,
    Cert.KernelDwukv.Gen.facts,
    Cert.KernelDwukvIdeal.Gen.facts,
    Cert.ReferenceDwukvIdeal.Gen.facts,
    Cert.KernelDckv.Gen.facts,
    Cert.KernelDckvIdeal.Gen.facts,
    Cert.ReferenceDckvIdeal.Gen.facts,
    Cert.KernelGate.Gen.facts,
    Cert.KernelGateIdeal.Gen.facts,
    Cert.ReferenceGateIdeal.Gen.facts,
    Cert.KernelAct.Gen.facts,
    Cert.KernelActIdeal.Gen.facts,
    Cert.ReferenceActIdeal.Gen.facts,
    Cert.Pre_finite.Gen.facts,
    Cert.Pre_finite_qkv.Gen.facts,
    Cert.Pre_finite_gate.Gen.facts,
    Cert.Attn.frame_k, Cert.Attn.frame_ki, Cert.Attn.frame_kif, Cert.Attn.frame_r, Cert.Attn.frame_rf,
    Cert.FfnDa.frame_k, Cert.FfnDa.frame_ki, Cert.FfnDa.frame_r,
    Cert.FfnDwdown.frame_k, Cert.FfnDwdown.frame_ki, Cert.FfnDwdown.frame_r,
    Cert.FfnDh.frame_k, Cert.FfnDh.frame_ki, Cert.FfnDh.frame_r,
    Cert.FfnDwup.frame_k, Cert.FfnDwup.frame_ki, Cert.FfnDwup.frame_r,
    Cert.FfnUp.frame_k, Cert.FfnUp.frame_ki, Cert.FfnUp.frame_r,
    Cert.FfnDown.frame_k, Cert.FfnDown.frame_ki, Cert.FfnDown.frame_r,
    Cert.FfnNorm.frame_k, Cert.FfnNorm.frame_ki, Cert.FfnNorm.frame_r,
    Cert.MixQkv.frame_k, Cert.MixQkv.frame_ki, Cert.MixQkv.frame_r,
    Cert.MixOut.frame_k, Cert.MixOut.frame_ki, Cert.MixOut.frame_r,
    Cert.MixDo.frame_k, Cert.MixDo.frame_ki, Cert.MixDo.frame_r,
    Cert.MixDwo.frame_k, Cert.MixDwo.frame_ki, Cert.MixDwo.frame_r,
    Cert.MixDmix.frame_k, Cert.MixDmix.frame_ki, Cert.MixDmix.frame_r,
    Cert.MixDwqkv.frame_k, Cert.MixDwqkv.frame_ki, Cert.MixDwqkv.frame_r,
    Cert.Flash.frame_k, Cert.Flash.frame_ki, Cert.Flash.frame_kif, Cert.Flash.frame_r, Cert.Flash.frame_rf,
    Cert.MixGlu.frame_k, Cert.MixGlu.frame_ki, Cert.MixGlu.frame_r,
    Cert.MixDwglu.frame_k, Cert.MixDwglu.frame_ki, Cert.MixDwglu.frame_r,
    Cert.MixDz.frame_k, Cert.MixDz.frame_ki, Cert.MixDz.frame_r,
    Cert.MixLow.frame_k, Cert.MixLow.frame_ki, Cert.MixLow.frame_r,
    Cert.MixDwlow.frame_k, Cert.MixDwlow.frame_ki, Cert.MixDwlow.frame_r,
    Cert.MixDlow.frame_k, Cert.MixDlow.frame_ki, Cert.MixDlow.frame_r,
    Cert.MixUq.frame_k, Cert.MixUq.frame_ki, Cert.MixUq.frame_r,
    Cert.MixDwuq.frame_k, Cert.MixDwuq.frame_ki, Cert.MixDwuq.frame_r,
    Cert.MixDcq.frame_k, Cert.MixDcq.frame_ki, Cert.MixDcq.frame_r,
    Cert.MixUkv.frame_k, Cert.MixUkv.frame_ki, Cert.MixUkv.frame_r,
    Cert.MixDwukv.frame_k, Cert.MixDwukv.frame_ki, Cert.MixDwukv.frame_r,
    Cert.MixDckv.frame_k, Cert.MixDckv.frame_ki, Cert.MixDckv.frame_r,
    Cert.Gate.frame_k, Cert.Gate.frame_ki, Cert.Gate.frame_kif, Cert.Gate.frame_r, Cert.Gate.frame_rf,
    Cert.Act.frame_k, Cert.Act.frame_ki, Cert.Act.frame_r,
    Cert.Attn.preserves, Cert.Attn.algebraic,
    Cert.FfnDa.preserves, Cert.FfnDa.algebraic,
    Cert.FfnDwdown.preserves, Cert.FfnDwdown.algebraic,
    Cert.FfnDh.preserves, Cert.FfnDh.algebraic,
    Cert.FfnDwup.preserves, Cert.FfnDwup.algebraic,
    Cert.FfnUp.preserves, Cert.FfnUp.algebraic,
    Cert.FfnDown.preserves, Cert.FfnDown.algebraic,
    Cert.FfnNorm.preserves, Cert.FfnNorm.algebraic,
    Cert.MixQkv.preserves, Cert.MixQkv.algebraic,
    Cert.MixOut.preserves, Cert.MixOut.algebraic,
    Cert.MixDo.preserves, Cert.MixDo.algebraic,
    Cert.MixDwo.preserves, Cert.MixDwo.algebraic,
    Cert.MixDmix.preserves, Cert.MixDmix.algebraic,
    Cert.MixDwqkv.preserves, Cert.MixDwqkv.algebraic,
    Cert.Flash.preserves, Cert.Flash.algebraic,
    Cert.MixGlu.preserves, Cert.MixGlu.algebraic,
    Cert.MixDwglu.preserves, Cert.MixDwglu.algebraic,
    Cert.MixDz.preserves, Cert.MixDz.algebraic,
    Cert.MixLow.preserves, Cert.MixLow.algebraic,
    Cert.MixDwlow.preserves, Cert.MixDwlow.algebraic,
    Cert.MixDlow.preserves, Cert.MixDlow.algebraic,
    Cert.MixUq.preserves, Cert.MixUq.algebraic,
    Cert.MixDwuq.preserves, Cert.MixDwuq.algebraic,
    Cert.MixDcq.preserves, Cert.MixDcq.algebraic,
    Cert.MixUkv.preserves, Cert.MixUkv.algebraic,
    Cert.MixDwukv.preserves, Cert.MixDwukv.algebraic,
    Cert.MixDckv.preserves, Cert.MixDckv.algebraic,
    Cert.Gate.preserves, Cert.Gate.algebraic,
    Cert.Act.preserves, Cert.Act.algebraic⟩

end Cert.Proof

end
